-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)) (v2 : (c : Dev Cert.Kernel2Ideal.nD) → Buf (Elt Ideal) ((c.tc : Thread Cert.Kernel2Ideal.nD Cert.Kernel2Ideal.τ).loc Cert.Kernel2Ideal.main_v30_3)) (v3 : (c : Dev Cert.Kernel2Ideal.nD) → Buf (Elt Ideal) ((c.tc : Thread Cert.Kernel2Ideal.nD Cert.Kernel2Ideal.τ).loc Cert.Kernel2Ideal.main_v30_4)) (v4 : (c : Dev Cert.Kernel2Ideal.nD) → Buf (Elt Ideal) ((c.tc : Thread Cert.Kernel2Ideal.nD Cert.Kernel2Ideal.τ).loc Cert.Kernel2Ideal.main_v30_5)) (v5 : (c : Dev Cert.Kernel2Ideal.nD) → Buf (Elt Ideal) ((c.tc : Thread Cert.Kernel2Ideal.nD Cert.Kernel2Ideal.τ).loc Cert.Kernel2Ideal.main_v30_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_v30_3) = v2 c
          ∧ r.2.mem ((c.tc : Thread Cert.Kernel2Ideal.nD Cert.Kernel2Ideal.τ).loc Cert.Kernel2Ideal.main_v30_4) = v3 c
          ∧ r.2.mem ((c.tc : Thread Cert.Kernel2Ideal.nD Cert.Kernel2Ideal.τ).loc Cert.Kernel2Ideal.main_v30_5) = v4 c
          ∧ r.2.mem ((c.tc : Thread Cert.Kernel2Ideal.nD Cert.Kernel2Ideal.τ).loc Cert.Kernel2Ideal.main_v30_8) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_v47) = v2 c
          ∧ r.2.mem ((c.tc : Thread Cert.Reference2Ideal.nD Cert.Reference2Ideal.τ).loc Cert.Reference2Ideal.main_v50) = v3 c
          ∧ r.2.mem ((c.tc : Thread Cert.Reference2Ideal.nD Cert.Reference2Ideal.τ).loc Cert.Reference2Ideal.main_v51) = v4 c
          ∧ r.2.mem ((c.tc : Thread Cert.Reference2Ideal.nD Cert.Reference2Ideal.τ).loc Cert.Reference2Ideal.main_v52) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "alpha" .f32 0x3F9837F0#32 ((Real.sqrt (Real.sqrt 2) : ℝ) : EReal)
  ∧ IdealRules.named_const.Statement Cert.Kernel3Ideal.κ "rsqrt2" .f32 0x3F3504F3#32 (((Real.sqrt 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v31_0)) (v1 : (c : Dev Cert.Kernel3Ideal.nD) → Buf (Elt Ideal) ((c.tc : Thread Cert.Kernel3Ideal.nD Cert.Kernel3Ideal.τ).loc Cert.Kernel3Ideal.main_v31_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31_0) = v0 c
          ∧ r.2.mem ((c.tc : Thread Cert.Kernel3Ideal.nD Cert.Kernel3Ideal.τ).loc Cert.Kernel3Ideal.main_v31_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v147) = v0 c
          ∧ r.2.mem ((c.tc : Thread Cert.Reference3Ideal.nD Cert.Reference3Ideal.τ).loc Cert.Reference3Ideal.main_v148) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v35_0)) (v1 : (c : Dev Cert.Kernel4Ideal.nD) → Buf (Elt Ideal) ((c.tc : Thread Cert.Kernel4Ideal.nD Cert.Kernel4Ideal.τ).loc Cert.Kernel4Ideal.main_v35_1)) (v2 : (c : Dev Cert.Kernel4Ideal.nD) → Buf (Elt Ideal) ((c.tc : Thread Cert.Kernel4Ideal.nD Cert.Kernel4Ideal.τ).loc Cert.Kernel4Ideal.main_v35_3)) (v3 : (c : Dev Cert.Kernel4Ideal.nD) → Buf (Elt Ideal) ((c.tc : Thread Cert.Kernel4Ideal.nD Cert.Kernel4Ideal.τ).loc Cert.Kernel4Ideal.main_v35_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v35_0) = v0 c
          ∧ r.2.mem ((c.tc : Thread Cert.Kernel4Ideal.nD Cert.Kernel4Ideal.τ).loc Cert.Kernel4Ideal.main_v35_1) = v1 c
          ∧ r.2.mem ((c.tc : Thread Cert.Kernel4Ideal.nD Cert.Kernel4Ideal.τ).loc Cert.Kernel4Ideal.main_v35_3) = v2 c
          ∧ r.2.mem ((c.tc : Thread Cert.Kernel4Ideal.nD Cert.Kernel4Ideal.τ).loc Cert.Kernel4Ideal.main_v35_6) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_v47) = v2 c
          ∧ r.2.mem ((c.tc : Thread Cert.Reference4Ideal.nD Cert.Reference4Ideal.τ).loc Cert.Reference4Ideal.main_v48) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "alpha" .f32 0x3F9837F0#32 ((Real.sqrt (Real.sqrt 2) : ℝ) : EReal)
  ∧ IdealRules.named_const.Statement Cert.Kernel5Ideal.κ "rsqrt2" .f32 0x3F3504F3#32 (((Real.sqrt 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)) →
    ∃ (v0 : (c : Dev Cert.Kernel5Ideal.nD) → Buf (Elt Ideal) ((c.tc : Thread Cert.Kernel5Ideal.nD Cert.Kernel5Ideal.τ).loc Cert.Kernel5Ideal.main_v38_0)) (v1 : (c : Dev Cert.Kernel5Ideal.nD) → Buf (Elt Ideal) ((c.tc : Thread Cert.Kernel5Ideal.nD Cert.Kernel5Ideal.τ).loc Cert.Kernel5Ideal.main_v41)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v38_0) = v0 c
          ∧ r.2.mem ((c.tc : Thread Cert.Kernel5Ideal.nD Cert.Kernel5Ideal.τ).loc Cert.Kernel5Ideal.main_v41) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v147) = v0 c
          ∧ r.2.mem ((c.tc : Thread Cert.Reference5Ideal.nD Cert.Reference5Ideal.τ).loc Cert.Reference5Ideal.main_v148) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x8192x4x2x64 : Shape := ⟨5, ![2, 8192, 4, 2, 64]⟩
abbrev S2x8192x4x128 : Shape := ⟨4, ![2, 8192, 4, 128]⟩
abbrev S1x64 : Shape := ⟨2, ![1, 64]⟩
abbrev S1x128 : Shape := ⟨2, ![1, 128]⟩
abbrev S_ : Shape := ⟨0, ![]⟩
abbrev S32x512x512 : Shape := ⟨3, ![32, 512, 512]⟩
abbrev S16384x512 : Shape := ⟨2, ![16384, 512]⟩
abbrev S64 : Shape := ⟨1, ![64]⟩
abbrev S4x64 : Shape := ⟨2, ![4, 64]⟩
abbrev S128 : Shape := ⟨1, ![128]⟩
abbrev S128x1 : Shape := ⟨2, ![128, 1]⟩
abbrev S16x128x512 : Shape := ⟨3, ![16, 128, 512]⟩
abbrev S8192x128 : Shape := ⟨2, ![8192, 128]⟩
abbrev S2x1x512 : Shape := ⟨3, ![2, 1, 512]⟩
abbrev S2x144x512 : Shape := ⟨3, ![2, 144, 512]⟩
abbrev S2x512x512 : Shape := ⟨3, ![2, 512, 512]⟩
abbrev S2x128x512 : Shape := ⟨3, ![2, 128, 512]⟩
abbrev S16x512 : Shape := ⟨2, ![16, 512]⟩
abbrev S1 : Shape := ⟨1, ![1]⟩
abbrev S1x1 : Shape := ⟨2, ![1, 1]⟩
abbrev S512x128 : Shape := ⟨2, ![512, 128]⟩
abbrev S1x128x512 : Shape := ⟨3, ![1, 128, 512]⟩
abbrev S128x512 : Shape := ⟨2, ![128, 512]⟩
abbrev S512x512 : Shape := ⟨2, ![512, 512]⟩
abbrev S1x512x512 : Shape := ⟨3, ![1, 512, 512]⟩
abbrev S144x512 : Shape := ⟨2, ![144, 512]⟩
abbrev S1x1x512 : Shape := ⟨3, ![1, 1, 512]⟩
abbrev S1x512 : Shape := ⟨2, ![1, 512]⟩
abbrev S512 : Shape := ⟨1, ![512]⟩
abbrev S1x144x512 : Shape := ⟨3, ![1, 144, 512]⟩

abbrev nBuf : Space → Nat
  | .hbm => 34
  | .vmem => 16
  | .smem => 0
  | _ => 0

abbrev bufTy : (tb : Table) → Fin (tcTables nBuf tb) → BufTy
  | .hbm, ⟨0, _⟩ => ⟨S2x8192x4x2x64, .f32⟩
  | .hbm, ⟨1, _⟩ => ⟨S2x8192x4x2x64, .f32⟩
  | .hbm, ⟨2, _⟩ => ⟨S2x8192x4x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x512x512, .f32⟩
  | .hbm, ⟨13, _⟩ => ⟨S32x512x512, .f32⟩
  | .hbm, ⟨14, _⟩ => ⟨S32x512x512, .f32⟩
  | .hbm, ⟨15, _⟩ => ⟨S32x512x512, .f32⟩
  | .hbm, ⟨16, _⟩ => ⟨S32x512x512, .bf16⟩
  | .hbm, ⟨17, _⟩ => ⟨S16384x512, .f32⟩
  | .hbm, ⟨18, _⟩ => ⟨S16384x512, .bf16⟩
  | .hbm, ⟨19, _⟩ => ⟨S32x512x512, .f32⟩
  | .hbm, ⟨20, _⟩ => ⟨S32x512x512, .f32⟩
  | .hbm, ⟨21, _⟩ => ⟨S32x512x512, .bf16⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S4x64, .f32⟩
  | .hbm, ⟨31, _⟩ => ⟨S128, .f32⟩
  | .hbm, ⟨32, _⟩ => ⟨S128x1, .f32⟩
  | .hbm, ⟨33, _⟩ => ⟨S16384x512, .bf16⟩
  | .local _ .vmem, ⟨0, _⟩ => ⟨S16x128x512, .bf16⟩
  | .local _ .vmem, ⟨1, _⟩ => ⟨S16x128x512, .bf16⟩
  | .local _ .vmem, ⟨2, _⟩ => ⟨S8192x128, .bf16⟩
  | .local _ .vmem, ⟨3, _⟩ => ⟨S8192x128, .bf16⟩
  | .local _ .vmem, ⟨4, _⟩ => ⟨S16x128x512, .bf16⟩
  | .local _ .vmem, ⟨5, _⟩ => ⟨S16x128x512, .bf16⟩
  | .local _ .vmem, ⟨6, _⟩ => ⟨S4x64, .f32⟩
  | .local _ .vmem, ⟨7, _⟩ => ⟨S128x1, .f32⟩
  | .local _ .vmem, ⟨8, _⟩ => ⟨S8192x128, .bf16⟩
  | .local _ .vmem, ⟨9, _⟩ => ⟨S8192x128, .bf16⟩
  | .local _ .vmem, ⟨10, _⟩ => ⟨S2x1x512, .f32⟩
  | .local _ .vmem, ⟨11, _⟩ => ⟨S2x144x512, .f32⟩
  | .local _ .vmem, ⟨12, _⟩ => ⟨S2x512x512, .f32⟩
  | .local _ .vmem, ⟨13, _⟩ => ⟨S2x512x512, .f32⟩
  | .local _ .vmem, ⟨14, _⟩ => ⟨S2x128x512, .bf16⟩
  | .local _ .vmem, ⟨15, _⟩ => ⟨S2x144x512, .f32⟩
  | _, _ => ⟨S2x8192x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c16_i32 : BitVec 32 := 16#32
  let v42 : BitVec 32 := Scalar.addi c0_i32 c16_i32
  let c1_i32 : BitVec 32 := 1#32
  ⟨c0_i32, v42, c1_i32⟩
def k0_off1 (k0_t1 : Fin k0_t1_loop.trips) : Fin 3 → Nat :=
  let c0_i32 : BitVec 32 := 0#32
  let c1_i32 : BitVec 32 := 1#32
  let arg14 : BitVec 32 := Scf.iv c0_i32 c1_i32 k0_t1
  let v77 : Index := Scalar.indexCast arg14
  let c0_36 : Index := 0#32
  let c0_37 : Index := 0#32
  ![v77.toNat, 0, 0]
@[reducible] def k0_t2_loop (k0_t1 : Fin k0_t1_loop.trips) : Scf.Loop 32 :=
  let c0_i32_63 : BitVec 32 := 0#32
  let c0_i32 : BitVec 32 := 0#32
  let c1_i32 : BitVec 32 := 1#32
  let arg14 : BitVec 32 := Scf.iv c0_i32 c1_i32 k0_t1
  let c0_i32_56 : BitVec 32 := 0#32
  let v105 : BitVec 1 := Scalar.cmpi .sgt arg14 c0_i32_56
  let v106 : BitVec 32 := Scalar.extui v105
  let c0_i32_57 : BitVec 32 := 0#32
  let v107 : BitVec 1 := Scalar.cmpi .slt arg14 c0_i32_57
  let v108 : BitVec 32 := Scalar.extui v107
  let v109 : BitVec 32 := Scalar.subi v106 v108
  let c8_i32 : BitVec 32 := 8#32
  let c0_i32_58 : BitVec 32 := 0#32
  let v110 : BitVec 1 := Scalar.cmpi .sgt c8_i32 c0_i32_58
  let v111 : BitVec 32 := Scalar.extui v110
  let c0_i32_59 : BitVec 32 := 0#32
  let v112 : BitVec 1 := Scalar.cmpi .slt c8_i32 c0_i32_59
  let v113 : BitVec 32 := Scalar.extui v112
  let v114 : BitVec 32 := Scalar.subi v111 v113
  let v115 : BitVec 1 := Scalar.cmpi .ne v109 v114
  let v116 : BitVec 32 := Scalar.remsi arg14 c8_i32
  let c0_i32_60 : BitVec 32 := 0#32
  let v117 : BitVec 1 := Scalar.cmpi .ne v116 c0_i32_60
  let v118 : BitVec 1 := Scalar.andi v115 v117
  let v104 : BitVec 32 := Scalar.divsi arg14 c8_i32
  let c1_i32_61 : BitVec 32 := 1#32
  let v119 : BitVec 32 := Scalar.subi v104 c1_i32_61
  let v120 : BitVec 32 := Scalar.select v118 v119 v104
  let v121 : BitVec 32 := Scalar.subi v120 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let c1_i32_65 : BitVec 32 := 1#32
  ⟨c0_i32_63, v125, c1_i32_65⟩
def k0_mult1 (k0_t1 : Fin k0_t1_loop.trips) (k0_t2 : Fin (k0_t2_loop k0_t1).trips) : BitVec 32 :=
  let c0_i32_144 : BitVec 32 := 0#32
  let c2_i32_143 : BitVec 32 := 2#32
  let c4_i32_141 : BitVec 32 := 4#32
  let c0_i32_63 : BitVec 32 := 0#32
  let c1_i32_65 : BitVec 32 := 1#32
  let arg15 : BitVec 32 := Scf.iv c0_i32_63 c1_i32_65 k0_t2
  let v258 : BitVec 32 := Scalar.muli c4_i32_141 arg15
  let c0_i32_142 : BitVec 32 := 0#32
  let v259 : BitVec 32 := Scalar.addi v258 c0_i32_142
  let v260 : BitVec 32 := Scalar.muli c2_i32_143 v259
  let v261 : BitVec 32 := Scalar.addi c0_i32_144 v260
  let c1_i32_145 : BitVec 32 := 1#32
  let v262 : BitVec 32 := Scalar.addi v261 c1_i32_145
  let c512_i32 : BitVec 32 := 512#32
  let v263 : BitVec 32 := Scalar.muli v262 c512_i32
  v263
def k0_off2 (k0_t1 : Fin k0_t1_loop.trips) (k0_t2 : Fin (k0_t2_loop k0_t1).trips) (c0_i32_142 : BitVec 32) (c1_i32_145 : BitVec 32) : Fin 2 → Nat :=
  let c0_i32_144 : BitVec 32 := 0#32
  let c2_i32_143 : BitVec 32 := 2#32
  let c4_i32_141 : BitVec 32 := 4#32
  let c0_i32_63 : BitVec 32 := 0#32
  let c1_i32_65 : BitVec 32 := 1#32
  let arg15 : BitVec 32 := Scf.iv c0_i32_63 c1_i32_65 k0_t2
  let v258 : BitVec 32 := Scalar.muli c4_i32_141 arg15
  let v259 : BitVec 32 := Scalar.addi v258 c0_i32_142
  let v260 : BitVec 32 := Scalar.muli c2_i32_143 v259
  let v261 : BitVec 32 := Scalar.addi c0_i32_144 v260
  let v262 : BitVec 32 := Scalar.addi v261 c1_i32_145
  let c512_i32 : BitVec 32 := 512#32
  let v263 : BitVec 32 := Scalar.muli v262 c512_i32
  let v264 : BitVec 32 := v263
  let v265 : Index := Scalar.indexCast v264
  let c0_146 : Index := 0#32
  ![v265.toNat, 0]
def k0_off3 (k0_t1 : Fin k0_t1_loop.trips) (k0_t2 : Fin (k0_t2_loop k0_t1).trips) (c0_i32_142 : BitVec 32) : Fin 3 → Nat :=
  let c0_i32_144 : BitVec 32 := 0#32
  let c2_i32_143 : BitVec 32 := 2#32
  let c4_i32_141 : BitVec 32 := 4#32
  let c0_i32_63 : BitVec 32 := 0#32
  let c1_i32_65 : BitVec 32 := 1#32
  let arg15 : BitVec 32 := Scf.iv c0_i32_63 c1_i32_65 k0_t2
  let v258 : BitVec 32 := Scalar.muli c4_i32_141 arg15
  let v259 : BitVec 32 := Scalar.addi v258 c0_i32_142
  let v260 : BitVec 32 := Scalar.muli c2_i32_143 v259
  let v261 : BitVec 32 := Scalar.addi c0_i32_144 v260
  let v280 : Index := Scalar.indexCast v261
  let c0_161 : Index := 0#32
  let c0_162 : Index := 0#32
  ![v280.toNat, 0, 0]
def k0_mult2 (k0_t1 : Fin k0_t1_loop.trips) (k0_t2 : Fin (k0_t2_loop k0_t1).trips) : BitVec 32 :=
  let c0_i32_144 : BitVec 32 := 0#32
  let c2_i32_143 : BitVec 32 := 2#32
  let c4_i32_141 : BitVec 32 := 4#32
  let c0_i32_63 : BitVec 32 := 0#32
  let c1_i32_65 : BitVec 32 := 1#32
  let arg15 : BitVec 32 := Scf.iv c0_i32_63 c1_i32_65 k0_t2
  let v258 : BitVec 32 := Scalar.muli c4_i32_141 arg15
  let c0_i32_142 : BitVec 32 := 0#32
  let v259 : BitVec 32 := Scalar.addi v258 c0_i32_142
  let v260 : BitVec 32 := Scalar.muli c2_i32_143 v259
  let v261 : BitVec 32 := Scalar.addi c0_i32_144 v260
  let c2_i32_197 : BitVec 32 := 2#32
  let v334 : BitVec 32 := Scalar.addi v261 c2_i32_197
  let c512_i32_198 : BitVec 32 := 512#32
  let v335 : BitVec 32 := Scalar.muli v334 c512_i32_198
  v335
def k0_off4 (k0_t1 : Fin k0_t1_loop.trips) (k0_t2 : Fin (k0_t2_loop k0_t1).trips) (c0_i32_142 : BitVec 32) : Fin 3 → Nat :=
  let c0_i32_144 : BitVec 32 := 0#32
  let c2_i32_143 : BitVec 32 := 2#32
  let c4_i32_141 : BitVec 32 := 4#32
  let c0_i32_63 : BitVec 32 := 0#32
  let c1_i32_65 : BitVec 32 := 1#32
  let arg15 : BitVec 32 := Scf.iv c0_i32_63 c1_i32_65 k0_t2
  let v258 : BitVec 32 := Scalar.muli c4_i32_141 arg15
  let v259 : BitVec 32 := Scalar.addi v258 c0_i32_142
  let v260 : BitVec 32 := Scalar.muli c2_i32_143 v259
  let v261 : BitVec 32 := Scalar.addi c0_i32_144 v260
  let c1_i32_214 : BitVec 32 := 1#32
  let v352 : BitVec 32 := Scalar.addi v261 c1_i32_214
  let v353 : Index := Scalar.indexCast v352
  let c0_215 : Index := 0#32
  let c0_216 : Index := 0#32
  ![v353.toNat, 0, 0]
def k0_mult3 (k0_t1 : Fin k0_t1_loop.trips) (k0_t2 : Fin (k0_t2_loop k0_t1).trips) : BitVec 32 :=
  let c0_i32_254 : BitVec 32 := 0#32
  let c2_i32_253 : BitVec 32 := 2#32
  let c4_i32_251 : BitVec 32 := 4#32
  let c0_i32_63 : BitVec 32 := 0#32
  let c1_i32_65 : BitVec 32 := 1#32
  let arg15 : BitVec 32 := Scf.iv c0_i32_63 c1_i32_65 k0_t2
  let v407 : BitVec 32 := Scalar.muli c4_i32_251 arg15
  let c1_i32_252 : BitVec 32 := 1#32
  let v408 : BitVec 32 := Scalar.addi v407 c1_i32_252
  let v409 : BitVec 32 := Scalar.muli c2_i32_253 v408
  let v410 : BitVec 32 := Scalar.addi c0_i32_254 v409
  let c1_i32_255 : BitVec 32 := 1#32
  let v411 : BitVec 32 := Scalar.addi v410 c1_i32_255
  let c512_i32_256 : BitVec 32 := 512#32
  let v412 : BitVec 32 := Scalar.muli v411 c512_i32_256
  v412
def k0_mult4 (k0_t1 : Fin k0_t1_loop.trips) (k0_t2 : Fin (k0_t2_loop k0_t1).trips) : BitVec 32 :=
  let c0_i32_254 : BitVec 32 := 0#32
  let c2_i32_253 : BitVec 32 := 2#32
  let c4_i32_251 : BitVec 32 := 4#32
  let c0_i32_63 : BitVec 32 := 0#32
  let c1_i32_65 : BitVec 32 := 1#32
  let arg15 : BitVec 32 := Scf.iv c0_i32_63 c1_i32_65 k0_t2
  let v407 : BitVec 32 := Scalar.muli c4_i32_251 arg15
  let c1_i32_252 : BitVec 32 := 1#32
  let v408 : BitVec 32 := Scalar.addi v407 c1_i32_252
  let v409 : BitVec 32 := Scalar.muli c2_i32_253 v408
  let v410 : BitVec 32 := Scalar.addi c0_i32_254 v409
  let c2_i32_308 : BitVec 32 := 2#32
  let v483 : BitVec 32 := Scalar.addi v410 c2_i32_308
  let c512_i32_309 : BitVec 32 := 512#32
  let v484 : BitVec 32 := Scalar.muli v483 c512_i32_309
  v484
def k0_mult5 (k0_t1 : Fin k0_t1_loop.trips) (k0_t2 : Fin (k0_t2_loop k0_t1).trips) : BitVec 32 :=
  let c0_i32_365 : BitVec 32 := 0#32
  let c2_i32_364 : BitVec 32 := 2#32
  let c4_i32_362 : BitVec 32 := 4#32
  let c0_i32_63 : BitVec 32 := 0#32
  let c1_i32_65 : BitVec 32 := 1#32
  let arg15 : BitVec 32 := Scf.iv c0_i32_63 c1_i32_65 k0_t2
  let v556 : BitVec 32 := Scalar.muli c4_i32_362 arg15
  let c2_i32_363 : BitVec 32 := 2#32
  let v557 : BitVec 32 := Scalar.addi v556 c2_i32_363
  let v558 : BitVec 32 := Scalar.muli c2_i32_364 v557
  let v559 : BitVec 32 := Scalar.addi c0_i32_365 v558
  let c1_i32_366 : BitVec 32 := 1#32
  let v560 : BitVec 32 := Scalar.addi v559 c1_i32_366
  let c512_i32_367 : BitVec 32 := 512#32
  let v561 : BitVec 32 := Scalar.muli v560 c512_i32_367
  v561
def k0_mult6 (k0_t1 : Fin k0_t1_loop.trips) (k0_t2 : Fin (k0_t2_loop k0_t1).trips) : BitVec 32 :=
  let c0_i32_365 : BitVec 32 := 0#32
  let c2_i32_364 : BitVec 32 := 2#32
  let c4_i32_362 : BitVec 32 := 4#32
  let c0_i32_63 : BitVec 32 := 0#32
  let c1_i32_65 : BitVec 32 := 1#32
  let arg15 : BitVec 32 := Scf.iv c0_i32_63 c1_i32_65 k0_t2
  let v556 : BitVec 32 := Scalar.muli c4_i32_362 arg15
  let c2_i32_363 : BitVec 32 := 2#32
  let v557 : BitVec 32 := Scalar.addi v556 c2_i32_363
  let v558 : BitVec 32 := Scalar.muli c2_i32_364 v557
  let v559 : BitVec 32 := Scalar.addi c0_i32_365 v558
  let c2_i32_419 : BitVec 32 := 2#32
  let v632 : BitVec 32 := Scalar.addi v559 c2_i32_419
  let c512_i32_420 : BitVec 32 := 512#32
  let v633 : BitVec 32 := Scalar.muli v632 c512_i32_420
  v633
def k0_mult7 (k0_t1 : Fin k0_t1_loop.trips) (k0_t2 : Fin (k0_t2_loop k0_t1).trips) : BitVec 32 :=
  let c0_i32_475 : BitVec 32 := 0#32
  let c2_i32_474 : BitVec 32 := 2#32
  let c4_i32_473 : BitVec 32 := 4#32
  let c0_i32_63 : BitVec 32 := 0#32
  let c1_i32_65 : BitVec 32 := 1#32
  let arg15 : BitVec 32 := Scf.iv c0_i32_63 c1_i32_65 k0_t2
  let v705 : BitVec 32 := Scalar.muli c4_i32_473 arg15
  let c3_i32 : BitVec 32 := 3#32
  let v706 : BitVec 32 := Scalar.addi v705 c3_i32
  let v707 : BitVec 32 := Scalar.muli c2_i32_474 v706
  let v708 : BitVec 32 := Scalar.addi c0_i32_475 v707
  let c1_i32_476 : BitVec 32 := 1#32
  let v709 : BitVec 32 := Scalar.addi v708 c1_i32_476
  let c512_i32_477 : BitVec 32 := 512#32
  let v710 : BitVec 32 := Scalar.muli v709 c512_i32_477
  v710
def k0_mult8 (k0_t1 : Fin k0_t1_loop.trips) (k0_t2 : Fin (k0_t2_loop k0_t1).trips) : BitVec 32 :=
  let c0_i32_475 : BitVec 32 := 0#32
  let c2_i32_474 : BitVec 32 := 2#32
  let c4_i32_473 : BitVec 32 := 4#32
  let c0_i32_63 : BitVec 32 := 0#32
  let c1_i32_65 : BitVec 32 := 1#32
  let arg15 : BitVec 32 := Scf.iv c0_i32_63 c1_i32_65 k0_t2
  let v705 : BitVec 32 := Scalar.muli c4_i32_473 arg15
  let c3_i32 : BitVec 32 := 3#32
  let v706 : BitVec 32 := Scalar.addi v705 c3_i32
  let v707 : BitVec 32 := Scalar.muli c2_i32_474 v706
  let v708 : BitVec 32 := Scalar.addi c0_i32_475 v707
  let c2_i32_529 : BitVec 32 := 2#32
  let v781 : BitVec 32 := Scalar.addi v708 c2_i32_529
  let c512_i32_530 : BitVec 32 := 512#32
  let v782 : BitVec 32 := Scalar.muli v781 c512_i32_530
  v782
@[reducible] def k0_t3_loop (k0_t1 : Fin k0_t1_loop.trips) : Scf.Loop 32 :=
  let c0_i32_63 : BitVec 32 := 0#32
  let c0_i32 : BitVec 32 := 0#32
  let c1_i32 : BitVec 32 := 1#32
  let arg14 : BitVec 32 := Scf.iv c0_i32 c1_i32 k0_t1
  let c0_i32_56 : BitVec 32 := 0#32
  let v105 : BitVec 1 := Scalar.cmpi .sgt arg14 c0_i32_56
  let v106 : BitVec 32 := Scalar.extui v105
  let c0_i32_57 : BitVec 32 := 0#32
  let v107 : BitVec 1 := Scalar.cmpi .slt arg14 c0_i32_57
  let v108 : BitVec 32 := Scalar.extui v107
  let v109 : BitVec 32 := Scalar.subi v106 v108
  let c8_i32 : BitVec 32 := 8#32
  let c0_i32_58 : BitVec 32 := 0#32
  let v110 : BitVec 1 := Scalar.cmpi .sgt c8_i32 c0_i32_58
  let v111 : BitVec 32 := Scalar.extui v110
  let c0_i32_59 : BitVec 32 := 0#32
  let v112 : BitVec 1 := Scalar.cmpi .slt c8_i32 c0_i32_59
  let v113 : BitVec 32 := Scalar.extui v112
  let v114 : BitVec 32 := Scalar.subi v111 v113
  let v115 : BitVec 1 := Scalar.cmpi .ne v109 v114
  let v116 : BitVec 32 := Scalar.remsi arg14 c8_i32
  let c0_i32_60 : BitVec 32 := 0#32
  let v117 : BitVec 1 := Scalar.cmpi .ne v116 c0_i32_60
  let v118 : BitVec 1 := Scalar.andi v115 v117
  let v104 : BitVec 32 := Scalar.divsi arg14 c8_i32
  let c1_i32_61 : BitVec 32 := 1#32
  let v119 : BitVec 32 := Scalar.subi v104 c1_i32_61
  let v120 : BitVec 32 := Scalar.select v118 v119 v104
  let v121 : BitVec 32 := Scalar.subi v120 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let v122 : BitVec 32 := Scalar.addi c0_i32_63 v121
  let c1_i32_66 : BitVec 32 := 1#32
  ⟨v125, v122, c1_i32_66⟩
def k0_mult9 (k0_t1 : Fin k0_t1_loop.trips) (k0_t3 : Fin (k0_t3_loop k0_t1).trips) : BitVec 32 :=
  let c0_i32_144 : BitVec 32 := 0#32
  let c2_i32_143 : BitVec 32 := 2#32
  let c4_i32_141 : BitVec 32 := 4#32
  let c0_i32_63 : BitVec 32 := 0#32
  let c0_i32 : BitVec 32 := 0#32
  let c1_i32 : BitVec 32 := 1#32
  let arg14 : BitVec 32 := Scf.iv c0_i32 c1_i32 k0_t1
  let c0_i32_56 : BitVec 32 := 0#32
  let v105 : BitVec 1 := Scalar.cmpi .sgt arg14 c0_i32_56
  let v106 : BitVec 32 := Scalar.extui v105
  let c0_i32_57 : BitVec 32 := 0#32
  let v107 : BitVec 1 := Scalar.cmpi .slt arg14 c0_i32_57
  let v108 : BitVec 32 := Scalar.extui v107
  let v109 : BitVec 32 := Scalar.subi v106 v108
  let c8_i32 : BitVec 32 := 8#32
  let c0_i32_58 : BitVec 32 := 0#32
  let v110 : BitVec 1 := Scalar.cmpi .sgt c8_i32 c0_i32_58
  let v111 : BitVec 32 := Scalar.extui v110
  let c0_i32_59 : BitVec 32 := 0#32
  let v112 : BitVec 1 := Scalar.cmpi .slt c8_i32 c0_i32_59
  let v113 : BitVec 32 := Scalar.extui v112
  let v114 : BitVec 32 := Scalar.subi v111 v113
  let v115 : BitVec 1 := Scalar.cmpi .ne v109 v114
  let v116 : BitVec 32 := Scalar.remsi arg14 c8_i32
  let c0_i32_60 : BitVec 32 := 0#32
  let v117 : BitVec 1 := Scalar.cmpi .ne v116 c0_i32_60
  let v118 : BitVec 1 := Scalar.andi v115 v117
  let v104 : BitVec 32 := Scalar.divsi arg14 c8_i32
  let c1_i32_61 : BitVec 32 := 1#32
  let v119 : BitVec 32 := Scalar.subi v104 c1_i32_61
  let v120 : BitVec 32 := Scalar.select v118 v119 v104
  let v121 : BitVec 32 := Scalar.subi v120 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let c1_i32_66 : BitVec 32 := 1#32
  let arg15 : BitVec 32 := Scf.iv v125 c1_i32_66 k0_t3
  let v258 : BitVec 32 := Scalar.muli c4_i32_141 arg15
  let c0_i32_142 : BitVec 32 := 0#32
  let v259 : BitVec 32 := Scalar.addi v258 c0_i32_142
  let v260 : BitVec 32 := Scalar.muli c2_i32_143 v259
  let v261 : BitVec 32 := Scalar.addi c0_i32_144 v260
  let c1_i32_145 : BitVec 32 := 1#32
  let v262 : BitVec 32 := Scalar.addi v261 c1_i32_145
  let c512_i32 : BitVec 32 := 512#32
  let v263 : BitVec 32 := Scalar.muli v262 c512_i32
  v263
def k0_off5 (k0_t1 : Fin k0_t1_loop.trips) (k0_t3 : Fin (k0_t3_loop k0_t1).trips) (c0_i32_142 : BitVec 32) (c1_i32_145 : BitVec 32) : Fin 2 → Nat :=
  let c0_i32_144 : BitVec 32 := 0#32
  let c2_i32_143 : BitVec 32 := 2#32
  let c4_i32_141 : BitVec 32 := 4#32
  let c0_i32_63 : BitVec 32 := 0#32
  let c0_i32 : BitVec 32 := 0#32
  let c1_i32 : BitVec 32 := 1#32
  let arg14 : BitVec 32 := Scf.iv c0_i32 c1_i32 k0_t1
  let c0_i32_56 : BitVec 32 := 0#32
  let v105 : BitVec 1 := Scalar.cmpi .sgt arg14 c0_i32_56
  let v106 : BitVec 32 := Scalar.extui v105
  let c0_i32_57 : BitVec 32 := 0#32
  let v107 : BitVec 1 := Scalar.cmpi .slt arg14 c0_i32_57
  let v108 : BitVec 32 := Scalar.extui v107
  let v109 : BitVec 32 := Scalar.subi v106 v108
  let c8_i32 : BitVec 32 := 8#32
  let c0_i32_58 : BitVec 32 := 0#32
  let v110 : BitVec 1 := Scalar.cmpi .sgt c8_i32 c0_i32_58
  let v111 : BitVec 32 := Scalar.extui v110
  let c0_i32_59 : BitVec 32 := 0#32
  let v112 : BitVec 1 := Scalar.cmpi .slt c8_i32 c0_i32_59
  let v113 : BitVec 32 := Scalar.extui v112
  let v114 : BitVec 32 := Scalar.subi v111 v113
  let v115 : BitVec 1 := Scalar.cmpi .ne v109 v114
  let v116 : BitVec 32 := Scalar.remsi arg14 c8_i32
  let c0_i32_60 : BitVec 32 := 0#32
  let v117 : BitVec 1 := Scalar.cmpi .ne v116 c0_i32_60
  let v118 : BitVec 1 := Scalar.andi v115 v117
  let v104 : BitVec 32 := Scalar.divsi arg14 c8_i32
  let c1_i32_61 : BitVec 32 := 1#32
  let v119 : BitVec 32 := Scalar.subi v104 c1_i32_61
  let v120 : BitVec 32 := Scalar.select v118 v119 v104
  let v121 : BitVec 32 := Scalar.subi v120 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let c1_i32_66 : BitVec 32 := 1#32
  let arg15 : BitVec 32 := Scf.iv v125 c1_i32_66 k0_t3
  let v258 : BitVec 32 := Scalar.muli c4_i32_141 arg15
  let v259 : BitVec 32 := Scalar.addi v258 c0_i32_142
  let v260 : BitVec 32 := Scalar.muli c2_i32_143 v259
  let v261 : BitVec 32 := Scalar.addi c0_i32_144 v260
  let v262 : BitVec 32 := Scalar.addi v261 c1_i32_145
  let c512_i32 : BitVec 32 := 512#32
  let v263 : BitVec 32 := Scalar.muli v262 c512_i32
  let v264 : BitVec 32 := v263
  let v265 : Index := Scalar.indexCast v264
  let c0_146 : Index := 0#32
  ![v265.toNat, 0]
def k0_off6 (k0_t1 : Fin k0_t1_loop.trips) (k0_t3 : Fin (k0_t3_loop k0_t1).trips) (c0_i32_142 : BitVec 32) : Fin 3 → Nat :=
  let c0_i32_144 : BitVec 32 := 0#32
  let c2_i32_143 : BitVec 32 := 2#32
  let c4_i32_141 : BitVec 32 := 4#32
  let c0_i32_63 : BitVec 32 := 0#32
  let c0_i32 : BitVec 32 := 0#32
  let c1_i32 : BitVec 32 := 1#32
  let arg14 : BitVec 32 := Scf.iv c0_i32 c1_i32 k0_t1
  let c0_i32_56 : BitVec 32 := 0#32
  let v105 : BitVec 1 := Scalar.cmpi .sgt arg14 c0_i32_56
  let v106 : BitVec 32 := Scalar.extui v105
  let c0_i32_57 : BitVec 32 := 0#32
  let v107 : BitVec 1 := Scalar.cmpi .slt arg14 c0_i32_57
  let v108 : BitVec 32 := Scalar.extui v107
  let v109 : BitVec 32 := Scalar.subi v106 v108
  let c8_i32 : BitVec 32 := 8#32
  let c0_i32_58 : BitVec 32 := 0#32
  let v110 : BitVec 1 := Scalar.cmpi .sgt c8_i32 c0_i32_58
  let v111 : BitVec 32 := Scalar.extui v110
  let c0_i32_59 : BitVec 32 := 0#32
  let v112 : BitVec 1 := Scalar.cmpi .slt c8_i32 c0_i32_59
  let v113 : BitVec 32 := Scalar.extui v112
  let v114 : BitVec 32 := Scalar.subi v111 v113
  let v115 : BitVec 1 := Scalar.cmpi .ne v109 v114
  let v116 : BitVec 32 := Scalar.remsi arg14 c8_i32
  let c0_i32_60 : BitVec 32 := 0#32
  let v117 : BitVec 1 := Scalar.cmpi .ne v116 c0_i32_60
  let v118 : BitVec 1 := Scalar.andi v115 v117
  let v104 : BitVec 32 := Scalar.divsi arg14 c8_i32
  let c1_i32_61 : BitVec 32 := 1#32
  let v119 : BitVec 32 := Scalar.subi v104 c1_i32_61
  let v120 : BitVec 32 := Scalar.select v118 v119 v104
  let v121 : BitVec 32 := Scalar.subi v120 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let c1_i32_66 : BitVec 32 := 1#32
  let arg15 : BitVec 32 := Scf.iv v125 c1_i32_66 k0_t3
  let v258 : BitVec 32 := Scalar.muli c4_i32_141 arg15
  let v259 : BitVec 32 := Scalar.addi v258 c0_i32_142
  let v260 : BitVec 32 := Scalar.muli c2_i32_143 v259
  let v261 : BitVec 32 := Scalar.addi c0_i32_144 v260
  let v280 : Index := Scalar.indexCast v261
  let c0_161 : Index := 0#32
  let c0_162 : Index := 0#32
  ![v280.toNat, 0, 0]
def k0_mult10 (k0_t1 : Fin k0_t1_loop.trips) (k0_t3 : Fin (k0_t3_loop k0_t1).trips) : BitVec 32 :=
  let c0_i32_144 : BitVec 32 := 0#32
  let c2_i32_143 : BitVec 32 := 2#32
  let c4_i32_141 : BitVec 32 := 4#32
  let c0_i32_63 : BitVec 32 := 0#32
  let c0_i32 : BitVec 32 := 0#32
  let c1_i32 : BitVec 32 := 1#32
  let arg14 : BitVec 32 := Scf.iv c0_i32 c1_i32 k0_t1
  let c0_i32_56 : BitVec 32 := 0#32
  let v105 : BitVec 1 := Scalar.cmpi .sgt arg14 c0_i32_56
  let v106 : BitVec 32 := Scalar.extui v105
  let c0_i32_57 : BitVec 32 := 0#32
  let v107 : BitVec 1 := Scalar.cmpi .slt arg14 c0_i32_57
  let v108 : BitVec 32 := Scalar.extui v107
  let v109 : BitVec 32 := Scalar.subi v106 v108
  let c8_i32 : BitVec 32 := 8#32
  let c0_i32_58 : BitVec 32 := 0#32
  let v110 : BitVec 1 := Scalar.cmpi .sgt c8_i32 c0_i32_58
  let v111 : BitVec 32 := Scalar.extui v110
  let c0_i32_59 : BitVec 32 := 0#32
  let v112 : BitVec 1 := Scalar.cmpi .slt c8_i32 c0_i32_59
  let v113 : BitVec 32 := Scalar.extui v112
  let v114 : BitVec 32 := Scalar.subi v111 v113
  let v115 : BitVec 1 := Scalar.cmpi .ne v109 v114
  let v116 : BitVec 32 := Scalar.remsi arg14 c8_i32
  let c0_i32_60 : BitVec 32 := 0#32
  let v117 : BitVec 1 := Scalar.cmpi .ne v116 c0_i32_60
  let v118 : BitVec 1 := Scalar.andi v115 v117
  let v104 : BitVec 32 := Scalar.divsi arg14 c8_i32
  let c1_i32_61 : BitVec 32 := 1#32
  let v119 : BitVec 32 := Scalar.subi v104 c1_i32_61
  let v120 : BitVec 32 := Scalar.select v118 v119 v104
  let v121 : BitVec 32 := Scalar.subi v120 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let c1_i32_66 : BitVec 32 := 1#32
  let arg15 : BitVec 32 := Scf.iv v125 c1_i32_66 k0_t3
  let v258 : BitVec 32 := Scalar.muli c4_i32_141 arg15
  let c0_i32_142 : BitVec 32 := 0#32
  let v259 : BitVec 32 := Scalar.addi v258 c0_i32_142
  let v260 : BitVec 32 := Scalar.muli c2_i32_143 v259
  let v261 : BitVec 32 := Scalar.addi c0_i32_144 v260
  let c2_i32_197 : BitVec 32 := 2#32
  let v334 : BitVec 32 := Scalar.addi v261 c2_i32_197
  let c512_i32_198 : BitVec 32 := 512#32
  let v335 : BitVec 32 := Scalar.muli v334 c512_i32_198
  v335
def k0_off7 (k0_t1 : Fin k0_t1_loop.trips) (k0_t3 : Fin (k0_t3_loop k0_t1).trips) (c0_i32_142 : BitVec 32) : Fin 3 → Nat :=
  let c0_i32_144 : BitVec 32 := 0#32
  let c2_i32_143 : BitVec 32 := 2#32
  let c4_i32_141 : BitVec 32 := 4#32
  let c0_i32_63 : BitVec 32 := 0#32
  let c0_i32 : BitVec 32 := 0#32
  let c1_i32 : BitVec 32 := 1#32
  let arg14 : BitVec 32 := Scf.iv c0_i32 c1_i32 k0_t1
  let c0_i32_56 : BitVec 32 := 0#32
  let v105 : BitVec 1 := Scalar.cmpi .sgt arg14 c0_i32_56
  let v106 : BitVec 32 := Scalar.extui v105
  let c0_i32_57 : BitVec 32 := 0#32
  let v107 : BitVec 1 := Scalar.cmpi .slt arg14 c0_i32_57
  let v108 : BitVec 32 := Scalar.extui v107
  let v109 : BitVec 32 := Scalar.subi v106 v108
  let c8_i32 : BitVec 32 := 8#32
  let c0_i32_58 : BitVec 32 := 0#32
  let v110 : BitVec 1 := Scalar.cmpi .sgt c8_i32 c0_i32_58
  let v111 : BitVec 32 := Scalar.extui v110
  let c0_i32_59 : BitVec 32 := 0#32
  let v112 : BitVec 1 := Scalar.cmpi .slt c8_i32 c0_i32_59
  let v113 : BitVec 32 := Scalar.extui v112
  let v114 : BitVec 32 := Scalar.subi v111 v113
  let v115 : BitVec 1 := Scalar.cmpi .ne v109 v114
  let v116 : BitVec 32 := Scalar.remsi arg14 c8_i32
  let c0_i32_60 : BitVec 32 := 0#32
  let v117 : BitVec 1 := Scalar.cmpi .ne v116 c0_i32_60
  let v118 : BitVec 1 := Scalar.andi v115 v117
  let v104 : BitVec 32 := Scalar.divsi arg14 c8_i32
  let c1_i32_61 : BitVec 32 := 1#32
  let v119 : BitVec 32 := Scalar.subi v104 c1_i32_61
  let v120 : BitVec 32 := Scalar.select v118 v119 v104
  let v121 : BitVec 32 := Scalar.subi v120 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let c1_i32_66 : BitVec 32 := 1#32
  let arg15 : BitVec 32 := Scf.iv v125 c1_i32_66 k0_t3
  let v258 : BitVec 32 := Scalar.muli c4_i32_141 arg15
  let v259 : BitVec 32 := Scalar.addi v258 c0_i32_142
  let v260 : BitVec 32 := Scalar.muli c2_i32_143 v259
  let v261 : BitVec 32 := Scalar.addi c0_i32_144 v260
  let c1_i32_214 : BitVec 32 := 1#32
  let v352 : BitVec 32 := Scalar.addi v261 c1_i32_214
  let v353 : Index := Scalar.indexCast v352
  let c0_215 : Index := 0#32
  let c0_216 : Index := 0#32
  ![v353.toNat, 0, 0]
def k0_mult11 (k0_t1 : Fin k0_t1_loop.trips) (k0_t3 : Fin (k0_t3_loop k0_t1).trips) : BitVec 32 :=
  let c0_i32_254 : BitVec 32 := 0#32
  let c2_i32_253 : BitVec 32 := 2#32
  let c4_i32_251 : BitVec 32 := 4#32
  let c0_i32_63 : BitVec 32 := 0#32
  let c0_i32 : BitVec 32 := 0#32
  let c1_i32 : BitVec 32 := 1#32
  let arg14 : BitVec 32 := Scf.iv c0_i32 c1_i32 k0_t1
  let c0_i32_56 : BitVec 32 := 0#32
  let v105 : BitVec 1 := Scalar.cmpi .sgt arg14 c0_i32_56
  let v106 : BitVec 32 := Scalar.extui v105
  let c0_i32_57 : BitVec 32 := 0#32
  let v107 : BitVec 1 := Scalar.cmpi .slt arg14 c0_i32_57
  let v108 : BitVec 32 := Scalar.extui v107
  let v109 : BitVec 32 := Scalar.subi v106 v108
  let c8_i32 : BitVec 32 := 8#32
  let c0_i32_58 : BitVec 32 := 0#32
  let v110 : BitVec 1 := Scalar.cmpi .sgt c8_i32 c0_i32_58
  let v111 : BitVec 32 := Scalar.extui v110
  let c0_i32_59 : BitVec 32 := 0#32
  let v112 : BitVec 1 := Scalar.cmpi .slt c8_i32 c0_i32_59
  let v113 : BitVec 32 := Scalar.extui v112
  let v114 : BitVec 32 := Scalar.subi v111 v113
  let v115 : BitVec 1 := Scalar.cmpi .ne v109 v114
  let v116 : BitVec 32 := Scalar.remsi arg14 c8_i32
  let c0_i32_60 : BitVec 32 := 0#32
  let v117 : BitVec 1 := Scalar.cmpi .ne v116 c0_i32_60
  let v118 : BitVec 1 := Scalar.andi v115 v117
  let v104 : BitVec 32 := Scalar.divsi arg14 c8_i32
  let c1_i32_61 : BitVec 32 := 1#32
  let v119 : BitVec 32 := Scalar.subi v104 c1_i32_61
  let v120 : BitVec 32 := Scalar.select v118 v119 v104
  let v121 : BitVec 32 := Scalar.subi v120 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let c1_i32_66 : BitVec 32 := 1#32
  let arg15 : BitVec 32 := Scf.iv v125 c1_i32_66 k0_t3
  let v407 : BitVec 32 := Scalar.muli c4_i32_251 arg15
  let c1_i32_252 : BitVec 32 := 1#32
  let v408 : BitVec 32 := Scalar.addi v407 c1_i32_252
  let v409 : BitVec 32 := Scalar.muli c2_i32_253 v408
  let v410 : BitVec 32 := Scalar.addi c0_i32_254 v409
  let c1_i32_255 : BitVec 32 := 1#32
  let v411 : BitVec 32 := Scalar.addi v410 c1_i32_255
  let c512_i32_256 : BitVec 32 := 512#32
  let v412 : BitVec 32 := Scalar.muli v411 c512_i32_256
  v412
def k0_mult12 (k0_t1 : Fin k0_t1_loop.trips) (k0_t3 : Fin (k0_t3_loop k0_t1).trips) : BitVec 32 :=
  let c0_i32_254 : BitVec 32 := 0#32
  let c2_i32_253 : BitVec 32 := 2#32
  let c4_i32_251 : BitVec 32 := 4#32
  let c0_i32_63 : BitVec 32 := 0#32
  let c0_i32 : BitVec 32 := 0#32
  let c1_i32 : BitVec 32 := 1#32
  let arg14 : BitVec 32 := Scf.iv c0_i32 c1_i32 k0_t1
  let c0_i32_56 : BitVec 32 := 0#32
  let v105 : BitVec 1 := Scalar.cmpi .sgt arg14 c0_i32_56
  let v106 : BitVec 32 := Scalar.extui v105
  let c0_i32_57 : BitVec 32 := 0#32
  let v107 : BitVec 1 := Scalar.cmpi .slt arg14 c0_i32_57
  let v108 : BitVec 32 := Scalar.extui v107
  let v109 : BitVec 32 := Scalar.subi v106 v108
  let c8_i32 : BitVec 32 := 8#32
  let c0_i32_58 : BitVec 32 := 0#32
  let v110 : BitVec 1 := Scalar.cmpi .sgt c8_i32 c0_i32_58
  let v111 : BitVec 32 := Scalar.extui v110
  let c0_i32_59 : BitVec 32 := 0#32
  let v112 : BitVec 1 := Scalar.cmpi .slt c8_i32 c0_i32_59
  let v113 : BitVec 32 := Scalar.extui v112
  let v114 : BitVec 32 := Scalar.subi v111 v113
  let v115 : BitVec 1 := Scalar.cmpi .ne v109 v114
  let v116 : BitVec 32 := Scalar.remsi arg14 c8_i32
  let c0_i32_60 : BitVec 32 := 0#32
  let v117 : BitVec 1 := Scalar.cmpi .ne v116 c0_i32_60
  let v118 : BitVec 1 := Scalar.andi v115 v117
  let v104 : BitVec 32 := Scalar.divsi arg14 c8_i32
  let c1_i32_61 : BitVec 32 := 1#32
  let v119 : BitVec 32 := Scalar.subi v104 c1_i32_61
  let v120 : BitVec 32 := Scalar.select v118 v119 v104
  let v121 : BitVec 32 := Scalar.subi v120 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let c1_i32_66 : BitVec 32 := 1#32
  let arg15 : BitVec 32 := Scf.iv v125 c1_i32_66 k0_t3
  let v407 : BitVec 32 := Scalar.muli c4_i32_251 arg15
  let c1_i32_252 : BitVec 32 := 1#32
  let v408 : BitVec 32 := Scalar.addi v407 c1_i32_252
  let v409 : BitVec 32 := Scalar.muli c2_i32_253 v408
  let v410 : BitVec 32 := Scalar.addi c0_i32_254 v409
  let c2_i32_308 : BitVec 32 := 2#32
  let v483 : BitVec 32 := Scalar.addi v410 c2_i32_308
  let c512_i32_309 : BitVec 32 := 512#32
  let v484 : BitVec 32 := Scalar.muli v483 c512_i32_309
  v484
def k0_mult13 (k0_t1 : Fin k0_t1_loop.trips) (k0_t3 : Fin (k0_t3_loop k0_t1).trips) : BitVec 32 :=
  let c0_i32_365 : BitVec 32 := 0#32
  let c2_i32_364 : BitVec 32 := 2#32
  let c4_i32_362 : BitVec 32 := 4#32
  let c0_i32_63 : BitVec 32 := 0#32
  let c0_i32 : BitVec 32 := 0#32
  let c1_i32 : BitVec 32 := 1#32
  let arg14 : BitVec 32 := Scf.iv c0_i32 c1_i32 k0_t1
  let c0_i32_56 : BitVec 32 := 0#32
  let v105 : BitVec 1 := Scalar.cmpi .sgt arg14 c0_i32_56
  let v106 : BitVec 32 := Scalar.extui v105
  let c0_i32_57 : BitVec 32 := 0#32
  let v107 : BitVec 1 := Scalar.cmpi .slt arg14 c0_i32_57
  let v108 : BitVec 32 := Scalar.extui v107
  let v109 : BitVec 32 := Scalar.subi v106 v108
  let c8_i32 : BitVec 32 := 8#32
  let c0_i32_58 : BitVec 32 := 0#32
  let v110 : BitVec 1 := Scalar.cmpi .sgt c8_i32 c0_i32_58
  let v111 : BitVec 32 := Scalar.extui v110
  let c0_i32_59 : BitVec 32 := 0#32
  let v112 : BitVec 1 := Scalar.cmpi .slt c8_i32 c0_i32_59
  let v113 : BitVec 32 := Scalar.extui v112
  let v114 : BitVec 32 := Scalar.subi v111 v113
  let v115 : BitVec 1 := Scalar.cmpi .ne v109 v114
  let v116 : BitVec 32 := Scalar.remsi arg14 c8_i32
  let c0_i32_60 : BitVec 32 := 0#32
  let v117 : BitVec 1 := Scalar.cmpi .ne v116 c0_i32_60
  let v118 : BitVec 1 := Scalar.andi v115 v117
  let v104 : BitVec 32 := Scalar.divsi arg14 c8_i32
  let c1_i32_61 : BitVec 32 := 1#32
  let v119 : BitVec 32 := Scalar.subi v104 c1_i32_61
  let v120 : BitVec 32 := Scalar.select v118 v119 v104
  let v121 : BitVec 32 := Scalar.subi v120 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let c1_i32_66 : BitVec 32 := 1#32
  let arg15 : BitVec 32 := Scf.iv v125 c1_i32_66 k0_t3
  let v556 : BitVec 32 := Scalar.muli c4_i32_362 arg15
  let c2_i32_363 : BitVec 32 := 2#32
  let v557 : BitVec 32 := Scalar.addi v556 c2_i32_363
  let v558 : BitVec 32 := Scalar.muli c2_i32_364 v557
  let v559 : BitVec 32 := Scalar.addi c0_i32_365 v558
  let c1_i32_366 : BitVec 32 := 1#32
  let v560 : BitVec 32 := Scalar.addi v559 c1_i32_366
  let c512_i32_367 : BitVec 32 := 512#32
  let v561 : BitVec 32 := Scalar.muli v560 c512_i32_367
  v561
def k0_mult14 (k0_t1 : Fin k0_t1_loop.trips) (k0_t3 : Fin (k0_t3_loop k0_t1).trips) : BitVec 32 :=
  let c0_i32_365 : BitVec 32 := 0#32
  let c2_i32_364 : BitVec 32 := 2#32
  let c4_i32_362 : BitVec 32 := 4#32
  let c0_i32_63 : BitVec 32 := 0#32
  let c0_i32 : BitVec 32 := 0#32
  let c1_i32 : BitVec 32 := 1#32
  let arg14 : BitVec 32 := Scf.iv c0_i32 c1_i32 k0_t1
  let c0_i32_56 : BitVec 32 := 0#32
  let v105 : BitVec 1 := Scalar.cmpi .sgt arg14 c0_i32_56
  let v106 : BitVec 32 := Scalar.extui v105
  let c0_i32_57 : BitVec 32 := 0#32
  let v107 : BitVec 1 := Scalar.cmpi .slt arg14 c0_i32_57
  let v108 : BitVec 32 := Scalar.extui v107
  let v109 : BitVec 32 := Scalar.subi v106 v108
  let c8_i32 : BitVec 32 := 8#32
  let c0_i32_58 : BitVec 32 := 0#32
  let v110 : BitVec 1 := Scalar.cmpi .sgt c8_i32 c0_i32_58
  let v111 : BitVec 32 := Scalar.extui v110
  let c0_i32_59 : BitVec 32 := 0#32
  let v112 : BitVec 1 := Scalar.cmpi .slt c8_i32 c0_i32_59
  let v113 : BitVec 32 := Scalar.extui v112
  let v114 : BitVec 32 := Scalar.subi v111 v113
  let v115 : BitVec 1 := Scalar.cmpi .ne v109 v114
  let v116 : BitVec 32 := Scalar.remsi arg14 c8_i32
  let c0_i32_60 : BitVec 32 := 0#32
  let v117 : BitVec 1 := Scalar.cmpi .ne v116 c0_i32_60
  let v118 : BitVec 1 := Scalar.andi v115 v117
  let v104 : BitVec 32 := Scalar.divsi arg14 c8_i32
  let c1_i32_61 : BitVec 32 := 1#32
  let v119 : BitVec 32 := Scalar.subi v104 c1_i32_61
  let v120 : BitVec 32 := Scalar.select v118 v119 v104
  let v121 : BitVec 32 := Scalar.subi v120 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let c1_i32_66 : BitVec 32 := 1#32
  let arg15 : BitVec 32 := Scf.iv v125 c1_i32_66 k0_t3
  let v556 : BitVec 32 := Scalar.muli c4_i32_362 arg15
  let c2_i32_363 : BitVec 32 := 2#32
  let v557 : BitVec 32 := Scalar.addi v556 c2_i32_363
  let v558 : BitVec 32 := Scalar.muli c2_i32_364 v557
  let v559 : BitVec 32 := Scalar.addi c0_i32_365 v558
  let c2_i32_419 : BitVec 32 := 2#32
  let v632 : BitVec 32 := Scalar.addi v559 c2_i32_419
  let c512_i32_420 : BitVec 32 := 512#32
  let v633 : BitVec 32 := Scalar.muli v632 c512_i32_420
  v633
def k0_mult15 (k0_t1 : Fin k0_t1_loop.trips) (k0_t3 : Fin (k0_t3_loop k0_t1).trips) : BitVec 32 :=
  let c0_i32_475 : BitVec 32 := 0#32
  let c2_i32_474 : BitVec 32 := 2#32
  let c4_i32_473 : BitVec 32 := 4#32
  let c0_i32_63 : BitVec 32 := 0#32
  let c0_i32 : BitVec 32 := 0#32
  let c1_i32 : BitVec 32 := 1#32
  let arg14 : BitVec 32 := Scf.iv c0_i32 c1_i32 k0_t1
  let c0_i32_56 : BitVec 32 := 0#32
  let v105 : BitVec 1 := Scalar.cmpi .sgt arg14 c0_i32_56
  let v106 : BitVec 32 := Scalar.extui v105
  let c0_i32_57 : BitVec 32 := 0#32
  let v107 : BitVec 1 := Scalar.cmpi .slt arg14 c0_i32_57
  let v108 : BitVec 32 := Scalar.extui v107
  let v109 : BitVec 32 := Scalar.subi v106 v108
  let c8_i32 : BitVec 32 := 8#32
  let c0_i32_58 : BitVec 32 := 0#32
  let v110 : BitVec 1 := Scalar.cmpi .sgt c8_i32 c0_i32_58
  let v111 : BitVec 32 := Scalar.extui v110
  let c0_i32_59 : BitVec 32 := 0#32
  let v112 : BitVec 1 := Scalar.cmpi .slt c8_i32 c0_i32_59
  let v113 : BitVec 32 := Scalar.extui v112
  let v114 : BitVec 32 := Scalar.subi v111 v113
  let v115 : BitVec 1 := Scalar.cmpi .ne v109 v114
  let v116 : BitVec 32 := Scalar.remsi arg14 c8_i32
  let c0_i32_60 : BitVec 32 := 0#32
  let v117 : BitVec 1 := Scalar.cmpi .ne v116 c0_i32_60
  let v118 : BitVec 1 := Scalar.andi v115 v117
  let v104 : BitVec 32 := Scalar.divsi arg14 c8_i32
  let c1_i32_61 : BitVec 32 := 1#32
  let v119 : BitVec 32 := Scalar.subi v104 c1_i32_61
  let v120 : BitVec 32 := Scalar.select v118 v119 v104
  let v121 : BitVec 32 := Scalar.subi v120 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let c1_i32_66 : BitVec 32 := 1#32
  let arg15 : BitVec 32 := Scf.iv v125 c1_i32_66 k0_t3
  let v705 : BitVec 32 := Scalar.muli c4_i32_473 arg15
  let c3_i32 : BitVec 32 := 3#32
  let v706 : BitVec 32 := Scalar.addi v705 c3_i32
  let v707 : BitVec 32 := Scalar.muli c2_i32_474 v706
  let v708 : BitVec 32 := Scalar.addi c0_i32_475 v707
  let c1_i32_476 : BitVec 32 := 1#32
  let v709 : BitVec 32 := Scalar.addi v708 c1_i32_476
  let c512_i32_477 : BitVec 32 := 512#32
  let v710 : BitVec 32 := Scalar.muli v709 c512_i32_477
  v710
def k0_mult16 (k0_t1 : Fin k0_t1_loop.trips) (k0_t3 : Fin (k0_t3_loop k0_t1).trips) : BitVec 32 :=
  let c0_i32_475 : BitVec 32 := 0#32
  let c2_i32_474 : BitVec 32 := 2#32
  let c4_i32_473 : BitVec 32 := 4#32
  let c0_i32_63 : BitVec 32 := 0#32
  let c0_i32 : BitVec 32 := 0#32
  let c1_i32 : BitVec 32 := 1#32
  let arg14 : BitVec 32 := Scf.iv c0_i32 c1_i32 k0_t1
  let c0_i32_56 : BitVec 32 := 0#32
  let v105 : BitVec 1 := Scalar.cmpi .sgt arg14 c0_i32_56
  let v106 : BitVec 32 := Scalar.extui v105
  let c0_i32_57 : BitVec 32 := 0#32
  let v107 : BitVec 1 := Scalar.cmpi .slt arg14 c0_i32_57
  let v108 : BitVec 32 := Scalar.extui v107
  let v109 : BitVec 32 := Scalar.subi v106 v108
  let c8_i32 : BitVec 32 := 8#32
  let c0_i32_58 : BitVec 32 := 0#32
  let v110 : BitVec 1 := Scalar.cmpi .sgt c8_i32 c0_i32_58
  let v111 : BitVec 32 := Scalar.extui v110
  let c0_i32_59 : BitVec 32 := 0#32
  let v112 : BitVec 1 := Scalar.cmpi .slt c8_i32 c0_i32_59
  let v113 : BitVec 32 := Scalar.extui v112
  let v114 : BitVec 32 := Scalar.subi v111 v113
  let v115 : BitVec 1 := Scalar.cmpi .ne v109 v114
  let v116 : BitVec 32 := Scalar.remsi arg14 c8_i32
  let c0_i32_60 : BitVec 32 := 0#32
  let v117 : BitVec 1 := Scalar.cmpi .ne v116 c0_i32_60
  let v118 : BitVec 1 := Scalar.andi v115 v117
  let v104 : BitVec 32 := Scalar.divsi arg14 c8_i32
  let c1_i32_61 : BitVec 32 := 1#32
  let v119 : BitVec 32 := Scalar.subi v104 c1_i32_61
  let v120 : BitVec 32 := Scalar.select v118 v119 v104
  let v121 : BitVec 32 := Scalar.subi v120 c0_i32_63
  let c1_i32_64 : BitVec 32 := 1#32
  let v123 : BitVec 32 := Scalar.divsi v121 c1_i32_64
  let v124 : BitVec 32 := Scalar.muli v123 c1_i32_64
  let v125 : BitVec 32 := Scalar.addi c0_i32_63 v124
  let c1_i32_66 : BitVec 32 := 1#32
  let arg15 : BitVec 32 := Scf.iv v125 c1_i32_66 k0_t3
  let v705 : BitVec 32 := Scalar.muli c4_i32_473 arg15
  let c3_i32 : BitVec 32 := 3#32
  let v706 : BitVec 32 := Scalar.addi v705 c3_i32
  let v707 : BitVec 32 := Scalar.muli c2_i32_474 v706
  let v708 : BitVec 32 := Scalar.addi c0_i32_475 v707
  let c2_i32_529 : BitVec 32 := 2#32
  let v781 : BitVec 32 := Scalar.addi v708 c2_i32_529
  let c512_i32_530 : BitVec 32 := 512#32
  let v782 : BitVec 32 := Scalar.muli v781 c512_i32_530
  v782
@[reducible] def k0_t4_loop (k0_t1 : Fin k0_t1_loop.trips) : Scf.Loop 32 :=
  let c0_i32_88 : BitVec 32 := 0#32
  let c0_i32 : BitVec 32 := 0#32
  let c1_i32 : BitVec 32 := 1#32
  let arg14 : BitVec 32 := Scf.iv c0_i32 c1_i32 k0_t1
  let c8_i32_75 : BitVec 32 := 8#32
  let c0_i32_76 : BitVec 32 := 0#32
  let v144 : BitVec 1 := Scalar.cmpi .eq c8_i32_75 c0_i32_76
  let c1_i32_77 : BitVec 32 := 1#32
  let v145 : BitVec 32 := Scalar.select v144 c1_i32_77 c8_i32_75
  let v146 : BitVec 32 := Scalar.remsi arg14 v145
  let c0_i32_79 : BitVec 32 := 0#32
  let v148 : BitVec 1 := Scalar.cmpi .slt v146 c0_i32_79
  let c0_i32_80 : BitVec 32 := 0#32
  let v149 : BitVec 1 := Scalar.cmpi .slt v145 c0_i32_80
  let v150 : BitVec 1 := Scalar.xori v148 v149
  let c0_i32_78 : BitVec 32 := 0#32
  let v147 : BitVec 1 := Scalar.cmpi .ne v146 c0_i32_78
  let v151 : BitVec 1 := Scalar.andi v150 v147
  let v152 : BitVec 32 := Scalar.addi v146 v145
  let v153 : BitVec 32 := Scalar.select v151 v152 v146
  let c0_i32_81 : BitVec 32 := 0#32
  let v155 : BitVec 1 := Scalar.cmpi .sgt v153 c0_i32_81
  let v156 : BitVec 32 := Scalar.extui v155
  let c0_i32_82 : BitVec 32 := 0#32
  let v157 : BitVec 1 := Scalar.cmpi .slt v153 c0_i32_82
  let v158 : BitVec 32 := Scalar.extui v157
  let v159 : BitVec 32 := Scalar.subi v156 v158
  let c4_i32 : BitVec 32 := 4#32
  let c0_i32_83 : BitVec 32 := 0#32
  let v160 : BitVec 1 := Scalar.cmpi .sgt c4_i32 c0_i32_83
  let v161 : BitVec 32 := Scalar.extui v160
  let c0_i32_84 : BitVec 32 := 0#32
  let v162 : BitVec 1 := Scalar.cmpi .slt c4_i32 c0_i32_84
  let v163 : BitVec 32 := Scalar.extui v162
  let v164 : BitVec 32 := Scalar.subi v161 v163
  let v165 : BitVec 1 := Scalar.cmpi .ne v159 v164
  let v166 : BitVec 32 := Scalar.remsi v153 c4_i32
  let c0_i32_85 : BitVec 32 := 0#32
  let v167 : BitVec 1 := Scalar.cmpi .ne v166 c0_i32_85
  let v168 : BitVec 1 := Scalar.andi v165 v167
  let v154 : BitVec 32 := Scalar.divsi v153 c4_i32
  let c1_i32_86 : BitVec 32 := 1#32
  let v169 : BitVec 32 := Scalar.subi v154 c1_i32_86
  let v170 : BitVec 32 := Scalar.select v168 v169 v154
  let v171 : BitVec 32 := Scalar.subi v170 c0_i32_88
  let c1_i32_89 : BitVec 32 := 1#32
  let v173 : BitVec 32 := Scalar.divsi v171 c1_i32_89
  let v174 : BitVec 32 := Scalar.muli v173 c1_i32_89
  let v175 : BitVec 32 := Scalar.addi c0_i32_88 v174
  let c1_i32_90 : BitVec 32 := 1#32
  ⟨c0_i32_88, v175, c1_i32_90⟩
def k0_mult17 (k0_t1 : Fin k0_t1_loop.trips) (k0_t4 : Fin (k0_t4_loop k0_t1).trips) : BitVec 32 :=
  let c8_i32_74 : BitVec 32 := 8#32
  let c0_i32 : BitVec 32 := 0#32
  let c1_i32 : BitVec 32 := 1#32
  let arg14 : BitVec 32 := Scf.iv c0_i32 c1_i32 k0_t1
  let c0_i32_68 : BitVec 32 := 0#32
  let v127 : BitVec 1 := Scalar.cmpi .sgt arg14 c0_i32_68
  let v128 : BitVec 32 := Scalar.extui v127
  let c0_i32_69 : BitVec 32 := 0#32
  let v129 : BitVec 1 := Scalar.cmpi .slt arg14 c0_i32_69
  let v130 : BitVec 32 := Scalar.extui v129
  let v131 : BitVec 32 := Scalar.subi v128 v130
  let c8_i32_67 : BitVec 32 := 8#32
  let c0_i32_70 : BitVec 32 := 0#32
  let v132 : BitVec 1 := Scalar.cmpi .sgt c8_i32_67 c0_i32_70
  let v133 : BitVec 32 := Scalar.extui v132
  let c0_i32_71 : BitVec 32 := 0#32
  let v134 : BitVec 1 := Scalar.cmpi .slt c8_i32_67 c0_i32_71
  let v135 : BitVec 32 := Scalar.extui v134
  let v136 : BitVec 32 := Scalar.subi v133 v135
  let v137 : BitVec 1 := Scalar.cmpi .ne v131 v136
  let v138 : BitVec 32 := Scalar.remsi arg14 c8_i32_67
  let c0_i32_72 : BitVec 32 := 0#32
  let v139 : BitVec 1 := Scalar.cmpi .ne v138 c0_i32_72
  let v140 : BitVec 1 := Scalar.andi v137 v139
  let v126 : BitVec 32 := Scalar.divsi arg14 c8_i32_67
  let c1_i32_73 : BitVec 32 := 1#32
  let v141 : BitVec 32 := Scalar.subi v126 c1_i32_73
  let v142 : BitVec 32 := Scalar.select v140 v141 v126
  let v143 : BitVec 32 := Scalar.muli c8_i32_74 v142
  let c2_i32_143 : BitVec 32 := 2#32
  let c2_i32_141 : BitVec 32 := 2#32
  let c0_i32_88 : BitVec 32 := 0#32
  let c1_i32_90 : BitVec 32 := 1#32
  let arg15 : BitVec 32 := Scf.iv c0_i32_88 c1_i32_90 k0_t4
  let v258 : BitVec 32 := Scalar.muli c2_i32_141 arg15
  let c0_i32_142 : BitVec 32 := 0#32
  let v259 : BitVec 32 := Scalar.addi v258 c0_i32_142
  let v260 : BitVec 32 := Scalar.muli c2_i32_143 v259
  let v261 : BitVec 32 := Scalar.addi v143 v260
  let c1_i32_144 : BitVec 32 := 1#32
  let v262 : BitVec 32 := Scalar.addi v261 c1_i32_144
  let c512_i32 : BitVec 32 := 512#32
  let v263 : BitVec 32 := Scalar.muli v262 c512_i32
  v263
def k0_off8 (k0_t1 : Fin k0_t1_loop.trips) (k0_t4 : Fin (k0_t4_loop k0_t1).trips) (c0_i32_142 : BitVec 32) (c1_i32_144 : BitVec 32) : Fin 2 → Nat :=
  let c8_i32_74 : BitVec 32 := 8#32
  let c0_i32 : BitVec 32 := 0#32
  let c1_i32 : BitVec 32 := 1#32
  let arg14 : BitVec 32 := Scf.iv c0_i32 c1_i32 k0_t1
  let c0_i32_68 : BitVec 32 := 0#32
  let v127 : BitVec 1 := Scalar.cmpi .sgt arg14 c0_i32_68
  let v128 : BitVec 32 := Scalar.extui v127
  let c0_i32_69 : BitVec 32 := 0#32
  let v129 : BitVec 1 := Scalar.cmpi .slt arg14 c0_i32_69
  let v130 : BitVec 32 := Scalar.extui v129
  let v131 : BitVec 32 := Scalar.subi v128 v130
  let c8_i32_67 : BitVec 32 := 8#32
  let c0_i32_70 : BitVec 32 := 0#32
  let v132 : BitVec 1 := Scalar.cmpi .sgt c8_i32_67 c0_i32_70
  let v133 : BitVec 32 := Scalar.extui v132
  let c0_i32_71 : BitVec 32 := 0#32
  let v134 : BitVec 1 := Scalar.cmpi .slt c8_i32_67 c0_i32_71
  let v135 : BitVec 32 := Scalar.extui v134
  let v136 : BitVec 32 := Scalar.subi v133 v135
  let v137 : BitVec 1 := Scalar.cmpi .ne v131 v136
  let v138 : BitVec 32 := Scalar.remsi arg14 c8_i32_67
  let c0_i32_72 : BitVec 32 := 0#32
  let v139 : BitVec 1 := Scalar.cmpi .ne v138 c0_i32_72
  let v140 : BitVec 1 := Scalar.andi v137 v139
  let v126 : BitVec 32 := Scalar.divsi arg14 c8_i32_67
  let c1_i32_73 : BitVec 32 := 1#32
  let v141 : BitVec 32 := Scalar.subi v126 c1_i32_73
  let v142 : BitVec 32 := Scalar.select v140 v141 v126
  let v143 : BitVec 32 := Scalar.muli c8_i32_74 v142
  let c2_i32_143 : BitVec 32 := 2#32
  let c2_i32_141 : BitVec 32 := 2#32
  let c0_i32_88 : BitVec 32 := 0#32
  let c1_i32_90 : BitVec 32 := 1#32
  let arg15 : BitVec 32 := Scf.iv c0_i32_88 c1_i32_90 k0_t4
  let v258 : BitVec 32 := Scalar.muli c2_i32_141 arg15
  let v259 : BitVec 32 := Scalar.addi v258 c0_i32_142
  let v260 : BitVec 32 := Scalar.muli c2_i32_143 v259
  let v261 : BitVec 32 := Scalar.addi v143 v260
  let v262 : BitVec 32 := Scalar.addi v261 c1_i32_144
  let c512_i32 : BitVec 32 := 512#32
  let v263 : BitVec 32 := Scalar.muli v262 c512_i32
  let v264 : BitVec 32 := v263
  let v265 : Index := Scalar.indexCast v264
  let c0_145 : Index := 0#32
  ![v265.toNat, 0]
def k0_off9 (k0_t1 : Fin k0_t1_loop.trips) (k0_t4 : Fin (k0_t4_loop k0_t1).trips) (c0_i32_142 : BitVec 32) : Fin 3 → Nat :=
  let c8_i32_74 : BitVec 32 := 8#32
  let c0_i32 : BitVec 32 := 0#32
  let c1_i32 : BitVec 32 := 1#32
  let arg14 : BitVec 32 := Scf.iv c0_i32 c1_i32 k0_t1
  let c0_i32_68 : BitVec 32 := 0#32
  let v127 : BitVec 1 := Scalar.cmpi .sgt arg14 c0_i32_68
  let v128 : BitVec 32 := Scalar.extui v127
  let c0_i32_69 : BitVec 32 := 0#32
  let v129 : BitVec 1 := Scalar.cmpi .slt arg14 c0_i32_69
  let v130 : BitVec 32 := Scalar.extui v129
  let v131 : BitVec 32 := Scalar.subi v128 v130
  let c8_i32_67 : BitVec 32 := 8#32
  let c0_i32_70 : BitVec 32 := 0#32
  let v132 : BitVec 1 := Scalar.cmpi .sgt c8_i32_67 c0_i32_70
  let v133 : BitVec 32 := Scalar.extui v132
  let c0_i32_71 : BitVec 32 := 0#32
  let v134 : BitVec 1 := Scalar.cmpi .slt c8_i32_67 c0_i32_71
  let v135 : BitVec 32 := Scalar.extui v134
  let v136 : BitVec 32 := Scalar.subi v133 v135
  let v137 : BitVec 1 := Scalar.cmpi .ne v131 v136
  let v138 : BitVec 32 := Scalar.remsi arg14 c8_i32_67
  let c0_i32_72 : BitVec 32 := 0#32
  let v139 : BitVec 1 := Scalar.cmpi .ne v138 c0_i32_72
  let v140 : BitVec 1 := Scalar.andi v137 v139
  let v126 : BitVec 32 := Scalar.divsi arg14 c8_i32_67
  let c1_i32_73 : BitVec 32 := 1#32
  let v141 : BitVec 32 := Scalar.subi v126 c1_i32_73
  let v142 : BitVec 32 := Scalar.select v140 v141 v126
  let v143 : BitVec 32 := Scalar.muli c8_i32_74 v142
  let c2_i32_143 : BitVec 32 := 2#32
  let c2_i32_141 : BitVec 32 := 2#32
  let c0_i32_88 : BitVec 32 := 0#32
  let c1_i32_90 : BitVec 32 := 1#32
  let arg15 : BitVec 32 := Scf.iv c0_i32_88 c1_i32_90 k0_t4
  let v258 : BitVec 32 := Scalar.muli c2_i32_141 arg15
  let v259 : BitVec 32 := Scalar.addi v258 c0_i32_142
  let v260 : BitVec 32 := Scalar.muli c2_i32_143 v259
  let v261 : BitVec 32 := Scalar.addi v143 v260
  let v280 : Index := Scalar.indexCast v261
  let c0_160 : Index := 0#32
  let c0_161 : Index := 0#32
  ![v280.toNat, 0, 0]
def k0_mult18 (k0_t1 : Fin k0_t1_loop.trips) (k0_t4 : Fin (k0_t4_loop k0_t1).trips) : BitVec 32 :=
  let c8_i32_74 : BitVec 32 := 8#32
  let c0_i32 : BitVec 32 := 0#32
  let c1_i32 : BitVec 32 := 1#32
  let arg14 : BitVec 32 := Scf.iv c0_i32 c1_i32 k0_t1
  let c0_i32_68 : BitVec 32 := 0#32
  let v127 : BitVec 1 := Scalar.cmpi .sgt arg14 c0_i32_68
  let v128 : BitVec 32 := Scalar.extui v127
  let c0_i32_69 : BitVec 32 := 0#32
  let v129 : BitVec 1 := Scalar.cmpi .slt arg14 c0_i32_69
  let v130 : BitVec 32 := Scalar.extui v129
  let v131 : BitVec 32 := Scalar.subi v128 v130
  let c8_i32_67 : BitVec 32 := 8#32
  let c0_i32_70 : BitVec 32 := 0#32
  let v132 : BitVec 1 := Scalar.cmpi .sgt c8_i32_67 c0_i32_70
  let v133 : BitVec 32 := Scalar.extui v132
  let c0_i32_71 : BitVec 32 := 0#32
  let v134 : BitVec 1 := Scalar.cmpi .slt c8_i32_67 c0_i32_71
  let v135 : BitVec 32 := Scalar.extui v134
  let v136 : BitVec 32 := Scalar.subi v133 v135
  let v137 : BitVec 1 := Scalar.cmpi .ne v131 v136
  let v138 : BitVec 32 := Scalar.remsi arg14 c8_i32_67
  let c0_i32_72 : BitVec 32 := 0#32
  let v139 : BitVec 1 := Scalar.cmpi .ne v138 c0_i32_72
  let v140 : BitVec 1 := Scalar.andi v137 v139
  let v126 : BitVec 32 := Scalar.divsi arg14 c8_i32_67
  let c1_i32_73 : BitVec 32 := 1#32
  let v141 : BitVec 32 := Scalar.subi v126 c1_i32_73
  let v142 : BitVec 32 := Scalar.select v140 v141 v126
  let v143 : BitVec 32 := Scalar.muli c8_i32_74 v142
  let c2_i32_143 : BitVec 32 := 2#32
  let c2_i32_141 : BitVec 32 := 2#32
  let c0_i32_88 : BitVec 32 := 0#32
  let c1_i32_90 : BitVec 32 := 1#32
  let arg15 : BitVec 32 := Scf.iv c0_i32_88 c1_i32_90 k0_t4
  let v258 : BitVec 32 := Scalar.muli c2_i32_141 arg15
  let c0_i32_142 : BitVec 32 := 0#32
  let v259 : BitVec 32 := Scalar.addi v258 c0_i32_142
  let v260 : BitVec 32 := Scalar.muli c2_i32_143 v259
  let v261 : BitVec 32 := Scalar.addi v143 v260
  let c2_i32_196 : BitVec 32 := 2#32
  let v334 : BitVec 32 := Scalar.addi v261 c2_i32_196
  let c512_i32_197 : BitVec 32 := 512#32
  let v335 : BitVec 32 := Scalar.muli v334 c512_i32_197
  v335
def k0_off10 (k0_t1 : Fin k0_t1_loop.trips) (k0_t4 : Fin (k0_t4_loop k0_t1).trips) (c0_i32_142 : BitVec 32) : Fin 3 → Nat :=
  let c8_i32_74 : BitVec 32 := 8#32
  let c0_i32 : BitVec 32 := 0#32
  let c1_i32 : BitVec 32 := 1#32
  let arg14 : BitVec 32 := Scf.iv c0_i32 c1_i32 k0_t1
  let c0_i32_68 : BitVec 32 := 0#32
  let v127 : BitVec 1 := Scalar.cmpi .sgt arg14 c0_i32_68
  let v128 : BitVec 32 := Scalar.extui v127
  let c0_i32_69 : BitVec 32 := 0#32
  let v129 : BitVec 1 := Scalar.cmpi .slt arg14 c0_i32_69
  let v130 : BitVec 32 := Scalar.extui v129
  let v131 : BitVec 32 := Scalar.subi v128 v130
  let c8_i32_67 : BitVec 32 := 8#32
  let c0_i32_70 : BitVec 32 := 0#32
  let v132 : BitVec 1 := Scalar.cmpi .sgt c8_i32_67 c0_i32_70
  let v133 : BitVec 32 := Scalar.extui v132
  let c0_i32_71 : BitVec 32 := 0#32
  let v134 : BitVec 1 := Scalar.cmpi .slt c8_i32_67 c0_i32_71
  let v135 : BitVec 32 := Scalar.extui v134
  let v136 : BitVec 32 := Scalar.subi v133 v135
  let v137 : BitVec 1 := Scalar.cmpi .ne v131 v136
  let v138 : BitVec 32 := Scalar.remsi arg14 c8_i32_67
  let c0_i32_72 : BitVec 32 := 0#32
  let v139 : BitVec 1 := Scalar.cmpi .ne v138 c0_i32_72
  let v140 : BitVec 1 := Scalar.andi v137 v139
  let v126 : BitVec 32 := Scalar.divsi arg14 c8_i32_67
  let c1_i32_73 : BitVec 32 := 1#32
  let v141 : BitVec 32 := Scalar.subi v126 c1_i32_73
  let v142 : BitVec 32 := Scalar.select v140 v141 v126
  let v143 : BitVec 32 := Scalar.muli c8_i32_74 v142
  let c2_i32_143 : BitVec 32 := 2#32
  let c2_i32_141 : BitVec 32 := 2#32
  let c0_i32_88 : BitVec 32 := 0#32
  let c1_i32_90 : BitVec 32 := 1#32
  let arg15 : BitVec 32 := Scf.iv c0_i32_88 c1_i32_90 k0_t4
  let v258 : BitVec 32 := Scalar.muli c2_i32_141 arg15
  let v259 : BitVec 32 := Scalar.addi v258 c0_i32_142
  let v260 : BitVec 32 := Scalar.muli c2_i32_143 v259
  let v261 : BitVec 32 := Scalar.addi v143 v260
  let c1_i32_213 : BitVec 32 := 1#32
  let v352 : BitVec 32 := Scalar.addi v261 c1_i32_213
  let v353 : Index := Scalar.indexCast v352
  let c0_214 : Index := 0#32
  let c0_215 : Index := 0#32
  ![v353.toNat, 0, 0]
def k0_mult19 (k0_t1 : Fin k0_t1_loop.trips) (k0_t4 : Fin (k0_t4_loop k0_t1).trips) : BitVec 32 :=
  let c8_i32_74 : BitVec 32 := 8#32
  let c0_i32 : BitVec 32 := 0#32
  let c1_i32 : BitVec 32 := 1#32
  let arg14 : BitVec 32 := Scf.iv c0_i32 c1_i32 k0_t1
  let c0_i32_68 : BitVec 32 := 0#32
  let v127 : BitVec 1 := Scalar.cmpi .sgt arg14 c0_i32_68
  let v128 : BitVec 32 := Scalar.extui v127
  let c0_i32_69 : BitVec 32 := 0#32
  let v129 : BitVec 1 := Scalar.cmpi .slt arg14 c0_i32_69
  let v130 : BitVec 32 := Scalar.extui v129
  let v131 : BitVec 32 := Scalar.subi v128 v130
  let c8_i32_67 : BitVec 32 := 8#32
  let c0_i32_70 : BitVec 32 := 0#32
  let v132 : BitVec 1 := Scalar.cmpi .sgt c8_i32_67 c0_i32_70
  let v133 : BitVec 32 := Scalar.extui v132
  let c0_i32_71 : BitVec 32 := 0#32
  let v134 : BitVec 1 := Scalar.cmpi .slt c8_i32_67 c0_i32_71
  let v135 : BitVec 32 := Scalar.extui v134
  let v136 : BitVec 32 := Scalar.subi v133 v135
  let v137 : BitVec 1 := Scalar.cmpi .ne v131 v136
  let v138 : BitVec 32 := Scalar.remsi arg14 c8_i32_67
  let c0_i32_72 : BitVec 32 := 0#32
  let v139 : BitVec 1 := Scalar.cmpi .ne v138 c0_i32_72
  let v140 : BitVec 1 := Scalar.andi v137 v139
  let v126 : BitVec 32 := Scalar.divsi arg14 c8_i32_67
  let c1_i32_73 : BitVec 32 := 1#32
  let v141 : BitVec 32 := Scalar.subi v126 c1_i32_73
  let v142 : BitVec 32 := Scalar.select v140 v141 v126
  let v143 : BitVec 32 := Scalar.muli c8_i32_74 v142
  let c2_i32_252 : BitVec 32 := 2#32
  let c2_i32_250 : BitVec 32 := 2#32
  let c0_i32_88 : BitVec 32 := 0#32
  let c1_i32_90 : BitVec 32 := 1#32
  let arg15 : BitVec 32 := Scf.iv c0_i32_88 c1_i32_90 k0_t4
  let v407 : BitVec 32 := Scalar.muli c2_i32_250 arg15
  let c1_i32_251 : BitVec 32 := 1#32
  let v408 : BitVec 32 := Scalar.addi v407 c1_i32_251
  let v409 : BitVec 32 := Scalar.muli c2_i32_252 v408
  let v410 : BitVec 32 := Scalar.addi v143 v409
  let c1_i32_253 : BitVec 32 := 1#32
  let v411 : BitVec 32 := Scalar.addi v410 c1_i32_253
  let c512_i32_254 : BitVec 32 := 512#32
  let v412 : BitVec 32 := Scalar.muli v411 c512_i32_254
  v412
def k0_mult20 (k0_t1 : Fin k0_t1_loop.trips) (k0_t4 : Fin (k0_t4_loop k0_t1).trips) : BitVec 32 :=
  let c8_i32_74 : BitVec 32 := 8#32
  let c0_i32 : BitVec 32 := 0#32
  let c1_i32 : BitVec 32 := 1#32
  let arg14 : BitVec 32 := Scf.iv c0_i32 c1_i32 k0_t1
  let c0_i32_68 : BitVec 32 := 0#32
  let v127 : BitVec 1 := Scalar.cmpi .sgt arg14 c0_i32_68
  let v128 : BitVec 32 := Scalar.extui v127
  let c0_i32_69 : BitVec 32 := 0#32
  let v129 : BitVec 1 := Scalar.cmpi .slt arg14 c0_i32_69
  let v130 : BitVec 32 := Scalar.extui v129
  let v131 : BitVec 32 := Scalar.subi v128 v130
  let c8_i32_67 : BitVec 32 := 8#32
  let c0_i32_70 : BitVec 32 := 0#32
  let v132 : BitVec 1 := Scalar.cmpi .sgt c8_i32_67 c0_i32_70
  let v133 : BitVec 32 := Scalar.extui v132
  let c0_i32_71 : BitVec 32 := 0#32
  let v134 : BitVec 1 := Scalar.cmpi .slt c8_i32_67 c0_i32_71
  let v135 : BitVec 32 := Scalar.extui v134
  let v136 : BitVec 32 := Scalar.subi v133 v135
  let v137 : BitVec 1 := Scalar.cmpi .ne v131 v136
  let v138 : BitVec 32 := Scalar.remsi arg14 c8_i32_67
  let c0_i32_72 : BitVec 32 := 0#32
  let v139 : BitVec 1 := Scalar.cmpi .ne v138 c0_i32_72
  let v140 : BitVec 1 := Scalar.andi v137 v139
  let v126 : BitVec 32 := Scalar.divsi arg14 c8_i32_67
  let c1_i32_73 : BitVec 32 := 1#32
  let v141 : BitVec 32 := Scalar.subi v126 c1_i32_73
  let v142 : BitVec 32 := Scalar.select v140 v141 v126
  let v143 : BitVec 32 := Scalar.muli c8_i32_74 v142
  let c2_i32_252 : BitVec 32 := 2#32
  let c2_i32_250 : BitVec 32 := 2#32
  let c0_i32_88 : BitVec 32 := 0#32
  let c1_i32_90 : BitVec 32 := 1#32
  let arg15 : BitVec 32 := Scf.iv c0_i32_88 c1_i32_90 k0_t4
  let v407 : BitVec 32 := Scalar.muli c2_i32_250 arg15
  let c1_i32_251 : BitVec 32 := 1#32
  let v408 : BitVec 32 := Scalar.addi v407 c1_i32_251
  let v409 : BitVec 32 := Scalar.muli c2_i32_252 v408
  let v410 : BitVec 32 := Scalar.addi v143 v409
  let c2_i32_306 : BitVec 32 := 2#32
  let v483 : BitVec 32 := Scalar.addi v410 c2_i32_306
  let c512_i32_307 : BitVec 32 := 512#32
  let v484 : BitVec 32 := Scalar.muli v483 c512_i32_307
  v484
@[reducible] def k0_t5_loop (k0_t1 : Fin k0_t1_loop.trips) : Scf.Loop 32 :=
  let c0_i32_88 : BitVec 32 := 0#32
  let c0_i32 : BitVec 32 := 0#32
  let c1_i32 : BitVec 32 := 1#32
  let arg14 : BitVec 32 := Scf.iv c0_i32 c1_i32 k0_t1
  let c8_i32_75 : BitVec 32 := 8#32
  let c0_i32_76 : BitVec 32 := 0#32
  let v144 : BitVec 1 := Scalar.cmpi .eq c8_i32_75 c0_i32_76
  let c1_i32_77 : BitVec 32 := 1#32
  let v145 : BitVec 32 := Scalar.select v144 c1_i32_77 c8_i32_75
  let v146 : BitVec 32 := Scalar.remsi arg14 v145
  let c0_i32_79 : BitVec 32 := 0#32
  let v148 : BitVec 1 := Scalar.cmpi .slt v146 c0_i32_79
  let c0_i32_80 : BitVec 32 := 0#32
  let v149 : BitVec 1 := Scalar.cmpi .slt v145 c0_i32_80
  let v150 : BitVec 1 := Scalar.xori v148 v149
  let c0_i32_78 : BitVec 32 := 0#32
  let v147 : BitVec 1 := Scalar.cmpi .ne v146 c0_i32_78
  let v151 : BitVec 1 := Scalar.andi v150 v147
  let v152 : BitVec 32 := Scalar.addi v146 v145
  let v153 : BitVec 32 := Scalar.select v151 v152 v146
  let c0_i32_81 : BitVec 32 := 0#32
  let v155 : BitVec 1 := Scalar.cmpi .sgt v153 c0_i32_81
  let v156 : BitVec 32 := Scalar.extui v155
  let c0_i32_82 : BitVec 32 := 0#32
  let v157 : BitVec 1 := Scalar.cmpi .slt v153 c0_i32_82
  let v158 : BitVec 32 := Scalar.extui v157
  let v159 : BitVec 32 := Scalar.subi v156 v158
  let c4_i32 : BitVec 32 := 4#32
  let c0_i32_83 : BitVec 32 := 0#32
  let v160 : BitVec 1 := Scalar.cmpi .sgt c4_i32 c0_i32_83
  let v161 : BitVec 32 := Scalar.extui v160
  let c0_i32_84 : BitVec 32 := 0#32
  let v162 : BitVec 1 := Scalar.cmpi .slt c4_i32 c0_i32_84
  let v163 : BitVec 32 := Scalar.extui v162
  let v164 : BitVec 32 := Scalar.subi v161 v163
  let v165 : BitVec 1 := Scalar.cmpi .ne v159 v164
  let v166 : BitVec 32 := Scalar.remsi v153 c4_i32
  let c0_i32_85 : BitVec 32 := 0#32
  let v167 : BitVec 1 := Scalar.cmpi .ne v166 c0_i32_85
  let v168 : BitVec 1 := Scalar.andi v165 v167
  let v154 : BitVec 32 := Scalar.divsi v153 c4_i32
  let c1_i32_86 : BitVec 32 := 1#32
  let v169 : BitVec 32 := Scalar.subi v154 c1_i32_86
  let v170 : BitVec 32 := Scalar.select v168 v169 v154
  let v171 : BitVec 32 := Scalar.subi v170 c0_i32_88
  let c1_i32_89 : BitVec 32 := 1#32
  let v173 : BitVec 32 := Scalar.divsi v171 c1_i32_89
  let v174 : BitVec 32 := Scalar.muli v173 c1_i32_89
  let v175 : BitVec 32 := Scalar.addi c0_i32_88 v174
  let v172 : BitVec 32 := Scalar.addi c0_i32_88 v171
  let c1_i32_91 : BitVec 32 := 1#32
  ⟨v175, v172, c1_i32_91⟩
def k0_mult21 (k0_t1 : Fin k0_t1_loop.trips) (k0_t5 : Fin (k0_t5_loop k0_t1).trips) : BitVec 32 :=
  let c8_i32_74 : BitVec 32 := 8#32
  let c0_i32 : BitVec 32 := 0#32
  let c1_i32 : BitVec 32 := 1#32
  let arg14 : BitVec 32 := Scf.iv c0_i32 c1_i32 k0_t1
  let c0_i32_68 : BitVec 32 := 0#32
  let v127 : BitVec 1 := Scalar.cmpi .sgt arg14 c0_i32_68
  let v128 : BitVec 32 := Scalar.extui v127
  let c0_i32_69 : BitVec 32 := 0#32
  let v129 : BitVec 1 := Scalar.cmpi .slt arg14 c0_i32_69
  let v130 : BitVec 32 := Scalar.extui v129
  let v131 : BitVec 32 := Scalar.subi v128 v130
  let c8_i32_67 : BitVec 32 := 8#32
  let c0_i32_70 : BitVec 32 := 0#32
  let v132 : BitVec 1 := Scalar.cmpi .sgt c8_i32_67 c0_i32_70
  let v133 : BitVec 32 := Scalar.extui v132
  let c0_i32_71 : BitVec 32 := 0#32
  let v134 : BitVec 1 := Scalar.cmpi .slt c8_i32_67 c0_i32_71
  let v135 : BitVec 32 := Scalar.extui v134
  let v136 : BitVec 32 := Scalar.subi v133 v135
  let v137 : BitVec 1 := Scalar.cmpi .ne v131 v136
  let v138 : BitVec 32 := Scalar.remsi arg14 c8_i32_67
  let c0_i32_72 : BitVec 32 := 0#32
  let v139 : BitVec 1 := Scalar.cmpi .ne v138 c0_i32_72
  let v140 : BitVec 1 := Scalar.andi v137 v139
  let v126 : BitVec 32 := Scalar.divsi arg14 c8_i32_67
  let c1_i32_73 : BitVec 32 := 1#32
  let v141 : BitVec 32 := Scalar.subi v126 c1_i32_73
  let v142 : BitVec 32 := Scalar.select v140 v141 v126
  let v143 : BitVec 32 := Scalar.muli c8_i32_74 v142
  let c2_i32_143 : BitVec 32 := 2#32
  let c2_i32_141 : BitVec 32 := 2#32
  let c0_i32_88 : BitVec 32 := 0#32
  let c8_i32_75 : BitVec 32 := 8#32
  let c0_i32_76 : BitVec 32 := 0#32
  let v144 : BitVec 1 := Scalar.cmpi .eq c8_i32_75 c0_i32_76
  let c1_i32_77 : BitVec 32 := 1#32
  let v145 : BitVec 32 := Scalar.select v144 c1_i32_77 c8_i32_75
  let v146 : BitVec 32 := Scalar.remsi arg14 v145
  let c0_i32_79 : BitVec 32 := 0#32
  let v148 : BitVec 1 := Scalar.cmpi .slt v146 c0_i32_79
  let c0_i32_80 : BitVec 32 := 0#32
  let v149 : BitVec 1 := Scalar.cmpi .slt v145 c0_i32_80
  let v150 : BitVec 1 := Scalar.xori v148 v149
  let c0_i32_78 : BitVec 32 := 0#32
  let v147 : BitVec 1 := Scalar.cmpi .ne v146 c0_i32_78
  let v151 : BitVec 1 := Scalar.andi v150 v147
  let v152 : BitVec 32 := Scalar.addi v146 v145
  let v153 : BitVec 32 := Scalar.select v151 v152 v146
  let c0_i32_81 : BitVec 32 := 0#32
  let v155 : BitVec 1 := Scalar.cmpi .sgt v153 c0_i32_81
  let v156 : BitVec 32 := Scalar.extui v155
  let c0_i32_82 : BitVec 32 := 0#32
  let v157 : BitVec 1 := Scalar.cmpi .slt v153 c0_i32_82
  let v158 : BitVec 32 := Scalar.extui v157
  let v159 : BitVec 32 := Scalar.subi v156 v158
  let c4_i32 : BitVec 32 := 4#32
  let c0_i32_83 : BitVec 32 := 0#32
  let v160 : BitVec 1 := Scalar.cmpi .sgt c4_i32 c0_i32_83
  let v161 : BitVec 32 := Scalar.extui v160
  let c0_i32_84 : BitVec 32 := 0#32
  let v162 : BitVec 1 := Scalar.cmpi .slt c4_i32 c0_i32_84
  let v163 : BitVec 32 := Scalar.extui v162
  let v164 : BitVec 32 := Scalar.subi v161 v163
  let v165 : BitVec 1 := Scalar.cmpi .ne v159 v164
  let v166 : BitVec 32 := Scalar.remsi v153 c4_i32
  let c0_i32_85 : BitVec 32 := 0#32
  let v167 : BitVec 1 := Scalar.cmpi .ne v166 c0_i32_85
  let v168 : BitVec 1 := Scalar.andi v165 v167
  let v154 : BitVec 32 := Scalar.divsi v153 c4_i32
  let c1_i32_86 : BitVec 32 := 1#32
  let v169 : BitVec 32 := Scalar.subi v154 c1_i32_86
  let v170 : BitVec 32 := Scalar.select v168 v169 v154
  let v171 : BitVec 32 := Scalar.subi v170 c0_i32_88
  let c1_i32_89 : BitVec 32 := 1#32
  let v173 : BitVec 32 := Scalar.divsi v171 c1_i32_89
  let v174 : BitVec 32 := Scalar.muli v173 c1_i32_89
  let v175 : BitVec 32 := Scalar.addi c0_i32_88 v174
  let c1_i32_91 : BitVec 32 := 1#32
  let arg15 : BitVec 32 := Scf.iv v175 c1_i32_91 k0_t5
  let v258 : BitVec 32 := Scalar.muli c2_i32_141 arg15
  let c0_i32_142 : BitVec 32 := 0#32
  let v259 : BitVec 32 := Scalar.addi v258 c0_i32_142
  let v260 : BitVec 32 := Scalar.muli c2_i32_143 v259
  let v261 : BitVec 32 := Scalar.addi v143 v260
  let c1_i32_144 : BitVec 32 := 1#32
  let v262 : BitVec 32 := Scalar.addi v261 c1_i32_144
  let c512_i32 : BitVec 32 := 512#32
  let v263 : BitVec 32 := Scalar.muli v262 c512_i32
  v263
def k0_off11 (k0_t1 : Fin k0_t1_loop.trips) (k0_t5 : Fin (k0_t5_loop k0_t1).trips) (c0_i32_142 : BitVec 32) (c1_i32_144 : BitVec 32) : Fin 2 → Nat :=
  let c8_i32_74 : BitVec 32 := 8#32
  let c0_i32 : BitVec 32 := 0#32
  let c1_i32 : BitVec 32 := 1#32
  let arg14 : BitVec 32 := Scf.iv c0_i32 c1_i32 k0_t1
  let c0_i32_68 : BitVec 32 := 0#32
  let v127 : BitVec 1 := Scalar.cmpi .sgt arg14 c0_i32_68
  let v128 : BitVec 32 := Scalar.extui v127
  let c0_i32_69 : BitVec 32 := 0#32
  let v129 : BitVec 1 := Scalar.cmpi .slt arg14 c0_i32_69
  let v130 : BitVec 32 := Scalar.extui v129
  let v131 : BitVec 32 := Scalar.subi v128 v130
  let c8_i32_67 : BitVec 32 := 8#32
  let c0_i32_70 : BitVec 32 := 0#32
  let v132 : BitVec 1 := Scalar.cmpi .sgt c8_i32_67 c0_i32_70
  let v133 : BitVec 32 := Scalar.extui v132
  let c0_i32_71 : BitVec 32 := 0#32
  let v134 : BitVec 1 := Scalar.cmpi .slt c8_i32_67 c0_i32_71
  let v135 : BitVec 32 := Scalar.extui v134
  let v136 : BitVec 32 := Scalar.subi v133 v135
  let v137 : BitVec 1 := Scalar.cmpi .ne v131 v136
  let v138 : BitVec 32 := Scalar.remsi arg14 c8_i32_67
  let c0_i32_72 : BitVec 32 := 0#32
  let v139 : BitVec 1 := Scalar.cmpi .ne v138 c0_i32_72
  let v140 : BitVec 1 := Scalar.andi v137 v139
  let v126 : BitVec 32 := Scalar.divsi arg14 c8_i32_67
  let c1_i32_73 : BitVec 32 := 1#32
  let v141 : BitVec 32 := Scalar.subi v126 c1_i32_73
  let v142 : BitVec 32 := Scalar.select v140 v141 v126
  let v143 : BitVec 32 := Scalar.muli c8_i32_74 v142
  let c2_i32_143 : BitVec 32 := 2#32
  let c2_i32_141 : BitVec 32 := 2#32
  let c0_i32_88 : BitVec 32 := 0#32
  let c8_i32_75 : BitVec 32 := 8#32
  let c0_i32_76 : BitVec 32 := 0#32
  let v144 : BitVec 1 := Scalar.cmpi .eq c8_i32_75 c0_i32_76
  let c1_i32_77 : BitVec 32 := 1#32
  let v145 : BitVec 32 := Scalar.select v144 c1_i32_77 c8_i32_75
  let v146 : BitVec 32 := Scalar.remsi arg14 v145
  let c0_i32_79 : BitVec 32 := 0#32
  let v148 : BitVec 1 := Scalar.cmpi .slt v146 c0_i32_79
  let c0_i32_80 : BitVec 32 := 0#32
  let v149 : BitVec 1 := Scalar.cmpi .slt v145 c0_i32_80
  let v150 : BitVec 1 := Scalar.xori v148 v149
  let c0_i32_78 : BitVec 32 := 0#32
  let v147 : BitVec 1 := Scalar.cmpi .ne v146 c0_i32_78
  let v151 : BitVec 1 := Scalar.andi v150 v147
  let v152 : BitVec 32 := Scalar.addi v146 v145
  let v153 : BitVec 32 := Scalar.select v151 v152 v146
  let c0_i32_81 : BitVec 32 := 0#32
  let v155 : BitVec 1 := Scalar.cmpi .sgt v153 c0_i32_81
  let v156 : BitVec 32 := Scalar.extui v155
  let c0_i32_82 : BitVec 32 := 0#32
  let v157 : BitVec 1 := Scalar.cmpi .slt v153 c0_i32_82
  let v158 : BitVec 32 := Scalar.extui v157
  let v159 : BitVec 32 := Scalar.subi v156 v158
  let c4_i32 : BitVec 32 := 4#32
  let c0_i32_83 : BitVec 32 := 0#32
  let v160 : BitVec 1 := Scalar.cmpi .sgt c4_i32 c0_i32_83
  let v161 : BitVec 32 := Scalar.extui v160
  let c0_i32_84 : BitVec 32 := 0#32
  let v162 : BitVec 1 := Scalar.cmpi .slt c4_i32 c0_i32_84
  let v163 : BitVec 32 := Scalar.extui v162
  let v164 : BitVec 32 := Scalar.subi v161 v163
  let v165 : BitVec 1 := Scalar.cmpi .ne v159 v164
  let v166 : BitVec 32 := Scalar.remsi v153 c4_i32
  let c0_i32_85 : BitVec 32 := 0#32
  let v167 : BitVec 1 := Scalar.cmpi .ne v166 c0_i32_85
  let v168 : BitVec 1 := Scalar.andi v165 v167
  let v154 : BitVec 32 := Scalar.divsi v153 c4_i32
  let c1_i32_86 : BitVec 32 := 1#32
  let v169 : BitVec 32 := Scalar.subi v154 c1_i32_86
  let v170 : BitVec 32 := Scalar.select v168 v169 v154
  let v171 : BitVec 32 := Scalar.subi v170 c0_i32_88
  let c1_i32_89 : BitVec 32 := 1#32
  let v173 : BitVec 32 := Scalar.divsi v171 c1_i32_89
  let v174 : BitVec 32 := Scalar.muli v173 c1_i32_89
  let v175 : BitVec 32 := Scalar.addi c0_i32_88 v174
  let c1_i32_91 : BitVec 32 := 1#32
  let arg15 : BitVec 32 := Scf.iv v175 c1_i32_91 k0_t5
  let v258 : BitVec 32 := Scalar.muli c2_i32_141 arg15
  let v259 : BitVec 32 := Scalar.addi v258 c0_i32_142
  let v260 : BitVec 32 := Scalar.muli c2_i32_143 v259
  let v261 : BitVec 32 := Scalar.addi v143 v260
  let v262 : BitVec 32 := Scalar.addi v261 c1_i32_144
  let c512_i32 : BitVec 32 := 512#32
  let v263 : BitVec 32 := Scalar.muli v262 c512_i32
  let v264 : BitVec 32 := v263
  let v265 : Index := Scalar.indexCast v264
  let c0_145 : Index := 0#32
  ![v265.toNat, 0]
def k0_off12 (k0_t1 : Fin k0_t1_loop.trips) (k0_t5 : Fin (k0_t5_loop k0_t1).trips) (c0_i32_142 : BitVec 32) : Fin 3 → Nat :=
  let c8_i32_74 : BitVec 32 := 8#32
  let c0_i32 : BitVec 32 := 0#32
  let c1_i32 : BitVec 32 := 1#32
  let arg14 : BitVec 32 := Scf.iv c0_i32 c1_i32 k0_t1
  let c0_i32_68 : BitVec 32 := 0#32
  let v127 : BitVec 1 := Scalar.cmpi .sgt arg14 c0_i32_68
  let v128 : BitVec 32 := Scalar.extui v127
  let c0_i32_69 : BitVec 32 := 0#32
  let v129 : BitVec 1 := Scalar.cmpi .slt arg14 c0_i32_69
  let v130 : BitVec 32 := Scalar.extui v129
  let v131 : BitVec 32 := Scalar.subi v128 v130
  let c8_i32_67 : BitVec 32 := 8#32
  let c0_i32_70 : BitVec 32 := 0#32
  let v132 : BitVec 1 := Scalar.cmpi .sgt c8_i32_67 c0_i32_70
  let v133 : BitVec 32 := Scalar.extui v132
  let c0_i32_71 : BitVec 32 := 0#32
  let v134 : BitVec 1 := Scalar.cmpi .slt c8_i32_67 c0_i32_71
  let v135 : BitVec 32 := Scalar.extui v134
  let v136 : BitVec 32 := Scalar.subi v133 v135
  let v137 : BitVec 1 := Scalar.cmpi .ne v131 v136
  let v138 : BitVec 32 := Scalar.remsi arg14 c8_i32_67
  let c0_i32_72 : BitVec 32 := 0#32
  let v139 : BitVec 1 := Scalar.cmpi .ne v138 c0_i32_72
  let v140 : BitVec 1 := Scalar.andi v137 v139
  let v126 : BitVec 32 := Scalar.divsi arg14 c8_i32_67
  let c1_i32_73 : BitVec 32 := 1#32
  let v141 : BitVec 32 := Scalar.subi v126 c1_i32_73
  let v142 : BitVec 32 := Scalar.select v140 v141 v126
  let v143 : BitVec 32 := Scalar.muli c8_i32_74 v142
  let c2_i32_143 : BitVec 32 := 2#32
  let c2_i32_141 : BitVec 32 := 2#32
  let c0_i32_88 : BitVec 32 := 0#32
  let c8_i32_75 : BitVec 32 := 8#32
  let c0_i32_76 : BitVec 32 := 0#32
  let v144 : BitVec 1 := Scalar.cmpi .eq c8_i32_75 c0_i32_76
  let c1_i32_77 : BitVec 32 := 1#32
  let v145 : BitVec 32 := Scalar.select v144 c1_i32_77 c8_i32_75
  let v146 : BitVec 32 := Scalar.remsi arg14 v145
  let c0_i32_79 : BitVec 32 := 0#32
  let v148 : BitVec 1 := Scalar.cmpi .slt v146 c0_i32_79
  let c0_i32_80 : BitVec 32 := 0#32
  let v149 : BitVec 1 := Scalar.cmpi .slt v145 c0_i32_80
  let v150 : BitVec 1 := Scalar.xori v148 v149
  let c0_i32_78 : BitVec 32 := 0#32
  let v147 : BitVec 1 := Scalar.cmpi .ne v146 c0_i32_78
  let v151 : BitVec 1 := Scalar.andi v150 v147
  let v152 : BitVec 32 := Scalar.addi v146 v145
  let v153 : BitVec 32 := Scalar.select v151 v152 v146
  let c0_i32_81 : BitVec 32 := 0#32
  let v155 : BitVec 1 := Scalar.cmpi .sgt v153 c0_i32_81
  let v156 : BitVec 32 := Scalar.extui v155
  let c0_i32_82 : BitVec 32 := 0#32
  let v157 : BitVec 1 := Scalar.cmpi .slt v153 c0_i32_82
  let v158 : BitVec 32 := Scalar.extui v157
  let v159 : BitVec 32 := Scalar.subi v156 v158
  let c4_i32 : BitVec 32 := 4#32
  let c0_i32_83 : BitVec 32 := 0#32
  let v160 : BitVec 1 := Scalar.cmpi .sgt c4_i32 c0_i32_83
  let v161 : BitVec 32 := Scalar.extui v160
  let c0_i32_84 : BitVec 32 := 0#32
  let v162 : BitVec 1 := Scalar.cmpi .slt c4_i32 c0_i32_84
  let v163 : BitVec 32 := Scalar.extui v162
  let v164 : BitVec 32 := Scalar.subi v161 v163
  let v165 : BitVec 1 := Scalar.cmpi .ne v159 v164
  let v166 : BitVec 32 := Scalar.remsi v153 c4_i32
  let c0_i32_85 : BitVec 32 := 0#32
  let v167 : BitVec 1 := Scalar.cmpi .ne v166 c0_i32_85
  let v168 : BitVec 1 := Scalar.andi v165 v167
  let v154 : BitVec 32 := Scalar.divsi v153 c4_i32
  let c1_i32_86 : BitVec 32 := 1#32
  let v169 : BitVec 32 := Scalar.subi v154 c1_i32_86
  let v170 : BitVec 32 := Scalar.select v168 v169 v154
  let v171 : BitVec 32 := Scalar.subi v170 c0_i32_88
  let c1_i32_89 : BitVec 32 := 1#32
  let v173 : BitVec 32 := Scalar.divsi v171 c1_i32_89
  let v174 : BitVec 32 := Scalar.muli v173 c1_i32_89
  let v175 : BitVec 32 := Scalar.addi c0_i32_88 v174
  let c1_i32_91 : BitVec 32 := 1#32
  let arg15 : BitVec 32 := Scf.iv v175 c1_i32_91 k0_t5
  let v258 : BitVec 32 := Scalar.muli c2_i32_141 arg15
  let v259 : BitVec 32 := Scalar.addi v258 c0_i32_142
  let v260 : BitVec 32 := Scalar.muli c2_i32_143 v259
  let v261 : BitVec 32 := Scalar.addi v143 v260
  let v280 : Index := Scalar.indexCast v261
  let c0_160 : Index := 0#32
  let c0_161 : Index := 0#32
  ![v280.toNat, 0, 0]
def k0_mult22 (k0_t1 : Fin k0_t1_loop.trips) (k0_t5 : Fin (k0_t5_loop k0_t1).trips) : BitVec 32 :=
  let c8_i32_74 : BitVec 32 := 8#32
  let c0_i32 : BitVec 32 := 0#32
  let c1_i32 : BitVec 32 := 1#32
  let arg14 : BitVec 32 := Scf.iv c0_i32 c1_i32 k0_t1
  let c0_i32_68 : BitVec 32 := 0#32
  let v127 : BitVec 1 := Scalar.cmpi .sgt arg14 c0_i32_68
  let v128 : BitVec 32 := Scalar.extui v127
  let c0_i32_69 : BitVec 32 := 0#32
  let v129 : BitVec 1 := Scalar.cmpi .slt arg14 c0_i32_69
  let v130 : BitVec 32 := Scalar.extui v129
  let v131 : BitVec 32 := Scalar.subi v128 v130
  let c8_i32_67 : BitVec 32 := 8#32
  let c0_i32_70 : BitVec 32 := 0#32
  let v132 : BitVec 1 := Scalar.cmpi .sgt c8_i32_67 c0_i32_70
  let v133 : BitVec 32 := Scalar.extui v132
  let c0_i32_71 : BitVec 32 := 0#32
  let v134 : BitVec 1 := Scalar.cmpi .slt c8_i32_67 c0_i32_71
  let v135 : BitVec 32 := Scalar.extui v134
  let v136 : BitVec 32 := Scalar.subi v133 v135
  let v137 : BitVec 1 := Scalar.cmpi .ne v131 v136
  let v138 : BitVec 32 := Scalar.remsi arg14 c8_i32_67
  let c0_i32_72 : BitVec 32 := 0#32
  let v139 : BitVec 1 := Scalar.cmpi .ne v138 c0_i32_72
  let v140 : BitVec 1 := Scalar.andi v137 v139
  let v126 : BitVec 32 := Scalar.divsi arg14 c8_i32_67
  let c1_i32_73 : BitVec 32 := 1#32
  let v141 : BitVec 32 := Scalar.subi v126 c1_i32_73
  let v142 : BitVec 32 := Scalar.select v140 v141 v126
  let v143 : BitVec 32 := Scalar.muli c8_i32_74 v142
  let c2_i32_143 : BitVec 32 := 2#32
  let c2_i32_141 : BitVec 32 := 2#32
  let c0_i32_88 : BitVec 32 := 0#32
  let c8_i32_75 : BitVec 32 := 8#32
  let c0_i32_76 : BitVec 32 := 0#32
  let v144 : BitVec 1 := Scalar.cmpi .eq c8_i32_75 c0_i32_76
  let c1_i32_77 : BitVec 32 := 1#32
  let v145 : BitVec 32 := Scalar.select v144 c1_i32_77 c8_i32_75
  let v146 : BitVec 32 := Scalar.remsi arg14 v145
  let c0_i32_79 : BitVec 32 := 0#32
  let v148 : BitVec 1 := Scalar.cmpi .slt v146 c0_i32_79
  let c0_i32_80 : BitVec 32 := 0#32
  let v149 : BitVec 1 := Scalar.cmpi .slt v145 c0_i32_80
  let v150 : BitVec 1 := Scalar.xori v148 v149
  let c0_i32_78 : BitVec 32 := 0#32
  let v147 : BitVec 1 := Scalar.cmpi .ne v146 c0_i32_78
  let v151 : BitVec 1 := Scalar.andi v150 v147
  let v152 : BitVec 32 := Scalar.addi v146 v145
  let v153 : BitVec 32 := Scalar.select v151 v152 v146
  let c0_i32_81 : BitVec 32 := 0#32
  let v155 : BitVec 1 := Scalar.cmpi .sgt v153 c0_i32_81
  let v156 : BitVec 32 := Scalar.extui v155
  let c0_i32_82 : BitVec 32 := 0#32
  let v157 : BitVec 1 := Scalar.cmpi .slt v153 c0_i32_82
  let v158 : BitVec 32 := Scalar.extui v157
  let v159 : BitVec 32 := Scalar.subi v156 v158
  let c4_i32 : BitVec 32 := 4#32
  let c0_i32_83 : BitVec 32 := 0#32
  let v160 : BitVec 1 := Scalar.cmpi .sgt c4_i32 c0_i32_83
  let v161 : BitVec 32 := Scalar.extui v160
  let c0_i32_84 : BitVec 32 := 0#32
  let v162 : BitVec 1 := Scalar.cmpi .slt c4_i32 c0_i32_84
  let v163 : BitVec 32 := Scalar.extui v162
  let v164 : BitVec 32 := Scalar.subi v161 v163
  let v165 : BitVec 1 := Scalar.cmpi .ne v159 v164
  let v166 : BitVec 32 := Scalar.remsi v153 c4_i32
  let c0_i32_85 : BitVec 32 := 0#32
  let v167 : BitVec 1 := Scalar.cmpi .ne v166 c0_i32_85
  let v168 : BitVec 1 := Scalar.andi v165 v167
  let v154 : BitVec 32 := Scalar.divsi v153 c4_i32
  let c1_i32_86 : BitVec 32 := 1#32
  let v169 : BitVec 32 := Scalar.subi v154 c1_i32_86
  let v170 : BitVec 32 := Scalar.select v168 v169 v154
  let v171 : BitVec 32 := Scalar.subi v170 c0_i32_88
  let c1_i32_89 : BitVec 32 := 1#32
  let v173 : BitVec 32 := Scalar.divsi v171 c1_i32_89
  let v174 : BitVec 32 := Scalar.muli v173 c1_i32_89
  let v175 : BitVec 32 := Scalar.addi c0_i32_88 v174
  let c1_i32_91 : BitVec 32 := 1#32
  let arg15 : BitVec 32 := Scf.iv v175 c1_i32_91 k0_t5
  let v258 : BitVec 32 := Scalar.muli c2_i32_141 arg15
  let c0_i32_142 : BitVec 32 := 0#32
  let v259 : BitVec 32 := Scalar.addi v258 c0_i32_142
  let v260 : BitVec 32 := Scalar.muli c2_i32_143 v259
  let v261 : BitVec 32 := Scalar.addi v143 v260
  let c2_i32_196 : BitVec 32 := 2#32
  let v334 : BitVec 32 := Scalar.addi v261 c2_i32_196
  let c512_i32_197 : BitVec 32 := 512#32
  let v335 : BitVec 32 := Scalar.muli v334 c512_i32_197
  v335
def k0_off13 (k0_t1 : Fin k0_t1_loop.trips) (k0_t5 : Fin (k0_t5_loop k0_t1).trips) (c0_i32_142 : BitVec 32) : Fin 3 → Nat :=
  let c8_i32_74 : BitVec 32 := 8#32
  let c0_i32 : BitVec 32 := 0#32
  let c1_i32 : BitVec 32 := 1#32
  let arg14 : BitVec 32 := Scf.iv c0_i32 c1_i32 k0_t1
  let c0_i32_68 : BitVec 32 := 0#32
  let v127 : BitVec 1 := Scalar.cmpi .sgt arg14 c0_i32_68
  let v128 : BitVec 32 := Scalar.extui v127
  let c0_i32_69 : BitVec 32 := 0#32
  let v129 : BitVec 1 := Scalar.cmpi .slt arg14 c0_i32_69
  let v130 : BitVec 32 := Scalar.extui v129
  let v131 : BitVec 32 := Scalar.subi v128 v130
  let c8_i32_67 : BitVec 32 := 8#32
  let c0_i32_70 : BitVec 32 := 0#32
  let v132 : BitVec 1 := Scalar.cmpi .sgt c8_i32_67 c0_i32_70
  let v133 : BitVec 32 := Scalar.extui v132
  let c0_i32_71 : BitVec 32 := 0#32
  let v134 : BitVec 1 := Scalar.cmpi .slt c8_i32_67 c0_i32_71
  let v135 : BitVec 32 := Scalar.extui v134
  let v136 : BitVec 32 := Scalar.subi v133 v135
  let v137 : BitVec 1 := Scalar.cmpi .ne v131 v136
  let v138 : BitVec 32 := Scalar.remsi arg14 c8_i32_67
  let c0_i32_72 : BitVec 32 := 0#32
  let v139 : BitVec 1 := Scalar.cmpi .ne v138 c0_i32_72
  let v140 : BitVec 1 := Scalar.andi v137 v139
  let v126 : BitVec 32 := Scalar.divsi arg14 c8_i32_67
  let c1_i32_73 : BitVec 32 := 1#32
  let v141 : BitVec 32 := Scalar.subi v126 c1_i32_73
  let v142 : BitVec 32 := Scalar.select v140 v141 v126
  let v143 : BitVec 32 := Scalar.muli c8_i32_74 v142
  let c2_i32_143 : BitVec 32 := 2#32
  let c2_i32_141 : BitVec 32 := 2#32
  let c0_i32_88 : BitVec 32 := 0#32
  let c8_i32_75 : BitVec 32 := 8#32
  let c0_i32_76 : BitVec 32 := 0#32
  let v144 : BitVec 1 := Scalar.cmpi .eq c8_i32_75 c0_i32_76
  let c1_i32_77 : BitVec 32 := 1#32
  let v145 : BitVec 32 := Scalar.select v144 c1_i32_77 c8_i32_75
  let v146 : BitVec 32 := Scalar.remsi arg14 v145
  let c0_i32_79 : BitVec 32 := 0#32
  let v148 : BitVec 1 := Scalar.cmpi .slt v146 c0_i32_79
  let c0_i32_80 : BitVec 32 := 0#32
  let v149 : BitVec 1 := Scalar.cmpi .slt v145 c0_i32_80
  let v150 : BitVec 1 := Scalar.xori v148 v149
  let c0_i32_78 : BitVec 32 := 0#32
  let v147 : BitVec 1 := Scalar.cmpi .ne v146 c0_i32_78
  let v151 : BitVec 1 := Scalar.andi v150 v147
  let v152 : BitVec 32 := Scalar.addi v146 v145
  let v153 : BitVec 32 := Scalar.select v151 v152 v146
  let c0_i32_81 : BitVec 32 := 0#32
  let v155 : BitVec 1 := Scalar.cmpi .sgt v153 c0_i32_81
  let v156 : BitVec 32 := Scalar.extui v155
  let c0_i32_82 : BitVec 32 := 0#32
  let v157 : BitVec 1 := Scalar.cmpi .slt v153 c0_i32_82
  let v158 : BitVec 32 := Scalar.extui v157
  let v159 : BitVec 32 := Scalar.subi v156 v158
  let c4_i32 : BitVec 32 := 4#32
  let c0_i32_83 : BitVec 32 := 0#32
  let v160 : BitVec 1 := Scalar.cmpi .sgt c4_i32 c0_i32_83
  let v161 : BitVec 32 := Scalar.extui v160
  let c0_i32_84 : BitVec 32 := 0#32
  let v162 : BitVec 1 := Scalar.cmpi .slt c4_i32 c0_i32_84
  let v163 : BitVec 32 := Scalar.extui v162
  let v164 : BitVec 32 := Scalar.subi v161 v163
  let v165 : BitVec 1 := Scalar.cmpi .ne v159 v164
  let v166 : BitVec 32 := Scalar.remsi v153 c4_i32
  let c0_i32_85 : BitVec 32 := 0#32
  let v167 : BitVec 1 := Scalar.cmpi .ne v166 c0_i32_85
  let v168 : BitVec 1 := Scalar.andi v165 v167
  let v154 : BitVec 32 := Scalar.divsi v153 c4_i32
  let c1_i32_86 : BitVec 32 := 1#32
  let v169 : BitVec 32 := Scalar.subi v154 c1_i32_86
  let v170 : BitVec 32 := Scalar.select v168 v169 v154
  let v171 : BitVec 32 := Scalar.subi v170 c0_i32_88
  let c1_i32_89 : BitVec 32 := 1#32
  let v173 : BitVec 32 := Scalar.divsi v171 c1_i32_89
  let v174 : BitVec 32 := Scalar.muli v173 c1_i32_89
  let v175 : BitVec 32 := Scalar.addi c0_i32_88 v174
  let c1_i32_91 : BitVec 32 := 1#32
  let arg15 : BitVec 32 := Scf.iv v175 c1_i32_91 k0_t5
  let v258 : BitVec 32 := Scalar.muli c2_i32_141 arg15
  let v259 : BitVec 32 := Scalar.addi v258 c0_i32_142
  let v260 : BitVec 32 := Scalar.muli c2_i32_143 v259
  let v261 : BitVec 32 := Scalar.addi v143 v260
  let c1_i32_213 : BitVec 32 := 1#32
  let v352 : BitVec 32 := Scalar.addi v261 c1_i32_213
  let v353 : Index := Scalar.indexCast v352
  let c0_214 : Index := 0#32
  let c0_215 : Index := 0#32
  ![v353.toNat, 0, 0]
def k0_mult23 (k0_t1 : Fin k0_t1_loop.trips) (k0_t5 : Fin (k0_t5_loop k0_t1).trips) : BitVec 32 :=
  let c8_i32_74 : BitVec 32 := 8#32
  let c0_i32 : BitVec 32 := 0#32
  let c1_i32 : BitVec 32 := 1#32
  let arg14 : BitVec 32 := Scf.iv c0_i32 c1_i32 k0_t1
  let c0_i32_68 : BitVec 32 := 0#32
  let v127 : BitVec 1 := Scalar.cmpi .sgt arg14 c0_i32_68
  let v128 : BitVec 32 := Scalar.extui v127
  let c0_i32_69 : BitVec 32 := 0#32
  let v129 : BitVec 1 := Scalar.cmpi .slt arg14 c0_i32_69
  let v130 : BitVec 32 := Scalar.extui v129
  let v131 : BitVec 32 := Scalar.subi v128 v130
  let c8_i32_67 : BitVec 32 := 8#32
  let c0_i32_70 : BitVec 32 := 0#32
  let v132 : BitVec 1 := Scalar.cmpi .sgt c8_i32_67 c0_i32_70
  let v133 : BitVec 32 := Scalar.extui v132
  let c0_i32_71 : BitVec 32 := 0#32
  let v134 : BitVec 1 := Scalar.cmpi .slt c8_i32_67 c0_i32_71
  let v135 : BitVec 32 := Scalar.extui v134
  let v136 : BitVec 32 := Scalar.subi v133 v135
  let v137 : BitVec 1 := Scalar.cmpi .ne v131 v136
  let v138 : BitVec 32 := Scalar.remsi arg14 c8_i32_67
  let c0_i32_72 : BitVec 32 := 0#32
  let v139 : BitVec 1 := Scalar.cmpi .ne v138 c0_i32_72
  let v140 : BitVec 1 := Scalar.andi v137 v139
  let v126 : BitVec 32 := Scalar.divsi arg14 c8_i32_67
  let c1_i32_73 : BitVec 32 := 1#32
  let v141 : BitVec 32 := Scalar.subi v126 c1_i32_73
  let v142 : BitVec 32 := Scalar.select v140 v141 v126
  let v143 : BitVec 32 := Scalar.muli c8_i32_74 v142
  let c2_i32_252 : BitVec 32 := 2#32
  let c2_i32_250 : BitVec 32 := 2#32
  let c0_i32_88 : BitVec 32 := 0#32
  let c8_i32_75 : BitVec 32 := 8#32
  let c0_i32_76 : BitVec 32 := 0#32
  let v144 : BitVec 1 := Scalar.cmpi .eq c8_i32_75 c0_i32_76
  let c1_i32_77 : BitVec 32 := 1#32
  let v145 : BitVec 32 := Scalar.select v144 c1_i32_77 c8_i32_75
  let v146 : BitVec 32 := Scalar.remsi arg14 v145
  let c0_i32_79 : BitVec 32 := 0#32
  let v148 : BitVec 1 := Scalar.cmpi .slt v146 c0_i32_79
  let c0_i32_80 : BitVec 32 := 0#32
  let v149 : BitVec 1 := Scalar.cmpi .slt v145 c0_i32_80
  let v150 : BitVec 1 := Scalar.xori v148 v149
  let c0_i32_78 : BitVec 32 := 0#32
  let v147 : BitVec 1 := Scalar.cmpi .ne v146 c0_i32_78
  let v151 : BitVec 1 := Scalar.andi v150 v147
  let v152 : BitVec 32 := Scalar.addi v146 v145
  let v153 : BitVec 32 := Scalar.select v151 v152 v146
  let c0_i32_81 : BitVec 32 := 0#32
  let v155 : BitVec 1 := Scalar.cmpi .sgt v153 c0_i32_81
  let v156 : BitVec 32 := Scalar.extui v155
  let c0_i32_82 : BitVec 32 := 0#32
  let v157 : BitVec 1 := Scalar.cmpi .slt v153 c0_i32_82
  let v158 : BitVec 32 := Scalar.extui v157
  let v159 : BitVec 32 := Scalar.subi v156 v158
  let c4_i32 : BitVec 32 := 4#32
  let c0_i32_83 : BitVec 32 := 0#32
  let v160 : BitVec 1 := Scalar.cmpi .sgt c4_i32 c0_i32_83
  let v161 : BitVec 32 := Scalar.extui v160
  let c0_i32_84 : BitVec 32 := 0#32
  let v162 : BitVec 1 := Scalar.cmpi .slt c4_i32 c0_i32_84
  let v163 : BitVec 32 := Scalar.extui v162
  let v164 : BitVec 32 := Scalar.subi v161 v163
  let v165 : BitVec 1 := Scalar.cmpi .ne v159 v164
  let v166 : BitVec 32 := Scalar.remsi v153 c4_i32
  let c0_i32_85 : BitVec 32 := 0#32
  let v167 : BitVec 1 := Scalar.cmpi .ne v166 c0_i32_85
  let v168 : BitVec 1 := Scalar.andi v165 v167
  let v154 : BitVec 32 := Scalar.divsi v153 c4_i32
  let c1_i32_86 : BitVec 32 := 1#32
  let v169 : BitVec 32 := Scalar.subi v154 c1_i32_86
  let v170 : BitVec 32 := Scalar.select v168 v169 v154
  let v171 : BitVec 32 := Scalar.subi v170 c0_i32_88
  let c1_i32_89 : BitVec 32 := 1#32
  let v173 : BitVec 32 := Scalar.divsi v171 c1_i32_89
  let v174 : BitVec 32 := Scalar.muli v173 c1_i32_89
  let v175 : BitVec 32 := Scalar.addi c0_i32_88 v174
  let c1_i32_91 : BitVec 32 := 1#32
  let arg15 : BitVec 32 := Scf.iv v175 c1_i32_91 k0_t5
  let v407 : BitVec 32 := Scalar.muli c2_i32_250 arg15
  let c1_i32_251 : BitVec 32 := 1#32
  let v408 : BitVec 32 := Scalar.addi v407 c1_i32_251
  let v409 : BitVec 32 := Scalar.muli c2_i32_252 v408
  let v410 : BitVec 32 := Scalar.addi v143 v409
  let c1_i32_253 : BitVec 32 := 1#32
  let v411 : BitVec 32 := Scalar.addi v410 c1_i32_253
  let c512_i32_254 : BitVec 32 := 512#32
  let v412 : BitVec 32 := Scalar.muli v411 c512_i32_254
  v412
def k0_mult24 (k0_t1 : Fin k0_t1_loop.trips) (k0_t5 : Fin (k0_t5_loop k0_t1).trips) : BitVec 32 :=
  let c8_i32_74 : BitVec 32 := 8#32
  let c0_i32 : BitVec 32 := 0#32
  let c1_i32 : BitVec 32 := 1#32
  let arg14 : BitVec 32 := Scf.iv c0_i32 c1_i32 k0_t1
  let c0_i32_68 : BitVec 32 := 0#32
  let v127 : BitVec 1 := Scalar.cmpi .sgt arg14 c0_i32_68
  let v128 : BitVec 32 := Scalar.extui v127
  let c0_i32_69 : BitVec 32 := 0#32
  let v129 : BitVec 1 := Scalar.cmpi .slt arg14 c0_i32_69
  let v130 : BitVec 32 := Scalar.extui v129
  let v131 : BitVec 32 := Scalar.subi v128 v130
  let c8_i32_67 : BitVec 32 := 8#32
  let c0_i32_70 : BitVec 32 := 0#32
  let v132 : BitVec 1 := Scalar.cmpi .sgt c8_i32_67 c0_i32_70
  let v133 : BitVec 32 := Scalar.extui v132
  let c0_i32_71 : BitVec 32 := 0#32
  let v134 : BitVec 1 := Scalar.cmpi .slt c8_i32_67 c0_i32_71
  let v135 : BitVec 32 := Scalar.extui v134
  let v136 : BitVec 32 := Scalar.subi v133 v135
  let v137 : BitVec 1 := Scalar.cmpi .ne v131 v136
  let v138 : BitVec 32 := Scalar.remsi arg14 c8_i32_67
  let c0_i32_72 : BitVec 32 := 0#32
  let v139 : BitVec 1 := Scalar.cmpi .ne v138 c0_i32_72
  let v140 : BitVec 1 := Scalar.andi v137 v139
  let v126 : BitVec 32 := Scalar.divsi arg14 c8_i32_67
  let c1_i32_73 : BitVec 32 := 1#32
  let v141 : BitVec 32 := Scalar.subi v126 c1_i32_73
  let v142 : BitVec 32 := Scalar.select v140 v141 v126
  let v143 : BitVec 32 := Scalar.muli c8_i32_74 v142
  let c2_i32_252 : BitVec 32 := 2#32
  let c2_i32_250 : BitVec 32 := 2#32
  let c0_i32_88 : BitVec 32 := 0#32
  let c8_i32_75 : BitVec 32 := 8#32
  let c0_i32_76 : BitVec 32 := 0#32
  let v144 : BitVec 1 := Scalar.cmpi .eq c8_i32_75 c0_i32_76
  let c1_i32_77 : BitVec 32 := 1#32
  let v145 : BitVec 32 := Scalar.select v144 c1_i32_77 c8_i32_75
  let v146 : BitVec 32 := Scalar.remsi arg14 v145
  let c0_i32_79 : BitVec 32 := 0#32
  let v148 : BitVec 1 := Scalar.cmpi .slt v146 c0_i32_79
  let c0_i32_80 : BitVec 32 := 0#32
  let v149 : BitVec 1 := Scalar.cmpi .slt v145 c0_i32_80
  let v150 : BitVec 1 := Scalar.xori v148 v149
  let c0_i32_78 : BitVec 32 := 0#32
  let v147 : BitVec 1 := Scalar.cmpi .ne v146 c0_i32_78
  let v151 : BitVec 1 := Scalar.andi v150 v147
  let v152 : BitVec 32 := Scalar.addi v146 v145
  let v153 : BitVec 32 := Scalar.select v151 v152 v146
  let c0_i32_81 : BitVec 32 := 0#32
  let v155 : BitVec 1 := Scalar.cmpi .sgt v153 c0_i32_81
  let v156 : BitVec 32 := Scalar.extui v155
  let c0_i32_82 : BitVec 32 := 0#32
  let v157 : BitVec 1 := Scalar.cmpi .slt v153 c0_i32_82
  let v158 : BitVec 32 := Scalar.extui v157
  let v159 : BitVec 32 := Scalar.subi v156 v158
  let c4_i32 : BitVec 32 := 4#32
  let c0_i32_83 : BitVec 32 := 0#32
  let v160 : BitVec 1 := Scalar.cmpi .sgt c4_i32 c0_i32_83
  let v161 : BitVec 32 := Scalar.extui v160
  let c0_i32_84 : BitVec 32 := 0#32
  let v162 : BitVec 1 := Scalar.cmpi .slt c4_i32 c0_i32_84
  let v163 : BitVec 32 := Scalar.extui v162
  let v164 : BitVec 32 := Scalar.subi v161 v163
  let v165 : BitVec 1 := Scalar.cmpi .ne v159 v164
  let v166 : BitVec 32 := Scalar.remsi v153 c4_i32
  let c0_i32_85 : BitVec 32 := 0#32
  let v167 : BitVec 1 := Scalar.cmpi .ne v166 c0_i32_85
  let v168 : BitVec 1 := Scalar.andi v165 v167
  let v154 : BitVec 32 := Scalar.divsi v153 c4_i32
  let c1_i32_86 : BitVec 32 := 1#32
  let v169 : BitVec 32 := Scalar.subi v154 c1_i32_86
  let v170 : BitVec 32 := Scalar.select v168 v169 v154
  let v171 : BitVec 32 := Scalar.subi v170 c0_i32_88
  let c1_i32_89 : BitVec 32 := 1#32
  let v173 : BitVec 32 := Scalar.divsi v171 c1_i32_89
  let v174 : BitVec 32 := Scalar.muli v173 c1_i32_89
  let v175 : BitVec 32 := Scalar.addi c0_i32_88 v174
  let c1_i32_91 : BitVec 32 := 1#32
  let arg15 : BitVec 32 := Scf.iv v175 c1_i32_91 k0_t5
  let v407 : BitVec 32 := Scalar.muli c2_i32_250 arg15
  let c1_i32_251 : BitVec 32 := 1#32
  let v408 : BitVec 32 := Scalar.addi v407 c1_i32_251
  let v409 : BitVec 32 := Scalar.muli c2_i32_252 v408
  let v410 : BitVec 32 := Scalar.addi v143 v409
  let c2_i32_306 : BitVec 32 := 2#32
  let v483 : BitVec 32 := Scalar.addi v410 c2_i32_306
  let c512_i32_307 : BitVec 32 := 512#32
  let v484 : BitVec 32 := Scalar.muli v483 c512_i32_307
  v484
@[reducible] def k0_t6_loop (k0_t1 : Fin k0_t1_loop.trips) : Scf.Loop 32 :=
  let c0_i32_113 : BitVec 32 := 0#32
  let c0_i32 : BitVec 32 := 0#32
  let c1_i32 : BitVec 32 := 1#32
  let arg14 : BitVec 32 := Scf.iv c0_i32 c1_i32 k0_t1
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi arg14 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c0_i32_106 : BitVec 32 := 0#32
  let v205 : BitVec 1 := Scalar.cmpi .sgt v203 c0_i32_106
  let v206 : BitVec 32 := Scalar.extui v205
  let c0_i32_107 : BitVec 32 := 0#32
  let v207 : BitVec 1 := Scalar.cmpi .slt v203 c0_i32_107
  let v208 : BitVec 32 := Scalar.extui v207
  let v209 : BitVec 32 := Scalar.subi v206 v208
  let c2_i32 : BitVec 32 := 2#32
  let c0_i32_108 : BitVec 32 := 0#32
  let v210 : BitVec 1 := Scalar.cmpi .sgt c2_i32 c0_i32_108
  let v211 : BitVec 32 := Scalar.extui v210
  let c0_i32_109 : BitVec 32 := 0#32
  let v212 : BitVec 1 := Scalar.cmpi .slt c2_i32 c0_i32_109
  let v213 : BitVec 32 := Scalar.extui v212
  let v214 : BitVec 32 := Scalar.subi v211 v213
  let v215 : BitVec 1 := Scalar.cmpi .ne v209 v214
  let v216 : BitVec 32 := Scalar.remsi v203 c2_i32
  let c0_i32_110 : BitVec 32 := 0#32
  let v217 : BitVec 1 := Scalar.cmpi .ne v216 c0_i32_110
  let v218 : BitVec 1 := Scalar.andi v215 v217
  let v204 : BitVec 32 := Scalar.divsi v203 c2_i32
  let c1_i32_111 : BitVec 32 := 1#32
  let v219 : BitVec 32 := Scalar.subi v204 c1_i32_111
  let v220 : BitVec 32 := Scalar.select v218 v219 v204
  let v221 : BitVec 32 := Scalar.subi v220 c0_i32_113
  let c1_i32_114 : BitVec 32 := 1#32
  let v223 : BitVec 32 := Scalar.divsi v221 c1_i32_114
  let v224 : BitVec 32 := Scalar.muli v223 c1_i32_114
  let v225 : BitVec 32 := Scalar.addi c0_i32_113 v224
  let c1_i32_115 : BitVec 32 := 1#32
  ⟨c0_i32_113, v225, c1_i32_115⟩
def k0_mult25 (k0_t1 : Fin k0_t1_loop.trips) (k0_t6 : Fin (k0_t6_loop k0_t1).trips) : BitVec 32 :=
  let c4_i32_99 : BitVec 32 := 4#32
  let c0_i32 : BitVec 32 := 0#32
  let c1_i32 : BitVec 32 := 1#32
  let arg14 : BitVec 32 := Scf.iv c0_i32 c1_i32 k0_t1
  let c0_i32_93 : BitVec 32 := 0#32
  let v177 : BitVec 1 := Scalar.cmpi .sgt arg14 c0_i32_93
  let v178 : BitVec 32 := Scalar.extui v177
  let c0_i32_94 : BitVec 32 := 0#32
  let v179 : BitVec 1 := Scalar.cmpi .slt arg14 c0_i32_94
  let v180 : BitVec 32 := Scalar.extui v179
  let v181 : BitVec 32 := Scalar.subi v178 v180
  let c4_i32_92 : BitVec 32 := 4#32
  let c0_i32_95 : BitVec 32 := 0#32
  let v182 : BitVec 1 := Scalar.cmpi .sgt c4_i32_92 c0_i32_95
  let v183 : BitVec 32 := Scalar.extui v182
  let c0_i32_96 : BitVec 32 := 0#32
  let v184 : BitVec 1 := Scalar.cmpi .slt c4_i32_92 c0_i32_96
  let v185 : BitVec 32 := Scalar.extui v184
  let v186 : BitVec 32 := Scalar.subi v183 v185
  let v187 : BitVec 1 := Scalar.cmpi .ne v181 v186
  let v188 : BitVec 32 := Scalar.remsi arg14 c4_i32_92
  let c0_i32_97 : BitVec 32 := 0#32
  let v189 : BitVec 1 := Scalar.cmpi .ne v188 c0_i32_97
  let v190 : BitVec 1 := Scalar.andi v187 v189
  let v176 : BitVec 32 := Scalar.divsi arg14 c4_i32_92
  let c1_i32_98 : BitVec 32 := 1#32
  let v191 : BitVec 32 := Scalar.subi v176 c1_i32_98
  let v192 : BitVec 32 := Scalar.select v190 v191 v176
  let v193 : BitVec 32 := Scalar.muli c4_i32_99 v192
  let c2_i32_143 : BitVec 32 := 2#32
  let c1_i32_141 : BitVec 32 := 1#32
  let c0_i32_113 : BitVec 32 := 0#32
  let c1_i32_115 : BitVec 32 := 1#32
  let arg15 : BitVec 32 := Scf.iv c0_i32_113 c1_i32_115 k0_t6
  let v258 : BitVec 32 := Scalar.muli c1_i32_141 arg15
  let c0_i32_142 : BitVec 32 := 0#32
  let v259 : BitVec 32 := Scalar.addi v258 c0_i32_142
  let v260 : BitVec 32 := Scalar.muli c2_i32_143 v259
  let v261 : BitVec 32 := Scalar.addi v193 v260
  let c1_i32_144 : BitVec 32 := 1#32
  let v262 : BitVec 32 := Scalar.addi v261 c1_i32_144
  let c512_i32 : BitVec 32 := 512#32
  let v263 : BitVec 32 := Scalar.muli v262 c512_i32
  v263
def k0_off14 (k0_t1 : Fin k0_t1_loop.trips) (k0_t6 : Fin (k0_t6_loop k0_t1).trips) (c1_i32_144 : BitVec 32) : Fin 2 → Nat :=
  let c4_i32_99 : BitVec 32 := 4#32
  let c0_i32 : BitVec 32 := 0#32
  let c1_i32 : BitVec 32 := 1#32
  let arg14 : BitVec 32 := Scf.iv c0_i32 c1_i32 k0_t1
  let c0_i32_93 : BitVec 32 := 0#32
  let v177 : BitVec 1 := Scalar.cmpi .sgt arg14 c0_i32_93
  let v178 : BitVec 32 := Scalar.extui v177
  let c0_i32_94 : BitVec 32 := 0#32
  let v179 : BitVec 1 := Scalar.cmpi .slt arg14 c0_i32_94
  let v180 : BitVec 32 := Scalar.extui v179
  let v181 : BitVec 32 := Scalar.subi v178 v180
  let c4_i32_92 : BitVec 32 := 4#32
  let c0_i32_95 : BitVec 32 := 0#32
  let v182 : BitVec 1 := Scalar.cmpi .sgt c4_i32_92 c0_i32_95
  let v183 : BitVec 32 := Scalar.extui v182
  let c0_i32_96 : BitVec 32 := 0#32
  let v184 : BitVec 1 := Scalar.cmpi .slt c4_i32_92 c0_i32_96
  let v185 : BitVec 32 := Scalar.extui v184
  let v186 : BitVec 32 := Scalar.subi v183 v185
  let v187 : BitVec 1 := Scalar.cmpi .ne v181 v186
  let v188 : BitVec 32 := Scalar.remsi arg14 c4_i32_92
  let c0_i32_97 : BitVec 32 := 0#32
  let v189 : BitVec 1 := Scalar.cmpi .ne v188 c0_i32_97
  let v190 : BitVec 1 := Scalar.andi v187 v189
  let v176 : BitVec 32 := Scalar.divsi arg14 c4_i32_92
  let c1_i32_98 : BitVec 32 := 1#32
  let v191 : BitVec 32 := Scalar.subi v176 c1_i32_98
  let v192 : BitVec 32 := Scalar.select v190 v191 v176
  let v193 : BitVec 32 := Scalar.muli c4_i32_99 v192
  let c2_i32_143 : BitVec 32 := 2#32
  let c1_i32_141 : BitVec 32 := 1#32
  let c0_i32_113 : BitVec 32 := 0#32
  let c1_i32_115 : BitVec 32 := 1#32
  let arg15 : BitVec 32 := Scf.iv c0_i32_113 c1_i32_115 k0_t6
  let v258 : BitVec 32 := Scalar.muli c1_i32_141 arg15
  let c0_i32_142 : BitVec 32 := 0#32
  let v259 : BitVec 32 := Scalar.addi v258 c0_i32_142
  let v260 : BitVec 32 := Scalar.muli c2_i32_143 v259
  let v261 : BitVec 32 := Scalar.addi v193 v260
  let v262 : BitVec 32 := Scalar.addi v261 c1_i32_144
  let c512_i32 : BitVec 32 := 512#32
  let v263 : BitVec 32 := Scalar.muli v262 c512_i32
  let v264 : BitVec 32 := v263
  let v265 : Index := Scalar.indexCast v264
  let c0_145 : Index := 0#32
  ![v265.toNat, 0]
def k0_off15 (k0_t1 : Fin k0_t1_loop.trips) (k0_t6 : Fin (k0_t6_loop k0_t1).trips) : Fin 3 → Nat :=
  let c4_i32_99 : BitVec 32 := 4#32
  let c0_i32 : BitVec 32 := 0#32
  let c1_i32 : BitVec 32 := 1#32
  let arg14 : BitVec 32 := Scf.iv c0_i32 c1_i32 k0_t1
  let c0_i32_93 : BitVec 32 := 0#32
  let v177 : BitVec 1 := Scalar.cmpi .sgt arg14 c0_i32_93
  let v178 : BitVec 32 := Scalar.extui v177
  let c0_i32_94 : BitVec 32 := 0#32
  let v179 : BitVec 1 := Scalar.cmpi .slt arg14 c0_i32_94
  let v180 : BitVec 32 := Scalar.extui v179
  let v181 : BitVec 32 := Scalar.subi v178 v180
  let c4_i32_92 : BitVec 32 := 4#32
  let c0_i32_95 : BitVec 32 := 0#32
  let v182 : BitVec 1 := Scalar.cmpi .sgt c4_i32_92 c0_i32_95
  let v183 : BitVec 32 := Scalar.extui v182
  let c0_i32_96 : BitVec 32 := 0#32
  let v184 : BitVec 1 := Scalar.cmpi .slt c4_i32_92 c0_i32_96
  let v185 : BitVec 32 := Scalar.extui v184
  let v186 : BitVec 32 := Scalar.subi v183 v185
  let v187 : BitVec 1 := Scalar.cmpi .ne v181 v186
  let v188 : BitVec 32 := Scalar.remsi arg14 c4_i32_92
  let c0_i32_97 : BitVec 32 := 0#32
  let v189 : BitVec 1 := Scalar.cmpi .ne v188 c0_i32_97
  let v190 : BitVec 1 := Scalar.andi v187 v189
  let v176 : BitVec 32 := Scalar.divsi arg14 c4_i32_92
  let c1_i32_98 : BitVec 32 := 1#32
  let v191 : BitVec 32 := Scalar.subi v176 c1_i32_98
  let v192 : BitVec 32 := Scalar.select v190 v191 v176
  let v193 : BitVec 32 := Scalar.muli c4_i32_99 v192
  let c2_i32_143 : BitVec 32 := 2#32
  let c1_i32_141 : BitVec 32 := 1#32
  let c0_i32_113 : BitVec 32 := 0#32
  let c1_i32_115 : BitVec 32 := 1#32
  let arg15 : BitVec 32 := Scf.iv c0_i32_113 c1_i32_115 k0_t6
  let v258 : BitVec 32 := Scalar.muli c1_i32_141 arg15
  let c0_i32_142 : BitVec 32 := 0#32
  let v259 : BitVec 32 := Scalar.addi v258 c0_i32_142
  let v260 : BitVec 32 := Scalar.muli c2_i32_143 v259
  let v261 : BitVec 32 := Scalar.addi v193 v260
  let v280 : Index := Scalar.indexCast v261
  let c0_160 : Index := 0#32
  let c0_161 : Index := 0#32
  ![v280.toNat, 0, 0]
def k0_mult26 (k0_t1 : Fin k0_t1_loop.trips) (k0_t6 : Fin (k0_t6_loop k0_t1).trips) : BitVec 32 :=
  let c4_i32_99 : BitVec 32 := 4#32
  let c0_i32 : BitVec 32 := 0#32
  let c1_i32 : BitVec 32 := 1#32
  let arg14 : BitVec 32 := Scf.iv c0_i32 c1_i32 k0_t1
  let c0_i32_93 : BitVec 32 := 0#32
  let v177 : BitVec 1 := Scalar.cmpi .sgt arg14 c0_i32_93
  let v178 : BitVec 32 := Scalar.extui v177
  let c0_i32_94 : BitVec 32 := 0#32
  let v179 : BitVec 1 := Scalar.cmpi .slt arg14 c0_i32_94
  let v180 : BitVec 32 := Scalar.extui v179
  let v181 : BitVec 32 := Scalar.subi v178 v180
  let c4_i32_92 : BitVec 32 := 4#32
  let c0_i32_95 : BitVec 32 := 0#32
  let v182 : BitVec 1 := Scalar.cmpi .sgt c4_i32_92 c0_i32_95
  let v183 : BitVec 32 := Scalar.extui v182
  let c0_i32_96 : BitVec 32 := 0#32
  let v184 : BitVec 1 := Scalar.cmpi .slt c4_i32_92 c0_i32_96
  let v185 : BitVec 32 := Scalar.extui v184
  let v186 : BitVec 32 := Scalar.subi v183 v185
  let v187 : BitVec 1 := Scalar.cmpi .ne v181 v186
  let v188 : BitVec 32 := Scalar.remsi arg14 c4_i32_92
  let c0_i32_97 : BitVec 32 := 0#32
  let v189 : BitVec 1 := Scalar.cmpi .ne v188 c0_i32_97
  let v190 : BitVec 1 := Scalar.andi v187 v189
  let v176 : BitVec 32 := Scalar.divsi arg14 c4_i32_92
  let c1_i32_98 : BitVec 32 := 1#32
  let v191 : BitVec 32 := Scalar.subi v176 c1_i32_98
  let v192 : BitVec 32 := Scalar.select v190 v191 v176
  let v193 : BitVec 32 := Scalar.muli c4_i32_99 v192
  let c2_i32_143 : BitVec 32 := 2#32
  let c1_i32_141 : BitVec 32 := 1#32
  let c0_i32_113 : BitVec 32 := 0#32
  let c1_i32_115 : BitVec 32 := 1#32
  let arg15 : BitVec 32 := Scf.iv c0_i32_113 c1_i32_115 k0_t6
  let v258 : BitVec 32 := Scalar.muli c1_i32_141 arg15
  let c0_i32_142 : BitVec 32 := 0#32
  let v259 : BitVec 32 := Scalar.addi v258 c0_i32_142
  let v260 : BitVec 32 := Scalar.muli c2_i32_143 v259
  let v261 : BitVec 32 := Scalar.addi v193 v260
  let c2_i32_196 : BitVec 32 := 2#32
  let v334 : BitVec 32 := Scalar.addi v261 c2_i32_196
  let c512_i32_197 : BitVec 32 := 512#32
  let v335 : BitVec 32 := Scalar.muli v334 c512_i32_197
  v335
def k0_off16 (k0_t1 : Fin k0_t1_loop.trips) (k0_t6 : Fin (k0_t6_loop k0_t1).trips) : Fin 3 → Nat :=
  let c4_i32_99 : BitVec 32 := 4#32
  let c0_i32 : BitVec 32 := 0#32
  let c1_i32 : BitVec 32 := 1#32
  let arg14 : BitVec 32 := Scf.iv c0_i32 c1_i32 k0_t1
  let c0_i32_93 : BitVec 32 := 0#32
  let v177 : BitVec 1 := Scalar.cmpi .sgt arg14 c0_i32_93
  let v178 : BitVec 32 := Scalar.extui v177
  let c0_i32_94 : BitVec 32 := 0#32
  let v179 : BitVec 1 := Scalar.cmpi .slt arg14 c0_i32_94
  let v180 : BitVec 32 := Scalar.extui v179
  let v181 : BitVec 32 := Scalar.subi v178 v180
  let c4_i32_92 : BitVec 32 := 4#32
  let c0_i32_95 : BitVec 32 := 0#32
  let v182 : BitVec 1 := Scalar.cmpi .sgt c4_i32_92 c0_i32_95
  let v183 : BitVec 32 := Scalar.extui v182
  let c0_i32_96 : BitVec 32 := 0#32
  let v184 : BitVec 1 := Scalar.cmpi .slt c4_i32_92 c0_i32_96
  let v185 : BitVec 32 := Scalar.extui v184
  let v186 : BitVec 32 := Scalar.subi v183 v185
  let v187 : BitVec 1 := Scalar.cmpi .ne v181 v186
  let v188 : BitVec 32 := Scalar.remsi arg14 c4_i32_92
  let c0_i32_97 : BitVec 32 := 0#32
  let v189 : BitVec 1 := Scalar.cmpi .ne v188 c0_i32_97
  let v190 : BitVec 1 := Scalar.andi v187 v189
  let v176 : BitVec 32 := Scalar.divsi arg14 c4_i32_92
  let c1_i32_98 : BitVec 32 := 1#32
  let v191 : BitVec 32 := Scalar.subi v176 c1_i32_98
  let v192 : BitVec 32 := Scalar.select v190 v191 v176
  let v193 : BitVec 32 := Scalar.muli c4_i32_99 v192
  let c2_i32_143 : BitVec 32 := 2#32
  let c1_i32_141 : BitVec 32 := 1#32
  let c0_i32_113 : BitVec 32 := 0#32
  let c1_i32_115 : BitVec 32 := 1#32
  let arg15 : BitVec 32 := Scf.iv c0_i32_113 c1_i32_115 k0_t6
  let v258 : BitVec 32 := Scalar.muli c1_i32_141 arg15
  let c0_i32_142 : BitVec 32 := 0#32
  let v259 : BitVec 32 := Scalar.addi v258 c0_i32_142
  let v260 : BitVec 32 := Scalar.muli c2_i32_143 v259
  let v261 : BitVec 32 := Scalar.addi v193 v260
  let c1_i32_213 : BitVec 32 := 1#32
  let v352 : BitVec 32 := Scalar.addi v261 c1_i32_213
  let v353 : Index := Scalar.indexCast v352
  let c0_214 : Index := 0#32
  let c0_215 : Index := 0#32
  ![v353.toNat, 0, 0]
@[reducible] def k0_t7_loop (k0_t1 : Fin k0_t1_loop.trips) : Scf.Loop 32 :=
  let c0_i32_113 : BitVec 32 := 0#32
  let c0_i32 : BitVec 32 := 0#32
  let c1_i32 : BitVec 32 := 1#32
  let arg14 : BitVec 32 := Scf.iv c0_i32 c1_i32 k0_t1
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi arg14 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c0_i32_106 : BitVec 32 := 0#32
  let v205 : BitVec 1 := Scalar.cmpi .sgt v203 c0_i32_106
  let v206 : BitVec 32 := Scalar.extui v205
  let c0_i32_107 : BitVec 32 := 0#32
  let v207 : BitVec 1 := Scalar.cmpi .slt v203 c0_i32_107
  let v208 : BitVec 32 := Scalar.extui v207
  let v209 : BitVec 32 := Scalar.subi v206 v208
  let c2_i32 : BitVec 32 := 2#32
  let c0_i32_108 : BitVec 32 := 0#32
  let v210 : BitVec 1 := Scalar.cmpi .sgt c2_i32 c0_i32_108
  let v211 : BitVec 32 := Scalar.extui v210
  let c0_i32_109 : BitVec 32 := 0#32
  let v212 : BitVec 1 := Scalar.cmpi .slt c2_i32 c0_i32_109
  let v213 : BitVec 32 := Scalar.extui v212
  let v214 : BitVec 32 := Scalar.subi v211 v213
  let v215 : BitVec 1 := Scalar.cmpi .ne v209 v214
  let v216 : BitVec 32 := Scalar.remsi v203 c2_i32
  let c0_i32_110 : BitVec 32 := 0#32
  let v217 : BitVec 1 := Scalar.cmpi .ne v216 c0_i32_110
  let v218 : BitVec 1 := Scalar.andi v215 v217
  let v204 : BitVec 32 := Scalar.divsi v203 c2_i32
  let c1_i32_111 : BitVec 32 := 1#32
  let v219 : BitVec 32 := Scalar.subi v204 c1_i32_111
  let v220 : BitVec 32 := Scalar.select v218 v219 v204
  let v221 : BitVec 32 := Scalar.subi v220 c0_i32_113
  let c1_i32_114 : BitVec 32 := 1#32
  let v223 : BitVec 32 := Scalar.divsi v221 c1_i32_114
  let v224 : BitVec 32 := Scalar.muli v223 c1_i32_114
  let v225 : BitVec 32 := Scalar.addi c0_i32_113 v224
  let v222 : BitVec 32 := Scalar.addi c0_i32_113 v221
  let c1_i32_116 : BitVec 32 := 1#32
  ⟨v225, v222, c1_i32_116⟩
def k0_mult27 (k0_t1 : Fin k0_t1_loop.trips) (k0_t7 : Fin (k0_t7_loop k0_t1).trips) : BitVec 32 :=
  let c4_i32_99 : BitVec 32 := 4#32
  let c0_i32 : BitVec 32 := 0#32
  let c1_i32 : BitVec 32 := 1#32
  let arg14 : BitVec 32 := Scf.iv c0_i32 c1_i32 k0_t1
  let c0_i32_93 : BitVec 32 := 0#32
  let v177 : BitVec 1 := Scalar.cmpi .sgt arg14 c0_i32_93
  let v178 : BitVec 32 := Scalar.extui v177
  let c0_i32_94 : BitVec 32 := 0#32
  let v179 : BitVec 1 := Scalar.cmpi .slt arg14 c0_i32_94
  let v180 : BitVec 32 := Scalar.extui v179
  let v181 : BitVec 32 := Scalar.subi v178 v180
  let c4_i32_92 : BitVec 32 := 4#32
  let c0_i32_95 : BitVec 32 := 0#32
  let v182 : BitVec 1 := Scalar.cmpi .sgt c4_i32_92 c0_i32_95
  let v183 : BitVec 32 := Scalar.extui v182
  let c0_i32_96 : BitVec 32 := 0#32
  let v184 : BitVec 1 := Scalar.cmpi .slt c4_i32_92 c0_i32_96
  let v185 : BitVec 32 := Scalar.extui v184
  let v186 : BitVec 32 := Scalar.subi v183 v185
  let v187 : BitVec 1 := Scalar.cmpi .ne v181 v186
  let v188 : BitVec 32 := Scalar.remsi arg14 c4_i32_92
  let c0_i32_97 : BitVec 32 := 0#32
  let v189 : BitVec 1 := Scalar.cmpi .ne v188 c0_i32_97
  let v190 : BitVec 1 := Scalar.andi v187 v189
  let v176 : BitVec 32 := Scalar.divsi arg14 c4_i32_92
  let c1_i32_98 : BitVec 32 := 1#32
  let v191 : BitVec 32 := Scalar.subi v176 c1_i32_98
  let v192 : BitVec 32 := Scalar.select v190 v191 v176
  let v193 : BitVec 32 := Scalar.muli c4_i32_99 v192
  let c2_i32_143 : BitVec 32 := 2#32
  let c1_i32_141 : BitVec 32 := 1#32
  let c0_i32_113 : BitVec 32 := 0#32
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi arg14 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c0_i32_106 : BitVec 32 := 0#32
  let v205 : BitVec 1 := Scalar.cmpi .sgt v203 c0_i32_106
  let v206 : BitVec 32 := Scalar.extui v205
  let c0_i32_107 : BitVec 32 := 0#32
  let v207 : BitVec 1 := Scalar.cmpi .slt v203 c0_i32_107
  let v208 : BitVec 32 := Scalar.extui v207
  let v209 : BitVec 32 := Scalar.subi v206 v208
  let c2_i32 : BitVec 32 := 2#32
  let c0_i32_108 : BitVec 32 := 0#32
  let v210 : BitVec 1 := Scalar.cmpi .sgt c2_i32 c0_i32_108
  let v211 : BitVec 32 := Scalar.extui v210
  let c0_i32_109 : BitVec 32 := 0#32
  let v212 : BitVec 1 := Scalar.cmpi .slt c2_i32 c0_i32_109
  let v213 : BitVec 32 := Scalar.extui v212
  let v214 : BitVec 32 := Scalar.subi v211 v213
  let v215 : BitVec 1 := Scalar.cmpi .ne v209 v214
  let v216 : BitVec 32 := Scalar.remsi v203 c2_i32
  let c0_i32_110 : BitVec 32 := 0#32
  let v217 : BitVec 1 := Scalar.cmpi .ne v216 c0_i32_110
  let v218 : BitVec 1 := Scalar.andi v215 v217
  let v204 : BitVec 32 := Scalar.divsi v203 c2_i32
  let c1_i32_111 : BitVec 32 := 1#32
  let v219 : BitVec 32 := Scalar.subi v204 c1_i32_111
  let v220 : BitVec 32 := Scalar.select v218 v219 v204
  let v221 : BitVec 32 := Scalar.subi v220 c0_i32_113
  let c1_i32_114 : BitVec 32 := 1#32
  let v223 : BitVec 32 := Scalar.divsi v221 c1_i32_114
  let v224 : BitVec 32 := Scalar.muli v223 c1_i32_114
  let v225 : BitVec 32 := Scalar.addi c0_i32_113 v224
  let c1_i32_116 : BitVec 32 := 1#32
  let arg15 : BitVec 32 := Scf.iv v225 c1_i32_116 k0_t7
  let v258 : BitVec 32 := Scalar.muli c1_i32_141 arg15
  let c0_i32_142 : BitVec 32 := 0#32
  let v259 : BitVec 32 := Scalar.addi v258 c0_i32_142
  let v260 : BitVec 32 := Scalar.muli c2_i32_143 v259
  let v261 : BitVec 32 := Scalar.addi v193 v260
  let c1_i32_144 : BitVec 32 := 1#32
  let v262 : BitVec 32 := Scalar.addi v261 c1_i32_144
  let c512_i32 : BitVec 32 := 512#32
  let v263 : BitVec 32 := Scalar.muli v262 c512_i32
  v263
def k0_off17 (k0_t1 : Fin k0_t1_loop.trips) (k0_t7 : Fin (k0_t7_loop k0_t1).trips) (c1_i32_144 : BitVec 32) : Fin 2 → Nat :=
  let c4_i32_99 : BitVec 32 := 4#32
  let c0_i32 : BitVec 32 := 0#32
  let c1_i32 : BitVec 32 := 1#32
  let arg14 : BitVec 32 := Scf.iv c0_i32 c1_i32 k0_t1
  let c0_i32_93 : BitVec 32 := 0#32
  let v177 : BitVec 1 := Scalar.cmpi .sgt arg14 c0_i32_93
  let v178 : BitVec 32 := Scalar.extui v177
  let c0_i32_94 : BitVec 32 := 0#32
  let v179 : BitVec 1 := Scalar.cmpi .slt arg14 c0_i32_94
  let v180 : BitVec 32 := Scalar.extui v179
  let v181 : BitVec 32 := Scalar.subi v178 v180
  let c4_i32_92 : BitVec 32 := 4#32
  let c0_i32_95 : BitVec 32 := 0#32
  let v182 : BitVec 1 := Scalar.cmpi .sgt c4_i32_92 c0_i32_95
  let v183 : BitVec 32 := Scalar.extui v182
  let c0_i32_96 : BitVec 32 := 0#32
  let v184 : BitVec 1 := Scalar.cmpi .slt c4_i32_92 c0_i32_96
  let v185 : BitVec 32 := Scalar.extui v184
  let v186 : BitVec 32 := Scalar.subi v183 v185
  let v187 : BitVec 1 := Scalar.cmpi .ne v181 v186
  let v188 : BitVec 32 := Scalar.remsi arg14 c4_i32_92
  let c0_i32_97 : BitVec 32 := 0#32
  let v189 : BitVec 1 := Scalar.cmpi .ne v188 c0_i32_97
  let v190 : BitVec 1 := Scalar.andi v187 v189
  let v176 : BitVec 32 := Scalar.divsi arg14 c4_i32_92
  let c1_i32_98 : BitVec 32 := 1#32
  let v191 : BitVec 32 := Scalar.subi v176 c1_i32_98
  let v192 : BitVec 32 := Scalar.select v190 v191 v176
  let v193 : BitVec 32 := Scalar.muli c4_i32_99 v192
  let c2_i32_143 : BitVec 32 := 2#32
  let c1_i32_141 : BitVec 32 := 1#32
  let c0_i32_113 : BitVec 32 := 0#32
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi arg14 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c0_i32_106 : BitVec 32 := 0#32
  let v205 : BitVec 1 := Scalar.cmpi .sgt v203 c0_i32_106
  let v206 : BitVec 32 := Scalar.extui v205
  let c0_i32_107 : BitVec 32 := 0#32
  let v207 : BitVec 1 := Scalar.cmpi .slt v203 c0_i32_107
  let v208 : BitVec 32 := Scalar.extui v207
  let v209 : BitVec 32 := Scalar.subi v206 v208
  let c2_i32 : BitVec 32 := 2#32
  let c0_i32_108 : BitVec 32 := 0#32
  let v210 : BitVec 1 := Scalar.cmpi .sgt c2_i32 c0_i32_108
  let v211 : BitVec 32 := Scalar.extui v210
  let c0_i32_109 : BitVec 32 := 0#32
  let v212 : BitVec 1 := Scalar.cmpi .slt c2_i32 c0_i32_109
  let v213 : BitVec 32 := Scalar.extui v212
  let v214 : BitVec 32 := Scalar.subi v211 v213
  let v215 : BitVec 1 := Scalar.cmpi .ne v209 v214
  let v216 : BitVec 32 := Scalar.remsi v203 c2_i32
  let c0_i32_110 : BitVec 32 := 0#32
  let v217 : BitVec 1 := Scalar.cmpi .ne v216 c0_i32_110
  let v218 : BitVec 1 := Scalar.andi v215 v217
  let v204 : BitVec 32 := Scalar.divsi v203 c2_i32
  let c1_i32_111 : BitVec 32 := 1#32
  let v219 : BitVec 32 := Scalar.subi v204 c1_i32_111
  let v220 : BitVec 32 := Scalar.select v218 v219 v204
  let v221 : BitVec 32 := Scalar.subi v220 c0_i32_113
  let c1_i32_114 : BitVec 32 := 1#32
  let v223 : BitVec 32 := Scalar.divsi v221 c1_i32_114
  let v224 : BitVec 32 := Scalar.muli v223 c1_i32_114
  let v225 : BitVec 32 := Scalar.addi c0_i32_113 v224
  let c1_i32_116 : BitVec 32 := 1#32
  let arg15 : BitVec 32 := Scf.iv v225 c1_i32_116 k0_t7
  let v258 : BitVec 32 := Scalar.muli c1_i32_141 arg15
  let c0_i32_142 : BitVec 32 := 0#32
  let v259 : BitVec 32 := Scalar.addi v258 c0_i32_142
  let v260 : BitVec 32 := Scalar.muli c2_i32_143 v259
  let v261 : BitVec 32 := Scalar.addi v193 v260
  let v262 : BitVec 32 := Scalar.addi v261 c1_i32_144
  let c512_i32 : BitVec 32 := 512#32
  let v263 : BitVec 32 := Scalar.muli v262 c512_i32
  let v264 : BitVec 32 := v263
  let v265 : Index := Scalar.indexCast v264
  let c0_145 : Index := 0#32
  ![v265.toNat, 0]
def k0_off18 (k0_t1 : Fin k0_t1_loop.trips) (k0_t7 : Fin (k0_t7_loop k0_t1).trips) : Fin 3 → Nat :=
  let c4_i32_99 : BitVec 32 := 4#32
  let c0_i32 : BitVec 32 := 0#32
  let c1_i32 : BitVec 32 := 1#32
  let arg14 : BitVec 32 := Scf.iv c0_i32 c1_i32 k0_t1
  let c0_i32_93 : BitVec 32 := 0#32
  let v177 : BitVec 1 := Scalar.cmpi .sgt arg14 c0_i32_93
  let v178 : BitVec 32 := Scalar.extui v177
  let c0_i32_94 : BitVec 32 := 0#32
  let v179 : BitVec 1 := Scalar.cmpi .slt arg14 c0_i32_94
  let v180 : BitVec 32 := Scalar.extui v179
  let v181 : BitVec 32 := Scalar.subi v178 v180
  let c4_i32_92 : BitVec 32 := 4#32
  let c0_i32_95 : BitVec 32 := 0#32
  let v182 : BitVec 1 := Scalar.cmpi .sgt c4_i32_92 c0_i32_95
  let v183 : BitVec 32 := Scalar.extui v182
  let c0_i32_96 : BitVec 32 := 0#32
  let v184 : BitVec 1 := Scalar.cmpi .slt c4_i32_92 c0_i32_96
  let v185 : BitVec 32 := Scalar.extui v184
  let v186 : BitVec 32 := Scalar.subi v183 v185
  let v187 : BitVec 1 := Scalar.cmpi .ne v181 v186
  let v188 : BitVec 32 := Scalar.remsi arg14 c4_i32_92
  let c0_i32_97 : BitVec 32 := 0#32
  let v189 : BitVec 1 := Scalar.cmpi .ne v188 c0_i32_97
  let v190 : BitVec 1 := Scalar.andi v187 v189
  let v176 : BitVec 32 := Scalar.divsi arg14 c4_i32_92
  let c1_i32_98 : BitVec 32 := 1#32
  let v191 : BitVec 32 := Scalar.subi v176 c1_i32_98
  let v192 : BitVec 32 := Scalar.select v190 v191 v176
  let v193 : BitVec 32 := Scalar.muli c4_i32_99 v192
  let c2_i32_143 : BitVec 32 := 2#32
  let c1_i32_141 : BitVec 32 := 1#32
  let c0_i32_113 : BitVec 32 := 0#32
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi arg14 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c0_i32_106 : BitVec 32 := 0#32
  let v205 : BitVec 1 := Scalar.cmpi .sgt v203 c0_i32_106
  let v206 : BitVec 32 := Scalar.extui v205
  let c0_i32_107 : BitVec 32 := 0#32
  let v207 : BitVec 1 := Scalar.cmpi .slt v203 c0_i32_107
  let v208 : BitVec 32 := Scalar.extui v207
  let v209 : BitVec 32 := Scalar.subi v206 v208
  let c2_i32 : BitVec 32 := 2#32
  let c0_i32_108 : BitVec 32 := 0#32
  let v210 : BitVec 1 := Scalar.cmpi .sgt c2_i32 c0_i32_108
  let v211 : BitVec 32 := Scalar.extui v210
  let c0_i32_109 : BitVec 32 := 0#32
  let v212 : BitVec 1 := Scalar.cmpi .slt c2_i32 c0_i32_109
  let v213 : BitVec 32 := Scalar.extui v212
  let v214 : BitVec 32 := Scalar.subi v211 v213
  let v215 : BitVec 1 := Scalar.cmpi .ne v209 v214
  let v216 : BitVec 32 := Scalar.remsi v203 c2_i32
  let c0_i32_110 : BitVec 32 := 0#32
  let v217 : BitVec 1 := Scalar.cmpi .ne v216 c0_i32_110
  let v218 : BitVec 1 := Scalar.andi v215 v217
  let v204 : BitVec 32 := Scalar.divsi v203 c2_i32
  let c1_i32_111 : BitVec 32 := 1#32
  let v219 : BitVec 32 := Scalar.subi v204 c1_i32_111
  let v220 : BitVec 32 := Scalar.select v218 v219 v204
  let v221 : BitVec 32 := Scalar.subi v220 c0_i32_113
  let c1_i32_114 : BitVec 32 := 1#32
  let v223 : BitVec 32 := Scalar.divsi v221 c1_i32_114
  let v224 : BitVec 32 := Scalar.muli v223 c1_i32_114
  let v225 : BitVec 32 := Scalar.addi c0_i32_113 v224
  let c1_i32_116 : BitVec 32 := 1#32
  let arg15 : BitVec 32 := Scf.iv v225 c1_i32_116 k0_t7
  let v258 : BitVec 32 := Scalar.muli c1_i32_141 arg15
  let c0_i32_142 : BitVec 32 := 0#32
  let v259 : BitVec 32 := Scalar.addi v258 c0_i32_142
  let v260 : BitVec 32 := Scalar.muli c2_i32_143 v259
  let v261 : BitVec 32 := Scalar.addi v193 v260
  let v280 : Index := Scalar.indexCast v261
  let c0_160 : Index := 0#32
  let c0_161 : Index := 0#32
  ![v280.toNat, 0, 0]
def k0_mult28 (k0_t1 : Fin k0_t1_loop.trips) (k0_t7 : Fin (k0_t7_loop k0_t1).trips) : BitVec 32 :=
  let c4_i32_99 : BitVec 32 := 4#32
  let c0_i32 : BitVec 32 := 0#32
  let c1_i32 : BitVec 32 := 1#32
  let arg14 : BitVec 32 := Scf.iv c0_i32 c1_i32 k0_t1
  let c0_i32_93 : BitVec 32 := 0#32
  let v177 : BitVec 1 := Scalar.cmpi .sgt arg14 c0_i32_93
  let v178 : BitVec 32 := Scalar.extui v177
  let c0_i32_94 : BitVec 32 := 0#32
  let v179 : BitVec 1 := Scalar.cmpi .slt arg14 c0_i32_94
  let v180 : BitVec 32 := Scalar.extui v179
  let v181 : BitVec 32 := Scalar.subi v178 v180
  let c4_i32_92 : BitVec 32 := 4#32
  let c0_i32_95 : BitVec 32 := 0#32
  let v182 : BitVec 1 := Scalar.cmpi .sgt c4_i32_92 c0_i32_95
  let v183 : BitVec 32 := Scalar.extui v182
  let c0_i32_96 : BitVec 32 := 0#32
  let v184 : BitVec 1 := Scalar.cmpi .slt c4_i32_92 c0_i32_96
  let v185 : BitVec 32 := Scalar.extui v184
  let v186 : BitVec 32 := Scalar.subi v183 v185
  let v187 : BitVec 1 := Scalar.cmpi .ne v181 v186
  let v188 : BitVec 32 := Scalar.remsi arg14 c4_i32_92
  let c0_i32_97 : BitVec 32 := 0#32
  let v189 : BitVec 1 := Scalar.cmpi .ne v188 c0_i32_97
  let v190 : BitVec 1 := Scalar.andi v187 v189
  let v176 : BitVec 32 := Scalar.divsi arg14 c4_i32_92
  let c1_i32_98 : BitVec 32 := 1#32
  let v191 : BitVec 32 := Scalar.subi v176 c1_i32_98
  let v192 : BitVec 32 := Scalar.select v190 v191 v176
  let v193 : BitVec 32 := Scalar.muli c4_i32_99 v192
  let c2_i32_143 : BitVec 32 := 2#32
  let c1_i32_141 : BitVec 32 := 1#32
  let c0_i32_113 : BitVec 32 := 0#32
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi arg14 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c0_i32_106 : BitVec 32 := 0#32
  let v205 : BitVec 1 := Scalar.cmpi .sgt v203 c0_i32_106
  let v206 : BitVec 32 := Scalar.extui v205
  let c0_i32_107 : BitVec 32 := 0#32
  let v207 : BitVec 1 := Scalar.cmpi .slt v203 c0_i32_107
  let v208 : BitVec 32 := Scalar.extui v207
  let v209 : BitVec 32 := Scalar.subi v206 v208
  let c2_i32 : BitVec 32 := 2#32
  let c0_i32_108 : BitVec 32 := 0#32
  let v210 : BitVec 1 := Scalar.cmpi .sgt c2_i32 c0_i32_108
  let v211 : BitVec 32 := Scalar.extui v210
  let c0_i32_109 : BitVec 32 := 0#32
  let v212 : BitVec 1 := Scalar.cmpi .slt c2_i32 c0_i32_109
  let v213 : BitVec 32 := Scalar.extui v212
  let v214 : BitVec 32 := Scalar.subi v211 v213
  let v215 : BitVec 1 := Scalar.cmpi .ne v209 v214
  let v216 : BitVec 32 := Scalar.remsi v203 c2_i32
  let c0_i32_110 : BitVec 32 := 0#32
  let v217 : BitVec 1 := Scalar.cmpi .ne v216 c0_i32_110
  let v218 : BitVec 1 := Scalar.andi v215 v217
  let v204 : BitVec 32 := Scalar.divsi v203 c2_i32
  let c1_i32_111 : BitVec 32 := 1#32
  let v219 : BitVec 32 := Scalar.subi v204 c1_i32_111
  let v220 : BitVec 32 := Scalar.select v218 v219 v204
  let v221 : BitVec 32 := Scalar.subi v220 c0_i32_113
  let c1_i32_114 : BitVec 32 := 1#32
  let v223 : BitVec 32 := Scalar.divsi v221 c1_i32_114
  let v224 : BitVec 32 := Scalar.muli v223 c1_i32_114
  let v225 : BitVec 32 := Scalar.addi c0_i32_113 v224
  let c1_i32_116 : BitVec 32 := 1#32
  let arg15 : BitVec 32 := Scf.iv v225 c1_i32_116 k0_t7
  let v258 : BitVec 32 := Scalar.muli c1_i32_141 arg15
  let c0_i32_142 : BitVec 32 := 0#32
  let v259 : BitVec 32 := Scalar.addi v258 c0_i32_142
  let v260 : BitVec 32 := Scalar.muli c2_i32_143 v259
  let v261 : BitVec 32 := Scalar.addi v193 v260
  let c2_i32_196 : BitVec 32 := 2#32
  let v334 : BitVec 32 := Scalar.addi v261 c2_i32_196
  let c512_i32_197 : BitVec 32 := 512#32
  let v335 : BitVec 32 := Scalar.muli v334 c512_i32_197
  v335
def k0_off19 (k0_t1 : Fin k0_t1_loop.trips) (k0_t7 : Fin (k0_t7_loop k0_t1).trips) : Fin 3 → Nat :=
  let c4_i32_99 : BitVec 32 := 4#32
  let c0_i32 : BitVec 32 := 0#32
  let c1_i32 : BitVec 32 := 1#32
  let arg14 : BitVec 32 := Scf.iv c0_i32 c1_i32 k0_t1
  let c0_i32_93 : BitVec 32 := 0#32
  let v177 : BitVec 1 := Scalar.cmpi .sgt arg14 c0_i32_93
  let v178 : BitVec 32 := Scalar.extui v177
  let c0_i32_94 : BitVec 32 := 0#32
  let v179 : BitVec 1 := Scalar.cmpi .slt arg14 c0_i32_94
  let v180 : BitVec 32 := Scalar.extui v179
  let v181 : BitVec 32 := Scalar.subi v178 v180
  let c4_i32_92 : BitVec 32 := 4#32
  let c0_i32_95 : BitVec 32 := 0#32
  let v182 : BitVec 1 := Scalar.cmpi .sgt c4_i32_92 c0_i32_95
  let v183 : BitVec 32 := Scalar.extui v182
  let c0_i32_96 : BitVec 32 := 0#32
  let v184 : BitVec 1 := Scalar.cmpi .slt c4_i32_92 c0_i32_96
  let v185 : BitVec 32 := Scalar.extui v184
  let v186 : BitVec 32 := Scalar.subi v183 v185
  let v187 : BitVec 1 := Scalar.cmpi .ne v181 v186
  let v188 : BitVec 32 := Scalar.remsi arg14 c4_i32_92
  let c0_i32_97 : BitVec 32 := 0#32
  let v189 : BitVec 1 := Scalar.cmpi .ne v188 c0_i32_97
  let v190 : BitVec 1 := Scalar.andi v187 v189
  let v176 : BitVec 32 := Scalar.divsi arg14 c4_i32_92
  let c1_i32_98 : BitVec 32 := 1#32
  let v191 : BitVec 32 := Scalar.subi v176 c1_i32_98
  let v192 : BitVec 32 := Scalar.select v190 v191 v176
  let v193 : BitVec 32 := Scalar.muli c4_i32_99 v192
  let c2_i32_143 : BitVec 32 := 2#32
  let c1_i32_141 : BitVec 32 := 1#32
  let c0_i32_113 : BitVec 32 := 0#32
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi arg14 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c0_i32_106 : BitVec 32 := 0#32
  let v205 : BitVec 1 := Scalar.cmpi .sgt v203 c0_i32_106
  let v206 : BitVec 32 := Scalar.extui v205
  let c0_i32_107 : BitVec 32 := 0#32
  let v207 : BitVec 1 := Scalar.cmpi .slt v203 c0_i32_107
  let v208 : BitVec 32 := Scalar.extui v207
  let v209 : BitVec 32 := Scalar.subi v206 v208
  let c2_i32 : BitVec 32 := 2#32
  let c0_i32_108 : BitVec 32 := 0#32
  let v210 : BitVec 1 := Scalar.cmpi .sgt c2_i32 c0_i32_108
  let v211 : BitVec 32 := Scalar.extui v210
  let c0_i32_109 : BitVec 32 := 0#32
  let v212 : BitVec 1 := Scalar.cmpi .slt c2_i32 c0_i32_109
  let v213 : BitVec 32 := Scalar.extui v212
  let v214 : BitVec 32 := Scalar.subi v211 v213
  let v215 : BitVec 1 := Scalar.cmpi .ne v209 v214
  let v216 : BitVec 32 := Scalar.remsi v203 c2_i32
  let c0_i32_110 : BitVec 32 := 0#32
  let v217 : BitVec 1 := Scalar.cmpi .ne v216 c0_i32_110
  let v218 : BitVec 1 := Scalar.andi v215 v217
  let v204 : BitVec 32 := Scalar.divsi v203 c2_i32
  let c1_i32_111 : BitVec 32 := 1#32
  let v219 : BitVec 32 := Scalar.subi v204 c1_i32_111
  let v220 : BitVec 32 := Scalar.select v218 v219 v204
  let v221 : BitVec 32 := Scalar.subi v220 c0_i32_113
  let c1_i32_114 : BitVec 32 := 1#32
  let v223 : BitVec 32 := Scalar.divsi v221 c1_i32_114
  let v224 : BitVec 32 := Scalar.muli v223 c1_i32_114
  let v225 : BitVec 32 := Scalar.addi c0_i32_113 v224
  let c1_i32_116 : BitVec 32 := 1#32
  let arg15 : BitVec 32 := Scf.iv v225 c1_i32_116 k0_t7
  let v258 : BitVec 32 := Scalar.muli c1_i32_141 arg15
  let c0_i32_142 : BitVec 32 := 0#32
  let v259 : BitVec 32 := Scalar.addi v258 c0_i32_142
  let v260 : BitVec 32 := Scalar.muli c2_i32_143 v259
  let v261 : BitVec 32 := Scalar.addi v193 v260
  let c1_i32_213 : BitVec 32 := 1#32
  let v352 : BitVec 32 := Scalar.addi v261 c1_i32_213
  let v353 : Index := Scalar.indexCast v352
  let c0_214 : Index := 0#32
  let c0_215 : Index := 0#32
  ![v353.toNat, 0, 0]
def k0_cond1 (k0_t1 : Fin k0_t1_loop.trips) : BitVec 1 :=
  let c0_i32 : BitVec 32 := 0#32
  let c1_i32 : BitVec 32 := 1#32
  let arg14 : BitVec 32 := Scf.iv c0_i32 c1_i32 k0_t1
  let c2_i32_119 : BitVec 32 := 2#32
  let c0_i32_120 : BitVec 32 := 0#32
  let v228 : BitVec 1 := Scalar.cmpi .eq c2_i32_119 c0_i32_120
  let c1_i32_121 : BitVec 32 := 1#32
  let v229 : BitVec 32 := Scalar.select v228 c1_i32_121 c2_i32_119
  let v230 : BitVec 32 := Scalar.remsi arg14 v229
  let c0_i32_123 : BitVec 32 := 0#32
  let v232 : BitVec 1 := Scalar.cmpi .slt v230 c0_i32_123
  let c0_i32_124 : BitVec 32 := 0#32
  let v233 : BitVec 1 := Scalar.cmpi .slt v229 c0_i32_124
  let v234 : BitVec 1 := Scalar.xori v232 v233
  let c0_i32_122 : BitVec 32 := 0#32
  let v231 : BitVec 1 := Scalar.cmpi .ne v230 c0_i32_122
  let v235 : BitVec 1 := Scalar.andi v234 v231
  let v236 : BitVec 32 := Scalar.addi v230 v229
  let v237 : BitVec 32 := Scalar.select v235 v236 v230
  let c0_i32_125 : BitVec 32 := 0#32
  let v238 : BitVec 1 := Scalar.cmpi .eq v237 c0_i32_125
  let v239 : BitVec 32 := Scalar.extui v238
  let c0_i32_126 : BitVec 32 := 0#32
  let v240 : BitVec 1 := Scalar.cmpi .ne v239 c0_i32_126
  v240

def k0_off20 (k0_t1 : Fin k0_t1_loop.trips) : Fin 3 → Nat :=
  let c0_i32 : BitVec 32 := 0#32
  let c1_i32 : BitVec 32 := 1#32
  let arg14 : BitVec 32 := Scf.iv c0_i32 c1_i32 k0_t1
  let c1_i32_55 : BitVec 32 := 1#32
  let v102 : BitVec 32 := Scalar.addi arg14 c1_i32_55
  let c15_i32 : BitVec 32 := 15#32
  let v103 : BitVec 32 := Scalar.minsi v102 c15_i32
  let v260 : Index := Scalar.indexCast v103
  let c0_143 : Index := 0#32
  let c0_144 : Index := 0#32
  ![v260.toNat, 0, 0]
def k0_mult29 (k0_t1 : Fin k0_t1_loop.trips) : BitVec 32 :=
  let c0_i32 : BitVec 32 := 0#32
  let c1_i32 : BitVec 32 := 1#32
  let arg14 : BitVec 32 := Scf.iv c0_i32 c1_i32 k0_t1
  let c1_i32_117 : BitVec 32 := 1#32
  let v226 : BitVec 32 := Scalar.subi arg14 c1_i32_117
  let c0_i32_118 : BitVec 32 := 0#32
  let v227 : BitVec 32 := Scalar.maxsi v226 c0_i32_118
  let c512_i32 : BitVec 32 := 512#32
  let v310 : BitVec 32 := Scalar.muli v227 c512_i32
  v310
def k0_off21 (k0_t1 : Fin k0_t1_loop.trips) : Fin 2 → Nat :=
  let c0_i32 : BitVec 32 := 0#32
  let c1_i32 : BitVec 32 := 1#32
  let arg14 : BitVec 32 := Scf.iv c0_i32 c1_i32 k0_t1
  let c1_i32_117 : BitVec 32 := 1#32
  let v226 : BitVec 32 := Scalar.subi arg14 c1_i32_117
  let c0_i32_118 : BitVec 32 := 0#32
  let v227 : BitVec 32 := Scalar.maxsi v226 c0_i32_118
  let c512_i32 : BitVec 32 := 512#32
  let v310 : BitVec 32 := Scalar.muli v227 c512_i32
  let v311 : BitVec 32 := v310
  let v314 : Index := Scalar.indexCast v311
  let c0_168 : Index := 0#32
  ![v314.toNat, 0]
def k0_off22 (k0_t1 : Fin k0_t1_loop.trips) : Fin 3 → Nat :=
  let c0_i32 : BitVec 32 := 0#32
  let c1_i32 : BitVec 32 := 1#32
  let arg14 : BitVec 32 := Scf.iv c0_i32 c1_i32 k0_t1
  let v316 : Index := Scalar.indexCast arg14
  let c0_169 : Index := 0#32
  let c0_170 : Index := 0#32
  ![v316.toNat, 0, 0]
def k0_cond2 (k0_t1 : Fin k0_t1_loop.trips) : BitVec 1 :=
  let c0_i32 : BitVec 32 := 0#32
  let c1_i32 : BitVec 32 := 1#32
  let arg14 : BitVec 32 := Scf.iv c0_i32 c1_i32 k0_t1
  let c2_i32_127 : BitVec 32 := 2#32
  let c0_i32_128 : BitVec 32 := 0#32
  let v241 : BitVec 1 := Scalar.cmpi .eq c2_i32_127 c0_i32_128
  let c1_i32_129 : BitVec 32 := 1#32
  let v242 : BitVec 32 := Scalar.select v241 c1_i32_129 c2_i32_127
  let v243 : BitVec 32 := Scalar.remsi arg14 v242
  let c0_i32_131 : BitVec 32 := 0#32
  let v245 : BitVec 1 := Scalar.cmpi .slt v243 c0_i32_131
  let c0_i32_132 : BitVec 32 := 0#32
  let v246 : BitVec 1 := Scalar.cmpi .slt v242 c0_i32_132
  let v247 : BitVec 1 := Scalar.xori v245 v246
  let c0_i32_130 : BitVec 32 := 0#32
  let v244 : BitVec 1 := Scalar.cmpi .ne v243 c0_i32_130
  let v248 : BitVec 1 := Scalar.andi v247 v244
  let v249 : BitVec 32 := Scalar.addi v243 v242
  let v250 : BitVec 32 := Scalar.select v248 v249 v243
  let c1_i32_133 : BitVec 32 := 1#32
  let v251 : BitVec 1 := Scalar.cmpi .eq v250 c1_i32_133
  let v252 : BitVec 32 := Scalar.extui v251
  let c0_i32_134 : BitVec 32 := 0#32
  let v253 : BitVec 1 := Scalar.cmpi .ne v252 c0_i32_134
  v253

def k0_mult30 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32 : BitVec 32 := 512#32
  let v258 : BitVec 32 := Scalar.muli arg14 c512_i32
  v258
def k0_off23 (k0_t1 : Fin k0_t1_loop.trips) : Fin 2 → Nat :=
  let c0_i32 : BitVec 32 := 0#32
  let c1_i32 : BitVec 32 := 1#32
  let arg14 : BitVec 32 := Scf.iv c0_i32 c1_i32 k0_t1
  let c512_i32 : BitVec 32 := 512#32
  let v258 : BitVec 32 := Scalar.muli arg14 c512_i32
  let v259 : BitVec 32 := v258
  let v260 : Index := Scalar.indexCast v259
  let c0_141 : Index := 0#32
  ![v260.toNat, 0]
def k0_mult31 (k0_t1 : Fin k0_t1_loop.trips) : BitVec 32 :=
  let c0_i32 : BitVec 32 := 0#32
  let c1_i32 : BitVec 32 := 1#32
  let arg14 : BitVec 32 := Scf.iv c0_i32 c1_i32 k0_t1
  let c1_i32_117 : BitVec 32 := 1#32
  let v226 : BitVec 32 := Scalar.subi arg14 c1_i32_117
  let c0_i32_118 : BitVec 32 := 0#32
  let v227 : BitVec 32 := Scalar.maxsi v226 c0_i32_118
  let c512_i32_168 : BitVec 32 := 512#32
  let v306 : BitVec 32 := Scalar.muli v227 c512_i32_168
  v306
def k0_off24 (k0_t1 : Fin k0_t1_loop.trips) : Fin 2 → Nat :=
  let c0_i32 : BitVec 32 := 0#32
  let c1_i32 : BitVec 32 := 1#32
  let arg14 : BitVec 32 := Scf.iv c0_i32 c1_i32 k0_t1
  let c1_i32_117 : BitVec 32 := 1#32
  let v226 : BitVec 32 := Scalar.subi arg14 c1_i32_117
  let c0_i32_118 : BitVec 32 := 0#32
  let v227 : BitVec 32 := Scalar.maxsi v226 c0_i32_118
  let c512_i32_168 : BitVec 32 := 512#32
  let v306 : BitVec 32 := Scalar.muli v227 c512_i32_168
  let v307 : BitVec 32 := v306
  let v310 : Index := Scalar.indexCast v307
  let c0_169 : Index := 0#32
  ![v310.toNat, 0]
def k0_off25 (k0_t1 : Fin k0_t1_loop.trips) : Fin 3 → Nat :=
  let c0_i32 : BitVec 32 := 0#32
  let c1_i32 : BitVec 32 := 1#32
  let arg14 : BitVec 32 := Scf.iv c0_i32 c1_i32 k0_t1
  let c1_i32_170 : BitVec 32 := 1#32
  let v312 : BitVec 32 := Scalar.subi arg14 c1_i32_170
  let v313 : Index := Scalar.indexCast v312
  let c0_171 : Index := 0#32
  let c0_172 : Index := 0#32
  ![v313.toNat, 0, 0]
def k0_off26 (k0_t1 : Fin k0_t1_loop.trips) : Fin 3 → Nat :=
  let c0_i32 : BitVec 32 := 0#32
  let c1_i32 : BitVec 32 := 1#32
  let arg14 : BitVec 32 := Scf.iv c0_i32 c1_i32 k0_t1
  let c1_i32_55 : BitVec 32 := 1#32
  let v102 : BitVec 32 := Scalar.addi arg14 c1_i32_55
  let c15_i32 : BitVec 32 := 15#32
  let v103 : BitVec 32 := Scalar.minsi v102 c15_i32
  let v369 : Index := Scalar.indexCast v103
  let c0_209 : Index := 0#32
  let c0_210 : Index := 0#32
  ![v369.toNat, 0, 0]
def k0_off27 (k0_t1 : Fin k0_t1_loop.trips) : Fin 3 → Nat :=
  let c0_i32 : BitVec 32 := 0#32
  let c1_i32 : BitVec 32 := 1#32
  let arg14 : BitVec 32 := Scf.iv c0_i32 c1_i32 k0_t1
  let v388 : Index := Scalar.indexCast arg14
  let c0_222 : Index := 0#32
  let c0_223 : Index := 0#32
  ![v388.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x4x2x64 : Shape := ⟨5, ![2, 8192, 4, 2, 64]⟩
abbrev S2x8192x4x128 : Shape := ⟨4, ![2, 8192, 4, 128]⟩
abbrev S1x64 : Shape := ⟨2, ![1, 64]⟩
abbrev S1x128 : Shape := ⟨2, ![1, 128]⟩
abbrev S64 : Shape := ⟨1, ![64]⟩
abbrev S_ : Shape := ⟨0, ![]⟩
abbrev S2x4x2x8192x8192 : Shape := ⟨5, ![2, 4, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S128 : Shape := ⟨1, ![128]⟩
abbrev S1x1x1x128 : Shape := ⟨4, ![1, 1, 1, 128]⟩
abbrev S16384x512 : Shape := ⟨2, ![16384, 512]⟩

abbrev nBuf : Space → Nat
  | .hbm => 83
  | .vmem => 0
  | .smem => 0
  | _ => 0

abbrev bufTy : (tb : Table) → Fin (tcTables nBuf tb) → BufTy
  | .hbm, ⟨0, _⟩ => ⟨S2x8192x4x2x64, .f32⟩
  | .hbm, ⟨1, _⟩ => ⟨S2x8192x4x2x64, .f32⟩
  | .hbm, ⟨2, _⟩ => ⟨S2x8192x4x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x4x2x8192x8192, .f32⟩
  | .hbm, ⟨24, _⟩ => ⟨S_, .f32⟩
  | .hbm, ⟨25, _⟩ => ⟨S2x4x2x8192x8192, .f32⟩
  | .hbm, ⟨26, _⟩ => ⟨S2x4x2x8192x8192, .f32⟩
  | .hbm, ⟨27, _⟩ => ⟨S8192, .i32⟩
  | .hbm, ⟨28, _⟩ => ⟨S1x8192, .i32⟩
  | .hbm, ⟨29, _⟩ => ⟨S8192x1, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S_, .f32⟩
  | .hbm, ⟨34, _⟩ => ⟨S_, .f32⟩
  | .hbm, ⟨35, _⟩ => ⟨S2x4x2x8192x8192, .i1⟩
  | .hbm, ⟨36, _⟩ => ⟨S2x4x2x8192x8192, .f32⟩
  | .hbm, ⟨37, _⟩ => ⟨S2x4x2x8192x8192, .f32⟩
  | .hbm, ⟨38, _⟩ => ⟨S_, .f32⟩
  | .hbm, ⟨39, _⟩ => ⟨S2x4x2x8192, .f32⟩
  | .hbm, ⟨40, _⟩ => ⟨S_, .f32⟩
  | .hbm, ⟨41, _⟩ => ⟨S2x4x2x8192, .f32⟩
  | .hbm, ⟨42, _⟩ => ⟨S2x4x2x8192, .f32⟩
  | .hbm, ⟨43, _⟩ => ⟨S2x4x2x8192x1, .f32⟩
  | .hbm, ⟨44, _⟩ => ⟨S2x4x2x8192x8192, .f32⟩
  | .hbm, ⟨45, _⟩ => ⟨S2x4x2x8192x8192, .f32⟩
  | .hbm, ⟨46, _⟩ => ⟨S2x4x2x8192x8192, .f32⟩
  | .hbm, ⟨47, _⟩ => ⟨S_, .f32⟩
  | .hbm, ⟨48, _⟩ => ⟨S2x4x2x8192, .f32⟩
  | .hbm, ⟨49, _⟩ => ⟨S2x4x2x8192x1, .f32⟩
  | .hbm, ⟨50, _⟩ => ⟨S2x4x2x8192x8192, .f32⟩
  | .hbm, ⟨51, _⟩ => ⟨S2x4x2x8192x8192, .f32⟩
  | .hbm, ⟨52, _⟩ => ⟨S2x4x1x8192x8192, .f32⟩
  | .hbm, ⟨53, _⟩ => ⟨S2x4x8192x8192, .f32⟩
  | .hbm, ⟨54, _⟩ => ⟨S2x4x1x8192x8192, .f32⟩
  | .hbm, ⟨55, _⟩ => ⟨S2x4x8192x8192, .f32⟩
  | .hbm, ⟨56, _⟩ => ⟨S2x4x8192x8192, .f32⟩
  | .hbm, ⟨57, _⟩ => ⟨S2x4x8192x8192, .f32⟩
  | .hbm, ⟨58, _⟩ => ⟨S2x4x8192x8192, .f32⟩
  | .hbm, ⟨59, _⟩ => ⟨S2x4x128x8192, .f32⟩
  | .hbm, ⟨60, _⟩ => ⟨S2x8192x4x128, .f32⟩
  | .hbm, ⟨61, _⟩ => ⟨S2x8192x4x128, .f32⟩
  | .hbm, ⟨62, _⟩ => ⟨S_, .f32⟩
  | .hbm, ⟨63, _⟩ => ⟨S2x8192x4, .f32⟩
  | .hbm, ⟨64, _⟩ => ⟨S2x8192x4x1, .f32⟩
  | .hbm, ⟨65, _⟩ => ⟨S_, .f32⟩
  | .hbm, ⟨66, _⟩ => ⟨S2x8192x4x1, .f32⟩
  | .hbm, ⟨67, _⟩ => ⟨S2x8192x4x1, .f32⟩
  | .hbm, ⟨68, _⟩ => ⟨S_, .f32⟩
  | .hbm, ⟨69, _⟩ => ⟨S2x8192x4x1, .f32⟩
  | .hbm, ⟨70, _⟩ => ⟨S2x8192x4x1, .f32⟩
  | .hbm, ⟨71, _⟩ => ⟨S2x8192x4x1, .f32⟩
  | .hbm, ⟨72, _⟩ => ⟨S2x8192x4x128, .f32⟩
  | .hbm, ⟨73, _⟩ => ⟨S2x8192x4x128, .f32⟩
  | .hbm, ⟨74, _⟩ => ⟨S128, .f32⟩
  | .hbm, ⟨75, _⟩ => ⟨S1x1x1x128, .f32⟩
  | .hbm, ⟨76, _⟩ => ⟨S2x8192x4x128, .f32⟩
  | .hbm, ⟨77, _⟩ => ⟨S2x8192x4x128, .f32⟩
  | .hbm, ⟨78, _⟩ => ⟨S_, .f32⟩
  | .hbm, ⟨79, _⟩ => ⟨S2x8192x4x128, .f32⟩
  | .hbm, ⟨80, _⟩ => ⟨S2x8192x4x128, .f32⟩
  | .hbm, ⟨81, _⟩ => ⟨S16384x512, .f32⟩
  | .hbm, ⟨82, _⟩ => ⟨S16384x512, .bf16⟩
  | _, _ => ⟨S2x8192x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel2.lean ====
abbrev S2x8192x1024 : Shape := ⟨3, ![2, 8192, 1024]⟩
abbrev S1x1024x5632 : Shape := ⟨3, ![1, 1024, 5632]⟩
abbrev S2x512 : Shape := ⟨2, ![2, 512]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024x3072 : Shape := ⟨3, ![1, 1024, 3072]⟩
abbrev S1024x3072 : Shape := ⟨2, ![1024, 3072]⟩
abbrev S16384x1024 : Shape := ⟨2, ![16384, 1024]⟩
abbrev S2x512x8192 : Shape := ⟨3, ![2, 512, 8192]⟩
abbrev S65536x128 : Shape := ⟨2, ![65536, 128]⟩
abbrev S32x512x512 : Shape := ⟨3, ![32, 512, 512]⟩
abbrev S16384x512 : Shape := ⟨2, ![16384, 512]⟩
abbrev S512x1024 : Shape := ⟨2, ![512, 1024]⟩
abbrev S512x128 : Shape := ⟨2, ![512, 128]⟩
abbrev S1x512x512 : Shape := ⟨3, ![1, 512, 512]⟩
abbrev S2048x128 : Shape := ⟨2, ![2048, 128]⟩
abbrev S512x512 : Shape := ⟨2, ![512, 512]⟩
abbrev S1024x512 : Shape := ⟨2, ![1024, 512]⟩
abbrev S512 : Shape := ⟨1, ![512]⟩
abbrev S1x512 : Shape := ⟨2, ![1, 512]⟩

abbrev nBuf : Space → Nat
  | .hbm => 45
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S1x1024x5632, .f32⟩
  | .hbm, ⟨2, _⟩ => ⟨S2x512, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8192, .i32⟩
  | .hbm, ⟨15, _⟩ => ⟨S8192, .f32⟩
  | .hbm, ⟨16, _⟩ => ⟨S8192x1, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x64, .f32⟩
  | .hbm, ⟨24, _⟩ => ⟨S1x8192x1x64, .f32⟩
  | .hbm, ⟨25, _⟩ => ⟨S1x8192x2x64, .f32⟩
  | .hbm, ⟨26, _⟩ => ⟨S8192x128, .f32⟩
  | .hbm, ⟨27, _⟩ => ⟨S8192x32, .f32⟩
  | .hbm, ⟨28, _⟩ => ⟨S8192x64, .f32⟩
  | .hbm, ⟨29, _⟩ => ⟨S1x8192x1x64, .f32⟩
  | .hbm, ⟨30, _⟩ => ⟨S1x8192x2x64, .f32⟩
  | .hbm, ⟨31, _⟩ => ⟨S8192x128, .f32⟩
  | .hbm, ⟨32, _⟩ => ⟨S1x1024x3072, .f32⟩
  | .hbm, ⟨33, _⟩ => ⟨S1024x3072, .f32⟩
  | .hbm, ⟨34, _⟩ => ⟨S1024x3072, .bf16⟩
  | .hbm, ⟨35, _⟩ => ⟨S16384x1024, .f32⟩
  | .hbm, ⟨36, _⟩ => ⟨S2x512x8192, .f32⟩
  | .hbm, ⟨37, _⟩ => ⟨S65536x128, .f32⟩
  | .hbm, ⟨38, _⟩ => ⟨S32x512x512, .bf16⟩
  | .hbm, ⟨39, _⟩ => ⟨S16384x512, .bf16⟩
  | .hbm, ⟨40, _⟩ => ⟨S32x512x512, .bf16⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S2x512, .f32⟩
  | .local _ .vmem, ⟨8, _⟩ => ⟨S1x512x512, .f32⟩
  | .local _ .vmem, ⟨9, _⟩ => ⟨S1x512x512, .f32⟩
  | .local _ .vmem, ⟨10, _⟩ => ⟨S2048x128, .f32⟩
  | .local _ .vmem, ⟨11, _⟩ => ⟨S2048x128, .f32⟩
  | .local _ .vmem, ⟨12, _⟩ => ⟨S1x512x512, .bf16⟩
  | .local _ .vmem, ⟨13, _⟩ => ⟨S1x512x512, .bf16⟩
  | .local _ .vmem, ⟨14, _⟩ => ⟨S512x512, .bf16⟩
  | .local _ .vmem, ⟨15, _⟩ => ⟨S512x512, .bf16⟩
  | .local _ .vmem, ⟨16, _⟩ => ⟨S1x512x512, .bf16⟩
  | .local _ .vmem, ⟨17, _⟩ => ⟨S1x512x512, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30_0 : Ref sig .tc := ⟨.hbm, 36, rfl⟩
abbrev main_v30_1 : Ref sig .tc := ⟨.hbm, 37, rfl⟩
abbrev main_v30_2 : Ref sig .tc := ⟨.hbm, 38, rfl⟩
abbrev main_v30_3 : Ref sig .tc := ⟨.hbm, 39, rfl⟩
abbrev main_v30_4 : Ref sig .tc := ⟨.hbm, 40, rfl⟩
abbrev main_v30_5 : Ref sig .tc := ⟨.hbm, 41, rfl⟩
abbrev main_v30_6 : Ref sig .tc := ⟨.hbm, 42, rfl⟩
abbrev main_v30_7 : Ref sig .tc := ⟨.hbm, 43, rfl⟩
abbrev main_v30_8 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S2x8192x1024 : Shape := ⟨3, ![2, 8192, 1024]⟩
abbrev S1x1024x5632 : Shape := ⟨3, ![1, 1024, 5632]⟩
abbrev S2x512 : Shape := ⟨2, ![2, 512]⟩
abbrev S1024x5632 : Shape := ⟨2, ![1024, 5632]⟩
abbrev S2x8192x5632 : Shape := ⟨3, ![2, 8192, 5632]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x1x1x32 : Shape := ⟨4, ![8192, 1, 1, 32]⟩
abbrev S2x8192x512 : Shape := ⟨3, ![2, 8192, 512]⟩
abbrev S2x8192x4x2x64 : Shape := ⟨5, ![2, 8192, 4, 2, 64]⟩
abbrev S2x8192x4x2x32 : Shape := ⟨5, ![2, 8192, 4, 2, 32]⟩
abbrev S1x8192x1x1x32 : Shape := ⟨5, ![1, 8192, 1, 1, 32]⟩
abbrev S2x4x2x64x8192 : Shape := ⟨5, ![2, 4, 2, 64, 8192]⟩
abbrev S2x512x8192 : Shape := ⟨3, ![2, 512, 8192]⟩
abbrev S65536x128 : Shape := ⟨2, ![65536, 128]⟩
abbrev S16384x512 : Shape := ⟨2, ![16384, 512]⟩
abbrev S32x512x512 : Shape := ⟨3, ![32, 512, 512]⟩

abbrev nBuf : Space → Nat
  | .hbm => 59
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024x5632, .f32⟩
  | .hbm, ⟨2, _⟩ => ⟨S2x512, .f32⟩
  | .hbm, ⟨3, _⟩ => ⟨S1024x5632, .f32⟩
  | .hbm, ⟨4, _⟩ => ⟨S2x8192x5632, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S8192, .i32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x1x1x32, .f32⟩
  | .hbm, ⟨25, _⟩ => ⟨S8192x32, .f32⟩
  | .hbm, ⟨26, _⟩ => ⟨S8192x1x1x32, .f32⟩
  | .hbm, ⟨27, _⟩ => ⟨S2x8192x512, .f32⟩
  | .hbm, ⟨28, _⟩ => ⟨S2x8192x512, .f32⟩
  | .hbm, ⟨29, _⟩ => ⟨S2x8192x512, .f32⟩
  | .hbm, ⟨30, _⟩ => ⟨S2x8192x512, .f32⟩
  | .hbm, ⟨31, _⟩ => ⟨S2x8192x4x2x64, .f32⟩
  | .hbm, ⟨32, _⟩ => ⟨S2x8192x4x2x32, .f32⟩
  | .hbm, ⟨33, _⟩ => ⟨S2x8192x4x2x32, .f32⟩
  | .hbm, ⟨34, _⟩ => ⟨S1x8192x1x1x32, .f32⟩
  | .hbm, ⟨35, _⟩ => ⟨S2x8192x4x2x32, .f32⟩
  | .hbm, ⟨36, _⟩ => ⟨S2x8192x4x2x32, .f32⟩
  | .hbm, ⟨37, _⟩ => ⟨S1x8192x1x1x32, .f32⟩
  | .hbm, ⟨38, _⟩ => ⟨S2x8192x4x2x32, .f32⟩
  | .hbm, ⟨39, _⟩ => ⟨S2x8192x4x2x32, .f32⟩
  | .hbm, ⟨40, _⟩ => ⟨S2x8192x4x2x32, .f32⟩
  | .hbm, ⟨41, _⟩ => ⟨S1x8192x1x1x32, .f32⟩
  | .hbm, ⟨42, _⟩ => ⟨S2x8192x4x2x32, .f32⟩
  | .hbm, ⟨43, _⟩ => ⟨S2x8192x4x2x32, .f32⟩
  | .hbm, ⟨44, _⟩ => ⟨S1x8192x1x1x32, .f32⟩
  | .hbm, ⟨45, _⟩ => ⟨S2x8192x4x2x32, .f32⟩
  | .hbm, ⟨46, _⟩ => ⟨S2x8192x4x2x32, .f32⟩
  | .hbm, ⟨47, _⟩ => ⟨S2x8192x4x2x32, .f32⟩
  | .hbm, ⟨48, _⟩ => ⟨S2x8192x4x2x64, .f32⟩
  | .hbm, ⟨49, _⟩ => ⟨S2x4x2x64x8192, .f32⟩
  | .hbm, ⟨50, _⟩ => ⟨S2x512x8192, .f32⟩
  | .hbm, ⟨51, _⟩ => ⟨S65536x128, .f32⟩
  | .hbm, ⟨52, _⟩ => ⟨S16384x512, .f32⟩
  | .hbm, ⟨53, _⟩ => ⟨S16384x512, .bf16⟩
  | .hbm, ⟨54, _⟩ => ⟨S32x512x512, .f32⟩
  | .hbm, ⟨55, _⟩ => ⟨S32x512x512, .f32⟩
  | .hbm, ⟨56, _⟩ => ⟨S32x512x512, .bf16⟩
  | .hbm, ⟨57, _⟩ => ⟨S16384x512, .f32⟩
  | .hbm, ⟨58, _⟩ => ⟨S16384x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x512 : Shape := ⟨3, ![2, 8192, 512]⟩
abbrev S1x1024x5632 : Shape := ⟨3, ![1, 1024, 5632]⟩
abbrev S1x128 : Shape := ⟨2, ![1, 128]⟩
abbrev S1x512x1024 : Shape := ⟨3, ![1, 512, 1024]⟩
abbrev S1x1024x1024 : Shape := ⟨3, ![1, 1024, 1024]⟩
abbrev S1x1024 : Shape := ⟨2, ![1, 1024]⟩
abbrev S1x3x2816 : Shape := ⟨3, ![1, 3, 2816]⟩
abbrev S1x2816 : Shape := ⟨2, ![1, 2816]⟩
abbrev S1x2816x1024 : Shape := ⟨3, ![1, 2816, 1024]⟩
abbrev S1x1024x2560 : Shape := ⟨3, ![1, 1024, 2560]⟩
abbrev S1024x2560 : Shape := ⟨2, ![1024, 2560]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S2x2x2816 : Shape := ⟨3, ![2, 2, 2816]⟩
abbrev S16384x1024 : Shape := ⟨2, ![16384, 1024]⟩
abbrev S16384x512 : Shape := ⟨2, ![16384, 512]⟩
abbrev S512x512 : Shape := ⟨2, ![512, 512]⟩
abbrev S1x2x2816 : Shape := ⟨3, ![1, 2, 2816]⟩
abbrev S520x2816 : Shape := ⟨2, ![520, 2816]⟩
abbrev S256x1024 : Shape := ⟨2, ![256, 1024]⟩
abbrev S256x2560 : Shape := ⟨2, ![256, 2560]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S2x2816 : Shape := ⟨2, ![2, 2816]⟩
abbrev S1024x512 : Shape := ⟨2, ![1024, 512]⟩
abbrev S2x512 : Shape := ⟨2, ![2, 512]⟩
abbrev S1x2x512 : Shape := ⟨3, ![1, 2, 512]⟩
abbrev S1x512 : Shape := ⟨2, ![1, 512]⟩
abbrev S1024x256 : Shape := ⟨2, ![1024, 256]⟩
abbrev S512x256 : Shape := ⟨2, ![512, 256]⟩
abbrev S2x256 : Shape := ⟨2, ![2, 256]⟩
abbrev S1x2x256 : Shape := ⟨3, ![1, 2, 256]⟩
abbrev S1x256 : Shape := ⟨2, ![1, 256]⟩
abbrev S512 : Shape := ⟨1, ![512]⟩
abbrev S512x1 : Shape := ⟨2, ![512, 1]⟩

abbrev nBuf : Space → Nat
  | .hbm => 50
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S1x1024x5632, .f32⟩
  | .hbm, ⟨4, _⟩ => ⟨S1x128, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024x5632, .f32⟩
  | .hbm, ⟨11, _⟩ => ⟨S1x3x2816, .f32⟩
  | .hbm, ⟨12, _⟩ => ⟨S1x2816, .f32⟩
  | .hbm, ⟨13, _⟩ => ⟨S1x2816x1024, .f32⟩
  | .hbm, ⟨14, _⟩ => ⟨S1x1024, .f32⟩
  | .hbm, ⟨15, _⟩ => ⟨S1x1024, .f32⟩
  | .hbm, ⟨16, _⟩ => ⟨S1x1024x2560, .f32⟩
  | .hbm, ⟨17, _⟩ => ⟨S1024x2560, .f32⟩
  | .hbm, ⟨18, _⟩ => ⟨S1024x2560, .bf16⟩
  | .hbm, ⟨19, _⟩ => ⟨S128, .f32⟩
  | .hbm, ⟨20, _⟩ => ⟨S1x128, .f32⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | .hbm, ⟨25, _⟩ => ⟨S1024x1024, .f32⟩
  | .hbm, ⟨26, _⟩ => ⟨S1024x1024, .bf16⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024x5632, .f32⟩
  | .hbm, ⟨32, _⟩ => ⟨S1024x5632, .bf16⟩
  | .hbm, ⟨33, _⟩ => ⟨S3x2816, .f32⟩
  | .hbm, ⟨34, _⟩ => ⟨S2816, .f32⟩
  | .hbm, ⟨35, _⟩ => ⟨S1x2816, .f32⟩
  | .hbm, ⟨36, _⟩ => ⟨S2816x1024, .f32⟩
  | .hbm, ⟨37, _⟩ => ⟨S2816x1024, .bf16⟩
  | .hbm, ⟨38, _⟩ => ⟨S1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S2x2x2816, .f32⟩
  | .hbm, ⟨44, _⟩ => ⟨S16384x1024, .f32⟩
  | .hbm, ⟨45, _⟩ => ⟨S16384x512, .f32⟩
  | .hbm, ⟨46, _⟩ => ⟨S16384x512, .bf16⟩
  | .hbm, ⟨47, _⟩ => ⟨S16384x512, .f32⟩
  | .hbm, ⟨48, _⟩ => ⟨S16384x1024, .f32⟩
  | .hbm, ⟨49, _⟩ => ⟨S2x2x2816, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S1x2x2816, .f32⟩
  | .local _ .vmem, ⟨7, _⟩ => ⟨S1x2x2816, .f32⟩
  | .local _ .vmem, ⟨8, _⟩ => ⟨S1x2x2816, .f32⟩
  | .local _ .vmem, ⟨9, _⟩ => ⟨S1x2x2816, .f32⟩
  | .local _ .vmem, ⟨10, _⟩ => ⟨S1024x2560, .bf16⟩
  | .local _ .vmem, ⟨11, _⟩ => ⟨S1x128, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x5632, .bf16⟩
  | .local _ .vmem, ⟨18, _⟩ => ⟨S3x2816, .f32⟩
  | .local _ .vmem, ⟨19, _⟩ => ⟨S1x2816, .f32⟩
  | .local _ .vmem, ⟨20, _⟩ => ⟨S2816x1024, .bf16⟩
  | .local _ .vmem, ⟨21, _⟩ => ⟨S1x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x2x2816, .f32⟩
  | .local _ .vmem, ⟨26, _⟩ => ⟨S1x2x2816, .f32⟩
  | .local _ .vmem, ⟨27, _⟩ => ⟨S520x2816, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31_0 : Ref sig .tc := ⟨.hbm, 48, rfl⟩
abbrev main_v31_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem18_1 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x2x2816 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== Kernel3Ideal.lean ====
variable {F : FTy → Type} [FloatOps F] [Named F]
def κ : String → Option EReal := fun
  | "alpha" => some ((Real.sqrt (Real.sqrt 2) : ℝ) : EReal)
  | "rsqrt2" => some (((Real.sqrt 2)⁻¹ : ℝ) : EReal)
  | _ => none
-- ==== Reference3Ideal.lean ====
abbrev S2x8192x1024 : Shape := ⟨3, ![2, 8192, 1024]⟩
abbrev S2x8192x512 : Shape := ⟨3, ![2, 8192, 512]⟩
abbrev S1x1024x5632 : Shape := ⟨3, ![1, 1024, 5632]⟩
abbrev S1x128 : Shape := ⟨2, ![1, 128]⟩
abbrev S1x512x1024 : Shape := ⟨3, ![1, 512, 1024]⟩
abbrev S1x1024x1024 : Shape := ⟨3, ![1, 1024, 1024]⟩
abbrev S1x1024 : Shape := ⟨2, ![1, 1024]⟩
abbrev S1x3x2816 : Shape := ⟨3, ![1, 3, 2816]⟩
abbrev S1x2816 : Shape := ⟨2, ![1, 2816]⟩
abbrev S1x2816x1024 : Shape := ⟨3, ![1, 2816, 1024]⟩
abbrev S_ : Shape := ⟨0, ![]⟩
abbrev S1024x5632 : Shape := ⟨2, ![1024, 5632]⟩
abbrev S2x8192x5632 : Shape := ⟨3, ![2, 8192, 5632]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S128 : Shape := ⟨1, ![128]⟩
abbrev S1x1x1x128 : Shape := ⟨4, ![1, 1, 1, 128]⟩
abbrev S512x1024 : Shape := ⟨2, ![512, 1024]⟩
abbrev S1024x1024 : Shape := ⟨2, ![1024, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S2x2x2816 : Shape := ⟨3, ![2, 2, 2816]⟩
abbrev S2x8194x2816 : Shape := ⟨3, ![2, 8194, 2816]⟩
abbrev S2816 : Shape := ⟨1, ![2816]⟩
abbrev S1x1x2816 : Shape := ⟨3, ![1, 1, 2816]⟩
abbrev S2816x1024 : Shape := ⟨2, ![2816, 1024]⟩
abbrev S16384x1024 : Shape := ⟨2, ![16384, 1024]⟩

abbrev nBuf : Space → Nat
  | .hbm => 195
  | .vmem => 0
  | .smem => 0
  | _ => 0

abbrev hbmTy0_0 (i : Nat) : BufTy := match i % 128 with
  | 0 => ⟨S2x8192x1024, .f32⟩
  | 1 => ⟨S2x8192x512, .f32⟩
  | 2 => ⟨S2x8192x512, .f32⟩
  | 3 => ⟨S1x1024x5632, .f32⟩
  | 4 => ⟨S1x128, .f32⟩
  | 5 => ⟨S1x512x1024, .f32⟩
  | 6 => ⟨S1x512x1024, .f32⟩
  | 7 => ⟨S1x1024x1024, .f32⟩
  | 8 => ⟨S1x1024, .f32⟩
  | 9 => ⟨S1x1024, .f32⟩
  | 10 => ⟨S1x1024x5632, .f32⟩
  | 11 => ⟨S1x3x2816, .f32⟩
  | 12 => ⟨S1x2816, .f32⟩
  | 13 => ⟨S1x2816x1024, .f32⟩
  | 14 => ⟨S1x1024, .f32⟩
  | 15 => ⟨S1x1024, .f32⟩
  | 16 => ⟨S_, .f32⟩
  | 17 => ⟨S_, .f32⟩
  | 18 => ⟨S_, .f32⟩
  | 19 => ⟨S1024x5632, .f32⟩
  | 20 => ⟨S2x8192x5632, .f32⟩
  | 21 => ⟨S2x8192x512, .f32⟩
  | 22 => ⟨S2x8192x1024, .f32⟩
  | 23 => ⟨S2x8192x1024, .f32⟩
  | 24 => ⟨S2x8192x4x128, .f32⟩
  | 25 => ⟨S2x8192x4x128, .f32⟩
  | 26 => ⟨S_, .f32⟩
  | 27 => ⟨S2x8192x4, .f32⟩
  | 28 => ⟨S2x8192x4x1, .f32⟩
  | 29 => ⟨S_, .f32⟩
  | 30 => ⟨S2x8192x4x1, .f32⟩
  | 31 => ⟨S2x8192x4x1, .f32⟩
  | 32 => ⟨S_, .f32⟩
  | 33 => ⟨S2x8192x4x1, .f32⟩
  | 34 => ⟨S2x8192x4x1, .f32⟩
  | 35 => ⟨S2x8192x4x1, .f32⟩
  | 36 => ⟨S2x8192x4x128, .f32⟩
  | 37 => ⟨S2x8192x4x128, .f32⟩
  | 38 => ⟨S128, .f32⟩
  | 39 => ⟨S1x1x1x128, .f32⟩
  | 40 => ⟨S2x8192x4x128, .f32⟩
  | 41 => ⟨S2x8192x4x128, .f32⟩
  | 42 => ⟨S2x8192x512, .f32⟩
  | 43 => ⟨S2x8192x512, .f32⟩
  | 44 => ⟨S2x8192x512, .f32⟩
  | 45 => ⟨S_, .f32⟩
  | 46 => ⟨S2x8192x512, .f32⟩
  | 47 => ⟨S2x8192x512, .f32⟩
  | 48 => ⟨S_, .f32⟩
  | 49 => ⟨S2x8192x512, .f32⟩
  | 50 => ⟨S2x8192x512, .f32⟩
  | 51 => ⟨S2x8192x512, .f32⟩
  | 52 => ⟨S2x8192x512, .f32⟩
  | 53 => ⟨S2x8192x1024, .f32⟩
  | 54 => ⟨S2x8192x1024, .f32⟩
  | 55 => ⟨S_, .f32⟩
  | 56 => ⟨S2x8192x1024, .f32⟩
  | 57 => ⟨S2x8192x1024, .f32⟩
  | 58 => ⟨S_, .f32⟩
  | 59 => ⟨S2x8192x1024, .f32⟩
  | 60 => ⟨S2x8192x1024, .f32⟩
  | 61 => ⟨S512x1024, .f32⟩
  | 62 => ⟨S2x8192x1024, .f32⟩
  | 63 => ⟨S2x8192x1024, .f32⟩
  | 64 => ⟨S2x8192x1024, .f32⟩
  | 65 => ⟨S2x8192x1024, .f32⟩
  | 66 => ⟨S_, .f32⟩
  | 67 => ⟨S2x8192x1024, .f32⟩
  | 68 => ⟨S2x8192x1024, .f32⟩
  | 69 => ⟨S_, .f32⟩
  | 70 => ⟨S2x8192x1024, .f32⟩
  | 71 => ⟨S2x8192x1024, .f32⟩
  | 72 => ⟨S512x1024, .f32⟩
  | 73 => ⟨S2x8192x1024, .f32⟩
  | 74 => ⟨S2x8192x1024, .f32⟩
  | 75 => ⟨S2x8192x1024, .f32⟩
  | 76 => ⟨S2x8192x1024, .f32⟩
  | 77 => ⟨S2x8192x1024, .f32⟩
  | 78 => ⟨S1024x1024, .f32⟩
  | 79 => ⟨S2x8192x1024, .f32⟩
  | 80 => ⟨S2x8192x1024, .f32⟩
  | 81 => ⟨S1024, .f32⟩
  | 82 => ⟨S1024, .f32⟩
  | 83 => ⟨S_, .f32⟩
  | 84 => ⟨S2x8192, .f32⟩
  | 85 => ⟨S2x8192x1, .f32⟩
  | 86 => ⟨S_, .f32⟩
  | 87 => ⟨S2x8192x1, .f32⟩
  | 88 => ⟨S2x8192x1, .f32⟩
  | 89 => ⟨S2x8192x1024, .f32⟩
  | 90 => ⟨S2x8192x1024, .f32⟩
  | 91 => ⟨S2x8192x1024, .f32⟩
  | 92 => ⟨S_, .f32⟩
  | 93 => ⟨S2x8192, .f32⟩
  | 94 => ⟨S2x8192x1, .f32⟩
  | 95 => ⟨S_, .f32⟩
  | 96 => ⟨S2x8192x1, .f32⟩
  | 97 => ⟨S2x8192x1, .f32⟩
  | 98 => ⟨S2x8192x1024, .f32⟩
  | 99 => ⟨S2x8192x1024, .f32⟩
  | 100 => ⟨S_, .f32⟩
  | 101 => ⟨S2x8192x1, .f32⟩
  | 102 => ⟨S2x8192x1, .f32⟩
  | 103 => ⟨S2x8192x1, .f32⟩
  | 104 => ⟨S2x8192x1024, .f32⟩
  | 105 => ⟨S2x8192x1024, .f32⟩
  | 106 => ⟨S1x1x1024, .f32⟩
  | 107 => ⟨S2x8192x1024, .f32⟩
  | 108 => ⟨S2x8192x1024, .f32⟩
  | 109 => ⟨S1x1x1024, .f32⟩
  | 110 => ⟨S2x8192x1024, .f32⟩
  | 111 => ⟨S2x8192x1024, .f32⟩
  | 112 => ⟨S1024x5632, .f32⟩
  | 113 => ⟨S2x8192x5632, .f32⟩
  | 114 => ⟨S2x8192x2816, .f32⟩
  | 115 => ⟨S2x8192x2816, .f32⟩
  | 116 => ⟨S_, .f32⟩
  | 117 => ⟨S2x2x2816, .f32⟩
  | 118 => ⟨S2x8194x2816, .f32⟩
  | 119 => ⟨S2816, .f32⟩
  | 120 => ⟨S2x8192x2816, .f32⟩
  | 121 => ⟨S1x1x2816, .f32⟩
  | 122 => ⟨S2816, .f32⟩
  | 123 => ⟨S1x1x2816, .f32⟩
  | 124 => ⟨S2x8192x2816, .f32⟩
  | 125 => ⟨S2x8192x2816, .f32⟩
  | 126 => ⟨S_, .f32⟩
  | 127 => ⟨S2x8192x2816, .f32⟩
  | _ => ⟨S2x8192x1024, .f32⟩

abbrev hbmTy0_1 (i : Nat) : BufTy := match i % 128 with
  | 0 => ⟨S2x8192x2816, .f32⟩
  | 1 => ⟨S2x8192x2816, .f32⟩
  | 2 => ⟨S1x1x2816, .f32⟩
  | 3 => ⟨S2816, .f32⟩
  | 4 => ⟨S1x1x2816, .f32⟩
  | 5 => ⟨S2x8192x2816, .f32⟩
  | 6 => ⟨S2x8192x2816, .f32⟩
  | 7 => ⟨S2x8192x2816, .f32⟩
  | 8 => ⟨S2x8192x2816, .f32⟩
  | 9 => ⟨S1x1x2816, .f32⟩
  | 10 => ⟨S2816, .f32⟩
  | 11 => ⟨S1x1x2816, .f32⟩
  | 12 => ⟨S2x8192x2816, .f32⟩
  | 13 => ⟨S2x8192x2816, .f32⟩
  | 14 => ⟨S2x8192x2816, .f32⟩
  | 15 => ⟨S1x1x2816, .f32⟩
  | 16 => ⟨S2x8192x2816, .f32⟩
  | 17 => ⟨S2x8192x2816, .f32⟩
  | 18 => ⟨S_, .f32⟩
  | 19 => ⟨S2x8192x2816, .f32⟩
  | 20 => ⟨S2x8192x2816, .f32⟩
  | 21 => ⟨S2x8192x2816, .f32⟩
  | 22 => ⟨S2x8192x2816, .f32⟩
  | 23 => ⟨S2x8192x2816, .f32⟩
  | 24 => ⟨S_, .f32⟩
  | 25 => ⟨S2x8192x2816, .f32⟩
  | 26 => ⟨S2x8192x2816, .f32⟩
  | 27 => ⟨S2x8192x2816, .f32⟩
  | 28 => ⟨S2x8192x2816, .f32⟩
  | 29 => ⟨S2816x1024, .f32⟩
  | 30 => ⟨S2x8192x1024, .f32⟩
  | 31 => ⟨S2x8192x1024, .f32⟩
  | 32 => ⟨S2x8192x1024, .f32⟩
  | 33 => ⟨S2x8192x1024, .f32⟩
  | 34 => ⟨S1024, .f32⟩
  | 35 => ⟨S1024, .f32⟩
  | 36 => ⟨S_, .f32⟩
  | 37 => ⟨S2x8192, .f32⟩
  | 38 => ⟨S2x8192x1, .f32⟩
  | 39 => ⟨S_, .f32⟩
  | 40 => ⟨S2x8192x1, .f32⟩
  | 41 => ⟨S2x8192x1, .f32⟩
  | 42 => ⟨S2x8192x1024, .f32⟩
  | 43 => ⟨S2x8192x1024, .f32⟩
  | 44 => ⟨S2x8192x1024, .f32⟩
  | 45 => ⟨S_, .f32⟩
  | 46 => ⟨S2x8192, .f32⟩
  | 47 => ⟨S2x8192x1, .f32⟩
  | 48 => ⟨S_, .f32⟩
  | 49 => ⟨S2x8192x1, .f32⟩
  | 50 => ⟨S2x8192x1, .f32⟩
  | 51 => ⟨S2x8192x1024, .f32⟩
  | 52 => ⟨S2x8192x1024, .f32⟩
  | 53 => ⟨S_, .f32⟩
  | 54 => ⟨S2x8192x1, .f32⟩
  | 55 => ⟨S2x8192x1, .f32⟩
  | 56 => ⟨S2x8192x1, .f32⟩
  | 57 => ⟨S2x8192x1024, .f32⟩
  | 58 => ⟨S2x8192x1024, .f32⟩
  | 59 => ⟨S1x1x1024, .f32⟩
  | 60 => ⟨S2x8192x1024, .f32⟩
  | 61 => ⟨S2x8192x1024, .f32⟩
  | 62 => ⟨S1x1x1024, .f32⟩
  | 63 => ⟨S2x8192x1024, .f32⟩
  | 64 => ⟨S2x8192x1024, .f32⟩
  | 65 => ⟨S16384x1024, .f32⟩
  | 66 => ⟨S2x2x2816, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_3 : Ref sig .tc := ⟨.hbm, 55, rfl⟩
abbrev main_v27 : Ref sig .tc := ⟨.hbm, 56, rfl⟩
abbrev main_v28 : Ref sig .tc := ⟨.hbm, 57, rfl⟩
abbrev main_cst_4 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_5 : Ref sig .tc := ⟨.hbm, 66, rfl⟩
abbrev main_v36 : Ref sig .tc := ⟨.hbm, 67, rfl⟩
abbrev main_v37 : Ref sig .tc := ⟨.hbm, 68, rfl⟩
abbrev main_cst_6 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_7 : Ref sig .tc := ⟨.hbm, 83, rfl⟩
abbrev main_v51 : Ref sig .tc := ⟨.hbm, 84, rfl⟩
abbrev main_v52 : Ref sig .tc := ⟨.hbm, 85, rfl⟩
abbrev main_cst_8 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_9 : Ref sig .tc := ⟨.hbm, 92, rfl⟩
abbrev main_v58 : Ref sig .tc := ⟨.hbm, 93, rfl⟩
abbrev main_v59 : Ref sig .tc := ⟨.hbm, 94, rfl⟩
abbrev main_cst_10 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_11 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_12 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_13 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_14 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_15 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_16 : Ref sig .tc := ⟨.hbm, 164, rfl⟩
abbrev main_v123 : Ref sig .tc := ⟨.hbm, 165, rfl⟩
abbrev main_v124 : Ref sig .tc := ⟨.hbm, 166, rfl⟩
abbrev main_cst_17 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_18 : Ref sig .tc := ⟨.hbm, 173, rfl⟩
abbrev main_v130 : Ref sig .tc := ⟨.hbm, 174, rfl⟩
abbrev main_v131 : Ref sig .tc := ⟨.hbm, 175, rfl⟩
abbrev main_cst_19 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_20 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩

abbrev nD : Nat := 1
abbrev τ : Topo := Topo.v7x

variable {F : FTy → Type} [FloatOps F]
-- ==== Kernel4.lean ====
abbrev S32x4x1024 : Shape := ⟨3, ![32, 4, 1024]⟩
abbrev S1x1024x5632 : Shape := ⟨3, ![1, 1024, 5632]⟩
abbrev S2x512 : Shape := ⟨2, ![2, 512]⟩
abbrev S32 : Shape := ⟨1, ![32]⟩
abbrev S_ : Shape := ⟨0, ![]⟩
abbrev S4 : Shape := ⟨1, ![4]⟩
abbrev S1x4 : Shape := ⟨2, ![1, 4]⟩
abbrev S32x4 : Shape := ⟨2, ![32, 4]⟩
abbrev S128 : Shape := ⟨1, ![128]⟩
abbrev S128x1 : Shape := ⟨2, ![128, 1]⟩
abbrev S1x32 : Shape := ⟨2, ![1, 32]⟩
abbrev S128x32 : Shape := ⟨2, ![128, 32]⟩
abbrev S128x64 : Shape := ⟨2, ![128, 64]⟩
abbrev S1x128x1x64 : Shape := ⟨4, ![1, 128, 1, 64]⟩
abbrev S1x128x2x64 : Shape := ⟨4, ![1, 128, 2, 64]⟩
abbrev S128x128 : Shape := ⟨2, ![128, 128]⟩
abbrev S1x1024x3072 : Shape := ⟨3, ![1, 1024, 3072]⟩
abbrev S1024x3072 : Shape := ⟨2, ![1024, 3072]⟩
abbrev S128x1024 : Shape := ⟨2, ![128, 1024]⟩
abbrev S128x512 : Shape := ⟨2, ![128, 512]⟩
abbrev S1024x512 : Shape := ⟨2, ![1024, 512]⟩
abbrev S512 : Shape := ⟨1, ![512]⟩
abbrev S1x512 : Shape := ⟨2, ![1, 512]⟩

abbrev nBuf : Space → Nat
  | .hbm => 49
  | .vmem => 12
  | .smem => 0
  | _ => 0

abbrev bufTy : (tb : Table) → Fin (tcTables nBuf tb) → BufTy
  | .hbm, ⟨0, _⟩ => ⟨S32x4x1024, .f32⟩
  | .hbm, ⟨1, _⟩ => ⟨S1x1024x5632, .f32⟩
  | .hbm, ⟨2, _⟩ => ⟨S2x512, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4, .i32⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S4, .f32⟩
  | .hbm, ⟨19, _⟩ => ⟨S1x4, .f32⟩
  | .hbm, ⟨20, _⟩ => ⟨S32x4, .f32⟩
  | .hbm, ⟨21, _⟩ => ⟨S128, .f32⟩
  | .hbm, ⟨22, _⟩ => ⟨S128x1, .f32⟩
  | .hbm, ⟨23, _⟩ => ⟨S1x32, .f32⟩
  | .hbm, ⟨24, _⟩ => ⟨S128x32, .f32⟩
  | .hbm, ⟨25, _⟩ => ⟨S128x32, .f32⟩
  | .hbm, ⟨26, _⟩ => ⟨S128x32, .f32⟩
  | .hbm, ⟨27, _⟩ => ⟨S128x32, .f32⟩
  | .hbm, ⟨28, _⟩ => ⟨S128x32, .f32⟩
  | .hbm, ⟨29, _⟩ => ⟨S128x64, .f32⟩
  | .hbm, ⟨30, _⟩ => ⟨S1x128x1x64, .f32⟩
  | .hbm, ⟨31, _⟩ => ⟨S1x128x2x64, .f32⟩
  | .hbm, ⟨32, _⟩ => ⟨S128x128, .f32⟩
  | .hbm, ⟨33, _⟩ => ⟨S128x32, .f32⟩
  | .hbm, ⟨34, _⟩ => ⟨S128x64, .f32⟩
  | .hbm, ⟨35, _⟩ => ⟨S1x128x1x64, .f32⟩
  | .hbm, ⟨36, _⟩ => ⟨S1x128x2x64, .f32⟩
  | .hbm, ⟨37, _⟩ => ⟨S128x128, .f32⟩
  | .hbm, ⟨38, _⟩ => ⟨S1x1024x3072, .f32⟩
  | .hbm, ⟨39, _⟩ => ⟨S1024x3072, .f32⟩
  | .hbm, ⟨40, _⟩ => ⟨S1024x3072, .bf16⟩
  | .hbm, ⟨41, _⟩ => ⟨S128x1024, .f32⟩
  | .hbm, ⟨42, _⟩ => ⟨S128x512, .f32⟩
  | .hbm, ⟨43, _⟩ => ⟨S128x512, .f32⟩
  | .hbm, ⟨44, _⟩ => ⟨S128x512, .f32⟩
  | .hbm, ⟨45, _⟩ => ⟨S128x512, .f32⟩
  | .hbm, ⟨46, _⟩ => ⟨S128x512, .f32⟩
  | .hbm, ⟨47, _⟩ => ⟨S128x512, .f32⟩
  | .hbm, ⟨48, _⟩ => ⟨S128x512, .f32⟩
  | .local _ .vmem, ⟨0, _⟩ => ⟨S128x1024, .f32⟩
  | .local _ .vmem, ⟨1, _⟩ => ⟨S1024x3072, .bf16⟩
  | .local _ .vmem, ⟨2, _⟩ => ⟨S128x128, .f32⟩
  | .local _ .vmem, ⟨3, _⟩ => ⟨S128x128, .f32⟩
  | .local _ .vmem, ⟨4, _⟩ => ⟨S2x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev main_v35_2 : Ref sig .tc := ⟨.hbm, 44, rfl⟩
abbrev main_v35_3 : Ref sig .tc := ⟨.hbm, 45, rfl⟩
abbrev main_v35_4 : Ref sig .tc := ⟨.hbm, 46, rfl⟩
abbrev main_v35_5 : Ref sig .tc := ⟨.hbm, 47, rfl⟩
abbrev main_v35_6 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference4Ideal.lean ====
abbrev S32x4x1024 : Shape := ⟨3, ![32, 4, 1024]⟩
abbrev S1x1024x5632 : Shape := ⟨3, ![1, 1024, 5632]⟩
abbrev S2x512 : Shape := ⟨2, ![2, 512]⟩
abbrev S1024x5632 : Shape := ⟨2, ![1024, 5632]⟩
abbrev S32x4x5632 : Shape := ⟨3, ![32, 4, 5632]⟩
abbrev S32 : Shape := ⟨1, ![32]⟩
abbrev S_ : Shape := ⟨0, ![]⟩
abbrev S4 : Shape := ⟨1, ![4]⟩
abbrev S4x1 : Shape := ⟨2, ![4, 1]⟩
abbrev S1x32 : Shape := ⟨2, ![1, 32]⟩
abbrev S4x32 : Shape := ⟨2, ![4, 32]⟩
abbrev S4x1x1x32 : Shape := ⟨4, ![4, 1, 1, 32]⟩
abbrev S32x4x512 : Shape := ⟨3, ![32, 4, 512]⟩
abbrev S32x4x4x2x64 : Shape := ⟨5, ![32, 4, 4, 2, 64]⟩
abbrev S32x4x4x2x32 : Shape := ⟨5, ![32, 4, 4, 2, 32]⟩
abbrev S1x4x1x1x32 : Shape := ⟨5, ![1, 4, 1, 1, 32]⟩
abbrev S128x512 : Shape := ⟨2, ![128, 512]⟩

abbrev nBuf : Space → Nat
  | .hbm => 56
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1x1024x5632, .f32⟩
  | .hbm, ⟨2, _⟩ => ⟨S2x512, .f32⟩
  | .hbm, ⟨3, _⟩ => ⟨S1024x5632, .f32⟩
  | .hbm, ⟨4, _⟩ => ⟨S32x4x5632, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4, .i32⟩
  | .hbm, ⟨17, _⟩ => ⟨S_, .i32⟩
  | .hbm, ⟨18, _⟩ => ⟨S4, .i32⟩
  | .hbm, ⟨19, _⟩ => ⟨S4, .i32⟩
  | .hbm, ⟨20, _⟩ => ⟨S4, .f32⟩
  | .hbm, ⟨21, _⟩ => ⟨S4x1, .f32⟩
  | .hbm, ⟨22, _⟩ => ⟨S1x32, .f32⟩
  | .hbm, ⟨23, _⟩ => ⟨S4x32, .f32⟩
  | .hbm, ⟨24, _⟩ => ⟨S4x32, .f32⟩
  | .hbm, ⟨25, _⟩ => ⟨S4x32, .f32⟩
  | .hbm, ⟨26, _⟩ => ⟨S4x32, .f32⟩
  | .hbm, ⟨27, _⟩ => ⟨S4x1x1x32, .f32⟩
  | .hbm, ⟨28, _⟩ => ⟨S4x32, .f32⟩
  | .hbm, ⟨29, _⟩ => ⟨S4x1x1x32, .f32⟩
  | .hbm, ⟨30, _⟩ => ⟨S32x4x512, .f32⟩
  | .hbm, ⟨31, _⟩ => ⟨S32x4x512, .f32⟩
  | .hbm, ⟨32, _⟩ => ⟨S32x4x512, .f32⟩
  | .hbm, ⟨33, _⟩ => ⟨S32x4x512, .f32⟩
  | .hbm, ⟨34, _⟩ => ⟨S32x4x4x2x64, .f32⟩
  | .hbm, ⟨35, _⟩ => ⟨S32x4x4x2x32, .f32⟩
  | .hbm, ⟨36, _⟩ => ⟨S32x4x4x2x32, .f32⟩
  | .hbm, ⟨37, _⟩ => ⟨S1x4x1x1x32, .f32⟩
  | .hbm, ⟨38, _⟩ => ⟨S32x4x4x2x32, .f32⟩
  | .hbm, ⟨39, _⟩ => ⟨S32x4x4x2x32, .f32⟩
  | .hbm, ⟨40, _⟩ => ⟨S1x4x1x1x32, .f32⟩
  | .hbm, ⟨41, _⟩ => ⟨S32x4x4x2x32, .f32⟩
  | .hbm, ⟨42, _⟩ => ⟨S32x4x4x2x32, .f32⟩
  | .hbm, ⟨43, _⟩ => ⟨S32x4x4x2x32, .f32⟩
  | .hbm, ⟨44, _⟩ => ⟨S1x4x1x1x32, .f32⟩
  | .hbm, ⟨45, _⟩ => ⟨S32x4x4x2x32, .f32⟩
  | .hbm, ⟨46, _⟩ => ⟨S32x4x4x2x32, .f32⟩
  | .hbm, ⟨47, _⟩ => ⟨S1x4x1x1x32, .f32⟩
  | .hbm, ⟨48, _⟩ => ⟨S32x4x4x2x32, .f32⟩
  | .hbm, ⟨49, _⟩ => ⟨S32x4x4x2x32, .f32⟩
  | .hbm, ⟨50, _⟩ => ⟨S32x4x4x2x32, .f32⟩
  | .hbm, ⟨51, _⟩ => ⟨S32x4x4x2x64, .f32⟩
  | .hbm, ⟨52, _⟩ => ⟨S128x512, .f32⟩
  | .hbm, ⟨53, _⟩ => ⟨S128x512, .f32⟩
  | .hbm, ⟨54, _⟩ => ⟨S128x512, .f32⟩
  | .hbm, ⟨55, _⟩ => ⟨S128x512, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩

abbrev nD : Nat := 1
abbrev τ : Topo := Topo.v7x

variable {F : FTy → Type} [FloatOps F]
-- ==== Kernel5.lean ====
abbrev S32x4x1024 : Shape := ⟨3, ![32, 4, 1024]⟩
abbrev S32x4x512 : Shape := ⟨3, ![32, 4, 512]⟩
abbrev S32x1x2x2816 : Shape := ⟨4, ![32, 1, 2, 2816]⟩
abbrev S1x1024x5632 : Shape := ⟨3, ![1, 1024, 5632]⟩
abbrev S1x128 : Shape := ⟨2, ![1, 128]⟩
abbrev S1x512x1024 : Shape := ⟨3, ![1, 512, 1024]⟩
abbrev S1x1024x1024 : Shape := ⟨3, ![1, 1024, 1024]⟩
abbrev S1x1024 : Shape := ⟨2, ![1, 1024]⟩
abbrev S1x3x2816 : Shape := ⟨3, ![1, 3, 2816]⟩
abbrev S1x2816 : Shape := ⟨2, ![1, 2816]⟩
abbrev S1x2816x1024 : Shape := ⟨3, ![1, 2816, 1024]⟩
abbrev S1x1024x2560 : Shape := ⟨3, ![1, 1024, 2560]⟩
abbrev S1024x2560 : Shape := ⟨2, ![1024, 2560]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32x2x2816 : Shape := ⟨3, ![32, 2, 2816]⟩
abbrev S_ : Shape := ⟨0, ![]⟩
abbrev S32x4x2816 : Shape := ⟨3, ![32, 4, 2816]⟩
abbrev S32x1x2816 : Shape := ⟨3, ![32, 1, 2816]⟩
abbrev S32x3x2816 : Shape := ⟨3, ![32, 3, 2816]⟩
abbrev S128x1024 : Shape := ⟨2, ![128, 1024]⟩
abbrev S128x512 : Shape := ⟨2, ![128, 512]⟩
abbrev S128x2816 : Shape := ⟨2, ![128, 2816]⟩
abbrev S128x2560 : Shape := ⟨2, ![128, 2560]⟩
abbrev S128x128 : Shape := ⟨2, ![128, 128]⟩
abbrev S128x1 : Shape := ⟨2, ![128, 1]⟩
abbrev S1024x512 : Shape := ⟨2, ![1024, 512]⟩
abbrev S1x512 : Shape := ⟨2, ![1, 512]⟩
abbrev S1024x256 : Shape := ⟨2, ![1024, 256]⟩
abbrev S128x256 : Shape := ⟨2, ![128, 256]⟩
abbrev S1x256 : Shape := ⟨2, ![1, 256]⟩
abbrev S256x1024 : Shape := ⟨2, ![256, 1024]⟩
abbrev S32x6x2816 : Shape := ⟨3, ![32, 6, 2816]⟩

abbrev nBuf : Space → Nat
  | .hbm => 62
  | .vmem => 20
  | .smem => 0
  | _ => 0

abbrev bufTy : (tb : Table) → Fin (tcTables nBuf tb) → BufTy
  | .hbm, ⟨0, _⟩ => ⟨S32x4x1024, .f32⟩
  | .hbm, ⟨1, _⟩ => ⟨S32x4x512, .f32⟩
  | .hbm, ⟨2, _⟩ => ⟨S32x4x512, .f32⟩
  | .hbm, ⟨3, _⟩ => ⟨S32x1x2x2816, .f32⟩
  | .hbm, ⟨4, _⟩ => ⟨S1x1024x5632, .f32⟩
  | .hbm, ⟨5, _⟩ => ⟨S1x128, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024x5632, .f32⟩
  | .hbm, ⟨12, _⟩ => ⟨S1x3x2816, .f32⟩
  | .hbm, ⟨13, _⟩ => ⟨S1x2816, .f32⟩
  | .hbm, ⟨14, _⟩ => ⟨S1x2816x1024, .f32⟩
  | .hbm, ⟨15, _⟩ => ⟨S1x1024, .f32⟩
  | .hbm, ⟨16, _⟩ => ⟨S1x1024, .f32⟩
  | .hbm, ⟨17, _⟩ => ⟨S1x1024x2560, .f32⟩
  | .hbm, ⟨18, _⟩ => ⟨S1024x2560, .f32⟩
  | .hbm, ⟨19, _⟩ => ⟨S1024x2560, .bf16⟩
  | .hbm, ⟨20, _⟩ => ⟨S128, .f32⟩
  | .hbm, ⟨21, _⟩ => ⟨S1x128, .f32⟩
  | .hbm, ⟨22, _⟩ => ⟨S512x1024, .f32⟩
  | .hbm, ⟨23, _⟩ => ⟨S512x1024, .bf16⟩
  | .hbm, ⟨24, _⟩ => ⟨S512x1024, .f32⟩
  | .hbm, ⟨25, _⟩ => ⟨S512x1024, .bf16⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1024x5632, .f32⟩
  | .hbm, ⟨33, _⟩ => ⟨S1024x5632, .bf16⟩
  | .hbm, ⟨34, _⟩ => ⟨S3x2816, .f32⟩
  | .hbm, ⟨35, _⟩ => ⟨S2816, .f32⟩
  | .hbm, ⟨36, _⟩ => ⟨S1x2816, .f32⟩
  | .hbm, ⟨37, _⟩ => ⟨S2816x1024, .f32⟩
  | .hbm, ⟨38, _⟩ => ⟨S2816x1024, .bf16⟩
  | .hbm, ⟨39, _⟩ => ⟨S1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S32x2x2816, .f32⟩
  | .hbm, ⟨44, _⟩ => ⟨S_, .f32⟩
  | .hbm, ⟨45, _⟩ => ⟨S32x2x2816, .f32⟩
  | .hbm, ⟨46, _⟩ => ⟨S32x4x2816, .f32⟩
  | .hbm, ⟨47, _⟩ => ⟨S32x1x2816, .f32⟩
  | .hbm, ⟨48, _⟩ => ⟨S_, .f32⟩
  | .hbm, ⟨49, _⟩ => ⟨S32x3x2816, .f32⟩
  | .hbm, ⟨50, _⟩ => ⟨S32x4x2816, .f32⟩
  | .hbm, ⟨51, _⟩ => ⟨S128x1024, .f32⟩
  | .hbm, ⟨52, _⟩ => ⟨S128x512, .f32⟩
  | .hbm, ⟨53, _⟩ => ⟨S128x512, .bf16⟩
  | .hbm, ⟨54, _⟩ => ⟨S128x512, .f32⟩
  | .hbm, ⟨55, _⟩ => ⟨S128x2816, .f32⟩
  | .hbm, ⟨56, _⟩ => ⟨S128x2816, .f32⟩
  | .hbm, ⟨57, _⟩ => ⟨S128x1024, .f32⟩
  | .hbm, ⟨58, _⟩ => ⟨S128x2816, .f32⟩
  | .hbm, ⟨59, _⟩ => ⟨S32x4x2816, .f32⟩
  | .hbm, ⟨60, _⟩ => ⟨S32x6x2816, .f32⟩
  | .hbm, ⟨61, _⟩ => ⟨S32x2x2816, .f32⟩
  | .local _ .vmem, ⟨0, _⟩ => ⟨S128x1024, .f32⟩
  | .local _ .vmem, ⟨1, _⟩ => ⟨S128x512, .bf16⟩
  | .local _ .vmem, ⟨2, _⟩ => ⟨S128x512, .f32⟩
  | .local _ .vmem, ⟨3, _⟩ => ⟨S128x2816, .f32⟩
  | .local _ .vmem, ⟨4, _⟩ => ⟨S128x2816, .f32⟩
  | .local _ .vmem, ⟨5, _⟩ => ⟨S1024x2560, .bf16⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x5632, .bf16⟩
  | .local _ .vmem, ⟨13, _⟩ => ⟨S3x2816, .f32⟩
  | .local _ .vmem, ⟨14, _⟩ => ⟨S1x2816, .f32⟩
  | .local _ .vmem, ⟨15, _⟩ => ⟨S2816x1024, .bf16⟩
  | .local _ .vmem, ⟨16, _⟩ => ⟨S1x1024, .f32⟩
  | .local _ .vmem, ⟨17, _⟩ => ⟨S1x1024, .f32⟩
  | .local _ .vmem, ⟨18, _⟩ => ⟨S128x1024, .f32⟩
  | .local _ .vmem, ⟨19, _⟩ => ⟨S128x2816, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38_0 : Ref sig .tc := ⟨.hbm, 57, rfl⟩
abbrev main_v38_1 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]

abbrev stage0_19 : Fin 1 → Memref sig .tc .vmem S128x2816 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, true]
-- ==== Kernel5Ideal.lean ====
variable {F : FTy → Type} [FloatOps F] [Named F]
def κ : String → Option EReal := fun
  | "alpha" => some ((Real.sqrt (Real.sqrt 2) : ℝ) : EReal)
  | "rsqrt2" => some (((Real.sqrt 2)⁻¹ : ℝ) : EReal)
  | _ => none
-- ==== Reference5Ideal.lean ====
abbrev S32x4x1024 : Shape := ⟨3, ![32, 4, 1024]⟩
abbrev S32x4x512 : Shape := ⟨3, ![32, 4, 512]⟩
abbrev S32x1x2x2816 : Shape := ⟨4, ![32, 1, 2, 2816]⟩
abbrev S1x1024x5632 : Shape := ⟨3, ![1, 1024, 5632]⟩
abbrev S1x128 : Shape := ⟨2, ![1, 128]⟩
abbrev S1x512x1024 : Shape := ⟨3, ![1, 512, 1024]⟩
abbrev S1x1024x1024 : Shape := ⟨3, ![1, 1024, 1024]⟩
abbrev S1x1024 : Shape := ⟨2, ![1, 1024]⟩
abbrev S1x3x2816 : Shape := ⟨3, ![1, 3, 2816]⟩
abbrev S1x2816 : Shape := ⟨2, ![1, 2816]⟩
abbrev S1x2816x1024 : Shape := ⟨3, ![1, 2816, 1024]⟩
abbrev S_ : Shape := ⟨0, ![]⟩
abbrev S1024x5632 : Shape := ⟨2, ![1024, 5632]⟩
abbrev S32x4x5632 : Shape := ⟨3, ![32, 4, 5632]⟩
abbrev S32x4x4x128 : Shape := ⟨4, ![32, 4, 4, 128]⟩
abbrev S32x4x4 : Shape := ⟨3, ![32, 4, 4]⟩
abbrev S32x4x4x1 : Shape := ⟨4, ![32, 4, 4, 1]⟩
abbrev S128 : Shape := ⟨1, ![128]⟩
abbrev S1x1x1x128 : Shape := ⟨4, ![1, 1, 1, 128]⟩
abbrev S512x1024 : Shape := ⟨2, ![512, 1024]⟩
abbrev S1024x1024 : Shape := ⟨2, ![1024, 1024]⟩
abbrev S1024 : Shape := ⟨1, ![1024]⟩
abbrev S32x4 : Shape := ⟨2, ![32, 4]⟩
abbrev S32x4x1 : Shape := ⟨3, ![32, 4, 1]⟩
abbrev S1x1x1024 : Shape := ⟨3, ![1, 1, 1024]⟩
abbrev S32x4x2816 : Shape := ⟨3, ![32, 4, 2816]⟩
abbrev S32x2x2816 : Shape := ⟨3, ![32, 2, 2816]⟩
abbrev S32x6x2816 : Shape := ⟨3, ![32, 6, 2816]⟩
abbrev S2816 : Shape := ⟨1, ![2816]⟩
abbrev S1x1x2816 : Shape := ⟨3, ![1, 1, 2816]⟩
abbrev S2816x1024 : Shape := ⟨2, ![2816, 1024]⟩
abbrev S128x1024 : Shape := ⟨2, ![128, 1024]⟩

abbrev nBuf : Space → Nat
  | .hbm => 195
  | .vmem => 0
  | .smem => 0
  | _ => 0

abbrev hbmTy0_0 (i : Nat) : BufTy := match i % 128 with
  | 0 => ⟨S32x4x1024, .f32⟩
  | 1 => ⟨S32x4x512, .f32⟩
  | 2 => ⟨S32x4x512, .f32⟩
  | 3 => ⟨S32x1x2x2816, .f32⟩
  | 4 => ⟨S1x1024x5632, .f32⟩
  | 5 => ⟨S1x128, .f32⟩
  | 6 => ⟨S1x512x1024, .f32⟩
  | 7 => ⟨S1x512x1024, .f32⟩
  | 8 => ⟨S1x1024x1024, .f32⟩
  | 9 => ⟨S1x1024, .f32⟩
  | 10 => ⟨S1x1024, .f32⟩
  | 11 => ⟨S1x1024x5632, .f32⟩
  | 12 => ⟨S1x3x2816, .f32⟩
  | 13 => ⟨S1x2816, .f32⟩
  | 14 => ⟨S1x2816x1024, .f32⟩
  | 15 => ⟨S1x1024, .f32⟩
  | 16 => ⟨S1x1024, .f32⟩
  | 17 => ⟨S_, .f32⟩
  | 18 => ⟨S_, .f32⟩
  | 19 => ⟨S_, .f32⟩
  | 20 => ⟨S1024x5632, .f32⟩
  | 21 => ⟨S32x4x5632, .f32⟩
  | 22 => ⟨S32x4x512, .f32⟩
  | 23 => ⟨S32x4x1024, .f32⟩
  | 24 => ⟨S32x4x1024, .f32⟩
  | 25 => ⟨S32x4x4x128, .f32⟩
  | 26 => ⟨S32x4x4x128, .f32⟩
  | 27 => ⟨S_, .f32⟩
  | 28 => ⟨S32x4x4, .f32⟩
  | 29 => ⟨S32x4x4x1, .f32⟩
  | 30 => ⟨S_, .f32⟩
  | 31 => ⟨S32x4x4x1, .f32⟩
  | 32 => ⟨S32x4x4x1, .f32⟩
  | 33 => ⟨S_, .f32⟩
  | 34 => ⟨S32x4x4x1, .f32⟩
  | 35 => ⟨S32x4x4x1, .f32⟩
  | 36 => ⟨S32x4x4x1, .f32⟩
  | 37 => ⟨S32x4x4x128, .f32⟩
  | 38 => ⟨S32x4x4x128, .f32⟩
  | 39 => ⟨S128, .f32⟩
  | 40 => ⟨S1x1x1x128, .f32⟩
  | 41 => ⟨S32x4x4x128, .f32⟩
  | 42 => ⟨S32x4x4x128, .f32⟩
  | 43 => ⟨S32x4x512, .f32⟩
  | 44 => ⟨S32x4x512, .f32⟩
  | 45 => ⟨S32x4x512, .f32⟩
  | 46 => ⟨S_, .f32⟩
  | 47 => ⟨S32x4x512, .f32⟩
  | 48 => ⟨S32x4x512, .f32⟩
  | 49 => ⟨S_, .f32⟩
  | 50 => ⟨S32x4x512, .f32⟩
  | 51 => ⟨S32x4x512, .f32⟩
  | 52 => ⟨S32x4x512, .f32⟩
  | 53 => ⟨S32x4x512, .f32⟩
  | 54 => ⟨S32x4x1024, .f32⟩
  | 55 => ⟨S32x4x1024, .f32⟩
  | 56 => ⟨S_, .f32⟩
  | 57 => ⟨S32x4x1024, .f32⟩
  | 58 => ⟨S32x4x1024, .f32⟩
  | 59 => ⟨S_, .f32⟩
  | 60 => ⟨S32x4x1024, .f32⟩
  | 61 => ⟨S32x4x1024, .f32⟩
  | 62 => ⟨S512x1024, .f32⟩
  | 63 => ⟨S32x4x1024, .f32⟩
  | 64 => ⟨S32x4x1024, .f32⟩
  | 65 => ⟨S32x4x1024, .f32⟩
  | 66 => ⟨S32x4x1024, .f32⟩
  | 67 => ⟨S_, .f32⟩
  | 68 => ⟨S32x4x1024, .f32⟩
  | 69 => ⟨S32x4x1024, .f32⟩
  | 70 => ⟨S_, .f32⟩
  | 71 => ⟨S32x4x1024, .f32⟩
  | 72 => ⟨S32x4x1024, .f32⟩
  | 73 => ⟨S512x1024, .f32⟩
  | 74 => ⟨S32x4x1024, .f32⟩
  | 75 => ⟨S32x4x1024, .f32⟩
  | 76 => ⟨S32x4x1024, .f32⟩
  | 77 => ⟨S32x4x1024, .f32⟩
  | 78 => ⟨S32x4x1024, .f32⟩
  | 79 => ⟨S1024x1024, .f32⟩
  | 80 => ⟨S32x4x1024, .f32⟩
  | 81 => ⟨S32x4x1024, .f32⟩
  | 82 => ⟨S1024, .f32⟩
  | 83 => ⟨S1024, .f32⟩
  | 84 => ⟨S_, .f32⟩
  | 85 => ⟨S32x4, .f32⟩
  | 86 => ⟨S32x4x1, .f32⟩
  | 87 => ⟨S_, .f32⟩
  | 88 => ⟨S32x4x1, .f32⟩
  | 89 => ⟨S32x4x1, .f32⟩
  | 90 => ⟨S32x4x1024, .f32⟩
  | 91 => ⟨S32x4x1024, .f32⟩
  | 92 => ⟨S32x4x1024, .f32⟩
  | 93 => ⟨S_, .f32⟩
  | 94 => ⟨S32x4, .f32⟩
  | 95 => ⟨S32x4x1, .f32⟩
  | 96 => ⟨S_, .f32⟩
  | 97 => ⟨S32x4x1, .f32⟩
  | 98 => ⟨S32x4x1, .f32⟩
  | 99 => ⟨S32x4x1024, .f32⟩
  | 100 => ⟨S32x4x1024, .f32⟩
  | 101 => ⟨S_, .f32⟩
  | 102 => ⟨S32x4x1, .f32⟩
  | 103 => ⟨S32x4x1, .f32⟩
  | 104 => ⟨S32x4x1, .f32⟩
  | 105 => ⟨S32x4x1024, .f32⟩
  | 106 => ⟨S32x4x1024, .f32⟩
  | 107 => ⟨S1x1x1024, .f32⟩
  | 108 => ⟨S32x4x1024, .f32⟩
  | 109 => ⟨S32x4x1024, .f32⟩
  | 110 => ⟨S1x1x1024, .f32⟩
  | 111 => ⟨S32x4x1024, .f32⟩
  | 112 => ⟨S32x4x1024, .f32⟩
  | 113 => ⟨S1024x5632, .f32⟩
  | 114 => ⟨S32x4x5632, .f32⟩
  | 115 => ⟨S32x4x2816, .f32⟩
  | 116 => ⟨S32x4x2816, .f32⟩
  | 117 => ⟨S32x2x2816, .f32⟩
  | 118 => ⟨S32x6x2816, .f32⟩
  | 119 => ⟨S2816, .f32⟩
  | 120 => ⟨S32x4x2816, .f32⟩
  | 121 => ⟨S1x1x2816, .f32⟩
  | 122 => ⟨S2816, .f32⟩
  | 123 => ⟨S1x1x2816, .f32⟩
  | 124 => ⟨S32x4x2816, .f32⟩
  | 125 => ⟨S32x4x2816, .f32⟩
  | 126 => ⟨S_, .f32⟩
  | 127 => ⟨S32x4x2816, .f32⟩
  | _ => ⟨S32x4x1024, .f32⟩

abbrev hbmTy0_1 (i : Nat) : BufTy := match i % 128 with
  | 0 => ⟨S32x4x2816, .f32⟩
  | 1 => ⟨S32x4x2816, .f32⟩
  | 2 => ⟨S1x1x2816, .f32⟩
  | 3 => ⟨S2816, .f32⟩
  | 4 => ⟨S1x1x2816, .f32⟩
  | 5 => ⟨S32x4x2816, .f32⟩
  | 6 => ⟨S32x4x2816, .f32⟩
  | 7 => ⟨S32x4x2816, .f32⟩
  | 8 => ⟨S32x4x2816, .f32⟩
  | 9 => ⟨S1x1x2816, .f32⟩
  | 10 => ⟨S2816, .f32⟩
  | 11 => ⟨S1x1x2816, .f32⟩
  | 12 => ⟨S32x4x2816, .f32⟩
  | 13 => ⟨S32x4x2816, .f32⟩
  | 14 => ⟨S32x4x2816, .f32⟩
  | 15 => ⟨S1x1x2816, .f32⟩
  | 16 => ⟨S32x4x2816, .f32⟩
  | 17 => ⟨S32x4x2816, .f32⟩
  | 18 => ⟨S_, .f32⟩
  | 19 => ⟨S32x4x2816, .f32⟩
  | 20 => ⟨S32x4x2816, .f32⟩
  | 21 => ⟨S32x4x2816, .f32⟩
  | 22 => ⟨S32x4x2816, .f32⟩
  | 23 => ⟨S32x4x2816, .f32⟩
  | 24 => ⟨S_, .f32⟩
  | 25 => ⟨S32x4x2816, .f32⟩
  | 26 => ⟨S32x4x2816, .f32⟩
  | 27 => ⟨S32x4x2816, .f32⟩
  | 28 => ⟨S32x4x2816, .f32⟩
  | 29 => ⟨S2816x1024, .f32⟩
  | 30 => ⟨S32x4x1024, .f32⟩
  | 31 => ⟨S32x4x1024, .f32⟩
  | 32 => ⟨S32x4x1024, .f32⟩
  | 33 => ⟨S32x4x1024, .f32⟩
  | 34 => ⟨S1024, .f32⟩
  | 35 => ⟨S1024, .f32⟩
  | 36 => ⟨S_, .f32⟩
  | 37 => ⟨S32x4, .f32⟩
  | 38 => ⟨S32x4x1, .f32⟩
  | 39 => ⟨S_, .f32⟩
  | 40 => ⟨S32x4x1, .f32⟩
  | 41 => ⟨S32x4x1, .f32⟩
  | 42 => ⟨S32x4x1024, .f32⟩
  | 43 => ⟨S32x4x1024, .f32⟩
  | 44 => ⟨S32x4x1024, .f32⟩
  | 45 => ⟨S_, .f32⟩
  | 46 => ⟨S32x4, .f32⟩
  | 47 => ⟨S32x4x1, .f32⟩
  | 48 => ⟨S_, .f32⟩
  | 49 => ⟨S32x4x1, .f32⟩
  | 50 => ⟨S32x4x1, .f32⟩
  | 51 => ⟨S32x4x1024, .f32⟩
  | 52 => ⟨S32x4x1024, .f32⟩
  | 53 => ⟨S_, .f32⟩
  | 54 => ⟨S32x4x1, .f32⟩
  | 55 => ⟨S32x4x1, .f32⟩
  | 56 => ⟨S32x4x1, .f32⟩
  | 57 => ⟨S32x4x1024, .f32⟩
  | 58 => ⟨S32x4x1024, .f32⟩
  | 59 => ⟨S1x1x1024, .f32⟩
  | 60 => ⟨S32x4x1024, .f32⟩
  | 61 => ⟨S32x4x1024, .f32⟩
  | 62 => ⟨S1x1x1024, .f32⟩
  | 63 => ⟨S32x4x1024, .f32⟩
  | 64 => ⟨S32x4x1024, .f32⟩
  | 65 => ⟨S128x1024, .f32⟩
  | 66 => ⟨S32x2x2816, .f32⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_3 : Ref sig .tc := ⟨.hbm, 56, rfl⟩
abbrev main_v27 : Ref sig .tc := ⟨.hbm, 57, rfl⟩
abbrev main_v28 : Ref sig .tc := ⟨.hbm, 58, rfl⟩
abbrev main_cst_4 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_5 : Ref sig .tc := ⟨.hbm, 67, rfl⟩
abbrev main_v36 : Ref sig .tc := ⟨.hbm, 68, rfl⟩
abbrev main_v37 : Ref sig .tc := ⟨.hbm, 69, rfl⟩
abbrev main_cst_6 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_7 : Ref sig .tc := ⟨.hbm, 84, rfl⟩
abbrev main_v51 : Ref sig .tc := ⟨.hbm, 85, rfl⟩
abbrev main_v52 : Ref sig .tc := ⟨.hbm, 86, rfl⟩
abbrev main_cst_8 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_9 : Ref sig .tc := ⟨.hbm, 93, rfl⟩
abbrev main_v58 : Ref sig .tc := ⟨.hbm, 94, rfl⟩
abbrev main_v59 : Ref sig .tc := ⟨.hbm, 95, rfl⟩
abbrev main_cst_10 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_12 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_13 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_14 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_15 : Ref sig .tc := ⟨.hbm, 164, rfl⟩
abbrev main_v123 : Ref sig .tc := ⟨.hbm, 165, rfl⟩
abbrev main_v124 : Ref sig .tc := ⟨.hbm, 166, rfl⟩
abbrev main_cst_16 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_17 : Ref sig .tc := ⟨.hbm, 173, rfl⟩
abbrev main_v130 : Ref sig .tc := ⟨.hbm, 174, rfl⟩
abbrev main_v131 : Ref sig .tc := ⟨.hbm, 175, rfl⟩
abbrev main_cst_18 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_19 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩

abbrev nD : Nat := 1
abbrev τ : Topo := Topo.v7x

variable {F : FTy → Type} [FloatOps F]
-- ==== Proof.D.Model.lean ====
module

public import proofs.«01_k».proof.Proof.Gen.Kernel3Ideal
public import Idealize.ShloMosaic.Lib.Exec
public import Idealize.ShloMosaic.Lib.Pipeline.FrameBody
public import Idealize.ShloMosaic.Lib.Pipeline.Value
public import Idealize.ShloMosaic.Lib.VecWindow

@[expose] public section

set_option maxRecDepth 16384
set_option maxHeartbeats 2000000

noncomputable section

namespace Cert.Kernel3Ideal.Fin

open Cert.Kernel3Ideal Cert.Kernel3Ideal.Gen
open Idealize.ShloMosaic Idealize.ShloMosaic.TcCoe

variable {F : FTy → Type} [FloatOps F] [Named F]

/-! What one block of rows of the finishing call computes. -/

/-- The blocks one grid point of the call works on. -/
structure Bk (F : FTy → Type) where
  x : Vec F S512x1024 .f32
  oa : Vec F S512x512 .bf16
  ob : Vec F S512x512 .f32
  wg : Vec F S1024x2560 .bf16
  ng : Vec F S1x128 .f32
  wa : Vec F S512x1024 .bf16
  wb : Vec F S512x1024 .bf16
  wo : Vec F S1024x1024 .bf16
  l1g : Vec F S1x1024 .f32
  l1b : Vec F S1x1024 .f32
  wu : Vec F S1024x5632 .bf16
  cw : Vec F S3x2816 .f32
  cb : Vec F S1x2816 .f32
  wd : Vec F S2816x1024 .bf16
  l2g : Vec F S1x1024 .f32
  l2b : Vec F S1x1024 .f32

/-- What a load of a rectangle reads. -/
def part {s : Shape} {e : EltTy} (x : Vec F s e) (r : Rect s) : Vec F r.shape e := fun y => x (r.toLoadRect.idx y)

/-- A loaded row of 1024. -/
def row (g : Vec F S1x1024 .f32) : FVec F S1x1024 .f32 :=
  shapeCast S1x1024 (part g (Rect.unit (s := S1x1024) ![0, 0] S1x1024.size inb_S1x1024_S1x1024_0_0)) shapeCasts_S1x1024_S1x1024

/-- Layer normalisation of 256 rows. -/
def ln256 (z : FVec F S256x1024 .f32) (g b : Vec F S1x1024 .f32) : FVec F S256x1024 .f32 :=
  let d := subf z (broadcastTo S256x1024 (divf (shapeCast S256x1 (multiReduction .add [1] S256 z 0x00000000#32 reduces_S256x1024_S256 (.inl rfl) rfl) shapeCasts_S256_S256x1)
    (broadcast S256x1 (Scalar.ofBits .f32 0x44800000#32))) broadcasts_S256x1_S256x1024)
  let v := divf (shapeCast S256x1 (multiReduction .add [1] S256 (mulf d d) 0x00000000#32 reduces_S256x1024_S256 (.inl rfl) rfl) shapeCasts_S256_S256x1)
    (broadcast S256x1 (Scalar.ofBits .f32 0x44800000#32))
  addf (mulf (mulf d (broadcastTo S256x1024 (rsqrt (addf v (broadcast S256x1 (Scalar.ofBits .f32 0x3727C5AC#32)))) broadcasts_S256x1_S256x1024))
    (broadcastTo S256x1024 (row g) broadcasts_S1x1024_S256x1024)) (broadcastTo S256x1024 (row b) broadcasts_S1x1024_S256x1024)

/-- One head's lanes, normalised by their root mean square. -/
def rms (o : FVec F S256x128 .f32) (ng : Vec F S1x128 .f32) : FVec F S256x128 .f32 :=
  mulf (mulf o (broadcastTo S256x128 (rsqrt (addf (divf (shapeCast S256x1 (multiReduction .add [1] S256 (mulf o o) 0x00000000#32 reduces_S256x128_S256 (.inl rfl) rfl) shapeCasts_S256_S256x1)
      (broadcast S256x1 (Scalar.ofBits .f32 0x43000000#32))) (broadcast S256x1 (Scalar.ofBits .f32 0x3727C5AC#32)))) broadcasts_S256x1_S256x128))
    (broadcastTo S256x128 (shapeCast S1x128 (part ng (Rect.unit (s := S1x128) ![0, 0] S1x128.size inb_S1x128_S1x128_0_0)) shapeCasts_S1x128_S1x128) broadcasts_S1x128_S256x128)

/-- The gates of a group of rows. -/
def gates (x : FVec F S256x1024 .f32) (wg : Vec F S1024x2560 .bf16) : FVec F S256x2560 .f32 :=
  matmul dot_S256x1024_S1024x2560_S256x2560_1_0_0_1_n_n none (truncf .bf16 x bitsLt_bf16_f32)
    (shapeCast S1024x2560 (part wg (Rect.unit (s := S1024x2560) ![0, 0] S1024x2560.size inb_S1024x2560_S1024x2560_0_0)) shapeCasts_S1024x2560_S1024x2560) (constant S256x2560 .f32 0x00000000#32)

/-- The recurrence's outputs of a group of rows, normalised and gated. -/
def obn (gt : FVec F S256x2560 .f32) (ob : FVec F S256x512 .f32) (ng : Vec F S1x128 .f32) : FVec F S256x512 .bf16 :=
  let gb := extractStridedSlice S256x512 ![0, 0] gt slices_S256x2560_o0_0_S256x512
  truncf .bf16 (mulf (concatenate S256x512 1 [⟨S256x128, rms (extractStridedSlice S256x128 ![0, 0] ob slices_S256x512_o0_0_S256x128) ng⟩,
      ⟨S256x128, rms (extractStridedSlice S256x128 ![0, 128] ob slices_S256x512_o0_128_S256x128) ng⟩,
      ⟨S256x128, rms (extractStridedSlice S256x128 ![0, 256] ob slices_S256x512_o0_256_S256x128) ng⟩,
      ⟨S256x128, rms (extractStridedSlice S256x128 ![0, 384] ob slices_S256x512_o0_384_S256x128) ng⟩] concatenates_S256x128_S256x128_S256x128_S256x128_S256x512_d1)
    (mulf gb (logistic gb))) bitsLt_bf16_f32

/-- A branch's projection. -/
def br (o : FVec F S256x512 .bf16) (w : Vec F S512x1024 .bf16) : FVec F S256x1024 .f32 :=
  matmul dot_S256x512_S512x1024_S256x1024_1_0_0_1_n_n none o
    (shapeCast S512x1024 (part w (Rect.unit (s := S512x1024) ![0, 0] S512x1024.size inb_S512x1024_S512x1024_0_0)) shapeCasts_S512x1024_S512x1024) (constant S256x1024 .f32 0x00000000#32)

/-- The two branches, gated and added. -/
def merged (gt : FVec F S256x2560 .f32) (a b : FVec F S256x1024 .f32) : FVec F S256x1024 .bf16 :=
  truncf .bf16 (addf (mulf (logistic (extractStridedSlice S256x1024 ![0, 512] gt slices_S256x2560_o0_512_S256x1024)) a)
    (mulf (logistic (extractStridedSlice S256x1024 ![0, 1536] gt slices_S256x2560_o0_1536_S256x1024)) b)) bitsLt_bf16_f32

/-- The branches' sum, projected. -/
def res (m : FVec F S256x1024 .bf16) (wo : Vec F S1024x1024 .bf16) : FVec F S256x1024 .f32 :=
  matmul dot_S256x1024_S1024x1024_S256x1024_1_0_0_1_n_n none m
    (shapeCast S1024x1024 (part wo (Rect.unit (s := S1024x1024) ![0, 0] S1024x1024.size inb_S1024x1024_S1024x1024_0_0)) shapeCasts_S1024x1024_S1024x1024) (constant S256x1024 .f32 0x00000000#32)

/-- The first residual of a group of rows, normalised. -/
def grp (b : Bk F) (x : FVec F S256x1024 .f32) (oa : FVec F S256x512 .bf16) (ob : FVec F S256x512 .f32) : FVec F S256x1024 .f32 :=
  ln256 (addf (mulf (broadcast S256x1024 (Named.named κ "alpha" 0x3F9837F0#32)) x)
    (res (merged (gates x b.wg) (br oa b.wa) (br (obn (gates x b.wg) ob b.ng) b.wb)) b.wo)) b.l1g b.l1b

/-- The first group of rows. -/
def grp0 (b : Bk F) : FVec F S256x1024 .f32 :=
  grp b (shapeCast S256x1024 (part b.x (Rect.unit (s := S512x1024) ![0, 0] S256x1024.size inb_S512x1024_S256x1024_0_0)) shapeCasts_S256x1024_S256x1024)
    (shapeCast S256x512 (part b.oa (Rect.unit (s := S512x512) ![0, 0] S256x512.size inb_S512x512_S256x512_0_0)) shapeCasts_S256x512_S256x512)
    (shapeCast S256x512 (part b.ob (Rect.unit (s := S512x512) ![0, 0] S256x512.size inb_S512x512_S256x512_0_0)) shapeCasts_S256x512_S256x512)

/-- The second group of rows. -/
def grp1 (b : Bk F) : FVec F S256x1024 .f32 :=
  grp b (shapeCast S256x1024 (part b.x (Rect.unit (s := S512x1024) ![256, 0] S256x1024.size inb_S512x1024_S256x1024_256_0)) shapeCasts_S256x1024_S256x1024)
    (shapeCast S256x512 (part b.oa (Rect.unit (s := S512x512) ![256, 0] S256x512.size inb_S512x512_S256x512_256_0)) shapeCasts_S256x512_S256x512)
    (shapeCast S256x512 (part b.ob (Rect.unit (s := S512x512) ![256, 0] S256x512.size inb_S512x512_S256x512_256_0)) shapeCasts_S256x512_S256x512)

/-- The residual stream after the mixer. -/
def h1 (b : Bk F) : FVec F S512x1024 .f32 :=
  concatenate S512x1024 0 [⟨S256x1024, grp0 b⟩, ⟨S256x1024, grp1 b⟩] concatenates_S256x1024_S256x1024_S512x1024_d0

/-- A pair whose second offset is `k`, inside. -/
theorem inb2 {d0 d1 s0 s1 o k : ℕ} (h0 : o + s0 ≤ d0) (h : k + s1 ≤ d1) : ∀ a : Fin 2, (![o, k] : Fin 2 → ℕ) a + (![s0, s1] : Fin 2 → ℕ) a ≤ (![d0, d1] : Fin 2 → ℕ) a :=
  Fin.forall_fin_two.mpr ⟨h0, h⟩

/-- A triple whose last offset is `k`, inside. -/
theorem inb3 {d1 d2 s1 s2 k : ℕ} (h1 : 0 + s1 ≤ d1) (h : k + s2 ≤ d2) : ∀ a : Fin 3, (![0, 0, k] : Fin 3 → ℕ) a + (![1, s1, s2] : Fin 3 → ℕ) a ≤ (![1, d1, d2] : Fin 3 → ℕ) a :=
  Fin.forall_fin_succ.mpr ⟨Nat.le_refl 1, Fin.forall_fin_two.mpr ⟨h1, h⟩⟩

/-- The scratch. -/
abbrev Scr := Memref sig .tc .vmem S520x2816 .f32

/-- A list of stores to the scratch. -/
abbrev Pieces (F : FTy → Type) := List (View.Piece (Elt F) S520x2816 .f32)

/-! Chunks of 512 columns of the feed-forward layer. -/

/-- A chunk of the up projection. -/
def up512 (b : Bk F) (col : ℕ) (h : col + 512 ≤ 5632) : FVec F S512x512 .f32 :=
  matmul dot_S512x1024_S1024x512_S512x512_1_0_0_1_n_n none (truncf .bf16 (h1 b) bitsLt_bf16_f32)
    (shapeCast S1024x512 (part b.wu (Rect.unit (s := S1024x5632) ![0, col] S1024x512.size (inb2 (by norm_num) h))) shapeCasts_S1024x512_S1024x512) (constant S512x512 .f32 0x00000000#32)

/-- A chunk of a row of 2816. -/
def cbRow512 (g : Vec F S1x2816 .f32) (lo : ℕ) (h : lo + 512 ≤ 2816) : FVec F S512x512 .f32 :=
  broadcastTo S512x512 (shapeCast S1x512 (part g (Rect.unit (s := S1x2816) ![0, lo] S1x512.size (inb2 (by norm_num) h))) shapeCasts_S1x512_S1x512) broadcasts_S1x512_S512x512

/-- A chunk of a row of the convolution's weights. -/
def cwRow512 (g : Vec F S3x2816 .f32) (k : ℕ) (hk : k + 1 ≤ 3) (lo : ℕ) (h : lo + 512 ≤ 2816) : FVec F S512x512 .f32 :=
  broadcastTo S512x512 (shapeCast S1x512 (part g (Rect.unit (s := S3x2816) ![k, lo] S1x512.size (inb2 hk h))) shapeCasts_S1x512_S1x512) broadcasts_S1x512_S512x512

/-- The convolution of a chunk: of the rows, the rows before them and those before these. -/
def cnv512 (b : Bk F) (a a1 a2 : FVec F S512x512 .f32) (lo : ℕ) (h : lo + 512 ≤ 2816) : FVec F S512x512 .f32 :=
  addf (addf (addf (cbRow512 b.cb lo h) (mulf a2 (cwRow512 b.cw 0 (by norm_num) lo h))) (mulf a1 (cwRow512 b.cw 1 (by norm_num) lo h))) (mulf a (cwRow512 b.cw 2 (by norm_num) lo h))

/-- The gated activation of a chunk. -/
def act512 (c g : FVec F S512x512 .f32) : FVec F S512x512 .bf16 :=
  truncf .bf16 (mulf (mulf (mulf (broadcast S512x512 (Scalar.ofBits .f32 0x3F000000#32)) c)
    (addf (broadcast S512x512 (Scalar.ofBits .f32 0x3F800000#32)) (erf (mulf c (broadcast S512x512 (Named.named κ "rsqrt2" 0x3F3504F3#32)))))) g) bitsLt_bf16_f32

/-- A chunk's part of the down projection. -/
def dn512 (b : Bk F) (a : FVec F S512x512 .bf16) (lo : ℕ) (h : lo + 512 ≤ 2816) : FVec F S512x1024 .f32 :=
  matmul dot_S512x512_S512x1024_S512x1024_1_0_0_1_n_n none a
    (shapeCast S512x1024 (part b.wd (Rect.unit (s := S2816x1024) ![lo, 0] S512x1024.size (inb2 h (by norm_num)))) shapeCasts_S512x1024_S512x1024) (constant S512x1024 .f32 0x00000000#32)

/-- The scratch's list of stores after a chunk's rows are stored below those of `L`. -/
def LA512 (L : Pieces F) (a : FVec F S512x512 .f32) (lo : ℕ) (h : lo + 512 ≤ 2816) : Pieces F :=
  ⟨Rect.unit (s := S520x2816) ![8, lo] S512x512.size (inb2 (by norm_num) h), shapeCast S512x512 a shapeCasts_S512x512_S512x512⟩ :: L

/-- What a chunk's rows read at the scratch's row `k` on. -/
def rd512 (M : Scr) (L : Pieces F) (k : ℕ) (hk : k + 512 ≤ 520) (lo : ℕ) (h : lo + 512 ≤ 2816) : Vec F S512x512 .f32 :=
  M.view.readCov L (Rect.unit (s := S520x2816) ![k, lo] S512x512.size (inb2 hk h)).toLoadRect

/-- The last two of a chunk's rows. -/
def tl512 (M : Scr) (L : Pieces F) (lo : ℕ) (h : lo + 512 ≤ 2816) : Vec F S2x512 .f32 :=
  M.view.readCov L (Rect.unit (s := S520x2816) ![518, lo] S2x512.size (inb2 (by norm_num) h)).toLoadRect

/-- The scratch's list of stores after a chunk. -/
def LT512 (M : Scr) (L : Pieces F) (a : FVec F S512x512 .f32) (lo : ℕ) (h : lo + 512 ≤ 2816) : Pieces F :=
  ⟨Rect.unit (s := S520x2816) ![6, lo] S2x512.size (inb2 (by norm_num) h), shapeCast S2x512 (tl512 M (LA512 L a lo h) lo h) shapeCasts_S2x512_S2x512⟩ :: LA512 L a lo h

/-- A chunk's part of the layer's output, from the stores before it. -/
def y512 (M : Scr) (L : Pieces F) (b : Bk F) (lo : ℕ) (h : lo + 512 ≤ 2816) : FVec F S512x1024 .f32 :=
  let a := up512 b lo (by omega)
  dn512 b (act512 (cnv512 b a (rd512 M (LA512 L a lo h) 7 (by norm_num) lo h) (rd512 M (LA512 L a lo h) 6 (by norm_num) lo h) lo h) (up512 b (2816 + lo) (by omega))) lo h

/-- A chunk's store to the carried rows' window. -/
def pc512 (M : Scr) (L : Pieces F) (b : Bk F) (lo : ℕ) (h : lo + 512 ≤ 2816) : View.Piece (Elt F) S1x2x2816 .f32 :=
  ⟨Rect.unit (s := S1x2x2816) ![0, 0, lo] S1x2x512.size (inb3 (by norm_num) h), shapeCast S1x2x512 (tl512 M (LA512 L (up512 b lo (by omega)) lo h) lo h) shapeCasts_S2x512_S1x2x512⟩

/-! Chunks of 256 columns of the feed-forward layer. -/

/-- A chunk of the up projection. -/
def up256 (b : Bk F) (col : ℕ) (h : col + 256 ≤ 5632) : FVec F S512x256 .f32 :=
  matmul dot_S512x1024_S1024x256_S512x256_1_0_0_1_n_n none (truncf .bf16 (h1 b) bitsLt_bf16_f32)
    (shapeCast S1024x256 (part b.wu (Rect.unit (s := S1024x5632) ![0, col] S1024x256.size (inb2 (by norm_num) h))) shapeCasts_S1024x256_S1024x256) (constant S512x256 .f32 0x00000000#32)

/-- A chunk of a row of 2816. -/
def cbRow256 (g : Vec F S1x2816 .f32) (lo : ℕ) (h : lo + 256 ≤ 2816) : FVec F S512x256 .f32 :=
  broadcastTo S512x256 (shapeCast S1x256 (part g (Rect.unit (s := S1x2816) ![0, lo] S1x256.size (inb2 (by norm_num) h))) shapeCasts_S1x256_S1x256) broadcasts_S1x256_S512x256

/-- A chunk of a row of the convolution's weights. -/
def cwRow256 (g : Vec F S3x2816 .f32) (k : ℕ) (hk : k + 1 ≤ 3) (lo : ℕ) (h : lo + 256 ≤ 2816) : FVec F S512x256 .f32 :=
  broadcastTo S512x256 (shapeCast S1x256 (part g (Rect.unit (s := S3x2816) ![k, lo] S1x256.size (inb2 hk h))) shapeCasts_S1x256_S1x256) broadcasts_S1x256_S512x256

/-- The convolution of a chunk: of the rows, the rows before them and those before these. -/
def cnv256 (b : Bk F) (a a1 a2 : FVec F S512x256 .f32) (lo : ℕ) (h : lo + 256 ≤ 2816) : FVec F S512x256 .f32 :=
  addf (addf (addf (cbRow256 b.cb lo h) (mulf a2 (cwRow256 b.cw 0 (by norm_num) lo h))) (mulf a1 (cwRow256 b.cw 1 (by norm_num) lo h))) (mulf a (cwRow256 b.cw 2 (by norm_num) lo h))

/-- The gated activation of a chunk. -/
def act256 (c g : FVec F S512x256 .f32) : FVec F S512x256 .bf16 :=
  truncf .bf16 (mulf (mulf (mulf (broadcast S512x256 (Scalar.ofBits .f32 0x3F000000#32)) c)
    (addf (broadcast S512x256 (Scalar.ofBits .f32 0x3F800000#32)) (erf (mulf c (broadcast S512x256 (Named.named κ "rsqrt2" 0x3F3504F3#32)))))) g) bitsLt_bf16_f32

/-- A chunk's part of the down projection. -/
def dn256 (b : Bk F) (a : FVec F S512x256 .bf16) (lo : ℕ) (h : lo + 256 ≤ 2816) : FVec F S512x1024 .f32 :=
  matmul dot_S512x256_S256x1024_S512x1024_1_0_0_1_n_n none a
    (shapeCast S256x1024 (part b.wd (Rect.unit (s := S2816x1024) ![lo, 0] S256x1024.size (inb2 h (by norm_num)))) shapeCasts_S256x1024_S256x1024) (constant S512x1024 .f32 0x00000000#32)

/-- The scratch's list of stores after a chunk's rows are stored below those of `L`. -/
def LA256 (L : Pieces F) (a : FVec F S512x256 .f32) (lo : ℕ) (h : lo + 256 ≤ 2816) : Pieces F :=
  ⟨Rect.unit (s := S520x2816) ![8, lo] S512x256.size (inb2 (by norm_num) h), shapeCast S512x256 a shapeCasts_S512x256_S512x256⟩ :: L

/-- What a chunk's rows read at the scratch's row `k` on. -/
def rd256 (M : Scr) (L : Pieces F) (k : ℕ) (hk : k + 512 ≤ 520) (lo : ℕ) (h : lo + 256 ≤ 2816) : Vec F S512x256 .f32 :=
  M.view.readCov L (Rect.unit (s := S520x2816) ![k, lo] S512x256.size (inb2 hk h)).toLoadRect

/-- The last two of a chunk's rows. -/
def tl256 (M : Scr) (L : Pieces F) (lo : ℕ) (h : lo + 256 ≤ 2816) : Vec F S2x256 .f32 :=
  M.view.readCov L (Rect.unit (s := S520x2816) ![518, lo] S2x256.size (inb2 (by norm_num) h)).toLoadRect

/-- The scratch's list of stores after a chunk. -/
def LT256 (M : Scr) (L : Pieces F) (a : FVec F S512x256 .f32) (lo : ℕ) (h : lo + 256 ≤ 2816) : Pieces F :=
  ⟨Rect.unit (s := S520x2816) ![6, lo] S2x256.size (inb2 (by norm_num) h), shapeCast S2x256 (tl256 M (LA256 L a lo h) lo h) shapeCasts_S2x256_S2x256⟩ :: LA256 L a lo h

/-- A chunk's part of the layer's output, from the stores before it. -/
def y256 (M : Scr) (L : Pieces F) (b : Bk F) (lo : ℕ) (h : lo + 256 ≤ 2816) : FVec F S512x1024 .f32 :=
  let a := up256 b lo (by omega)
  dn256 b (act256 (cnv256 b a (rd256 M (LA256 L a lo h) 7 (by norm_num) lo h) (rd256 M (LA256 L a lo h) 6 (by norm_num) lo h) lo h) (up256 b (2816 + lo) (by omega))) lo h

/-- A chunk's store to the carried rows' window. -/
def pc256 (M : Scr) (L : Pieces F) (b : Bk F) (lo : ℕ) (h : lo + 256 ≤ 2816) : View.Piece (Elt F) S1x2x2816 .f32 :=
  ⟨Rect.unit (s := S1x2x2816) ![0, 0, lo] S1x2x256.size (inb3 (by norm_num) h), shapeCast S1x2x256 (tl256 M (LA256 L (up256 b lo (by omega)) lo h) lo h) shapeCasts_S2x256_S1x2x256⟩

/-- Layer normalisation of 512 rows. -/
def ln512 (z : FVec F S512x1024 .f32) (g b : Vec F S1x1024 .f32) : FVec F S512x1024 .f32 :=
  let d := subf z (broadcastTo S512x1024 (divf (shapeCast S512x1 (multiReduction .add [1] S512 z 0x00000000#32 reduces_S512x1024_S512 (.inl rfl) rfl) shapeCasts_S512_S512x1)
    (broadcast S512x1 (Scalar.ofBits .f32 0x44800000#32))) broadcasts_S512x1_S512x1024)
  let v := divf (shapeCast S512x1 (multiReduction .add [1] S512 (mulf d d) 0x00000000#32 reduces_S512x1024_S512 (.inl rfl) rfl) shapeCasts_S512_S512x1)
    (broadcast S512x1 (Scalar.ofBits .f32 0x44800000#32))
  addf (mulf (mulf d (broadcastTo S512x1024 (rsqrt (addf v (broadcast S512x1 (Scalar.ofBits .f32 0x3727C5AC#32)))) broadcasts_S512x1_S512x1024))
    (broadcastTo S512x1024 (row g) broadcasts_S1x1024_S512x1024)) (broadcastTo S512x1024 (row b) broadcasts_S1x1024_S512x1024)

/-- The scratch's stores before the first chunk: the carried rows. -/
def L0 (p : Vec F S2x2816 .f32) : Pieces F := [⟨Rect.unit (s := S520x2816) ![6, 0] S2x2816.size inb_S520x2816_S2x2816_6_0, p⟩]
/-- The scratch's stores after 1 chunk. -/
def L1 (M : Scr) (b : Bk F) (p : Vec F S2x2816 .f32) : Pieces F := LT512 M (L0 p) (up512 b 0 (by norm_num)) 0 (by norm_num)
/-- The scratch's stores after 2 chunks. -/
def L2 (M : Scr) (b : Bk F) (p : Vec F S2x2816 .f32) : Pieces F := LT512 M (L1 M b p) (up512 b 512 (by norm_num)) 512 (by norm_num)
/-- The scratch's stores after 3 chunks. -/
def L3 (M : Scr) (b : Bk F) (p : Vec F S2x2816 .f32) : Pieces F := LT512 M (L2 M b p) (up512 b 1024 (by norm_num)) 1024 (by norm_num)
/-- The scratch's stores after 4 chunks. -/
def L4 (M : Scr) (b : Bk F) (p : Vec F S2x2816 .f32) : Pieces F := LT512 M (L3 M b p) (up512 b 1536 (by norm_num)) 1536 (by norm_num)
/-- The scratch's stores after 5 chunks. -/
def L5 (M : Scr) (b : Bk F) (p : Vec F S2x2816 .f32) : Pieces F := LT512 M (L4 M b p) (up512 b 2048 (by norm_num)) 2048 (by norm_num)
/-- The scratch's stores after the last chunk. -/
def L6 (M : Scr) (b : Bk F) (p : Vec F S2x2816 .f32) : Pieces F := LT256 M (L5 M b p) (up256 b 2560 (by norm_num)) 2560 (by norm_num)

/-- The feed-forward layer's output. -/
def ffn (M : Scr) (b : Bk F) (p : Vec F S2x2816 .f32) : FVec F S512x1024 .f32 :=
  addf (addf (addf (addf (addf (y512 M (L0 p) b 0 (by norm_num)) (y512 M (L1 M b p) b 512 (by norm_num))) (y512 M (L2 M b p) b 1024 (by norm_num)))
    (y512 M (L3 M b p) b 1536 (by norm_num))) (y512 M (L4 M b p) b 2048 (by norm_num))) (y256 M (L5 M b p) b 2560 (by norm_num))

/-- The block of the layer's output. -/
def outY (M : Scr) (b : Bk F) (p : Vec F S2x2816 .f32) : FVec F S512x1024 .f32 :=
  ln512 (addf (mulf (broadcast S512x1024 (Named.named κ "alpha" 0x3F9837F0#32)) (h1 b)) (ffn M b p)) b.l2g b.l2b

/-- The stores to the carried rows' window. -/
def outP (M : Scr) (b : Bk F) (p : Vec F S2x2816 .f32) : List (View.Piece (Elt F) S1x2x2816 .f32) :=
  [pc256 M (L5 M b p) b 2560 (by norm_num), pc512 M (L4 M b p) b 2048 (by norm_num), pc512 M (L3 M b p) b 1536 (by norm_num), pc512 M (L2 M b p) b 1024 (by norm_num),
    pc512 M (L1 M b p) b 512 (by norm_num), pc512 M (L0 p) b 0 (by norm_num)]

/-- The carried rows at a sequence's start. -/
def start (c0 : Vec F S1x2x2816 .f32) : Vec F S2x2816 .f32 :=
  shapeCast S2x2816 (shapeCast S2x2816 (part c0 (Rect.unit (s := S1x2x2816) ![0, 0, 0] S1x2x2816.size inb_S1x2x2816_S1x2x2816_0_0_0)) shapeCasts_S1x2x2816_S2x2816) shapeCasts_S2x2816_S2x2816

end Cert.Kernel3Ideal.Fin
end
-- ==== Proof.D.Call.lean ====
module

public import proofs.«01_k».proof.Proof.Gen.Kernel3Ideal
public import proofs.«01_k».proof.Proof.D.Model
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value
public import Idealize.ShloMosaic.Lib.VecWindow

@[expose] public section

set_option maxRecDepth 16384
set_option maxHeartbeats 2000000

noncomputable section

namespace Cert.Kernel3Ideal.Fin

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances: the frame kit's (Gen/<Name>/Frame.lean). -/
local notation "𝕄G" => MT nD τ sig Unit (Elt F) ℕ (UR sig nD τ) ℕ

/-- The six chunks' columns cover the carried rows' window. -/
theorem coverP (M : Scr) (b : Bk F) (p : Vec F S2x2816 .f32) (y : S1x2x2816.Idx) : ∃ pc ∈ outP M b p, y ∈ pc.1.set := by
  have h0 : (y 0).val < 1 := (y 0).isLt
  have h1 : (y 1).val < 2 := (y 1).isLt
  have h2 : (y 2).val < 2816 := (y 2).isLt
  have key : ∀ (pc : View.Piece (Elt F) S1x2x2816 .f32) (lo w : ℕ) (inb : ∀ a, (![0, 0, lo] : Fin 3 → ℕ) a + (![1, 2, w] : Fin 3 → ℕ) a ≤ S1x2x2816.size a),
      pc.1 = Rect.unit (s := S1x2x2816) ![0, 0, lo] ![1, 2, w] inb → lo ≤ (y 2).val → (y 2).val < lo + w → y ∈ pc.1.set := by
    intro pc lo w inb hp hl hu
    rw [hp]
    refine (Rect.unit (s := S1x2x2816) ![0, 0, lo] ![1, 2, w] inb).toLoadRect.mem_set.mpr ?_
    refine Fin.forall_fin_succ.mpr ⟨⟨(y 0).val, h0, ?_⟩, Fin.forall_fin_two.mpr ⟨⟨(y 1).val, h1, ?_⟩, ⟨(y 2).val - lo, ?_, ?_⟩⟩⟩
    · show (y 0).val = 0 + 1 * (y 0).val; omega
    · show (y 1).val = 0 + 1 * (y 1).val; omega
    · show (y 2).val - lo < w; omega
    · show (y 2).val = lo + 1 * ((y 2).val - lo); omega
  unfold outP
  rcases Nat.lt_or_ge (y 2).val 512 with h | h
  · exact ⟨_, .tail _ (.tail _ (.tail _ (.tail _ (.tail _ (.head _))))), key _ 0 512 (inb3 (by norm_num) (by norm_num)) rfl (Nat.zero_le _) h⟩
  rcases Nat.lt_or_ge (y 2).val 1024 with h' | h'
  · exact ⟨_, .tail _ (.tail _ (.tail _ (.tail _ (.head _)))), key _ 512 512 (inb3 (by norm_num) (by norm_num)) rfl h h'⟩
  rcases Nat.lt_or_ge (y 2).val 1536 with h'' | h''
  · exact ⟨_, .tail _ (.tail _ (.tail _ (.head _))), key _ 1024 512 (inb3 (by norm_num) (by norm_num)) rfl h' h''⟩
  rcases Nat.lt_or_ge (y 2).val 2048 with h3 | h3
  · exact ⟨_, .tail _ (.tail _ (.head _)), key _ 1536 512 (inb3 (by norm_num) (by norm_num)) rfl h'' h3⟩
  rcases Nat.lt_or_ge (y 2).val 2560 with h4 | h4
  · exact ⟨_, .tail _ (.head _), key _ 2048 512 (inb3 (by norm_num) (by norm_num)) rfl h3 h4⟩
  · exact ⟨_, .head _, key _ 2560 256 (inb3 (by norm_num) (by norm_num)) rfl h4 h2⟩

/-- What the carried rows' window reads after stores that are those of `outP`. -/
theorem readP (A : Memref sig .tc .vmem S1x2x2816 .f32) (M : Scr) (f : BufTy.Contents (Elt F) A.view.ty) (b : Bk F) (p : Vec F S2x2816 .f32)
    (L : List (View.Piece (Elt F) S1x2x2816 .f32)) (h : L = outP M b p) : A.view.read (Elt F) (A.view.writes (Elt F) f L) = View.canon (outP M b p) := by
  subst h
  exact View.read_writes_eq_canon _ _ _ (coverP M b p)

variable (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x2x2816 .f32) (harg5 : arg5.IsWhole) (arg6 : Memref sig .tc .vmem S1x2x2816 .f32) (harg6 : arg6.IsWhole) (arg7 : Memref sig .tc .vmem S1024x2560 .bf16) (harg7 : arg7.IsWhole) (arg8 : Memref sig .tc .vmem S1x128 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x5632 .bf16) (harg14 : arg14.IsWhole) (arg15 : Memref sig .tc .vmem S3x2816 .f32) (harg15 : arg15.IsWhole) (arg16 : Memref sig .tc .vmem S1x2816 .f32) (harg16 : arg16.IsWhole) (arg17 : Memref sig .tc .vmem S2816x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S512x1024 .f32) (harg20 : arg20.IsWhole) (arg21 : Memref sig .tc .vmem S1x2x2816 .f32) (harg21 : arg21.IsWhole) (arg22 : Memref sig .tc .vmem S520x2816 .f32) (harg22 : arg22.IsWhole)

/-- The call at a sequence's first block of rows. -/
theorem callStart (E : Set ℕ) (hc : Scalar.cmpi .ne (Scalar.extui (Scalar.cmpi .eq (BitVec.ofNat 32 (i 1).val) 0#32) : BitVec 32) 0#32 = 1#1) (x2 : Vec F S512x1024 .f32) (x3 : Vec F S512x512 .bf16) (x4 : Vec F S512x512 .f32) (x5 : Vec F S1x2x2816 .f32) (x6 : Vec F S1x2x2816 .f32) (x7 : Vec F S1024x2560 .bf16) (x8 : Vec F S1x128 .f32) (x9 : Vec F S512x1024 .bf16) (x10 : Vec F S512x1024 .bf16) (x11 : Vec F S1024x1024 .bf16) (x12 : Vec F S1x1024 .f32) (x13 : Vec F S1x1024 .f32) (x14 : Vec F S1024x5632 .bf16) (x15 : Vec F S3x2816 .f32) (x16 : Vec F S1x2816 .f32) (x17 : Vec F S2816x1024 .bf16) (x18 : Vec F S1x1024 .f32) (x19 : Vec F S1x1024 .f32) (f22 : BufTy.Contents (Elt F) arg22.view.ty) (Q : PUnit → sProp 𝕄G) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d)
      ∗ (arg22.view.loc (c : Thread nD τ) ↦[arg22.view.set]{fullShare} arg22.view.writes (Elt F) f22 [])
      ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare (outY arg22 ⟨x2, x3, x4, x7, x8, x9, x10, x11, x12, x13, x14, x15, x16, x17, x18, x19⟩ (start x5)) ∗ owns (c : Thread nD τ) arg21 fullShare (View.canon (outP arg22 ⟨x2, x3, x4, x7, x8, x9, x10, x11, x12, x13, x14, x15, x16, x17, x18, x19⟩ (start x5)))
        ∗ (∃ L, ⌜L = L6 arg22 ⟨x2, x3, x4, x7, x8, x9, x10, x11, x12, x13, x14, x15, x16, x17, x18, x19⟩ (start x5)⌝ ∗ (arg22.view.loc (c : Thread nD τ) ↦[arg22.view.set]{fullShare} arg22.view.writes (Elt F) f22 L))) -∗ Q ⟨⟩))
      ⊢ wp frame (wpE (defs₀ (F := F)) Variants.none (c : Thread nD τ) none) E (cc0_finish_layer (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) Q := by
  unfold cc0_finish_layer k0_part1 k0_part2 k0_part3 k0_part4 k0_part5 k0_part6 k0_part7 k0_part8 k0_part9 k0_part10 k0_part11 k0_part12 k0_part13 k0_part14 k0_part15
  unfold owns
  iintro ⟨⟨%X2, %h2, HR_arg2⟩, ⟨%X3, %h3, HR_arg3⟩, ⟨%X4, %h4, HR_arg4⟩, ⟨%X5, %h5, HR_arg5⟩, ⟨%X6, %h6, HR_arg6⟩, ⟨%X7, %h7, HR_arg7⟩, ⟨%X8, %h8, HR_arg8⟩, ⟨%X9, %h9, HR_arg9⟩, ⟨%X10, %h10, HR_arg10⟩, ⟨%X11, %h11, HR_arg11⟩, ⟨%X12, %h12, HR_arg12⟩, ⟨%X13, %h13, HR_arg13⟩, ⟨%X14, %h14, HR_arg14⟩, ⟨%X15, %h15, HR_arg15⟩, ⟨%X16, %h16, HR_arg16⟩, ⟨%X17, %h17, HR_arg17⟩, ⟨%X18, %h18, HR_arg18⟩, ⟨%X19, %h19, HR_arg19⟩, ⟨%d20, %f20, -, HW_arg20⟩, ⟨%d21, %f21, -, HW_arg21⟩, HS, Hk⟩
  subst h2 h3 h4 h5 h6 h7 h8 h9 h10 h11 h12 h13 h14 h15 h16 h17 h18 h19
  sl_exec
  sl_step
  iapply Hk
  isplitl [HR_arg2]
  · iexists X2; isplitr; · ipureintro; rfl
    iexact HR_arg2
  isplitl [HR_arg3]
  · iexists X3; isplitr; · ipureintro; rfl
    iexact HR_arg3
  isplitl [HR_arg4]
  · iexists X4; isplitr; · ipureintro; rfl
    iexact HR_arg4
  isplitl [HR_arg5]
  · iexists X5; isplitr; · ipureintro; rfl
    iexact HR_arg5
  isplitl [HR_arg6]
  · iexists X6; isplitr; · ipureintro; rfl
    iexact HR_arg6
  isplitl [HR_arg7]
  · iexists X7; isplitr; · ipureintro; rfl
    iexact HR_arg7
  isplitl [HR_arg8]
  · iexists X8; isplitr; · ipureintro; rfl
    iexact HR_arg8
  isplitl [HR_arg9]
  · iexists X9; isplitr; · ipureintro; rfl
    iexact HR_arg9
  isplitl [HR_arg10]
  · iexists X10; isplitr; · ipureintro; rfl
    iexact HR_arg10
  isplitl [HR_arg11]
  · iexists X11; isplitr; · ipureintro; rfl
    iexact HR_arg11
  isplitl [HR_arg12]
  · iexists X12; isplitr; · ipureintro; rfl
    iexact HR_arg12
  isplitl [HR_arg13]
  · iexists X13; isplitr; · ipureintro; rfl
    iexact HR_arg13
  isplitl [HR_arg14]
  · iexists X14; isplitr; · ipureintro; rfl
    iexact HR_arg14
  isplitl [HR_arg15]
  · iexists X15; isplitr; · ipureintro; rfl
    iexact HR_arg15
  isplitl [HR_arg16]
  · iexists X16; isplitr; · ipureintro; rfl
    iexact HR_arg16
  isplitl [HR_arg17]
  · iexists X17; isplitr; · ipureintro; rfl
    iexact HR_arg17
  isplitl [HR_arg18]
  · iexists X18; isplitr; · ipureintro; rfl
    iexact HR_arg18
  isplitl [HR_arg19]
  · iexists X19; isplitr; · ipureintro; rfl
    iexact HR_arg19
  isplitl [HW_arg20]
  · iexists _; isplitr; swap; · iexact HW_arg20
    ipureintro
    refine (View.read_writes_full _ _ _ _ _).trans ?_
    sl_kernel_rfl
  isplitl [HW_arg21]
  · iexists _; isplitr; swap; · iexact HW_arg21
    ipureintro
    refine readP arg21 arg22 f21 _ _ _ ?_
    sl_kernel_rfl
  iexists _; isplitr; swap; · iexact HS
  ipureintro
  sl_kernel_rfl

/-- The call at a later block of rows, from the carried rows `p`. -/
theorem callOn (E : Set ℕ) (hc : Scalar.cmpi .ne (Scalar.extui (Scalar.cmpi .eq (BitVec.ofNat 32 (i 1).val) 0#32) : BitVec 32) 0#32 ≠ 1#1) (x2 : Vec F S512x1024 .f32) (x3 : Vec F S512x512 .bf16) (x4 : Vec F S512x512 .f32) (x5 : Vec F S1x2x2816 .f32) (x6 : Vec F S1x2x2816 .f32) (x7 : Vec F S1024x2560 .bf16) (x8 : Vec F S1x128 .f32) (x9 : Vec F S512x1024 .bf16) (x10 : Vec F S512x1024 .bf16) (x11 : Vec F S1024x1024 .bf16) (x12 : Vec F S1x1024 .f32) (x13 : Vec F S1x1024 .f32) (x14 : Vec F S1024x5632 .bf16) (x15 : Vec F S3x2816 .f32) (x16 : Vec F S1x2816 .f32) (x17 : Vec F S2816x1024 .bf16) (x18 : Vec F S1x1024 .f32) (x19 : Vec F S1x1024 .f32) (p : Vec F S2x2816 .f32) (f22 : BufTy.Contents (Elt F) arg22.view.ty) (Q : PUnit → sProp 𝕄G) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d)
      ∗ (arg22.view.loc (c : Thread nD τ) ↦[arg22.view.set]{fullShare} arg22.view.writes (Elt F) f22 (L0 p))
      ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare (outY arg22 ⟨x2, x3, x4, x7, x8, x9, x10, x11, x12, x13, x14, x15, x16, x17, x18, x19⟩ p) ∗ owns (c : Thread nD τ) arg21 fullShare (View.canon (outP arg22 ⟨x2, x3, x4, x7, x8, x9, x10, x11, x12, x13, x14, x15, x16, x17, x18, x19⟩ p))
        ∗ (∃ L, ⌜L = L6 arg22 ⟨x2, x3, x4, x7, x8, x9, x10, x11, x12, x13, x14, x15, x16, x17, x18, x19⟩ p⌝ ∗ (arg22.view.loc (c : Thread nD τ) ↦[arg22.view.set]{fullShare} arg22.view.writes (Elt F) f22 L))) -∗ Q ⟨⟩))
      ⊢ wp frame (wpE (defs₀ (F := F)) Variants.none (c : Thread nD τ) none) E (cc0_finish_layer (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) Q := by
  unfold cc0_finish_layer k0_part1 k0_part2 k0_part3 k0_part4 k0_part5 k0_part6 k0_part7 k0_part8 k0_part9 k0_part10 k0_part11 k0_part12 k0_part13 k0_part14 k0_part15
  unfold owns L0
  iintro ⟨⟨%X2, %h2, HR_arg2⟩, ⟨%X3, %h3, HR_arg3⟩, ⟨%X4, %h4, HR_arg4⟩, ⟨%X5, %h5, HR_arg5⟩, ⟨%X6, %h6, HR_arg6⟩, ⟨%X7, %h7, HR_arg7⟩, ⟨%X8, %h8, HR_arg8⟩, ⟨%X9, %h9, HR_arg9⟩, ⟨%X10, %h10, HR_arg10⟩, ⟨%X11, %h11, HR_arg11⟩, ⟨%X12, %h12, HR_arg12⟩, ⟨%X13, %h13, HR_arg13⟩, ⟨%X14, %h14, HR_arg14⟩, ⟨%X15, %h15, HR_arg15⟩, ⟨%X16, %h16, HR_arg16⟩, ⟨%X17, %h17, HR_arg17⟩, ⟨%X18, %h18, HR_arg18⟩, ⟨%X19, %h19, HR_arg19⟩, ⟨%d20, %f20, -, HW_arg20⟩, ⟨%d21, %f21, -, HW_arg21⟩, HS, Hk⟩
  subst h2 h3 h4 h5 h6 h7 h8 h9 h10 h11 h12 h13 h14 h15 h16 h17 h18 h19
  sl_exec
  sl_step
  iapply Hk
  isplitl [HR_arg2]
  · iexists X2; isplitr; · ipureintro; rfl
    iexact HR_arg2
  isplitl [HR_arg3]
  · iexists X3; isplitr; · ipureintro; rfl
    iexact HR_arg3
  isplitl [HR_arg4]
  · iexists X4; isplitr; · ipureintro; rfl
    iexact HR_arg4
  isplitl [HR_arg5]
  · iexists X5; isplitr; · ipureintro; rfl
    iexact HR_arg5
  isplitl [HR_arg6]
  · iexists X6; isplitr; · ipureintro; rfl
    iexact HR_arg6
  isplitl [HR_arg7]
  · iexists X7; isplitr; · ipureintro; rfl
    iexact HR_arg7
  isplitl [HR_arg8]
  · iexists X8; isplitr; · ipureintro; rfl
    iexact HR_arg8
  isplitl [HR_arg9]
  · iexists X9; isplitr; · ipureintro; rfl
    iexact HR_arg9
  isplitl [HR_arg10]
  · iexists X10; isplitr; · ipureintro; rfl
    iexact HR_arg10
  isplitl [HR_arg11]
  · iexists X11; isplitr; · ipureintro; rfl
    iexact HR_arg11
  isplitl [HR_arg12]
  · iexists X12; isplitr; · ipureintro; rfl
    iexact HR_arg12
  isplitl [HR_arg13]
  · iexists X13; isplitr; · ipureintro; rfl
    iexact HR_arg13
  isplitl [HR_arg14]
  · iexists X14; isplitr; · ipureintro; rfl
    iexact HR_arg14
  isplitl [HR_arg15]
  · iexists X15; isplitr; · ipureintro; rfl
    iexact HR_arg15
  isplitl [HR_arg16]
  · iexists X16; isplitr; · ipureintro; rfl
    iexact HR_arg16
  isplitl [HR_arg17]
  · iexists X17; isplitr; · ipureintro; rfl
    iexact HR_arg17
  isplitl [HR_arg18]
  · iexists X18; isplitr; · ipureintro; rfl
    iexact HR_arg18
  isplitl [HR_arg19]
  · iexists X19; isplitr; · ipureintro; rfl
    iexact HR_arg19
  isplitl [HW_arg20]
  · iexists _; isplitr; swap; · iexact HW_arg20
    ipureintro
    refine (View.read_writes_full _ _ _ _ _).trans ?_
    sl_kernel_rfl
  isplitl [HW_arg21]
  · iexists _; isplitr; swap; · iexact HW_arg21
    ipureintro
    refine readP arg21 arg22 f21 _ _ _ ?_
    sl_kernel_rfl
  iexists _; isplitr; swap; · iexact HS
  ipureintro
  sl_kernel_rfl

end Cert.Kernel3Ideal.Fin
end
-- ==== Proof.D.Run.lean ====
module

public import proofs.«01_k».proof.Proof.D.Call
public import proofs.«01_k».proof.Proof.Gen.Kernel3Ideal.Frame
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value

@[expose] public section

set_option maxRecDepth 8192
set_option maxHeartbeats 2000000

noncomputable section

namespace Cert.Kernel3Ideal.Fin

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances: the frame kit's (Gen/<Name>/Frame.lean). -/
local notation "𝕄G" => MT nD τ sig Unit (Elt F) ℕ (UR sig nD τ) ℕ

/-- The carried rows' rectangle of the scratch. -/
def r6 : Rect S520x2816 := Rect.unit (s := S520x2816) ![6, 0] S2x2816.size inb_S520x2816_S2x2816_6_0

/-- The rows a grid point carries to the next. -/
def carry (M : Scr) (b : Bk F) (p : Vec F S2x2816 .f32) : Vec F S2x2816 .f32 := fun y => View.canon (L6 M b p) (r6.emb y)

/-- The six chunks' stores cover the carried rows. -/
theorem cover6 (M : Scr) (b : Bk F) (p : Vec F S2x2816 .f32) (x : S2x2816.Idx) : ∃ pc ∈ L6 M b p, r6.emb x ∈ pc.1.set := by
  have h1 : (x 0).val < 2 := (x 0).isLt
  have h2 : (x 1).val < 2816 := (x 1).isLt
  have e0 : ((r6.emb x) 0).val = 6 + 1 * (x 0).val := rfl
  have e1 : ((r6.emb x) 1).val = 0 + 1 * (x 1).val := rfl
  have key : ∀ (pc : View.Piece (Elt F) S520x2816 .f32) (lo w : ℕ) (inb : ∀ a, (![6, lo] : Fin 2 → ℕ) a + (![2, w] : Fin 2 → ℕ) a ≤ S520x2816.size a),
      pc.1 = Rect.unit (s := S520x2816) ![6, lo] ![2, w] inb → lo ≤ (x 1).val → (x 1).val < lo + w → r6.emb x ∈ pc.1.set := by
    intro pc lo w inb hp hl hu
    rw [hp]
    refine (Rect.unit (s := S520x2816) ![6, lo] ![2, w] inb).toLoadRect.mem_set.mpr ?_
    refine Fin.forall_fin_two.mpr ⟨⟨(x 0).val, h1, ?_⟩, ⟨(x 1).val - lo, ?_, ?_⟩⟩
    · show ((r6.emb x) 0).val = 6 + 1 * (x 0).val; omega
    · show (x 1).val - lo < w; omega
    · show ((r6.emb x) 1).val = lo + 1 * ((x 1).val - lo); omega
  unfold L6 L5 L4 L3 L2 L1 LT256 LT512 LA256 LA512
  rcases Nat.lt_or_ge (x 1).val 512 with h | h
  · exact ⟨_, .tail _ (.tail _ (.tail _ (.tail _ (.tail _ (.tail _ (.tail _ (.tail _ (.tail _ (.tail _ (.head _)))))))))), key _ 0 512 (inb2 (by norm_num) (by norm_num)) rfl (Nat.zero_le _) h⟩
  rcases Nat.lt_or_ge (x 1).val 1024 with h' | h'
  · exact ⟨_, .tail _ (.tail _ (.tail _ (.tail _ (.tail _ (.tail _ (.tail _ (.tail _ (.head _)))))))), key _ 512 512 (inb2 (by norm_num) (by norm_num)) rfl h h'⟩
  rcases Nat.lt_or_ge (x 1).val 1536 with h'' | h''
  · exact ⟨_, .tail _ (.tail _ (.tail _ (.tail _ (.tail _ (.tail _ (.head _)))))), key _ 1024 512 (inb2 (by norm_num) (by norm_num)) rfl h' h''⟩
  rcases Nat.lt_or_ge (x 1).val 2048 with h3 | h3
  · exact ⟨_, .tail _ (.tail _ (.tail _ (.tail _ (.head _)))), key _ 1536 512 (inb2 (by norm_num) (by norm_num)) rfl h'' h3⟩
  rcases Nat.lt_or_ge (x 1).val 2560 with h4 | h4
  · exact ⟨_, .tail _ (.tail _ (.head _)), key _ 2048 512 (inb2 (by norm_num) (by norm_num)) rfl h3 h4⟩
  · exact ⟨_, .head _, key _ 2560 256 (inb2 (by norm_num) (by norm_num)) rfl h4 h2⟩

/-- The scratch of the call. -/
abbrev scr : Scr := Memref.whole cc0_scratch0

/-- After a grid point the scratch holds the carried rows where the next one reads them. -/
theorem back (f : BufTy.Contents (Elt F) scr.view.ty) (b : Bk F) (p : Vec F S2x2816 .f32) :
    scr.view.writes (Elt F) f (L6 scr b p) = scr.view.writes (Elt F) (scr.view.writes (Elt F) f (L6 scr b p)) (L0 (carry scr b p)) := by
  have h : scr.view.read (Elt F) (scr.view.writes (Elt F) f (L6 scr b p))
      = scr.view.read (Elt F) (scr.view.writes (Elt F) (scr.view.writes (Elt F) f (L6 scr b p)) (L0 (carry scr b p))) := by
    funext y
    by_cases hy : y ∈ r6.set
    · obtain ⟨x, rfl⟩ : ∃ x, r6.emb x = y := r6.exists_idx_of_mem hy
      exact (View.read_writes_apply_eq_canon _ _ _ _ (cover6 scr b p x)).trans
        (View.read_writes_cons_emb scr.view (scr.view.writes (Elt F) f (L6 scr b p)) r6 (carry scr b p) [] x).symm
    · exact (View.read_writes_cons_miss scr.view (scr.view.writes (Elt F) f (L6 scr b p)) ⟨r6, carry scr b p⟩ [] y hy).symm
  simpa only [Memref.view_whole, View.read_whole] using h

variable (m : (ℓ : Loc nD τ sig) → Buf (Elt F) ℓ) (ρ : Dev nD → PrngReg)

/-- The blocks at a grid point. -/
def bk (c : Dev nD) (t : Fin cfg0.N) : Bk F := ⟨iblk m c 0 t, iblk m c 1 t, iblk m c 2 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t⟩

/-- The grid point of a number. -/
def pt (n : ℕ) : Fin cfg0.N := ⟨n % 32, Nat.mod_lt n (by norm_num)⟩

theorem pt_val (t : Fin cfg0.N) : pt t.val = t := Fin.ext (Nat.mod_eq_of_lt t.isLt)

/-- The rows a sequence starts with. -/
def first (c : Dev nD) (t : Fin cfg0.N) : Vec F S2x2816 .f32 := start (iblk m c 3 t)

/-- The carried rows a grid point works on. -/
def cv (c : Dev nD) : ℕ → Vec F S2x2816 .f32
  | 0 => first m c (pt 0)
  | n + 1 => if (n + 1) % 16 = 0 then first m c (pt (n + 1)) else carry scr (bk m c (pt n)) (cv c n)

theorem cv_start (c : Dev nD) (t : Fin cfg0.N) (h : t.val % 16 = 0) : cv m c t.val = first m c t := by
  have e := pt_val t
  revert h e
  generalize t.val = n
  intro h e
  cases n with
  | zero => rw [cv, e]
  | succ n => rw [cv, if_pos h, e]

theorem cv_succ (c : Dev nD) (t : Fin cfg0.N) (h : (t.val + 1) % 16 ≠ 0) : cv m c (t.val + 1) = carry scr (bk m c t) (cv m c t.val) := by
  rw [cv, if_neg h, pt_val]

/-- The scratch between grid points, and the generator's register. -/
def Phi (c : Dev nD) (n : ℕ) : sProp 𝕄G :=
  iprop((∃ f : BufTy.Contents (Elt F) scr.view.ty, ⌜n % 16 ≠ 0 → ∃ f' : BufTy.Contents (Elt F) scr.view.ty, f = scr.view.writes (Elt F) f' (L0 (cv m c n))⌝
    ∗ (scr.view.loc (c : Thread nD τ) ↦[scr.view.set]{fullShare} f)) ∗ ∃ r, prngReg c r)

/-- The proof data: each input's buffer stays at its block, each output's holds its function of the blocks and the carried rows. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => outY scr (bk m c t) (cv m c t.val)
    | ⟨19, _⟩ => View.canon (outP scr (bk m c t) (cv m c t.val))
    | ⟨n + 20, h⟩ => absurd h (Nat.not_lt.mpr (Nat.le_add_left 20 n))
  Φ t := Phi m c t.val
  q w := Pipeline.shareOf spec0 w
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  before0_0_of m (dats m 0 c) (A_eq m c 0) (fun _ => rfl) t d

theorem before0_1 (c : Dev nD) (t : Fin cfg0.N) (d) : (dats m 0 c).before 1 t d = iblk m c 1 t :=
  before0_1_of m (dats m 0 c) (A_eq m c 1) (fun _ => rfl) t d

theorem before0_2 (c : Dev nD) (t : Fin cfg0.N) (d) : (dats m 0 c).before 2 t d = iblk m c 2 t :=
  before0_2_of m (dats m 0 c) (A_eq m c 2) (fun _ => rfl) t d

theorem before0_3 (c : Dev nD) (t : Fin cfg0.N) (d) : (dats m 0 c).before 3 t d = iblk m c 3 t :=
  before0_3_of m (dats m 0 c) (A_eq m c 3) (fun _ => rfl) t d

theorem before0_4 (c : Dev nD) (t : Fin cfg0.N) (d) : (dats m 0 c).before 4 t d = iblk m c 4 t :=
  before0_4_of m (dats m 0 c) (A_eq m c 4) (fun _ => rfl) t d

theorem before0_5 (c : Dev nD) (t : Fin cfg0.N) (d) : (dats m 0 c).before 5 t d = iblk m c 5 t :=
  before0_5_of m (dats m 0 c) (A_eq m c 5) (fun _ => rfl) t d

theorem before0_6 (c : Dev nD) (t : Fin cfg0.N) (d) : (dats m 0 c).before 6 t d = iblk m c 6 t :=
  before0_6_of m (dats m 0 c) (A_eq m c 6) (fun _ => rfl) t d

theorem before0_7 (c : Dev nD) (t : Fin cfg0.N) (d) : (dats m 0 c).before 7 t d = iblk m c 7 t :=
  before0_7_of m (dats m 0 c) (A_eq m c 7) (fun _ => rfl) t d

theorem before0_8 (c : Dev nD) (t : Fin cfg0.N) (d) : (dats m 0 c).before 8 t d = iblk m c 8 t :=
  before0_8_of m (dats m 0 c) (A_eq m c 8) (fun _ => rfl) t d

theorem before0_9 (c : Dev nD) (t : Fin cfg0.N) (d) : (dats m 0 c).before 9 t d = iblk m c 9 t :=
  before0_9_of m (dats m 0 c) (A_eq m c 9) (fun _ => rfl) t d

theorem before0_10 (c : Dev nD) (t : Fin cfg0.N) (d) : (dats m 0 c).before 10 t d = iblk m c 10 t :=
  before0_10_of m (dats m 0 c) (A_eq m c 10) (fun _ => rfl) t d

theorem before0_11 (c : Dev nD) (t : Fin cfg0.N) (d) : (dats m 0 c).before 11 t d = iblk m c 11 t :=
  before0_11_of m (dats m 0 c) (A_eq m c 11) (fun _ => rfl) t d

theorem before0_12 (c : Dev nD) (t : Fin cfg0.N) (d) : (dats m 0 c).before 12 t d = iblk m c 12 t :=
  before0_12_of m (dats m 0 c) (A_eq m c 12) (fun _ => rfl) t d

theorem before0_13 (c : Dev nD) (t : Fin cfg0.N) (d) : (dats m 0 c).before 13 t d = iblk m c 13 t :=
  before0_13_of m (dats m 0 c) (A_eq m c 13) (fun _ => rfl) t d

theorem before0_14 (c : Dev nD) (t : Fin cfg0.N) (d) : (dats m 0 c).before 14 t d = iblk m c 14 t :=
  before0_14_of m (dats m 0 c) (A_eq m c 14) (fun _ => rfl) t d

theorem before0_15 (c : Dev nD) (t : Fin cfg0.N) (d) : (dats m 0 c).before 15 t d = iblk m c 15 t :=
  before0_15_of m (dats m 0 c) (A_eq m c 15) (fun _ => rfl) t d

theorem before0_16 (c : Dev nD) (t : Fin cfg0.N) (d) : (dats m 0 c).before 16 t d = iblk m c 16 t :=
  before0_16_of m (dats m 0 c) (A_eq m c 16) (fun _ => rfl) t d

theorem before0_17 (c : Dev nD) (t : Fin cfg0.N) (d) : (dats m 0 c).before 17 t d = iblk m c 17 t :=
  before0_17_of m (dats m 0 c) (A_eq m c 17) (fun _ => rfl) t d

theorem after0_18 (c : Dev nD) (t : Fin cfg0.N) : (dats m 0 c).after 18 t = outY scr (bk m c t) (cv m c t.val) := by dsimp only [dats]
theorem after0_19 (c : Dev nD) (t : Fin cfg0.N) : (dats m 0 c).after 19 t = View.canon (outP scr (bk m c t) (cv m c t.val)) := by dsimp only [dats]

/-- The second grid coordinate is zero at a sequence's first point, and only there. -/
theorem at_start : ∀ t : Fin cfg0.N, t.val % 16 = 0 → Scalar.cmpi .ne (Scalar.extui (Scalar.cmpi .eq (BitVec.ofNat 32 (grid0.coords t 1).val) 0#32) : BitVec 32) 0#32 = 1#1 := by
  decide +kernel
theorem at_later : ∀ t : Fin cfg0.N, t.val % 16 ≠ 0 → Scalar.cmpi .ne (Scalar.extui (Scalar.cmpi .eq (BitVec.ofNat 32 (grid0.coords t 1).val) 0#32) : BitVec 32) 0#32 ≠ 1#1 := by
  decide +kernel

/-- What the body is called with, and what it returns. -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)) ∗ (∃ d, owns (c : Thread nD τ) (st0_19 t) fullShare ((dats m 0 c).before 19 t d)))
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t) ∗ owns (c : Thread nD τ) (st0_19 t) fullShare ((dats m 0 c).after 19 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.castSucc = Phi m c t.val from rfl, show (dats m 0 c).Φ t.succ = Phi m c (t.val + 1) from rfl,
    show (dats m 0 c).owesAt () t.succ = (dats m 0 c).owesAt () t.castSucc from rfl,
    after0_18, after0_19]
  unfold Phi
  by_cases h0 : t.val % 16 = 0
  · rw [cv_start m c t h0]
    iintro ⟨⟨⟨%f, %hf, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (callStart c _ _ _ _ _ _ _ _ _ _ _ _ _ _ _ _ _ _ _ _ _ _ _ _ _ _ _ _ _ _ _ _ _ _ _ _ _ _ _ _ _ _ _ Set.univ (at_start t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) f _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [HS]; · iexact HS
    iintro ⟨H0, H1, H2, H3, H4, H5, H6, H7, H8, H9, H10, H11, H12, H13, H14, H15, H16, H17, H18, H19, ⟨%L, %hL, HS⟩⟩
    subst hL
    isplitl [HS Hg]
    · isplitr [Hg]
      · iexists _; isplitr; swap; · iexact HS
        ipureintro
        intro h; rw [cv_succ m c t h, cv_start m c t h0]; exact ⟨_, back f (bk m c t) (first m c t)⟩
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · iintro ⟨⟨⟨%f, %hf, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    obtain ⟨f', rfl⟩ := hf h0
    iapply (callOn c _ _ _ _ _ _ _ _ _ _ _ _ _ _ _ _ _ _ _ _ _ _ _ _ _ _ _ _ _ _ _ _ _ _ _ _ _ _ _ _ _ _ _ Set.univ (at_later t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (cv m c t.val) f' _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [HS]; · iexact HS
    iintro ⟨H0, H1, H2, H3, H4, H5, H6, H7, H8, H9, H10, H11, H12, H13, H14, H15, H16, H17, H18, H19, ⟨%L, %hL, HS⟩⟩
    subst hL
    isplitl [HS Hg]
    · isplitr [Hg]
      · iexists _; isplitr; swap; · iexact HS
        ipureintro
        intro h; rw [cv_succ m c t h]; exact ⟨_, back f' (bk m c t) (cv m c t.val)⟩
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

/-- At the start the scratch holds anything. -/
theorem phi_in (c : Dev nD) : Pipeline.ΦA spec0 c ⊢ (dats (F := F) m 0 c).Φ 0 := by
  show _ ⊢ Phi m c 0
  unfold Pipeline.ΦA Phi
  rw [scopedRest0_eq]
  simp only [Memref.view_whole, View.set_whole]
  iintro ⟨⟨%f, H⟩, Hg⟩
  isplitr [Hg]
  · iexists f; isplitr; · ipureintro; exact fun h => absurd rfl h
    iexact H
  iexact Hg

/-- At the end the scratch holds something. -/
theorem phi_out (c : Dev nD) : (dats (F := F) m 0 c).Φ (Fin.last cfg0.N) ⊢ Pipeline.ΦA spec0 c := by
  show Phi m c 32 ⊢ _
  unfold Pipeline.ΦA Phi
  rw [scopedRest0_eq]
  simp only [Memref.view_whole, View.set_whole]
  iintro ⟨⟨%f, -, H⟩, Hg⟩
  isplitr [Hg]
  · iexists f; iexact H
  iexact Hg

set_option backward.isDefEq.respectTransparency.types false in
/-- The run: every fair execution ends, each array at what the data names and every counter at zero. -/
theorem run_main : θ_run defs (onTc (τ := τ) (main (F := F))) (s₀ m ρ)
      (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := phi_in m) (hout := phi_out m)

/-- After the run the arguments are unchanged. -/
theorem args (r) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩

end Cert.Kernel3Ideal.Fin
end
-- ==== Proof.D.KModel.lean ====
module

public import proofs.«01_k».proof.Proof.Gen.Kernel3
public import Idealize.ShloMosaic.Lib.Exec
public import Idealize.ShloMosaic.Lib.Pipeline.FrameBody
public import Idealize.ShloMosaic.Lib.Pipeline.Value
public import Idealize.ShloMosaic.Lib.VecWindow

@[expose] public section

set_option maxRecDepth 16384
set_option maxHeartbeats 2000000

noncomputable section

namespace Cert.Kernel3.Fin

open Cert.Kernel3 Cert.Kernel3.Gen
open Idealize.ShloMosaic Idealize.ShloMosaic.TcCoe

variable {F : FTy → Type} [FloatOps F]

/-! What one block of rows of the finishing call computes. -/

/-- The blocks one grid point of the call works on. -/
structure Bk (F : FTy → Type) where
  x : Vec F S512x1024 .f32
  oa : Vec F S512x512 .bf16
  ob : Vec F S512x512 .f32
  wg : Vec F S1024x2560 .bf16
  ng : Vec F S1x128 .f32
  wa : Vec F S512x1024 .bf16
  wb : Vec F S512x1024 .bf16
  wo : Vec F S1024x1024 .bf16
  l1g : Vec F S1x1024 .f32
  l1b : Vec F S1x1024 .f32
  wu : Vec F S1024x5632 .bf16
  cw : Vec F S3x2816 .f32
  cb : Vec F S1x2816 .f32
  wd : Vec F S2816x1024 .bf16
  l2g : Vec F S1x1024 .f32
  l2b : Vec F S1x1024 .f32

/-- What a load of a rectangle reads. -/
def part {s : Shape} {e : EltTy} (x : Vec F s e) (r : Rect s) : Vec F r.shape e := fun y => x (r.toLoadRect.idx y)

/-- A loaded row of 1024. -/
def row (g : Vec F S1x1024 .f32) : FVec F S1x1024 .f32 :=
  shapeCast S1x1024 (part g (Rect.unit (s := S1x1024) ![0, 0] S1x1024.size inb_S1x1024_S1x1024_0_0)) shapeCasts_S1x1024_S1x1024

/-- Layer normalisation of 256 rows. -/
def ln256 (z : FVec F S256x1024 .f32) (g b : Vec F S1x1024 .f32) : FVec F S256x1024 .f32 :=
  let d := subf z (broadcastTo S256x1024 (divf (shapeCast S256x1 (multiReduction .add [1] S256 z 0x00000000#32 reduces_S256x1024_S256 (.inl rfl) rfl) shapeCasts_S256_S256x1)
    (broadcast S256x1 (Scalar.ofBits .f32 0x44800000#32))) broadcasts_S256x1_S256x1024)
  let v := divf (shapeCast S256x1 (multiReduction .add [1] S256 (mulf d d) 0x00000000#32 reduces_S256x1024_S256 (.inl rfl) rfl) shapeCasts_S256_S256x1)
    (broadcast S256x1 (Scalar.ofBits .f32 0x44800000#32))
  addf (mulf (mulf d (broadcastTo S256x1024 (rsqrt (addf v (broadcast S256x1 (Scalar.ofBits .f32 0x3727C5AC#32)))) broadcasts_S256x1_S256x1024))
    (broadcastTo S256x1024 (row g) broadcasts_S1x1024_S256x1024)) (broadcastTo S256x1024 (row b) broadcasts_S1x1024_S256x1024)

/-- One head's lanes, normalised by their root mean square. -/
def rms (o : FVec F S256x128 .f32) (ng : Vec F S1x128 .f32) : FVec F S256x128 .f32 :=
  mulf (mulf o (broadcastTo S256x128 (rsqrt (addf (divf (shapeCast S256x1 (multiReduction .add [1] S256 (mulf o o) 0x00000000#32 reduces_S256x128_S256 (.inl rfl) rfl) shapeCasts_S256_S256x1)
      (broadcast S256x1 (Scalar.ofBits .f32 0x43000000#32))) (broadcast S256x1 (Scalar.ofBits .f32 0x3727C5AC#32)))) broadcasts_S256x1_S256x128))
    (broadcastTo S256x128 (shapeCast S1x128 (part ng (Rect.unit (s := S1x128) ![0, 0] S1x128.size inb_S1x128_S1x128_0_0)) shapeCasts_S1x128_S1x128) broadcasts_S1x128_S256x128)

/-- The gates of a group of rows. -/
def gates (x : FVec F S256x1024 .f32) (wg : Vec F S1024x2560 .bf16) : FVec F S256x2560 .f32 :=
  matmul dot_S256x1024_S1024x2560_S256x2560_1_0_0_1_n_n none (truncf .bf16 x bitsLt_bf16_f32)
    (shapeCast S1024x2560 (part wg (Rect.unit (s := S1024x2560) ![0, 0] S1024x2560.size inb_S1024x2560_S1024x2560_0_0)) shapeCasts_S1024x2560_S1024x2560) (constant S256x2560 .f32 0x00000000#32)

/-- The recurrence's outputs of a group of rows, normalised and gated. -/
def obn (gt : FVec F S256x2560 .f32) (ob : FVec F S256x512 .f32) (ng : Vec F S1x128 .f32) : FVec F S256x512 .bf16 :=
  let gb := extractStridedSlice S256x512 ![0, 0] gt slices_S256x2560_o0_0_S256x512
  truncf .bf16 (mulf (concatenate S256x512 1 [⟨S256x128, rms (extractStridedSlice S256x128 ![0, 0] ob slices_S256x512_o0_0_S256x128) ng⟩,
      ⟨S256x128, rms (extractStridedSlice S256x128 ![0, 128] ob slices_S256x512_o0_128_S256x128) ng⟩,
      ⟨S256x128, rms (extractStridedSlice S256x128 ![0, 256] ob slices_S256x512_o0_256_S256x128) ng⟩,
      ⟨S256x128, rms (extractStridedSlice S256x128 ![0, 384] ob slices_S256x512_o0_384_S256x128) ng⟩] concatenates_S256x128_S256x128_S256x128_S256x128_S256x512_d1)
    (mulf gb (logistic gb))) bitsLt_bf16_f32

/-- A branch's projection. -/
def br (o : FVec F S256x512 .bf16) (w : Vec F S512x1024 .bf16) : FVec F S256x1024 .f32 :=
  matmul dot_S256x512_S512x1024_S256x1024_1_0_0_1_n_n none o
    (shapeCast S512x1024 (part w (Rect.unit (s := S512x1024) ![0, 0] S512x1024.size inb_S512x1024_S512x1024_0_0)) shapeCasts_S512x1024_S512x1024) (constant S256x1024 .f32 0x00000000#32)

/-- The two branches, gated and added. -/
def merged (gt : FVec F S256x2560 .f32) (a b : FVec F S256x1024 .f32) : FVec F S256x1024 .bf16 :=
  truncf .bf16 (addf (mulf (logistic (extractStridedSlice S256x1024 ![0, 512] gt slices_S256x2560_o0_512_S256x1024)) a)
    (mulf (logistic (extractStridedSlice S256x1024 ![0, 1536] gt slices_S256x2560_o0_1536_S256x1024)) b)) bitsLt_bf16_f32

/-- The branches' sum, projected. -/
def res (m : FVec F S256x1024 .bf16) (wo : Vec F S1024x1024 .bf16) : FVec F S256x1024 .f32 :=
  matmul dot_S256x1024_S1024x1024_S256x1024_1_0_0_1_n_n none m
    (shapeCast S1024x1024 (part wo (Rect.unit (s := S1024x1024) ![0, 0] S1024x1024.size inb_S1024x1024_S1024x1024_0_0)) shapeCasts_S1024x1024_S1024x1024) (constant S256x1024 .f32 0x00000000#32)

/-- The first residual of a group of rows, normalised. -/
def grp (b : Bk F) (x : FVec F S256x1024 .f32) (oa : FVec F S256x512 .bf16) (ob : FVec F S256x512 .f32) : FVec F S256x1024 .f32 :=
  ln256 (addf (mulf (broadcast S256x1024 (Scalar.ofBits .f32 0x3F9837F0#32)) x)
    (res (merged (gates x b.wg) (br oa b.wa) (br (obn (gates x b.wg) ob b.ng) b.wb)) b.wo)) b.l1g b.l1b

/-- The first group of rows. -/
def grp0 (b : Bk F) : FVec F S256x1024 .f32 :=
  grp b (shapeCast S256x1024 (part b.x (Rect.unit (s := S512x1024) ![0, 0] S256x1024.size inb_S512x1024_S256x1024_0_0)) shapeCasts_S256x1024_S256x1024)
    (shapeCast S256x512 (part b.oa (Rect.unit (s := S512x512) ![0, 0] S256x512.size inb_S512x512_S256x512_0_0)) shapeCasts_S256x512_S256x512)
    (shapeCast S256x512 (part b.ob (Rect.unit (s := S512x512) ![0, 0] S256x512.size inb_S512x512_S256x512_0_0)) shapeCasts_S256x512_S256x512)

/-- The second group of rows. -/
def grp1 (b : Bk F) : FVec F S256x1024 .f32 :=
  grp b (shapeCast S256x1024 (part b.x (Rect.unit (s := S512x1024) ![256, 0] S256x1024.size inb_S512x1024_S256x1024_256_0)) shapeCasts_S256x1024_S256x1024)
    (shapeCast S256x512 (part b.oa (Rect.unit (s := S512x512) ![256, 0] S256x512.size inb_S512x512_S256x512_256_0)) shapeCasts_S256x512_S256x512)
    (shapeCast S256x512 (part b.ob (Rect.unit (s := S512x512) ![256, 0] S256x512.size inb_S512x512_S256x512_256_0)) shapeCasts_S256x512_S256x512)

/-- The residual stream after the mixer. -/
def h1 (b : Bk F) : FVec F S512x1024 .f32 :=
  concatenate S512x1024 0 [⟨S256x1024, grp0 b⟩, ⟨S256x1024, grp1 b⟩] concatenates_S256x1024_S256x1024_S512x1024_d0

/-- A pair whose second offset is `k`, inside. -/
theorem inb2 {d0 d1 s0 s1 o k : ℕ} (h0 : o + s0 ≤ d0) (h : k + s1 ≤ d1) : ∀ a : Fin 2, (![o, k] : Fin 2 → ℕ) a + (![s0, s1] : Fin 2 → ℕ) a ≤ (![d0, d1] : Fin 2 → ℕ) a :=
  Fin.forall_fin_two.mpr ⟨h0, h⟩

/-- A triple whose last offset is `k`, inside. -/
theorem inb3 {d1 d2 s1 s2 k : ℕ} (h1 : 0 + s1 ≤ d1) (h : k + s2 ≤ d2) : ∀ a : Fin 3, (![0, 0, k] : Fin 3 → ℕ) a + (![1, s1, s2] : Fin 3 → ℕ) a ≤ (![1, d1, d2] : Fin 3 → ℕ) a :=
  Fin.forall_fin_succ.mpr ⟨Nat.le_refl 1, Fin.forall_fin_two.mpr ⟨h1, h⟩⟩

/-- The scratch. -/
abbrev Scr := Memref sig .tc .vmem S520x2816 .f32

/-- A list of stores to the scratch. -/
abbrev Pieces (F : FTy → Type) := List (View.Piece (Elt F) S520x2816 .f32)

/-! Chunks of 512 columns of the feed-forward layer. -/

/-- A chunk of the up projection. -/
def up512 (b : Bk F) (col : ℕ) (h : col + 512 ≤ 5632) : FVec F S512x512 .f32 :=
  matmul dot_S512x1024_S1024x512_S512x512_1_0_0_1_n_n none (truncf .bf16 (h1 b) bitsLt_bf16_f32)
    (shapeCast S1024x512 (part b.wu (Rect.unit (s := S1024x5632) ![0, col] S1024x512.size (inb2 (by omega) h))) shapeCasts_S1024x512_S1024x512) (constant S512x512 .f32 0x00000000#32)

/-- A chunk of a row of 2816. -/
def cbRow512 (g : Vec F S1x2816 .f32) (lo : ℕ) (h : lo + 512 ≤ 2816) : FVec F S512x512 .f32 :=
  broadcastTo S512x512 (shapeCast S1x512 (part g (Rect.unit (s := S1x2816) ![0, lo] S1x512.size (inb2 (by omega) h))) shapeCasts_S1x512_S1x512) broadcasts_S1x512_S512x512

/-- A chunk of a row of the convolution's weights. -/
def cwRow512 (g : Vec F S3x2816 .f32) (k : ℕ) (hk : k + 1 ≤ 3) (lo : ℕ) (h : lo + 512 ≤ 2816) : FVec F S512x512 .f32 :=
  broadcastTo S512x512 (shapeCast S1x512 (part g (Rect.unit (s := S3x2816) ![k, lo] S1x512.size (inb2 hk h))) shapeCasts_S1x512_S1x512) broadcasts_S1x512_S512x512

/-- The convolution of a chunk: of the rows, the rows before them and those before these. -/
def cnv512 (b : Bk F) (a a1 a2 : FVec F S512x512 .f32) (lo : ℕ) (h : lo + 512 ≤ 2816) : FVec F S512x512 .f32 :=
  addf (addf (addf (cbRow512 b.cb lo h) (mulf a2 (cwRow512 b.cw 0 (by omega) lo h))) (mulf a1 (cwRow512 b.cw 1 (by omega) lo h))) (mulf a (cwRow512 b.cw 2 (by omega) lo h))

/-- The gated activation of a chunk. -/
def act512 (c g : FVec F S512x512 .f32) : FVec F S512x512 .bf16 :=
  truncf .bf16 (mulf (mulf (mulf (broadcast S512x512 (Scalar.ofBits .f32 0x3F000000#32)) c)
    (addf (broadcast S512x512 (Scalar.ofBits .f32 0x3F800000#32)) (erf (mulf c (broadcast S512x512 (Scalar.ofBits .f32 0x3F3504F3#32)))))) g) bitsLt_bf16_f32

/-- A chunk's part of the down projection. -/
def dn512 (b : Bk F) (a : FVec F S512x512 .bf16) (lo : ℕ) (h : lo + 512 ≤ 2816) : FVec F S512x1024 .f32 :=
  matmul dot_S512x512_S512x1024_S512x1024_1_0_0_1_n_n none a
    (shapeCast S512x1024 (part b.wd (Rect.unit (s := S2816x1024) ![lo, 0] S512x1024.size (inb2 h (by omega)))) shapeCasts_S512x1024_S512x1024) (constant S512x1024 .f32 0x00000000#32)

/-- The scratch's list of stores after a chunk's rows are stored below those of `L`. -/
def LA512 (L : Pieces F) (a : FVec F S512x512 .f32) (lo : ℕ) (h : lo + 512 ≤ 2816) : Pieces F :=
  ⟨Rect.unit (s := S520x2816) ![8, lo] S512x512.size (inb2 (by omega) h), shapeCast S512x512 a shapeCasts_S512x512_S512x512⟩ :: L

/-- What a chunk's rows read at the scratch's row `k` on. -/
def rd512 (M : Scr) (L : Pieces F) (k : ℕ) (hk : k + 512 ≤ 520) (lo : ℕ) (h : lo + 512 ≤ 2816) : Vec F S512x512 .f32 :=
  M.view.readCov L (Rect.unit (s := S520x2816) ![k, lo] S512x512.size (inb2 hk h)).toLoadRect

/-- The last two of a chunk's rows. -/
def tl512 (M : Scr) (L : Pieces F) (lo : ℕ) (h : lo + 512 ≤ 2816) : Vec F S2x512 .f32 :=
  M.view.readCov L (Rect.unit (s := S520x2816) ![518, lo] S2x512.size (inb2 (by omega) h)).toLoadRect

/-- The scratch's list of stores after a chunk. -/
def LT512 (M : Scr) (L : Pieces F) (a : FVec F S512x512 .f32) (lo : ℕ) (h : lo + 512 ≤ 2816) : Pieces F :=
  ⟨Rect.unit (s := S520x2816) ![6, lo] S2x512.size (inb2 (by omega) h), shapeCast S2x512 (tl512 M (LA512 L a lo h) lo h) shapeCasts_S2x512_S2x512⟩ :: LA512 L a lo h

/-- A chunk's part of the layer's output, from the stores before it. -/
def y512 (M : Scr) (L : Pieces F) (b : Bk F) (lo : ℕ) (h : lo + 512 ≤ 2816) : FVec F S512x1024 .f32 :=
  let a := up512 b lo (by omega)
  dn512 b (act512 (cnv512 b a (rd512 M (LA512 L a lo h) 7 (by omega) lo h) (rd512 M (LA512 L a lo h) 6 (by omega) lo h) lo h) (up512 b (2816 + lo) (by omega))) lo h

/-- A chunk's store to the carried rows' window. -/
def pc512 (M : Scr) (L : Pieces F) (b : Bk F) (lo : ℕ) (h : lo + 512 ≤ 2816) : View.Piece (Elt F) S1x2x2816 .f32 :=
  ⟨Rect.unit (s := S1x2x2816) ![0, 0, lo] S1x2x512.size (inb3 (by omega) h), shapeCast S1x2x512 (tl512 M (LA512 L (up512 b lo (by omega)) lo h) lo h) shapeCasts_S2x512_S1x2x512⟩

/-! Chunks of 256 columns of the feed-forward layer. -/

/-- A chunk of the up projection. -/
def up256 (b : Bk F) (col : ℕ) (h : col + 256 ≤ 5632) : FVec F S512x256 .f32 :=
  matmul dot_S512x1024_S1024x256_S512x256_1_0_0_1_n_n none (truncf .bf16 (h1 b) bitsLt_bf16_f32)
    (shapeCast S1024x256 (part b.wu (Rect.unit (s := S1024x5632) ![0, col] S1024x256.size (inb2 (by omega) h))) shapeCasts_S1024x256_S1024x256) (constant S512x256 .f32 0x00000000#32)

/-- A chunk of a row of 2816. -/
def cbRow256 (g : Vec F S1x2816 .f32) (lo : ℕ) (h : lo + 256 ≤ 2816) : FVec F S512x256 .f32 :=
  broadcastTo S512x256 (shapeCast S1x256 (part g (Rect.unit (s := S1x2816) ![0, lo] S1x256.size (inb2 (by omega) h))) shapeCasts_S1x256_S1x256) broadcasts_S1x256_S512x256

/-- A chunk of a row of the convolution's weights. -/
def cwRow256 (g : Vec F S3x2816 .f32) (k : ℕ) (hk : k + 1 ≤ 3) (lo : ℕ) (h : lo + 256 ≤ 2816) : FVec F S512x256 .f32 :=
  broadcastTo S512x256 (shapeCast S1x256 (part g (Rect.unit (s := S3x2816) ![k, lo] S1x256.size (inb2 hk h))) shapeCasts_S1x256_S1x256) broadcasts_S1x256_S512x256

/-- The convolution of a chunk: of the rows, the rows before them and those before these. -/
def cnv256 (b : Bk F) (a a1 a2 : FVec F S512x256 .f32) (lo : ℕ) (h : lo + 256 ≤ 2816) : FVec F S512x256 .f32 :=
  addf (addf (addf (cbRow256 b.cb lo h) (mulf a2 (cwRow256 b.cw 0 (by omega) lo h))) (mulf a1 (cwRow256 b.cw 1 (by omega) lo h))) (mulf a (cwRow256 b.cw 2 (by omega) lo h))

/-- The gated activation of a chunk. -/
def act256 (c g : FVec F S512x256 .f32) : FVec F S512x256 .bf16 :=
  truncf .bf16 (mulf (mulf (mulf (broadcast S512x256 (Scalar.ofBits .f32 0x3F000000#32)) c)
    (addf (broadcast S512x256 (Scalar.ofBits .f32 0x3F800000#32)) (erf (mulf c (broadcast S512x256 (Scalar.ofBits .f32 0x3F3504F3#32)))))) g) bitsLt_bf16_f32

/-- A chunk's part of the down projection. -/
def dn256 (b : Bk F) (a : FVec F S512x256 .bf16) (lo : ℕ) (h : lo + 256 ≤ 2816) : FVec F S512x1024 .f32 :=
  matmul dot_S512x256_S256x1024_S512x1024_1_0_0_1_n_n none a
    (shapeCast S256x1024 (part b.wd (Rect.unit (s := S2816x1024) ![lo, 0] S256x1024.size (inb2 h (by omega)))) shapeCasts_S256x1024_S256x1024) (constant S512x1024 .f32 0x00000000#32)

/-- The scratch's list of stores after a chunk's rows are stored below those of `L`. -/
def LA256 (L : Pieces F) (a : FVec F S512x256 .f32) (lo : ℕ) (h : lo + 256 ≤ 2816) : Pieces F :=
  ⟨Rect.unit (s := S520x2816) ![8, lo] S512x256.size (inb2 (by omega) h), shapeCast S512x256 a shapeCasts_S512x256_S512x256⟩ :: L

/-- What a chunk's rows read at the scratch's row `k` on. -/
def rd256 (M : Scr) (L : Pieces F) (k : ℕ) (hk : k + 512 ≤ 520) (lo : ℕ) (h : lo + 256 ≤ 2816) : Vec F S512x256 .f32 :=
  M.view.readCov L (Rect.unit (s := S520x2816) ![k, lo] S512x256.size (inb2 hk h)).toLoadRect

/-- The last two of a chunk's rows. -/
def tl256 (M : Scr) (L : Pieces F) (lo : ℕ) (h : lo + 256 ≤ 2816) : Vec F S2x256 .f32 :=
  M.view.readCov L (Rect.unit (s := S520x2816) ![518, lo] S2x256.size (inb2 (by omega) h)).toLoadRect

/-- The scratch's list of stores after a chunk. -/
def LT256 (M : Scr) (L : Pieces F) (a : FVec F S512x256 .f32) (lo : ℕ) (h : lo + 256 ≤ 2816) : Pieces F :=
  ⟨Rect.unit (s := S520x2816) ![6, lo] S2x256.size (inb2 (by omega) h), shapeCast S2x256 (tl256 M (LA256 L a lo h) lo h) shapeCasts_S2x256_S2x256⟩ :: LA256 L a lo h

/-- A chunk's part of the layer's output, from the stores before it. -/
def y256 (M : Scr) (L : Pieces F) (b : Bk F) (lo : ℕ) (h : lo + 256 ≤ 2816) : FVec F S512x1024 .f32 :=
  let a := up256 b lo (by omega)
  dn256 b (act256 (cnv256 b a (rd256 M (LA256 L a lo h) 7 (by omega) lo h) (rd256 M (LA256 L a lo h) 6 (by omega) lo h) lo h) (up256 b (2816 + lo) (by omega))) lo h

/-- A chunk's store to the carried rows' window. -/
def pc256 (M : Scr) (L : Pieces F) (b : Bk F) (lo : ℕ) (h : lo + 256 ≤ 2816) : View.Piece (Elt F) S1x2x2816 .f32 :=
  ⟨Rect.unit (s := S1x2x2816) ![0, 0, lo] S1x2x256.size (inb3 (by omega) h), shapeCast S1x2x256 (tl256 M (LA256 L (up256 b lo (by omega)) lo h) lo h) shapeCasts_S2x256_S1x2x256⟩

/-- Layer normalisation of 512 rows. -/
def ln512 (z : FVec F S512x1024 .f32) (g b : Vec F S1x1024 .f32) : FVec F S512x1024 .f32 :=
  let d := subf z (broadcastTo S512x1024 (divf (shapeCast S512x1 (multiReduction .add [1] S512 z 0x00000000#32 reduces_S512x1024_S512 (.inl rfl) rfl) shapeCasts_S512_S512x1)
    (broadcast S512x1 (Scalar.ofBits .f32 0x44800000#32))) broadcasts_S512x1_S512x1024)
  let v := divf (shapeCast S512x1 (multiReduction .add [1] S512 (mulf d d) 0x00000000#32 reduces_S512x1024_S512 (.inl rfl) rfl) shapeCasts_S512_S512x1)
    (broadcast S512x1 (Scalar.ofBits .f32 0x44800000#32))
  addf (mulf (mulf d (broadcastTo S512x1024 (rsqrt (addf v (broadcast S512x1 (Scalar.ofBits .f32 0x3727C5AC#32)))) broadcasts_S512x1_S512x1024))
    (broadcastTo S512x1024 (row g) broadcasts_S1x1024_S512x1024)) (broadcastTo S512x1024 (row b) broadcasts_S1x1024_S512x1024)

/-- The scratch's stores before the first chunk: the carried rows. -/
def L0 (p : Vec F S2x2816 .f32) : Pieces F := [⟨Rect.unit (s := S520x2816) ![6, 0] S2x2816.size inb_S520x2816_S2x2816_6_0, p⟩]
/-- The scratch's stores after 1 chunk. -/
def L1 (M : Scr) (b : Bk F) (p : Vec F S2x2816 .f32) : Pieces F := LT512 M (L0 p) (up512 b 0 (by omega)) 0 (by omega)
/-- The scratch's stores after 2 chunks. -/
def L2 (M : Scr) (b : Bk F) (p : Vec F S2x2816 .f32) : Pieces F := LT512 M (L1 M b p) (up512 b 512 (by omega)) 512 (by omega)
/-- The scratch's stores after 3 chunks. -/
def L3 (M : Scr) (b : Bk F) (p : Vec F S2x2816 .f32) : Pieces F := LT512 M (L2 M b p) (up512 b 1024 (by omega)) 1024 (by omega)
/-- The scratch's stores after 4 chunks. -/
def L4 (M : Scr) (b : Bk F) (p : Vec F S2x2816 .f32) : Pieces F := LT512 M (L3 M b p) (up512 b 1536 (by omega)) 1536 (by omega)
/-- The scratch's stores after 5 chunks. -/
def L5 (M : Scr) (b : Bk F) (p : Vec F S2x2816 .f32) : Pieces F := LT512 M (L4 M b p) (up512 b 2048 (by omega)) 2048 (by omega)
/-- The scratch's stores after the last chunk. -/
def L6 (M : Scr) (b : Bk F) (p : Vec F S2x2816 .f32) : Pieces F := LT256 M (L5 M b p) (up256 b 2560 (by omega)) 2560 (by omega)

/-- The feed-forward layer's output. -/
def ffn (M : Scr) (b : Bk F) (p : Vec F S2x2816 .f32) : FVec F S512x1024 .f32 :=
  addf (addf (addf (addf (addf (y512 M (L0 p) b 0 (by omega)) (y512 M (L1 M b p) b 512 (by omega))) (y512 M (L2 M b p) b 1024 (by omega)))
    (y512 M (L3 M b p) b 1536 (by omega))) (y512 M (L4 M b p) b 2048 (by omega))) (y256 M (L5 M b p) b 2560 (by omega))

/-- The block of the layer's output. -/
def outY (M : Scr) (b : Bk F) (p : Vec F S2x2816 .f32) : FVec F S512x1024 .f32 :=
  ln512 (addf (mulf (broadcast S512x1024 (Scalar.ofBits .f32 0x3F9837F0#32)) (h1 b)) (ffn M b p)) b.l2g b.l2b

/-- The stores to the carried rows' window. -/
def outP (M : Scr) (b : Bk F) (p : Vec F S2x2816 .f32) : List (View.Piece (Elt F) S1x2x2816 .f32) :=
  [pc256 M (L5 M b p) b 2560 (by omega), pc512 M (L4 M b p) b 2048 (by omega), pc512 M (L3 M b p) b 1536 (by omega), pc512 M (L2 M b p) b 1024 (by omega),
    pc512 M (L1 M b p) b 512 (by omega), pc512 M (L0 p) b 0 (by omega)]

/-- The carried rows at a sequence's start. -/
def start (c0 : Vec F S1x2x2816 .f32) : Vec F S2x2816 .f32 :=
  shapeCast S2x2816 (shapeCast S2x2816 (part c0 (Rect.unit (s := S1x2x2816) ![0, 0, 0] S1x2x2816.size inb_S1x2x2816_S1x2x2816_0_0_0)) shapeCasts_S1x2x2816_S2x2816) shapeCasts_S2x2816_S2x2816

end Cert.Kernel3.Fin
end
-- ==== Proof.D.Spec.lean ====
module

public import Idealize.ShloMosaic.Lib.Pointwise

@[expose] public section

/-! One row of the layer after its mixer, as functions of the row's columns: the gated branches, the residual stream,
the causal convolution of three rows, the feed-forward output. -/

noncomputable section

namespace Cert.FinSpec

open Idealize.ShloMosaic

/-- The constants: the rows' widths, the norms' ε, a half, and the roots of two. -/
def c1024 : EReal := Ideal.ofBits .f32 0x44800000#32
def c128 : EReal := Ideal.ofBits .f32 0x43000000#32
def eps : EReal := Ideal.ofBits .f32 0x3727C5AC#32
def half : EReal := Ideal.ofBits .f32 0x3F000000#32
def alpha : EReal := ((Real.sqrt (Real.sqrt 2) : ℝ) : EReal)
def rsqrt2 : EReal := (((Real.sqrt 2)⁻¹ : ℝ) : EReal)

/-- The layer's weights. -/
@[ext] structure Wt where
  wg : Fin 1024 → Fin 2560 → EReal
  ng : Fin 128 → EReal
  wa : Fin 512 → Fin 1024 → EReal
  wb : Fin 512 → Fin 1024 → EReal
  wo : Fin 1024 → Fin 1024 → EReal
  l1g : Fin 1024 → EReal
  l1b : Fin 1024 → EReal
  wu : Fin 1024 → Fin 5632 → EReal
  cw : Fin 3 → Fin 2816 → EReal
  cb : Fin 2816 → EReal
  wd : Fin 2816 → Fin 1024 → EReal
  l2g : Fin 1024 → EReal
  l2b : Fin 1024 → EReal

/-- The mean of a row. -/
def mean (z : Fin 1024 → EReal) : EReal := Ideal.div (∑ k, z k) c1024

/-- A row, normalised. -/
def lnR (z g b : Fin 1024 → EReal) (j : Fin 1024) : EReal :=
  (z j - mean z) * Ideal.rsqrt (mean (fun k => (z k - mean z) * (z k - mean z)) + eps) * g j + b j

/-- A head's lanes over their root mean square. -/
def rmsR (o : Fin 128 → EReal) (ng : Fin 128 → EReal) (l : Fin 128) : EReal :=
  o l * Ideal.rsqrt (Ideal.div (∑ k, o k * o k) c128 + eps) * ng l

/-- The gates of a row. -/
def gtR (W : Wt) (x : Fin 1024 → EReal) (j : Fin 2560) : EReal := ∑ k, x k * W.wg k j

/-- The recurrence's output of a row, normalised head by head and gated. -/
def obR (W : Wt) (gt : Fin 2560 → EReal) (o : Fin 512 → EReal) (j : Fin 512) : EReal :=
  rmsR (fun l => o ⟨128 * (j.val / 128) + l.val, by omega⟩) W.ng ⟨j.val % 128, by omega⟩
    * (gt ⟨j.val, by omega⟩ * Ideal.logistic (gt ⟨j.val, by omega⟩))

/-- The branches of a row, gated and added. -/
def mgR (W : Wt) (gt : Fin 2560 → EReal) (oa ob : Fin 512 → EReal) (j : Fin 1024) : EReal :=
  Ideal.logistic (gt ⟨512 + j.val, by omega⟩) * (∑ k, oa k * W.wa k j)
    + Ideal.logistic (gt ⟨1536 + j.val, by omega⟩) * (∑ k, obR W gt ob k * W.wb k j)

/-- The residual stream of a row after the mixer. -/
def hR (W : Wt) (x : Fin 1024 → EReal) (oa ob : Fin 512 → EReal) : Fin 1024 → EReal :=
  lnR (fun j => alpha * x j + ∑ k, mgR W (gtR W x) oa ob k * W.wo k j) W.l1g W.l1b

/-- The up projection of a row. -/
def upR (W : Wt) (h : Fin 1024 → EReal) (j : Fin 5632) : EReal := ∑ k, h k * W.wu k j

/-- Its half that the convolution reads. -/
def aR (W : Wt) (h : Fin 1024 → EReal) (j : Fin 2816) : EReal := upR W h ⟨j.val, by omega⟩

/-- The convolution of a row `a` with the row before it and the one before that. -/
def cR (W : Wt) (a a1 a2 : Fin 2816 → EReal) (j : Fin 2816) : EReal :=
  W.cb j + a2 j * W.cw 0 j + a1 j * W.cw 1 j + a j * W.cw 2 j

/-- The activation, gated. -/
def acR (c g : EReal) : EReal := half * c * (1 + Ideal.erf (c * rsqrt2)) * g

/-- The feed-forward layer's hidden row. -/
def fR (W : Wt) (h : Fin 1024 → EReal) (a1 a2 : Fin 2816 → EReal) (j : Fin 2816) : EReal :=
  acR (cR W (aR W h) a1 a2 j) (upR W h ⟨2816 + j.val, by omega⟩)

/-- The layer's output of a row. -/
def yR (W : Wt) (h : Fin 1024 → EReal) (a1 a2 : Fin 2816 → EReal) : Fin 1024 → EReal :=
  lnR (fun j => alpha * h j + ∑ k, fR W h a1 a2 k * W.wd k j) W.l2g W.l2b

/-- The weights, from the arrays that hold them. -/
def mkW (wi : (⟨3, ![1, 1024, 5632]⟩ : Shape).Idx → EReal) (ng : (⟨2, ![1, 128]⟩ : Shape).Idx → EReal)
    (wa wb : (⟨3, ![1, 512, 1024]⟩ : Shape).Idx → EReal) (wo : (⟨3, ![1, 1024, 1024]⟩ : Shape).Idx → EReal)
    (l1g l1b : (⟨2, ![1, 1024]⟩ : Shape).Idx → EReal) (wu : (⟨3, ![1, 1024, 5632]⟩ : Shape).Idx → EReal)
    (cw : (⟨3, ![1, 3, 2816]⟩ : Shape).Idx → EReal) (cb : (⟨2, ![1, 2816]⟩ : Shape).Idx → EReal)
    (wd : (⟨3, ![1, 2816, 1024]⟩ : Shape).Idx → EReal) (l2g l2b : (⟨2, ![1, 1024]⟩ : Shape).Idx → EReal) : Wt where
  wg k j := wi (ix3 0 k ⟨3072 + j.val, by omega⟩)
  ng k := ng (ix2 0 k)
  wa k j := wa (ix3 0 k j)
  wb k j := wb (ix3 0 k j)
  wo k j := wo (ix3 0 k j)
  l1g k := l1g (ix2 0 k)
  l1b k := l1b (ix2 0 k)
  wu k j := wu (ix3 0 k j)
  cw k j := cw (ix3 0 k j)
  cb k := cb (ix2 0 k)
  wd k j := wd (ix3 0 k j)
  l2g k := l2g (ix2 0 k)
  l2b k := l2b (ix2 0 k)

section
variable (W : Wt) (x : (⟨3, ![2, 8192, 1024]⟩ : Shape).Idx → EReal) (oa ob : (⟨3, ![2, 8192, 512]⟩ : Shape).Idx → EReal)

/-- The residual stream at position `n` of batch `b`. -/
def Hs (b : Fin 2) (n : Fin 8192) : Fin 1024 → EReal :=
  hR W (fun k => x (ix3 b n k)) (fun k => oa (ix3 b n k)) (fun k => ob (ix3 b n k))

/-- The convolution's input one position before `n`, and two: nothing before the start. -/
def P1 (H : Fin 8192 → Fin 1024 → EReal) (n : Fin 8192) (j : Fin 2816) : EReal :=
  if n.val = 0 then 0 else aR W (H ⟨n.val - 1, by omega⟩) j
def P2 (H : Fin 8192 → Fin 1024 → EReal) (n : Fin 8192) (j : Fin 2816) : EReal :=
  if n.val < 2 then 0 else aR W (H ⟨n.val - 2, by omega⟩) j

/-- The layer's output at position `n` of batch `b`. -/
def Ys (b : Fin 2) (n : Fin 8192) : Fin 1024 → EReal :=
  yR W (Hs W x oa ob b n) (P1 W (Hs W x oa ob b) n) (P2 W (Hs W x oa ob b) n)

/-- The convolution's state at the end of a sequence: its input at the last two positions. -/
def Ts (b : Fin 2) (u : Fin 2) (j : Fin 2816) : EReal := aR W (Hs W x oa ob b ⟨8190 + u.val, by omega⟩) j
end

end Cert.FinSpec
end
-- ==== Proof.D.Elem.lean ====
module

public import proofs.«01_k».proof.Proof.D.Model
public import proofs.«01_k».proof.Proof.D.Spec
public import Idealize.ShloMosaic.Lib.Pointwise

@[expose] public section

set_option maxRecDepth 8192
set_option maxHeartbeats 1000000

/-! The block functions over the extended reals, read at an index. -/

noncomputable section

namespace Cert.Kernel3Ideal.Fin

open Cert.Kernel3Ideal Cert.Kernel3Ideal.Gen Cert.FinSpec
open Idealize.ShloMosaic Idealize.ShloMosaic.TcCoe

/-- A loaded row at an index. -/
theorem row_apply (g : Vec Ideal S1x1024 .f32) (j : Fin 1024) : row g (ix2 0 j) = g (ix2 0 j) := by
  unfold row part
  pointwise

/-- Layer normalisation of 256 rows, at an index. -/
theorem ln256_apply (z : FVec Ideal S256x1024 .f32) (g b : Vec Ideal S1x1024 .f32) (r : Fin 256) (j : Fin 1024) :
    ln256 z g b (ix2 r j) = lnR (fun k => z (ix2 r k)) (fun k => g (ix2 0 k)) (fun k => b (ix2 0 k)) j := by
  unfold ln256
  pointwise [row_apply]
  rfl

/-- Layer normalisation of 512 rows, at an index. -/
theorem ln512_apply (z : FVec Ideal S512x1024 .f32) (g b : Vec Ideal S1x1024 .f32) (r : Fin 512) (j : Fin 1024) :
    ln512 z g b (ix2 r j) = lnR (fun k => z (ix2 r k)) (fun k => g (ix2 0 k)) (fun k => b (ix2 0 k)) j := by
  unfold ln512
  pointwise [row_apply]
  rfl

/-- A head's lanes, at an index. -/
theorem rms_apply (o : FVec Ideal S256x128 .f32) (ng : Vec Ideal S1x128 .f32) (r : Fin 256) (l : Fin 128) :
    rms o ng (ix2 r l) = rmsR (fun k => o (ix2 r k)) (fun k => ng (ix2 0 k)) l := by
  unfold rms part
  pointwise
  rfl

/-- The gates at an index. -/
theorem gates_apply (x : FVec Ideal S256x1024 .f32) (wg : Vec Ideal S1024x2560 .bf16) (r : Fin 256) (j : Fin 2560) :
    gates x wg (ix2 r j) = ∑ k : Fin 1024, x (ix2 r k) * wg (ix2 k j) := by
  unfold gates part
  pointwise

/-- A branch at an index. -/
theorem br_apply (o : FVec Ideal S256x512 .bf16) (w : Vec Ideal S512x1024 .bf16) (r : Fin 256) (j : Fin 1024) :
    br o w (ix2 r j) = ∑ k : Fin 512, o (ix2 r k) * w (ix2 k j) := by
  unfold br part
  pointwise

/-- The projected branches at an index. -/
theorem res_apply (o : FVec Ideal S256x1024 .bf16) (w : Vec Ideal S1024x1024 .bf16) (r : Fin 256) (j : Fin 1024) :
    res o w (ix2 r j) = ∑ k : Fin 1024, o (ix2 r k) * w (ix2 k j) := by
  unfold res part
  pointwise

/-- The gated branches at an index. -/
theorem merged_apply (gt : FVec Ideal S256x2560 .f32) (a b : FVec Ideal S256x1024 .f32) (r : Fin 256) (j : Fin 1024) :
    merged gt a b (ix2 r j) = Ideal.logistic (gt (ix2 r ⟨512 + j.val, by omega⟩)) * a (ix2 r j)
      + Ideal.logistic (gt (ix2 r ⟨1536 + j.val, by omega⟩)) * b (ix2 r j) := by
  unfold merged
  pointwise

/-- The blocks' weights. -/
def wt (b : Bk Ideal) : Wt where
  wg k j := b.wg (ix2 k j)
  ng k := b.ng (ix2 0 k)
  wa k j := b.wa (ix2 k j)
  wb k j := b.wb (ix2 k j)
  wo k j := b.wo (ix2 k j)
  l1g k := b.l1g (ix2 0 k)
  l1b k := b.l1b (ix2 0 k)
  wu k j := b.wu (ix2 k j)
  cw k j := b.cw (ix2 k j)
  cb k := b.cb (ix2 0 k)
  wd k j := b.wd (ix2 k j)
  l2g k := b.l2g (ix2 0 k)
  l2b k := b.l2b (ix2 0 k)

/-- The recurrence's outputs at an index. -/
theorem obn_apply (b : Bk Ideal) (gt : FVec Ideal S256x2560 .f32) (ob : FVec Ideal S256x512 .f32) (r : Fin 256) (j : Fin 512) :
    obn gt ob b.ng (ix2 r j) = obR (wt b) (fun k => gt (ix2 r k)) (fun k => ob (ix2 r k)) j := by
  have key : ∀ (f : Fin 128 → Fin 512) (l : Fin 128), (∀ k, (f k).val = 128 * (j.val / 128) + k.val) → l.val = j.val % 128 →
      rmsR (fun k => ob (ix2 r (f k))) (fun k => b.ng (ix2 0 k)) l
        = rmsR (fun k => ob (ix2 r ⟨128 * (j.val / 128) + k.val, by omega⟩)) (wt b).ng ⟨j.val % 128, by omega⟩ := by
    intro f l hf hl
    have ef : f = fun k => ⟨128 * (j.val / 128) + k.val, by omega⟩ := funext fun k => Fin.ext (hf k)
    have el : l = ⟨j.val % 128, by omega⟩ := Fin.ext hl
    rw [ef]
    exact congrArg (rmsR _ _) el
  unfold obn obR
  pointwise [rms_apply]
  refine congrArg (fun z : EReal => z * _) ?_
  by_cases h0 : j.val < 128
  · rw [dif_pos h0]
    exact key (fun k => ⟨k.val, by omega⟩) ⟨j.val, h0⟩ (fun k => by show k.val = _; omega) (by show j.val = _; omega)
  rw [dif_neg h0]
  by_cases h1 : j.val - 128 < 128
  · rw [dif_pos h1]
    exact key (fun k => ⟨128 + k.val, by omega⟩) ⟨j.val - 128, h1⟩ (fun k => by show 128 + k.val = _; omega) (by show j.val - 128 = _; omega)
  rw [dif_neg h1]
  by_cases h2 : j.val - 128 - 128 < 128
  · rw [dif_pos h2]
    exact key (fun k => ⟨256 + k.val, by omega⟩) ⟨j.val - 128 - 128, h2⟩ (fun k => by show 256 + k.val = _; omega) (by show j.val - 128 - 128 = _; omega)
  rw [dif_neg h2]
  exact key (fun k => ⟨384 + k.val, by omega⟩) ⟨j.val - 128 - 128 - 128, by omega⟩ (fun k => by show 384 + k.val = _; omega) (by show j.val - 128 - 128 - 128 = _; omega)

/-- The named constants. -/
theorem alpha_eq : (Named.named κ "alpha" 0x3F9837F0#32 : Ideal .f32) = alpha := rfl
theorem rsqrt2_eq : (Named.named κ "rsqrt2" 0x3F3504F3#32 : Ideal .f32) = rsqrt2 := rfl

/-- A group's residual stream at an index. -/
theorem grp_apply (b : Bk Ideal) (x : FVec Ideal S256x1024 .f32) (oa : FVec Ideal S256x512 .bf16) (ob : FVec Ideal S256x512 .f32)
    (r : Fin 256) (j : Fin 1024) :
    grp b x oa ob (ix2 r j) = hR (wt b) (fun k => x (ix2 r k)) (fun k => oa (ix2 r k)) (fun k => ob (ix2 r k)) j := by
  unfold grp
  rw [ln256_apply]
  pointwise [alpha_eq, res_apply, merged_apply, br_apply, obn_apply, gates_apply]
  rfl

/-- The residual stream at an index. -/
theorem h1_apply (b : Bk Ideal) (r : Fin 512) (j : Fin 1024) :
    h1 b (ix2 r j) = hR (wt b) (fun k => b.x (ix2 r k)) (fun k => b.oa (ix2 r k)) (fun k => b.ob (ix2 r k)) j := by
  have key : ∀ (r' : Fin 512), r'.val = r.val → hR (wt b) (fun k => b.x (ix2 r' k)) (fun k => b.oa (ix2 r' k)) (fun k => b.ob (ix2 r' k)) j
      = hR (wt b) (fun k => b.x (ix2 r k)) (fun k => b.oa (ix2 r k)) (fun k => b.ob (ix2 r k)) j := by
    intro r' h
    obtain rfl : r' = r := Fin.ext h
    rfl
  unfold h1
  pointwise [grp0, grp1, part, grp_apply]
  by_cases h : r.val < 256
  · rw [dif_pos h]
  · rw [dif_neg h]
    exact key ⟨256 + (r.val - 256), by omega⟩ (by show 256 + (r.val - 256) = r.val; omega)

/-- A chunk of the up projection at an index. -/
theorem up512_apply (b : Bk Ideal) (col : ℕ) (h : col + 512 ≤ 5632) (r j : Fin 512) :
    up512 b col h (ix2 r j) = upR (wt b) (fun k => h1 b (ix2 r k)) ⟨col + j.val, by omega⟩ := by
  unfold up512 part
  pointwise
  rfl

theorem up256_apply (b : Bk Ideal) (col : ℕ) (h : col + 256 ≤ 5632) (r : Fin 512) (j : Fin 256) :
    up256 b col h (ix2 r j) = upR (wt b) (fun k => h1 b (ix2 r k)) ⟨col + j.val, by omega⟩ := by
  unfold up256 part
  pointwise
  rfl

/-- A chunk's convolution at an index. -/
theorem cnv512_apply (b : Bk Ideal) (a a1 a2 : FVec Ideal S512x512 .f32) (lo : ℕ) (h : lo + 512 ≤ 2816) (r j : Fin 512) :
    cnv512 b a a1 a2 lo h (ix2 r j) = b.cb (ix2 0 ⟨lo + j.val, by omega⟩) + a2 (ix2 r j) * b.cw (ix2 0 ⟨lo + j.val, by omega⟩)
      + a1 (ix2 r j) * b.cw (ix2 1 ⟨lo + j.val, by omega⟩) + a (ix2 r j) * b.cw (ix2 2 ⟨lo + j.val, by omega⟩) := by
  unfold cnv512 cbRow512 cwRow512 part
  pointwise

theorem cnv256_apply (b : Bk Ideal) (a a1 a2 : FVec Ideal S512x256 .f32) (lo : ℕ) (h : lo + 256 ≤ 2816) (r : Fin 512) (j : Fin 256) :
    cnv256 b a a1 a2 lo h (ix2 r j) = b.cb (ix2 0 ⟨lo + j.val, by omega⟩) + a2 (ix2 r j) * b.cw (ix2 0 ⟨lo + j.val, by omega⟩)
      + a1 (ix2 r j) * b.cw (ix2 1 ⟨lo + j.val, by omega⟩) + a (ix2 r j) * b.cw (ix2 2 ⟨lo + j.val, by omega⟩) := by
  unfold cnv256 cbRow256 cwRow256 part
  pointwise

/-- A chunk's gated activation at an index. -/
theorem act512_apply (c g : FVec Ideal S512x512 .f32) (r j : Fin 512) :
    act512 c g (ix2 r j) = acR (c (ix2 r j)) (g (ix2 r j)) := by
  unfold act512
  pointwise [rsqrt2_eq]
  rfl

theorem act256_apply (c g : FVec Ideal S512x256 .f32) (r : Fin 512) (j : Fin 256) :
    act256 c g (ix2 r j) = acR (c (ix2 r j)) (g (ix2 r j)) := by
  unfold act256
  pointwise [rsqrt2_eq]
  rfl

/-- A chunk's part of the down projection at an index. -/
theorem dn512_apply (b : Bk Ideal) (a : FVec Ideal S512x512 .bf16) (lo : ℕ) (h : lo + 512 ≤ 2816) (r : Fin 512) (j : Fin 1024) :
    dn512 b a lo h (ix2 r j) = ∑ k : Fin 512, a (ix2 r k) * b.wd (ix2 ⟨lo + k.val, by omega⟩ j) := by
  unfold dn512 part
  pointwise

theorem dn256_apply (b : Bk Ideal) (a : FVec Ideal S512x256 .bf16) (lo : ℕ) (h : lo + 256 ≤ 2816) (r : Fin 512) (j : Fin 1024) :
    dn256 b a lo h (ix2 r j) = ∑ k : Fin 256, a (ix2 r k) * b.wd (ix2 ⟨lo + k.val, by omega⟩ j) := by
  unfold dn256 part
  pointwise

/-- The carried rows at a sequence's start, at an index. -/
theorem start_apply (c0 : Vec Ideal S1x2x2816 .f32) (u : Fin 2) (j : Fin 2816) : start c0 (ix2 u j) = c0 (ix3 0 u j) := by
  unfold start part
  pointwise

end Cert.Kernel3Ideal.Fin
end
-- ==== Proof.D.Scratch.lean ====
module

public import proofs.«01_k».proof.Proof.D.Run
public import proofs.«01_k».proof.Proof.D.Elem

@[expose] public section

set_option maxRecDepth 8192
set_option maxHeartbeats 1000000

/-! The scratch over the extended reals: what a chunk reads back of the rows before its own, and what it leaves for
the next block. -/

noncomputable section

namespace Cert.Kernel3Ideal.Fin

open Cert.Kernel3Ideal Cert.Kernel3Ideal.Gen Cert.FinSpec
open Idealize.ShloMosaic Idealize.ShloMosaic.TcCoe

/-- Inside the last store, the store. -/
theorem hit {d0 d1 o lo : ℕ} (inb : ∀ a, (![o, lo] : Fin 2 → ℕ) a + (![d0, d1] : Fin 2 → ℕ) a ≤ S520x2816.size a)
    (w : (⟨2, ![d0, d1]⟩ : Shape).Idx → Elt Ideal .f32) (L : Pieces Ideal) (u : Fin d0) (j : Fin d1) (R : Fin 520) (C : Fin 2816)
    (hR : R.val = o + u.val) (hC : C.val = lo + j.val) :
    View.canon (⟨Rect.unit (s := S520x2816) ![o, lo] ![d0, d1] inb, w⟩ :: L) (ix2 R C) = w (ix2 u j) := by
  have e : (ix2 R C : S520x2816.Idx) = (Rect.unit (s := S520x2816) ![o, lo] ![d0, d1] inb).emb (ix2 u j) :=
    Shape.idx_ext₂ (by show R.val = o + 1 * u.val; omega) (by show C.val = lo + 1 * j.val; omega)
  rw [e]
  exact View.canon_cons_emb (Rect.unit (s := S520x2816) ![o, lo] ![d0, d1] inb) w L (ix2 u j)

/-- Outside it, the stores before. -/
theorem miss {d0 d1 o lo : ℕ} (inb : ∀ a, (![o, lo] : Fin 2 → ℕ) a + (![d0, d1] : Fin 2 → ℕ) a ≤ S520x2816.size a)
    (w : (⟨2, ![d0, d1]⟩ : Shape).Idx → Elt Ideal .f32) (L : Pieces Ideal) (R : Fin 520) (C : Fin 2816)
    (h : R.val < o ∨ o + d0 ≤ R.val ∨ C.val < lo ∨ lo + d1 ≤ C.val) :
    View.canon (⟨Rect.unit (s := S520x2816) ![o, lo] ![d0, d1] inb, w⟩ :: L) (ix2 R C) = View.canon L (ix2 R C) := by
  refine View.canon_cons_of_not_mem _ L fun hm => ?_
  obtain ⟨x, hx⟩ := (Rect.unit (s := S520x2816) ![o, lo] ![d0, d1] inb).exists_idx_of_mem hm
  have e0 : o + 1 * (x 0).val = R.val := congrArg (fun i : S520x2816.Idx => (i 0).val) hx
  have e1 : lo + 1 * (x 1).val = C.val := congrArg (fun i : S520x2816.Idx => (i 1).val) hx
  have l0 : (x 0).val < d0 := (x 0).isLt
  have l1 : (x 1).val < d1 := (x 1).isLt
  omega

/-- From column `lo` on, the rows before the block are the carried ones. -/
def Inv (L : Pieces Ideal) (lo : ℕ) (p : Vec Ideal S2x2816 .f32) : Prop :=
  ∀ (u : Fin 2) (R : Fin 520) (j : Fin 2816), R.val = 6 + u.val → lo ≤ j.val → View.canon L (ix2 R j) = p (ix2 u j)

theorem inv0 (p : Vec Ideal S2x2816 .f32) : Inv (L0 p) 0 p := fun u R j hR _ =>
  hit inb_S520x2816_S2x2816_6_0 p [] u j R j hR (by omega)

variable (M : Scr)

/-- The chunk's rows among the stores. -/
theorem LA512_in (L : Pieces Ideal) (a : FVec Ideal S512x512 .f32) (lo : ℕ) (h : lo + 512 ≤ 2816) (R : Fin 520) (C : Fin 2816)
    (u j : Fin 512) (hR : R.val = 8 + u.val) (hC : C.val = lo + j.val) : View.canon (LA512 L a lo h) (ix2 R C) = a (ix2 u j) := by
  refine (hit _ _ L u j R C hR hC).trans ?_
  pointwise

theorem LA256_in (L : Pieces Ideal) (a : FVec Ideal S512x256 .f32) (lo : ℕ) (h : lo + 256 ≤ 2816) (R : Fin 520) (C : Fin 2816)
    (u : Fin 512) (j : Fin 256) (hR : R.val = 8 + u.val) (hC : C.val = lo + j.val) : View.canon (LA256 L a lo h) (ix2 R C) = a (ix2 u j) := by
  refine (hit _ _ L u j R C hR hC).trans ?_
  pointwise

theorem rd512_canon (L : Pieces Ideal) (k : ℕ) (hk : k + 512 ≤ 520) (lo : ℕ) (h : lo + 512 ≤ 2816) (r j : Fin 512) :
    rd512 M L k hk lo h (ix2 r j) = View.canon L (ix2 ⟨k + r.val, by omega⟩ ⟨lo + j.val, by omega⟩) := by
  unfold rd512
  rw [View.readCov_eq_canon']
  exact congrArg (View.canon L) (Shape.idx_ext₂ (by show k + 1 * r.val = k + r.val; omega) (by show lo + 1 * j.val = lo + j.val; omega))

theorem rd256_canon (L : Pieces Ideal) (k : ℕ) (hk : k + 512 ≤ 520) (lo : ℕ) (h : lo + 256 ≤ 2816) (r : Fin 512) (j : Fin 256) :
    rd256 M L k hk lo h (ix2 r j) = View.canon L (ix2 ⟨k + r.val, by omega⟩ ⟨lo + j.val, by omega⟩) := by
  unfold rd256
  rw [View.readCov_eq_canon']
  exact congrArg (View.canon L) (Shape.idx_ext₂ (by show k + 1 * r.val = k + r.val; omega) (by show lo + 1 * j.val = lo + j.val; omega))

/-- The last two rows of a chunk. -/
theorem tl512_apply (L : Pieces Ideal) (a : FVec Ideal S512x512 .f32) (lo : ℕ) (h : lo + 512 ≤ 2816) (u : Fin 2) (j : Fin 512) :
    tl512 M (LA512 L a lo h) lo h (ix2 u j) = a (ix2 ⟨510 + u.val, by omega⟩ j) := by
  unfold tl512
  rw [View.readCov_eq_canon']
  refine Eq.trans (congrArg (View.canon (LA512 L a lo h)) ?_) (LA512_in L a lo h ⟨518 + u.val, by omega⟩ ⟨lo + j.val, by omega⟩ ⟨510 + u.val, by omega⟩ j
    (by show 518 + u.val = 8 + (510 + u.val); omega) rfl)
  exact (Shape.idx_ext₂ (by show 518 + 1 * u.val = 518 + u.val; omega) (by show lo + 1 * j.val = lo + j.val; omega))

theorem tl256_apply (L : Pieces Ideal) (a : FVec Ideal S512x256 .f32) (lo : ℕ) (h : lo + 256 ≤ 2816) (u : Fin 2) (j : Fin 256) :
    tl256 M (LA256 L a lo h) lo h (ix2 u j) = a (ix2 ⟨510 + u.val, by omega⟩ j) := by
  unfold tl256
  rw [View.readCov_eq_canon']
  refine Eq.trans (congrArg (View.canon (LA256 L a lo h)) ?_) (LA256_in L a lo h ⟨518 + u.val, by omega⟩ ⟨lo + j.val, by omega⟩ ⟨510 + u.val, by omega⟩ j
    (by show 518 + u.val = 8 + (510 + u.val); omega) rfl)
  exact (Shape.idx_ext₂ (by show 518 + 1 * u.val = 518 + u.val; omega) (by show lo + 1 * j.val = lo + j.val; omega))

/-- After a chunk, the rows before the block hold, in its columns, its last two rows. -/
theorem LT512_in (L : Pieces Ideal) (a : FVec Ideal S512x512 .f32) (lo : ℕ) (h : lo + 512 ≤ 2816) (u : Fin 2) (R : Fin 520) (C : Fin 2816) (j : Fin 512)
    (hR : R.val = 6 + u.val) (hC : C.val = lo + j.val) : View.canon (LT512 M L a lo h) (ix2 R C) = a (ix2 ⟨510 + u.val, by omega⟩ j) := by
  refine (hit _ _ _ u j R C hR hC).trans ?_
  pointwise [tl512_apply]

theorem LT256_in (L : Pieces Ideal) (a : FVec Ideal S512x256 .f32) (lo : ℕ) (h : lo + 256 ≤ 2816) (u : Fin 2) (R : Fin 520) (C : Fin 2816) (j : Fin 256)
    (hR : R.val = 6 + u.val) (hC : C.val = lo + j.val) : View.canon (LT256 M L a lo h) (ix2 R C) = a (ix2 ⟨510 + u.val, by omega⟩ j) := by
  refine (hit _ _ _ u j R C hR hC).trans ?_
  pointwise [tl256_apply]

/-- In other columns, what they held. -/
theorem LT512_out (L : Pieces Ideal) (a : FVec Ideal S512x512 .f32) (lo : ℕ) (h : lo + 512 ≤ 2816) (R : Fin 520) (C : Fin 2816)
    (hC : C.val < lo ∨ lo + 512 ≤ C.val) : View.canon (LT512 M L a lo h) (ix2 R C) = View.canon L (ix2 R C) :=
  (miss _ _ _ R C (by omega)).trans (miss _ _ _ R C (by omega))

theorem LT256_out (L : Pieces Ideal) (a : FVec Ideal S512x256 .f32) (lo : ℕ) (h : lo + 256 ≤ 2816) (R : Fin 520) (C : Fin 2816)
    (hC : C.val < lo ∨ lo + 256 ≤ C.val) : View.canon (LT256 M L a lo h) (ix2 R C) = View.canon L (ix2 R C) :=
  (miss _ _ _ R C (by omega)).trans (miss _ _ _ R C (by omega))

theorem invS (L : Pieces Ideal) (p : Vec Ideal S2x2816 .f32) (a : FVec Ideal S512x512 .f32) (lo : ℕ) (h : lo + 512 ≤ 2816) (hi : Inv L lo p) :
    Inv (LT512 M L a lo h) (lo + 512) p := fun u R j hR hj =>
  (LT512_out M L a lo h R j (by omega)).trans (hi u R j hR (by omega))

theorem inv1 (b : Bk Ideal) (p : Vec Ideal S2x2816 .f32) : Inv (L1 M b p) 512 p := invS M _ p _ 0 _ (inv0 p)
theorem inv2 (b : Bk Ideal) (p : Vec Ideal S2x2816 .f32) : Inv (L2 M b p) 1024 p := invS M _ p _ 512 _ (inv1 M b p)
theorem inv3 (b : Bk Ideal) (p : Vec Ideal S2x2816 .f32) : Inv (L3 M b p) 1536 p := invS M _ p _ 1024 _ (inv2 M b p)
theorem inv4 (b : Bk Ideal) (p : Vec Ideal S2x2816 .f32) : Inv (L4 M b p) 2048 p := invS M _ p _ 1536 _ (inv3 M b p)
theorem inv5 (b : Bk Ideal) (p : Vec Ideal S2x2816 .f32) : Inv (L5 M b p) 2560 p := invS M _ p _ 2048 _ (inv4 M b p)

/-- A row of a block's residual stream. -/
def hrow (b : Bk Ideal) (r : Fin 512) : Fin 1024 → EReal := fun k => h1 b (ix2 r k)

/-- The up projection of the row before, and of the one before that. -/
def pv1 (b : Bk Ideal) (p : Vec Ideal S2x2816 .f32) (r : Fin 512) (j : Fin 2816) : EReal :=
  if r.val = 0 then p (ix2 1 j) else aR (wt b) (hrow b ⟨r.val - 1, by omega⟩) j
def pv2 (b : Bk Ideal) (p : Vec Ideal S2x2816 .f32) (r : Fin 512) (j : Fin 2816) : EReal :=
  if r.val = 0 then p (ix2 0 j) else if r.val = 1 then p (ix2 1 j) else aR (wt b) (hrow b ⟨r.val - 2, by omega⟩) j

theorem upA512 (b : Bk Ideal) (lo : ℕ) (h : lo + 512 ≤ 2816) (h' : lo + 512 ≤ 5632) (r j : Fin 512) :
    up512 b lo h' (ix2 r j) = aR (wt b) (hrow b r) ⟨lo + j.val, by omega⟩ := up512_apply b lo h' r j

theorem upA256 (b : Bk Ideal) (lo : ℕ) (h : lo + 256 ≤ 2816) (h' : lo + 256 ≤ 5632) (r : Fin 512) (j : Fin 256) :
    up256 b lo h' (ix2 r j) = aR (wt b) (hrow b r) ⟨lo + j.val, by omega⟩ := up256_apply b lo h' r j

theorem rd7_512 (b : Bk Ideal) (p : Vec Ideal S2x2816 .f32) (L : Pieces Ideal) (lo : ℕ) (h : lo + 512 ≤ 2816) (h' : lo + 512 ≤ 5632) (hi : Inv L lo p) (r j : Fin 512) :
    rd512 M (LA512 L (up512 b lo h') lo h) 7 (by norm_num) lo h (ix2 r j) = pv1 b p r ⟨lo + j.val, by omega⟩ := by
  rw [rd512_canon]
  unfold pv1
  by_cases h0 : r.val = 0
  · rw [if_pos h0]
    exact (miss _ _ _ _ _ (.inl (by show 7 + r.val < 8; omega))).trans (hi 1 _ _ (by show 7 + r.val = 6 + 1; omega) (by show lo ≤ lo + j.val; omega))
  · rw [if_neg h0]
    exact (LA512_in L _ lo h _ _ ⟨r.val - 1, by omega⟩ j (by show 7 + r.val = 8 + (r.val - 1); omega) rfl).trans (upA512 b lo h h' _ j)

theorem rd7_256 (b : Bk Ideal) (p : Vec Ideal S2x2816 .f32) (L : Pieces Ideal) (lo : ℕ) (h : lo + 256 ≤ 2816) (h' : lo + 256 ≤ 5632) (hi : Inv L lo p) (r : Fin 512) (j : Fin 256) :
    rd256 M (LA256 L (up256 b lo h') lo h) 7 (by norm_num) lo h (ix2 r j) = pv1 b p r ⟨lo + j.val, by omega⟩ := by
  rw [rd256_canon]
  unfold pv1
  by_cases h0 : r.val = 0
  · rw [if_pos h0]
    exact (miss _ _ _ _ _ (.inl (by show 7 + r.val < 8; omega))).trans (hi 1 _ _ (by show 7 + r.val = 6 + 1; omega) (by show lo ≤ lo + j.val; omega))
  · rw [if_neg h0]
    exact (LA256_in L _ lo h _ _ ⟨r.val - 1, by omega⟩ j (by show 7 + r.val = 8 + (r.val - 1); omega) rfl).trans (upA256 b lo h h' _ j)

theorem rd6_512 (b : Bk Ideal) (p : Vec Ideal S2x2816 .f32) (L : Pieces Ideal) (lo : ℕ) (h : lo + 512 ≤ 2816) (h' : lo + 512 ≤ 5632) (hi : Inv L lo p) (r j : Fin 512) :
    rd512 M (LA512 L (up512 b lo h') lo h) 6 (by norm_num) lo h (ix2 r j) = pv2 b p r ⟨lo + j.val, by omega⟩ := by
  rw [rd512_canon]
  unfold pv2
  by_cases h0 : r.val = 0
  · rw [if_pos h0]
    exact (miss _ _ _ _ _ (.inl (by show 6 + r.val < 8; omega))).trans (hi 0 _ _ (by show 6 + r.val = 6 + 0; omega) (by show lo ≤ lo + j.val; omega))
  rw [if_neg h0]
  by_cases h1 : r.val = 1
  · rw [if_pos h1]
    exact (miss _ _ _ _ _ (.inl (by show 6 + r.val < 8; omega))).trans (hi 1 _ _ (by show 6 + r.val = 6 + 1; omega) (by show lo ≤ lo + j.val; omega))
  · rw [if_neg h1]
    exact (LA512_in L _ lo h _ _ ⟨r.val - 2, by omega⟩ j (by show 6 + r.val = 8 + (r.val - 2); omega) rfl).trans (upA512 b lo h h' _ j)

theorem rd6_256 (b : Bk Ideal) (p : Vec Ideal S2x2816 .f32) (L : Pieces Ideal) (lo : ℕ) (h : lo + 256 ≤ 2816) (h' : lo + 256 ≤ 5632) (hi : Inv L lo p) (r : Fin 512) (j : Fin 256) :
    rd256 M (LA256 L (up256 b lo h') lo h) 6 (by norm_num) lo h (ix2 r j) = pv2 b p r ⟨lo + j.val, by omega⟩ := by
  rw [rd256_canon]
  unfold pv2
  by_cases h0 : r.val = 0
  · rw [if_pos h0]
    exact (miss _ _ _ _ _ (.inl (by show 6 + r.val < 8; omega))).trans (hi 0 _ _ (by show 6 + r.val = 6 + 0; omega) (by show lo ≤ lo + j.val; omega))
  rw [if_neg h0]
  by_cases h1 : r.val = 1
  · rw [if_pos h1]
    exact (miss _ _ _ _ _ (.inl (by show 6 + r.val < 8; omega))).trans (hi 1 _ _ (by show 6 + r.val = 6 + 1; omega) (by show lo ≤ lo + j.val; omega))
  · rw [if_neg h1]
    exact (LA256_in L _ lo h _ _ ⟨r.val - 2, by omega⟩ j (by show 6 + r.val = 8 + (r.val - 2); omega) rfl).trans (upA256 b lo h h' _ j)

/-- What a block leaves for the next: its last two rows' up projection. -/
theorem carry_apply (b : Bk Ideal) (p : Vec Ideal S2x2816 .f32) (u : Fin 2) (j : Fin 2816) :
    carry M b p (ix2 u j) = aR (wt b) (hrow b ⟨510 + u.val, by omega⟩) j := by
  have e : r6.emb (ix2 u j) = (ix2 ⟨6 + u.val, by omega⟩ j : S520x2816.Idx) :=
    Shape.idx_ext₂ (by show 6 + 1 * u.val = 6 + u.val; omega) (by show 0 + 1 * j.val = j.val; omega)
  have up : ∀ (lo : ℕ) (h : lo + 512 ≤ 2816) (h' : lo + 512 ≤ 5632) (L : Pieces Ideal), lo ≤ j.val → j.val < lo + 512 →
      View.canon (LT512 M L (up512 b lo h') lo h) (ix2 ⟨6 + u.val, by omega⟩ j) = aR (wt b) (hrow b ⟨510 + u.val, by omega⟩) j := by
    intro lo h h' L h0 h1
    refine (LT512_in M L _ lo h u _ j ⟨j.val - lo, by omega⟩ rfl (by show j.val = lo + (j.val - lo); omega)).trans ((upA512 b lo h h' _ _).trans ?_)
    exact congrArg (aR (wt b) _) (Fin.ext (by show lo + (j.val - lo) = j.val; omega))
  have hj := j.isLt
  show View.canon (L6 M b p) (r6.emb (ix2 u j)) = _
  rw [e]
  by_cases c5 : 2560 ≤ j.val
  · refine (LT256_in M _ _ 2560 _ u _ j ⟨j.val - 2560, by omega⟩ rfl (by show j.val = 2560 + (j.val - 2560); omega)).trans ((upA256 b 2560 (by norm_num) _ _ _).trans ?_)
    exact congrArg (aR (wt b) _) (Fin.ext (by show 2560 + (j.val - 2560) = j.val; omega))
  refine (LT256_out M _ _ 2560 _ _ j (by omega)).trans ?_
  by_cases c4 : 2048 ≤ j.val
  · exact up 2048 _ _ _ c4 (by omega)
  refine (LT512_out M _ _ 2048 _ _ j (by omega)).trans ?_
  by_cases c3 : 1536 ≤ j.val
  · exact up 1536 _ _ _ c3 (by omega)
  refine (LT512_out M _ _ 1536 _ _ j (by omega)).trans ?_
  by_cases c2 : 1024 ≤ j.val
  · exact up 1024 _ _ _ c2 (by omega)
  refine (LT512_out M _ _ 1024 _ _ j (by omega)).trans ?_
  by_cases c1 : 512 ≤ j.val
  · exact up 512 _ _ _ c1 (by omega)
  refine (LT512_out M _ _ 512 _ _ j (by omega)).trans ?_
  exact up 0 _ _ _ (by omega) (by omega)

end Cert.Kernel3Ideal.Fin
end
-- ==== Proof.D.Out.lean ====
module

public import proofs.«01_k».proof.Proof.D.Scratch

@[expose] public section

set_option maxRecDepth 8192
set_option maxHeartbeats 1000000

/-! What one block of rows writes, over the extended reals, read at an index. -/

noncomputable section

namespace Cert.Kernel3Ideal.Fin

open Cert.Kernel3Ideal Cert.Kernel3Ideal.Gen Cert.FinSpec
open Idealize.ShloMosaic Idealize.ShloMosaic.TcCoe

variable (M : Scr)

/-- The hidden row of a block's row. -/
def fr (b : Bk Ideal) (p : Vec Ideal S2x2816 .f32) (r : Fin 512) : Fin 2816 → EReal := fR (wt b) (hrow b r) (pv1 b p r) (pv2 b p r)

/-- A chunk's part of the layer's output at an index. -/
theorem y512_apply (b : Bk Ideal) (p : Vec Ideal S2x2816 .f32) (L : Pieces Ideal) (lo : ℕ) (h : lo + 512 ≤ 2816) (hi : Inv L lo p) (r : Fin 512) (j : Fin 1024) :
    y512 M L b lo h (ix2 r j) = ∑ k : Fin 512, fr b p r ⟨lo + k.val, by omega⟩ * b.wd (ix2 ⟨lo + k.val, by omega⟩ j) := by
  unfold y512
  refine (dn512_apply b _ lo h r j).trans (Finset.sum_congr rfl fun k _ => congrArg (fun z : EReal => z * b.wd (ix2 ⟨lo + k.val, by omega⟩ j)) ?_)
  rw [act512_apply, cnv512_apply, rd7_512 M b p L lo h _ hi, rd6_512 M b p L lo h _ hi, upA512 b lo h, up512_apply]
  unfold fr fR cR
  refine congrArg (acR _) (congrArg (upR (wt b) (hrow b r)) (Fin.ext ?_))
  show 2816 + lo + k.val = 2816 + (lo + k.val)
  omega

theorem y256_apply (b : Bk Ideal) (p : Vec Ideal S2x2816 .f32) (L : Pieces Ideal) (lo : ℕ) (h : lo + 256 ≤ 2816) (hi : Inv L lo p) (r : Fin 512) (j : Fin 1024) :
    y256 M L b lo h (ix2 r j) = ∑ k : Fin 256, fr b p r ⟨lo + k.val, by omega⟩ * b.wd (ix2 ⟨lo + k.val, by omega⟩ j) := by
  unfold y256
  refine (dn256_apply b _ lo h r j).trans (Finset.sum_congr rfl fun k _ => congrArg (fun z : EReal => z * b.wd (ix2 ⟨lo + k.val, by omega⟩ j)) ?_)
  rw [act256_apply, cnv256_apply, rd7_256 M b p L lo h _ hi, rd6_256 M b p L lo h _ hi, upA256 b lo h, up256_apply]
  unfold fr fR cR
  refine congrArg (acR _) (congrArg (upR (wt b) (hrow b r)) (Fin.ext ?_))
  show 2816 + lo + k.val = 2816 + (lo + k.val)
  omega

/-- A sum over the hidden columns, chunk by chunk. -/
theorem sum_chunks (f : Fin 2816 → EReal) :
    (∑ k : Fin 2816, f k) = (∑ k : Fin 512, f ⟨0 + k.val, by omega⟩) + (∑ k : Fin 512, f ⟨512 + k.val, by omega⟩) + (∑ k : Fin 512, f ⟨1024 + k.val, by omega⟩)
      + (∑ k : Fin 512, f ⟨1536 + k.val, by omega⟩) + (∑ k : Fin 512, f ⟨2048 + k.val, by omega⟩) + (∑ k : Fin 256, f ⟨2560 + k.val, by omega⟩) := by
  have s5 := Fin.sum_univ_add (a := 2560) (b := 256) f
  have s4 := Fin.sum_univ_add (a := 2048) (b := 512) (fun i => f (Fin.castAdd 256 i))
  have s3 := Fin.sum_univ_add (a := 1536) (b := 512) (fun i => f (Fin.castAdd 256 (Fin.castAdd 512 i)))
  have s2 := Fin.sum_univ_add (a := 1024) (b := 512) (fun i => f (Fin.castAdd 256 (Fin.castAdd 512 (Fin.castAdd 512 i))))
  have s1 := Fin.sum_univ_add (a := 512) (b := 512) (fun i => f (Fin.castAdd 256 (Fin.castAdd 512 (Fin.castAdd 512 (Fin.castAdd 512 i)))))
  refine s5.trans ?_
  rw [s4, s3, s2, s1]
  refine congrArg₂ (fun a c : EReal => a + c) (congrArg₂ (fun a c : EReal => a + c) (congrArg₂ (fun a c : EReal => a + c) (congrArg₂ (fun a c : EReal => a + c)
    (congrArg₂ (fun a c : EReal => a + c) ?_ rfl) rfl) rfl) rfl) rfl
  exact Finset.sum_congr rfl fun k _ => congrArg f (Fin.ext (by show k.val = 0 + k.val; omega))

/-- The feed-forward output at an index. -/
theorem ffn_apply (b : Bk Ideal) (p : Vec Ideal S2x2816 .f32) (r : Fin 512) (j : Fin 1024) :
    ffn M b p (ix2 r j) = ∑ k : Fin 2816, fr b p r k * b.wd (ix2 k j) := by
  rw [sum_chunks]
  unfold ffn
  pointwise [y512_apply M b p _ 0 _ (inv0 p), y512_apply M b p _ 512 _ (inv1 M b p), y512_apply M b p _ 1024 _ (inv2 M b p), y512_apply M b p _ 1536 _ (inv3 M b p),
    y512_apply M b p _ 2048 _ (inv4 M b p), y256_apply M b p _ 2560 _ (inv5 M b p)]

/-- The layer's output at an index. -/
theorem outY_apply (b : Bk Ideal) (p : Vec Ideal S2x2816 .f32) (r : Fin 512) (j : Fin 1024) :
    outY M b p (ix2 r j) = yR (wt b) (hrow b r) (pv1 b p r) (pv2 b p r) j := by
  unfold outY
  rw [ln512_apply]
  pointwise [alpha_eq, ffn_apply]
  rfl

/-- Inside the last store to the carried rows' window, the store. -/
theorem hitP {d : ℕ} {lo : ℕ} (inb : ∀ a, (![0, 0, lo] : Fin 3 → ℕ) a + (![1, 2, d] : Fin 3 → ℕ) a ≤ S1x2x2816.size a)
    (w : (⟨3, ![1, 2, d]⟩ : Shape).Idx → Elt Ideal .f32) (L : List (View.Piece (Elt Ideal) S1x2x2816 .f32)) (u : Fin 2) (j : Fin d) (C : Fin 2816)
    (hC : C.val = lo + j.val) :
    View.canon (⟨Rect.unit (s := S1x2x2816) ![0, 0, lo] ![1, 2, d] inb, w⟩ :: L) (ix3 0 u C) = w (ix3 0 u j) := by
  have e : (ix3 0 u C : S1x2x2816.Idx) = (Rect.unit (s := S1x2x2816) ![0, 0, lo] ![1, 2, d] inb).emb (ix3 0 u j) := by
    funext a
    match a with
    | ⟨0, _⟩ => rfl
    | ⟨1, _⟩ => exact Fin.ext (by show u.val = 0 + 1 * u.val; omega)
    | ⟨2, _⟩ => exact Fin.ext (by show C.val = lo + 1 * j.val; omega)
  rw [e]
  exact View.canon_cons_emb (Rect.unit (s := S1x2x2816) ![0, 0, lo] ![1, 2, d] inb) w L (ix3 0 u j)

/-- Outside it, the stores before. -/
theorem missP {d : ℕ} {lo : ℕ} (inb : ∀ a, (![0, 0, lo] : Fin 3 → ℕ) a + (![1, 2, d] : Fin 3 → ℕ) a ≤ S1x2x2816.size a)
    (w : (⟨3, ![1, 2, d]⟩ : Shape).Idx → Elt Ideal .f32) (L : List (View.Piece (Elt Ideal) S1x2x2816 .f32)) (u : Fin 2) (C : Fin 2816)
    (h : C.val < lo) :
    View.canon (⟨Rect.unit (s := S1x2x2816) ![0, 0, lo] ![1, 2, d] inb, w⟩ :: L) (ix3 0 u C) = View.canon L (ix3 0 u C) := by
  refine View.canon_cons_of_not_mem _ L fun hm => ?_
  obtain ⟨x, hx⟩ := (Rect.unit (s := S1x2x2816) ![0, 0, lo] ![1, 2, d] inb).exists_idx_of_mem hm
  have e1 : lo + 1 * (x 2).val = C.val := congrArg (fun i : S1x2x2816.Idx => (i 2).val) hx
  omega

/-- What a block leaves in the carried rows' window: its last two rows' up projection. -/
theorem outP_apply (b : Bk Ideal) (p : Vec Ideal S2x2816 .f32) (u : Fin 2) (j : Fin 2816) :
    View.canon (outP M b p) (ix3 0 u j) = aR (wt b) (hrow b ⟨510 + u.val, by omega⟩) j := by
  have up : ∀ (lo : ℕ) (h : lo + 512 ≤ 2816) (L : Pieces Ideal) (Q : List (View.Piece (Elt Ideal) S1x2x2816 .f32)), lo ≤ j.val → j.val < lo + 512 →
      View.canon (pc512 M L b lo h :: Q) (ix3 0 u j) = aR (wt b) (hrow b ⟨510 + u.val, by omega⟩) j := by
    intro lo h L Q h0 h1
    refine (hitP _ _ Q u ⟨j.val - lo, by omega⟩ j (by show j.val = lo + (j.val - lo); omega)).trans ?_
    pointwise [tl512_apply, upA512 b lo h]
    exact congrArg (aR (wt b) _) (Fin.ext (by show lo + (j.val - lo) = j.val; omega))
  have hj := j.isLt
  unfold outP
  by_cases c5 : 2560 ≤ j.val
  · refine (hitP _ _ _ u ⟨j.val - 2560, by omega⟩ j (by show j.val = 2560 + (j.val - 2560); omega)).trans ?_
    pointwise [tl256_apply, upA256 b 2560 (by norm_num)]
    exact congrArg (aR (wt b) _) (Fin.ext (by show 2560 + (j.val - 2560) = j.val; omega))
  refine (missP _ _ _ u j (by omega)).trans ?_
  by_cases c4 : 2048 ≤ j.val
  · exact up 2048 _ _ _ c4 (by omega)
  refine (missP _ _ _ u j (by omega)).trans ?_
  by_cases c3 : 1536 ≤ j.val
  · exact up 1536 _ _ _ c3 (by omega)
  refine (missP _ _ _ u j (by omega)).trans ?_
  by_cases c2 : 1024 ≤ j.val
  · exact up 1024 _ _ _ c2 (by omega)
  refine (missP _ _ _ u j (by omega)).trans ?_
  by_cases c1 : 512 ≤ j.val
  · exact up 512 _ _ _ c1 (by omega)
  refine (missP _ _ _ u j (by omega)).trans ?_
  exact up 0 _ _ _ (by omega) (by omega)

end Cert.Kernel3Ideal.Fin
end
-- ==== Proof.D.Blk.lean ====
module

public import proofs.«01_k».proof.Proof.D.Out
public import Idealize.ShloMosaic.Lib.StableHlo.Run

@[expose] public section

set_option maxRecDepth 8192
set_option maxHeartbeats 1000000

/-! The windows' blocks and what the host hands the call: which elements of the arguments each block holds. -/

noncomputable section

namespace Cert.Kernel3Ideal.Fin

open Cert.Kernel3Ideal Cert.Kernel3Ideal.Gen Cert.FinSpec
open Idealize.ShloMosaic Idealize.ShloMosaic.TcCoe Idealize.ShloMosaic.StableHlo

variable (m : (ℓ : Loc nD τ sig) → Buf (Elt Ideal) ℓ) (c : Dev nD)

theorem lt32 (t : Fin cfg0.N) : t.val < 32 := by have := t.isLt; have : cfg0.N = 32 := N_0; omega

theorem V26 : V m c main_v26 = broadcastInDim S2x2x2816 ![] bcast_S_S2x2x2816 (constant (F := Ideal) S_ .f32 0x00000000#32) := by
  show StableHlo.after hostOps0 _ _ = _
  after_results_simp <;> rfl

theorem V27 : V m c main_v27 = shapeCast S16384x1024 (m ((c.tc : Thread nD τ).loc main_arg0)) shapeCasts_S2x8192x1024_S16384x1024 := by
  show StableHlo.after hostOps0 _ _ = _
  after_results_simp <;> rfl

theorem V29 : V m c main_v29 = truncf (F := Ideal) .bf16 (shapeCast S16384x512 (m ((c.tc : Thread nD τ).loc main_arg1)) shapeCasts_S2x8192x512_S16384x512) bitsLt_bf16_f32 := by
  show StableHlo.after hostOps0 _ _ = _
  after_results_simp <;> rfl

theorem V30 : V m c main_v30 = shapeCast S16384x512 (m ((c.tc : Thread nD τ).loc main_arg2)) shapeCasts_S2x8192x512_S16384x512 := by
  show StableHlo.after hostOps0 _ _ = _
  after_results_simp <;> rfl

/-- The batches' rows laid one under another. -/
theorem flat {d : ℕ} (x : (⟨3, ![2, 8192, d]⟩ : Shape).Idx → EReal) (h) (g : Fin 16384) (b : Fin 2) (n : Fin 8192) (k : Fin d) (hg : g.val = 8192 * b.val + n.val) :
    shapeCast (⟨2, ![16384, d]⟩ : Shape) x h (ix2 g k) = x (ix3 b n k) := by
  refine shapeCast_apply _ _ _ _ ?_
  rw [Shape.rowMajor_val_three, Shape.rowMajor_val_two]
  show (b.val * 8192 + n.val) * d + k.val = g.val * d + k.val
  rw [show b.val * 8192 + n.val = g.val by omega]

/-- The weights of the call, from the arguments. -/
def W : Wt := mkW (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

/-! The weights' blocks are the whole arrays. -/

theorem zi5 : ∀ (t : Fin cfg0.N) a, win0_5.index t a = 0 := by decide +kernel
theorem em5 (t : Fin cfg0.N) (y : S1024x2560.Idx) : (win0_5.rect t).emb y = y :=
  funext fun a => Fin.ext ((Pipeline.Window.rect_emb_val win0_5 t y a).trans (by rw [zi5 t a, Nat.zero_mul, Nat.zero_add]))
theorem ib5 (t : Fin cfg0.N) (y : S1024x2560.Idx) : iblk m c 5 t y = V m c main_v2 y := congrArg (V m c main_v2) (em5 t y)
theorem zi6 : ∀ (t : Fin cfg0.N) a, win0_6.index t a = 0 := by decide +kernel
theorem em6 (t : Fin cfg0.N) (y : S1x128.Idx) : (win0_6.rect t).emb y = y :=
  funext fun a => Fin.ext ((Pipeline.Window.rect_emb_val win0_6 t y a).trans (by rw [zi6 t a, Nat.zero_mul, Nat.zero_add]))
theorem ib6 (t : Fin cfg0.N) (y : S1x128.Idx) : iblk m c 6 t y = V m c main_v4 y := congrArg (V m c main_v4) (em6 t y)
theorem zi7 : ∀ (t : Fin cfg0.N) a, win0_7.index t a = 0 := by decide +kernel
theorem em7 (t : Fin cfg0.N) (y : S512x1024.Idx) : (win0_7.rect t).emb y = y :=
  funext fun a => Fin.ext ((Pipeline.Window.rect_emb_val win0_7 t y a).trans (by rw [zi7 t a, Nat.zero_mul, Nat.zero_add]))
theorem ib7 (t : Fin cfg0.N) (y : S512x1024.Idx) : iblk m c 7 t y = V m c main_v6 y := congrArg (V m c main_v6) (em7 t y)
theorem zi8 : ∀ (t : Fin cfg0.N) a, win0_8.index t a = 0 := by decide +kernel
theorem em8 (t : Fin cfg0.N) (y : S512x1024.Idx) : (win0_8.rect t).emb y = y :=
  funext fun a => Fin.ext ((Pipeline.Window.rect_emb_val win0_8 t y a).trans (by rw [zi8 t a, Nat.zero_mul, Nat.zero_add]))
theorem ib8 (t : Fin cfg0.N) (y : S512x1024.Idx) : iblk m c 8 t y = V m c main_v8 y := congrArg (V m c main_v8) (em8 t y)
theorem zi9 : ∀ (t : Fin cfg0.N) a, win0_9.index t a = 0 := by decide +kernel
theorem em9 (t : Fin cfg0.N) (y : S1024x1024.Idx) : (win0_9.rect t).emb y = y :=
  funext fun a => Fin.ext ((Pipeline.Window.rect_emb_val win0_9 t y a).trans (by rw [zi9 t a, Nat.zero_mul, Nat.zero_add]))
theorem ib9 (t : Fin cfg0.N) (y : S1024x1024.Idx) : iblk m c 9 t y = V m c main_v10 y := congrArg (V m c main_v10) (em9 t y)
theorem zi10 : ∀ (t : Fin cfg0.N) a, win0_10.index t a = 0 := by decide +kernel
theorem em10 (t : Fin cfg0.N) (y : S1x1024.Idx) : (win0_10.rect t).emb y = y :=
  funext fun a => Fin.ext ((Pipeline.Window.rect_emb_val win0_10 t y a).trans (by rw [zi10 t a, Nat.zero_mul, Nat.zero_add]))
theorem ib10 (t : Fin cfg0.N) (y : S1x1024.Idx) : iblk m c 10 t y = V m c main_v12 y := congrArg (V m c main_v12) (em10 t y)
theorem zi11 : ∀ (t : Fin cfg0.N) a, win0_11.index t a = 0 := by decide +kernel
theorem em11 (t : Fin cfg0.N) (y : S1x1024.Idx) : (win0_11.rect t).emb y = y :=
  funext fun a => Fin.ext ((Pipeline.Window.rect_emb_val win0_11 t y a).trans (by rw [zi11 t a, Nat.zero_mul, Nat.zero_add]))
theorem ib11 (t : Fin cfg0.N) (y : S1x1024.Idx) : iblk m c 11 t y = V m c main_v14 y := congrArg (V m c main_v14) (em11 t y)
theorem zi12 : ∀ (t : Fin cfg0.N) a, win0_12.index t a = 0 := by decide +kernel
theorem em12 (t : Fin cfg0.N) (y : S1024x5632.Idx) : (win0_12.rect t).emb y = y :=
  funext fun a => Fin.ext ((Pipeline.Window.rect_emb_val win0_12 t y a).trans (by rw [zi12 t a, Nat.zero_mul, Nat.zero_add]))
theorem ib12 (t : Fin cfg0.N) (y : S1024x5632.Idx) : iblk m c 12 t y = V m c main_v16 y := congrArg (V m c main_v16) (em12 t y)
theorem zi13 : ∀ (t : Fin cfg0.N) a, win0_13.index t a = 0 := by decide +kernel
theorem em13 (t : Fin cfg0.N) (y : S3x2816.Idx) : (win0_13.rect t).emb y = y :=
  funext fun a => Fin.ext ((Pipeline.Window.rect_emb_val win0_13 t y a).trans (by rw [zi13 t a, Nat.zero_mul, Nat.zero_add]))
theorem ib13 (t : Fin cfg0.N) (y : S3x2816.Idx) : iblk m c 13 t y = V m c main_v17 y := congrArg (V m c main_v17) (em13 t y)
theorem zi14 : ∀ (t : Fin cfg0.N) a, win0_14.index t a = 0 := by decide +kernel
theorem em14 (t : Fin cfg0.N) (y : S1x2816.Idx) : (win0_14.rect t).emb y = y :=
  funext fun a => Fin.ext ((Pipeline.Window.rect_emb_val win0_14 t y a).trans (by rw [zi14 t a, Nat.zero_mul, Nat.zero_add]))
theorem ib14 (t : Fin cfg0.N) (y : S1x2816.Idx) : iblk m c 14 t y = V m c main_v19 y := congrArg (V m c main_v19) (em14 t y)
theorem zi15 : ∀ (t : Fin cfg0.N) a, win0_15.index t a = 0 := by decide +kernel
theorem em15 (t : Fin cfg0.N) (y : S2816x1024.Idx) : (win0_15.rect t).emb y = y :=
  funext fun a => Fin.ext ((Pipeline.Window.rect_emb_val win0_15 t y a).trans (by rw [zi15 t a, Nat.zero_mul, Nat.zero_add]))
theorem ib15 (t : Fin cfg0.N) (y : S2816x1024.Idx) : iblk m c 15 t y = V m c main_v21 y := congrArg (V m c main_v21) (em15 t y)
theorem zi16 : ∀ (t : Fin cfg0.N) a, win0_16.index t a = 0 := by decide +kernel
theorem em16 (t : Fin cfg0.N) (y : S1x1024.Idx) : (win0_16.rect t).emb y = y :=
  funext fun a => Fin.ext ((Pipeline.Window.rect_emb_val win0_16 t y a).trans (by rw [zi16 t a, Nat.zero_mul, Nat.zero_add]))
theorem ib16 (t : Fin cfg0.N) (y : S1x1024.Idx) : iblk m c 16 t y = V m c main_v23 y := congrArg (V m c main_v23) (em16 t y)
theorem zi17 : ∀ (t : Fin cfg0.N) a, win0_17.index t a = 0 := by decide +kernel
theorem em17 (t : Fin cfg0.N) (y : S1x1024.Idx) : (win0_17.rect t).emb y = y :=
  funext fun a => Fin.ext ((Pipeline.Window.rect_emb_val win0_17 t y a).trans (by rw [zi17 t a, Nat.zero_mul, Nat.zero_add]))
theorem ib17 (t : Fin cfg0.N) (y : S1x1024.Idx) : iblk m c 17 t y = V m c main_v25 y := congrArg (V m c main_v25) (em17 t y)

theorem w_wg (t : Fin cfg0.N) (r : Fin 1024) (k : Fin 2560) : iblk m c 5 t (ix2 r k) = (W m c).wg r k := by
  rw [ib5]
  show StableHlo.after hostOps0 _ _ _ = _
  after_results_simp
  pointwise
  rfl
theorem w_ng (t : Fin cfg0.N) (k : Fin 128) : iblk m c 6 t (ix2 0 k) = (W m c).ng k := by
  rw [ib6]
  show StableHlo.after hostOps0 _ _ _ = _
  after_results_simp
  pointwise
  rfl
theorem w_wa (t : Fin cfg0.N) (r : Fin 512) (k : Fin 1024) : iblk m c 7 t (ix2 r k) = (W m c).wa r k := by
  rw [ib7]
  show StableHlo.after hostOps0 _ _ _ = _
  after_results_simp
  pointwise
  rfl
theorem w_wb (t : Fin cfg0.N) (r : Fin 512) (k : Fin 1024) : iblk m c 8 t (ix2 r k) = (W m c).wb r k := by
  rw [ib8]
  show StableHlo.after hostOps0 _ _ _ = _
  after_results_simp
  pointwise
  rfl
theorem w_wo (t : Fin cfg0.N) (r : Fin 1024) (k : Fin 1024) : iblk m c 9 t (ix2 r k) = (W m c).wo r k := by
  rw [ib9]
  show StableHlo.after hostOps0 _ _ _ = _
  after_results_simp
  pointwise
  rfl
theorem w_l1g (t : Fin cfg0.N) (k : Fin 1024) : iblk m c 10 t (ix2 0 k) = (W m c).l1g k := by
  rw [ib10]
  show StableHlo.after hostOps0 _ _ _ = _
  after_results_simp
  pointwise
  rfl
theorem w_l1b (t : Fin cfg0.N) (k : Fin 1024) : iblk m c 11 t (ix2 0 k) = (W m c).l1b k := by
  rw [ib11]
  show StableHlo.after hostOps0 _ _ _ = _
  after_results_simp
  pointwise
  rfl
theorem w_wu (t : Fin cfg0.N) (r : Fin 1024) (k : Fin 5632) : iblk m c 12 t (ix2 r k) = (W m c).wu r k := by
  rw [ib12]
  show StableHlo.after hostOps0 _ _ _ = _
  after_results_simp
  pointwise
  rfl
theorem w_cw (t : Fin cfg0.N) (r : Fin 3) (k : Fin 2816) : iblk m c 13 t (ix2 r k) = (W m c).cw r k := by
  rw [ib13]
  show StableHlo.after hostOps0 _ _ _ = _
  after_results_simp
  pointwise
  rfl
theorem w_cb (t : Fin cfg0.N) (k : Fin 2816) : iblk m c 14 t (ix2 0 k) = (W m c).cb k := by
  rw [ib14]
  show StableHlo.after hostOps0 _ _ _ = _
  after_results_simp
  pointwise
  rfl
theorem w_wd (t : Fin cfg0.N) (r : Fin 2816) (k : Fin 1024) : iblk m c 15 t (ix2 r k) = (W m c).wd r k := by
  rw [ib15]
  show StableHlo.after hostOps0 _ _ _ = _
  after_results_simp
  pointwise
  rfl
theorem w_l2g (t : Fin cfg0.N) (k : Fin 1024) : iblk m c 16 t (ix2 0 k) = (W m c).l2g k := by
  rw [ib16]
  show StableHlo.after hostOps0 _ _ _ = _
  after_results_simp
  pointwise
  rfl
theorem w_l2b (t : Fin cfg0.N) (k : Fin 1024) : iblk m c 17 t (ix2 0 k) = (W m c).l2b k := by
  rw [ib17]
  show StableHlo.after hostOps0 _ _ _ = _
  after_results_simp
  pointwise
  rfl

/-- So the blocks' weights are the call's. -/
theorem wt_eq (t : Fin cfg0.N) : wt (bk m c t) = W m c :=
  Wt.ext (funext fun r => funext fun k => w_wg m c t r k) (funext fun k => w_ng m c t k) (funext fun r => funext fun k => w_wa m c t r k)
    (funext fun r => funext fun k => w_wb m c t r k) (funext fun r => funext fun k => w_wo m c t r k) (funext fun k => w_l1g m c t k) (funext fun k => w_l1b m c t k)
    (funext fun r => funext fun k => w_wu m c t r k) (funext fun r => funext fun k => w_cw m c t r k) (funext fun k => w_cb m c t k)
    (funext fun r => funext fun k => w_wd m c t r k) (funext fun k => w_l2g m c t k) (funext fun k => w_l2b m c t k)

/-! The rows' blocks. -/

theorem ix_0 : ∀ t : Fin cfg0.N, (win0_0.index t 0 = t.val ∧ win0_0.index t 1 = 0) := by decide +kernel
theorem iblk0_apply (t : Fin cfg0.N) (r : Fin 512) (k : Fin 1024) :
    iblk m c 0 t (ix2 r k) = V m c main_v27 (ix2 ⟨512 * t.val + r.val, by have := lt32 t; omega⟩ k) := by
  show V m c main_v27 ((win0_0.rect t).emb (ix2 r k)) = _
  refine congrArg (V m c main_v27) (Shape.idx_ext₂ ?_ ?_)
  · refine (Pipeline.Window.rect_emb_val win0_0 t (ix2 r k) 0).trans ?_
    rw [(ix_0 t).1]
    show t.val * 512 + r.val = 512 * t.val + r.val
    omega
  · refine (Pipeline.Window.rect_emb_val win0_0 t (ix2 r k) 1).trans ?_
    rw [(ix_0 t).2]
    show 0 * 1024 + k.val = k.val
    omega
theorem b_x (t : Fin cfg0.N) (r : Fin 512) (b : Fin 2) (n : Fin 8192) (hb : b.val = t.val / 16) (hn : n.val = 512 * (t.val % 16) + r.val) (k : Fin 1024) :
    iblk m c 0 t (ix2 r k) = m ((c.tc : Thread nD τ).loc main_arg0) (ix3 b n k) := by
  refine (iblk0_apply m c t r k).trans ?_
  rw [V27]
  exact flat _ _ _ b n k (by show 512 * t.val + r.val = 8192 * b.val + n.val; omega)

theorem ix_1 : ∀ t : Fin cfg0.N, (win0_1.index t 0 = t.val ∧ win0_1.index t 1 = 0) := by decide +kernel
theorem iblk1_apply (t : Fin cfg0.N) (r : Fin 512) (k : Fin 512) :
    iblk m c 1 t (ix2 r k) = V m c main_v29 (ix2 ⟨512 * t.val + r.val, by have := lt32 t; omega⟩ k) := by
  show V m c main_v29 ((win0_1.rect t).emb (ix2 r k)) = _
  refine congrArg (V m c main_v29) (Shape.idx_ext₂ ?_ ?_)
  · refine (Pipeline.Window.rect_emb_val win0_1 t (ix2 r k) 0).trans ?_
    rw [(ix_1 t).1]
    show t.val * 512 + r.val = 512 * t.val + r.val
    omega
  · refine (Pipeline.Window.rect_emb_val win0_1 t (ix2 r k) 1).trans ?_
    rw [(ix_1 t).2]
    show 0 * 512 + k.val = k.val
    omega
theorem b_oa (t : Fin cfg0.N) (r : Fin 512) (b : Fin 2) (n : Fin 8192) (hb : b.val = t.val / 16) (hn : n.val = 512 * (t.val % 16) + r.val) (k : Fin 512) :
    iblk m c 1 t (ix2 r k) = m ((c.tc : Thread nD τ).loc main_arg1) (ix3 b n k) := by
  refine (iblk1_apply m c t r k).trans ?_
  rw [V29]
  exact flat _ _ _ b n k (by show 512 * t.val + r.val = 8192 * b.val + n.val; omega)

theorem ix_2 : ∀ t : Fin cfg0.N, (win0_2.index t 0 = t.val ∧ win0_2.index t 1 = 0) := by decide +kernel
theorem iblk2_apply (t : Fin cfg0.N) (r : Fin 512) (k : Fin 512) :
    iblk m c 2 t (ix2 r k) = V m c main_v30 (ix2 ⟨512 * t.val + r.val, by have := lt32 t; omega⟩ k) := by
  show V m c main_v30 ((win0_2.rect t).emb (ix2 r k)) = _
  refine congrArg (V m c main_v30) (Shape.idx_ext₂ ?_ ?_)
  · refine (Pipeline.Window.rect_emb_val win0_2 t (ix2 r k) 0).trans ?_
    rw [(ix_2 t).1]
    show t.val * 512 + r.val = 512 * t.val + r.val
    omega
  · refine (Pipeline.Window.rect_emb_val win0_2 t (ix2 r k) 1).trans ?_
    rw [(ix_2 t).2]
    show 0 * 512 + k.val = k.val
    omega
theorem b_ob (t : Fin cfg0.N) (r : Fin 512) (b : Fin 2) (n : Fin 8192) (hb : b.val = t.val / 16) (hn : n.val = 512 * (t.val % 16) + r.val) (k : Fin 512) :
    iblk m c 2 t (ix2 r k) = m ((c.tc : Thread nD τ).loc main_arg2) (ix3 b n k) := by
  refine (iblk2_apply m c t r k).trans ?_
  rw [V30]
  exact flat _ _ _ b n k (by show 512 * t.val + r.val = 8192 * b.val + n.val; omega)

/-- The rows a sequence starts with are zero. -/
theorem first_apply (t : Fin cfg0.N) (u : Fin 2) (j : Fin 2816) : first m c t (ix2 u j) = (0 : EReal) := by
  unfold first
  refine (start_apply _ u j).trans ?_
  show V m c main_v26 ((win0_3.rect t).emb (ix3 0 u j)) = _
  rw [V26]
  generalize (win0_3.rect t).emb (ix3 0 u j) = i
  show Ideal.ofBits .f32 0x00000000#32 = 0
  exact Ideal.ofBits_zero_f32

end Cert.Kernel3Ideal.Fin
end
-- ==== Proof.D.Vals.lean ====
module

public import proofs.«01_k».proof.Proof.D.Blk

@[expose] public section

set_option maxRecDepth 8192
set_option maxHeartbeats 1000000

/-! What the call leaves in its two results, as functions of the arguments. -/

noncomputable section

namespace Cert.Kernel3Ideal.Fin

open Cert.Kernel3Ideal Cert.Kernel3Ideal.Gen Cert.FinSpec
open Idealize.ShloMosaic Idealize.ShloMosaic.TcCoe

variable (m : (ℓ : Loc nD τ sig) → Buf (Elt Ideal) ℓ) (c : Dev nD)

/-- The activations, the attention's outputs and the recurrence's. -/
def X : FVec Ideal S2x8192x1024 .f32 := m ((c.tc : Thread nD τ).loc main_arg0)
def OA : FVec Ideal S2x8192x512 .f32 := m ((c.tc : Thread nD τ).loc main_arg1)
def OB : FVec Ideal S2x8192x512 .f32 := m ((c.tc : Thread nD τ).loc main_arg2)

/-- The residual stream. -/
def HH (b : Fin 2) : Fin 8192 → Fin 1024 → EReal := Hs (W m c) (X m c) (OA m c) (OB m c) b

theorem hrow_eq (t : Fin cfg0.N) (r : Fin 512) (b : Fin 2) (n : Fin 8192) (hb : b.val = t.val / 16) (hn : n.val = 512 * (t.val % 16) + r.val) :
    hrow (bk m c t) r = HH m c b n := by
  have ex : (fun k => (bk m c t).x (ix2 r k)) = fun k => X m c (ix3 b n k) := funext fun k => b_x m c t r b n hb hn k
  have ea : (fun k => (bk m c t).oa (ix2 r k)) = fun k => OA m c (ix3 b n k) := funext fun k => b_oa m c t r b n hb hn k
  have eo : (fun k => (bk m c t).ob (ix2 r k)) = fun k => OB m c (ix3 b n k) := funext fun k => b_ob m c t r b n hb hn k
  funext j
  unfold hrow HH Hs
  rw [h1_apply, wt_eq, ex, ea, eo]

theorem arow_eq (t : Fin cfg0.N) (r : Fin 512) (b : Fin 2) (n : Fin 8192) (hb : b.val = t.val / 16) (hn : n.val = 512 * (t.val % 16) + r.val) (j : Fin 2816) :
    aR (wt (bk m c t)) (hrow (bk m c t) r) j = aR (W m c) (HH m c b n) j := by
  rw [wt_eq, hrow_eq m c t r b n hb hn]

/-- The carried rows at a sequence's start. -/
theorem cv_zero (t : Fin cfg0.N) (h : t.val % 16 = 0) (u : Fin 2) (j : Fin 2816) : cv m c t.val (ix2 u j) = (0 : EReal) := by
  rw [cv_start m c t h]
  exact first_apply m c t u j

/-- The carried rows at a later block. -/
theorem cv_later (t : Fin cfg0.N) (h : t.val % 16 ≠ 0) (u : Fin 2) (b : Fin 2) (n : Fin 8192) (hb : b.val = t.val / 16) (hn : n.val + 2 = 512 * (t.val % 16) + u.val)
    (j : Fin 2816) : cv m c t.val (ix2 u j) = aR (W m c) (HH m c b n) j := by
  have ht := lt32 t
  have hs := cv_succ m c ⟨t.val - 1, by have := t.isLt; omega⟩ (by show (t.val - 1 + 1) % 16 ≠ 0; omega)
  have e : t.val - 1 + 1 = t.val := by omega
  have hs' : cv m c (t.val - 1 + 1) = _ := hs
  rw [e] at hs'
  rw [hs']
  refine (carry_apply scr _ _ u j).trans (arow_eq m c _ _ b n ?_ ?_ j)
  · show b.val = (t.val - 1) / 16
    omega
  · show n.val = 512 * ((t.val - 1) % 16) + (510 + u.val)
    omega

theorem pv1_eq (t : Fin cfg0.N) (r : Fin 512) (b : Fin 2) (n : Fin 8192) (hb : b.val = t.val / 16) (hn : n.val = 512 * (t.val % 16) + r.val) :
    pv1 (bk m c t) (cv m c t.val) r = P1 (W m c) (HH m c b) n := by
  funext j
  unfold pv1 P1
  by_cases h0 : r.val = 0
  · rw [if_pos h0]
    by_cases ht : t.val % 16 = 0
    · rw [if_pos (by omega)]
      exact cv_zero m c t ht 1 j
    · rw [if_neg (by omega)]
      exact cv_later m c t ht 1 b _ hb (by show n.val - 1 + 2 = 512 * (t.val % 16) + 1; omega) j
  · rw [if_neg h0, if_neg (by omega)]
    exact arow_eq m c t _ b _ hb (by show n.val - 1 = 512 * (t.val % 16) + (r.val - 1); omega) j

theorem pv2_eq (t : Fin cfg0.N) (r : Fin 512) (b : Fin 2) (n : Fin 8192) (hb : b.val = t.val / 16) (hn : n.val = 512 * (t.val % 16) + r.val) :
    pv2 (bk m c t) (cv m c t.val) r = P2 (W m c) (HH m c b) n := by
  funext j
  unfold pv2 P2
  by_cases h0 : r.val = 0
  · rw [if_pos h0]
    by_cases ht : t.val % 16 = 0
    · rw [if_pos (by omega)]
      exact cv_zero m c t ht 0 j
    · rw [if_neg (by omega)]
      exact cv_later m c t ht 0 b _ hb (by show n.val - 2 + 2 = 512 * (t.val % 16) + 0; omega) j
  rw [if_neg h0]
  by_cases h1 : r.val = 1
  · rw [if_pos h1]
    by_cases ht : t.val % 16 = 0
    · rw [if_pos (by omega)]
      exact cv_zero m c t ht 1 j
    · rw [if_neg (by omega)]
      exact cv_later m c t ht 1 b _ hb (by show n.val - 2 + 2 = 512 * (t.val % 16) + 1; omega) j
  · rw [if_neg h1, if_neg (by omega)]
    exact arow_eq m c t _ b _ hb (by show n.val - 2 = 512 * (t.val % 16) + (r.val - 2); omega) j

/-- The batch and the position of a row. -/
def bOf (g : Fin 16384) : Fin 2 := ⟨g.val / 8192, by omega⟩
def nOf (g : Fin 16384) : Fin 8192 := ⟨g.val % 8192, by omega⟩

/-- The layer's output. -/
def G18 : (S16384x1024).Idx → Ideal .f32 := fun i => Ys (W m c) (X m c) (OA m c) (OB m c) (bOf (i 0)) (nOf (i 0)) (i 1)
/-- The convolution's state. -/
def G19 : (S2x2x2816).Idx → Ideal .f32 := fun i => Ts (W m c) (X m c) (OA m c) (OB m c) (i 0) (i 1) (i 2)

theorem ix_18 : ∀ t : Fin cfg0.N, (win0_18.index t 0 = t.val ∧ win0_18.index t 1 = 0) := by decide +kernel
theorem ix_19 : ∀ t : Fin cfg0.N, (win0_19.index t 0 = t.val / 16 ∧ win0_19.index t 1 = 0 ∧ win0_19.index t 2 = 0) := by decide +kernel

theorem after18 (t : Fin cfg0.N) (r : Fin 512) (j : Fin 1024) :
    (dats m 0 c).after 18 t (ix2 r j) = G18 m c (ix2 ⟨512 * t.val + r.val, by have := lt32 t; omega⟩ j) := by
  have ht := lt32 t
  rw [after0_18]
  refine (outY_apply scr _ _ r j).trans ?_
  have hb : (bOf ⟨512 * t.val + r.val, by omega⟩).val = t.val / 16 := by show (512 * t.val + r.val) / 8192 = t.val / 16; omega
  have hn : (nOf ⟨512 * t.val + r.val, by omega⟩).val = 512 * (t.val % 16) + r.val := by show (512 * t.val + r.val) % 8192 = 512 * (t.val % 16) + r.val; omega
  rw [wt_eq, hrow_eq m c t r _ _ hb hn, pv1_eq m c t r _ _ hb hn, pv2_eq m c t r _ _ hb hn]
  rfl

theorem after19 (t : Fin cfg0.N) (h : t.val % 16 = 15) (u : Fin 2) (j : Fin 2816) :
    (dats m 0 c).after 19 t (ix3 0 u j) = G19 m c (ix3 ⟨t.val / 16, by have := lt32 t; omega⟩ u j) := by
  have ht := lt32 t
  rw [after0_19]
  refine (outP_apply scr _ _ u j).trans ?_
  exact arow_eq m c t _ ⟨t.val / 16, by omega⟩ ⟨8190 + u.val, by omega⟩ rfl (by show 8190 + u.val = 512 * (t.val % 16) + (510 + u.val); omega) j

/-- What the first result ends holding. -/
theorem final18 : (dats m 0 c).arrAt 18 cfg0.N = G18 m c := by
  have hemb : ∀ (t : Fin cfg0.N) (r : Fin 512) (j : Fin 1024), (win0_18.rect t).emb (ix2 r j) = (ix2 ⟨512 * t.val + r.val, by have := lt32 t; omega⟩ j : (S16384x1024).Idx) := by
    intro t r j
    refine Shape.idx_ext₂ ?_ ?_
    · refine (Pipeline.Window.rect_emb_val win0_18 t (ix2 r j) 0).trans ?_
      rw [(ix_18 t).1]
      show t.val * 512 + r.val = 512 * t.val + r.val
      omega
    · refine (Pipeline.Window.rect_emb_val win0_18 t (ix2 r j) 1).trans ?_
      rw [(ix_18 t).2]
      show 0 * 1024 + j.val = j.val
      omega
  have hcov : ∀ i : (S16384x1024).Idx, ∃ (t : Fin cfg0.N) (r : Fin 512) (j : Fin 1024), i = (win0_18.rect t).emb (ix2 r j) := by
    intro i
    have h0 : (i 0).val < 16384 := (i 0).isLt
    have ht : (i 0).val / 512 < cfg0.N := by rw [show cfg0.N = 32 from N_0]; omega
    refine ⟨⟨(i 0).val / 512, ht⟩, ⟨(i 0).val % 512, by omega⟩, i 1, Eq.trans ?_ (hemb _ _ _).symm⟩
    refine Shape.idx_ext₂ ?_ rfl
    show (i 0).val = 512 * ((i 0).val / 512) + (i 0).val % 512
    omega
  refine (dats m 0 c).arrAt_eq_of_cover 18 (G18 m c) (fun t _ => funext fun y => ?_) (fun i => ?_)
  · obtain ⟨r, j, rfl⟩ : ∃ (r : Fin 512) (j : Fin 1024), y = ix2 r j := ⟨y 0, y 1, funext fun a => by match a with | ⟨0, _⟩ => rfl | ⟨1, _⟩ => rfl⟩
    show (dats m 0 c).after 18 t (ix2 r j) = G18 m c ((win0_18.rect t).emb (ix2 r j))
    rw [after18, hemb]
  · obtain ⟨t, r, j, e⟩ := hcov i
    refine ⟨t, flush0_18 _, ?_⟩
    have e' : i = ((cfg0.win 18).blk t).view.emb (ix2 r j) := e
    rw [e']
    exact View.emb_mem_set _ _

/-- What the second result ends holding. -/
theorem final19 : (dats m 0 c).arrAt 19 cfg0.N = G19 m c := by
  have hemb : ∀ (t : Fin cfg0.N) (u : Fin 2) (j : Fin 2816), (win0_19.rect t).emb (ix3 0 u j) = (ix3 ⟨t.val / 16, by have := lt32 t; omega⟩ u j : (S2x2x2816).Idx) := by
    intro t u j
    funext a
    match a with
    | ⟨0, _⟩ =>
      refine Fin.ext ((Pipeline.Window.rect_emb_val win0_19 t (ix3 0 u j) 0).trans ?_)
      rw [(ix_19 t).1]
      show t.val / 16 * 1 + 0 = t.val / 16
      omega
    | ⟨1, _⟩ =>
      refine Fin.ext ((Pipeline.Window.rect_emb_val win0_19 t (ix3 0 u j) 1).trans ?_)
      rw [(ix_19 t).2.1]
      show 0 * 2 + u.val = u.val
      omega
    | ⟨2, _⟩ =>
      refine Fin.ext ((Pipeline.Window.rect_emb_val win0_19 t (ix3 0 u j) 2).trans ?_)
      rw [(ix_19 t).2.2]
      show 0 * 2816 + j.val = j.val
      omega
  have hcov : ∀ i : (S2x2x2816).Idx, ∃ (t : Fin cfg0.N) (u : Fin 2) (j : Fin 2816), t.val % 16 = 15 ∧ i = (win0_19.rect t).emb (ix3 0 u j) := by
    intro i
    have h0 : (i 0).val < 2 := (i 0).isLt
    have ht : 16 * (i 0).val + 15 < cfg0.N := by rw [show cfg0.N = 32 from N_0]; omega
    refine ⟨⟨16 * (i 0).val + 15, ht⟩, i 1, i 2, by show (16 * (i 0).val + 15) % 16 = 15; omega, Eq.trans ?_ (hemb _ _ _).symm⟩
    funext a
    match a with
    | ⟨0, _⟩ => exact Fin.ext (by show (i 0).val = (16 * (i 0).val + 15) / 16; omega)
    | ⟨1, _⟩ => rfl
    | ⟨2, _⟩ => rfl
  refine (dats m 0 c).arrAt_eq_of_cover 19 (G19 m c) (fun t ht => funext fun y => ?_) (fun i => ?_)
  · obtain ⟨u, j, rfl⟩ : ∃ (u : Fin 2) (j : Fin 2816), y = ix3 0 u j := ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
    show (dats m 0 c).after 19 t (ix3 0 u j) = G19 m c ((win0_19.rect t).emb (ix3 0 u j))
    rw [after19 m c t ((flush0_19 t).mp ht), hemb]
  · obtain ⟨t, u, j, h, e⟩ := hcov i
    refine ⟨t, (flush0_19 _).mpr h, ?_⟩
    have e' : i = ((cfg0.win 19).blk t).view.emb (ix3 0 u j) := e
    rw [e']
    exact View.emb_mem_set _ _

end Cert.Kernel3Ideal.Fin
end
-- ==== Proof.D.RefElem.lean ====
module

public import proofs.«01_k».proof.Proof.D.Spec
public import proofs.«01_k».proof.Proof.Gen.Reference3Ideal.Run
public import Idealize.ShloMosaic.Lib.Pointwise

@[expose] public section

set_option maxRecDepth 8192
set_option maxHeartbeats 1000000

/-! The reference's operations over the extended reals, read at an index. -/

noncomputable section

namespace Cert.Reference3Ideal.Rx

open Cert.Reference3Ideal Cert.Reference3Ideal.Gen Cert.Reference3Ideal.Value Cert.FinSpec
open Idealize.ShloMosaic Idealize.ShloMosaic.TcCoe

/-! The roots of two. -/

theorem two : Ideal.ofBits .f32 0x40000000#32 = ((2 : ℝ) : EReal) := by
  simp [Ideal.ofBits, Ideal.ieee, -EReal.coe_mul]; norm_num

/-- The root of two, and its root. -/
def sq2 : FVec Ideal S_ .f32 := Host.sqrt (constant S_ .f32 0x40000000#32)
def al : FVec Ideal S_ .f32 := Host.sqrt sq2

theorem sq2_apply (i : S_.Idx) : sq2 i = ((Real.sqrt 2 : ℝ) : EReal) := by
  show Ideal.sqrt (Ideal.ofBits .f32 0x40000000#32) = _
  rw [two, Ideal.sqrt_coe, if_neg (by norm_num)]

theorem al_apply (i : S_.Idx) : al i = alpha := by
  show Ideal.sqrt (sq2 i) = _
  rw [sq2_apply, Ideal.sqrt_coe, if_neg (not_lt.mpr (Real.sqrt_nonneg 2))]
  rfl

theorem div_sq2 (x : EReal) : Ideal.div x ((Real.sqrt 2 : ℝ) : EReal) = x * rsqrt2 := by
  rw [Ideal.div_coe (Real.sqrt_ne_zero'.mpr (by norm_num)), one_div]
  rfl

/-! The reference's steps. -/

/-- A row of weights along the columns. -/
def rowT (g : FVec Ideal S1x1024 .f32) : FVec Ideal S2x8192x1024 .f32 :=
  broadcastInDim S2x8192x1024 ![0, 1, 2] bcast_S1x1x1024_S2x8192x1024_0_1_2 (broadcastInDim S1x1x1024 ![2] bcast_S1024_S1x1x1024_2 (shapeCast _ g shapeCasts_S1x1024_S1024))

theorem rowT_apply (g : FVec Ideal S1x1024 .f32) (b : Fin 2) (n : Fin 8192) (j : Fin 1024) : rowT g (ix3 b n j) = g (ix2 0 j) := by
  unfold rowT
  pointwise

/-- The rows' means. -/
def meanT (z : FVec Ideal S2x8192x1024 .f32) : FVec Ideal S2x8192x1 .f32 :=
  Host.divf (broadcastInDim S2x8192x1 ![0, 1] bcast_S2x8192_S2x8192x1_0_1 (Host.reduceAdd z (constant S_ .f32 0x00000000#32) reducesTo_S2x8192x1024_S2x8192_d2 h_S_)) (broadcastInDim S2x8192x1 ![] bcast_S_S2x8192x1 (constant S_ .f32 0x44800000#32))

theorem meanT_apply (z : FVec Ideal S2x8192x1024 .f32) (b : Fin 2) (n : Fin 8192) : meanT z (ix3 b n 0) = mean fun k => z (ix3 b n k) := by
  unfold meanT mean
  pointwise
  rfl

/-- Layer normalisation. -/
def lnT (z : FVec Ideal S2x8192x1024 .f32) (g b : FVec Ideal S1x1024 .f32) : FVec Ideal S2x8192x1024 .f32 :=
  let d := subf z (broadcastInDim S2x8192x1024 ![0, 1, 2] bcast_S2x8192x1_S2x8192x1024_0_1_2 (meanT z))
  addf (mulf (mulf d (broadcastInDim S2x8192x1024 ![0, 1, 2] bcast_S2x8192x1_S2x8192x1024_0_1_2 (Host.rsqrt (addf (meanT (mulf d d)) (broadcastInDim S2x8192x1 ![] bcast_S_S2x8192x1 (constant S_ .f32 0x3727C5AC#32)))))) (rowT g)) (rowT b)

theorem lnT_apply (z : FVec Ideal S2x8192x1024 .f32) (g be : FVec Ideal S1x1024 .f32) (b : Fin 2) (n : Fin 8192) (j : Fin 1024) :
    lnT z g be (ix3 b n j) = lnR (fun k => z (ix3 b n k)) (fun k => g (ix2 0 k)) (fun k => be (ix2 0 k)) j := by
  unfold lnT lnR
  pointwise [meanT_apply, rowT_apply]
  rfl

/-- The projection. -/
def pr (x : FVec Ideal S2x8192x1024 .f32) (w : FVec Ideal S1x1024x5632 .f32) : FVec Ideal S2x8192x5632 .f32 :=
  Host.dotGeneral dot_S2x8192x1024_S1024x5632_S2x8192x5632_2_0_01_1_n_n none x (shapeCast _ w shapeCasts_S1x1024x5632_S1024x5632)

theorem pr_apply (x : FVec Ideal S2x8192x1024 .f32) (w : FVec Ideal S1x1024x5632 .f32) (b : Fin 2) (n : Fin 8192) (j : Fin 5632) :
    pr x w (ix3 b n j) = ∑ k : Fin 1024, x (ix3 b n k) * w (ix3 0 k j) := by
  unfold pr
  pointwise

/-- A branch's projection. -/
def brT (x : FVec Ideal S2x8192x512 .f32) (w : FVec Ideal S1x512x1024 .f32) : FVec Ideal S2x8192x1024 .f32 :=
  Host.dotGeneral dot_S2x8192x512_S512x1024_S2x8192x1024_2_0_01_1_n_n none x (shapeCast _ w shapeCasts_S1x512x1024_S512x1024)

theorem brT_apply (x : FVec Ideal S2x8192x512 .f32) (w : FVec Ideal S1x512x1024 .f32) (b : Fin 2) (n : Fin 8192) (j : Fin 1024) :
    brT x w (ix3 b n j) = ∑ k : Fin 512, x (ix3 b n k) * w (ix3 0 k j) := by
  unfold brT
  pointwise

/-- The sigmoid, written out. -/
def sgT (z : FVec Ideal S2x8192x1024 .f32) : FVec Ideal S2x8192x1024 .f32 :=
  Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf z)))

theorem sgT_apply (z : FVec Ideal S2x8192x1024 .f32) (b : Fin 2) (n : Fin 8192) (j : Fin 1024) : sgT z (ix3 b n j) = Ideal.logistic (z (ix3 b n j)) := by
  unfold sgT
  pointwise
  rfl

/-- The gate of the recurrence's outputs. -/
def siT (z : FVec Ideal S2x8192x512 .f32) : FVec Ideal S2x8192x512 .f32 :=
  mulf z (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf z))))

theorem siT_apply (z : FVec Ideal S2x8192x512 .f32) (b : Fin 2) (n : Fin 8192) (j : Fin 512) :
    siT z (ix3 b n j) = z (ix3 b n j) * Ideal.logistic (z (ix3 b n j)) := by
  unfold siT
  pointwise
  rfl

/-- The recurrence's outputs by heads. -/
def hd (o : FVec Ideal S2x8192x512 .f32) : FVec Ideal S2x8192x4x128 .f32 := shapeCast _ o shapeCasts_S2x8192x512_S2x8192x4x128

theorem hd_apply (o : FVec Ideal S2x8192x512 .f32) (b : Fin 2) (n : Fin 8192) (h : Fin 4) (l : Fin 128) :
    hd o (ix4 b n h l) = o (ix3 b n ⟨128 * h.val + l.val, by omega⟩) := by
  unfold hd
  refine shapeCast_apply _ _ _ _ ?_
  rw [Shape.rowMajor_val_three, Shape.rowMajor_val_four]
  show (b.val * 8192 + n.val) * 512 + (128 * h.val + l.val) = ((b.val * 8192 + n.val) * 4 + h.val) * 128 + l.val
  omega

/-- Each head's lanes over their root mean square. -/
def rmT (o : FVec Ideal S2x8192x4x128 .f32) (g : FVec Ideal S1x128 .f32) : FVec Ideal S2x8192x4x128 .f32 :=
  mulf (mulf o (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf o o) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x3727C5AC#32)))))) (broadcastInDim S2x8192x4x128 ![0, 1, 2, 3] bcast_S1x1x1x128_S2x8192x4x128_0_1_2_3 (broadcastInDim S1x1x1x128 ![3] bcast_S128_S1x1x1x128_3 (shapeCast _ g shapeCasts_S1x128_S128)))

theorem rmT_apply (o : FVec Ideal S2x8192x4x128 .f32) (g : FVec Ideal S1x128 .f32) (b : Fin 2) (n : Fin 8192) (h : Fin 4) (l : Fin 128) :
    rmT o g (ix4 b n h l) = rmsR (fun k => o (ix4 b n h k)) (fun k => g (ix2 0 k)) l := by
  unfold rmT rmsR
  pointwise
  rfl

/-- The recurrence's outputs, normalised and gated. -/
def obT (o : FVec Ideal S2x8192x512 .f32) (g : FVec Ideal S1x128 .f32) (p : FVec Ideal S2x8192x5632 .f32) : FVec Ideal S2x8192x512 .f32 :=
  mulf (shapeCast _ (rmT (hd o) g) shapeCasts_S2x8192x4x128_S2x8192x512) (siT (extractStridedSlice S2x8192x512 ![0, 0, 3072] p slices_S2x8192x5632_S2x8192x512_0_0_3072))

theorem flatHd (z : FVec Ideal S2x8192x4x128 .f32) (b : Fin 2) (n : Fin 8192) (j : Fin 512) :
    shapeCast S2x8192x512 z shapeCasts_S2x8192x4x128_S2x8192x512 (ix3 b n j) = z (ix4 b n ⟨j.val / 128, by omega⟩ ⟨j.val % 128, by omega⟩) := by
  refine shapeCast_apply _ _ _ _ ?_
  rw [Shape.rowMajor_val_three, Shape.rowMajor_val_four]
  show ((b.val * 8192 + n.val) * 4 + j.val / 128) * 128 + j.val % 128 = (b.val * 8192 + n.val) * 512 + j.val
  omega

theorem obT_apply (o : FVec Ideal S2x8192x512 .f32) (g : FVec Ideal S1x128 .f32) (p : FVec Ideal S2x8192x5632 .f32) (b : Fin 2) (n : Fin 8192) (j : Fin 512) :
    obT o g p (ix3 b n j) = rmsR (fun l => o (ix3 b n ⟨128 * (j.val / 128) + l.val, by omega⟩)) (fun k => g (ix2 0 k)) ⟨j.val % 128, by omega⟩
      * (p (ix3 b n ⟨3072 + j.val, by omega⟩) * Ideal.logistic (p (ix3 b n ⟨3072 + j.val, by omega⟩))) := by
  have e : (fun k => hd o (ix4 b n ⟨j.val / 128, by omega⟩ k)) = fun l : Fin 128 => o (ix3 b n ⟨128 * (j.val / 128) + l.val, by omega⟩) := funext fun l => hd_apply o b n _ l
  show shapeCast S2x8192x512 (rmT (hd o) g) shapeCasts_S2x8192x4x128_S2x8192x512 (ix3 b n j) * siT _ (ix3 b n j) = _
  rw [flatHd, rmT_apply, e, siT_apply]
  pointwise

/-- The branches, gated and added, and projected into the residual stream. -/
def mxT (x : FVec Ideal S2x8192x1024 .f32) (oa : FVec Ideal S2x8192x512 .f32) (obn : FVec Ideal S2x8192x512 .f32) (p : FVec Ideal S2x8192x5632 .f32)
    (wa wb : FVec Ideal S1x512x1024 .f32) (wo : FVec Ideal S1x1024x1024 .f32) : FVec Ideal S2x8192x1024 .f32 :=
  addf (mulf (broadcastInDim S2x8192x1024 ![] bcast_S_S2x8192x1024 al) x)
    (Host.dotGeneral dot_S2x8192x1024_S1024x1024_S2x8192x1024_2_0_01_1_n_n none
      (addf (mulf (sgT (extractStridedSlice S2x8192x1024 ![0, 0, 3584] p slices_S2x8192x5632_S2x8192x1024_0_0_3584)) (brT oa wa))
        (mulf (sgT (extractStridedSlice S2x8192x1024 ![0, 0, 4608] p slices_S2x8192x5632_S2x8192x1024_0_0_4608)) (brT obn wb)))
      (shapeCast _ wo shapeCasts_S1x1024x1024_S1024x1024))

theorem mxT_apply (x : FVec Ideal S2x8192x1024 .f32) (oa : FVec Ideal S2x8192x512 .f32) (obn : FVec Ideal S2x8192x512 .f32) (p : FVec Ideal S2x8192x5632 .f32)
    (wa wb : FVec Ideal S1x512x1024 .f32) (wo : FVec Ideal S1x1024x1024 .f32) (b : Fin 2) (n : Fin 8192) (j : Fin 1024) :
    mxT x oa obn p wa wb wo (ix3 b n j) = alpha * x (ix3 b n j) + ∑ k : Fin 1024,
      (Ideal.logistic (p (ix3 b n ⟨3584 + k.val, by omega⟩)) * (∑ i : Fin 512, oa (ix3 b n i) * wa (ix3 0 i k))
        + Ideal.logistic (p (ix3 b n ⟨4608 + k.val, by omega⟩)) * (∑ i : Fin 512, obn (ix3 b n i) * wb (ix3 0 i k))) * wo (ix3 0 k j) := by
  unfold mxT
  pointwise [al_apply, sgT_apply, brT_apply]

/-- The convolution's input, two rows of zeros before it. -/
def zp (up : FVec Ideal S2x8192x5632 .f32) : FVec Ideal S2x8194x2816 .f32 :=
  concatenate S2x8194x2816 1 [⟨S2x2x2816, (broadcastInDim S2x2x2816 ![] bcast_S_S2x2x2816 (constant (F := Ideal) S_ .f32 0x00000000#32))⟩, ⟨S2x8192x2816, (extractStridedSlice S2x8192x2816 ![0, 0, 0] up slices_S2x8192x5632_S2x8192x2816_0_0_0)⟩] concatenates_S2x2x2816_S2x8192x2816_S2x8194x2816_d1

theorem zp_apply (up : FVec Ideal S2x8192x5632 .f32) (b : Fin 2) (n : Fin 8194) (j : Fin 2816) :
    zp up (ix3 b n j) = if h : n.val < 2 then 0 else up (ix3 b ⟨n.val - 2, by omega⟩ ⟨j.val, by omega⟩) := by
  unfold zp
  pointwise

/-- A row of 2816 along the columns. -/
def rowC (g : FVec Ideal S1x2816 .f32) : FVec Ideal S2x8192x2816 .f32 :=
  broadcastInDim S2x8192x2816 ![0, 1, 2] bcast_S1x1x2816_S2x8192x2816_0_1_2 (broadcastInDim S1x1x2816 ![2] bcast_S2816_S1x1x2816_2 (shapeCast _ g shapeCasts_S1x2816_S2816))
def rowK (g : FVec Ideal S1x1x2816 .f32) : FVec Ideal S2x8192x2816 .f32 :=
  broadcastInDim S2x8192x2816 ![0, 1, 2] bcast_S1x1x2816_S2x8192x2816_0_1_2 (broadcastInDim S1x1x2816 ![2] bcast_S2816_S1x1x2816_2 (shapeCast _ g shapeCasts_S1x1x2816_S2816))

theorem rowC_apply (g : FVec Ideal S1x2816 .f32) (b : Fin 2) (n : Fin 8192) (j : Fin 2816) : rowC g (ix3 b n j) = g (ix2 0 j) := by
  unfold rowC
  pointwise
theorem rowK_apply (g : FVec Ideal S1x1x2816 .f32) (b : Fin 2) (n : Fin 8192) (j : Fin 2816) : rowK g (ix3 b n j) = g (ix3 0 0 j) := by
  unfold rowK
  pointwise

/-- The convolution. -/
def cT (up : FVec Ideal S2x8192x5632 .f32) (cw : FVec Ideal S1x3x2816 .f32) (cb : FVec Ideal S1x2816 .f32) : FVec Ideal S2x8192x2816 .f32 :=
  addf (rowC cb) (addf (addf (addf (broadcastInDim S2x8192x2816 ![] bcast_S_S2x8192x2816 (constant S_ .f32 0x00000000#32))
    (mulf (extractStridedSlice S2x8192x2816 ![0, 0, 0] (zp up) slices_S2x8194x2816_S2x8192x2816_0_0_0) (rowK (extractStridedSlice S1x1x2816 ![0, 0, 0] cw slices_S1x3x2816_S1x1x2816_0_0_0))))
    (mulf (extractStridedSlice S2x8192x2816 ![0, 1, 0] (zp up) slices_S2x8194x2816_S2x8192x2816_0_1_0) (rowK (extractStridedSlice S1x1x2816 ![0, 1, 0] cw slices_S1x3x2816_S1x1x2816_0_1_0))))
    (mulf (extractStridedSlice S2x8192x2816 ![0, 2, 0] (zp up) slices_S2x8194x2816_S2x8192x2816_0_2_0) (rowK (extractStridedSlice S1x1x2816 ![0, 2, 0] cw slices_S1x3x2816_S1x1x2816_0_2_0))))

theorem cT_apply (up : FVec Ideal S2x8192x5632 .f32) (cw : FVec Ideal S1x3x2816 .f32) (cb : FVec Ideal S1x2816 .f32) (b : Fin 2) (n : Fin 8192) (j : Fin 2816) :
    cT up cw cb (ix3 b n j) = cb (ix2 0 j) + zp up (ix3 b ⟨n.val, by omega⟩ j) * cw (ix3 0 0 j) + zp up (ix3 b ⟨1 + n.val, by omega⟩ j) * cw (ix3 0 1 j)
      + zp up (ix3 b ⟨2 + n.val, by omega⟩ j) * cw (ix3 0 2 j) := by
  unfold cT
  pointwise [rowC_apply, rowK_apply]
  exact (by intro q0 q1 q2 q3; rw [← add_assoc, ← add_assoc] : ∀ q0 q1 q2 q3 : EReal, q0 + (q1 + q2 + q3) = q0 + q1 + q2 + q3) _ _ _ _

/-- The feed-forward output into the residual stream. -/
def ffT (h : FVec Ideal S2x8192x1024 .f32) (up : FVec Ideal S2x8192x5632 .f32) (c : FVec Ideal S2x8192x2816 .f32) (wd : FVec Ideal S1x2816x1024 .f32) : FVec Ideal S2x8192x1024 .f32 :=
  addf (mulf (broadcastInDim S2x8192x1024 ![] bcast_S_S2x8192x1024 al) h) (Host.dotGeneral dot_S2x8192x2816_S2816x1024_S2x8192x1024_2_0_01_1_n_n none
    (mulf (mulf (mulf (broadcastInDim S2x8192x2816 ![] bcast_S_S2x8192x2816 (constant S_ .f32 0x3F000000#32)) c) (addf (broadcastInDim S2x8192x2816 ![] bcast_S_S2x8192x2816 (constant S_ .f32 0x3F800000#32)) (Host.erf (Host.divf c (broadcastInDim S2x8192x2816 ![] bcast_S_S2x8192x2816 sq2)))))
      (extractStridedSlice S2x8192x2816 ![0, 0, 2816] up slices_S2x8192x5632_S2x8192x2816_0_0_2816)) (shapeCast _ wd shapeCasts_S1x2816x1024_S2816x1024))

theorem ffT_apply (h : FVec Ideal S2x8192x1024 .f32) (up : FVec Ideal S2x8192x5632 .f32) (c : FVec Ideal S2x8192x2816 .f32) (wd : FVec Ideal S1x2816x1024 .f32)
    (b : Fin 2) (n : Fin 8192) (j : Fin 1024) :
    ffT h up c wd (ix3 b n j) = alpha * h (ix3 b n j) + ∑ k : Fin 2816, acR (c (ix3 b n k)) (up (ix3 b n ⟨2816 + k.val, by omega⟩)) * wd (ix3 0 k j) := by
  unfold ffT
  pointwise [al_apply, sq2_apply, div_sq2]
  rfl

end Cert.Reference3Ideal.Rx
end
-- ==== Proof.D.RefRow.lean ====
module

public import proofs.«01_k».proof.Proof.D.RefElem

@[expose] public section

set_option maxRecDepth 8192
set_option maxHeartbeats 1000000

/-! The reference's layer after the mixer, row by row. -/

noncomputable section

namespace Cert.Reference3Ideal.Rx

open Cert.Reference3Ideal Cert.Reference3Ideal.Gen Cert.Reference3Ideal.Value Cert.FinSpec
open Idealize.ShloMosaic Idealize.ShloMosaic.TcCoe

variable (x : FVec Ideal S2x8192x1024 .f32) (oa ob : FVec Ideal S2x8192x512 .f32) (wi : FVec Ideal S1x1024x5632 .f32) (ng : FVec Ideal S1x128 .f32)
  (wa wb : FVec Ideal S1x512x1024 .f32) (wo : FVec Ideal S1x1024x1024 .f32) (l1g l1b : FVec Ideal S1x1024 .f32) (wu : FVec Ideal S1x1024x5632 .f32)
  (cw : FVec Ideal S1x3x2816 .f32) (cb : FVec Ideal S1x2816 .f32) (wd : FVec Ideal S1x2816x1024 .f32) (l2g l2b : FVec Ideal S1x1024 .f32)

/-- The residual stream before and after its normalisation. -/
def zT : FVec Ideal S2x8192x1024 .f32 := mxT x oa (obT ob ng (pr x wi)) (pr x wi) wa wb wo
def hT : FVec Ideal S2x8192x1024 .f32 := lnT (zT x oa ob wi ng wa wb wo) l1g l1b

theorem gate (b : Fin 2) (n : Fin 8192) (j : Fin 5632) (i : Fin 2560) (h : j.val = 3072 + i.val) :
    pr x wi (ix3 b n j) = gtR (mkW wi ng wa wb wo l1g l1b wu cw cb wd l2g l2b) (fun k => x (ix3 b n k)) i := by
  have e : j = ⟨3072 + i.val, by omega⟩ := Fin.ext h
  rw [e]
  exact pr_apply x wi b n _

theorem ob_apply (b : Fin 2) (n : Fin 8192) (j : Fin 512) :
    obT ob ng (pr x wi) (ix3 b n j) = obR (mkW wi ng wa wb wo l1g l1b wu cw cb wd l2g l2b) (gtR (mkW wi ng wa wb wo l1g l1b wu cw cb wd l2g l2b) fun k => x (ix3 b n k)) (fun k => ob (ix3 b n k)) j := by
  rw [obT_apply, gate x wi ng wa wb wo l1g l1b wu cw cb wd l2g l2b b n _ ⟨j.val, by omega⟩ rfl]
  rfl

theorem zT_apply (b : Fin 2) (n : Fin 8192) (j : Fin 1024) :
    zT x oa ob wi ng wa wb wo (ix3 b n j) = alpha * x (ix3 b n j) + ∑ k, mgR (mkW wi ng wa wb wo l1g l1b wu cw cb wd l2g l2b) (gtR (mkW wi ng wa wb wo l1g l1b wu cw cb wd l2g l2b) fun k => x (ix3 b n k)) (fun k => oa (ix3 b n k)) (fun k => ob (ix3 b n k)) k * wo (ix3 0 k j) := by
  unfold zT
  rw [mxT_apply]
  refine congrArg (alpha * x (ix3 b n j) + ·) (Finset.sum_congr rfl fun k _ => congrArg (· * wo (ix3 0 k j)) ?_)
  rw [gate x wi ng wa wb wo l1g l1b wu cw cb wd l2g l2b b n _ ⟨512 + k.val, by omega⟩ (by show 3584 + k.val = 3072 + (512 + k.val); omega),
    gate x wi ng wa wb wo l1g l1b wu cw cb wd l2g l2b b n _ ⟨1536 + k.val, by omega⟩ (by show 4608 + k.val = 3072 + (1536 + k.val); omega)]
  refine congrArg (_ + Ideal.logistic _ * ·) (Finset.sum_congr rfl fun i _ => congrArg (· * wb (ix3 0 i k)) ?_)
  exact ob_apply x ob wi ng wa wb wo l1g l1b wu cw cb wd l2g l2b b n i

theorem hT_apply (b : Fin 2) (n : Fin 8192) (j : Fin 1024) :
    hT x oa ob wi ng wa wb wo l1g l1b (ix3 b n j) = Hs (mkW wi ng wa wb wo l1g l1b wu cw cb wd l2g l2b) x oa ob b n j := by
  unfold hT
  rw [lnT_apply]
  have e : (fun k => zT x oa ob wi ng wa wb wo (ix3 b n k)) = fun j => alpha * x (ix3 b n j) + ∑ k, mgR (mkW wi ng wa wb wo l1g l1b wu cw cb wd l2g l2b) (gtR (mkW wi ng wa wb wo l1g l1b wu cw cb wd l2g l2b) fun k => x (ix3 b n k)) (fun k => oa (ix3 b n k)) (fun k => ob (ix3 b n k)) k * wo (ix3 0 k j) :=
    funext fun k => zT_apply x oa ob wi ng wa wb wo l1g l1b wu cw cb wd l2g l2b b n k
  rw [e]
  rfl

/-- The up projection. -/
def uT : FVec Ideal S2x8192x5632 .f32 := pr (hT x oa ob wi ng wa wb wo l1g l1b) wu

theorem uT_apply (b : Fin 2) (n : Fin 8192) (j : Fin 5632) :
    uT x oa ob wi ng wa wb wo l1g l1b wu (ix3 b n j) = upR (mkW wi ng wa wb wo l1g l1b wu cw cb wd l2g l2b) (Hs (mkW wi ng wa wb wo l1g l1b wu cw cb wd l2g l2b) x oa ob b n) j := by
  unfold uT
  rw [pr_apply]
  exact Finset.sum_congr rfl fun k _ => congrArg (· * wu (ix3 0 k j)) (hT_apply x oa ob wi ng wa wb wo l1g l1b wu cw cb wd l2g l2b b n k)

/-- The convolution's input is zero before the start and the up projection's first half after it. -/
theorem zp_lo (b : Fin 2) (p : Fin 8194) (j : Fin 2816) (h : p.val < 2) :
    zp (uT x oa ob wi ng wa wb wo l1g l1b wu) (ix3 b p j) = 0 := by
  rw [zp_apply, dif_pos h]

theorem zp_hi (b : Fin 2) (p : Fin 8194) (j : Fin 2816) (n : Fin 8192) (h : p.val = n.val + 2) :
    zp (uT x oa ob wi ng wa wb wo l1g l1b wu) (ix3 b p j) = aR (mkW wi ng wa wb wo l1g l1b wu cw cb wd l2g l2b) (Hs (mkW wi ng wa wb wo l1g l1b wu cw cb wd l2g l2b) x oa ob b n) j := by
  rw [zp_apply, dif_neg (by omega)]
  have e : (⟨p.val - 2, by omega⟩ : Fin 8192) = n := Fin.ext (by show p.val - 2 = n.val; omega)
  rw [e]
  exact uT_apply x oa ob wi ng wa wb wo l1g l1b wu cw cb wd l2g l2b b n _

/-- The convolution. -/
def ccT : FVec Ideal S2x8192x2816 .f32 := cT (uT x oa ob wi ng wa wb wo l1g l1b wu) cw cb

theorem ccT_apply (b : Fin 2) (n : Fin 8192) (j : Fin 2816) :
    ccT x oa ob wi ng wa wb wo l1g l1b wu cw cb (ix3 b n j) = cR (mkW wi ng wa wb wo l1g l1b wu cw cb wd l2g l2b) (aR (mkW wi ng wa wb wo l1g l1b wu cw cb wd l2g l2b) (Hs (mkW wi ng wa wb wo l1g l1b wu cw cb wd l2g l2b) x oa ob b n)) (P1 (mkW wi ng wa wb wo l1g l1b wu cw cb wd l2g l2b) (Hs (mkW wi ng wa wb wo l1g l1b wu cw cb wd l2g l2b) x oa ob b) n) (P2 (mkW wi ng wa wb wo l1g l1b wu cw cb wd l2g l2b) (Hs (mkW wi ng wa wb wo l1g l1b wu cw cb wd l2g l2b) x oa ob b) n) j := by
  have e0 : zp (uT x oa ob wi ng wa wb wo l1g l1b wu) (ix3 b ⟨n.val, by omega⟩ j) = P2 (mkW wi ng wa wb wo l1g l1b wu cw cb wd l2g l2b) (Hs (mkW wi ng wa wb wo l1g l1b wu cw cb wd l2g l2b) x oa ob b) n j := by
    by_cases h : n.val < 2
    · rw [zp_lo x oa ob wi ng wa wb wo l1g l1b wu b _ j h]
      exact (if_pos h).symm
    · rw [zp_hi x oa ob wi ng wa wb wo l1g l1b wu cw cb wd l2g l2b b _ j ⟨n.val - 2, by omega⟩ (by show n.val = n.val - 2 + 2; omega)]
      exact (if_neg h).symm
  have e1 : zp (uT x oa ob wi ng wa wb wo l1g l1b wu) (ix3 b ⟨1 + n.val, by omega⟩ j) = P1 (mkW wi ng wa wb wo l1g l1b wu cw cb wd l2g l2b) (Hs (mkW wi ng wa wb wo l1g l1b wu cw cb wd l2g l2b) x oa ob b) n j := by
    by_cases h : n.val = 0
    · rw [zp_lo x oa ob wi ng wa wb wo l1g l1b wu b _ j (by show 1 + n.val < 2; omega)]
      exact (if_pos h).symm
    · rw [zp_hi x oa ob wi ng wa wb wo l1g l1b wu cw cb wd l2g l2b b _ j ⟨n.val - 1, by omega⟩ (by show 1 + n.val = n.val - 1 + 2; omega)]
      exact (if_neg h).symm
  unfold ccT
  rw [cT_apply, e0, e1, zp_hi x oa ob wi ng wa wb wo l1g l1b wu cw cb wd l2g l2b b _ j n (by show 2 + n.val = n.val + 2; omega)]
  rfl

/-- The layer's output. -/
def yT : FVec Ideal S2x8192x1024 .f32 :=
  lnT (ffT (hT x oa ob wi ng wa wb wo l1g l1b) (uT x oa ob wi ng wa wb wo l1g l1b wu) (ccT x oa ob wi ng wa wb wo l1g l1b wu cw cb) wd) l2g l2b

theorem yT_apply (b : Fin 2) (n : Fin 8192) (j : Fin 1024) :
    yT x oa ob wi ng wa wb wo l1g l1b wu cw cb wd l2g l2b (ix3 b n j) = Ys (mkW wi ng wa wb wo l1g l1b wu cw cb wd l2g l2b) x oa ob b n j := by
  unfold yT
  rw [lnT_apply]
  have e : (fun k => ffT (hT x oa ob wi ng wa wb wo l1g l1b) (uT x oa ob wi ng wa wb wo l1g l1b wu) (ccT x oa ob wi ng wa wb wo l1g l1b wu cw cb) wd (ix3 b n k))
      = fun j => alpha * Hs (mkW wi ng wa wb wo l1g l1b wu cw cb wd l2g l2b) x oa ob b n j + ∑ k, fR (mkW wi ng wa wb wo l1g l1b wu cw cb wd l2g l2b) (Hs (mkW wi ng wa wb wo l1g l1b wu cw cb wd l2g l2b) x oa ob b n) (P1 (mkW wi ng wa wb wo l1g l1b wu cw cb wd l2g l2b) (Hs (mkW wi ng wa wb wo l1g l1b wu cw cb wd l2g l2b) x oa ob b) n) (P2 (mkW wi ng wa wb wo l1g l1b wu cw cb wd l2g l2b) (Hs (mkW wi ng wa wb wo l1g l1b wu cw cb wd l2g l2b) x oa ob b) n) k * wd (ix3 0 k j) := by
    funext k
    rw [ffT_apply, hT_apply x oa ob wi ng wa wb wo l1g l1b wu cw cb wd l2g l2b]
    refine congrArg (alpha * Hs (mkW wi ng wa wb wo l1g l1b wu cw cb wd l2g l2b) x oa ob b n k + ·) (Finset.sum_congr rfl fun i _ => congrArg (· * wd (ix3 0 i k)) ?_)
    rw [ccT_apply x oa ob wi ng wa wb wo l1g l1b wu cw cb wd l2g l2b, uT_apply x oa ob wi ng wa wb wo l1g l1b wu cw cb wd l2g l2b]
    rfl
  rw [e]
  rfl

/-- The output row by row of both batches. -/
theorem rows_apply (g : Fin 16384) (j : Fin 1024) :
    shapeCast S16384x1024 (yT x oa ob wi ng wa wb wo l1g l1b wu cw cb wd l2g l2b) shapeCasts_S2x8192x1024_S16384x1024 (ix2 g j)
      = Ys (mkW wi ng wa wb wo l1g l1b wu cw cb wd l2g l2b) x oa ob ⟨g.val / 8192, by omega⟩ ⟨g.val % 8192, by omega⟩ j := by
  refine (shapeCast_apply _ _ _ (ix3 ⟨g.val / 8192, by omega⟩ ⟨g.val % 8192, by omega⟩ j) ?_).trans (yT_apply x oa ob wi ng wa wb wo l1g l1b wu cw cb wd l2g l2b _ _ j)
  rw [Shape.rowMajor_val_two, Shape.rowMajor_val_three]
  show (g.val / 8192 * 8192 + g.val % 8192) * 1024 + j.val = g.val * 1024 + j.val
  omega

/-- The convolution's last two inputs. -/
theorem state_apply (b u : Fin 2) (j : Fin 2816) :
    extractStridedSlice S2x2x2816 ![0, 8192, 0] (zp (uT x oa ob wi ng wa wb wo l1g l1b wu)) slices_S2x8194x2816_S2x2x2816_0_8192_0 (ix3 b u j) = Ts (mkW wi ng wa wb wo l1g l1b wu cw cb wd l2g l2b) x oa ob b u j := by
  have e : extractStridedSlice S2x2x2816 ![0, 8192, 0] (zp (uT x oa ob wi ng wa wb wo l1g l1b wu)) slices_S2x8194x2816_S2x2x2816_0_8192_0 (ix3 b u j)
      = zp (uT x oa ob wi ng wa wb wo l1g l1b wu) (ix3 b ⟨8192 + u.val, by omega⟩ j) := by
    pointwise
  rw [e, zp_hi x oa ob wi ng wa wb wo l1g l1b wu cw cb wd l2g l2b b _ j ⟨8190 + u.val, by omega⟩ (by show 8192 + u.val = 8190 + u.val + 2; omega)]
  rfl

end Cert.Reference3Ideal.Rx
end
-- ==== Proof.D.Alg.lean ====
module

public import proofs.«01_k».proof.Proof.D.RefRow

@[expose] public section

set_option maxRecDepth 8192
set_option maxHeartbeats 1000000

/-! The reference's results as functions of its arguments, the same that the kernel's are. -/

noncomputable section

namespace Cert.Reference3Ideal.Rx

open Cert.Reference3Ideal Cert.Reference3Ideal.Gen Cert.Reference3Ideal.Value Cert.FinSpec
open Idealize.ShloMosaic Idealize.ShloMosaic.TcCoe

/-- The weights of a memory. -/
def RW (m : (ℓ : Loc nD τ sig) → Buf (Elt Ideal) ℓ) (c : Dev nD) : Wt :=
  mkW (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

/-- The results of a memory. -/
def R0 (m : (ℓ : Loc nD τ sig) → Buf (Elt Ideal) ℓ) (c : Dev nD) : (S16384x1024).Idx → EReal := fun i =>
  Ys (RW m c) (m ((c.tc : Thread nD τ).loc main_arg0)) (m ((c.tc : Thread nD τ).loc main_arg1)) (m ((c.tc : Thread nD τ).loc main_arg2)) ⟨(i 0).val / 8192, by have : (i 0).val < 16384 := (i 0).isLt; omega⟩ ⟨(i 0).val % 8192, by omega⟩ (i 1)
def R1 (m : (ℓ : Loc nD τ sig) → Buf (Elt Ideal) ℓ) (c : Dev nD) : (S2x2x2816).Idx → EReal := fun i =>
  Ts (RW m c) (m ((c.tc : Thread nD τ).loc main_arg0)) (m ((c.tc : Thread nD τ).loc main_arg1)) (m ((c.tc : Thread nD τ).loc main_arg2)) (i 0) (i 1) (i 2)

theorem fun0 (m : (ℓ : Loc nD τ sig) → Buf (Elt Ideal) ℓ) (c : Dev nD) :
    shapeCast S16384x1024 (yT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) shapeCasts_S2x8192x1024_S16384x1024 = R0 m c := by
  funext i
  obtain ⟨g, j, rfl⟩ : ∃ (g : Fin 16384) (j : Fin 1024), i = ix2 g j := ⟨i 0, i 1, eq_ix2 i⟩
  exact rows_apply _ _ _ _ _ _ _ _ _ _ _ _ _ _ _ _ g j

theorem fun1 (m : (ℓ : Loc nD τ sig) → Buf (Elt Ideal) ℓ) (c : Dev nD) :
    extractStridedSlice S2x2x2816 ![0, 8192, 0] (zp (uT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))) slices_S2x8194x2816_S2x2x2816_0_8192_0 = R1 m c := by
  funext i
  obtain ⟨b, u, j, rfl⟩ : ∃ (b u : Fin 2) (j : Fin 2816), i = ix3 b u j := ⟨i 0, i 1, i 2, eq_ix3 i⟩
  exact state_apply _ _ _ _ _ _ _ _ _ _ _ (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) b u j

/-- The reference's run, each result as a function of the arguments. -/
theorem vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v147) = R0 m c
      ∧ r.2.mem ((c.tc : Thread nD τ).loc main_v148) = R1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨(h c).1.trans (fun0 m c),
      (h c).2.1.trans (fun1 m c), (h c).2.2⟩)
    (Cert.Reference3Ideal.Value.run (F := Ideal) m ρ)

end Cert.Reference3Ideal.Rx
end
-- ==== Proof.F.Model.lean ====
module

public import proofs.«01_k».proof.Proof.Gen.Kernel5Ideal.Frame
public import Idealize.ShloMosaic.Lib.Pipeline.Value
public import Idealize.ShloMosaic.Lib.VecWindow

@[expose] public section

set_option maxRecDepth 16384
set_option maxHeartbeats 2000000

noncomputable section

namespace Cert.Kernel5Ideal.Fin

open Cert.Kernel5Ideal Cert.Kernel5Ideal.Gen
open Idealize.ShloMosaic Idealize.ShloMosaic.TcCoe

variable {F : FTy → Type} [FloatOps F] [Named F]

/-! What the finishing call of the sample group computes: one tile of 128 rows, four to a sample. -/

/-- The blocks the call works on. -/
structure Bk (F : FTy → Type) where
  x : Vec F S128x1024 .f32
  oa : Vec F S128x512 .bf16
  ob : Vec F S128x512 .f32
  c0 : Vec F S128x2816 .f32
  c1 : Vec F S128x2816 .f32
  wg : Vec F S1024x2560 .bf16
  ng : Vec F S1x128 .f32
  wa : Vec F S512x1024 .bf16
  wb : Vec F S512x1024 .bf16
  wo : Vec F S1024x1024 .bf16
  l1g : Vec F S1x1024 .f32
  l1b : Vec F S1x1024 .f32
  wu : Vec F S1024x5632 .bf16
  cw : Vec F S3x2816 .f32
  cb : Vec F S1x2816 .f32
  wd : Vec F S2816x1024 .bf16
  l2g : Vec F S1x1024 .f32
  l2b : Vec F S1x1024 .f32

/-- What a load of a rectangle reads. -/
def part {s : Shape} {e : EltTy} (x : Vec F s e) (r : Rect s) : Vec F r.shape e := fun y => x (r.toLoadRect.idx y)

/-- A loaded row of 1024. -/
def row (g : Vec F S1x1024 .f32) : FVec F S1x1024 .f32 :=
  shapeCast S1x1024 (part g (Rect.unit (s := S1x1024) ![0, 0] S1x1024.size inb_S1x1024_S1x1024_0_0)) shapeCasts_S1x1024_S1x1024

/-- Layer normalisation of 128 rows. -/
def ln128 (z : FVec F S128x1024 .f32) (g b : Vec F S1x1024 .f32) : FVec F S128x1024 .f32 :=
  let d := subf z (broadcastTo S128x1024 (divf (shapeCast S128x1 (multiReduction .add [1] S128 z 0x00000000#32 reduces_S128x1024_S128 (.inl rfl) rfl) shapeCasts_S128_S128x1)
    (broadcast S128x1 (Scalar.ofBits .f32 0x44800000#32))) broadcasts_S128x1_S128x1024)
  let v := divf (shapeCast S128x1 (multiReduction .add [1] S128 (mulf d d) 0x00000000#32 reduces_S128x1024_S128 (.inl rfl) rfl) shapeCasts_S128_S128x1)
    (broadcast S128x1 (Scalar.ofBits .f32 0x44800000#32))
  addf (mulf (mulf d (broadcastTo S128x1024 (rsqrt (addf v (broadcast S128x1 (Scalar.ofBits .f32 0x3727C5AC#32)))) broadcasts_S128x1_S128x1024))
    (broadcastTo S128x1024 (row g) broadcasts_S1x1024_S128x1024)) (broadcastTo S128x1024 (row b) broadcasts_S1x1024_S128x1024)

/-- One head's lanes, normalised by their root mean square. -/
def rms (o : FVec F S128x128 .f32) (ng : Vec F S1x128 .f32) : FVec F S128x128 .f32 :=
  mulf (mulf o (broadcastTo S128x128 (rsqrt (addf (divf (shapeCast S128x1 (multiReduction .add [1] S128 (mulf o o) 0x00000000#32 reduces_S128x128_S128 (.inl rfl) rfl) shapeCasts_S128_S128x1)
      (broadcast S128x1 (Scalar.ofBits .f32 0x43000000#32))) (broadcast S128x1 (Scalar.ofBits .f32 0x3727C5AC#32)))) broadcasts_S128x1_S128x128))
    (broadcastTo S128x128 (shapeCast S1x128 (part ng (Rect.unit (s := S1x128) ![0, 0] S1x128.size inb_S1x128_S1x128_0_0)) shapeCasts_S1x128_S1x128) broadcasts_S1x128_S128x128)

/-- The gates of the rows. -/
def gates (x : FVec F S128x1024 .f32) (wg : Vec F S1024x2560 .bf16) : FVec F S128x2560 .f32 :=
  matmul dot_S128x1024_S1024x2560_S128x2560_1_0_0_1_n_n none (truncf .bf16 x bitsLt_bf16_f32)
    (shapeCast S1024x2560 (part wg (Rect.unit (s := S1024x2560) ![0, 0] S1024x2560.size inb_S1024x2560_S1024x2560_0_0)) shapeCasts_S1024x2560_S1024x2560) (constant S128x2560 .f32 0x00000000#32)

/-- The recurrence's outputs of the rows, normalised and gated. -/
def obn (gt : FVec F S128x2560 .f32) (ob : FVec F S128x512 .f32) (ng : Vec F S1x128 .f32) : FVec F S128x512 .bf16 :=
  let gb := extractStridedSlice S128x512 ![0, 0] gt slices_S128x2560_o0_0_S128x512
  truncf .bf16 (mulf (concatenate S128x512 1 [⟨S128x128, rms (extractStridedSlice S128x128 ![0, 0] ob slices_S128x512_o0_0_S128x128) ng⟩,
      ⟨S128x128, rms (extractStridedSlice S128x128 ![0, 128] ob slices_S128x512_o0_128_S128x128) ng⟩,
      ⟨S128x128, rms (extractStridedSlice S128x128 ![0, 256] ob slices_S128x512_o0_256_S128x128) ng⟩,
      ⟨S128x128, rms (extractStridedSlice S128x128 ![0, 384] ob slices_S128x512_o0_384_S128x128) ng⟩] concatenates_S128x128_S128x128_S128x128_S128x128_S128x512_d1)
    (mulf gb (logistic gb))) bitsLt_bf16_f32

/-- A branch's projection. -/
def br (o : FVec F S128x512 .bf16) (w : Vec F S512x1024 .bf16) : FVec F S128x1024 .f32 :=
  matmul dot_S128x512_S512x1024_S128x1024_1_0_0_1_n_n none o
    (shapeCast S512x1024 (part w (Rect.unit (s := S512x1024) ![0, 0] S512x1024.size inb_S512x1024_S512x1024_0_0)) shapeCasts_S512x1024_S512x1024) (constant S128x1024 .f32 0x00000000#32)

/-- The two branches, gated and added. -/
def merged (gt : FVec F S128x2560 .f32) (a b : FVec F S128x1024 .f32) : FVec F S128x1024 .bf16 :=
  truncf .bf16 (addf (mulf (logistic (extractStridedSlice S128x1024 ![0, 512] gt slices_S128x2560_o0_512_S128x1024)) a)
    (mulf (logistic (extractStridedSlice S128x1024 ![0, 1536] gt slices_S128x2560_o0_1536_S128x1024)) b)) bitsLt_bf16_f32

/-- The branches' sum, projected. -/
def res (m : FVec F S128x1024 .bf16) (wo : Vec F S1024x1024 .bf16) : FVec F S128x1024 .f32 :=
  matmul dot_S128x1024_S1024x1024_S128x1024_1_0_0_1_n_n none m
    (shapeCast S1024x1024 (part wo (Rect.unit (s := S1024x1024) ![0, 0] S1024x1024.size inb_S1024x1024_S1024x1024_0_0)) shapeCasts_S1024x1024_S1024x1024) (constant S128x1024 .f32 0x00000000#32)

/-- The first residual of the rows, normalised. -/
def grp (b : Bk F) (x : FVec F S128x1024 .f32) (oa : FVec F S128x512 .bf16) (ob : FVec F S128x512 .f32) : FVec F S128x1024 .f32 :=
  ln128 (addf (mulf (broadcast S128x1024 (Named.named κ "alpha" 0x3F9837F0#32)) x)
    (res (merged (gates x b.wg) (br oa b.wa) (br (obn (gates x b.wg) ob b.ng) b.wb)) b.wo)) b.l1g b.l1b

/-- The residual stream after the mixer. -/
def h1 (b : Bk F) : FVec F S128x1024 .f32 :=
  grp b (shapeCast S128x1024 (part b.x (Rect.unit (s := S128x1024) ![0, 0] S128x1024.size inb_S128x1024_S128x1024_0_0)) shapeCasts_S128x1024_S128x1024)
    (shapeCast S128x512 (part b.oa (Rect.unit (s := S128x512) ![0, 0] S128x512.size inb_S128x512_S128x512_0_0)) shapeCasts_S128x512_S128x512)
    (shapeCast S128x512 (part b.ob (Rect.unit (s := S128x512) ![0, 0] S128x512.size inb_S128x512_S128x512_0_0)) shapeCasts_S128x512_S128x512)

/-- A pair whose second offset is `k`, inside. -/
theorem inb2 {d0 d1 s0 s1 o k : ℕ} (h0 : o + s0 ≤ d0) (h : k + s1 ≤ d1) : ∀ a : Fin 2, (![o, k] : Fin 2 → ℕ) a + (![s0, s1] : Fin 2 → ℕ) a ≤ (![d0, d1] : Fin 2 → ℕ) a :=
  Fin.forall_fin_two.mpr ⟨h0, h⟩

/-! Chunks of 512 columns of the feed-forward layer. -/

/-- A chunk of the up projection. -/
def up512 (b : Bk F) (col : ℕ) (h : col + 512 ≤ 5632) : FVec F S128x512 .f32 :=
  matmul dot_S128x1024_S1024x512_S128x512_1_0_0_1_n_n none (truncf .bf16 (h1 b) bitsLt_bf16_f32)
    (shapeCast S1024x512 (part b.wu (Rect.unit (s := S1024x5632) ![0, col] S1024x512.size (inb2 (by norm_num) h))) shapeCasts_S1024x512_S1024x512) (constant S128x512 .f32 0x00000000#32)

/-- A row's number modulo `p`, as the kernel takes it: the remainder, made nonnegative. -/
def modp512 (p : BitVec 32) : IVec S128x512 32 :=
  let q := remsi (iota .tc S128x512 32 [0] iota_S128x512_d0_w32) (broadcast S128x512 p)
  select (andi (xori (cmpi .slt q (broadcast S128x512 0#32)) (broadcastTo S128x512 (broadcast S128x512 (Scalar.cmpi .slt p 0#32)) broadcasts_S128x512_S128x512))
    (cmpi .ne q (broadcast S128x512 0#32))) (addi q (broadcast S128x512 p)) q

/-- A row's position in its sample. -/
def pos512 : IVec S128x512 32 := modp512 (Scalar.select (Scalar.cmpi .eq 4#32 0#32) 1#32 4#32)

/-- The rows `k` before, within a sample, and the carried rows `cc` where there are none. -/
def sh512 (k : BitVec 32) (a : FVec F S128x512 .f32) (cc : Vec F S128x2816 .f32) (lo : ℕ) (h : lo + 512 ≤ 2816) : FVec F S128x512 .f32 :=
  addf (select (cmpi .sge pos512 (broadcast S128x512 k)) (dynamicRotate 0 k none a rotates_S128x512_d0) (broadcast S128x512 (Scalar.ofBits .f32 0x00000000#32)))
    (shapeCast S128x512 (part cc (Rect.unit (s := S128x2816) ![0, lo] S128x512.size (inb2 (by norm_num) h))) shapeCasts_S128x512_S128x512)

/-- A chunk of a row of 2816. -/
def cbRow512 (g : Vec F S1x2816 .f32) (lo : ℕ) (h : lo + 512 ≤ 2816) : FVec F S128x512 .f32 :=
  broadcastTo S128x512 (shapeCast S1x512 (part g (Rect.unit (s := S1x2816) ![0, lo] S1x512.size (inb2 (by norm_num) h))) shapeCasts_S1x512_S1x512) broadcasts_S1x512_S128x512

/-- A chunk of a row of the convolution's weights. -/
def cwRow512 (g : Vec F S3x2816 .f32) (k : ℕ) (hk : k + 1 ≤ 3) (lo : ℕ) (h : lo + 512 ≤ 2816) : FVec F S128x512 .f32 :=
  broadcastTo S128x512 (shapeCast S1x512 (part g (Rect.unit (s := S3x2816) ![k, lo] S1x512.size (inb2 hk h))) shapeCasts_S1x512_S1x512) broadcasts_S1x512_S128x512

/-- The convolution of a chunk: of the rows, the rows before them and those before these. -/
def cnv512 (b : Bk F) (a a1 a2 : FVec F S128x512 .f32) (lo : ℕ) (h : lo + 512 ≤ 2816) : FVec F S128x512 .f32 :=
  addf (addf (addf (cbRow512 b.cb lo h) (mulf a2 (cwRow512 b.cw 0 (by norm_num) lo h))) (mulf a1 (cwRow512 b.cw 1 (by norm_num) lo h))) (mulf a (cwRow512 b.cw 2 (by norm_num) lo h))

/-- The gated activation of a chunk. -/
def act512 (c g : FVec F S128x512 .f32) : FVec F S128x512 .bf16 :=
  truncf .bf16 (mulf (mulf (mulf (broadcast S128x512 (Scalar.ofBits .f32 0x3F000000#32)) c)
    (addf (broadcast S128x512 (Scalar.ofBits .f32 0x3F800000#32)) (erf (mulf c (broadcast S128x512 (Named.named κ "rsqrt2" 0x3F3504F3#32)))))) g) bitsLt_bf16_f32

/-- A chunk's part of the down projection. -/
def dn512 (b : Bk F) (a : FVec F S128x512 .bf16) (lo : ℕ) (h : lo + 512 ≤ 2816) : FVec F S128x1024 .f32 :=
  matmul dot_S128x512_S512x1024_S128x1024_1_0_0_1_n_n none a
    (shapeCast S512x1024 (part b.wd (Rect.unit (s := S2816x1024) ![lo, 0] S512x1024.size (inb2 h (by norm_num)))) shapeCasts_S512x1024_S512x1024) (constant S128x1024 .f32 0x00000000#32)

/-- A chunk's part of the layer's output. -/
def y512 (b : Bk F) (lo : ℕ) (h : lo + 512 ≤ 2816) : FVec F S128x1024 .f32 :=
  dn512 b (act512 (cnv512 b (up512 b lo (by omega)) (sh512 1#32 (up512 b lo (by omega)) b.c1 lo h) (sh512 2#32 (up512 b lo (by omega)) b.c0 lo h) lo h) (up512 b (2816 + lo) (by omega))) lo h

/-- A chunk's store to the window of the convolution's inputs. -/
def pc512 (b : Bk F) (lo : ℕ) (h : lo + 512 ≤ 2816) : View.Piece (Elt F) S128x2816 .f32 :=
  ⟨Rect.unit (s := S128x2816) ![0, lo] S128x512.size (inb2 (by norm_num) h), up512 b lo (by omega)⟩

/-! Chunks of 256 columns of the feed-forward layer. -/

/-- A chunk of the up projection. -/
def up256 (b : Bk F) (col : ℕ) (h : col + 256 ≤ 5632) : FVec F S128x256 .f32 :=
  matmul dot_S128x1024_S1024x256_S128x256_1_0_0_1_n_n none (truncf .bf16 (h1 b) bitsLt_bf16_f32)
    (shapeCast S1024x256 (part b.wu (Rect.unit (s := S1024x5632) ![0, col] S1024x256.size (inb2 (by norm_num) h))) shapeCasts_S1024x256_S1024x256) (constant S128x256 .f32 0x00000000#32)

/-- A row's number modulo `p`, as the kernel takes it: the remainder, made nonnegative. -/
def modp256 (p : BitVec 32) : IVec S128x256 32 :=
  let q := remsi (iota .tc S128x256 32 [0] iota_S128x256_d0_w32) (broadcast S128x256 p)
  select (andi (xori (cmpi .slt q (broadcast S128x256 0#32)) (broadcastTo S128x256 (broadcast S128x256 (Scalar.cmpi .slt p 0#32)) broadcasts_S128x256_S128x256))
    (cmpi .ne q (broadcast S128x256 0#32))) (addi q (broadcast S128x256 p)) q

/-- A row's position in its sample. -/
def pos256 : IVec S128x256 32 := modp256 (Scalar.select (Scalar.cmpi .eq 4#32 0#32) 1#32 4#32)

/-- The rows `k` before, within a sample, and the carried rows `cc` where there are none. -/
def sh256 (k : BitVec 32) (a : FVec F S128x256 .f32) (cc : Vec F S128x2816 .f32) (lo : ℕ) (h : lo + 256 ≤ 2816) : FVec F S128x256 .f32 :=
  addf (select (cmpi .sge pos256 (broadcast S128x256 k)) (dynamicRotate 0 k none a rotates_S128x256_d0) (broadcast S128x256 (Scalar.ofBits .f32 0x00000000#32)))
    (shapeCast S128x256 (part cc (Rect.unit (s := S128x2816) ![0, lo] S128x256.size (inb2 (by norm_num) h))) shapeCasts_S128x256_S128x256)

/-- A chunk of a row of 2816. -/
def cbRow256 (g : Vec F S1x2816 .f32) (lo : ℕ) (h : lo + 256 ≤ 2816) : FVec F S128x256 .f32 :=
  broadcastTo S128x256 (shapeCast S1x256 (part g (Rect.unit (s := S1x2816) ![0, lo] S1x256.size (inb2 (by norm_num) h))) shapeCasts_S1x256_S1x256) broadcasts_S1x256_S128x256

/-- A chunk of a row of the convolution's weights. -/
def cwRow256 (g : Vec F S3x2816 .f32) (k : ℕ) (hk : k + 1 ≤ 3) (lo : ℕ) (h : lo + 256 ≤ 2816) : FVec F S128x256 .f32 :=
  broadcastTo S128x256 (shapeCast S1x256 (part g (Rect.unit (s := S3x2816) ![k, lo] S1x256.size (inb2 hk h))) shapeCasts_S1x256_S1x256) broadcasts_S1x256_S128x256

/-- The convolution of a chunk: of the rows, the rows before them and those before these. -/
def cnv256 (b : Bk F) (a a1 a2 : FVec F S128x256 .f32) (lo : ℕ) (h : lo + 256 ≤ 2816) : FVec F S128x256 .f32 :=
  addf (addf (addf (cbRow256 b.cb lo h) (mulf a2 (cwRow256 b.cw 0 (by norm_num) lo h))) (mulf a1 (cwRow256 b.cw 1 (by norm_num) lo h))) (mulf a (cwRow256 b.cw 2 (by norm_num) lo h))

/-- The gated activation of a chunk. -/
def act256 (c g : FVec F S128x256 .f32) : FVec F S128x256 .bf16 :=
  truncf .bf16 (mulf (mulf (mulf (broadcast S128x256 (Scalar.ofBits .f32 0x3F000000#32)) c)
    (addf (broadcast S128x256 (Scalar.ofBits .f32 0x3F800000#32)) (erf (mulf c (broadcast S128x256 (Named.named κ "rsqrt2" 0x3F3504F3#32)))))) g) bitsLt_bf16_f32

/-- A chunk's part of the down projection. -/
def dn256 (b : Bk F) (a : FVec F S128x256 .bf16) (lo : ℕ) (h : lo + 256 ≤ 2816) : FVec F S128x1024 .f32 :=
  matmul dot_S128x256_S256x1024_S128x1024_1_0_0_1_n_n none a
    (shapeCast S256x1024 (part b.wd (Rect.unit (s := S2816x1024) ![lo, 0] S256x1024.size (inb2 h (by norm_num)))) shapeCasts_S256x1024_S256x1024) (constant S128x1024 .f32 0x00000000#32)

/-- A chunk's part of the layer's output. -/
def y256 (b : Bk F) (lo : ℕ) (h : lo + 256 ≤ 2816) : FVec F S128x1024 .f32 :=
  dn256 b (act256 (cnv256 b (up256 b lo (by omega)) (sh256 1#32 (up256 b lo (by omega)) b.c1 lo h) (sh256 2#32 (up256 b lo (by omega)) b.c0 lo h) lo h) (up256 b (2816 + lo) (by omega))) lo h

/-- A chunk's store to the window of the convolution's inputs. -/
def pc256 (b : Bk F) (lo : ℕ) (h : lo + 256 ≤ 2816) : View.Piece (Elt F) S128x2816 .f32 :=
  ⟨Rect.unit (s := S128x2816) ![0, lo] S128x256.size (inb2 (by norm_num) h), up256 b lo (by omega)⟩

/-- The feed-forward layer's output. -/
def ffn (b : Bk F) : FVec F S128x1024 .f32 :=
  addf (addf (addf (addf (addf (y512 b 0 (by norm_num)) (y512 b 512 (by norm_num))) (y512 b 1024 (by norm_num)))
    (y512 b 1536 (by norm_num))) (y512 b 2048 (by norm_num))) (y256 b 2560 (by norm_num))

/-- The block of the layer's output. -/
def outY (b : Bk F) : FVec F S128x1024 .f32 :=
  ln128 (addf (mulf (broadcast S128x1024 (Named.named κ "alpha" 0x3F9837F0#32)) (h1 b)) (ffn b)) b.l2g b.l2b

/-- The stores to the window of the convolution's inputs. -/
def outA (b : Bk F) : List (View.Piece (Elt F) S128x2816 .f32) :=
  [pc256 b 2560 (by norm_num), pc512 b 2048 (by norm_num), pc512 b 1536 (by norm_num), pc512 b 1024 (by norm_num), pc512 b 512 (by norm_num), pc512 b 0 (by norm_num)]

end Cert.Kernel5Ideal.Fin
end
-- ==== Proof.F.Spec.lean ====
module

public import proofs.«01_k».proof.Proof.D.Spec

@[expose] public section

/-! The layer after its mixer on the sample group: 32 samples of four rows, the convolution carried on from a state. -/

noncomputable section

namespace Cert.FinSpec.Smp

open Idealize.ShloMosaic

variable (W : Wt) (x : (⟨3, ![32, 4, 1024]⟩ : Shape).Idx → EReal) (oa ob : (⟨3, ![32, 4, 512]⟩ : Shape).Idx → EReal)
  (st : (⟨4, ![32, 1, 2, 2816]⟩ : Shape).Idx → EReal)

/-- The residual stream at position `n` of sample `b`. -/
def Hs (b : Fin 32) (n : Fin 4) : Fin 1024 → EReal :=
  hR W (fun k => x (ix3 b n k)) (fun k => oa (ix3 b n k)) (fun k => ob (ix3 b n k))

/-- The convolution's input one position before `n`, and two: the state before the start. -/
def P1 (b : Fin 32) (n : Fin 4) (j : Fin 2816) : EReal :=
  if n.val < 1 then st (ix4 b 0 1 j) else aR W (Hs W x oa ob b ⟨n.val - 1, by omega⟩) j
def P2 (b : Fin 32) (n : Fin 4) (j : Fin 2816) : EReal :=
  if h : n.val < 2 then st (ix4 b 0 ⟨n.val, h⟩ j) else aR W (Hs W x oa ob b ⟨n.val - 2, by omega⟩) j

/-- The layer's output at position `n` of sample `b`. -/
def Ys (b : Fin 32) (n : Fin 4) : Fin 1024 → EReal := yR W (Hs W x oa ob b n) (P1 W x oa ob st b n) (P2 W x oa ob st b n)

/-- The convolution's state at the end: its input at the last two positions. -/
def Ts (b : Fin 32) (u : Fin 2) (j : Fin 2816) : EReal := aR W (Hs W x oa ob b ⟨2 + u.val, by omega⟩) j

end Cert.FinSpec.Smp
end
-- ==== Proof.F.Elem.lean ====
module

public import proofs.«01_k».proof.Proof.F.Model
public import proofs.«01_k».proof.Proof.F.Spec
public import Idealize.ShloMosaic.Lib.Pointwise

@[expose] public section

set_option maxRecDepth 8192
set_option maxHeartbeats 1000000

/-! The block functions over the extended reals, read at an index. -/

noncomputable section

namespace Cert.Kernel5Ideal.Fin

open Cert.Kernel5Ideal Cert.Kernel5Ideal.Gen Cert.FinSpec
open Idealize.ShloMosaic Idealize.ShloMosaic.TcCoe

/-- A loaded row at an index. -/
theorem row_apply (g : Vec Ideal S1x1024 .f32) (j : Fin 1024) : row g (ix2 0 j) = g (ix2 0 j) := by
  unfold row part
  pointwise

/-- Layer normalisation of 128 rows, at an index. -/
theorem ln128_apply (z : FVec Ideal S128x1024 .f32) (g b : Vec Ideal S1x1024 .f32) (r : Fin 128) (j : Fin 1024) :
    ln128 z g b (ix2 r j) = lnR (fun k => z (ix2 r k)) (fun k => g (ix2 0 k)) (fun k => b (ix2 0 k)) j := by
  unfold ln128
  pointwise [row_apply]
  rfl

/-- A head's lanes, at an index. -/
theorem rms_apply (o : FVec Ideal S128x128 .f32) (ng : Vec Ideal S1x128 .f32) (r : Fin 128) (l : Fin 128) :
    rms o ng (ix2 r l) = rmsR (fun k => o (ix2 r k)) (fun k => ng (ix2 0 k)) l := by
  unfold rms part
  pointwise
  rfl

/-- The gates at an index. -/
theorem gates_apply (x : FVec Ideal S128x1024 .f32) (wg : Vec Ideal S1024x2560 .bf16) (r : Fin 128) (j : Fin 2560) :
    gates x wg (ix2 r j) = ∑ k : Fin 1024, x (ix2 r k) * wg (ix2 k j) := by
  unfold gates part
  pointwise

/-- A branch at an index. -/
theorem br_apply (o : FVec Ideal S128x512 .bf16) (w : Vec Ideal S512x1024 .bf16) (r : Fin 128) (j : Fin 1024) :
    br o w (ix2 r j) = ∑ k : Fin 512, o (ix2 r k) * w (ix2 k j) := by
  unfold br part
  pointwise

/-- The projected branches at an index. -/
theorem res_apply (o : FVec Ideal S128x1024 .bf16) (w : Vec Ideal S1024x1024 .bf16) (r : Fin 128) (j : Fin 1024) :
    res o w (ix2 r j) = ∑ k : Fin 1024, o (ix2 r k) * w (ix2 k j) := by
  unfold res part
  pointwise

/-- The gated branches at an index. -/
theorem merged_apply (gt : FVec Ideal S128x2560 .f32) (a b : FVec Ideal S128x1024 .f32) (r : Fin 128) (j : Fin 1024) :
    merged gt a b (ix2 r j) = Ideal.logistic (gt (ix2 r ⟨512 + j.val, by omega⟩)) * a (ix2 r j)
      + Ideal.logistic (gt (ix2 r ⟨1536 + j.val, by omega⟩)) * b (ix2 r j) := by
  unfold merged
  pointwise

/-- The blocks' weights. -/
def wt (b : Bk Ideal) : Wt where
  wg k j := b.wg (ix2 k j)
  ng k := b.ng (ix2 0 k)
  wa k j := b.wa (ix2 k j)
  wb k j := b.wb (ix2 k j)
  wo k j := b.wo (ix2 k j)
  l1g k := b.l1g (ix2 0 k)
  l1b k := b.l1b (ix2 0 k)
  wu k j := b.wu (ix2 k j)
  cw k j := b.cw (ix2 k j)
  cb k := b.cb (ix2 0 k)
  wd k j := b.wd (ix2 k j)
  l2g k := b.l2g (ix2 0 k)
  l2b k := b.l2b (ix2 0 k)

/-- The recurrence's outputs at an index. -/
theorem obn_apply (b : Bk Ideal) (gt : FVec Ideal S128x2560 .f32) (ob : FVec Ideal S128x512 .f32) (r : Fin 128) (j : Fin 512) :
    obn gt ob b.ng (ix2 r j) = obR (wt b) (fun k => gt (ix2 r k)) (fun k => ob (ix2 r k)) j := by
  have key : ∀ (f : Fin 128 → Fin 512) (l : Fin 128), (∀ k, (f k).val = 128 * (j.val / 128) + k.val) → l.val = j.val % 128 →
      rmsR (fun k => ob (ix2 r (f k))) (fun k => b.ng (ix2 0 k)) l
        = rmsR (fun k => ob (ix2 r ⟨128 * (j.val / 128) + k.val, by omega⟩)) (wt b).ng ⟨j.val % 128, by omega⟩ := by
    intro f l hf hl
    have ef : f = fun k => ⟨128 * (j.val / 128) + k.val, by omega⟩ := funext fun k => Fin.ext (hf k)
    have el : l = ⟨j.val % 128, by omega⟩ := Fin.ext hl
    rw [ef]
    exact congrArg (rmsR _ _) el
  unfold obn obR
  pointwise [rms_apply]
  refine congrArg (fun z : EReal => z * _) ?_
  by_cases h0 : j.val < 128
  · rw [dif_pos h0]
    exact key (fun k => ⟨k.val, by omega⟩) ⟨j.val, h0⟩ (fun k => by show k.val = _; omega) (by show j.val = _; omega)
  rw [dif_neg h0]
  by_cases h1 : j.val - 128 < 128
  · rw [dif_pos h1]
    exact key (fun k => ⟨128 + k.val, by omega⟩) ⟨j.val - 128, h1⟩ (fun k => by show 128 + k.val = _; omega) (by show j.val - 128 = _; omega)
  rw [dif_neg h1]
  by_cases h2 : j.val - 128 - 128 < 128
  · rw [dif_pos h2]
    exact key (fun k => ⟨256 + k.val, by omega⟩) ⟨j.val - 128 - 128, h2⟩ (fun k => by show 256 + k.val = _; omega) (by show j.val - 128 - 128 = _; omega)
  rw [dif_neg h2]
  exact key (fun k => ⟨384 + k.val, by omega⟩) ⟨j.val - 128 - 128 - 128, by omega⟩ (fun k => by show 384 + k.val = _; omega) (by show j.val - 128 - 128 - 128 = _; omega)

/-- The named constants. -/
theorem alpha_eq : (Named.named κ "alpha" 0x3F9837F0#32 : Ideal .f32) = alpha := rfl
theorem rsqrt2_eq : (Named.named κ "rsqrt2" 0x3F3504F3#32 : Ideal .f32) = rsqrt2 := rfl

/-- A group's residual stream at an index. -/
theorem grp_apply (b : Bk Ideal) (x : FVec Ideal S128x1024 .f32) (oa : FVec Ideal S128x512 .bf16) (ob : FVec Ideal S128x512 .f32)
    (r : Fin 128) (j : Fin 1024) :
    grp b x oa ob (ix2 r j) = hR (wt b) (fun k => x (ix2 r k)) (fun k => oa (ix2 r k)) (fun k => ob (ix2 r k)) j := by
  unfold grp
  rw [ln128_apply]
  pointwise [alpha_eq, res_apply, merged_apply, br_apply, obn_apply, gates_apply]
  rfl

/-- The residual stream at an index. -/
theorem h1_apply (b : Bk Ideal) (r : Fin 128) (j : Fin 1024) :
    h1 b (ix2 r j) = hR (wt b) (fun k => b.x (ix2 r k)) (fun k => b.oa (ix2 r k)) (fun k => b.ob (ix2 r k)) j := by
  unfold h1
  pointwise [part, grp_apply]

/-- A chunk of the up projection at an index. -/
theorem up512_apply (b : Bk Ideal) (col : ℕ) (h : col + 512 ≤ 5632) (r : Fin 128) (j : Fin 512) :
    up512 b col h (ix2 r j) = upR (wt b) (fun k => h1 b (ix2 r k)) ⟨col + j.val, by omega⟩ := by
  unfold up512 part
  pointwise
  rfl

theorem up256_apply (b : Bk Ideal) (col : ℕ) (h : col + 256 ≤ 5632) (r : Fin 128) (j : Fin 256) :
    up256 b col h (ix2 r j) = upR (wt b) (fun k => h1 b (ix2 r k)) ⟨col + j.val, by omega⟩ := by
  unfold up256 part
  pointwise
  rfl

/-- A chunk's convolution at an index. -/
theorem cnv512_apply (b : Bk Ideal) (a a1 a2 : FVec Ideal S128x512 .f32) (lo : ℕ) (h : lo + 512 ≤ 2816) (r : Fin 128) (j : Fin 512) :
    cnv512 b a a1 a2 lo h (ix2 r j) = b.cb (ix2 0 ⟨lo + j.val, by omega⟩) + a2 (ix2 r j) * b.cw (ix2 0 ⟨lo + j.val, by omega⟩)
      + a1 (ix2 r j) * b.cw (ix2 1 ⟨lo + j.val, by omega⟩) + a (ix2 r j) * b.cw (ix2 2 ⟨lo + j.val, by omega⟩) := by
  unfold cnv512 cbRow512 cwRow512 part
  pointwise

theorem cnv256_apply (b : Bk Ideal) (a a1 a2 : FVec Ideal S128x256 .f32) (lo : ℕ) (h : lo + 256 ≤ 2816) (r : Fin 128) (j : Fin 256) :
    cnv256 b a a1 a2 lo h (ix2 r j) = b.cb (ix2 0 ⟨lo + j.val, by omega⟩) + a2 (ix2 r j) * b.cw (ix2 0 ⟨lo + j.val, by omega⟩)
      + a1 (ix2 r j) * b.cw (ix2 1 ⟨lo + j.val, by omega⟩) + a (ix2 r j) * b.cw (ix2 2 ⟨lo + j.val, by omega⟩) := by
  unfold cnv256 cbRow256 cwRow256 part
  pointwise

/-- A chunk's gated activation at an index. -/
theorem act512_apply (c g : FVec Ideal S128x512 .f32) (r : Fin 128) (j : Fin 512) :
    act512 c g (ix2 r j) = acR (c (ix2 r j)) (g (ix2 r j)) := by
  unfold act512
  pointwise [rsqrt2_eq]
  rfl

theorem act256_apply (c g : FVec Ideal S128x256 .f32) (r : Fin 128) (j : Fin 256) :
    act256 c g (ix2 r j) = acR (c (ix2 r j)) (g (ix2 r j)) := by
  unfold act256
  pointwise [rsqrt2_eq]
  rfl

/-- A chunk's part of the down projection at an index. -/
theorem dn512_apply (b : Bk Ideal) (a : FVec Ideal S128x512 .bf16) (lo : ℕ) (h : lo + 512 ≤ 2816) (r : Fin 128) (j : Fin 1024) :
    dn512 b a lo h (ix2 r j) = ∑ k : Fin 512, a (ix2 r k) * b.wd (ix2 ⟨lo + k.val, by omega⟩ j) := by
  unfold dn512 part
  pointwise

theorem dn256_apply (b : Bk Ideal) (a : FVec Ideal S128x256 .bf16) (lo : ℕ) (h : lo + 256 ≤ 2816) (r : Fin 128) (j : Fin 1024) :
    dn256 b a lo h (ix2 r j) = ∑ k : Fin 256, a (ix2 r k) * b.wd (ix2 ⟨lo + k.val, by omega⟩ j) := by
  unfold dn256 part
  pointwise

/-! The rows before, at an index. -/

theorem sge1_512 (r : Fin 128) (j : Fin 512) : cmpi .sge pos512 (broadcast S128x512 1#32) (ix2 r j) = if r.val % 4 < 1 then 0#1 else 1#1 := by
  have h : ∀ r : Fin 128, cmpi .sge pos512 (broadcast S128x512 1#32) (ix2 r 0) = if r.val % 4 < 1 then 0#1 else 1#1 := by decide +kernel
  exact h r
theorem sge2_512 (r : Fin 128) (j : Fin 512) : cmpi .sge pos512 (broadcast S128x512 2#32) (ix2 r j) = if r.val % 4 < 2 then 0#1 else 1#1 := by
  have h : ∀ r : Fin 128, cmpi .sge pos512 (broadcast S128x512 2#32) (ix2 r 0) = if r.val % 4 < 2 then 0#1 else 1#1 := by decide +kernel
  exact h r
theorem sh512_1 (a : FVec Ideal S128x512 .f32) (cc : Vec Ideal S128x2816 .f32) (lo : ℕ) (h : lo + 512 ≤ 2816) (r : Fin 128) (j : Fin 512) :
    sh512 1#32 a cc lo h (ix2 r j) = (if r.val % 4 < 1 then 0 else a (ix2 ⟨r.val - 1, by omega⟩ j)) + cc (ix2 r ⟨lo + j.val, by omega⟩) := by
  unfold sh512 part
  pointwise [sge1_512]
  refine congrArg (fun z : EReal => z + cc (ix2 r ⟨lo + j.val, by omega⟩)) ?_
  by_cases g : r.val % 4 < 1
  · rw [if_pos g, if_pos g]; rfl
  · rw [if_neg g, if_neg g]
    exact congrArg (fun q : Fin 128 => a (ix2 q j)) (Fin.ext (by show (r.val + 128 - 1) % 128 = r.val - 1; omega))
theorem sh512_2 (a : FVec Ideal S128x512 .f32) (cc : Vec Ideal S128x2816 .f32) (lo : ℕ) (h : lo + 512 ≤ 2816) (r : Fin 128) (j : Fin 512) :
    sh512 2#32 a cc lo h (ix2 r j) = (if r.val % 4 < 2 then 0 else a (ix2 ⟨r.val - 2, by omega⟩ j)) + cc (ix2 r ⟨lo + j.val, by omega⟩) := by
  unfold sh512 part
  pointwise [sge2_512]
  refine congrArg (fun z : EReal => z + cc (ix2 r ⟨lo + j.val, by omega⟩)) ?_
  by_cases g : r.val % 4 < 2
  · rw [if_pos g, if_pos g]; rfl
  · rw [if_neg g, if_neg g]
    exact congrArg (fun q : Fin 128 => a (ix2 q j)) (Fin.ext (by show (r.val + 128 - 2) % 128 = r.val - 2; omega))
theorem sge1_256 (r : Fin 128) (j : Fin 256) : cmpi .sge pos256 (broadcast S128x256 1#32) (ix2 r j) = if r.val % 4 < 1 then 0#1 else 1#1 := by
  have h : ∀ r : Fin 128, cmpi .sge pos256 (broadcast S128x256 1#32) (ix2 r 0) = if r.val % 4 < 1 then 0#1 else 1#1 := by decide +kernel
  exact h r
theorem sge2_256 (r : Fin 128) (j : Fin 256) : cmpi .sge pos256 (broadcast S128x256 2#32) (ix2 r j) = if r.val % 4 < 2 then 0#1 else 1#1 := by
  have h : ∀ r : Fin 128, cmpi .sge pos256 (broadcast S128x256 2#32) (ix2 r 0) = if r.val % 4 < 2 then 0#1 else 1#1 := by decide +kernel
  exact h r
theorem sh256_1 (a : FVec Ideal S128x256 .f32) (cc : Vec Ideal S128x2816 .f32) (lo : ℕ) (h : lo + 256 ≤ 2816) (r : Fin 128) (j : Fin 256) :
    sh256 1#32 a cc lo h (ix2 r j) = (if r.val % 4 < 1 then 0 else a (ix2 ⟨r.val - 1, by omega⟩ j)) + cc (ix2 r ⟨lo + j.val, by omega⟩) := by
  unfold sh256 part
  pointwise [sge1_256]
  refine congrArg (fun z : EReal => z + cc (ix2 r ⟨lo + j.val, by omega⟩)) ?_
  by_cases g : r.val % 4 < 1
  · rw [if_pos g, if_pos g]; rfl
  · rw [if_neg g, if_neg g]
    exact congrArg (fun q : Fin 128 => a (ix2 q j)) (Fin.ext (by show (r.val + 128 - 1) % 128 = r.val - 1; omega))
theorem sh256_2 (a : FVec Ideal S128x256 .f32) (cc : Vec Ideal S128x2816 .f32) (lo : ℕ) (h : lo + 256 ≤ 2816) (r : Fin 128) (j : Fin 256) :
    sh256 2#32 a cc lo h (ix2 r j) = (if r.val % 4 < 2 then 0 else a (ix2 ⟨r.val - 2, by omega⟩ j)) + cc (ix2 r ⟨lo + j.val, by omega⟩) := by
  unfold sh256 part
  pointwise [sge2_256]
  refine congrArg (fun z : EReal => z + cc (ix2 r ⟨lo + j.val, by omega⟩)) ?_
  by_cases g : r.val % 4 < 2
  · rw [if_pos g, if_pos g]; rfl
  · rw [if_neg g, if_neg g]
    exact congrArg (fun q : Fin 128 => a (ix2 q j)) (Fin.ext (by show (r.val + 128 - 2) % 128 = r.val - 2; omega))

end Cert.Kernel5Ideal.Fin
end
-- ==== Proof.F.Out.lean ====
module

public import proofs.«01_k».proof.Proof.F.Elem
public import proofs.«01_k».proof.Proof.D.Out

@[expose] public section

set_option maxRecDepth 8192
set_option maxHeartbeats 1000000

/-! What the tile writes, over the extended reals, read at an index. -/

noncomputable section

namespace Cert.Kernel5Ideal.Fin

open Cert.Kernel5Ideal Cert.Kernel5Ideal.Gen Cert.FinSpec
open Idealize.ShloMosaic Idealize.ShloMosaic.TcCoe

variable (b : Bk Ideal)

/-- A row of the residual stream, and the convolution's inputs one row before it and two: the carried row where there are none. -/
def hrow (r : Fin 128) : Fin 1024 → EReal := fun k => h1 b (ix2 r k)
def pv1 (r : Fin 128) (j : Fin 2816) : EReal := (if r.val % 4 < 1 then 0 else aR (wt b) (hrow b ⟨r.val - 1, by omega⟩) j) + b.c1 (ix2 r j)
def pv2 (r : Fin 128) (j : Fin 2816) : EReal := (if r.val % 4 < 2 then 0 else aR (wt b) (hrow b ⟨r.val - 2, by omega⟩) j) + b.c0 (ix2 r j)

/-- The hidden row. -/
def fr (r : Fin 128) : Fin 2816 → EReal := fR (wt b) (hrow b r) (pv1 b r) (pv2 b r)

/-- A chunk's part of the layer's output at an index. -/
theorem y512_apply (lo : ℕ) (h : lo + 512 ≤ 2816) (r : Fin 128) (j : Fin 1024) :
    y512 b lo h (ix2 r j) = ∑ k : Fin 512, fr b r ⟨lo + k.val, by omega⟩ * b.wd (ix2 ⟨lo + k.val, by omega⟩ j) := by
  unfold y512
  refine (dn512_apply b _ lo h r j).trans (Finset.sum_congr rfl fun k _ => congrArg (fun z : EReal => z * b.wd (ix2 ⟨lo + k.val, by omega⟩ j)) ?_)
  rw [act512_apply, cnv512_apply, sh512_1, sh512_2, up512_apply, up512_apply, up512_apply, up512_apply]
  unfold fr fR cR
  refine congrArg (acR _) (congrArg (upR (wt b) (hrow b r)) (Fin.ext ?_))
  show 2816 + lo + k.val = 2816 + (lo + k.val)
  omega

/-- A chunk's part of the layer's output at an index. -/
theorem y256_apply (lo : ℕ) (h : lo + 256 ≤ 2816) (r : Fin 128) (j : Fin 1024) :
    y256 b lo h (ix2 r j) = ∑ k : Fin 256, fr b r ⟨lo + k.val, by omega⟩ * b.wd (ix2 ⟨lo + k.val, by omega⟩ j) := by
  unfold y256
  refine (dn256_apply b _ lo h r j).trans (Finset.sum_congr rfl fun k _ => congrArg (fun z : EReal => z * b.wd (ix2 ⟨lo + k.val, by omega⟩ j)) ?_)
  rw [act256_apply, cnv256_apply, sh256_1, sh256_2, up256_apply, up256_apply, up256_apply, up256_apply]
  unfold fr fR cR
  refine congrArg (acR _) (congrArg (upR (wt b) (hrow b r)) (Fin.ext ?_))
  show 2816 + lo + k.val = 2816 + (lo + k.val)
  omega

/-- The feed-forward output at an index. -/
theorem ffn_apply (r : Fin 128) (j : Fin 1024) : ffn b (ix2 r j) = ∑ k : Fin 2816, fr b r k * b.wd (ix2 k j) := by
  rw [Cert.Kernel3Ideal.Fin.sum_chunks]
  unfold ffn
  pointwise [y512_apply, y256_apply]

/-- The layer's output at an index. -/
theorem outY_apply (r : Fin 128) (j : Fin 1024) : outY b (ix2 r j) = yR (wt b) (hrow b r) (pv1 b r) (pv2 b r) j := by
  unfold outY
  rw [ln128_apply]
  pointwise [alpha_eq, ffn_apply]
  rfl

/-- Inside the last store to the window of the convolution's inputs, the store; outside it, the stores before. -/
theorem hit {d lo : ℕ} (inb : ∀ a, (![0, lo] : Fin 2 → ℕ) a + (![128, d] : Fin 2 → ℕ) a ≤ S128x2816.size a)
    (w : (⟨2, ![128, d]⟩ : Shape).Idx → Elt Ideal .f32) (L : List (View.Piece (Elt Ideal) S128x2816 .f32)) (r : Fin 128) (j : Fin d) (C : Fin 2816)
    (hC : C.val = lo + j.val) :
    View.canon (⟨Rect.unit (s := S128x2816) ![0, lo] ![128, d] inb, w⟩ :: L) (ix2 r C) = w (ix2 r j) := by
  have e : (ix2 r C : S128x2816.Idx) = (Rect.unit (s := S128x2816) ![0, lo] ![128, d] inb).emb (ix2 r j) :=
    Shape.idx_ext₂ (by show r.val = 0 + 1 * r.val; omega) (by show C.val = lo + 1 * j.val; omega)
  rw [e]
  exact View.canon_cons_emb (Rect.unit (s := S128x2816) ![0, lo] ![128, d] inb) w L (ix2 r j)

theorem miss {d lo : ℕ} (inb : ∀ a, (![0, lo] : Fin 2 → ℕ) a + (![128, d] : Fin 2 → ℕ) a ≤ S128x2816.size a)
    (w : (⟨2, ![128, d]⟩ : Shape).Idx → Elt Ideal .f32) (L : List (View.Piece (Elt Ideal) S128x2816 .f32)) (r : Fin 128) (C : Fin 2816) (h : C.val < lo) :
    View.canon (⟨Rect.unit (s := S128x2816) ![0, lo] ![128, d] inb, w⟩ :: L) (ix2 r C) = View.canon L (ix2 r C) := by
  refine View.canon_cons_of_not_mem _ L fun hm => ?_
  obtain ⟨x, hx⟩ := (Rect.unit (s := S128x2816) ![0, lo] ![128, d] inb).exists_idx_of_mem hm
  have e1 : lo + 1 * (x 1).val = C.val := congrArg (fun i : S128x2816.Idx => (i 1).val) hx
  omega

/-- What the tile leaves in the window of the convolution's inputs. -/
theorem outA_apply (r : Fin 128) (j : Fin 2816) : View.canon (outA b) (ix2 r j) = aR (wt b) (hrow b r) j := by
  have up : ∀ (lo : ℕ) (h : lo + 512 ≤ 2816) (Q : List (View.Piece (Elt Ideal) S128x2816 .f32)), lo ≤ j.val → j.val < lo + 512 →
      View.canon (pc512 b lo h :: Q) (ix2 r j) = aR (wt b) (hrow b r) j := by
    intro lo h Q h0 h1
    refine (hit _ _ Q r ⟨j.val - lo, by omega⟩ j (by show j.val = lo + (j.val - lo); omega)).trans ((up512_apply b lo _ r _).trans ?_)
    exact congrArg (upR (wt b) _) (Fin.ext (by show lo + (j.val - lo) = j.val; omega))
  have hj := j.isLt
  unfold outA
  by_cases c5 : 2560 ≤ j.val
  · refine (hit _ _ _ r ⟨j.val - 2560, by omega⟩ j (by show j.val = 2560 + (j.val - 2560); omega)).trans ((up256_apply b 2560 _ r _).trans ?_)
    exact congrArg (upR (wt b) _) (Fin.ext (by show 2560 + (j.val - 2560) = j.val; omega))
  refine (miss _ _ _ r j (by omega)).trans ?_
  by_cases c2048 : 2048 ≤ j.val
  · exact up 2048 _ _ c2048 (by omega)
  refine (miss _ _ _ r j (by omega)).trans ?_
  by_cases c1536 : 1536 ≤ j.val
  · exact up 1536 _ _ c1536 (by omega)
  refine (miss _ _ _ r j (by omega)).trans ?_
  by_cases c1024 : 1024 ≤ j.val
  · exact up 1024 _ _ c1024 (by omega)
  refine (miss _ _ _ r j (by omega)).trans ?_
  by_cases c512 : 512 ≤ j.val
  · exact up 512 _ _ c512 (by omega)
  refine (miss _ _ _ r j (by omega)).trans ?_
  exact up 0 _ _ (by omega) (by omega)

end Cert.Kernel5Ideal.Fin
end
-- ==== Proof.F.Call.lean ====
module

public import proofs.«01_k».proof.Proof.F.Model
public import Idealize.ShloMosaic.Lib.WholeRead

@[expose] public section

set_option maxRecDepth 16384
set_option maxHeartbeats 2000000

noncomputable section

namespace Cert.Kernel5Ideal.Fin

open Cert.Kernel5Ideal Cert.Kernel5Ideal.Gen
open Idealize.ShloMosaic Idealize.ShloMosaic.TcCoe

variable {F : FTy → Type} [FloatOps F] [Named F]

/-! What the call's body leaves in its two output windows, in the block functions. -/

/-- A load of a whole buffer's rectangle. -/
theorem rd {s : Shape} {e : EltTy} (a : Memref sig .tc .vmem s e) (h : a.IsWhole) (x : Vec F s e) (r : Rect s) :
    View.readAt (Elt F) a.view r.toLoadRect (h.unread x) = part x r := funext fun y => Memref.IsWhole.readAt_unread h x r.toLoadRect y

variable (b : Bk F)

/-! The mixer's branches and the first norm. -/

theorem e_gt : k0_pay3 (part b.x (Rect.unit (s := S128x1024) ![0, 0] S128x1024.size inb_S128x1024_S128x1024_0_0)) (part b.wg (Rect.unit (s := S1024x2560) ![0, 0] S1024x2560.size inb_S1024x2560_S1024x2560_0_0)) = gates (k0_pay2 (part b.x (Rect.unit (s := S128x1024) ![0, 0] S128x1024.size inb_S128x1024_S128x1024_0_0))) b.wg := rfl
theorem e_br : k0_pay10 (part b.oa (Rect.unit (s := S128x512) ![0, 0] S128x512.size inb_S128x512_S128x512_0_0)) (part b.wa (Rect.unit (s := S512x1024) ![0, 0] S512x1024.size inb_S512x1024_S512x1024_0_0)) = br (shapeCast S128x512 (part b.oa (Rect.unit (s := S128x512) ![0, 0] S128x512.size inb_S128x512_S128x512_0_0)) shapeCasts_S128x512_S128x512) b.wa := rfl
theorem e_ob : k0_pay11 (k0_pay4 (part b.ob (Rect.unit (s := S128x512) ![0, 0] S128x512.size inb_S128x512_S128x512_0_0))) (k0_pay5 (part b.x (Rect.unit (s := S128x1024) ![0, 0] S128x1024.size inb_S128x1024_S128x1024_0_0)) (part b.wg (Rect.unit (s := S1024x2560) ![0, 0] S1024x2560.size inb_S1024x2560_S1024x2560_0_0)))
      (k0_pay6 (part b.ob (Rect.unit (s := S128x512) ![0, 0] S128x512.size inb_S128x512_S128x512_0_0)) (part b.ng (Rect.unit (s := S1x128) ![0, 0] S1x128.size inb_S1x128_S1x128_0_0))) (k0_pay7 (part b.ob (Rect.unit (s := S128x512) ![0, 0] S128x512.size inb_S128x512_S128x512_0_0)) (part b.ng (Rect.unit (s := S1x128) ![0, 0] S1x128.size inb_S1x128_S1x128_0_0))) (k0_pay8 (part b.ob (Rect.unit (s := S128x512) ![0, 0] S128x512.size inb_S128x512_S128x512_0_0))) (k0_pay9 (part b.ob (Rect.unit (s := S128x512) ![0, 0] S128x512.size inb_S128x512_S128x512_0_0))) (part b.ng (Rect.unit (s := S1x128) ![0, 0] S1x128.size inb_S1x128_S1x128_0_0)) (part b.ng (Rect.unit (s := S1x128) ![0, 0] S1x128.size inb_S1x128_S1x128_0_0)) (part b.wb (Rect.unit (s := S512x1024) ![0, 0] S512x1024.size inb_S512x1024_S512x1024_0_0))
    = br (obn (gates (k0_pay2 (part b.x (Rect.unit (s := S128x1024) ![0, 0] S128x1024.size inb_S128x1024_S128x1024_0_0))) b.wg) (k0_pay4 (part b.ob (Rect.unit (s := S128x512) ![0, 0] S128x512.size inb_S128x512_S128x512_0_0))) b.ng) b.wb := rfl
theorem e_h (x : FVec F S128x1024 .f32) (gt : FVec F S128x2560 .f32) (u v : FVec F S128x1024 .f32) :
    k0_pay13 x gt u v (k0_pay12 gt) (part b.wo (Rect.unit (s := S1024x1024) ![0, 0] S1024x1024.size inb_S1024x1024_S1024x1024_0_0)) (part b.l1g (Rect.unit (s := S1x1024) ![0, 0] S1x1024.size inb_S1x1024_S1x1024_0_0)) (part b.l1b (Rect.unit (s := S1x1024) ![0, 0] S1x1024.size inb_S1x1024_S1x1024_0_0))
      = ln128 (addf (mulf (broadcast S128x1024 (Named.named κ "alpha" 0x3F9837F0#32)) x) (res (merged gt u v) b.wo)) b.l1g b.l1b := rfl
theorem e_h1 : ln128 (addf (mulf (broadcast S128x1024 (Named.named κ "alpha" 0x3F9837F0#32)) (k0_pay2 (part b.x (Rect.unit (s := S128x1024) ![0, 0] S128x1024.size inb_S128x1024_S128x1024_0_0))))
      (res (merged (gates (k0_pay2 (part b.x (Rect.unit (s := S128x1024) ![0, 0] S128x1024.size inb_S128x1024_S128x1024_0_0))) b.wg) (br (shapeCast S128x512 (part b.oa (Rect.unit (s := S128x512) ![0, 0] S128x512.size inb_S128x512_S128x512_0_0)) shapeCasts_S128x512_S128x512) b.wa)
        (br (obn (gates (k0_pay2 (part b.x (Rect.unit (s := S128x1024) ![0, 0] S128x1024.size inb_S128x1024_S128x1024_0_0))) b.wg) (k0_pay4 (part b.ob (Rect.unit (s := S128x512) ![0, 0] S128x512.size inb_S128x512_S128x512_0_0))) b.ng) b.wb)) b.wo)) b.l1g b.l1b = h1 b := rfl
theorem e_14 (x gt u v w wo g c) : k0_pay14 (F := F) x gt u v w wo g c = truncf .bf16 (k0_pay13 x gt u v w wo g c) bitsLt_bf16_f32 := rfl
theorem e_15 (x gt u v w wo g c z) : k0_pay15 (F := F) x gt u v w wo g c z = k0_pay16 (truncf .bf16 (k0_pay13 x gt u v w wo g c) bitsLt_bf16_f32) z := rfl

/-! The up projection's chunks. -/

theorem e_16 (col : ℕ) (i) : k0_pay16 (truncf .bf16 (h1 b) bitsLt_bf16_f32) (part b.wu (Rect.unit (s := S1024x5632) ![0, col] S1024x512.size i)) = up512 b col (i 1) := rfl
theorem e_43 (col : ℕ) (i) : k0_pay43 (truncf .bf16 (h1 b) bitsLt_bf16_f32) (part b.wu (Rect.unit (s := S1024x5632) ![0, col] S1024x256.size i)) = up256 b col (i 1) := rfl
theorem e_17 : (k0_pay17 (F := F)) = k0_pay16 := rfl
theorem e_18 : (k0_pay18 (F := F)) = k0_pay16 := rfl
theorem e_23 : (k0_pay23 (F := F)) = k0_pay16 := rfl
theorem e_24 : (k0_pay24 (F := F)) = k0_pay16 := rfl
theorem e_29 : (k0_pay29 (F := F)) = k0_pay16 := rfl
theorem e_30 : (k0_pay30 (F := F)) = k0_pay16 := rfl
theorem e_36 : (k0_pay36 (F := F)) = k0_pay16 := rfl
theorem e_37 : (k0_pay37 (F := F)) = k0_pay16 := rfl
theorem e_44 : (k0_pay44 (F := F)) = k0_pay43 := rfl

/-! The feed-forward layer's chunks. -/

variable (a g : FVec F S128x512 .f32) (z : FVec F S128x1024 .f32)

theorem f_0 : k0_pay22 a g (k0_pay20 a (part b.c1 (Rect.unit (s := S128x2816) ![0, 0] S128x512.size inb_S128x2816_S128x512_0_0))) (k0_pay21 a) (part b.c0 (Rect.unit (s := S128x2816) ![0, 0] S128x512.size inb_S128x2816_S128x512_0_0))
      (part b.cb (Rect.unit (s := S1x2816) ![0, 0] S1x512.size inb_S1x2816_S1x512_0_0)) (part b.cw (Rect.unit (s := S3x2816) ![0, 0] S1x512.size inb_S3x2816_S1x512_0_0))
      (part b.cw (Rect.unit (s := S3x2816) ![1, 0] S1x512.size inb_S3x2816_S1x512_1_0)) (part b.cw (Rect.unit (s := S3x2816) ![2, 0] S1x512.size inb_S3x2816_S1x512_2_0))
      (part b.wd (Rect.unit (s := S2816x1024) ![0, 0] S512x1024.size inb_S2816x1024_S512x1024_0_0))
    = dn512 b (act512 (cnv512 b a (sh512 1#32 a b.c1 0 (by norm_num)) (sh512 2#32 a b.c0 0 (by norm_num)) 0 (by norm_num)) g) 0 (by norm_num) := rfl
theorem f_1 : k0_pay28 a g z (k0_pay26 a (part b.c1 (Rect.unit (s := S128x2816) ![0, 512] S128x512.size inb_S128x2816_S128x512_0_512))) (k0_pay27 a (part b.c0 (Rect.unit (s := S128x2816) ![0, 512] S128x512.size inb_S128x2816_S128x512_0_512)))
      (part b.cb (Rect.unit (s := S1x2816) ![0, 512] S1x512.size inb_S1x2816_S1x512_0_512)) (part b.cw (Rect.unit (s := S3x2816) ![0, 512] S1x512.size inb_S3x2816_S1x512_0_512))
      (part b.cw (Rect.unit (s := S3x2816) ![1, 512] S1x512.size inb_S3x2816_S1x512_1_512)) (part b.cw (Rect.unit (s := S3x2816) ![2, 512] S1x512.size inb_S3x2816_S1x512_2_512))
      (part b.wd (Rect.unit (s := S2816x1024) ![512, 0] S512x1024.size inb_S2816x1024_S512x1024_512_0))
    = addf z (dn512 b (act512 (cnv512 b a (sh512 1#32 a b.c1 512 (by norm_num)) (sh512 2#32 a b.c0 512 (by norm_num)) 512 (by norm_num)) g) 512 (by norm_num)) := rfl
theorem f_2 : k0_pay35 a g z (k0_pay32 a (iota .tc S128x512 32 [0] iota_S128x512_d0_w32) 4#32 0#1 (part b.c1 (Rect.unit (s := S128x2816) ![0, 1024] S128x512.size inb_S128x2816_S128x512_0_1024)))
      (k0_pay33 a (iota .tc S128x512 32 [0] iota_S128x512_d0_w32) 4#32 0#1 (part b.c0 (Rect.unit (s := S128x2816) ![0, 1024] S128x512.size inb_S128x2816_S128x512_0_1024)) (part b.cw (Rect.unit (s := S3x2816) ![0, 1024] S1x512.size inb_S3x2816_S1x512_0_1024)))
      (k0_pay34 (part b.cb (Rect.unit (s := S1x2816) ![0, 1024] S1x512.size inb_S1x2816_S1x512_0_1024))) (part b.cw (Rect.unit (s := S3x2816) ![1, 1024] S1x512.size inb_S3x2816_S1x512_1_1024)) (part b.cw (Rect.unit (s := S3x2816) ![2, 1024] S1x512.size inb_S3x2816_S1x512_2_1024))
      (part b.wd (Rect.unit (s := S2816x1024) ![1024, 0] S512x1024.size inb_S2816x1024_S512x1024_1024_0))
    = addf z (dn512 b (act512 (cnv512 b a (sh512 1#32 a b.c1 1024 (by norm_num)) (sh512 2#32 a b.c0 1024 (by norm_num)) 1024 (by norm_num)) g) 1024 (by norm_num)) := rfl
theorem f_3 : k0_pay42 a g z (k0_pay41 a 4#32 k0_pay38 k0_pay39 k0_pay40 (part b.c1 (Rect.unit (s := S128x2816) ![0, 1536] S128x512.size inb_S128x2816_S128x512_0_1536)) (part b.c0 (Rect.unit (s := S128x2816) ![0, 1536] S128x512.size inb_S128x2816_S128x512_0_1536))
      (part b.cb (Rect.unit (s := S1x2816) ![0, 1536] S1x512.size inb_S1x2816_S1x512_0_1536)) (part b.cw (Rect.unit (s := S3x2816) ![0, 1536] S1x512.size inb_S3x2816_S1x512_0_1536)) (part b.cw (Rect.unit (s := S3x2816) ![1, 1536] S1x512.size inb_S3x2816_S1x512_1_1536)))
      (part b.cw (Rect.unit (s := S3x2816) ![2, 1536] S1x512.size inb_S3x2816_S1x512_2_1536)) (part b.wd (Rect.unit (s := S2816x1024) ![1536, 0] S512x1024.size inb_S2816x1024_S512x1024_1536_0))
    = addf z (dn512 b (act512 (cnv512 b a (sh512 1#32 a b.c1 1536 (by norm_num)) (sh512 2#32 a b.c0 1536 (by norm_num)) 1536 (by norm_num)) g) 1536 (by norm_num)) := rfl
theorem f_4 : k0_pay50 g z (k0_pay48 a k0_pay45 k0_pay46 k0_pay47 (part b.c1 (Rect.unit (s := S128x2816) ![0, 2048] S128x512.size inb_S128x2816_S128x512_0_2048)) (part b.c0 (Rect.unit (s := S128x2816) ![0, 2048] S128x512.size inb_S128x2816_S128x512_0_2048))
      (part b.cb (Rect.unit (s := S1x2816) ![0, 2048] S1x512.size inb_S1x2816_S1x512_0_2048)) (part b.cw (Rect.unit (s := S3x2816) ![0, 2048] S1x512.size inb_S3x2816_S1x512_0_2048)) (part b.cw (Rect.unit (s := S3x2816) ![1, 2048] S1x512.size inb_S3x2816_S1x512_1_2048)) (part b.cw (Rect.unit (s := S3x2816) ![2, 2048] S1x512.size inb_S3x2816_S1x512_2_2048))) (k0_pay49 a k0_pay45 k0_pay46 k0_pay47 (part b.c1 (Rect.unit (s := S128x2816) ![0, 2048] S128x512.size inb_S128x2816_S128x512_0_2048)) (part b.c0 (Rect.unit (s := S128x2816) ![0, 2048] S128x512.size inb_S128x2816_S128x512_0_2048))
      (part b.cb (Rect.unit (s := S1x2816) ![0, 2048] S1x512.size inb_S1x2816_S1x512_0_2048)) (part b.cw (Rect.unit (s := S3x2816) ![0, 2048] S1x512.size inb_S3x2816_S1x512_0_2048)) (part b.cw (Rect.unit (s := S3x2816) ![1, 2048] S1x512.size inb_S3x2816_S1x512_1_2048)) (part b.cw (Rect.unit (s := S3x2816) ![2, 2048] S1x512.size inb_S3x2816_S1x512_2_2048)))
      (part b.wd (Rect.unit (s := S2816x1024) ![2048, 0] S512x1024.size inb_S2816x1024_S512x1024_2048_0))
    = addf z (dn512 b (act512 (cnv512 b a (sh512 1#32 a b.c1 2048 (by norm_num)) (sh512 2#32 a b.c0 2048 (by norm_num)) 2048 (by norm_num)) g) 2048 (by norm_num)) := rfl
theorem f_5 (h : FVec F S128x1024 .f32) (a' g' : FVec F S128x256 .f32) : k0_pay56 h a' g' z (k0_pay52 a' (part b.c1 (Rect.unit (s := S128x2816) ![0, 2560] S128x256.size inb_S128x2816_S128x256_0_2560))) k0_pay53 (k0_pay54 a') k0_pay55 (part b.c0 (Rect.unit (s := S128x2816) ![0, 2560] S128x256.size inb_S128x2816_S128x256_0_2560))
      (part b.cb (Rect.unit (s := S1x2816) ![0, 2560] S1x256.size inb_S1x2816_S1x256_0_2560)) (part b.cw (Rect.unit (s := S3x2816) ![0, 2560] S1x256.size inb_S3x2816_S1x256_0_2560))
      (part b.cw (Rect.unit (s := S3x2816) ![1, 2560] S1x256.size inb_S3x2816_S1x256_1_2560)) (part b.cw (Rect.unit (s := S3x2816) ![2, 2560] S1x256.size inb_S3x2816_S1x256_2_2560))
      (part b.wd (Rect.unit (s := S2816x1024) ![2560, 0] S256x1024.size inb_S2816x1024_S256x1024_2560_0))
    = addf (mulf (broadcast S128x1024 (Named.named κ "alpha" 0x3F9837F0#32)) h) (addf z (dn256 b (act256 (cnv256 b a' (sh256 1#32 a' b.c1 2560 (by norm_num)) (sh256 2#32 a' b.c0 2560 (by norm_num)) 2560 (by norm_num)) g') 2560 (by norm_num))) := rfl
theorem f_6 : k0_pay1 z (part b.l2g (Rect.unit (s := S1x1024) ![0, 0] S1x1024.size inb_S1x1024_S1x1024_0_0)) (part b.l2b (Rect.unit (s := S1x1024) ![0, 0] S1x1024.size inb_S1x1024_S1x1024_0_0)) = ln128 z b.l2g b.l2b := rfl

variable (m : (ℓ : Loc nD τ sig) → Buf (Elt F) ℓ) (c : Dev nD)

/-- The blocks of the call's one grid point. -/
def bk (t : Fin cfg0.N) : Bk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t,
    iblk m c 12 t, iblk m c 13 t, iblk m c 14 t, iblk m c 15 t, iblk m c 16 t, iblk m c 17 t⟩

/-- The window of the convolution's inputs. -/
theorem outs19 (t : Fin cfg0.N) : (outsAt0 m c t).2 = View.canon (outA (bk m c t)) := by
  unfold outsAt0 out0_A_19 kernelRun0_A
  dsimp only
  simp only [show iblk m c 0 t = (bk m c t).x from rfl, show iblk m c 1 t = (bk m c t).oa from rfl, show iblk m c 2 t = (bk m c t).ob from rfl, show iblk m c 3 t = (bk m c t).c0 from rfl, show iblk m c 4 t = (bk m c t).c1 from rfl, show iblk m c 5 t = (bk m c t).wg from rfl, show iblk m c 6 t = (bk m c t).ng from rfl, show iblk m c 7 t = (bk m c t).wa from rfl, show iblk m c 8 t = (bk m c t).wb from rfl, show iblk m c 9 t = (bk m c t).wo from rfl, show iblk m c 10 t = (bk m c t).l1g from rfl, show iblk m c 11 t = (bk m c t).l1b from rfl, show iblk m c 12 t = (bk m c t).wu from rfl, show iblk m c 13 t = (bk m c t).cw from rfl, show iblk m c 14 t = (bk m c t).cb from rfl, show iblk m c 15 t = (bk m c t).wd from rfl, show iblk m c 16 t = (bk m c t).l2g from rfl, show iblk m c 17 t = (bk m c t).l2b from rfl]
  generalize bk m c t = b
  refine (View.read_writes_junk_eq_canon _ _).trans ?_
  refine congrArg View.canon ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.v276, rd, e_17, e_18, e_23, e_24, e_29, e_30, e_36, e_37, e_44, e_14, e_15, e_gt, e_br, e_ob, e_h, e_h1, e_16, e_43, f_0, f_1, f_2, f_3, f_4, f_5, f_6]
  rfl

/-- The window of the layer's output. -/
theorem outs18 (t : Fin cfg0.N) : (outsAt0 m c t).1 = outY (bk m c t) := by
  unfold outsAt0 out0_A_18 kernelRun0_A
  dsimp only
  simp only [show iblk m c 0 t = (bk m c t).x from rfl, show iblk m c 1 t = (bk m c t).oa from rfl, show iblk m c 2 t = (bk m c t).ob from rfl, show iblk m c 3 t = (bk m c t).c0 from rfl, show iblk m c 4 t = (bk m c t).c1 from rfl, show iblk m c 5 t = (bk m c t).wg from rfl, show iblk m c 6 t = (bk m c t).ng from rfl, show iblk m c 7 t = (bk m c t).wa from rfl, show iblk m c 8 t = (bk m c t).wb from rfl, show iblk m c 9 t = (bk m c t).wo from rfl, show iblk m c 10 t = (bk m c t).l1g from rfl, show iblk m c 11 t = (bk m c t).l1b from rfl, show iblk m c 12 t = (bk m c t).wu from rfl, show iblk m c 13 t = (bk m c t).cw from rfl, show iblk m c 14 t = (bk m c t).cb from rfl, show iblk m c 15 t = (bk m c t).wd from rfl, show iblk m c 16 t = (bk m c t).l2g from rfl, show iblk m c 17 t = (bk m c t).l2b from rfl]
  generalize bk m c t = b
  refine (View.read_writes_junk_eq_canon _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.v276, rd, e_17, e_18, e_23, e_24, e_29, e_30, e_36, e_37, e_44, e_14, e_15, e_gt, e_br, e_ob, e_h, e_h1, e_16, e_43, f_0, f_1, f_2, f_3, f_4, f_5, f_6]
  exact View.canon_unit_zero (by funext a; match a with | ⟨0, _⟩ => rfl | ⟨1, _⟩ => rfl) _ _

end Cert.Kernel5Ideal.Fin
end
-- ==== Proof.F.Blk.lean ====
module

public import proofs.«01_k».proof.Proof.F.Out
public import proofs.«01_k».proof.Proof.F.Call
public import proofs.«01_k».proof.Proof.F.Spec
public import Idealize.ShloMosaic.Lib.StableHlo.Run

@[expose] public section

set_option maxRecDepth 8192
set_option maxHeartbeats 1000000

/-! The windows' blocks are whole arrays: which elements of the arguments each holds. -/

noncomputable section

namespace Cert.Kernel5Ideal.Fin

open Cert.Kernel5Ideal Cert.Kernel5Ideal.Gen Cert.FinSpec
open Idealize.ShloMosaic Idealize.ShloMosaic.TcCoe Idealize.ShloMosaic.StableHlo

variable (m : (ℓ : Loc nD τ sig) → Buf (Elt Ideal) ℓ) (c : Dev nD)

/-- The sample and the position of a row. -/
def bOf (g : Fin 128) : Fin 32 := ⟨g.val / 4, by omega⟩
def nOf (g : Fin 128) : Fin 4 := ⟨g.val % 4, by omega⟩

/-- The samples' rows laid one under another. -/
theorem flat {d : ℕ} (x : (⟨3, ![32, 4, d]⟩ : Shape).Idx → EReal) (h) (r : Fin 128) (k : Fin d) :
    shapeCast (⟨2, ![128, d]⟩ : Shape) x h (ix2 r k) = x (ix3 (bOf r) (nOf r) k) := by
  refine shapeCast_apply _ _ _ _ ?_
  rw [Shape.rowMajor_val_three, Shape.rowMajor_val_two]
  show (r.val / 4 * 4 + r.val % 4) * d + k.val = r.val * d + k.val
  rw [show r.val / 4 * 4 + r.val % 4 = r.val by omega]

/-- The arguments: the activations, the attention's outputs, the recurrence's, the convolution's state, the weights. -/
def X : FVec Ideal S32x4x1024 .f32 := m ((c.tc : Thread nD τ).loc main_arg0)
def OA : FVec Ideal S32x4x512 .f32 := m ((c.tc : Thread nD τ).loc main_arg1)
def OB : FVec Ideal S32x4x512 .f32 := m ((c.tc : Thread nD τ).loc main_arg2)
def ST : FVec Ideal S32x1x2x2816 .f32 := m ((c.tc : Thread nD τ).loc main_arg3)
def W : Wt := mkW (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

/-! Each block is its whole array. -/

theorem zi0 : ∀ (t : Fin cfg0.N) a, win0_0.index t a = 0 := by decide +kernel
theorem em0 (t : Fin cfg0.N) (y : S128x1024.Idx) : (win0_0.rect t).emb y = y :=
  funext fun a => Fin.ext ((Pipeline.Window.rect_emb_val win0_0 t y a).trans (by rw [zi0 t a, Nat.zero_mul, Nat.zero_add]))
theorem ib0 (t : Fin cfg0.N) (y : S128x1024.Idx) : iblk m c 0 t y = V m c main_v32 y := congrArg (V m c main_v32) (em0 t y)
theorem zi1 : ∀ (t : Fin cfg0.N) a, win0_1.index t a = 0 := by decide +kernel
theorem em1 (t : Fin cfg0.N) (y : S128x512.Idx) : (win0_1.rect t).emb y = y :=
  funext fun a => Fin.ext ((Pipeline.Window.rect_emb_val win0_1 t y a).trans (by rw [zi1 t a, Nat.zero_mul, Nat.zero_add]))
theorem ib1 (t : Fin cfg0.N) (y : S128x512.Idx) : iblk m c 1 t y = V m c main_v34 y := congrArg (V m c main_v34) (em1 t y)
theorem zi2 : ∀ (t : Fin cfg0.N) a, win0_2.index t a = 0 := by decide +kernel
theorem em2 (t : Fin cfg0.N) (y : S128x512.Idx) : (win0_2.rect t).emb y = y :=
  funext fun a => Fin.ext ((Pipeline.Window.rect_emb_val win0_2 t y a).trans (by rw [zi2 t a, Nat.zero_mul, Nat.zero_add]))
theorem ib2 (t : Fin cfg0.N) (y : S128x512.Idx) : iblk m c 2 t y = V m c main_v35 y := congrArg (V m c main_v35) (em2 t y)
theorem zi3 : ∀ (t : Fin cfg0.N) a, win0_3.index t a = 0 := by decide +kernel
theorem em3 (t : Fin cfg0.N) (y : S128x2816.Idx) : (win0_3.rect t).emb y = y :=
  funext fun a => Fin.ext ((Pipeline.Window.rect_emb_val win0_3 t y a).trans (by rw [zi3 t a, Nat.zero_mul, Nat.zero_add]))
theorem ib3 (t : Fin cfg0.N) (y : S128x2816.Idx) : iblk m c 3 t y = V m c main_v36 y := congrArg (V m c main_v36) (em3 t y)
theorem zi4 : ∀ (t : Fin cfg0.N) a, win0_4.index t a = 0 := by decide +kernel
theorem em4 (t : Fin cfg0.N) (y : S128x2816.Idx) : (win0_4.rect t).emb y = y :=
  funext fun a => Fin.ext ((Pipeline.Window.rect_emb_val win0_4 t y a).trans (by rw [zi4 t a, Nat.zero_mul, Nat.zero_add]))
theorem ib4 (t : Fin cfg0.N) (y : S128x2816.Idx) : iblk m c 4 t y = V m c main_v37 y := congrArg (V m c main_v37) (em4 t y)
theorem zi5 : ∀ (t : Fin cfg0.N) a, win0_5.index t a = 0 := by decide +kernel
theorem em5 (t : Fin cfg0.N) (y : S1024x2560.Idx) : (win0_5.rect t).emb y = y :=
  funext fun a => Fin.ext ((Pipeline.Window.rect_emb_val win0_5 t y a).trans (by rw [zi5 t a, Nat.zero_mul, Nat.zero_add]))
theorem ib5 (t : Fin cfg0.N) (y : S1024x2560.Idx) : iblk m c 5 t y = V m c main_v2 y := congrArg (V m c main_v2) (em5 t y)
theorem zi6 : ∀ (t : Fin cfg0.N) a, win0_6.index t a = 0 := by decide +kernel
theorem em6 (t : Fin cfg0.N) (y : S1x128.Idx) : (win0_6.rect t).emb y = y :=
  funext fun a => Fin.ext ((Pipeline.Window.rect_emb_val win0_6 t y a).trans (by rw [zi6 t a, Nat.zero_mul, Nat.zero_add]))
theorem ib6 (t : Fin cfg0.N) (y : S1x128.Idx) : iblk m c 6 t y = V m c main_v4 y := congrArg (V m c main_v4) (em6 t y)
theorem zi7 : ∀ (t : Fin cfg0.N) a, win0_7.index t a = 0 := by decide +kernel
theorem em7 (t : Fin cfg0.N) (y : S512x1024.Idx) : (win0_7.rect t).emb y = y :=
  funext fun a => Fin.ext ((Pipeline.Window.rect_emb_val win0_7 t y a).trans (by rw [zi7 t a, Nat.zero_mul, Nat.zero_add]))
theorem ib7 (t : Fin cfg0.N) (y : S512x1024.Idx) : iblk m c 7 t y = V m c main_v6 y := congrArg (V m c main_v6) (em7 t y)
theorem zi8 : ∀ (t : Fin cfg0.N) a, win0_8.index t a = 0 := by decide +kernel
theorem em8 (t : Fin cfg0.N) (y : S512x1024.Idx) : (win0_8.rect t).emb y = y :=
  funext fun a => Fin.ext ((Pipeline.Window.rect_emb_val win0_8 t y a).trans (by rw [zi8 t a, Nat.zero_mul, Nat.zero_add]))
theorem ib8 (t : Fin cfg0.N) (y : S512x1024.Idx) : iblk m c 8 t y = V m c main_v8 y := congrArg (V m c main_v8) (em8 t y)
theorem zi9 : ∀ (t : Fin cfg0.N) a, win0_9.index t a = 0 := by decide +kernel
theorem em9 (t : Fin cfg0.N) (y : S1024x1024.Idx) : (win0_9.rect t).emb y = y :=
  funext fun a => Fin.ext ((Pipeline.Window.rect_emb_val win0_9 t y a).trans (by rw [zi9 t a, Nat.zero_mul, Nat.zero_add]))
theorem ib9 (t : Fin cfg0.N) (y : S1024x1024.Idx) : iblk m c 9 t y = V m c main_v10 y := congrArg (V m c main_v10) (em9 t y)
theorem zi10 : ∀ (t : Fin cfg0.N) a, win0_10.index t a = 0 := by decide +kernel
theorem em10 (t : Fin cfg0.N) (y : S1x1024.Idx) : (win0_10.rect t).emb y = y :=
  funext fun a => Fin.ext ((Pipeline.Window.rect_emb_val win0_10 t y a).trans (by rw [zi10 t a, Nat.zero_mul, Nat.zero_add]))
theorem ib10 (t : Fin cfg0.N) (y : S1x1024.Idx) : iblk m c 10 t y = V m c main_v12 y := congrArg (V m c main_v12) (em10 t y)
theorem zi11 : ∀ (t : Fin cfg0.N) a, win0_11.index t a = 0 := by decide +kernel
theorem em11 (t : Fin cfg0.N) (y : S1x1024.Idx) : (win0_11.rect t).emb y = y :=
  funext fun a => Fin.ext ((Pipeline.Window.rect_emb_val win0_11 t y a).trans (by rw [zi11 t a, Nat.zero_mul, Nat.zero_add]))
theorem ib11 (t : Fin cfg0.N) (y : S1x1024.Idx) : iblk m c 11 t y = V m c main_v14 y := congrArg (V m c main_v14) (em11 t y)
theorem zi12 : ∀ (t : Fin cfg0.N) a, win0_12.index t a = 0 := by decide +kernel
theorem em12 (t : Fin cfg0.N) (y : S1024x5632.Idx) : (win0_12.rect t).emb y = y :=
  funext fun a => Fin.ext ((Pipeline.Window.rect_emb_val win0_12 t y a).trans (by rw [zi12 t a, Nat.zero_mul, Nat.zero_add]))
theorem ib12 (t : Fin cfg0.N) (y : S1024x5632.Idx) : iblk m c 12 t y = V m c main_v16 y := congrArg (V m c main_v16) (em12 t y)
theorem zi13 : ∀ (t : Fin cfg0.N) a, win0_13.index t a = 0 := by decide +kernel
theorem em13 (t : Fin cfg0.N) (y : S3x2816.Idx) : (win0_13.rect t).emb y = y :=
  funext fun a => Fin.ext ((Pipeline.Window.rect_emb_val win0_13 t y a).trans (by rw [zi13 t a, Nat.zero_mul, Nat.zero_add]))
theorem ib13 (t : Fin cfg0.N) (y : S3x2816.Idx) : iblk m c 13 t y = V m c main_v17 y := congrArg (V m c main_v17) (em13 t y)
theorem zi14 : ∀ (t : Fin cfg0.N) a, win0_14.index t a = 0 := by decide +kernel
theorem em14 (t : Fin cfg0.N) (y : S1x2816.Idx) : (win0_14.rect t).emb y = y :=
  funext fun a => Fin.ext ((Pipeline.Window.rect_emb_val win0_14 t y a).trans (by rw [zi14 t a, Nat.zero_mul, Nat.zero_add]))
theorem ib14 (t : Fin cfg0.N) (y : S1x2816.Idx) : iblk m c 14 t y = V m c main_v19 y := congrArg (V m c main_v19) (em14 t y)
theorem zi15 : ∀ (t : Fin cfg0.N) a, win0_15.index t a = 0 := by decide +kernel
theorem em15 (t : Fin cfg0.N) (y : S2816x1024.Idx) : (win0_15.rect t).emb y = y :=
  funext fun a => Fin.ext ((Pipeline.Window.rect_emb_val win0_15 t y a).trans (by rw [zi15 t a, Nat.zero_mul, Nat.zero_add]))
theorem ib15 (t : Fin cfg0.N) (y : S2816x1024.Idx) : iblk m c 15 t y = V m c main_v21 y := congrArg (V m c main_v21) (em15 t y)
theorem zi16 : ∀ (t : Fin cfg0.N) a, win0_16.index t a = 0 := by decide +kernel
theorem em16 (t : Fin cfg0.N) (y : S1x1024.Idx) : (win0_16.rect t).emb y = y :=
  funext fun a => Fin.ext ((Pipeline.Window.rect_emb_val win0_16 t y a).trans (by rw [zi16 t a, Nat.zero_mul, Nat.zero_add]))
theorem ib16 (t : Fin cfg0.N) (y : S1x1024.Idx) : iblk m c 16 t y = V m c main_v23 y := congrArg (V m c main_v23) (em16 t y)
theorem zi17 : ∀ (t : Fin cfg0.N) a, win0_17.index t a = 0 := by decide +kernel
theorem em17 (t : Fin cfg0.N) (y : S1x1024.Idx) : (win0_17.rect t).emb y = y :=
  funext fun a => Fin.ext ((Pipeline.Window.rect_emb_val win0_17 t y a).trans (by rw [zi17 t a, Nat.zero_mul, Nat.zero_add]))
theorem ib17 (t : Fin cfg0.N) (y : S1x1024.Idx) : iblk m c 17 t y = V m c main_v25 y := congrArg (V m c main_v25) (em17 t y)
theorem zi18 : ∀ (t : Fin cfg0.N) a, win0_18.index t a = 0 := by decide +kernel
theorem em18 (t : Fin cfg0.N) (y : S128x1024.Idx) : (win0_18.rect t).emb y = y :=
  funext fun a => Fin.ext ((Pipeline.Window.rect_emb_val win0_18 t y a).trans (by rw [zi18 t a, Nat.zero_mul, Nat.zero_add]))
theorem zi19 : ∀ (t : Fin cfg0.N) a, win0_19.index t a = 0 := by decide +kernel
theorem em19 (t : Fin cfg0.N) (y : S128x2816.Idx) : (win0_19.rect t).emb y = y :=
  funext fun a => Fin.ext ((Pipeline.Window.rect_emb_val win0_19 t y a).trans (by rw [zi19 t a, Nat.zero_mul, Nat.zero_add]))

/-! The weights. -/

theorem w_wg (t : Fin cfg0.N) (r : Fin 1024) (k : Fin 2560) : iblk m c 5 t (ix2 r k) = (W m c).wg r k := by
  rw [ib5]
  show StableHlo.after hostOps0 _ _ _ = _
  after_results_simp
  pointwise
  rfl
theorem w_ng (t : Fin cfg0.N) (k : Fin 128) : iblk m c 6 t (ix2 0 k) = (W m c).ng k := by
  rw [ib6]
  show StableHlo.after hostOps0 _ _ _ = _
  after_results_simp
  pointwise
  rfl
theorem w_wa (t : Fin cfg0.N) (r : Fin 512) (k : Fin 1024) : iblk m c 7 t (ix2 r k) = (W m c).wa r k := by
  rw [ib7]
  show StableHlo.after hostOps0 _ _ _ = _
  after_results_simp
  pointwise
  rfl
theorem w_wb (t : Fin cfg0.N) (r : Fin 512) (k : Fin 1024) : iblk m c 8 t (ix2 r k) = (W m c).wb r k := by
  rw [ib8]
  show StableHlo.after hostOps0 _ _ _ = _
  after_results_simp
  pointwise
  rfl
theorem w_wo (t : Fin cfg0.N) (r : Fin 1024) (k : Fin 1024) : iblk m c 9 t (ix2 r k) = (W m c).wo r k := by
  rw [ib9]
  show StableHlo.after hostOps0 _ _ _ = _
  after_results_simp
  pointwise
  rfl
theorem w_l1g (t : Fin cfg0.N) (k : Fin 1024) : iblk m c 10 t (ix2 0 k) = (W m c).l1g k := by
  rw [ib10]
  show StableHlo.after hostOps0 _ _ _ = _
  after_results_simp
  pointwise
  rfl
theorem w_l1b (t : Fin cfg0.N) (k : Fin 1024) : iblk m c 11 t (ix2 0 k) = (W m c).l1b k := by
  rw [ib11]
  show StableHlo.after hostOps0 _ _ _ = _
  after_results_simp
  pointwise
  rfl
theorem w_wu (t : Fin cfg0.N) (r : Fin 1024) (k : Fin 5632) : iblk m c 12 t (ix2 r k) = (W m c).wu r k := by
  rw [ib12]
  show StableHlo.after hostOps0 _ _ _ = _
  after_results_simp
  pointwise
  rfl
theorem w_cw (t : Fin cfg0.N) (r : Fin 3) (k : Fin 2816) : iblk m c 13 t (ix2 r k) = (W m c).cw r k := by
  rw [ib13]
  show StableHlo.after hostOps0 _ _ _ = _
  after_results_simp
  pointwise
  rfl
theorem w_cb (t : Fin cfg0.N) (k : Fin 2816) : iblk m c 14 t (ix2 0 k) = (W m c).cb k := by
  rw [ib14]
  show StableHlo.after hostOps0 _ _ _ = _
  after_results_simp
  pointwise
  rfl
theorem w_wd (t : Fin cfg0.N) (r : Fin 2816) (k : Fin 1024) : iblk m c 15 t (ix2 r k) = (W m c).wd r k := by
  rw [ib15]
  show StableHlo.after hostOps0 _ _ _ = _
  after_results_simp
  pointwise
  rfl
theorem w_l2g (t : Fin cfg0.N) (k : Fin 1024) : iblk m c 16 t (ix2 0 k) = (W m c).l2g k := by
  rw [ib16]
  show StableHlo.after hostOps0 _ _ _ = _
  after_results_simp
  pointwise
  rfl
theorem w_l2b (t : Fin cfg0.N) (k : Fin 1024) : iblk m c 17 t (ix2 0 k) = (W m c).l2b k := by
  rw [ib17]
  show StableHlo.after hostOps0 _ _ _ = _
  after_results_simp
  pointwise
  rfl

/-- So the blocks' weights are the call's. -/
theorem wt_eq (t : Fin cfg0.N) : wt (bk m c t) = W m c :=
  Wt.ext (funext fun r => funext fun k => w_wg m c t r k) (funext fun k => w_ng m c t k) (funext fun r => funext fun k => w_wa m c t r k)
    (funext fun r => funext fun k => w_wb m c t r k) (funext fun r => funext fun k => w_wo m c t r k) (funext fun k => w_l1g m c t k) (funext fun k => w_l1b m c t k)
    (funext fun r => funext fun k => w_wu m c t r k) (funext fun r => funext fun k => w_cw m c t r k) (funext fun k => w_cb m c t k)
    (funext fun r => funext fun k => w_wd m c t r k) (funext fun k => w_l2g m c t k) (funext fun k => w_l2b m c t k)

/-! The rows. -/

theorem b_x (t : Fin cfg0.N) (r : Fin 128) (k : Fin 1024) : iblk m c 0 t (ix2 r k) = X m c (ix3 (bOf r) (nOf r) k) := by
  rw [ib0]
  show StableHlo.after hostOps0 _ _ _ = _
  after_results_simp
  exact flat (X m c) _ r k
theorem b_oa (t : Fin cfg0.N) (r : Fin 128) (k : Fin 512) : iblk m c 1 t (ix2 r k) = OA m c (ix3 (bOf r) (nOf r) k) := by
  rw [ib1]
  show StableHlo.after hostOps0 _ _ _ = _
  after_results_simp
  exact flat (OA m c) _ r k
theorem b_ob (t : Fin cfg0.N) (r : Fin 128) (k : Fin 512) : iblk m c 2 t (ix2 r k) = OB m c (ix3 (bOf r) (nOf r) k) := by
  rw [ib2]
  show StableHlo.after hostOps0 _ _ _ = _
  after_results_simp
  exact flat (OB m c) _ r k

/-- The convolution's state by samples. -/
def st3 : FVec Ideal S32x2x2816 .f32 := shapeCast S32x2x2816 (ST m c) shapeCasts_S32x1x2x2816_S32x2x2816

theorem V36 : V m c main_v36 = shapeCast S128x2816 (concatenate S32x4x2816 1 [⟨S32x2x2816, st3 m c⟩, ⟨S32x2x2816, (broadcastInDim S32x2x2816 ![] bcast_S_S32x2x2816 (constant (F := Ideal) S_ .f32 0x00000000#32))⟩] concatenates_S32x2x2816_S32x2x2816_S32x4x2816_d1) shapeCasts_S32x4x2816_S128x2816 := by
  show StableHlo.after hostOps0 _ _ = _
  after_results_simp <;> rfl

theorem V37 : V m c main_v37 = shapeCast S128x2816 (concatenate S32x4x2816 1 [⟨S32x1x2816, extractStridedSlice S32x1x2816 ![0, 1, 0] (st3 m c) slices_S32x2x2816_S32x1x2816_0_1_0⟩, ⟨S32x3x2816, (broadcastInDim S32x3x2816 ![] bcast_S_S32x3x2816 (constant (F := Ideal) S_ .f32 0x00000000#32))⟩] concatenates_S32x1x2816_S32x3x2816_S32x4x2816_d1) shapeCasts_S32x4x2816_S128x2816 := by
  show StableHlo.after hostOps0 _ _ = _
  after_results_simp <;> rfl

theorem b_c0 (t : Fin cfg0.N) (r : Fin 128) (k : Fin 2816) :
    iblk m c 3 t (ix2 r k) = if h : r.val % 4 < 2 then ST m c (ix4 (bOf r) 0 ⟨r.val % 4, h⟩ k) else (0 : EReal) := by
  rw [ib3, V36]
  refine (flat _ _ r k).trans ?_
  pointwise [st3]
  rfl

theorem b_c1 (t : Fin cfg0.N) (r : Fin 128) (k : Fin 2816) :
    iblk m c 4 t (ix2 r k) = if r.val % 4 < 1 then ST m c (ix4 (bOf r) 0 1 k) else (0 : EReal) := by
  rw [ib4, V37]
  refine (flat _ _ r k).trans ?_
  by_cases h : r.val % 4 < 1
  · rw [if_pos h]
    pointwise [st3]
    rw [dif_pos (show (nOf r).val < 1 from h)]
    exact congrArg (fun u : Fin 2 => ST m c (ix4 (bOf r) 0 u k)) (Fin.ext (by show 1 + r.val % 4 = 1; omega))
  · rw [if_neg h]
    pointwise [st3]
    rw [dif_neg (show ¬ (nOf r).val < 1 from h)]

end Cert.Kernel5Ideal.Fin
end
-- ==== Proof.F.Vals.lean ====
module

public import proofs.«01_k».proof.Proof.F.Blk

@[expose] public section

set_option maxRecDepth 8192
set_option maxHeartbeats 1000000

/-! What the call and the lines after it leave in the two results, as functions of the arguments. -/

noncomputable section

namespace Cert.Kernel5Ideal.Fin

open Cert.Kernel5Ideal Cert.Kernel5Ideal.Gen Cert.FinSpec
open Idealize.ShloMosaic Idealize.ShloMosaic.TcCoe Cert.FinSpec.Smp Idealize.ShloMosaic.Pipeline

variable (m : (ℓ : Loc nD τ sig) → Buf (Elt Ideal) ℓ) (c : Dev nD)

theorem hrow_eq (t : Fin cfg0.N) (r : Fin 128) : hrow (bk m c t) r = Smp.Hs (W m c) (X m c) (OA m c) (OB m c) (bOf r) (nOf r) := by
  have ex : (fun k => (bk m c t).x (ix2 r k)) = fun k => X m c (ix3 (bOf r) (nOf r) k) := funext fun k => b_x m c t r k
  have ea : (fun k => (bk m c t).oa (ix2 r k)) = fun k => OA m c (ix3 (bOf r) (nOf r) k) := funext fun k => b_oa m c t r k
  have eo : (fun k => (bk m c t).ob (ix2 r k)) = fun k => OB m c (ix3 (bOf r) (nOf r) k) := funext fun k => b_ob m c t r k
  funext j
  unfold hrow Smp.Hs
  rw [h1_apply, wt_eq, ex, ea, eo]

theorem pv1_eq (t : Fin cfg0.N) (r : Fin 128) : pv1 (bk m c t) r = Smp.P1 (W m c) (X m c) (OA m c) (OB m c) (ST m c) (bOf r) (nOf r) := by
  funext j
  have hc : (bk m c t).c1 (ix2 r j) = _ := b_c1 m c t r j
  unfold pv1 Smp.P1
  rw [hc]
  by_cases h : r.val % 4 < 1
  · rw [if_pos h, if_pos h, if_pos (show (nOf r).val < 1 from h)]
    exact zero_add _
  · rw [if_neg h, if_neg h, if_neg (show ¬ (nOf r).val < 1 from h), wt_eq, hrow_eq]
    have eb : bOf ⟨r.val - 1, by omega⟩ = bOf r := Fin.ext (by show (r.val - 1) / 4 = r.val / 4; omega)
    have en : nOf ⟨r.val - 1, by omega⟩ = ⟨(nOf r).val - 1, by omega⟩ := Fin.ext (by show (r.val - 1) % 4 = r.val % 4 - 1; omega)
    rw [eb, en]
    exact add_zero _

theorem pv2_eq (t : Fin cfg0.N) (r : Fin 128) : pv2 (bk m c t) r = Smp.P2 (W m c) (X m c) (OA m c) (OB m c) (ST m c) (bOf r) (nOf r) := by
  funext j
  have hc : (bk m c t).c0 (ix2 r j) = _ := b_c0 m c t r j
  unfold pv2 Smp.P2
  rw [hc]
  by_cases h : r.val % 4 < 2
  · rw [if_pos h, dif_pos h, dif_pos (show (nOf r).val < 2 from h)]
    exact zero_add _
  · rw [if_neg h, dif_neg h, dif_neg (show ¬ (nOf r).val < 2 from h), wt_eq, hrow_eq]
    have eb : bOf ⟨r.val - 2, by omega⟩ = bOf r := Fin.ext (by show (r.val - 2) / 4 = r.val / 4; omega)
    have en : nOf ⟨r.val - 2, by omega⟩ = ⟨(nOf r).val - 2, by omega⟩ := Fin.ext (by show (r.val - 2) % 4 = r.val % 4 - 2; omega)
    rw [eb, en]
    exact add_zero _

/-- The layer's output, the convolution's inputs and the state they leave. -/
def G18 : (S128x1024).Idx → Ideal .f32 := fun i => Smp.Ys (W m c) (X m c) (OA m c) (OB m c) (ST m c) (bOf (i 0)) (nOf (i 0)) (i 1)
def G19 : (S128x2816).Idx → Ideal .f32 := fun i => aR (W m c) (Smp.Hs (W m c) (X m c) (OA m c) (OB m c) (bOf (i 0)) (nOf (i 0))) (i 1)
def G41 : (S32x2x2816).Idx → Ideal .f32 := fun i => Smp.Ts (W m c) (X m c) (OA m c) (OB m c) (i 0) (i 1) (i 2)

theorem zero_lt : 0 < cfg0.N := by rw [show cfg0.N = 1 from N_0]; decide

theorem final18 : (dats m 0 c).arrAt 18 cfg0.N = G18 m c := by
  refine (dats m 0 c).arrAt_eq_of_cover 18 (G18 m c) (fun t _ => funext fun y => ?_) (fun i => ⟨⟨0, zero_lt⟩, flush0_18 _, ?_⟩)
  · show (dats m 0 c).after 18 t y = G18 m c ((win0_18.rect t).emb y)
    rw [em18, after0_18, outs18]
    obtain ⟨r, j, rfl⟩ : ∃ (r : Fin 128) (j : Fin 1024), y = ix2 r j := ⟨y 0, y 1, eq_ix2 y⟩
    rw [outY_apply, wt_eq, hrow_eq, pv1_eq, pv2_eq]
    rfl
  · have e : i = ((cfg0.win 18).blk ⟨0, zero_lt⟩).view.emb i := (em18 ⟨0, zero_lt⟩ i).symm
    rw [e]
    exact View.emb_mem_set _ _

theorem final19 : (dats m 0 c).arrAt 19 cfg0.N = G19 m c := by
  refine (dats m 0 c).arrAt_eq_of_cover 19 (G19 m c) (fun t _ => funext fun y => ?_) (fun i => ⟨⟨0, zero_lt⟩, flush0_19 _, ?_⟩)
  · show (dats m 0 c).after 19 t y = G19 m c ((win0_19.rect t).emb y)
    rw [em19, after0_19, outs19]
    obtain ⟨r, j, rfl⟩ : ∃ (r : Fin 128) (j : Fin 2816), y = ix2 r j := ⟨y 0, y 1, eq_ix2 y⟩
    rw [outA_apply, wt_eq, hrow_eq]
    rfl
  · have e : i = ((cfg0.win 19).blk ⟨0, zero_lt⟩).view.emb i := (em19 ⟨0, zero_lt⟩ i).symm
    rw [e]
    exact View.emb_mem_set _ _

/-- The lines after the call: the state's rows and the convolution's inputs, and of these the last two of each sample. -/
theorem tail41 (U : Valuation τ sig (Elt Ideal)) : StableHlo.after hostOps1 U (Proc.devRef .tc main_v41)
    = extractStridedSlice S32x2x2816 ![0, 4, 0] (concatenate S32x6x2816 1 [⟨S32x2x2816, U (Proc.devRef .tc main_v26)⟩, ⟨S32x4x2816, shapeCast S32x4x2816 (U (Proc.devRef .tc main_v38_1)) shapeCasts_S128x2816_S32x4x2816⟩] concatenates_S32x2x2816_S32x4x2816_S32x6x2816_d1) slices_S32x6x2816_S32x2x2816_0_4_0 := by
  after_results_simp <;> rfl

theorem last2 (s : FVec Ideal S32x2x2816 .f32) (a : FVec Ideal S128x2816 .f32) (b : Fin 32) (u : Fin 2) (j : Fin 2816) :
    extractStridedSlice S32x2x2816 ![0, 4, 0] (concatenate S32x6x2816 1 [⟨S32x2x2816, s⟩, ⟨S32x4x2816, shapeCast S32x4x2816 a shapeCasts_S128x2816_S32x4x2816⟩] concatenates_S32x2x2816_S32x4x2816_S32x6x2816_d1) slices_S32x6x2816_S32x2x2816_0_4_0 (ix3 b u j)
      = a (ix2 ⟨4 * b.val + (2 + u.val), by omega⟩ j) := by
  have h : ∀ n : Fin 4, n.val = 2 + u.val → shapeCast S32x4x2816 a shapeCasts_S128x2816_S32x4x2816 (ix3 b n j) = a (ix2 ⟨4 * b.val + (2 + u.val), by omega⟩ j) := by
    intro n hn
    refine shapeCast_apply _ _ _ _ ?_
    rw [Shape.rowMajor_val_three, Shape.rowMajor_val_two]
    show (4 * b.val + (2 + u.val)) * 2816 + j.val = (b.val * 4 + n.val) * 2816 + j.val
    omega
  generalize shapeCast S32x4x2816 a shapeCasts_S128x2816_S32x4x2816 = z at h
  pointwise
  rw [dif_neg (by omega)]
  exact h _ (by show 4 + u.val - 2 = 2 + u.val; omega)

theorem final41 : Pipeline.afterTail₀ cfgs (dats m) 0 (V0 m) [hostOps1] c main_v41 = G41 m c := by
  unfold Pipeline.afterTail₀
  rw [show [hostOps1 (F := Ideal)].flatten = hostOps1 from List.append_nil _, tail41]
  have e : Pipeline.withArrays (cfgs 0).spec c (V0 m c) (fun w => (dats m 0 c).arrAt w (cfgs 0).N) (Proc.devRef .tc main_v38_1) = G19 m c :=
    (Pipeline.withArrays_arr (cfgs 0).spec (by decide +kernel) c (V0 m c) (fun w => (dats m 0 c).arrAt w (cfgs 0).N) 19).trans (final19 m c)
  rw [e]
  funext i
  obtain ⟨b, u, j, rfl⟩ : ∃ (b : Fin 32) (u : Fin 2) (j : Fin 2816), i = ix3 b u j := ⟨i 0, i 1, i 2, eq_ix3 i⟩
  rw [last2]
  have eb : bOf ⟨4 * b.val + (2 + u.val), by omega⟩ = b := Fin.ext (by show (4 * b.val + (2 + u.val)) / 4 = b.val; omega)
  have en : nOf ⟨4 * b.val + (2 + u.val), by omega⟩ = ⟨2 + u.val, by omega⟩ := Fin.ext (by show (4 * b.val + (2 + u.val)) % 4 = 2 + u.val; omega)
  show aR (W m c) (Smp.Hs (W m c) (X m c) (OA m c) (OB m c) (bOf ⟨4 * b.val + (2 + u.val), _⟩) (nOf ⟨4 * b.val + (2 + u.val), _⟩)) j = _
  rw [eb, en]
  rfl

/-- The run: each result as a function of the arguments, and the arguments end unchanged. -/
theorem vals (ρ : Dev nD → PrngReg) : θ_run defs (onTc (τ := τ) (main (F := Ideal))) ⟨m, fun _ => 0, ρ⟩ (fun r => ∀ c : Dev nD,
      r.2.mem ((c.tc : Thread nD τ).loc main_v38_0) = G18 m c
      ∧ r.2.mem ((c.tc : Thread nD τ).loc main_v41) = G41 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨((h.2 c).1 18).trans (final18 m c),
      ((h.2 c).2 main_v41 (Pipeline.mem_restRefs_of main_v41 rfl (by decide +kernel))).trans (final41 m c), h.1 c⟩)
    (θ_run_and (unchanged m ρ) (run_main m ρ))

end Cert.Kernel5Ideal.Fin
end
-- ==== Proof.F.RefElem.lean ====
module

public import proofs.«01_k».proof.Proof.F.Spec
public import proofs.«01_k».proof.Proof.Gen.Reference5Ideal.Run
public import Idealize.ShloMosaic.Lib.Pointwise

@[expose] public section

set_option maxRecDepth 8192
set_option maxHeartbeats 1000000

/-! The reference's operations over the extended reals, read at an index. -/

noncomputable section

namespace Cert.Reference5Ideal.Rx

open Cert.Reference5Ideal Cert.Reference5Ideal.Gen Cert.Reference5Ideal.Value Cert.FinSpec
open Idealize.ShloMosaic Idealize.ShloMosaic.TcCoe

/-! The roots of two. -/

theorem two : Ideal.ofBits .f32 0x40000000#32 = ((2 : ℝ) : EReal) := by
  simp [Ideal.ofBits, Ideal.ieee, -EReal.coe_mul]; norm_num

/-- The root of two, and its root. -/
def sq2 : FVec Ideal S_ .f32 := Host.sqrt (constant S_ .f32 0x40000000#32)
def al : FVec Ideal S_ .f32 := Host.sqrt sq2

theorem sq2_apply (i : S_.Idx) : sq2 i = ((Real.sqrt 2 : ℝ) : EReal) := by
  show Ideal.sqrt (Ideal.ofBits .f32 0x40000000#32) = _
  rw [two, Ideal.sqrt_coe, if_neg (by norm_num)]

theorem al_apply (i : S_.Idx) : al i = alpha := by
  show Ideal.sqrt (sq2 i) = _
  rw [sq2_apply, Ideal.sqrt_coe, if_neg (not_lt.mpr (Real.sqrt_nonneg 2))]
  rfl

theorem div_sq2 (x : EReal) : Ideal.div x ((Real.sqrt 2 : ℝ) : EReal) = x * rsqrt2 := by
  rw [Ideal.div_coe (Real.sqrt_ne_zero'.mpr (by norm_num)), one_div]
  rfl

/-! The reference's steps. -/

/-- A row of weights along the columns. -/
def rowT (g : FVec Ideal S1x1024 .f32) : FVec Ideal S32x4x1024 .f32 :=
  broadcastInDim S32x4x1024 ![0, 1, 2] bcast_S1x1x1024_S32x4x1024_0_1_2 (broadcastInDim S1x1x1024 ![2] bcast_S1024_S1x1x1024_2 (shapeCast _ g shapeCasts_S1x1024_S1024))

theorem rowT_apply (g : FVec Ideal S1x1024 .f32) (b : Fin 32) (n : Fin 4) (j : Fin 1024) : rowT g (ix3 b n j) = g (ix2 0 j) := by
  unfold rowT
  pointwise

/-- The rows' means. -/
def meanT (z : FVec Ideal S32x4x1024 .f32) : FVec Ideal S32x4x1 .f32 :=
  Host.divf (broadcastInDim S32x4x1 ![0, 1] bcast_S32x4_S32x4x1_0_1 (Host.reduceAdd z (constant S_ .f32 0x00000000#32) reducesTo_S32x4x1024_S32x4_d2 h_S_)) (broadcastInDim S32x4x1 ![] bcast_S_S32x4x1 (constant S_ .f32 0x44800000#32))

theorem meanT_apply (z : FVec Ideal S32x4x1024 .f32) (b : Fin 32) (n : Fin 4) : meanT z (ix3 b n 0) = mean fun k => z (ix3 b n k) := by
  unfold meanT mean
  pointwise
  rfl

/-- Layer normalisation. -/
def lnT (z : FVec Ideal S32x4x1024 .f32) (g b : FVec Ideal S1x1024 .f32) : FVec Ideal S32x4x1024 .f32 :=
  let d := subf z (broadcastInDim S32x4x1024 ![0, 1, 2] bcast_S32x4x1_S32x4x1024_0_1_2 (meanT z))
  addf (mulf (mulf d (broadcastInDim S32x4x1024 ![0, 1, 2] bcast_S32x4x1_S32x4x1024_0_1_2 (Host.rsqrt (addf (meanT (mulf d d)) (broadcastInDim S32x4x1 ![] bcast_S_S32x4x1 (constant S_ .f32 0x3727C5AC#32)))))) (rowT g)) (rowT b)

theorem lnT_apply (z : FVec Ideal S32x4x1024 .f32) (g be : FVec Ideal S1x1024 .f32) (b : Fin 32) (n : Fin 4) (j : Fin 1024) :
    lnT z g be (ix3 b n j) = lnR (fun k => z (ix3 b n k)) (fun k => g (ix2 0 k)) (fun k => be (ix2 0 k)) j := by
  unfold lnT lnR
  pointwise [meanT_apply, rowT_apply]
  rfl

/-- The projection. -/
def pr (x : FVec Ideal S32x4x1024 .f32) (w : FVec Ideal S1x1024x5632 .f32) : FVec Ideal S32x4x5632 .f32 :=
  Host.dotGeneral dot_S32x4x1024_S1024x5632_S32x4x5632_2_0_01_1_n_n none x (shapeCast _ w shapeCasts_S1x1024x5632_S1024x5632)

theorem pr_apply (x : FVec Ideal S32x4x1024 .f32) (w : FVec Ideal S1x1024x5632 .f32) (b : Fin 32) (n : Fin 4) (j : Fin 5632) :
    pr x w (ix3 b n j) = ∑ k : Fin 1024, x (ix3 b n k) * w (ix3 0 k j) := by
  unfold pr
  pointwise

/-- A branch's projection. -/
def brT (x : FVec Ideal S32x4x512 .f32) (w : FVec Ideal S1x512x1024 .f32) : FVec Ideal S32x4x1024 .f32 :=
  Host.dotGeneral dot_S32x4x512_S512x1024_S32x4x1024_2_0_01_1_n_n none x (shapeCast _ w shapeCasts_S1x512x1024_S512x1024)

theorem brT_apply (x : FVec Ideal S32x4x512 .f32) (w : FVec Ideal S1x512x1024 .f32) (b : Fin 32) (n : Fin 4) (j : Fin 1024) :
    brT x w (ix3 b n j) = ∑ k : Fin 512, x (ix3 b n k) * w (ix3 0 k j) := by
  unfold brT
  pointwise

/-- The sigmoid, written out. -/
def sgT (z : FVec Ideal S32x4x1024 .f32) : FVec Ideal S32x4x1024 .f32 :=
  Host.divf (broadcastInDim S32x4x1024 ![] bcast_S_S32x4x1024 (constant S_ .f32 0x3F800000#32)) (addf (broadcastInDim S32x4x1024 ![] bcast_S_S32x4x1024 (constant S_ .f32 0x3F800000#32)) (Host.exp (Host.negf z)))

theorem sgT_apply (z : FVec Ideal S32x4x1024 .f32) (b : Fin 32) (n : Fin 4) (j : Fin 1024) : sgT z (ix3 b n j) = Ideal.logistic (z (ix3 b n j)) := by
  unfold sgT
  pointwise
  rfl

/-- The gate of the recurrence's outputs. -/
def siT (z : FVec Ideal S32x4x512 .f32) : FVec Ideal S32x4x512 .f32 :=
  mulf z (Host.divf (broadcastInDim S32x4x512 ![] bcast_S_S32x4x512 (constant S_ .f32 0x3F800000#32)) (addf (broadcastInDim S32x4x512 ![] bcast_S_S32x4x512 (constant S_ .f32 0x3F800000#32)) (Host.exp (Host.negf z))))

theorem siT_apply (z : FVec Ideal S32x4x512 .f32) (b : Fin 32) (n : Fin 4) (j : Fin 512) :
    siT z (ix3 b n j) = z (ix3 b n j) * Ideal.logistic (z (ix3 b n j)) := by
  unfold siT
  pointwise
  rfl

/-- The recurrence's outputs by heads. -/
def hd (o : FVec Ideal S32x4x512 .f32) : FVec Ideal S32x4x4x128 .f32 := shapeCast _ o shapeCasts_S32x4x512_S32x4x4x128

theorem hd_apply (o : FVec Ideal S32x4x512 .f32) (b : Fin 32) (n : Fin 4) (h : Fin 4) (l : Fin 128) :
    hd o (ix4 b n h l) = o (ix3 b n ⟨128 * h.val + l.val, by omega⟩) := by
  unfold hd
  refine shapeCast_apply _ _ _ _ ?_
  rw [Shape.rowMajor_val_three, Shape.rowMajor_val_four]
  show (b.val * 4 + n.val) * 512 + (128 * h.val + l.val) = ((b.val * 4 + n.val) * 4 + h.val) * 128 + l.val
  omega

/-- Each head's lanes over their root mean square. -/
def rmT (o : FVec Ideal S32x4x4x128 .f32) (g : FVec Ideal S1x128 .f32) : FVec Ideal S32x4x4x128 .f32 :=
  mulf (mulf o (broadcastInDim S32x4x4x128 ![0, 1, 2, 3] bcast_S32x4x4x1_S32x4x4x128_0_1_2_3 (Host.rsqrt (addf (Host.divf (broadcastInDim S32x4x4x1 ![0, 1, 2] bcast_S32x4x4_S32x4x4x1_0_1_2 (Host.reduceAdd (mulf o o) (constant S_ .f32 0x00000000#32) reducesTo_S32x4x4x128_S32x4x4_d3 h_S_)) (broadcastInDim S32x4x4x1 ![] bcast_S_S32x4x4x1 (constant S_ .f32 0x43000000#32))) (broadcastInDim S32x4x4x1 ![] bcast_S_S32x4x4x1 (constant S_ .f32 0x3727C5AC#32)))))) (broadcastInDim S32x4x4x128 ![0, 1, 2, 3] bcast_S1x1x1x128_S32x4x4x128_0_1_2_3 (broadcastInDim S1x1x1x128 ![3] bcast_S128_S1x1x1x128_3 (shapeCast _ g shapeCasts_S1x128_S128)))

theorem rmT_apply (o : FVec Ideal S32x4x4x128 .f32) (g : FVec Ideal S1x128 .f32) (b : Fin 32) (n : Fin 4) (h : Fin 4) (l : Fin 128) :
    rmT o g (ix4 b n h l) = rmsR (fun k => o (ix4 b n h k)) (fun k => g (ix2 0 k)) l := by
  unfold rmT rmsR
  pointwise
  rfl

/-- The recurrence's outputs, normalised and gated. -/
def obT (o : FVec Ideal S32x4x512 .f32) (g : FVec Ideal S1x128 .f32) (p : FVec Ideal S32x4x5632 .f32) : FVec Ideal S32x4x512 .f32 :=
  mulf (shapeCast _ (rmT (hd o) g) shapeCasts_S32x4x4x128_S32x4x512) (siT (extractStridedSlice S32x4x512 ![0, 0, 3072] p slices_S32x4x5632_S32x4x512_0_0_3072))

theorem flatHd (z : FVec Ideal S32x4x4x128 .f32) (b : Fin 32) (n : Fin 4) (j : Fin 512) :
    shapeCast S32x4x512 z shapeCasts_S32x4x4x128_S32x4x512 (ix3 b n j) = z (ix4 b n ⟨j.val / 128, by omega⟩ ⟨j.val % 128, by omega⟩) := by
  refine shapeCast_apply _ _ _ _ ?_
  rw [Shape.rowMajor_val_three, Shape.rowMajor_val_four]
  show ((b.val * 4 + n.val) * 4 + j.val / 128) * 128 + j.val % 128 = (b.val * 4 + n.val) * 512 + j.val
  omega

theorem obT_apply (o : FVec Ideal S32x4x512 .f32) (g : FVec Ideal S1x128 .f32) (p : FVec Ideal S32x4x5632 .f32) (b : Fin 32) (n : Fin 4) (j : Fin 512) :
    obT o g p (ix3 b n j) = rmsR (fun l => o (ix3 b n ⟨128 * (j.val / 128) + l.val, by omega⟩)) (fun k => g (ix2 0 k)) ⟨j.val % 128, by omega⟩
      * (p (ix3 b n ⟨3072 + j.val, by omega⟩) * Ideal.logistic (p (ix3 b n ⟨3072 + j.val, by omega⟩))) := by
  have e : (fun k => hd o (ix4 b n ⟨j.val / 128, by omega⟩ k)) = fun l : Fin 128 => o (ix3 b n ⟨128 * (j.val / 128) + l.val, by omega⟩) := funext fun l => hd_apply o b n _ l
  show shapeCast S32x4x512 (rmT (hd o) g) shapeCasts_S32x4x4x128_S32x4x512 (ix3 b n j) * siT _ (ix3 b n j) = _
  rw [flatHd, rmT_apply, e, siT_apply]
  pointwise

/-- The branches, gated and added, and projected into the residual stream. -/
def mxT (x : FVec Ideal S32x4x1024 .f32) (oa : FVec Ideal S32x4x512 .f32) (obn : FVec Ideal S32x4x512 .f32) (p : FVec Ideal S32x4x5632 .f32)
    (wa wb : FVec Ideal S1x512x1024 .f32) (wo : FVec Ideal S1x1024x1024 .f32) : FVec Ideal S32x4x1024 .f32 :=
  addf (mulf (broadcastInDim S32x4x1024 ![] bcast_S_S32x4x1024 al) x)
    (Host.dotGeneral dot_S32x4x1024_S1024x1024_S32x4x1024_2_0_01_1_n_n none
      (addf (mulf (sgT (extractStridedSlice S32x4x1024 ![0, 0, 3584] p slices_S32x4x5632_S32x4x1024_0_0_3584)) (brT oa wa))
        (mulf (sgT (extractStridedSlice S32x4x1024 ![0, 0, 4608] p slices_S32x4x5632_S32x4x1024_0_0_4608)) (brT obn wb)))
      (shapeCast _ wo shapeCasts_S1x1024x1024_S1024x1024))

theorem mxT_apply (x : FVec Ideal S32x4x1024 .f32) (oa : FVec Ideal S32x4x512 .f32) (obn : FVec Ideal S32x4x512 .f32) (p : FVec Ideal S32x4x5632 .f32)
    (wa wb : FVec Ideal S1x512x1024 .f32) (wo : FVec Ideal S1x1024x1024 .f32) (b : Fin 32) (n : Fin 4) (j : Fin 1024) :
    mxT x oa obn p wa wb wo (ix3 b n j) = alpha * x (ix3 b n j) + ∑ k : Fin 1024,
      (Ideal.logistic (p (ix3 b n ⟨3584 + k.val, by omega⟩)) * (∑ i : Fin 512, oa (ix3 b n i) * wa (ix3 0 i k))
        + Ideal.logistic (p (ix3 b n ⟨4608 + k.val, by omega⟩)) * (∑ i : Fin 512, obn (ix3 b n i) * wb (ix3 0 i k))) * wo (ix3 0 k j) := by
  unfold mxT
  pointwise [al_apply, sgT_apply, brT_apply]

/-- The convolution's input, the state's two rows before it. -/
def zp (st : FVec Ideal S32x1x2x2816 .f32) (up : FVec Ideal S32x4x5632 .f32) : FVec Ideal S32x6x2816 .f32 :=
  concatenate S32x6x2816 1 [⟨S32x2x2816, (shapeCast _ st shapeCasts_S32x1x2x2816_S32x2x2816)⟩, ⟨S32x4x2816, (extractStridedSlice S32x4x2816 ![0, 0, 0] up slices_S32x4x5632_S32x4x2816_0_0_0)⟩] concatenates_S32x2x2816_S32x4x2816_S32x6x2816_d1

theorem zp_apply (st : FVec Ideal S32x1x2x2816 .f32) (up : FVec Ideal S32x4x5632 .f32) (b : Fin 32) (n : Fin 6) (j : Fin 2816) :
    zp st up (ix3 b n j) = if h : n.val < 2 then st (ix4 b 0 ⟨n.val, h⟩ j) else up (ix3 b ⟨n.val - 2, by omega⟩ ⟨j.val, by omega⟩) := by
  unfold zp
  pointwise

/-- A row of 2816 along the columns. -/
def rowC (g : FVec Ideal S1x2816 .f32) : FVec Ideal S32x4x2816 .f32 :=
  broadcastInDim S32x4x2816 ![0, 1, 2] bcast_S1x1x2816_S32x4x2816_0_1_2 (broadcastInDim S1x1x2816 ![2] bcast_S2816_S1x1x2816_2 (shapeCast _ g shapeCasts_S1x2816_S2816))
def rowK (g : FVec Ideal S1x1x2816 .f32) : FVec Ideal S32x4x2816 .f32 :=
  broadcastInDim S32x4x2816 ![0, 1, 2] bcast_S1x1x2816_S32x4x2816_0_1_2 (broadcastInDim S1x1x2816 ![2] bcast_S2816_S1x1x2816_2 (shapeCast _ g shapeCasts_S1x1x2816_S2816))

theorem rowC_apply (g : FVec Ideal S1x2816 .f32) (b : Fin 32) (n : Fin 4) (j : Fin 2816) : rowC g (ix3 b n j) = g (ix2 0 j) := by
  unfold rowC
  pointwise
theorem rowK_apply (g : FVec Ideal S1x1x2816 .f32) (b : Fin 32) (n : Fin 4) (j : Fin 2816) : rowK g (ix3 b n j) = g (ix3 0 0 j) := by
  unfold rowK
  pointwise

/-- The convolution. -/
def cT (st : FVec Ideal S32x1x2x2816 .f32) (up : FVec Ideal S32x4x5632 .f32) (cw : FVec Ideal S1x3x2816 .f32) (cb : FVec Ideal S1x2816 .f32) : FVec Ideal S32x4x2816 .f32 :=
  addf (rowC cb) (addf (addf (addf (broadcastInDim S32x4x2816 ![] bcast_S_S32x4x2816 (constant S_ .f32 0x00000000#32))
    (mulf (extractStridedSlice S32x4x2816 ![0, 0, 0] (zp st up) slices_S32x6x2816_S32x4x2816_0_0_0) (rowK (extractStridedSlice S1x1x2816 ![0, 0, 0] cw slices_S1x3x2816_S1x1x2816_0_0_0))))
    (mulf (extractStridedSlice S32x4x2816 ![0, 1, 0] (zp st up) slices_S32x6x2816_S32x4x2816_0_1_0) (rowK (extractStridedSlice S1x1x2816 ![0, 1, 0] cw slices_S1x3x2816_S1x1x2816_0_1_0))))
    (mulf (extractStridedSlice S32x4x2816 ![0, 2, 0] (zp st up) slices_S32x6x2816_S32x4x2816_0_2_0) (rowK (extractStridedSlice S1x1x2816 ![0, 2, 0] cw slices_S1x3x2816_S1x1x2816_0_2_0))))

theorem cT_apply (st : FVec Ideal S32x1x2x2816 .f32) (up : FVec Ideal S32x4x5632 .f32) (cw : FVec Ideal S1x3x2816 .f32) (cb : FVec Ideal S1x2816 .f32) (b : Fin 32) (n : Fin 4) (j : Fin 2816) :
    cT st up cw cb (ix3 b n j) = cb (ix2 0 j) + zp st up (ix3 b ⟨n.val, by omega⟩ j) * cw (ix3 0 0 j) + zp st up (ix3 b ⟨1 + n.val, by omega⟩ j) * cw (ix3 0 1 j)
      + zp st up (ix3 b ⟨2 + n.val, by omega⟩ j) * cw (ix3 0 2 j) := by
  unfold cT
  pointwise [rowC_apply, rowK_apply]
  exact (by intro q0 q1 q2 q3; rw [← add_assoc, ← add_assoc] : ∀ q0 q1 q2 q3 : EReal, q0 + (q1 + q2 + q3) = q0 + q1 + q2 + q3) _ _ _ _

/-- The feed-forward output into the residual stream. -/
def ffT (h : FVec Ideal S32x4x1024 .f32) (up : FVec Ideal S32x4x5632 .f32) (c : FVec Ideal S32x4x2816 .f32) (wd : FVec Ideal S1x2816x1024 .f32) : FVec Ideal S32x4x1024 .f32 :=
  addf (mulf (broadcastInDim S32x4x1024 ![] bcast_S_S32x4x1024 al) h) (Host.dotGeneral dot_S32x4x2816_S2816x1024_S32x4x1024_2_0_01_1_n_n none
    (mulf (mulf (mulf (broadcastInDim S32x4x2816 ![] bcast_S_S32x4x2816 (constant S_ .f32 0x3F000000#32)) c) (addf (broadcastInDim S32x4x2816 ![] bcast_S_S32x4x2816 (constant S_ .f32 0x3F800000#32)) (Host.erf (Host.divf c (broadcastInDim S32x4x2816 ![] bcast_S_S32x4x2816 sq2)))))
      (extractStridedSlice S32x4x2816 ![0, 0, 2816] up slices_S32x4x5632_S32x4x2816_0_0_2816)) (shapeCast _ wd shapeCasts_S1x2816x1024_S2816x1024))

theorem ffT_apply (h : FVec Ideal S32x4x1024 .f32) (up : FVec Ideal S32x4x5632 .f32) (c : FVec Ideal S32x4x2816 .f32) (wd : FVec Ideal S1x2816x1024 .f32)
    (b : Fin 32) (n : Fin 4) (j : Fin 1024) :
    ffT h up c wd (ix3 b n j) = alpha * h (ix3 b n j) + ∑ k : Fin 2816, acR (c (ix3 b n k)) (up (ix3 b n ⟨2816 + k.val, by omega⟩)) * wd (ix3 0 k j) := by
  unfold ffT
  pointwise [al_apply, sq2_apply, div_sq2]
  rfl

end Cert.Reference5Ideal.Rx
end
-- ==== Proof.F.RefRow.lean ====
module

public import proofs.«01_k».proof.Proof.F.RefElem

@[expose] public section

set_option maxRecDepth 8192
set_option maxHeartbeats 1000000

/-! The reference's layer after the mixer, row by row. -/

noncomputable section

namespace Cert.Reference5Ideal.Rx

open Cert.Reference5Ideal Cert.Reference5Ideal.Gen Cert.Reference5Ideal.Value Cert.FinSpec Cert.FinSpec.Smp
open Idealize.ShloMosaic Idealize.ShloMosaic.TcCoe

variable (x : FVec Ideal S32x4x1024 .f32) (oa ob : FVec Ideal S32x4x512 .f32) (wi : FVec Ideal S1x1024x5632 .f32) (ng : FVec Ideal S1x128 .f32)
  (wa wb : FVec Ideal S1x512x1024 .f32) (wo : FVec Ideal S1x1024x1024 .f32) (l1g l1b : FVec Ideal S1x1024 .f32) (wu : FVec Ideal S1x1024x5632 .f32)
  (cw : FVec Ideal S1x3x2816 .f32) (cb : FVec Ideal S1x2816 .f32) (wd : FVec Ideal S1x2816x1024 .f32) (l2g l2b : FVec Ideal S1x1024 .f32) (st : FVec Ideal S32x1x2x2816 .f32)

/-- The residual stream before and after its normalisation. -/
def zT : FVec Ideal S32x4x1024 .f32 := mxT x oa (obT ob ng (pr x wi)) (pr x wi) wa wb wo
def hT : FVec Ideal S32x4x1024 .f32 := lnT (zT x oa ob wi ng wa wb wo) l1g l1b

theorem gate (b : Fin 32) (n : Fin 4) (j : Fin 5632) (i : Fin 2560) (h : j.val = 3072 + i.val) :
    pr x wi (ix3 b n j) = gtR (mkW wi ng wa wb wo l1g l1b wu cw cb wd l2g l2b) (fun k => x (ix3 b n k)) i := by
  have e : j = ⟨3072 + i.val, by omega⟩ := Fin.ext h
  rw [e]
  exact pr_apply x wi b n _

theorem ob_apply (b : Fin 32) (n : Fin 4) (j : Fin 512) :
    obT ob ng (pr x wi) (ix3 b n j) = obR (mkW wi ng wa wb wo l1g l1b wu cw cb wd l2g l2b) (gtR (mkW wi ng wa wb wo l1g l1b wu cw cb wd l2g l2b) fun k => x (ix3 b n k)) (fun k => ob (ix3 b n k)) j := by
  rw [obT_apply, gate x wi ng wa wb wo l1g l1b wu cw cb wd l2g l2b b n _ ⟨j.val, by omega⟩ rfl]
  rfl

theorem zT_apply (b : Fin 32) (n : Fin 4) (j : Fin 1024) :
    zT x oa ob wi ng wa wb wo (ix3 b n j) = alpha * x (ix3 b n j) + ∑ k, mgR (mkW wi ng wa wb wo l1g l1b wu cw cb wd l2g l2b) (gtR (mkW wi ng wa wb wo l1g l1b wu cw cb wd l2g l2b) fun k => x (ix3 b n k)) (fun k => oa (ix3 b n k)) (fun k => ob (ix3 b n k)) k * wo (ix3 0 k j) := by
  unfold zT
  rw [mxT_apply]
  refine congrArg (alpha * x (ix3 b n j) + ·) (Finset.sum_congr rfl fun k _ => congrArg (· * wo (ix3 0 k j)) ?_)
  rw [gate x wi ng wa wb wo l1g l1b wu cw cb wd l2g l2b b n _ ⟨512 + k.val, by omega⟩ (by show 3584 + k.val = 3072 + (512 + k.val); omega),
    gate x wi ng wa wb wo l1g l1b wu cw cb wd l2g l2b b n _ ⟨1536 + k.val, by omega⟩ (by show 4608 + k.val = 3072 + (1536 + k.val); omega)]
  refine congrArg (_ + Ideal.logistic _ * ·) (Finset.sum_congr rfl fun i _ => congrArg (· * wb (ix3 0 i k)) ?_)
  exact ob_apply x ob wi ng wa wb wo l1g l1b wu cw cb wd l2g l2b b n i

theorem hT_apply (b : Fin 32) (n : Fin 4) (j : Fin 1024) :
    hT x oa ob wi ng wa wb wo l1g l1b (ix3 b n j) = Hs (mkW wi ng wa wb wo l1g l1b wu cw cb wd l2g l2b) x oa ob b n j := by
  unfold hT
  rw [lnT_apply]
  have e : (fun k => zT x oa ob wi ng wa wb wo (ix3 b n k)) = fun j => alpha * x (ix3 b n j) + ∑ k, mgR (mkW wi ng wa wb wo l1g l1b wu cw cb wd l2g l2b) (gtR (mkW wi ng wa wb wo l1g l1b wu cw cb wd l2g l2b) fun k => x (ix3 b n k)) (fun k => oa (ix3 b n k)) (fun k => ob (ix3 b n k)) k * wo (ix3 0 k j) :=
    funext fun k => zT_apply x oa ob wi ng wa wb wo l1g l1b wu cw cb wd l2g l2b b n k
  rw [e]
  rfl

/-- The up projection. -/
def uT : FVec Ideal S32x4x5632 .f32 := pr (hT x oa ob wi ng wa wb wo l1g l1b) wu

theorem uT_apply (b : Fin 32) (n : Fin 4) (j : Fin 5632) :
    uT x oa ob wi ng wa wb wo l1g l1b wu (ix3 b n j) = upR (mkW wi ng wa wb wo l1g l1b wu cw cb wd l2g l2b) (Hs (mkW wi ng wa wb wo l1g l1b wu cw cb wd l2g l2b) x oa ob b n) j := by
  unfold uT
  rw [pr_apply]
  exact Finset.sum_congr rfl fun k _ => congrArg (· * wu (ix3 0 k j)) (hT_apply x oa ob wi ng wa wb wo l1g l1b wu cw cb wd l2g l2b b n k)

/-- The convolution's input is the state before the start and the up projection's first half after it. -/
theorem zp_lo (b : Fin 32) (p : Fin 6) (j : Fin 2816) (h : p.val < 2) :
    zp st (uT x oa ob wi ng wa wb wo l1g l1b wu) (ix3 b p j) = st (ix4 b 0 ⟨p.val, h⟩ j) := by
  rw [zp_apply, dif_pos h]

theorem zp_hi (b : Fin 32) (p : Fin 6) (j : Fin 2816) (n : Fin 4) (h : p.val = n.val + 2) :
    zp st (uT x oa ob wi ng wa wb wo l1g l1b wu) (ix3 b p j) = aR (mkW wi ng wa wb wo l1g l1b wu cw cb wd l2g l2b) (Hs (mkW wi ng wa wb wo l1g l1b wu cw cb wd l2g l2b) x oa ob b n) j := by
  rw [zp_apply, dif_neg (by omega)]
  have e : (⟨p.val - 2, by omega⟩ : Fin 4) = n := Fin.ext (by show p.val - 2 = n.val; omega)
  rw [e]
  exact uT_apply x oa ob wi ng wa wb wo l1g l1b wu cw cb wd l2g l2b b n _

/-- The convolution. -/
def ccT : FVec Ideal S32x4x2816 .f32 := cT st (uT x oa ob wi ng wa wb wo l1g l1b wu) cw cb

theorem ccT_apply (b : Fin 32) (n : Fin 4) (j : Fin 2816) :
    ccT x oa ob wi ng wa wb wo l1g l1b wu cw cb st (ix3 b n j) = cR (mkW wi ng wa wb wo l1g l1b wu cw cb wd l2g l2b) (aR (mkW wi ng wa wb wo l1g l1b wu cw cb wd l2g l2b) (Hs (mkW wi ng wa wb wo l1g l1b wu cw cb wd l2g l2b) x oa ob b n)) (P1 (mkW wi ng wa wb wo l1g l1b wu cw cb wd l2g l2b) x oa ob st b n) (P2 (mkW wi ng wa wb wo l1g l1b wu cw cb wd l2g l2b) x oa ob st b n) j := by
  have e0 : zp st (uT x oa ob wi ng wa wb wo l1g l1b wu) (ix3 b ⟨n.val, by omega⟩ j) = P2 (mkW wi ng wa wb wo l1g l1b wu cw cb wd l2g l2b) x oa ob st b n j := by
    by_cases h : n.val < 2
    · rw [zp_lo x oa ob wi ng wa wb wo l1g l1b wu st b _ j h]
      unfold Smp.P2; rw [dif_pos h]
    · rw [zp_hi x oa ob wi ng wa wb wo l1g l1b wu cw cb wd l2g l2b st b _ j ⟨n.val - 2, by omega⟩ (by show n.val = n.val - 2 + 2; omega)]
      unfold Smp.P2; rw [dif_neg h]
  have e1 : zp st (uT x oa ob wi ng wa wb wo l1g l1b wu) (ix3 b ⟨1 + n.val, by omega⟩ j) = P1 (mkW wi ng wa wb wo l1g l1b wu cw cb wd l2g l2b) x oa ob st b n j := by
    by_cases h : n.val < 1
    · rw [zp_lo x oa ob wi ng wa wb wo l1g l1b wu st b _ j (by show 1 + n.val < 2; omega)]
      refine Eq.trans ?_ (if_pos h).symm
      exact congrArg (fun u : Fin 2 => st (ix4 b 0 u j)) (Fin.ext (by show 1 + n.val = 1; omega))
    · rw [zp_hi x oa ob wi ng wa wb wo l1g l1b wu cw cb wd l2g l2b st b _ j ⟨n.val - 1, by omega⟩ (by show 1 + n.val = n.val - 1 + 2; omega)]
      exact (if_neg h).symm
  unfold ccT
  rw [cT_apply, e0, e1, zp_hi x oa ob wi ng wa wb wo l1g l1b wu cw cb wd l2g l2b st b _ j n (by show 2 + n.val = n.val + 2; omega)]
  rfl

/-- The layer's output. -/
def yT : FVec Ideal S32x4x1024 .f32 :=
  lnT (ffT (hT x oa ob wi ng wa wb wo l1g l1b) (uT x oa ob wi ng wa wb wo l1g l1b wu) (ccT x oa ob wi ng wa wb wo l1g l1b wu cw cb st) wd) l2g l2b

theorem yT_apply (b : Fin 32) (n : Fin 4) (j : Fin 1024) :
    yT x oa ob wi ng wa wb wo l1g l1b wu cw cb wd l2g l2b st (ix3 b n j) = Ys (mkW wi ng wa wb wo l1g l1b wu cw cb wd l2g l2b) x oa ob st b n j := by
  unfold yT
  rw [lnT_apply]
  have e : (fun k => ffT (hT x oa ob wi ng wa wb wo l1g l1b) (uT x oa ob wi ng wa wb wo l1g l1b wu) (ccT x oa ob wi ng wa wb wo l1g l1b wu cw cb st) wd (ix3 b n k))
      = fun j => alpha * Hs (mkW wi ng wa wb wo l1g l1b wu cw cb wd l2g l2b) x oa ob b n j + ∑ k, fR (mkW wi ng wa wb wo l1g l1b wu cw cb wd l2g l2b) (Hs (mkW wi ng wa wb wo l1g l1b wu cw cb wd l2g l2b) x oa ob b n) (P1 (mkW wi ng wa wb wo l1g l1b wu cw cb wd l2g l2b) x oa ob st b n) (P2 (mkW wi ng wa wb wo l1g l1b wu cw cb wd l2g l2b) x oa ob st b n) k * wd (ix3 0 k j) := by
    funext k
    rw [ffT_apply, hT_apply x oa ob wi ng wa wb wo l1g l1b wu cw cb wd l2g l2b]
    refine congrArg (alpha * Hs (mkW wi ng wa wb wo l1g l1b wu cw cb wd l2g l2b) x oa ob b n k + ·) (Finset.sum_congr rfl fun i _ => congrArg (· * wd (ix3 0 i k)) ?_)
    rw [ccT_apply x oa ob wi ng wa wb wo l1g l1b wu cw cb wd l2g l2b st, uT_apply x oa ob wi ng wa wb wo l1g l1b wu cw cb wd l2g l2b]
    rfl
  rw [e]
  rfl

/-- The output row by row of the samples. -/
theorem rows_apply (g : Fin 128) (j : Fin 1024) :
    shapeCast S128x1024 (yT x oa ob wi ng wa wb wo l1g l1b wu cw cb wd l2g l2b st) shapeCasts_S32x4x1024_S128x1024 (ix2 g j)
      = Ys (mkW wi ng wa wb wo l1g l1b wu cw cb wd l2g l2b) x oa ob st ⟨g.val / 4, by omega⟩ ⟨g.val % 4, by omega⟩ j := by
  refine (shapeCast_apply _ _ _ (ix3 ⟨g.val / 4, by omega⟩ ⟨g.val % 4, by omega⟩ j) ?_).trans (yT_apply x oa ob wi ng wa wb wo l1g l1b wu cw cb wd l2g l2b st _ _ j)
  rw [Shape.rowMajor_val_two, Shape.rowMajor_val_three]
  show (g.val / 4 * 4 + g.val % 4) * 1024 + j.val = g.val * 1024 + j.val
  omega

/-- The convolution's last two inputs. -/
theorem state_apply (b : Fin 32) (u : Fin 2) (j : Fin 2816) :
    extractStridedSlice S32x2x2816 ![0, 4, 0] (zp st (uT x oa ob wi ng wa wb wo l1g l1b wu)) slices_S32x6x2816_S32x2x2816_0_4_0 (ix3 b u j) = Ts (mkW wi ng wa wb wo l1g l1b wu cw cb wd l2g l2b) x oa ob b u j := by
  have e : extractStridedSlice S32x2x2816 ![0, 4, 0] (zp st (uT x oa ob wi ng wa wb wo l1g l1b wu)) slices_S32x6x2816_S32x2x2816_0_4_0 (ix3 b u j)
      = zp st (uT x oa ob wi ng wa wb wo l1g l1b wu) (ix3 b ⟨4 + u.val, by omega⟩ j) := by
    pointwise
  rw [e, zp_hi x oa ob wi ng wa wb wo l1g l1b wu cw cb wd l2g l2b st b _ j ⟨2 + u.val, by omega⟩ (by show 4 + u.val = 2 + u.val + 2; omega)]
  rfl

end Cert.Reference5Ideal.Rx
end
-- ==== Proof.F.Alg.lean ====
module

public import proofs.«01_k».proof.Proof.F.RefRow

@[expose] public section

set_option maxRecDepth 8192
set_option maxHeartbeats 1000000

/-! The reference's results as functions of its arguments, the same that the kernel's are. -/

noncomputable section

namespace Cert.Reference5Ideal.Rx

open Cert.Reference5Ideal Cert.Reference5Ideal.Gen Cert.Reference5Ideal.Value Cert.FinSpec Cert.FinSpec.Smp
open Idealize.ShloMosaic Idealize.ShloMosaic.TcCoe

/-- The weights of a memory. -/
def RW (m : (ℓ : Loc nD τ sig) → Buf (Elt Ideal) ℓ) (c : Dev nD) : Wt :=
  mkW (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

/-- The results of a memory. -/
def R0 (m : (ℓ : Loc nD τ sig) → Buf (Elt Ideal) ℓ) (c : Dev nD) : (S128x1024).Idx → EReal := fun i =>
  Ys (RW m c) (m ((c.tc : Thread nD τ).loc main_arg0)) (m ((c.tc : Thread nD τ).loc main_arg1)) (m ((c.tc : Thread nD τ).loc main_arg2)) (m ((c.tc : Thread nD τ).loc main_arg3)) ⟨(i 0).val / 4, by have : (i 0).val < 128 := (i 0).isLt; omega⟩ ⟨(i 0).val % 4, by omega⟩ (i 1)
def R1 (m : (ℓ : Loc nD τ sig) → Buf (Elt Ideal) ℓ) (c : Dev nD) : (S32x2x2816).Idx → EReal := fun i =>
  Ts (RW m c) (m ((c.tc : Thread nD τ).loc main_arg0)) (m ((c.tc : Thread nD τ).loc main_arg1)) (m ((c.tc : Thread nD τ).loc main_arg2)) (i 0) (i 1) (i 2)

theorem fun0 (m : (ℓ : Loc nD τ sig) → Buf (Elt Ideal) ℓ) (c : Dev nD) :
    shapeCast S128x1024 (yT (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg3))) shapeCasts_S32x4x1024_S128x1024 = R0 m c := by
  funext i
  obtain ⟨g, j, rfl⟩ : ∃ (g : Fin 128) (j : Fin 1024), i = ix2 g j := ⟨i 0, i 1, eq_ix2 i⟩
  exact rows_apply _ _ _ _ _ _ _ _ _ _ _ _ _ _ _ _ _ g j

theorem fun1 (m : (ℓ : Loc nD τ sig) → Buf (Elt Ideal) ℓ) (c : Dev nD) :
    extractStridedSlice S32x2x2816 ![0, 4, 0] (zp (m ((c.tc : Thread nD τ).loc main_arg3)) (uT (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))) slices_S32x6x2816_S32x2x2816_0_4_0 = R1 m c := by
  funext i
  obtain ⟨b, u, j, rfl⟩ : ∃ (b : Fin 32) (u : Fin 2) (j : Fin 2816), i = ix3 b u j := ⟨i 0, i 1, i 2, eq_ix3 i⟩
  exact state_apply _ _ _ _ _ _ _ _ _ _ _ (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) _ b u j

/-- The reference's run, each result as a function of the arguments. -/
theorem vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v147) = R0 m c
      ∧ r.2.mem ((c.tc : Thread nD τ).loc main_v148) = R1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c => ⟨(h c).1.trans (fun0 m c),
      (h c).2.1.trans (fun1 m c), (h c).2.2⟩)
    (Cert.Reference5Ideal.Value.run (F := Ideal) m ρ)

end Cert.Reference5Ideal.Rx
end
-- ==== Proof.E.IModel.lean ====
module

public import proofs.«01_k».proof.Proof.Gen.Kernel4Ideal.Frame
public import Idealize.ShloMosaic.Lib.Pipeline.Value
public import Idealize.ShloMosaic.Lib.VecWindow

@[expose] public section

set_option maxRecDepth 16384
set_option maxHeartbeats 2000000

noncomputable section

namespace Cert.Kernel4Ideal.Ms

open Cert.Kernel4Ideal Cert.Kernel4Ideal.Gen
open Idealize.ShloMosaic Idealize.ShloMosaic.TcCoe

variable {F : FTy → Type} [FloatOps F]

/-! What the sample group's projection call leaves in its windows. -/

/-- A load of the whole block of rows. -/
def allX (x : Vec F S128x1024 .f32) : Vec F S128x1024 .f32 := fun y => x ((Rect.unit (s := S128x1024) ![0, 0] S128x1024.size inb_S128x1024_S128x1024_0_0).toLoadRect.idx y)

/-- A load of a whole table block. -/
def allT (x : Vec F S128x128 .f32) : Vec F S128x128 .f32 := fun y => x ((Rect.unit (s := S128x128) ![0, 0] S128x128.size inb_S128x128_S128x128_0_0).toLoadRect.idx y)

/-- Columns 512 to 1023 of the weights. -/
abbrev rW1 : Rect S1024x3072 := Rect.unit (s := S1024x3072) ![0, 512] S1024x512.size inb_S1024x3072_S1024x512_0_512

/-- Section 1 of the projection. -/
def sec1 (x : Vec F S128x1024 .f32) (w : Vec F S1024x3072 .bf16) : FVec F S128x512 .f32 :=
  matmul dot_S128x1024_S1024x512_S128x512_1_0_0_1_n_n none (truncf .bf16 (shapeCast S128x1024 (allX x) shapeCasts_S128x1024_S128x1024) bitsLt_bf16_f32)
    (shapeCast S1024x512 (fun y => w (rW1.toLoadRect.idx y)) shapeCasts_S1024x512_S1024x512) (constant S128x512 .f32 0x00000000#32)

/-- Columns 1024 to 1535 of the weights. -/
abbrev rW2 : Rect S1024x3072 := Rect.unit (s := S1024x3072) ![0, 1024] S1024x512.size inb_S1024x3072_S1024x512_0_1024

/-- Section 2 of the projection. -/
def sec2 (x : Vec F S128x1024 .f32) (w : Vec F S1024x3072 .bf16) : FVec F S128x512 .f32 :=
  matmul dot_S128x1024_S1024x512_S128x512_1_0_0_1_n_n none (truncf .bf16 (shapeCast S128x1024 (allX x) shapeCasts_S128x1024_S128x1024) bitsLt_bf16_f32)
    (shapeCast S1024x512 (fun y => w (rW2.toLoadRect.idx y)) shapeCasts_S1024x512_S1024x512) (constant S128x512 .f32 0x00000000#32)

/-- Columns 1536 to 2047 of the weights. -/
abbrev rW3 : Rect S1024x3072 := Rect.unit (s := S1024x3072) ![0, 1536] S1024x512.size inb_S1024x3072_S1024x512_0_1536

/-- Section 3 of the projection. -/
def sec3 (x : Vec F S128x1024 .f32) (w : Vec F S1024x3072 .bf16) : FVec F S128x512 .f32 :=
  matmul dot_S128x1024_S1024x512_S128x512_1_0_0_1_n_n none (truncf .bf16 (shapeCast S128x1024 (allX x) shapeCasts_S128x1024_S128x1024) bitsLt_bf16_f32)
    (shapeCast S1024x512 (fun y => w (rW3.toLoadRect.idx y)) shapeCasts_S1024x512_S1024x512) (constant S128x512 .f32 0x00000000#32)

/-- Columns 2560 to 3071 of the weights. -/
abbrev rW5 : Rect S1024x3072 := Rect.unit (s := S1024x3072) ![0, 2560] S1024x512.size inb_S1024x3072_S1024x512_0_2560

/-- Section 5 of the projection. -/
def sec5 (x : Vec F S128x1024 .f32) (w : Vec F S1024x3072 .bf16) : FVec F S128x512 .f32 :=
  matmul dot_S128x1024_S1024x512_S128x512_1_0_0_1_n_n none (truncf .bf16 (shapeCast S128x1024 (allX x) shapeCasts_S128x1024_S128x1024) bitsLt_bf16_f32)
    (shapeCast S1024x512 (fun y => w (rW5.toLoadRect.idx y)) shapeCasts_S1024x512_S1024x512) (constant S128x512 .f32 0x00000000#32)

/-- Head 0's slice of a section. -/
def head0 (a : FVec F S128x512 .f32) : FVec F S128x128 .f32 := extractStridedSlice S128x128 ![0, 0] a slices_S128x512_o0_0_S128x128

/-- Head 1's slice of a section. -/
def head1 (a : FVec F S128x512 .f32) : FVec F S128x128 .f32 := extractStridedSlice S128x128 ![0, 128] a slices_S128x512_o0_128_S128x128

/-- Head 2's slice of a section. -/
def head2 (a : FVec F S128x512 .f32) : FVec F S128x128 .f32 := extractStridedSlice S128x128 ![0, 256] a slices_S128x512_o0_256_S128x128

/-- Head 3's slice of a section. -/
def head3 (a : FVec F S128x512 .f32) : FVec F S128x128 .f32 := extractStridedSlice S128x128 ![0, 384] a slices_S128x512_o0_384_S128x128

/-- The lanes of the first half of each map: those whose partner is to the right. -/
def rotMask : IVec S128x128 1 :=
  let v10 : BitVec 32 := Scalar.select (Scalar.cmpi .eq 64#32 0#32) 1#32 64#32
  let r : IVec S128x128 32 := remsi (iota .tc S128x128 32 [1] iota_S128x128_d1_w32) (broadcast S128x128 v10)
  cmpi .slt
    (select (andi (xori (cmpi .slt r (broadcast S128x128 0#32)) (broadcastTo S128x128 (broadcast S128x128 (Scalar.cmpi .slt v10 0#32)) broadcasts_S128x128_S128x128))
      (cmpi .ne r (broadcast S128x128 0#32))) (addi r (broadcast S128x128 v10)) r) (broadcast S128x128 32#32)

/-- The rotary positions of one head: each lane with its partner. -/
def ropeH (a cos sin : FVec F S128x128 .f32) : FVec F S128x128 .f32 :=
  addf (mulf a cos) (mulf (select rotMask (dynamicRotate 1 96#32 none a rotates_S128x128_d1) (dynamicRotate 1 32#32 none a rotates_S128x128_d1)) sin)

/-- The rotated keys of the block. -/
def keys (x : Vec F S128x1024 .f32) (w : Vec F S1024x3072 .bf16) (cos sin : Vec F S128x128 .f32) : FVec F S128x512 .f32 :=
  let co := shapeCast S128x128 (allT cos) shapeCasts_S128x128_S128x128
  let si := shapeCast S128x128 (allT sin) shapeCasts_S128x128_S128x128
  concatenate S128x512 1 [⟨S128x128, ropeH (head0 (sec1 x w)) co si⟩, ⟨S128x128, ropeH (head1 (sec1 x w)) co si⟩, ⟨S128x128, ropeH (head2 (sec1 x w)) co si⟩, ⟨S128x128, ropeH (head3 (sec1 x w)) co si⟩] concatenates_S128x128_S128x128_S128x128_S128x128_S128x512_d1

theorem r0_5_full (x : Vec F S128x512 .f32) : View.canon [⟨r0_5, x⟩] = x := by
  funext y
  refine View.canon_apply_of_pieces (Val := Elt F) (e := .f32) x _ ?_ y (cover0_5 _ y)
  intro p hp z
  simp only [List.mem_cons, List.not_mem_nil, or_false] at hp
  subst hp
  refine congrArg x (Shape.idx_ext₂ ?_ ?_)
  · show (z 0).val = 0 + 1 * (z 0).val
    omega
  · show (z 1).val = 0 + 1 * (z 1).val
    omega

/-- The keys' window holds the rotated keys. -/
theorem out5_eq (x : Vec F S128x1024 .f32) (w : Vec F S1024x3072 .bf16) (cos sin : Vec F S128x128 .f32) (l : Vec F S2x512 .f32) :
    out0_5 x w cos sin l = keys x w cos sin := (r0_5_full _).trans rfl

/-- The values' window holds section 2. -/
theorem out6_eq (x : Vec F S128x1024 .f32) (w : Vec F S1024x3072 .bf16) (cos sin : Vec F S128x128 .f32) (l : Vec F S2x512 .f32) :
    out0_6 x w cos sin l = sec2 x w := (r0_5_full _).trans rfl

/-- The recurrence's queries' window holds section 3. -/
theorem out8_eq (x : Vec F S128x1024 .f32) (w : Vec F S1024x3072 .bf16) (cos sin : Vec F S128x128 .f32) (l : Vec F S2x512 .f32) :
    out0_8 x w cos sin l = sec3 x w := (r0_5_full _).trans rfl

/-- The recurrence's inputs' window holds section 5. -/
theorem out11_eq (x : Vec F S128x1024 .f32) (w : Vec F S1024x3072 .bf16) (cos sin : Vec F S128x128 .f32) (l : Vec F S2x512 .f32) :
    out0_11 x w cos sin l = sec5 x w := (r0_5_full _).trans rfl

end Cert.Kernel4Ideal.Ms
end
-- ==== Proof.E.Elem.lean ====
module

public import proofs.«01_k».proof.Proof.E.IModel
public import Idealize.ShloMosaic.Lib.Pointwise
public import Idealize.ShloMosaic.Lib.Pipeline.Value

@[expose] public section

set_option maxRecDepth 8192
set_option maxHeartbeats 1000000

/-! The sample group's block functions over the extended reals, read at an index. -/

noncomputable section

namespace Cert.Kernel4Ideal.Ms

open Cert.Kernel4Ideal Cert.Kernel4Ideal.Gen
open Idealize.ShloMosaic Idealize.ShloMosaic.TcCoe

/-- Section 1 at an index: the row of the block times the column of the weights. -/
theorem sec1_apply (x : Vec Ideal S128x1024 .f32) (w : Vec Ideal S1024x3072 .bf16) (r : Fin 128) (j : Fin 512) :
    sec1 x w (ix2 r j) = ∑ k : Fin 1024, x (ix2 r k) * w (ix2 k ⟨512 + j.val, by omega⟩) := by
  unfold sec1
  pointwise [allX, rW1]

/-- Section 2 at an index: the row of the block times the column of the weights. -/
theorem sec2_apply (x : Vec Ideal S128x1024 .f32) (w : Vec Ideal S1024x3072 .bf16) (r : Fin 128) (j : Fin 512) :
    sec2 x w (ix2 r j) = ∑ k : Fin 1024, x (ix2 r k) * w (ix2 k ⟨1024 + j.val, by omega⟩) := by
  unfold sec2
  pointwise [allX, rW2]

/-- Section 3 at an index: the row of the block times the column of the weights. -/
theorem sec3_apply (x : Vec Ideal S128x1024 .f32) (w : Vec Ideal S1024x3072 .bf16) (r : Fin 128) (j : Fin 512) :
    sec3 x w (ix2 r j) = ∑ k : Fin 1024, x (ix2 r k) * w (ix2 k ⟨1536 + j.val, by omega⟩) := by
  unfold sec3
  pointwise [allX, rW3]

/-- Section 5 at an index: the row of the block times the column of the weights. -/
theorem sec5_apply (x : Vec Ideal S128x1024 .f32) (w : Vec Ideal S1024x3072 .bf16) (r : Fin 128) (j : Fin 512) :
    sec5 x w (ix2 r j) = ∑ k : Fin 1024, x (ix2 r k) * w (ix2 k ⟨2560 + j.val, by omega⟩) := by
  unfold sec5
  pointwise [allX, rW5]

/-- Head 0's slice at an index. -/
theorem head0_apply (a : FVec Ideal S128x512 .f32) (r : Fin 128) (l : Fin 128) : head0 a (ix2 r l) = a (ix2 r ⟨0 + l.val, by omega⟩) := by
  unfold head0
  pointwise

/-- Head 1's slice at an index. -/
theorem head1_apply (a : FVec Ideal S128x512 .f32) (r : Fin 128) (l : Fin 128) : head1 a (ix2 r l) = a (ix2 r ⟨128 + l.val, by omega⟩) := by
  unfold head1
  pointwise

/-- Head 2's slice at an index. -/
theorem head2_apply (a : FVec Ideal S128x512 .f32) (r : Fin 128) (l : Fin 128) : head2 a (ix2 r l) = a (ix2 r ⟨256 + l.val, by omega⟩) := by
  unfold head2
  pointwise

/-- Head 3's slice at an index. -/
theorem head3_apply (a : FVec Ideal S128x512 .f32) (r : Fin 128) (l : Fin 128) : head3 a (ix2 r l) = a (ix2 r ⟨384 + l.val, by omega⟩) := by
  unfold head3
  pointwise

/-- The mask is set on the first half of each map's lanes. -/
theorem rotMask_apply (r : Fin 128) (l : Fin 128) : rotMask (ix2 r l) = if l.val % 64 < 32 then 1#1 else 0#1 := by
  unfold rotMask
  pointwise
  revert l
  decide +kernel

/-- The lane a lane is paired with. -/
def mate (l : Fin 128) : Fin 128 := if l.val % 64 < 32 then ⟨(l.val + 32) % 128, by omega⟩ else ⟨(l.val + 96) % 128, by omega⟩

/-- One head's rotation at an index. -/
theorem ropeH_apply (a cos sin : FVec Ideal S128x128 .f32) (r : Fin 128) (l : Fin 128) :
    ropeH a cos sin (ix2 r l) = a (ix2 r l) * cos (ix2 r l) + a (ix2 r (mate l)) * sin (ix2 r l) := by
  unfold ropeH mate
  pointwise
  rw [rotMask_apply]
  have hl := l.isLt
  by_cases h : l.val % 64 < 32
  · rw [if_pos h, if_pos h]
    have e : (l.val + 128 - 96) % 128 = (l.val + 32) % 128 := by omega
    simp only [Scalar.select, e]
    rfl
  · rw [if_neg h, if_neg h]
    have e : (l.val + 128 - 32) % 128 = (l.val + 96) % 128 := by omega
    simp only [Scalar.select, e]
    rfl

theorem keys_apply0 (x : Vec Ideal S128x1024 .f32) (w : Vec Ideal S1024x3072 .bf16) (cos sin : Vec Ideal S128x128 .f32) (r : Fin 128) (l : Fin 128) :
    keys x w cos sin (ix2 r ⟨0 + l.val, by omega⟩)
      = sec1 x w (ix2 r ⟨0 + l.val, by omega⟩) * cos (ix2 r l) + sec1 x w (ix2 r ⟨0 + (mate l).val, by omega⟩) * sin (ix2 r l) := by
  rw [← head0_apply (sec1 x w) r l, ← head0_apply (sec1 x w) r (mate l)]
  unfold keys
  refine Eq.trans (concatenate_apply_piece (t := S128x512) 1 _ _ _ 0 (by show 0 < 4; decide) S128x128 _ rfl rfl 0 rfl (ix2 r l) ?_ rfl) ?_
  · intro b hb
    match b, hb with
    | ⟨0, _⟩, _ => rfl
    | ⟨1, _⟩, hb => exact absurd rfl hb
  rw [ropeH_apply]
  congr 2
  · pointwise [allT]
  · pointwise [allT]

theorem keys_apply1 (x : Vec Ideal S128x1024 .f32) (w : Vec Ideal S1024x3072 .bf16) (cos sin : Vec Ideal S128x128 .f32) (r : Fin 128) (l : Fin 128) :
    keys x w cos sin (ix2 r ⟨128 + l.val, by omega⟩)
      = sec1 x w (ix2 r ⟨128 + l.val, by omega⟩) * cos (ix2 r l) + sec1 x w (ix2 r ⟨128 + (mate l).val, by omega⟩) * sin (ix2 r l) := by
  rw [← head1_apply (sec1 x w) r l, ← head1_apply (sec1 x w) r (mate l)]
  unfold keys
  refine Eq.trans (concatenate_apply_piece (t := S128x512) 1 _ _ _ 1 (by show 1 < 4; decide) S128x128 _ rfl rfl 128 rfl (ix2 r l) ?_ rfl) ?_
  · intro b hb
    match b, hb with
    | ⟨0, _⟩, _ => rfl
    | ⟨1, _⟩, hb => exact absurd rfl hb
  rw [ropeH_apply]
  congr 2
  · pointwise [allT]
  · pointwise [allT]

theorem keys_apply2 (x : Vec Ideal S128x1024 .f32) (w : Vec Ideal S1024x3072 .bf16) (cos sin : Vec Ideal S128x128 .f32) (r : Fin 128) (l : Fin 128) :
    keys x w cos sin (ix2 r ⟨256 + l.val, by omega⟩)
      = sec1 x w (ix2 r ⟨256 + l.val, by omega⟩) * cos (ix2 r l) + sec1 x w (ix2 r ⟨256 + (mate l).val, by omega⟩) * sin (ix2 r l) := by
  rw [← head2_apply (sec1 x w) r l, ← head2_apply (sec1 x w) r (mate l)]
  unfold keys
  refine Eq.trans (concatenate_apply_piece (t := S128x512) 1 _ _ _ 2 (by show 2 < 4; decide) S128x128 _ rfl rfl 256 rfl (ix2 r l) ?_ rfl) ?_
  · intro b hb
    match b, hb with
    | ⟨0, _⟩, _ => rfl
    | ⟨1, _⟩, hb => exact absurd rfl hb
  rw [ropeH_apply]
  congr 2
  · pointwise [allT]
  · pointwise [allT]

theorem keys_apply3 (x : Vec Ideal S128x1024 .f32) (w : Vec Ideal S1024x3072 .bf16) (cos sin : Vec Ideal S128x128 .f32) (r : Fin 128) (l : Fin 128) :
    keys x w cos sin (ix2 r ⟨384 + l.val, by omega⟩)
      = sec1 x w (ix2 r ⟨384 + l.val, by omega⟩) * cos (ix2 r l) + sec1 x w (ix2 r ⟨384 + (mate l).val, by omega⟩) * sin (ix2 r l) := by
  rw [← head3_apply (sec1 x w) r l, ← head3_apply (sec1 x w) r (mate l)]
  unfold keys
  refine Eq.trans (concatenate_apply_piece (t := S128x512) 1 _ _ _ 3 (by show 3 < 4; decide) S128x128 _ rfl rfl 384 rfl (ix2 r l) ?_ rfl) ?_
  · intro b hb
    match b, hb with
    | ⟨0, _⟩, _ => rfl
    | ⟨1, _⟩, hb => exact absurd rfl hb
  rw [ropeH_apply]
  congr 2
  · pointwise [allT]
  · pointwise [allT]

/-- The rotated keys at an index. -/
theorem keys_apply (x : Vec Ideal S128x1024 .f32) (w : Vec Ideal S1024x3072 .bf16) (cos sin : Vec Ideal S128x128 .f32) (r : Fin 128) (h : Fin 4) (l : Fin 128) :
    keys x w cos sin (ix2 r ⟨128 * h.val + l.val, by omega⟩)
      = sec1 x w (ix2 r ⟨128 * h.val + l.val, by omega⟩) * cos (ix2 r l) + sec1 x w (ix2 r ⟨128 * h.val + (mate l).val, by omega⟩) * sin (ix2 r l) := by
  fin_cases h
  · exact keys_apply0 x w cos sin r l
  · exact keys_apply1 x w cos sin r l
  · exact keys_apply2 x w cos sin r l
  · exact keys_apply3 x w cos sin r l

end Cert.Kernel4Ideal.Ms
end
-- ==== Proof.E.Spec.lean ====
module

public import Idealize.ShloMosaic.Lib.Pointwise

@[expose] public section

/-! The sample group's projection and its rotated keys, as functions of a sample, a position and a column. -/

noncomputable section

namespace Cert.SampleSpec

open Idealize.ShloMosaic

/-- Column `j` of the input projection at position `n` of sample `b`. -/
def Pr (x : (⟨3, ![32, 4, 1024]⟩ : Shape).Idx → EReal) (w : (⟨3, ![1, 1024, 5632]⟩ : Shape).Idx → EReal)
    (b : Fin 32) (n : Fin 4) (j : Fin 5632) : EReal :=
  ∑ k : Fin 1024, x (ix3 b n k) * w (ix3 0 k j)

/-- Column `j` of the keys, each half of a map's lanes rotated against the other. -/
def Kr (cs sn : (⟨2, ![4, 32]⟩ : Shape).Idx → EReal)
    (x : (⟨3, ![32, 4, 1024]⟩ : Shape).Idx → EReal) (w : (⟨3, ![1, 1024, 5632]⟩ : Shape).Idx → EReal)
    (b : Fin 32) (n : Fin 4) (j : Fin 512) : EReal :=
  if j.val % 64 < 32 then
    Pr x w b n ⟨512 + j.val, by omega⟩ * cs (ix2 n ⟨j.val % 32, by omega⟩) - Pr x w b n ⟨512 + (j.val + 32), by omega⟩ * sn (ix2 n ⟨j.val % 32, by omega⟩)
  else
    Pr x w b n ⟨512 + j.val, by omega⟩ * cs (ix2 n ⟨j.val % 32, by omega⟩) + Pr x w b n ⟨512 + (j.val - 32), by omega⟩ * sn (ix2 n ⟨j.val % 32, by omega⟩)

end Cert.SampleSpec
end
-- ==== Proof.E.Host.lean ====
module

public import proofs.«01_k».proof.Proof.E.Elem
public import proofs.«01_k».proof.Proof.E.Spec
public import Idealize.ShloMosaic.Lib.StableHlo.Run

@[expose] public section

set_option maxRecDepth 8192
set_option maxHeartbeats 1000000

/-! What the host hands the sample group's projection: the weights' columns, the rows of the samples one under
another, and the two rotary tables, whose row of a sample's position is the same for every sample. -/

noncomputable section

namespace Cert.Kernel4Ideal.Ms

open Cert.Kernel4Ideal Cert.Kernel4Ideal.Gen
open Idealize.ShloMosaic Idealize.ShloMosaic.TcCoe Idealize.ShloMosaic.StableHlo

/-- The four positions that follow the prompt. -/
def pos4 : FVec Ideal S4 .f32 := sitofp (F := Ideal) .f32 (addi (broadcastInDim S4 ![] bcast_S_S4 (constantI S_ 32 8192#32)) (iotaInDim S4 32 0))

/-- The rotary frequencies. -/
def freq : FVec Ideal S32 .f32 :=
  Host.powf (broadcastInDim S32 ![] bcast_S_S32 (constant (F := Ideal) S_ .f32 0x461C4000#32))
    (Host.divf (mulf (Host.negf (sitofp (F := Ideal) .f32 (iotaInDim S32 32 0))) (broadcastInDim S32 ![] bcast_S_S32 (constant (F := Ideal) S_ .f32 0x40000000#32)))
      (broadcastInDim S32 ![] bcast_S_S32 (constant (F := Ideal) S_ .f32 0x42800000#32)))

/-- The angles of the rows: the four positions, over and over, times the frequencies. -/
def angOf (p : FVec Ideal S4 .f32) (f : FVec Ideal S32 .f32) : FVec Ideal S128x32 .f32 :=
  mulf (broadcastInDim S128x32 ![0, 1] bcast_S128x1_S128x32_0_1 (broadcastInDim S128x1 ![0] bcast_S128_S128x1_0
      (shapeCast S128 (broadcastInDim S32x4 ![0, 1] bcast_S1x4_S32x4_0_1 (shapeCast S1x4 p shapeCasts_S4_S1x4)) shapeCasts_S32x4_S128)))
    (broadcastInDim S128x32 ![0, 1] bcast_S1x32_S128x32_0_1 (broadcastInDim S1x32 ![1] bcast_S32_S1x32_1 f))

/-- The angles of the four positions. -/
def Ang : FVec Ideal ⟨2, ![4, 32]⟩ .f32 := fun i => (pos4 (ix1 (i 0)) * freq (ix1 (i 1)) : EReal)

theorem angOf_apply (p : FVec Ideal S4 .f32) (f : FVec Ideal S32 .f32) (g : Fin 128) (l : Fin 32) :
    angOf p f (ix2 g l) = (p (ix1 ⟨g.val % 4, by omega⟩) * f (ix1 l) : EReal) := by
  unfold angOf
  pointwise

theorem angOf_eq : angOf pos4 freq = fun i => Ang (ix2 ⟨(i 0).val % 4, by omega⟩ (i 1)) := by
  funext i
  obtain ⟨g, l, rfl⟩ : ∃ (g : Fin 128) (l : Fin 32), i = ix2 g l := ⟨i 0, i 1, eq_ix2 i⟩
  exact angOf_apply pos4 freq g l

/-- The rotation's cosines and sines. -/
def Cs : FVec Ideal ⟨2, ![4, 32]⟩ .f32 := Host.cos Ang
def Sn : FVec Ideal ⟨2, ![4, 32]⟩ .f32 := Host.sin Ang

theorem cos_apply (g : Fin 128) (l : Fin 32) : Host.cos (angOf pos4 freq) (ix2 g l) = Cs (ix2 ⟨g.val % 4, by omega⟩ l) := by
  rw [angOf_eq]
  rfl

theorem sin_apply (g : Fin 128) (l : Fin 32) : Host.sin (angOf pos4 freq) (ix2 g l) = Sn (ix2 ⟨g.val % 4, by omega⟩ l) := by
  rw [angOf_eq]
  rfl

/-- A table of half a map's lanes `a`, `b`, laid along all lanes of a head. -/
def tile2 (a b : FVec Ideal S128x32 .f32) : FVec Ideal S128x128 .f32 :=
  shapeCast S128x128 (broadcastInDim S1x128x2x64 ![0, 1, 2, 3] bcast_S1x128x1x64_S1x128x2x64_0_1_2_3
    (shapeCast S1x128x1x64 (concatenate S128x64 1 [⟨S128x32, a⟩, ⟨S128x32, b⟩] concatenates_S128x32_S128x32_S128x64_d1) shapeCasts_S128x64_S1x128x1x64)) shapeCasts_S1x128x2x64_S128x128

theorem tile2_apply (a b : FVec Ideal S128x32 .f32) (n : Fin 128) (l : Fin 128) :
    tile2 a b (ix2 n l) = if l.val % 64 < 32 then a (ix2 n ⟨l.val % 32, by omega⟩) else b (ix2 n ⟨l.val % 32, by omega⟩) := by
  unfold tile2
  pointwise
  by_cases h : l.val % 64 < 32
  · rw [dif_pos h, if_pos h]
    have e : l.val % 64 = l.val % 32 := by omega
    simp only [e]
  · rw [dif_neg h, if_neg h]
    have e : l.val % 64 - 32 = l.val % 32 := by omega
    simp only [e]

variable (m : (ℓ : Loc nD τ sig) → Buf (Elt Ideal) ℓ) (c : Dev nD)

theorem V25 : V m c main_v25 = tile2 (Host.cos (angOf pos4 freq)) (Host.cos (angOf pos4 freq)) := by
  show StableHlo.after hostOps0 _ _ = _
  after_results_simp <;> rfl

theorem V30 : V m c main_v30 = tile2 (Host.negf (Host.sin (angOf pos4 freq))) (Host.sin (angOf pos4 freq)) := by
  show StableHlo.after hostOps0 _ _ = _
  after_results_simp <;> rfl

theorem V33 : V m c main_v33 = truncf (F := Ideal) .bf16 (shapeCast S1024x3072 (extractStridedSlice S1x1024x3072 ![0, 0, 0] (m ((c.tc : Thread nD τ).loc main_arg1)) slices_S1x1024x5632_S1x1024x3072_0_0_0) shapeCasts_S1x1024x3072_S1024x3072) bitsLt_bf16_f32 := by
  show StableHlo.after hostOps0 _ _ = _
  after_results_simp <;> rfl

theorem V34 : V m c main_v34 = shapeCast S128x1024 (m ((c.tc : Thread nD τ).loc main_arg0)) shapeCasts_S32x4x1024_S128x1024 := by
  show StableHlo.after hostOps0 _ _ = _
  after_results_simp <;> rfl

theorem V33_apply (k : Fin 1024) (j : Fin 3072) : V m c main_v33 (ix2 k j) = m ((c.tc : Thread nD τ).loc main_arg1) (ix3 0 k ⟨j.val, by omega⟩) := by
  rw [V33]
  pointwise

/-- The samples' rows laid one under another. -/
theorem flat_apply (x : FVec Ideal S32x4x1024 .f32) (g : Fin 128) (k : Fin 1024) :
    shapeCast S128x1024 x shapeCasts_S32x4x1024_S128x1024 (ix2 g k) = x (ix3 ⟨g.val / 4, by omega⟩ ⟨g.val % 4, by omega⟩ k) := by
  refine shapeCast_apply _ _ _ _ ?_
  rw [Shape.rowMajor_val_three, Shape.rowMajor_val_two]
  show (g.val / 4 * 4 + g.val % 4) * 1024 + k.val = g.val * 1024 + k.val
  omega

theorem V34_apply (g : Fin 128) (k : Fin 1024) : V m c main_v34 (ix2 g k) = m ((c.tc : Thread nD τ).loc main_arg0) (ix3 ⟨g.val / 4, by omega⟩ ⟨g.val % 4, by omega⟩ k) := by
  rw [V34]
  exact flat_apply _ g k

end Cert.Kernel4Ideal.Ms
end
-- ==== Proof.E.Blk.lean ====
module

public import proofs.«01_k».proof.Proof.E.Host

@[expose] public section

set_option maxRecDepth 8192
set_option maxHeartbeats 1000000

/-! The sample group's call has one tile: each block is its whole array, and each result is what the tile writes. -/

noncomputable section

namespace Cert.Kernel4Ideal.Ms

open Cert.Kernel4Ideal Cert.Kernel4Ideal.Gen Cert.SampleSpec
open Idealize.ShloMosaic Idealize.ShloMosaic.TcCoe

variable (m : (ℓ : Loc nD τ sig) → Buf (Elt Ideal) ℓ) (c : Dev nD)

/-! The activations' block is the whole array. -/

theorem at0 : ∀ (t : Fin cfg0.N) a, win0_0.index t a = 0 := by decide +kernel
theorem em0 (t : Fin cfg0.N) (y : S128x1024.Idx) : (win0_0.rect t).emb y = y :=
  funext fun a => Fin.ext ((Pipeline.Window.rect_emb_val win0_0 t y a).trans (by rw [at0 t a, Nat.zero_mul, Nat.zero_add]))
theorem blk0_apply (t : Fin cfg0.N) (r : Fin 128) (k : Fin 1024) : iblk m c 0 t (ix2 r k) = V m c main_v34 (ix2 r k) := congrArg (V m c main_v34) (em0 t (ix2 r k))

/-! The weights' block is the whole array. -/

theorem at1 : ∀ (t : Fin cfg0.N) a, win0_1.index t a = 0 := by decide +kernel
theorem em1 (t : Fin cfg0.N) (y : S1024x3072.Idx) : (win0_1.rect t).emb y = y :=
  funext fun a => Fin.ext ((Pipeline.Window.rect_emb_val win0_1 t y a).trans (by rw [at1 t a, Nat.zero_mul, Nat.zero_add]))
theorem blk1_apply (t : Fin cfg0.N) (r : Fin 1024) (k : Fin 3072) : iblk m c 1 t (ix2 r k) = V m c main_v33 (ix2 r k) := congrArg (V m c main_v33) (em1 t (ix2 r k))

/-! The cosines' block is the whole array. -/

theorem at2 : ∀ (t : Fin cfg0.N) a, win0_2.index t a = 0 := by decide +kernel
theorem em2 (t : Fin cfg0.N) (y : S128x128.Idx) : (win0_2.rect t).emb y = y :=
  funext fun a => Fin.ext ((Pipeline.Window.rect_emb_val win0_2 t y a).trans (by rw [at2 t a, Nat.zero_mul, Nat.zero_add]))
theorem blk2_apply (t : Fin cfg0.N) (r : Fin 128) (k : Fin 128) : iblk m c 2 t (ix2 r k) = V m c main_v25 (ix2 r k) := congrArg (V m c main_v25) (em2 t (ix2 r k))

/-! The sines' block is the whole array. -/

theorem at3 : ∀ (t : Fin cfg0.N) a, win0_3.index t a = 0 := by decide +kernel
theorem em3 (t : Fin cfg0.N) (y : S128x128.Idx) : (win0_3.rect t).emb y = y :=
  funext fun a => Fin.ext ((Pipeline.Window.rect_emb_val win0_3 t y a).trans (by rw [at3 t a, Nat.zero_mul, Nat.zero_add]))
theorem blk3_apply (t : Fin cfg0.N) (r : Fin 128) (k : Fin 128) : iblk m c 3 t (ix2 r k) = V m c main_v30 (ix2 r k) := congrArg (V m c main_v30) (em3 t (ix2 r k))

theorem zero_lt : 0 < cfg0.N := by rw [show cfg0.N = 1 from N_0]; decide

/-! What result window 5 ends holding, from what the tile writes. -/

theorem at5 : ∀ (t : Fin cfg0.N) a, win0_5.index t a = 0 := by decide +kernel
theorem em5 (t : Fin cfg0.N) (y : S128x512.Idx) : (win0_5.rect t).emb y = y :=
  funext fun a => Fin.ext ((Pipeline.Window.rect_emb_val win0_5 t y a).trans (by rw [at5 t a, Nat.zero_mul, Nat.zero_add]))
theorem final5 (G : (S128x512).Idx → Ideal .f32)
    (hG : ∀ (t : Fin cfg0.N) (r : Fin 128) (j : Fin 512), (dats m 0 c).after 5 t (ix2 r j) = G (ix2 r j)) :
    (dats m 0 c).arrAt 5 cfg0.N = G := by
  refine (dats m 0 c).arrAt_eq_of_cover 5 G (fun t _ => funext fun y => ?_) (fun i => ⟨⟨0, zero_lt⟩, flush0_5 _, ?_⟩)
  · show (dats m 0 c).after 5 t y = G ((win0_5.rect t).emb y)
    obtain ⟨r, j, rfl⟩ : ∃ (r : Fin 128) (j : Fin 512), y = ix2 r j := ⟨y 0, y 1, eq_ix2 y⟩
    rw [em5, hG]
  · have e : i = ((cfg0.win 5).blk ⟨0, zero_lt⟩).view.emb i := (em5 ⟨0, zero_lt⟩ i).symm
    rw [e]
    exact View.emb_mem_set _ _

/-! What result window 6 ends holding, from what the tile writes. -/

theorem at6 : ∀ (t : Fin cfg0.N) a, win0_6.index t a = 0 := by decide +kernel
theorem em6 (t : Fin cfg0.N) (y : S128x512.Idx) : (win0_6.rect t).emb y = y :=
  funext fun a => Fin.ext ((Pipeline.Window.rect_emb_val win0_6 t y a).trans (by rw [at6 t a, Nat.zero_mul, Nat.zero_add]))
theorem final6 (G : (S128x512).Idx → Ideal .f32)
    (hG : ∀ (t : Fin cfg0.N) (r : Fin 128) (j : Fin 512), (dats m 0 c).after 6 t (ix2 r j) = G (ix2 r j)) :
    (dats m 0 c).arrAt 6 cfg0.N = G := by
  refine (dats m 0 c).arrAt_eq_of_cover 6 G (fun t _ => funext fun y => ?_) (fun i => ⟨⟨0, zero_lt⟩, flush0_6 _, ?_⟩)
  · show (dats m 0 c).after 6 t y = G ((win0_6.rect t).emb y)
    obtain ⟨r, j, rfl⟩ : ∃ (r : Fin 128) (j : Fin 512), y = ix2 r j := ⟨y 0, y 1, eq_ix2 y⟩
    rw [em6, hG]
  · have e : i = ((cfg0.win 6).blk ⟨0, zero_lt⟩).view.emb i := (em6 ⟨0, zero_lt⟩ i).symm
    rw [e]
    exact View.emb_mem_set _ _

/-! What result window 8 ends holding, from what the tile writes. -/

theorem at8 : ∀ (t : Fin cfg0.N) a, win0_8.index t a = 0 := by decide +kernel
theorem em8 (t : Fin cfg0.N) (y : S128x512.Idx) : (win0_8.rect t).emb y = y :=
  funext fun a => Fin.ext ((Pipeline.Window.rect_emb_val win0_8 t y a).trans (by rw [at8 t a, Nat.zero_mul, Nat.zero_add]))
theorem final8 (G : (S128x512).Idx → Ideal .f32)
    (hG : ∀ (t : Fin cfg0.N) (r : Fin 128) (j : Fin 512), (dats m 0 c).after 8 t (ix2 r j) = G (ix2 r j)) :
    (dats m 0 c).arrAt 8 cfg0.N = G := by
  refine (dats m 0 c).arrAt_eq_of_cover 8 G (fun t _ => funext fun y => ?_) (fun i => ⟨⟨0, zero_lt⟩, flush0_8 _, ?_⟩)
  · show (dats m 0 c).after 8 t y = G ((win0_8.rect t).emb y)
    obtain ⟨r, j, rfl⟩ : ∃ (r : Fin 128) (j : Fin 512), y = ix2 r j := ⟨y 0, y 1, eq_ix2 y⟩
    rw [em8, hG]
  · have e : i = ((cfg0.win 8).blk ⟨0, zero_lt⟩).view.emb i := (em8 ⟨0, zero_lt⟩ i).symm
    rw [e]
    exact View.emb_mem_set _ _

/-! What result window 11 ends holding, from what the tile writes. -/

theorem at11 : ∀ (t : Fin cfg0.N) a, win0_11.index t a = 0 := by decide +kernel
theorem em11 (t : Fin cfg0.N) (y : S128x512.Idx) : (win0_11.rect t).emb y = y :=
  funext fun a => Fin.ext ((Pipeline.Window.rect_emb_val win0_11 t y a).trans (by rw [at11 t a, Nat.zero_mul, Nat.zero_add]))
theorem final11 (G : (S128x512).Idx → Ideal .f32)
    (hG : ∀ (t : Fin cfg0.N) (r : Fin 128) (j : Fin 512), (dats m 0 c).after 11 t (ix2 r j) = G (ix2 r j)) :
    (dats m 0 c).arrAt 11 cfg0.N = G := by
  refine (dats m 0 c).arrAt_eq_of_cover 11 G (fun t _ => funext fun y => ?_) (fun i => ⟨⟨0, zero_lt⟩, flush0_11 _, ?_⟩)
  · show (dats m 0 c).after 11 t y = G ((win0_11.rect t).emb y)
    obtain ⟨r, j, rfl⟩ : ∃ (r : Fin 128) (j : Fin 512), y = ix2 r j := ⟨y 0, y 1, eq_ix2 y⟩
    rw [em11, hG]
  · have e : i = ((cfg0.win 11).blk ⟨0, zero_lt⟩).view.emb i := (em11 ⟨0, zero_lt⟩ i).symm
    rw [e]
    exact View.emb_mem_set _ _

end Cert.Kernel4Ideal.Ms
end
-- ==== Proof.E.Vals.lean ====
module

public import proofs.«01_k».proof.Proof.E.Blk

@[expose] public section

set_option maxRecDepth 8192
set_option maxHeartbeats 1000000

/-! The sample group's keys, values, recurrence queries and recurrence inputs as functions of the arguments. -/

noncomputable section

namespace Cert.Kernel4Ideal.Ms

open Cert.Kernel4Ideal Cert.Kernel4Ideal.Gen Cert.SampleSpec
open Idealize.ShloMosaic Idealize.ShloMosaic.TcCoe Idealize.ShloMosaic.Pipeline

variable (m : (ℓ : Loc nD τ sig) → Buf (Elt Ideal) ℓ) (c : Dev nD)

/-- The activations. -/
def X : FVec Ideal S32x4x1024 .f32 := m ((c.tc : Thread nD τ).loc main_arg0)
/-- The weights. -/
def W : FVec Ideal S1x1024x5632 .f32 := m ((c.tc : Thread nD τ).loc main_arg1)

/-- The tile's blocks of the activations, of the weights and of the two tables. -/
def bx (t : Fin cfg0.N) : Vec Ideal S128x1024 .f32 := iblk m c 0 t
def bw (t : Fin cfg0.N) : Vec Ideal S1024x3072 .bf16 := iblk m c 1 t
def bc (t : Fin cfg0.N) : Vec Ideal S128x128 .f32 := iblk m c 2 t
def bs (t : Fin cfg0.N) : Vec Ideal S128x128 .f32 := iblk m c 3 t

/-- The sample and the position of a row. -/
def bOf (g : Fin 128) : Fin 32 := ⟨g.val / 4, by omega⟩
def nOf (g : Fin 128) : Fin 4 := ⟨g.val % 4, by omega⟩

/-- A row against a column of the weights is an element of the projection. -/
theorem blkSum (t : Fin cfg0.N) (r : Fin 128) (o : Fin 3072) :
    (∑ k : Fin 1024, bx m c t (ix2 r k) * bw m c t (ix2 k o)) = Pr (X m c) (W m c) (bOf r) (nOf r) ⟨o.val, by omega⟩ := by
  unfold Pr
  refine Finset.sum_congr rfl fun k _ => ?_
  have h0 := blk0_apply m c t r k
  have h1 := blk1_apply m c t k o
  rw [V34_apply] at h0
  rw [V33_apply] at h1
  exact congrArg₂ (fun a b : EReal => a * b) h0 h1

theorem cosAt (t : Fin cfg0.N) (r : Fin 128) (l : Fin 128) : bc m c t (ix2 r l) = Cs (ix2 (nOf r) ⟨l.val % 32, by omega⟩) := by
  refine (blk2_apply m c t r l).trans ?_
  rw [V25, tile2_apply]
  split <;> exact cos_apply _ _

theorem sinAt (t : Fin cfg0.N) (r : Fin 128) (l : Fin 128) :
    bs m c t (ix2 r l) = if l.val % 64 < 32 then -(Sn (ix2 (nOf r) ⟨l.val % 32, by omega⟩)) else Sn (ix2 (nOf r) ⟨l.val % 32, by omega⟩) := by
  refine (blk3_apply m c t r l).trans ?_
  rw [V30, tile2_apply]
  have h : -(Host.sin (angOf pos4 freq) (ix2 r ⟨l.val % 32, by omega⟩) : EReal) = -(Sn (ix2 (nOf r) ⟨l.val % 32, by omega⟩) : EReal) := congrArg (fun a : EReal => -a) (sin_apply _ _)
  split
  · exact h
  · exact sin_apply _ _

/-- The tile's keys. -/
theorem keysAt (t : Fin cfg0.N) (r : Fin 128) (j : Fin 512) :
    keys (bx m c t) (bw m c t) (bc m c t) (bs m c t) (ix2 r j) = Kr Cs Sn (X m c) (W m c) (bOf r) (nOf r) j := by
  obtain ⟨h, l, rfl⟩ : ∃ (h : Fin 4) (l : Fin 128), j = ⟨128 * h.val + l.val, by omega⟩ :=
    ⟨⟨j.val / 128, by omega⟩, ⟨j.val % 128, by omega⟩, Fin.ext (by show j.val = 128 * (j.val / 128) + j.val % 128; omega)⟩
  rw [keys_apply, sec1_apply, sec1_apply, blkSum, blkSum, cosAt, sinAt]
  unfold Kr
  have hm : (128 * h.val + l.val) % 64 = l.val % 64 := by omega
  have e1 : (⟨(128 * h.val + l.val) % 32, by omega⟩ : Fin 32) = ⟨l.val % 32, by omega⟩ := Fin.ext (by show (128 * h.val + l.val) % 32 = l.val % 32; omega)
  dsimp only
  rw [hm, e1]
  by_cases hl : l.val % 64 < 32
  · rw [if_pos hl, if_pos hl]
    have e2 : (⟨512 + (128 * h.val + (mate l).val), by omega⟩ : Fin 5632) = ⟨512 + (128 * h.val + l.val + 32), by omega⟩ := Fin.ext (by
      have hv : (mate l).val = (l.val + 32) % 128 := by unfold mate; rw [if_pos hl]
      show 512 + (128 * h.val + (mate l).val) = 512 + (128 * h.val + l.val + 32); omega)
    rw [e2, mul_neg, sub_eq_add_neg]
  · rw [if_neg hl, if_neg hl]
    have e2 : (⟨512 + (128 * h.val + (mate l).val), by omega⟩ : Fin 5632) = ⟨512 + (128 * h.val + l.val - 32), by omega⟩ := Fin.ext (by
      have hv : (mate l).val = (l.val + 96) % 128 := by unfold mate; rw [if_neg hl]
      show 512 + (128 * h.val + (mate l).val) = 512 + (128 * h.val + l.val - 32); omega)
    rw [e2]

/-- The rotated keys. -/
theorem val5 : (dats m 0 c).arrAt 5 cfg0.N = fun i : (S128x512).Idx => (Kr Cs Sn (X m c) (W m c) (bOf (i 0)) (nOf (i 0)) (i 1) : EReal) :=
  final5 m c _ fun t r j => by
    rw [after0_5, out5_eq]
    exact keysAt m c t r j

/-- The values. -/
theorem val6 : (dats m 0 c).arrAt 6 cfg0.N = fun i : (S128x512).Idx =>
    (Pr (X m c) (W m c) (bOf (i 0)) (nOf (i 0)) ⟨1024 + (i 1).val, by have : (i 1).val < 512 := (i 1).isLt; omega⟩ : EReal) :=
  final6 m c _ fun t r j => by
    rw [after0_6, out6_eq]
    exact (sec2_apply _ _ r j).trans (blkSum m c t r _)

/-- The recurrence's queries. -/
theorem val8 : (dats m 0 c).arrAt 8 cfg0.N = fun i : (S128x512).Idx =>
    (Pr (X m c) (W m c) (bOf (i 0)) (nOf (i 0)) ⟨1536 + (i 1).val, by have : (i 1).val < 512 := (i 1).isLt; omega⟩ : EReal) :=
  final8 m c _ fun t r j => by
    rw [after0_8, out8_eq]
    exact (sec3_apply _ _ r j).trans (blkSum m c t r _)

/-- The recurrence's inputs. -/
theorem val11 : (dats m 0 c).arrAt 11 cfg0.N = fun i : (S128x512).Idx =>
    (Pr (X m c) (W m c) (bOf (i 0)) (nOf (i 0)) ⟨2560 + (i 1).val, by have : (i 1).val < 512 := (i 1).isLt; omega⟩ : EReal) :=
  final11 m c _ fun t r j => by
    rw [after0_11, out11_eq]
    exact (sec5_apply _ _ r j).trans (blkSum m c t r _)

/-- The run: each result is what its window ends holding, and the arguments end unchanged. -/
theorem vals (ρ : Dev nD → PrngReg) : θ_run defs (onTc (τ := τ) (main (F := Ideal))) ⟨m, fun _ => 0, ρ⟩ (fun r => ∀ c : Dev nD,
      r.2.mem ((c.tc : Thread nD τ).loc main_v35_0) = (dats m 0 c).arrAt 5 cfg0.N
      ∧ r.2.mem ((c.tc : Thread nD τ).loc main_v35_1) = (dats m 0 c).arrAt 6 cfg0.N
      ∧ r.2.mem ((c.tc : Thread nD τ).loc main_v35_3) = (dats m 0 c).arrAt 8 cfg0.N
      ∧ r.2.mem ((c.tc : Thread nD τ).loc main_v35_6) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.2 c).1 5, (h.2 c).1 6, (h.2 c).1 8, (h.2 c).1 11, h.1 c⟩)
    (θ_run_and (unchanged m ρ) (run_main m ρ))

end Cert.Kernel4Ideal.Ms
end
-- ==== Proof.E.RefElem.lean ====
module

public import proofs.«01_k».proof.Proof.E.Spec
public import proofs.«01_k».proof.Proof.E.Vals
public import proofs.«01_k».proof.Proof.Gen.Reference4Ideal.Run

@[expose] public section

set_option maxRecDepth 8192
set_option maxHeartbeats 1000000

/-! The sample group's reference results over the extended reals, as the same functions of the arguments. -/

noncomputable section

namespace Cert.Reference4Ideal.Rs

open Cert.Reference4Ideal Cert.Reference4Ideal.Gen Cert.Reference4Ideal.Value Cert.SampleSpec
open Idealize.ShloMosaic Idealize.ShloMosaic.TcCoe
open Cert.Kernel4Ideal.Ms (Cs Sn bOf nOf Ang pos4 freq)

/-- The whole projection. -/
def proj (x : FVec Ideal S32x4x1024 .f32) (w : FVec Ideal S1x1024x5632 .f32) : FVec Ideal S32x4x5632 .f32 :=
  Host.dotGeneral dot_S32x4x1024_S1024x5632_S32x4x5632_2_0_01_1_n_n none x (shapeCast _ w shapeCasts_S1x1024x5632_S1024x5632)

theorem proj_apply (x : FVec Ideal S32x4x1024 .f32) (w : FVec Ideal S1x1024x5632 .f32) (b : Fin 32) (n : Fin 4) (j : Fin 5632) :
    proj x w (ix3 b n j) = Pr x w b n j := by
  unfold proj Pr
  pointwise

/-- The angles of the four positions. -/
def ang (p : FVec Ideal S4 .f32) (f : FVec Ideal S32 .f32) : FVec Ideal S4x32 .f32 :=
  mulf (broadcastInDim S4x32 ![0, 1] bcast_S4x1_S4x32_0_1 (broadcastInDim S4x1 ![0] bcast_S4_S4x1_0 p))
    (broadcastInDim S4x32 ![0, 1] bcast_S1x32_S4x32_0_1 (broadcastInDim S1x32 ![1] bcast_S32_S1x32_1 f))

theorem ang_apply (p : FVec Ideal S4 .f32) (f : FVec Ideal S32 .f32) (n : Fin 4) (l : Fin 32) :
    ang p f (ix2 n l) = (p (ix1 n) * f (ix1 l) : EReal) := by
  unfold ang
  pointwise

theorem ang_eq : ang pos4 freq = Ang := by
  funext i
  obtain ⟨n, l, rfl⟩ : ∃ (n : Fin 4) (l : Fin 32), i = ix2 n l := ⟨i 0, i 1, eq_ix2 i⟩
  exact ang_apply pos4 freq n l

/-- A table as the rotation reads it. -/
def tab (a : FVec Ideal S4x32 .f32) : FVec Ideal S32x4x4x2x32 .f32 :=
  broadcastInDim S32x4x4x2x32 ![0, 1, 2, 3, 4] bcast_S1x4x1x1x32_S32x4x4x2x32_0_1_2_3_4 (broadcastInDim S1x4x1x1x32 ![1, 2, 3, 4] bcast_S4x1x1x32_S1x4x1x1x32_1_2_3_4
    (broadcastInDim S4x1x1x32 ![0, 3] bcast_S4x32_S4x1x1x32_0_3 a))

theorem tab_apply (a : FVec Ideal S4x32 .f32) (b : Fin 32) (n : Fin 4) (h : Fin 4) (u : Fin 2) (l : Fin 32) :
    tab a (ix5 b n h u l) = a (ix2 n l) := by
  unfold tab
  pointwise

/-- The keys before the rotation, by map. -/
def maps (p : FVec Ideal S32x4x5632 .f32) : FVec Ideal S32x4x4x2x64 .f32 :=
  shapeCast _ (extractStridedSlice S32x4x512 ![0, 0, 512] p slices_S32x4x5632_S32x4x512_0_0_512) shapeCasts_S32x4x512_S32x4x4x2x64

theorem maps_apply (p : FVec Ideal S32x4x5632 .f32) (b : Fin 32) (n : Fin 4) (h : Fin 4) (u : Fin 2) (l : Fin 64) :
    maps p (ix5 b n h u l) = p (ix3 b n ⟨512 + (128 * h.val + 64 * u.val + l.val), by omega⟩) := by
  unfold maps
  pointwise
  exact congrArg (fun j => p (ix3 b n j)) (Fin.ext (by show 512 + (h.val * 128 + u.val * 64 + l.val) = 512 + (128 * h.val + 64 * u.val + l.val); omega))

/-- The rotation. -/
def rot (k : FVec Ideal S32x4x4x2x64 .f32) (cs sn : FVec Ideal S32x4x4x2x32 .f32) : FVec Ideal S32x4x4x2x64 .f32 :=
  let k1 : FVec Ideal S32x4x4x2x32 .f32 := extractStridedSlice S32x4x4x2x32 ![0, 0, 0, 0, 0] k slices_S32x4x4x2x64_S32x4x4x2x32_0_0_0_0_0
  let k2 : FVec Ideal S32x4x4x2x32 .f32 := extractStridedSlice S32x4x4x2x32 ![0, 0, 0, 0, 32] k slices_S32x4x4x2x64_S32x4x4x2x32_0_0_0_0_32
  concatenate S32x4x4x2x64 4 [⟨S32x4x4x2x32, subf (mulf k1 cs) (mulf k2 sn)⟩, ⟨S32x4x4x2x32, addf (mulf k2 cs) (mulf k1 sn)⟩] concatenates_S32x4x4x2x32_S32x4x4x2x32_S32x4x4x2x64_d4

theorem rot_apply (k : FVec Ideal S32x4x4x2x64 .f32) (cs sn : FVec Ideal S32x4x4x2x32 .f32) (b : Fin 32) (n : Fin 4) (h : Fin 4) (u : Fin 2) (l : Fin 64) :
    rot k cs sn (ix5 b n h u l) = if l.val < 32 then
        k (ix5 b n h u l) * cs (ix5 b n h u ⟨l.val % 32, by omega⟩) - k (ix5 b n h u ⟨(l.val + 32) % 64, by omega⟩) * sn (ix5 b n h u ⟨l.val % 32, by omega⟩)
      else k (ix5 b n h u l) * cs (ix5 b n h u ⟨l.val % 32, by omega⟩) + k (ix5 b n h u ⟨l.val - 32, by omega⟩) * sn (ix5 b n h u ⟨l.val % 32, by omega⟩) := by
  unfold rot
  pointwise
  by_cases hl : l.val < 32
  · rw [dif_pos hl, if_pos hl]
    have e1 : (⟨l.val % 32, by omega⟩ : Fin 32) = ⟨l.val, hl⟩ := Fin.ext (by show l.val % 32 = l.val; omega)
    have e2 : (⟨(l.val + 32) % 64, by omega⟩ : Fin 64) = ⟨32 + l.val, by omega⟩ := Fin.ext (by show (l.val + 32) % 64 = 32 + l.val; omega)
    rw [e1, e2]
  · rw [dif_neg hl, if_neg hl]
    have e1 : (⟨l.val % 32, by omega⟩ : Fin 32) = ⟨l.val - 32, by omega⟩ := Fin.ext (by show l.val % 32 = l.val - 32; omega)
    have e2 : (⟨32 + (l.val - 32), by omega⟩ : Fin 64) = l := Fin.ext (by show 32 + (l.val - 32) = l.val; omega)
    rw [e1, e2]

/-- The rotated keys of the reference. -/
def keysR (x : FVec Ideal S32x4x1024 .f32) (w : FVec Ideal S1x1024x5632 .f32) : FVec Ideal S32x4x4x2x64 .f32 :=
  rot (maps (proj x w)) (tab (Host.cos (ang pos4 freq))) (tab (Host.sin (ang pos4 freq)))

theorem keysR_apply (x : FVec Ideal S32x4x1024 .f32) (w : FVec Ideal S1x1024x5632 .f32) (b : Fin 32) (n : Fin 4) (j : Fin 512)
    (h : Fin 4) (u : Fin 2) (l : Fin 64) (hj : 128 * h.val + 64 * u.val + l.val = j.val) :
    keysR x w (ix5 b n h u l) = Kr Cs Sn x w b n j := by
  unfold keysR Kr
  rw [ang_eq]
  rw [rot_apply]
  simp only [maps_apply, tab_apply, proj_apply]
  rw [show (Host.cos Ang : FVec Ideal S4x32 .f32) = Cs from rfl, show (Host.sin Ang : FVec Ideal S4x32 .f32) = Sn from rfl]
  have hm : j.val % 64 = l.val := by omega
  have e1 : (⟨l.val % 32, by omega⟩ : Fin 32) = ⟨j.val % 32, by omega⟩ := Fin.ext (by show l.val % 32 = j.val % 32; omega)
  have e2 : (⟨512 + (128 * h.val + 64 * u.val + l.val), by omega⟩ : Fin 5632) = ⟨512 + j.val, by omega⟩ := Fin.ext (by show 512 + _ = 512 + j.val; omega)
  rw [hm, e1, e2]
  by_cases hl : l.val < 32
  · rw [if_pos hl, if_pos hl]
    have e3 : (⟨512 + (128 * h.val + 64 * u.val + (l.val + 32) % 64), by omega⟩ : Fin 5632) = ⟨512 + (j.val + 32), by omega⟩ := Fin.ext (by show 512 + (128 * h.val + 64 * u.val + (l.val + 32) % 64) = 512 + (j.val + 32); omega)
    rw [e3]
  · rw [if_neg hl, if_neg hl]
    have e3 : (⟨512 + (128 * h.val + 64 * u.val + (l.val - 32)), by omega⟩ : Fin 5632) = ⟨512 + (j.val - 32), by omega⟩ := Fin.ext (by show 512 + (128 * h.val + 64 * u.val + (l.val - 32)) = 512 + (j.val - 32); omega)
    rw [e3]

/-- The keys as rows of positions, each map's lanes side by side. -/
theorem flatKeys (k : FVec Ideal S32x4x4x2x64 .f32) (g : Fin 128) (j : Fin 512) :
    shapeCast S128x512 k shapeCasts_S32x4x4x2x64_S128x512 (ix2 g j) =
      k (ix5 ⟨g.val / 4, by omega⟩ ⟨g.val % 4, by omega⟩ ⟨j.val / 128, by omega⟩ ⟨j.val / 64 % 2, by omega⟩ ⟨j.val % 64, by omega⟩) := by
  refine shapeCast_apply _ _ _ _ ?_
  rw [Shape.rowMajor_val_five, Shape.rowMajor_val_two]
  show (((g.val / 4 * 4 + g.val % 4) * 4 + j.val / 128) * 2 + j.val / 64 % 2) * 64 + j.val % 64 = g.val * 512 + j.val
  omega

theorem rows1024 (p : FVec Ideal S32x4x5632 .f32) (g : Fin 128) (j : Fin 512) :
    shapeCast S128x512 (extractStridedSlice S32x4x512 ![0, 0, 1024] p slices_S32x4x5632_S32x4x512_0_0_1024) shapeCasts_S32x4x512_S128x512 (ix2 g j) =
      p (ix3 (bOf g) (nOf g) ⟨1024 + j.val, by omega⟩) := by
  refine (shapeCast_apply _ _ _ (ix3 (bOf g) (nOf g) j) ?_).trans ?_
  · rw [Shape.rowMajor_val_three, Shape.rowMajor_val_two]
    show (g.val / 4 * 4 + g.val % 4) * 512 + j.val = g.val * 512 + j.val
    omega
  · pointwise

theorem fun1024 (x : FVec Ideal S32x4x1024 .f32) (w : FVec Ideal S1x1024x5632 .f32) :
    shapeCast S128x512 (extractStridedSlice S32x4x512 ![0, 0, 1024] (proj x w) slices_S32x4x5632_S32x4x512_0_0_1024) shapeCasts_S32x4x512_S128x512
    = fun i : (S128x512).Idx => (Pr x w (bOf (i 0)) (nOf (i 0)) ⟨1024 + (i 1).val, by have : (i 1).val < 512 := (i 1).isLt; omega⟩ : EReal) := by
  funext i
  obtain ⟨g, j, rfl⟩ : ∃ (g : Fin 128) (j : Fin 512), i = ix2 g j := ⟨i 0, i 1, eq_ix2 i⟩
  exact (rows1024 (proj x w) g j).trans (proj_apply x w _ _ _)

theorem rows1536 (p : FVec Ideal S32x4x5632 .f32) (g : Fin 128) (j : Fin 512) :
    shapeCast S128x512 (extractStridedSlice S32x4x512 ![0, 0, 1536] p slices_S32x4x5632_S32x4x512_0_0_1536) shapeCasts_S32x4x512_S128x512 (ix2 g j) =
      p (ix3 (bOf g) (nOf g) ⟨1536 + j.val, by omega⟩) := by
  refine (shapeCast_apply _ _ _ (ix3 (bOf g) (nOf g) j) ?_).trans ?_
  · rw [Shape.rowMajor_val_three, Shape.rowMajor_val_two]
    show (g.val / 4 * 4 + g.val % 4) * 512 + j.val = g.val * 512 + j.val
    omega
  · pointwise

theorem fun1536 (x : FVec Ideal S32x4x1024 .f32) (w : FVec Ideal S1x1024x5632 .f32) :
    shapeCast S128x512 (extractStridedSlice S32x4x512 ![0, 0, 1536] (proj x w) slices_S32x4x5632_S32x4x512_0_0_1536) shapeCasts_S32x4x512_S128x512
    = fun i : (S128x512).Idx => (Pr x w (bOf (i 0)) (nOf (i 0)) ⟨1536 + (i 1).val, by have : (i 1).val < 512 := (i 1).isLt; omega⟩ : EReal) := by
  funext i
  obtain ⟨g, j, rfl⟩ : ∃ (g : Fin 128) (j : Fin 512), i = ix2 g j := ⟨i 0, i 1, eq_ix2 i⟩
  exact (rows1536 (proj x w) g j).trans (proj_apply x w _ _ _)

theorem rows2560 (p : FVec Ideal S32x4x5632 .f32) (g : Fin 128) (j : Fin 512) :
    shapeCast S128x512 (extractStridedSlice S32x4x512 ![0, 0, 2560] p slices_S32x4x5632_S32x4x512_0_0_2560) shapeCasts_S32x4x512_S128x512 (ix2 g j) =
      p (ix3 (bOf g) (nOf g) ⟨2560 + j.val, by omega⟩) := by
  refine (shapeCast_apply _ _ _ (ix3 (bOf g) (nOf g) j) ?_).trans ?_
  · rw [Shape.rowMajor_val_three, Shape.rowMajor_val_two]
    show (g.val / 4 * 4 + g.val % 4) * 512 + j.val = g.val * 512 + j.val
    omega
  · pointwise

theorem fun2560 (x : FVec Ideal S32x4x1024 .f32) (w : FVec Ideal S1x1024x5632 .f32) :
    shapeCast S128x512 (extractStridedSlice S32x4x512 ![0, 0, 2560] (proj x w) slices_S32x4x5632_S32x4x512_0_0_2560) shapeCasts_S32x4x512_S128x512
    = fun i : (S128x512).Idx => (Pr x w (bOf (i 0)) (nOf (i 0)) ⟨2560 + (i 1).val, by have : (i 1).val < 512 := (i 1).isLt; omega⟩ : EReal) := by
  funext i
  obtain ⟨g, j, rfl⟩ : ∃ (g : Fin 128) (j : Fin 512), i = ix2 g j := ⟨i 0, i 1, eq_ix2 i⟩
  exact (rows2560 (proj x w) g j).trans (proj_apply x w _ _ _)

theorem funK (x : FVec Ideal S32x4x1024 .f32) (w : FVec Ideal S1x1024x5632 .f32) :
    shapeCast S128x512 (keysR x w) shapeCasts_S32x4x4x2x64_S128x512
    = fun i : (S128x512).Idx => (Kr Cs Sn x w (bOf (i 0)) (nOf (i 0)) (i 1) : EReal) := by
  funext i
  obtain ⟨g, j, rfl⟩ : ∃ (g : Fin 128) (j : Fin 512), i = ix2 g j := ⟨i 0, i 1, eq_ix2 i⟩
  exact (flatKeys (keysR x w) g j).trans (keysR_apply x w _ _ j _ _ _
    (by show 128 * (j.val / 128) + 64 * (j.val / 64 % 2) + j.val % 64 = j.val; omega))

theorem res45 (m : (ℓ : Loc nD τ sig) → Buf (Elt Ideal) ℓ) (c : Dev nD) :
    res_main_v45 m c = shapeCast S128x512 (keysR (m ((c.tc : Thread nD τ).loc main_arg0)) (m ((c.tc : Thread nD τ).loc main_arg1))) shapeCasts_S32x4x4x2x64_S128x512 := rfl

/-- The reference's run, each result as a function of the arguments. -/
theorem vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = (fun i : (S128x512).Idx => (Kr Cs Sn (m ((c.tc : Thread nD τ).loc main_arg0)) (m ((c.tc : Thread nD τ).loc main_arg1)) (bOf (i 0)) (nOf (i 0)) (i 1) : EReal))
      ∧ r.2.mem ((c.tc : Thread nD τ).loc main_v46) = (fun i : (S128x512).Idx => (Pr (m ((c.tc : Thread nD τ).loc main_arg0)) (m ((c.tc : Thread nD τ).loc main_arg1)) (bOf (i 0)) (nOf (i 0)) ⟨1024 + (i 1).val, by have : (i 1).val < 512 := (i 1).isLt; omega⟩ : EReal))
      ∧ r.2.mem ((c.tc : Thread nD τ).loc main_v47) = (fun i : (S128x512).Idx => (Pr (m ((c.tc : Thread nD τ).loc main_arg0)) (m ((c.tc : Thread nD τ).loc main_arg1)) (bOf (i 0)) (nOf (i 0)) ⟨1536 + (i 1).val, by have : (i 1).val < 512 := (i 1).isLt; omega⟩ : EReal))
      ∧ r.2.mem ((c.tc : Thread nD τ).loc main_v48) = (fun i : (S128x512).Idx => (Pr (m ((c.tc : Thread nD τ).loc main_arg0)) (m ((c.tc : Thread nD τ).loc main_arg1)) (bOf (i 0)) (nOf (i 0)) ⟨2560 + (i 1).val, by have : (i 1).val < 512 := (i 1).isLt; omega⟩ : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((res45 m c).trans (funK _ _)), (h c).2.1.trans (fun1024 _ _), (h c).2.2.1.trans (fun1536 _ _),
    (h c).2.2.2.1.trans (fun2560 _ _), (h c).2.2.2.2⟩)
    (Cert.Reference4Ideal.Value.run (F := Ideal) m ρ)

end Cert.Reference4Ideal.Rs
end
-- ==== Proof.C.IModel.lean ====
module

public import proofs.«01_k».proof.Proof.Gen.Kernel2Ideal
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value
public import Idealize.ShloMosaic.Lib.VecWindow

@[expose] public section

set_option maxRecDepth 16384
set_option maxHeartbeats 2000000

noncomputable section

namespace Cert.Kernel2Ideal.Mx

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

/-! What one block of rows of the projection call leaves in its windows. -/

/-- A load of the whole block of rows. -/
def allX (x : Vec F S512x1024 .f32) : Vec F S512x1024 .f32 := fun y => x ((Rect.unit (s := S512x1024) ![0, 0] S512x1024.size inb_S512x1024_S512x1024_0_0).toLoadRect.idx y)

/-- A load of a whole table block. -/
def allT (x : Vec F S512x128 .f32) : Vec F S512x128 .f32 := fun y => x ((Rect.unit (s := S512x128) ![0, 0] S512x128.size inb_S512x128_S512x128_0_0).toLoadRect.idx y)

/-- Columns 512 to 1023 of the weights. -/
abbrev rW1 : Rect S1024x3072 := Rect.unit (s := S1024x3072) ![0, 512] S1024x512.size inb_S1024x3072_S1024x512_0_512

/-- Section 1 of the projection. -/
def sec1 (x : Vec F S512x1024 .f32) (w : Vec F S1024x3072 .bf16) : FVec F S512x512 .f32 :=
  matmul dot_S512x1024_S1024x512_S512x512_1_0_0_1_n_n none (truncf .bf16 (shapeCast S512x1024 (allX x) shapeCasts_S512x1024_S512x1024) bitsLt_bf16_f32)
    (shapeCast S1024x512 (fun y => w (rW1.toLoadRect.idx y)) shapeCasts_S1024x512_S1024x512) (constant S512x512 .f32 0x00000000#32)

/-- Columns 1024 to 1535 of the weights. -/
abbrev rW2 : Rect S1024x3072 := Rect.unit (s := S1024x3072) ![0, 1024] S1024x512.size inb_S1024x3072_S1024x512_0_1024

/-- Section 2 of the projection. -/
def sec2 (x : Vec F S512x1024 .f32) (w : Vec F S1024x3072 .bf16) : FVec F S512x512 .f32 :=
  matmul dot_S512x1024_S1024x512_S512x512_1_0_0_1_n_n none (truncf .bf16 (shapeCast S512x1024 (allX x) shapeCasts_S512x1024_S512x1024) bitsLt_bf16_f32)
    (shapeCast S1024x512 (fun y => w (rW2.toLoadRect.idx y)) shapeCasts_S1024x512_S1024x512) (constant S512x512 .f32 0x00000000#32)

/-- Columns 1536 to 2047 of the weights. -/
abbrev rW3 : Rect S1024x3072 := Rect.unit (s := S1024x3072) ![0, 1536] S1024x512.size inb_S1024x3072_S1024x512_0_1536

/-- Section 3 of the projection. -/
def sec3 (x : Vec F S512x1024 .f32) (w : Vec F S1024x3072 .bf16) : FVec F S512x512 .f32 :=
  matmul dot_S512x1024_S1024x512_S512x512_1_0_0_1_n_n none (truncf .bf16 (shapeCast S512x1024 (allX x) shapeCasts_S512x1024_S512x1024) bitsLt_bf16_f32)
    (shapeCast S1024x512 (fun y => w (rW3.toLoadRect.idx y)) shapeCasts_S1024x512_S1024x512) (constant S512x512 .f32 0x00000000#32)

/-- Columns 2560 to 3071 of the weights. -/
abbrev rW5 : Rect S1024x3072 := Rect.unit (s := S1024x3072) ![0, 2560] S1024x512.size inb_S1024x3072_S1024x512_0_2560

/-- Section 5 of the projection. -/
def sec5 (x : Vec F S512x1024 .f32) (w : Vec F S1024x3072 .bf16) : FVec F S512x512 .f32 :=
  matmul dot_S512x1024_S1024x512_S512x512_1_0_0_1_n_n none (truncf .bf16 (shapeCast S512x1024 (allX x) shapeCasts_S512x1024_S512x1024) bitsLt_bf16_f32)
    (shapeCast S1024x512 (fun y => w (rW5.toLoadRect.idx y)) shapeCasts_S1024x512_S1024x512) (constant S512x512 .f32 0x00000000#32)

/-- Head 0's slice of a section. -/
def head0 (a : FVec F S512x512 .f32) : FVec F S512x128 .f32 := extractStridedSlice S512x128 ![0, 0] a slices_S512x512_o0_0_S512x128

/-- Head 1's slice of a section. -/
def head1 (a : FVec F S512x512 .f32) : FVec F S512x128 .f32 := extractStridedSlice S512x128 ![0, 128] a slices_S512x512_o0_128_S512x128

/-- Head 2's slice of a section. -/
def head2 (a : FVec F S512x512 .f32) : FVec F S512x128 .f32 := extractStridedSlice S512x128 ![0, 256] a slices_S512x512_o0_256_S512x128

/-- Head 3's slice of a section. -/
def head3 (a : FVec F S512x512 .f32) : FVec F S512x128 .f32 := extractStridedSlice S512x128 ![0, 384] a slices_S512x512_o0_384_S512x128

/-- The rows of the value block that hold head 0. -/
abbrev rV0 : Rect S2048x128 := ⟨(⟨![0, 0], S512x128.size, ![4, 1], inb_S2048x128_S512x128_0_0_s_4_1⟩ : LoadRect S2048x128), spos_4_1⟩

/-- The rows of the value block that hold head 1. -/
abbrev rV1 : Rect S2048x128 := ⟨(⟨![1, 0], S512x128.size, ![4, 1], inb_S2048x128_S512x128_1_0_s_4_1⟩ : LoadRect S2048x128), spos_4_1⟩

/-- The rows of the value block that hold head 2. -/
abbrev rV2 : Rect S2048x128 := ⟨(⟨![2, 0], S512x128.size, ![4, 1], inb_S2048x128_S512x128_2_0_s_4_1⟩ : LoadRect S2048x128), spos_4_1⟩

/-- The rows of the value block that hold head 3. -/
abbrev rV3 : Rect S2048x128 := ⟨(⟨![3, 0], S512x128.size, ![4, 1], inb_S2048x128_S512x128_3_0_s_4_1⟩ : LoadRect S2048x128), spos_4_1⟩

/-- The lanes of the first half of each map: those whose partner is to the right. -/
def rotMask : IVec S512x128 1 :=
  let v10 : BitVec 32 := Scalar.select (Scalar.cmpi .eq 64#32 0#32) 1#32 64#32
  let r : IVec S512x128 32 := remsi (iota .tc S512x128 32 [1] iota_S512x128_d1_w32) (broadcast S512x128 v10)
  cmpi .slt
    (select (andi (xori (cmpi .slt r (broadcast S512x128 0#32)) (broadcastTo S512x128 (broadcast S512x128 (Scalar.cmpi .slt v10 0#32)) broadcasts_S512x128_S512x128))
      (cmpi .ne r (broadcast S512x128 0#32))) (addi r (broadcast S512x128 v10)) r) (broadcast S512x128 32#32)

/-- The rotary positions of one head: each lane with its partner. -/
def ropeH (a cos sin : FVec F S512x128 .f32) : FVec F S512x128 .f32 :=
  addf (mulf a cos) (mulf (select rotMask (dynamicRotate 1 96#32 none a rotates_S512x128_d1) (dynamicRotate 1 32#32 none a rotates_S512x128_d1)) sin)

/-- The rotated keys of the block. -/
def keys (x : Vec F S512x1024 .f32) (w : Vec F S1024x3072 .bf16) (cos sin : Vec F S512x128 .f32) : FVec F S512x512 .f32 :=
  let co := shapeCast S512x128 (allT cos) shapeCasts_S512x128_S512x128
  let si := shapeCast S512x128 (allT sin) shapeCasts_S512x128_S512x128
  concatenate S512x512 1 [⟨S512x128, ropeH (head0 (sec1 x w)) co si⟩, ⟨S512x128, ropeH (head1 (sec1 x w)) co si⟩, ⟨S512x128, ropeH (head2 (sec1 x w)) co si⟩, ⟨S512x128, ropeH (head3 (sec1 x w)) co si⟩] concatenates_S512x128_S512x128_S512x128_S512x128_S512x512_d1

/-- The keys' window: the rotated keys, transposed. -/
def outK (x : Vec F S512x1024 .f32) (w : Vec F S1024x3072 .bf16) (cos sin : Vec F S512x128 .f32) : Vec F S1x512x512 .f32 :=
  shapeCast S1x512x512 (transpose S512x512 [1, 0] (keys x w cos sin) transposes_S512x512_p1_0_S512x512) shapeCasts_S512x512_S1x512x512

/-- The keys' second window. -/
def outKb (x : Vec F S512x1024 .f32) (w : Vec F S1024x3072 .bf16) (cos sin : Vec F S512x128 .f32) : Vec F S512x512 .bf16 :=
  truncf .bf16 (keys x w cos sin) bitsLt_bf16_f32

/-- The values' second window: transposed. -/
def outVt (x : Vec F S512x1024 .f32) (w : Vec F S1024x3072 .bf16) : Vec F S1x512x512 .bf16 :=
  shapeCast S1x512x512 (truncf .bf16 (transpose S512x512 [1, 0] (sec2 x w) transposes_S512x512_p1_0_S512x512) bitsLt_bf16_f32) shapeCasts_S512x512_S1x512x512

/-- The values' window: the four heads' rows, one in four each. -/
def outV (x : Vec F S512x1024 .f32) (w : Vec F S1024x3072 .bf16) : Vec F S2048x128 .f32 :=
  View.canon [⟨rV3, head3 (sec2 x w)⟩, ⟨rV2, head2 (sec2 x w)⟩, ⟨rV1, head1 (sec2 x w)⟩, ⟨rV0, head0 (sec2 x w)⟩]

/-- A row of the value block whose number leaves `o` on division by four is one of the rows of head `o`. -/
theorem mem_row (r : Rect S2048x128) (o : ℕ) (ho : r.off 0 = o) (ho1 : r.off 1 = 0) (hs : r.size 0 = 512) (hs1 : r.size 1 = 128)
    (ht : r.stride 0 = 4) (ht1 : r.stride 1 = 1) (y : S2048x128.Idx) (hm : (y 0).val % 4 = o) : y ∈ r.set := by
  have h0 : (y 0).val < 2048 := (y 0).isLt
  have h1 : (y 1).val < 128 := (y 1).isLt
  refine r.toLoadRect.mem_set.mpr (Fin.forall_fin_two.mpr ⟨⟨(y 0).val / 4, ?_, ?_⟩, ⟨(y 1).val, ?_, ?_⟩⟩)
  · rw [hs]; omega
  · rw [ho, ht]; omega
  · rw [hs1]; exact h1
  · rw [ho1, ht1]; omega

/-- The four heads' rows cover the value block. -/
theorem coverV (p0 p1 p2 p3 : FVec F S512x128 .f32) (y : S2048x128.Idx) :
    ∃ pc ∈ ([⟨rV3, p3⟩, ⟨rV2, p2⟩, ⟨rV1, p1⟩, ⟨rV0, p0⟩] : List (View.Piece (Elt F) S2048x128 .f32)), y ∈ pc.1.set := by
  have hm : (y 0).val % 4 = 0 ∨ (y 0).val % 4 = 1 ∨ (y 0).val % 4 = 2 ∨ (y 0).val % 4 = 3 := by omega
  rcases hm with h | h | h | h
  · exact ⟨⟨rV0, p0⟩, .tail _ (.tail _ (.tail _ (.head _))), mem_row rV0 0 rfl rfl rfl rfl rfl rfl y h⟩
  · exact ⟨⟨rV1, p1⟩, .tail _ (.tail _ (.head _)), mem_row rV1 1 rfl rfl rfl rfl rfl rfl y h⟩
  · exact ⟨⟨rV2, p2⟩, .tail _ (.head _), mem_row rV2 2 rfl rfl rfl rfl rfl rfl y h⟩
  · exact ⟨⟨rV3, p3⟩, .head _, mem_row rV3 3 rfl rfl rfl rfl rfl rfl y h⟩

end Cert.Kernel2Ideal.Mx
end
-- ==== Proof.C.ICall.lean ====
module

public import proofs.«01_k».proof.Proof.C.IModel
public import proofs.«01_k».proof.Proof.Gen.Kernel2Ideal.Frame
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value
public import Idealize.ShloMosaic.Lib.VecWindow

@[expose] public section

set_option maxRecDepth 16384
set_option maxHeartbeats 2000000

noncomputable section

namespace Cert.Kernel2Ideal.Mx

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

variable (c : Dev nD) (i : grid0.Coords) (arg1 : Memref sig .tc .vmem S512x1024 .f32) (harg1 : arg1.IsWhole) (arg2 : Memref sig .tc .vmem S1024x3072 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S2x512 .f32) (harg5 : arg5.IsWhole) (arg6 : Memref sig .tc .vmem S1x512x512 .f32) (harg6 : arg6.IsWhole) (arg7 : Memref sig .tc .vmem S2048x128 .f32) (harg7 : arg7.IsWhole) (arg8 : Memref sig .tc .vmem S1x512x512 .bf16) (harg8 : arg8.IsWhole) (arg9 : Memref sig .tc .vmem S512x512 .bf16) (harg9 : arg9.IsWhole) (arg10 : Memref sig .tc .vmem S1x512x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole)

/-- The call at one block of rows. -/
theorem call (E : Set ℕ) (x1 : Vec F S512x1024 .f32) (x2 : Vec F S1024x3072 .bf16) (x3 : Vec F S512x128 .f32) (x4 : Vec F S512x128 .f32) (x5 : Vec F S2x512 .f32) (Q : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outK x1 x2 x3 x4) ∗ owns (c : Thread nD τ) arg7 fullShare (outV x1 x2) ∗ (∃ d, owns (c : Thread nD τ) arg8 fullShare d) ∗ owns (c : Thread nD τ) arg9 fullShare (outKb x1 x2 x3 x4) ∗ owns (c : Thread nD τ) arg10 fullShare (outVt x1 x2) ∗ owns (c : Thread nD τ) arg11 fullShare (sec3 x1 x2) ∗ (∃ d, owns (c : Thread nD τ) arg12 fullShare d) ∗ (∃ d, owns (c : Thread nD τ) arg13 fullShare d) ∗ owns (c : Thread nD τ) arg14 fullShare (sec5 x1 x2)) -∗ Q ⟨⟩))
      ⊢ wp frame (wpE (defs₀ (F := F)) Variants.none (c : Thread nD τ) none) E (cc0_mixer_proj (F := F) i arg1 harg1 arg2 harg2 arg3 harg3 arg4 harg4 arg5 harg5 arg6 harg6 arg7 harg7 arg8 harg8 arg9 harg9 arg10 harg10 arg11 harg11 arg12 harg12 arg13 harg13 arg14 harg14) Q := by
  unfold cc0_mixer_proj k0_part1 k0_part2 k0_part3 k0_part4 k0_part5 k0_part6 k0_part7
  unfold owns
  iintro ⟨⟨%X1, %h1, HR_arg1⟩, ⟨%X2, %h2, HR_arg2⟩, ⟨%X3, %h3, HR_arg3⟩, ⟨%X4, %h4, HR_arg4⟩, ⟨%X5, %h5, HR_arg5⟩, ⟨%d6, %f6, -, HW_arg6⟩, ⟨%d7, %f7, -, HW_arg7⟩, ⟨%d8, %f8, -, HW_arg8⟩, ⟨%d9, %f9, -, HW_arg9⟩, ⟨%d10, %f10, -, HW_arg10⟩, ⟨%d11, %f11, -, HW_arg11⟩, ⟨%d12, %f12, -, HW_arg12⟩, ⟨%d13, %f13, -, HW_arg13⟩, ⟨%d14, %f14, -, HW_arg14⟩, Hk⟩
  subst h1 h2 h3 h4 h5
  sl_exec
  sl_step
  iapply Hk
  isplitl [HR_arg1]
  · iexists X1; isplitr; · ipureintro; rfl
    iexact HR_arg1
  isplitl [HR_arg2]
  · iexists X2; isplitr; · ipureintro; rfl
    iexact HR_arg2
  isplitl [HR_arg3]
  · iexists X3; isplitr; · ipureintro; rfl
    iexact HR_arg3
  isplitl [HR_arg4]
  · iexists X4; isplitr; · ipureintro; rfl
    iexact HR_arg4
  isplitl [HR_arg5]
  · iexists X5; isplitr; · ipureintro; rfl
    iexact HR_arg5
  isplitl [HW_arg6]
  · iexists _; isplitr; swap; · iexact HW_arg6
    ipureintro
    exact (View.read_writes_full _ _ _ _ _).trans rfl
  isplitl [HW_arg7]
  · iexists _; isplitr; swap; · iexact HW_arg7
    ipureintro
    exact (View.read_writes_eq_canon _ _ _ (coverV _ _ _ _)).trans rfl
  isplitl [HW_arg8]
  · iexists _, _; isplitr; swap; · iexact HW_arg8
    ipureintro; rfl
  isplitl [HW_arg9]
  · iexists _; isplitr; swap; · iexact HW_arg9
    ipureintro
    exact (View.read_writes_full _ _ _ _ _).trans rfl
  isplitl [HW_arg10]
  · iexists _; isplitr; swap; · iexact HW_arg10
    ipureintro
    exact (View.read_writes_full _ _ _ _ _).trans rfl
  isplitl [HW_arg11]
  · iexists _; isplitr; swap; · iexact HW_arg11
    ipureintro
    exact (View.read_writes_full _ _ _ _ _).trans rfl
  isplitl [HW_arg12]
  · iexists _, _; isplitr; swap; · iexact HW_arg12
    ipureintro; rfl
  isplitl [HW_arg13]
  · iexists _, _; isplitr; swap; · iexact HW_arg13
    ipureintro; rfl
  iexists _; isplitr; swap; · iexact HW_arg14
  ipureintro
  exact (View.read_writes_full _ _ _ _ _).trans rfl

end Cert.Kernel2Ideal.Mx
end
-- ==== Proof.C.IRun.lean ====
module

public import proofs.«01_k».proof.Proof.C.ICall
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value

@[expose] public section

set_option maxRecDepth 8192
set_option maxHeartbeats 2000000

noncomputable section

namespace Cert.Kernel2Ideal.Mx

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

variable (m : (ℓ : Loc nD τ sig) → Buf (Elt F) ℓ) (ρ : Dev nD → PrngReg)

/-- The windows this file does not describe: the queries and the two gates. -/
def unread : Fin cfg0.W → Bool := fun w => match w with | ⟨7, _⟩ => true | ⟨11, _⟩ => true | ⟨12, _⟩ => true | _ => false

/-- The proof data: each input's buffer stays at its block, each described output's holds its function of the blocks. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outK (iblk m c 0 t) (iblk m c 1 t) (iblk m c 2 t) (iblk m c 3 t)
    | ⟨6, _⟩ => outV (iblk m c 0 t) (iblk m c 1 t)
    | ⟨7, _⟩ => Pipeline.Dat.unnamed (cfg := cfg0) 7 t
    | ⟨8, _⟩ => outKb (iblk m c 0 t) (iblk m c 1 t) (iblk m c 2 t) (iblk m c 3 t)
    | ⟨9, _⟩ => outVt (iblk m c 0 t) (iblk m c 1 t)
    | ⟨10, _⟩ => sec3 (iblk m c 0 t) (iblk m c 1 t)
    | ⟨11, _⟩ => Pipeline.Dat.unnamed (cfg := cfg0) 11 t
    | ⟨12, _⟩ => Pipeline.Dat.unnamed (cfg := cfg0) 12 t
    | ⟨13, _⟩ => sec5 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d

theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d

theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d

theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d

theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d

theorem after0_5 (c : Dev nD) (t : Fin cfg0.N) : (dats m 0 c).after 5 t = outK (iblk m c 0 t) (iblk m c 1 t) (iblk m c 2 t) (iblk m c 3 t) := by dsimp only [dats]
theorem after0_6 (c : Dev nD) (t : Fin cfg0.N) : (dats m 0 c).after 6 t = outV (iblk m c 0 t) (iblk m c 1 t) := by dsimp only [dats]
theorem after0_8 (c : Dev nD) (t : Fin cfg0.N) : (dats m 0 c).after 8 t = outKb (iblk m c 0 t) (iblk m c 1 t) (iblk m c 2 t) (iblk m c 3 t) := by dsimp only [dats]
theorem after0_9 (c : Dev nD) (t : Fin cfg0.N) : (dats m 0 c).after 9 t = outVt (iblk m c 0 t) (iblk m c 1 t) := by dsimp only [dats]
theorem after0_10 (c : Dev nD) (t : Fin cfg0.N) : (dats m 0 c).after 10 t = sec3 (iblk m c 0 t) (iblk m c 1 t) := by dsimp only [dats]
theorem after0_13 (c : Dev nD) (t : Fin cfg0.N) : (dats m 0 c).after 13 t = sec5 (iblk m c 0 t) (iblk m c 1 t) := by dsimp only [dats]

/-- What the body is called with, and what it returns. -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare d) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare d) ∗ (∃ d, owns (c : Thread nD τ) (st0_12 t) fullShare d) ∗ (∃ d, owns (c : Thread nD τ) (st0_13 t) fullShare ((dats m 0 c).before 13 t d)))
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ (∃ d, owns (c : Thread nD τ) (st0_7 t) fullShare d) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ (∃ d, owns (c : Thread nD τ) (st0_11 t) fullShare d) ∗ (∃ d, owns (c : Thread nD τ) (st0_12 t) fullShare d) ∗ owns (c : Thread nD τ) (st0_13 t) fullShare ((dats m 0 c).after 13 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_8, after0_9, after0_10, after0_13]
  iintro ⟨Hf, Ho, ⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩, ⟨%d10, H10⟩, H11, H12, ⟨%d13, H13⟩⟩
  iapply (call c _ _ _ _ _ _ _ _ _ _ _ _ _ _ _ _ _ _ _ _ _ _ _ _ _ _ _ _ _ Set.univ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexists _; iexact H8
  isplitl [H9]; · iexists _; iexact H9
  isplitl [H10]; · iexists _; iexact H10
  isplitl [H11]; · iexact H11
  isplitl [H12]; · iexact H12
  isplitl [H13]; · iexists _; iexact H13
  iintro ⟨H0, H1, H2, H3, H4, H5, H6, H7, H8, H9, H10, H11, H12, H13⟩
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ unread := fun t => by
  rw [bigSep_W0, bigSep_W0, defs₀_row]
  exact triple_restated (sound_body m c t) rfl .rfl fun _ => .rfl

set_option backward.isDefEq.respectTransparency.types false in
/-- The run: every fair execution ends, the arrays no window stages are as they were and every counter is at zero. -/
theorem run_main : θ_run defs (onTc (τ := τ) (main (F := F))) (s₀ m ρ)
      (fun r => Pipeline.RDat.FramePost (cfgs 0) (fun c => (dats m 0 c).toRForget unread) (V m) r ∧ r.2.sem = fun _ => 0) :=
  Pipeline.θ_run_frame_forget (Q' := _) cfgs (dats m) (0 : Fin 1) launch0 defs₀ Variants.none unread m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged and every counter at zero. -/
theorem runs : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (((dats m 0 c).toRForget_arrAt_iff (fgt := unread) (w := 4) rfl _ _).mp ((h.1 c).1 4)).trans (((dats m 0 c).arrAt_in 4 rfl _).trans ((A_eq m c 4).trans (V_main_arg2 m c)))⟩, h.2⟩) (run_main m ρ)

/-- The described results end at the arrays the data names, and the arguments end unchanged. -/
theorem vals : θ_run defs (onTc (τ := τ) (main (F := F))) ⟨m, fun _ => 0, ρ⟩ (fun r => ∀ c : Dev nD,
      r.2.mem ((c.tc : Thread nD τ).loc main_v30_0) = (dats m 0 c).arrAt 5 cfg0.N
      ∧ r.2.mem ((c.tc : Thread nD τ).loc main_v30_1) = (dats m 0 c).arrAt 6 cfg0.N
      ∧ r.2.mem ((c.tc : Thread nD τ).loc main_v30_3) = (dats m 0 c).arrAt 8 cfg0.N
      ∧ r.2.mem ((c.tc : Thread nD τ).loc main_v30_4) = (dats m 0 c).arrAt 9 cfg0.N
      ∧ r.2.mem ((c.tc : Thread nD τ).loc main_v30_5) = (dats m 0 c).arrAt 10 cfg0.N
      ∧ r.2.mem ((c.tc : Thread nD τ).loc main_v30_8) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((dats m 0 c).toRForget_arrAt_iff (fgt := unread) (w := 5) rfl _ _).mp ((h.1 c).1 5),
      ((dats m 0 c).toRForget_arrAt_iff (fgt := unread) (w := 6) rfl _ _).mp ((h.1 c).1 6),
      ((dats m 0 c).toRForget_arrAt_iff (fgt := unread) (w := 8) rfl _ _).mp ((h.1 c).1 8),
      ((dats m 0 c).toRForget_arrAt_iff (fgt := unread) (w := 9) rfl _ _).mp ((h.1 c).1 9),
      ((dats m 0 c).toRForget_arrAt_iff (fgt := unread) (w := 10) rfl _ _).mp ((h.1 c).1 10),
      ((dats m 0 c).toRForget_arrAt_iff (fgt := unread) (w := 13) rfl _ _).mp ((h.1 c).1 13),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (((dats m 0 c).toRForget_arrAt_iff (fgt := unread) (w := 4) rfl _ _).mp ((h.1 c).1 4)).trans (((dats m 0 c).arrAt_in 4 rfl _).trans ((A_eq m c 4).trans (V_main_arg2 m c)))⟩) (run_main m ρ)

end Cert.Kernel2Ideal.Mx
end
-- ==== Proof.C.Elem.lean ====
module

public import proofs.«01_k».proof.Proof.C.IModel
public import Idealize.ShloMosaic.Lib.Pointwise
public import Idealize.ShloMosaic.Lib.Pipeline.Value

@[expose] public section

set_option maxRecDepth 8192
set_option maxHeartbeats 1000000

/-! The projection's block functions over the extended reals, read at an index. -/

noncomputable section

namespace Cert.Kernel2Ideal.Mx

open Cert.Kernel2Ideal Cert.Kernel2Ideal.Gen
open Idealize.ShloMosaic Idealize.ShloMosaic.TcCoe

/-- Section 1 at an index: the row of the block times the column of the weights. -/
theorem sec1_apply (x : Vec Ideal S512x1024 .f32) (w : Vec Ideal S1024x3072 .bf16) (r j : Fin 512) :
    sec1 x w (ix2 r j) = ∑ k : Fin 1024, x (ix2 r k) * w (ix2 k ⟨512 + j.val, by omega⟩) := by
  unfold sec1
  pointwise [allX, rW1]

/-- Section 2 at an index: the row of the block times the column of the weights. -/
theorem sec2_apply (x : Vec Ideal S512x1024 .f32) (w : Vec Ideal S1024x3072 .bf16) (r j : Fin 512) :
    sec2 x w (ix2 r j) = ∑ k : Fin 1024, x (ix2 r k) * w (ix2 k ⟨1024 + j.val, by omega⟩) := by
  unfold sec2
  pointwise [allX, rW2]

/-- Section 3 at an index: the row of the block times the column of the weights. -/
theorem sec3_apply (x : Vec Ideal S512x1024 .f32) (w : Vec Ideal S1024x3072 .bf16) (r j : Fin 512) :
    sec3 x w (ix2 r j) = ∑ k : Fin 1024, x (ix2 r k) * w (ix2 k ⟨1536 + j.val, by omega⟩) := by
  unfold sec3
  pointwise [allX, rW3]

/-- Section 5 at an index: the row of the block times the column of the weights. -/
theorem sec5_apply (x : Vec Ideal S512x1024 .f32) (w : Vec Ideal S1024x3072 .bf16) (r j : Fin 512) :
    sec5 x w (ix2 r j) = ∑ k : Fin 1024, x (ix2 r k) * w (ix2 k ⟨2560 + j.val, by omega⟩) := by
  unfold sec5
  pointwise [allX, rW5]

/-- Head 0's slice at an index. -/
theorem head0_apply (a : FVec Ideal S512x512 .f32) (r : Fin 512) (l : Fin 128) : head0 a (ix2 r l) = a (ix2 r ⟨0 + l.val, by omega⟩) := by
  unfold head0
  pointwise

/-- Head 1's slice at an index. -/
theorem head1_apply (a : FVec Ideal S512x512 .f32) (r : Fin 512) (l : Fin 128) : head1 a (ix2 r l) = a (ix2 r ⟨128 + l.val, by omega⟩) := by
  unfold head1
  pointwise

/-- Head 2's slice at an index. -/
theorem head2_apply (a : FVec Ideal S512x512 .f32) (r : Fin 512) (l : Fin 128) : head2 a (ix2 r l) = a (ix2 r ⟨256 + l.val, by omega⟩) := by
  unfold head2
  pointwise

/-- Head 3's slice at an index. -/
theorem head3_apply (a : FVec Ideal S512x512 .f32) (r : Fin 512) (l : Fin 128) : head3 a (ix2 r l) = a (ix2 r ⟨384 + l.val, by omega⟩) := by
  unfold head3
  pointwise

/-- The mask is set on the first half of each map's lanes. -/
theorem rotMask_apply (r : Fin 512) (l : Fin 128) : rotMask (ix2 r l) = if l.val % 64 < 32 then 1#1 else 0#1 := by
  unfold rotMask
  pointwise
  revert l
  decide +kernel

/-- The lane a lane is paired with. -/
def mate (l : Fin 128) : Fin 128 := if l.val % 64 < 32 then ⟨(l.val + 32) % 128, by omega⟩ else ⟨(l.val + 96) % 128, by omega⟩

/-- One head's rotation at an index. -/
theorem ropeH_apply (a cos sin : FVec Ideal S512x128 .f32) (r : Fin 512) (l : Fin 128) :
    ropeH a cos sin (ix2 r l) = a (ix2 r l) * cos (ix2 r l) + a (ix2 r (mate l)) * sin (ix2 r l) := by
  unfold ropeH mate
  pointwise
  rw [rotMask_apply]
  have hl := l.isLt
  by_cases h : l.val % 64 < 32
  · rw [if_pos h, if_pos h]
    have e : (l.val + 128 - 96) % 128 = (l.val + 32) % 128 := by omega
    simp only [Scalar.select, e]
    rfl
  · rw [if_neg h, if_neg h]
    have e : (l.val + 128 - 32) % 128 = (l.val + 96) % 128 := by omega
    simp only [Scalar.select, e]
    rfl

theorem keys_apply0 (x : Vec Ideal S512x1024 .f32) (w : Vec Ideal S1024x3072 .bf16) (cos sin : Vec Ideal S512x128 .f32) (r : Fin 512) (l : Fin 128) :
    keys x w cos sin (ix2 r ⟨0 + l.val, by omega⟩)
      = sec1 x w (ix2 r ⟨0 + l.val, by omega⟩) * cos (ix2 r l) + sec1 x w (ix2 r ⟨0 + (mate l).val, by omega⟩) * sin (ix2 r l) := by
  rw [← head0_apply (sec1 x w) r l, ← head0_apply (sec1 x w) r (mate l)]
  unfold keys
  refine Eq.trans (concatenate_apply_piece (t := S512x512) 1 _ _ _ 0 (by show 0 < 4; decide) S512x128 _ rfl rfl 0 rfl (ix2 r l) ?_ rfl) ?_
  · intro b hb
    match b, hb with
    | ⟨0, _⟩, _ => rfl
    | ⟨1, _⟩, hb => exact absurd rfl hb
  rw [ropeH_apply]
  congr 2
  · pointwise [allT]
  · pointwise [allT]

theorem keys_apply1 (x : Vec Ideal S512x1024 .f32) (w : Vec Ideal S1024x3072 .bf16) (cos sin : Vec Ideal S512x128 .f32) (r : Fin 512) (l : Fin 128) :
    keys x w cos sin (ix2 r ⟨128 + l.val, by omega⟩)
      = sec1 x w (ix2 r ⟨128 + l.val, by omega⟩) * cos (ix2 r l) + sec1 x w (ix2 r ⟨128 + (mate l).val, by omega⟩) * sin (ix2 r l) := by
  rw [← head1_apply (sec1 x w) r l, ← head1_apply (sec1 x w) r (mate l)]
  unfold keys
  refine Eq.trans (concatenate_apply_piece (t := S512x512) 1 _ _ _ 1 (by show 1 < 4; decide) S512x128 _ rfl rfl 128 rfl (ix2 r l) ?_ rfl) ?_
  · intro b hb
    match b, hb with
    | ⟨0, _⟩, _ => rfl
    | ⟨1, _⟩, hb => exact absurd rfl hb
  rw [ropeH_apply]
  congr 2
  · pointwise [allT]
  · pointwise [allT]

theorem keys_apply2 (x : Vec Ideal S512x1024 .f32) (w : Vec Ideal S1024x3072 .bf16) (cos sin : Vec Ideal S512x128 .f32) (r : Fin 512) (l : Fin 128) :
    keys x w cos sin (ix2 r ⟨256 + l.val, by omega⟩)
      = sec1 x w (ix2 r ⟨256 + l.val, by omega⟩) * cos (ix2 r l) + sec1 x w (ix2 r ⟨256 + (mate l).val, by omega⟩) * sin (ix2 r l) := by
  rw [← head2_apply (sec1 x w) r l, ← head2_apply (sec1 x w) r (mate l)]
  unfold keys
  refine Eq.trans (concatenate_apply_piece (t := S512x512) 1 _ _ _ 2 (by show 2 < 4; decide) S512x128 _ rfl rfl 256 rfl (ix2 r l) ?_ rfl) ?_
  · intro b hb
    match b, hb with
    | ⟨0, _⟩, _ => rfl
    | ⟨1, _⟩, hb => exact absurd rfl hb
  rw [ropeH_apply]
  congr 2
  · pointwise [allT]
  · pointwise [allT]

theorem keys_apply3 (x : Vec Ideal S512x1024 .f32) (w : Vec Ideal S1024x3072 .bf16) (cos sin : Vec Ideal S512x128 .f32) (r : Fin 512) (l : Fin 128) :
    keys x w cos sin (ix2 r ⟨384 + l.val, by omega⟩)
      = sec1 x w (ix2 r ⟨384 + l.val, by omega⟩) * cos (ix2 r l) + sec1 x w (ix2 r ⟨384 + (mate l).val, by omega⟩) * sin (ix2 r l) := by
  rw [← head3_apply (sec1 x w) r l, ← head3_apply (sec1 x w) r (mate l)]
  unfold keys
  refine Eq.trans (concatenate_apply_piece (t := S512x512) 1 _ _ _ 3 (by show 3 < 4; decide) S512x128 _ rfl rfl 384 rfl (ix2 r l) ?_ rfl) ?_
  · intro b hb
    match b, hb with
    | ⟨0, _⟩, _ => rfl
    | ⟨1, _⟩, hb => exact absurd rfl hb
  rw [ropeH_apply]
  congr 2
  · pointwise [allT]
  · pointwise [allT]

/-- The rotated keys at an index. -/
theorem keys_apply (x : Vec Ideal S512x1024 .f32) (w : Vec Ideal S1024x3072 .bf16) (cos sin : Vec Ideal S512x128 .f32) (r : Fin 512) (h : Fin 4) (l : Fin 128) :
    keys x w cos sin (ix2 r ⟨128 * h.val + l.val, by omega⟩)
      = sec1 x w (ix2 r ⟨128 * h.val + l.val, by omega⟩) * cos (ix2 r l) + sec1 x w (ix2 r ⟨128 * h.val + (mate l).val, by omega⟩) * sin (ix2 r l) := by
  fin_cases h
  · exact keys_apply0 x w cos sin r l
  · exact keys_apply1 x w cos sin r l
  · exact keys_apply2 x w cos sin r l
  · exact keys_apply3 x w cos sin r l

theorem outK_apply (x : Vec Ideal S512x1024 .f32) (w : Vec Ideal S1024x3072 .bf16) (cos sin : Vec Ideal S512x128 .f32) (u : Fin 1) (j r : Fin 512) :
    outK x w cos sin (ix3 u j r) = keys x w cos sin (ix2 r j) := by
  unfold outK
  pointwise

theorem outKb_apply (x : Vec Ideal S512x1024 .f32) (w : Vec Ideal S1024x3072 .bf16) (cos sin : Vec Ideal S512x128 .f32) (r j : Fin 512) :
    outKb x w cos sin (ix2 r j) = keys x w cos sin (ix2 r j) := by
  unfold outKb
  pointwise

theorem outVt_apply (x : Vec Ideal S512x1024 .f32) (w : Vec Ideal S1024x3072 .bf16) (u : Fin 1) (j r : Fin 512) :
    outVt x w (ix3 u j r) = sec2 x w (ix2 r j) := by
  unfold outVt
  pointwise

/-- The value block at an index: row `4 r + h` holds head `h` of row `r`. -/
theorem outV_apply (x : Vec Ideal S512x1024 .f32) (w : Vec Ideal S1024x3072 .bf16) (y : S2048x128.Idx) :
    outV x w y = sec2 x w (ix2 ⟨(y 0).val / 4, by have : (y 0).val < 2048 := (y 0).isLt; omega⟩ ⟨128 * ((y 0).val % 4) + (y 1).val, by have : (y 1).val < 128 := (y 1).isLt; omega⟩) := by
  unfold outV
  refine View.canon_apply_of_pieces (Val := Elt Ideal) (e := .f32) (fun y : S2048x128.Idx => sec2 x w (ix2 ⟨(y 0).val / 4, by have : (y 0).val < 2048 := (y 0).isLt; omega⟩ ⟨128 * ((y 0).val % 4) + (y 1).val, by have : (y 1).val < 128 := (y 1).isLt; omega⟩)) _ ?_ y (coverV _ _ _ _ y)
  intro p hp z
  simp only [List.mem_cons, List.not_mem_nil, or_false] at hp
  rcases hp with rfl | rfl | rfl | rfl
  · obtain ⟨r, l, rfl⟩ : ∃ (r : Fin 512) (l : Fin 128), z = ix2 r l := ⟨z 0, z 1, funext fun a => by match a with | ⟨0, _⟩ => rfl | ⟨1, _⟩ => rfl⟩
    refine (head3_apply (sec2 x w) r l).trans (congrArg (sec2 x w) ?_)
    refine Shape.idx_ext₂ ?_ ?_
    · show r.val = (3 + 4 * r.val) / 4
      omega
    · show 384 + l.val = 128 * ((3 + 4 * r.val) % 4) + (0 + 1 * l.val)
      omega
  · obtain ⟨r, l, rfl⟩ : ∃ (r : Fin 512) (l : Fin 128), z = ix2 r l := ⟨z 0, z 1, funext fun a => by match a with | ⟨0, _⟩ => rfl | ⟨1, _⟩ => rfl⟩
    refine (head2_apply (sec2 x w) r l).trans (congrArg (sec2 x w) ?_)
    refine Shape.idx_ext₂ ?_ ?_
    · show r.val = (2 + 4 * r.val) / 4
      omega
    · show 256 + l.val = 128 * ((2 + 4 * r.val) % 4) + (0 + 1 * l.val)
      omega
  · obtain ⟨r, l, rfl⟩ : ∃ (r : Fin 512) (l : Fin 128), z = ix2 r l := ⟨z 0, z 1, funext fun a => by match a with | ⟨0, _⟩ => rfl | ⟨1, _⟩ => rfl⟩
    refine (head1_apply (sec2 x w) r l).trans (congrArg (sec2 x w) ?_)
    refine Shape.idx_ext₂ ?_ ?_
    · show r.val = (1 + 4 * r.val) / 4
      omega
    · show 128 + l.val = 128 * ((1 + 4 * r.val) % 4) + (0 + 1 * l.val)
      omega
  · obtain ⟨r, l, rfl⟩ : ∃ (r : Fin 512) (l : Fin 128), z = ix2 r l := ⟨z 0, z 1, funext fun a => by match a with | ⟨0, _⟩ => rfl | ⟨1, _⟩ => rfl⟩
    refine (head0_apply (sec2 x w) r l).trans (congrArg (sec2 x w) ?_)
    refine Shape.idx_ext₂ ?_ ?_
    · show r.val = (0 + 4 * r.val) / 4
      omega
    · show 0 + l.val = 128 * ((0 + 4 * r.val) % 4) + (0 + 1 * l.val)
      omega

end Cert.Kernel2Ideal.Mx
end
-- ==== Proof.C.Blk.lean ====
module

public import proofs.«01_k».proof.Proof.C.IRun
public import proofs.«01_k».proof.Proof.C.Elem

@[expose] public section

set_option maxRecDepth 8192
set_option maxHeartbeats 1000000

/-! The windows' blocks: which elements of its array each block holds. -/

noncomputable section

namespace Cert.Kernel2Ideal.Mx

open Cert.Kernel2Ideal Cert.Kernel2Ideal.Gen
open Idealize.ShloMosaic Idealize.ShloMosaic.TcCoe

theorem ix0 : ∀ t : Fin cfg0.N, (win0_0.index t 0 = t.val ∧ win0_0.index t 1 = 0) := by decide +kernel
theorem ix1 : ∀ t : Fin cfg0.N, (win0_1.index t 0 = 0 ∧ win0_1.index t 1 = 0) := by decide +kernel
theorem ix2' : ∀ t : Fin cfg0.N, (win0_2.index t 0 = t.val % 16 ∧ win0_2.index t 1 = 0) := by decide +kernel
theorem ix3' : ∀ t : Fin cfg0.N, (win0_3.index t 0 = t.val % 16 ∧ win0_3.index t 1 = 0) := by decide +kernel
theorem ix5' : ∀ t : Fin cfg0.N, (win0_5.index t 0 = t.val / 16 ∧ win0_5.index t 1 = 0 ∧ win0_5.index t 2 = t.val % 16) := by decide +kernel
theorem ix6 : ∀ t : Fin cfg0.N, (win0_6.index t 0 = t.val ∧ win0_6.index t 1 = 0) := by decide +kernel
theorem ix8 : ∀ t : Fin cfg0.N, (win0_8.index t 0 = t.val ∧ win0_8.index t 1 = 0) := by decide +kernel
theorem ix9 : ∀ t : Fin cfg0.N, (win0_9.index t 0 = t.val ∧ win0_9.index t 1 = 0 ∧ win0_9.index t 2 = 0) := by decide +kernel
theorem ix10 : ∀ t : Fin cfg0.N, (win0_10.index t 0 = t.val ∧ win0_10.index t 1 = 0) := by decide +kernel
theorem ix13 : ∀ t : Fin cfg0.N, (win0_13.index t 0 = t.val ∧ win0_13.index t 1 = 0) := by decide +kernel

variable (m : (ℓ : Loc nD τ sig) → Buf (Elt Ideal) ℓ) (c : Dev nD)

theorem lt32 (t : Fin cfg0.N) : t.val < 32 := by have := t.isLt; have : cfg0.N = 32 := N_0; omega

/-- The activations' block holds 512 rows. -/
theorem iblk0_apply (t : Fin cfg0.N) (r : Fin 512) (k : Fin 1024) :
    iblk m c 0 t (ix2 r k) = V m c main_v29 (ix2 ⟨512 * t.val + r.val, by have := lt32 t; omega⟩ k) := by
  show V m c main_v29 ((win0_0.rect t).emb (ix2 r k)) = _
  refine congrArg (V m c main_v29) (Shape.idx_ext₂ ?_ ?_)
  · refine (Pipeline.Window.rect_emb_val win0_0 t (ix2 r k) 0).trans ?_
    rw [(ix0 t).1]
    show t.val * 512 + r.val = 512 * t.val + r.val
    omega
  · refine (Pipeline.Window.rect_emb_val win0_0 t (ix2 r k) 1).trans ?_
    rw [(ix0 t).2]
    show 0 * 1024 + k.val = k.val
    omega

/-- The weights' block is the whole array. -/
theorem iblk1_apply (t : Fin cfg0.N) (r : Fin 1024) (k : Fin 3072) :
    iblk m c 1 t (ix2 r k) = V m c main_v28 (ix2 r k) := by
  show V m c main_v28 ((win0_1.rect t).emb (ix2 r k)) = _
  refine congrArg (V m c main_v28) (Shape.idx_ext₂ ?_ ?_)
  · refine (Pipeline.Window.rect_emb_val win0_1 t (ix2 r k) 0).trans ?_
    rw [(ix1 t).1]
    show 0 * 1024 + r.val = r.val
    omega
  · refine (Pipeline.Window.rect_emb_val win0_1 t (ix2 r k) 1).trans ?_
    rw [(ix1 t).2]
    show 0 * 3072 + k.val = k.val
    omega

/-- The cosines' block holds the rows of the block's positions. -/
theorem iblk2_apply (t : Fin cfg0.N) (r : Fin 512) (k : Fin 128) :
    iblk m c 2 t (ix2 r k) = V m c main_v20 (ix2 ⟨512 * (t.val % 16) + r.val, by omega⟩ k) := by
  show V m c main_v20 ((win0_2.rect t).emb (ix2 r k)) = _
  refine congrArg (V m c main_v20) (Shape.idx_ext₂ ?_ ?_)
  · refine (Pipeline.Window.rect_emb_val win0_2 t (ix2 r k) 0).trans ?_
    rw [(ix2' t).1]
    show t.val % 16 * 512 + r.val = 512 * (t.val % 16) + r.val
    omega
  · refine (Pipeline.Window.rect_emb_val win0_2 t (ix2 r k) 1).trans ?_
    rw [(ix2' t).2]
    show 0 * 128 + k.val = k.val
    omega

/-- The sines' block holds the rows of the block's positions. -/
theorem iblk3_apply (t : Fin cfg0.N) (r : Fin 512) (k : Fin 128) :
    iblk m c 3 t (ix2 r k) = V m c main_v25 (ix2 ⟨512 * (t.val % 16) + r.val, by omega⟩ k) := by
  show V m c main_v25 ((win0_3.rect t).emb (ix2 r k)) = _
  refine congrArg (V m c main_v25) (Shape.idx_ext₂ ?_ ?_)
  · refine (Pipeline.Window.rect_emb_val win0_3 t (ix2 r k) 0).trans ?_
    rw [(ix3' t).1]
    show t.val % 16 * 512 + r.val = 512 * (t.val % 16) + r.val
    omega
  · refine (Pipeline.Window.rect_emb_val win0_3 t (ix2 r k) 1).trans ?_
    rw [(ix3' t).2]
    show 0 * 128 + k.val = k.val
    omega

/-- What result window 6 ends holding, from what each point writes. -/
theorem final6 (G : (S65536x128).Idx → Ideal .f32)
    (hG : ∀ (t : Fin cfg0.N) (r : Fin 2048) (j : Fin 128), (dats m 0 c).after 6 t (ix2 r j) = G (ix2 ⟨2048 * t.val + r.val, by have := lt32 t; omega⟩ j)) :
    (dats m 0 c).arrAt 6 cfg0.N = G := by
  have hemb : ∀ (t : Fin cfg0.N) (r : Fin 2048) (j : Fin 128), (win0_6.rect t).emb (ix2 r j) = (ix2 ⟨2048 * t.val + r.val, by have := lt32 t; omega⟩ j : (S65536x128).Idx) := by
    intro t r j
    refine Shape.idx_ext₂ ?_ ?_
    · refine (Pipeline.Window.rect_emb_val win0_6 t (ix2 r j) 0).trans ?_
      rw [(ix6 t).1]
      show t.val * 2048 + r.val = 2048 * t.val + r.val
      omega
    · refine (Pipeline.Window.rect_emb_val win0_6 t (ix2 r j) 1).trans ?_
      rw [(ix6 t).2]
      show 0 * 128 + j.val = j.val
      omega
  have hcov : ∀ i : (S65536x128).Idx, ∃ (t : Fin cfg0.N) (r : Fin 2048) (j : Fin 128), i = (win0_6.rect t).emb (ix2 r j) := by
    intro i
    have h0 : (i 0).val < 65536 := (i 0).isLt
    have ht : (i 0).val / 2048 < cfg0.N := by rw [show cfg0.N = 32 from N_0]; omega
    refine ⟨⟨(i 0).val / 2048, ht⟩, ⟨(i 0).val % 2048, by omega⟩, i 1, Eq.trans ?_ (hemb _ _ _).symm⟩
    refine Shape.idx_ext₂ ?_ rfl
    show (i 0).val = 2048 * ((i 0).val / 2048) + (i 0).val % 2048
    omega
  refine (dats m 0 c).arrAt_eq_of_cover 6 G (fun t _ => funext fun y => ?_) (fun i => ?_)
  · obtain ⟨r, j, rfl⟩ : ∃ (r : Fin 2048) (j : Fin 128), y = ix2 r j := ⟨y 0, y 1, funext fun a => by match a with | ⟨0, _⟩ => rfl | ⟨1, _⟩ => rfl⟩
    show (dats m 0 c).after 6 t (ix2 r j) = G ((win0_6.rect t).emb (ix2 r j))
    rw [hG, hemb]
  · obtain ⟨t, r, j, e⟩ := hcov i
    refine ⟨t, flush0_6 _, ?_⟩
    have e' : i = ((cfg0.win 6).blk t).view.emb (ix2 r j) := e
    rw [e']
    exact View.emb_mem_set _ _

/-- What result window 8 ends holding, from what each point writes. -/
theorem final8 (G : (S16384x512).Idx → Ideal .bf16)
    (hG : ∀ (t : Fin cfg0.N) (r : Fin 512) (j : Fin 512), (dats m 0 c).after 8 t (ix2 r j) = G (ix2 ⟨512 * t.val + r.val, by have := lt32 t; omega⟩ j)) :
    (dats m 0 c).arrAt 8 cfg0.N = G := by
  have hemb : ∀ (t : Fin cfg0.N) (r : Fin 512) (j : Fin 512), (win0_8.rect t).emb (ix2 r j) = (ix2 ⟨512 * t.val + r.val, by have := lt32 t; omega⟩ j : (S16384x512).Idx) := by
    intro t r j
    refine Shape.idx_ext₂ ?_ ?_
    · refine (Pipeline.Window.rect_emb_val win0_8 t (ix2 r j) 0).trans ?_
      rw [(ix8 t).1]
      show t.val * 512 + r.val = 512 * t.val + r.val
      omega
    · refine (Pipeline.Window.rect_emb_val win0_8 t (ix2 r j) 1).trans ?_
      rw [(ix8 t).2]
      show 0 * 512 + j.val = j.val
      omega
  have hcov : ∀ i : (S16384x512).Idx, ∃ (t : Fin cfg0.N) (r : Fin 512) (j : Fin 512), i = (win0_8.rect t).emb (ix2 r j) := by
    intro i
    have h0 : (i 0).val < 16384 := (i 0).isLt
    have ht : (i 0).val / 512 < cfg0.N := by rw [show cfg0.N = 32 from N_0]; omega
    refine ⟨⟨(i 0).val / 512, ht⟩, ⟨(i 0).val % 512, by omega⟩, i 1, Eq.trans ?_ (hemb _ _ _).symm⟩
    refine Shape.idx_ext₂ ?_ rfl
    show (i 0).val = 512 * ((i 0).val / 512) + (i 0).val % 512
    omega
  refine (dats m 0 c).arrAt_eq_of_cover 8 G (fun t _ => funext fun y => ?_) (fun i => ?_)
  · obtain ⟨r, j, rfl⟩ : ∃ (r : Fin 512) (j : Fin 512), y = ix2 r j := ⟨y 0, y 1, funext fun a => by match a with | ⟨0, _⟩ => rfl | ⟨1, _⟩ => rfl⟩
    show (dats m 0 c).after 8 t (ix2 r j) = G ((win0_8.rect t).emb (ix2 r j))
    rw [hG, hemb]
  · obtain ⟨t, r, j, e⟩ := hcov i
    refine ⟨t, flush0_8 _, ?_⟩
    have e' : i = ((cfg0.win 8).blk t).view.emb (ix2 r j) := e
    rw [e']
    exact View.emb_mem_set _ _

/-- What result window 10 ends holding, from what each point writes. -/
theorem final10 (G : (S16384x512).Idx → Ideal .f32)
    (hG : ∀ (t : Fin cfg0.N) (r : Fin 512) (j : Fin 512), (dats m 0 c).after 10 t (ix2 r j) = G (ix2 ⟨512 * t.val + r.val, by have := lt32 t; omega⟩ j)) :
    (dats m 0 c).arrAt 10 cfg0.N = G := by
  have hemb : ∀ (t : Fin cfg0.N) (r : Fin 512) (j : Fin 512), (win0_10.rect t).emb (ix2 r j) = (ix2 ⟨512 * t.val + r.val, by have := lt32 t; omega⟩ j : (S16384x512).Idx) := by
    intro t r j
    refine Shape.idx_ext₂ ?_ ?_
    · refine (Pipeline.Window.rect_emb_val win0_10 t (ix2 r j) 0).trans ?_
      rw [(ix10 t).1]
      show t.val * 512 + r.val = 512 * t.val + r.val
      omega
    · refine (Pipeline.Window.rect_emb_val win0_10 t (ix2 r j) 1).trans ?_
      rw [(ix10 t).2]
      show 0 * 512 + j.val = j.val
      omega
  have hcov : ∀ i : (S16384x512).Idx, ∃ (t : Fin cfg0.N) (r : Fin 512) (j : Fin 512), i = (win0_10.rect t).emb (ix2 r j) := by
    intro i
    have h0 : (i 0).val < 16384 := (i 0).isLt
    have ht : (i 0).val / 512 < cfg0.N := by rw [show cfg0.N = 32 from N_0]; omega
    refine ⟨⟨(i 0).val / 512, ht⟩, ⟨(i 0).val % 512, by omega⟩, i 1, Eq.trans ?_ (hemb _ _ _).symm⟩
    refine Shape.idx_ext₂ ?_ rfl
    show (i 0).val = 512 * ((i 0).val / 512) + (i 0).val % 512
    omega
  refine (dats m 0 c).arrAt_eq_of_cover 10 G (fun t _ => funext fun y => ?_) (fun i => ?_)
  · obtain ⟨r, j, rfl⟩ : ∃ (r : Fin 512) (j : Fin 512), y = ix2 r j := ⟨y 0, y 1, funext fun a => by match a with | ⟨0, _⟩ => rfl | ⟨1, _⟩ => rfl⟩
    show (dats m 0 c).after 10 t (ix2 r j) = G ((win0_10.rect t).emb (ix2 r j))
    rw [hG, hemb]
  · obtain ⟨t, r, j, e⟩ := hcov i
    refine ⟨t, flush0_10 _, ?_⟩
    have e' : i = ((cfg0.win 10).blk t).view.emb (ix2 r j) := e
    rw [e']
    exact View.emb_mem_set _ _

/-- What result window 13 ends holding, from what each point writes. -/
theorem final13 (G : (S16384x512).Idx → Ideal .f32)
    (hG : ∀ (t : Fin cfg0.N) (r : Fin 512) (j : Fin 512), (dats m 0 c).after 13 t (ix2 r j) = G (ix2 ⟨512 * t.val + r.val, by have := lt32 t; omega⟩ j)) :
    (dats m 0 c).arrAt 13 cfg0.N = G := by
  have hemb : ∀ (t : Fin cfg0.N) (r : Fin 512) (j : Fin 512), (win0_13.rect t).emb (ix2 r j) = (ix2 ⟨512 * t.val + r.val, by have := lt32 t; omega⟩ j : (S16384x512).Idx) := by
    intro t r j
    refine Shape.idx_ext₂ ?_ ?_
    · refine (Pipeline.Window.rect_emb_val win0_13 t (ix2 r j) 0).trans ?_
      rw [(ix13 t).1]
      show t.val * 512 + r.val = 512 * t.val + r.val
      omega
    · refine (Pipeline.Window.rect_emb_val win0_13 t (ix2 r j) 1).trans ?_
      rw [(ix13 t).2]
      show 0 * 512 + j.val = j.val
      omega
  have hcov : ∀ i : (S16384x512).Idx, ∃ (t : Fin cfg0.N) (r : Fin 512) (j : Fin 512), i = (win0_13.rect t).emb (ix2 r j) := by
    intro i
    have h0 : (i 0).val < 16384 := (i 0).isLt
    have ht : (i 0).val / 512 < cfg0.N := by rw [show cfg0.N = 32 from N_0]; omega
    refine ⟨⟨(i 0).val / 512, ht⟩, ⟨(i 0).val % 512, by omega⟩, i 1, Eq.trans ?_ (hemb _ _ _).symm⟩
    refine Shape.idx_ext₂ ?_ rfl
    show (i 0).val = 512 * ((i 0).val / 512) + (i 0).val % 512
    omega
  refine (dats m 0 c).arrAt_eq_of_cover 13 G (fun t _ => funext fun y => ?_) (fun i => ?_)
  · obtain ⟨r, j, rfl⟩ : ∃ (r : Fin 512) (j : Fin 512), y = ix2 r j := ⟨y 0, y 1, funext fun a => by match a with | ⟨0, _⟩ => rfl | ⟨1, _⟩ => rfl⟩
    show (dats m 0 c).after 13 t (ix2 r j) = G ((win0_13.rect t).emb (ix2 r j))
    rw [hG, hemb]
  · obtain ⟨t, r, j, e⟩ := hcov i
    refine ⟨t, flush0_13 _, ?_⟩
    have e' : i = ((cfg0.win 13).blk t).view.emb (ix2 r j) := e
    rw [e']
    exact View.emb_mem_set _ _

/-- What result window 5 ends holding, from what each point writes. -/
theorem final5 (G : (S2x512x8192).Idx → Ideal .f32)
    (hG : ∀ (t : Fin cfg0.N) (u : Fin 1) (j r : Fin 512), (dats m 0 c).after 5 t (ix3 u j r) = G (ix3 ⟨t.val / 16, by have := lt32 t; omega⟩ j ⟨512 * (t.val % 16) + r.val, by omega⟩)) :
    (dats m 0 c).arrAt 5 cfg0.N = G := by
  have hemb : ∀ (t : Fin cfg0.N) (u : Fin 1) (j r : Fin 512), (win0_5.rect t).emb (ix3 u j r) = (ix3 ⟨t.val / 16, by have := lt32 t; omega⟩ j ⟨512 * (t.val % 16) + r.val, by omega⟩ : (S2x512x8192).Idx) := by
    intro t u j r
    have hu := u.isLt
    funext a
    match a with
    | ⟨0, _⟩ =>
      refine Fin.ext ((Pipeline.Window.rect_emb_val win0_5 t (ix3 u j r) 0).trans ?_)
      rw [(ix5' t).1]
      show (t.val / 16) * 1 + u.val = (t.val / 16)
      omega
    | ⟨1, _⟩ =>
      refine Fin.ext ((Pipeline.Window.rect_emb_val win0_5 t (ix3 u j r) 1).trans ?_)
      rw [(ix5' t).2.1]
      show 0 * 512 + j.val = j.val
      omega
    | ⟨2, _⟩ =>
      refine Fin.ext ((Pipeline.Window.rect_emb_val win0_5 t (ix3 u j r) 2).trans ?_)
      rw [(ix5' t).2.2]
      show (t.val % 16) * 512 + r.val = 512 * (t.val % 16) + r.val
      omega
  have hcov : ∀ i : (S2x512x8192).Idx, ∃ (t : Fin cfg0.N) (j r : Fin 512), i = (win0_5.rect t).emb (ix3 0 j r) := by
    intro i
    have h0 : (i 0).val < 2 := (i 0).isLt
    have h2 : (i 2).val < 8192 := (i 2).isLt
    have ht : 16 * (i 0).val + (i 2).val / 512 < cfg0.N := by rw [show cfg0.N = 32 from N_0]; omega
    refine ⟨⟨16 * (i 0).val + (i 2).val / 512, ht⟩, i 1, ⟨(i 2).val % 512, by omega⟩, Eq.trans ?_ (hemb _ _ _ _).symm⟩
    funext a
    match a with
    | ⟨0, _⟩ => exact Fin.ext (by show (i 0).val = (16 * (i 0).val + (i 2).val / 512) / 16; omega)
    | ⟨1, _⟩ => rfl
    | ⟨2, _⟩ => exact Fin.ext (by show (i 2).val = 512 * ((16 * (i 0).val + (i 2).val / 512) % 16) + (i 2).val % 512; omega)
  refine (dats m 0 c).arrAt_eq_of_cover 5 G (fun t _ => funext fun y => ?_) (fun i => ?_)
  · obtain ⟨u, j, r, rfl⟩ : ∃ (u : Fin 1) (j r : Fin 512), y = ix3 u j r := ⟨y 0, y 1, y 2, funext fun a => by match a with | ⟨0, _⟩ => rfl | ⟨1, _⟩ => rfl | ⟨2, _⟩ => rfl⟩
    show (dats m 0 c).after 5 t (ix3 u j r) = G ((win0_5.rect t).emb (ix3 u j r))
    rw [hG, hemb]
  · obtain ⟨t, j, r, e⟩ := hcov i
    refine ⟨t, flush0_5 _, ?_⟩
    have e' : i = ((cfg0.win 5).blk t).view.emb (ix3 0 j r) := e
    rw [e']
    exact View.emb_mem_set _ _

/-- What result window 9 ends holding, from what each point writes. -/
theorem final9 (G : (S32x512x512).Idx → Ideal .bf16)
    (hG : ∀ (t : Fin cfg0.N) (u : Fin 1) (j r : Fin 512), (dats m 0 c).after 9 t (ix3 u j r) = G (ix3 ⟨t.val, lt32 t⟩ j r)) :
    (dats m 0 c).arrAt 9 cfg0.N = G := by
  have hemb : ∀ (t : Fin cfg0.N) (u : Fin 1) (j r : Fin 512), (win0_9.rect t).emb (ix3 u j r) = (ix3 ⟨t.val, lt32 t⟩ j r : (S32x512x512).Idx) := by
    intro t u j r
    have hu := u.isLt
    funext a
    match a with
    | ⟨0, _⟩ =>
      refine Fin.ext ((Pipeline.Window.rect_emb_val win0_9 t (ix3 u j r) 0).trans ?_)
      rw [(ix9 t).1]
      show t.val * 1 + u.val = t.val
      omega
    | ⟨1, _⟩ =>
      refine Fin.ext ((Pipeline.Window.rect_emb_val win0_9 t (ix3 u j r) 1).trans ?_)
      rw [(ix9 t).2.1]
      show 0 * 512 + j.val = j.val
      omega
    | ⟨2, _⟩ =>
      refine Fin.ext ((Pipeline.Window.rect_emb_val win0_9 t (ix3 u j r) 2).trans ?_)
      rw [(ix9 t).2.2]
      show 0 * 512 + r.val = r.val
      omega
  have hcov : ∀ i : (S32x512x512).Idx, ∃ (t : Fin cfg0.N) (j r : Fin 512), i = (win0_9.rect t).emb (ix3 0 j r) := by
    intro i
    have h0 : (i 0).val < 32 := (i 0).isLt
    have h2 : (i 2).val < 512 := (i 2).isLt
    have ht : (i 0).val < cfg0.N := by rw [show cfg0.N = 32 from N_0]; omega
    refine ⟨⟨(i 0).val, ht⟩, i 1, ⟨(i 2).val % 512, by omega⟩, Eq.trans ?_ (hemb _ _ _ _).symm⟩
    funext a
    match a with
    | ⟨0, _⟩ => exact Fin.ext (by show (i 0).val = (i 0).val; omega)
    | ⟨1, _⟩ => rfl
    | ⟨2, _⟩ => exact Fin.ext (by show (i 2).val = (i 2).val % 512; omega)
  refine (dats m 0 c).arrAt_eq_of_cover 9 G (fun t _ => funext fun y => ?_) (fun i => ?_)
  · obtain ⟨u, j, r, rfl⟩ : ∃ (u : Fin 1) (j r : Fin 512), y = ix3 u j r := ⟨y 0, y 1, y 2, funext fun a => by match a with | ⟨0, _⟩ => rfl | ⟨1, _⟩ => rfl | ⟨2, _⟩ => rfl⟩
    show (dats m 0 c).after 9 t (ix3 u j r) = G ((win0_9.rect t).emb (ix3 u j r))
    rw [hG, hemb]
  · obtain ⟨t, j, r, e⟩ := hcov i
    refine ⟨t, flush0_9 _, ?_⟩
    have e' : i = ((cfg0.win 9).blk t).view.emb (ix3 0 j r) := e
    rw [e']
    exact View.emb_mem_set _ _

end Cert.Kernel2Ideal.Mx
end
-- ==== Proof.C.Host.lean ====
module

public import proofs.«01_k».proof.Proof.C.Blk
public import Idealize.ShloMosaic.Lib.StableHlo.Run

@[expose] public section

set_option maxRecDepth 8192
set_option maxHeartbeats 1000000

/-! What the host hands the call: the activations as rows, the weights' columns, and the two rotary tables. -/

noncomputable section

namespace Cert.Kernel2Ideal.Mx

open Cert.Kernel2Ideal Cert.Kernel2Ideal.Gen
open Idealize.ShloMosaic Idealize.ShloMosaic.TcCoe Idealize.ShloMosaic.StableHlo

/-- The rotary angles: position times frequency. -/
def angT : FVec Ideal S8192x32 .f32 :=
  mulf (broadcastInDim S8192x32 ![0, 1] bcast_S8192x1_S8192x32_0_1 (broadcastInDim S8192x1 ![0] bcast_S8192_S8192x1_0 (sitofp (F := Ideal) .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant (F := Ideal) S_ .f32 0x461C4000#32))
        (Host.divf (mulf (Host.negf (sitofp (F := Ideal) .f32 (iotaInDim S32 32 0))) (broadcastInDim S32 ![] bcast_S_S32 (constant (F := Ideal) S_ .f32 0x40000000#32)))
          (broadcastInDim S32 ![] bcast_S_S32 (constant (F := Ideal) S_ .f32 0x42800000#32))))))

/-- A table of half a map's lanes `a`, `b`, laid along all lanes of a head. -/
def tile2 (a b : FVec Ideal S8192x32 .f32) : FVec Ideal S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x32, a⟩, ⟨S8192x32, b⟩] concatenates_S8192x32_S8192x32_S8192x64_d1) shapeCasts_S8192x64_S1x8192x1x64)) shapeCasts_S1x8192x2x64_S8192x128

theorem tile2_apply (a b : FVec Ideal S8192x32 .f32) (n : Fin 8192) (l : Fin 128) :
    tile2 a b (ix2 n l) = if l.val % 64 < 32 then a (ix2 n ⟨l.val % 32, by omega⟩) else b (ix2 n ⟨l.val % 32, by omega⟩) := by
  unfold tile2
  pointwise
  by_cases h : l.val % 64 < 32
  · rw [dif_pos h, if_pos h]
    have e : l.val % 64 = l.val % 32 := by omega
    simp only [e]
  · rw [dif_neg h, if_neg h]
    have e : l.val % 64 - 32 = l.val % 32 := by omega
    simp only [e]

variable (m : (ℓ : Loc nD τ sig) → Buf (Elt Ideal) ℓ) (c : Dev nD)

theorem V20 : V m c main_v20 = tile2 (Host.cos angT) (Host.cos angT) := by
  show StableHlo.after hostOps0 _ _ = _
  after_results_simp <;> rfl

theorem V25 : V m c main_v25 = tile2 (Host.negf (Host.sin angT)) (Host.sin angT) := by
  show StableHlo.after hostOps0 _ _ = _
  after_results_simp <;> rfl

theorem V28 : V m c main_v28 = truncf (F := Ideal) .bf16 (shapeCast S1024x3072 (extractStridedSlice S1x1024x3072 ![0, 0, 0] (m ((c.tc : Thread nD τ).loc main_arg1)) slices_S1x1024x5632_S1x1024x3072_0_0_0) shapeCasts_S1x1024x3072_S1024x3072) bitsLt_bf16_f32 := by
  show StableHlo.after hostOps0 _ _ = _
  after_results_simp <;> rfl

theorem V29 : V m c main_v29 = shapeCast S16384x1024 (m ((c.tc : Thread nD τ).loc main_arg0)) shapeCasts_S2x8192x1024_S16384x1024 := by
  show StableHlo.after hostOps0 _ _ = _
  after_results_simp <;> rfl

theorem V28_apply (k : Fin 1024) (j : Fin 3072) : V m c main_v28 (ix2 k j) = m ((c.tc : Thread nD τ).loc main_arg1) (ix3 0 k ⟨j.val, by omega⟩) := by
  rw [V28]
  pointwise

/-- The batches' rows laid one under another. -/
theorem flat_apply (x : FVec Ideal S2x8192x1024 .f32) (g : Fin 16384) (k : Fin 1024) :
    shapeCast S16384x1024 x shapeCasts_S2x8192x1024_S16384x1024 (ix2 g k) = x (ix3 ⟨g.val / 8192, by omega⟩ ⟨g.val % 8192, by omega⟩ k) := by
  refine shapeCast_apply _ _ _ _ ?_
  rw [Shape.rowMajor_val_three, Shape.rowMajor_val_two]
  show (g.val / 8192 * 8192 + g.val % 8192) * 1024 + k.val = g.val * 1024 + k.val
  omega

theorem V29_apply (g : Fin 16384) (k : Fin 1024) : V m c main_v29 (ix2 g k) = m ((c.tc : Thread nD τ).loc main_arg0) (ix3 ⟨g.val / 8192, by omega⟩ ⟨g.val % 8192, by omega⟩ k) := by
  rw [V29]
  exact flat_apply _ g k

end Cert.Kernel2Ideal.Mx
end
-- ==== Proof.C.Spec.lean ====
module

public import Idealize.ShloMosaic.Lib.Pointwise

@[expose] public section

/-! The projection and its rotated keys, as functions of a batch, a position and a column. -/

noncomputable section

namespace Cert.MixSpec

open Idealize.ShloMosaic

/-- Column `j` of the input projection at position `n` of batch `b`. -/
def Pr (x : (⟨3, ![2, 8192, 1024]⟩ : Shape).Idx → EReal) (w : (⟨3, ![1, 1024, 5632]⟩ : Shape).Idx → EReal)
    (b : Fin 2) (n : Fin 8192) (j : Fin 5632) : EReal :=
  ∑ k : Fin 1024, x (ix3 b n k) * w (ix3 0 k j)

/-- Column `j` of the keys, each half of a map's lanes rotated against the other. -/
def Kr (cs sn : (⟨2, ![8192, 32]⟩ : Shape).Idx → EReal)
    (x : (⟨3, ![2, 8192, 1024]⟩ : Shape).Idx → EReal) (w : (⟨3, ![1, 1024, 5632]⟩ : Shape).Idx → EReal)
    (b : Fin 2) (n : Fin 8192) (j : Fin 512) : EReal :=
  if j.val % 64 < 32 then
    Pr x w b n ⟨512 + j.val, by omega⟩ * cs (ix2 n ⟨j.val % 32, by omega⟩) - Pr x w b n ⟨512 + (j.val + 32), by omega⟩ * sn (ix2 n ⟨j.val % 32, by omega⟩)
  else
    Pr x w b n ⟨512 + j.val, by omega⟩ * cs (ix2 n ⟨j.val % 32, by omega⟩) + Pr x w b n ⟨512 + (j.val - 32), by omega⟩ * sn (ix2 n ⟨j.val % 32, by omega⟩)

end Cert.MixSpec
end
-- ==== Proof.C.Vals.lean ====
module

public import proofs.«01_k».proof.Proof.C.Blk
public import proofs.«01_k».proof.Proof.C.Host
public import proofs.«01_k».proof.Proof.C.Spec

@[expose] public section

set_option maxRecDepth 8192
set_option maxHeartbeats 1000000

/-! What the call leaves in each of its results, as a function of the arguments. -/

noncomputable section

namespace Cert.Kernel2Ideal.Mx

open Cert.Kernel2Ideal Cert.Kernel2Ideal.Gen Cert.MixSpec
open Idealize.ShloMosaic Idealize.ShloMosaic.TcCoe

variable (m : (ℓ : Loc nD τ sig) → Buf (Elt Ideal) ℓ) (c : Dev nD)

/-- The activations. -/
def X : FVec Ideal S2x8192x1024 .f32 := m ((c.tc : Thread nD τ).loc main_arg0)
/-- The weights. -/
def W : FVec Ideal S1x1024x5632 .f32 := m ((c.tc : Thread nD τ).loc main_arg1)
/-- The rotation's cosines and sines. -/
def Cs : FVec Ideal S8192x32 .f32 := Host.cos angT
def Sn : FVec Ideal S8192x32 .f32 := Host.sin angT

/-- A tile's blocks of the activations, of the weights and of the two tables. -/
def bx (t : Fin cfg0.N) : Vec Ideal S512x1024 .f32 := iblk m c 0 t
def bw (t : Fin cfg0.N) : Vec Ideal S1024x3072 .bf16 := iblk m c 1 t
def bc (t : Fin cfg0.N) : Vec Ideal S512x128 .f32 := iblk m c 2 t
def bs (t : Fin cfg0.N) : Vec Ideal S512x128 .f32 := iblk m c 3 t

/-- A row of a tile against a column of the weights is an element of the projection. -/
theorem blkSum (t : Fin cfg0.N) (r : Fin 512) (o : Fin 3072) (b : Fin 2) (n : Fin 8192)
    (hb : b.val = t.val / 16) (hn : n.val = 512 * (t.val % 16) + r.val) :
    (∑ k : Fin 1024, bx m c t (ix2 r k) * bw m c t (ix2 k o))
      = Pr (X m c) (W m c) b n ⟨o.val, by omega⟩ := by
  unfold Pr
  refine Finset.sum_congr rfl fun k _ => ?_
  have h0 := iblk0_apply m c t r k
  have h1 := iblk1_apply m c t k o
  rw [V29_apply] at h0
  rw [V28_apply] at h1
  have eb : b = ⟨(512 * t.val + r.val) / 8192, by have := lt32 t; omega⟩ := Fin.ext (by rw [hb]; show t.val / 16 = (512 * t.val + r.val) / 8192; omega)
  have en : n = ⟨(512 * t.val + r.val) % 8192, by omega⟩ := Fin.ext (by rw [hn]; show 512 * (t.val % 16) + r.val = (512 * t.val + r.val) % 8192; omega)
  exact (congrArg₂ (fun a b : EReal => a * b) h0 h1).trans
    (congrArg₂ (fun (b : Fin 2) (n : Fin 8192) => (X m c (ix3 b n k) * W m c (ix3 0 k ⟨o.val, by omega⟩) : EReal)) eb.symm en.symm)

theorem cosAt (t : Fin cfg0.N) (r : Fin 512) (l : Fin 128) (n : Fin 8192) (hn : n.val = 512 * (t.val % 16) + r.val) :
    bc m c t (ix2 r l) = Cs (ix2 n ⟨l.val % 32, by omega⟩) := by
  have e : n = ⟨512 * (t.val % 16) + r.val, by omega⟩ := Fin.ext hn
  rw [e]
  refine (iblk2_apply m c t r l).trans ?_
  rw [V20, tile2_apply]
  split <;> rfl

theorem sinAt (t : Fin cfg0.N) (r : Fin 512) (l : Fin 128) (n : Fin 8192) (hn : n.val = 512 * (t.val % 16) + r.val) :
    bs m c t (ix2 r l) = if l.val % 64 < 32 then -(Sn (ix2 n ⟨l.val % 32, by omega⟩)) else Sn (ix2 n ⟨l.val % 32, by omega⟩) := by
  have e : n = ⟨512 * (t.val % 16) + r.val, by omega⟩ := Fin.ext hn
  rw [e]
  refine (iblk3_apply m c t r l).trans ?_
  rw [V25, tile2_apply]
  rfl

/-- A tile's keys. -/
theorem keysAt (t : Fin cfg0.N) (r j : Fin 512) (b : Fin 2) (n : Fin 8192)
    (hb : b.val = t.val / 16) (hn : n.val = 512 * (t.val % 16) + r.val) :
    keys (bx m c t) (bw m c t) (bc m c t) (bs m c t) (ix2 r j) = Kr Cs Sn (X m c) (W m c) b n j := by
  obtain ⟨h, l, rfl⟩ : ∃ (h : Fin 4) (l : Fin 128), j = ⟨128 * h.val + l.val, by omega⟩ :=
    ⟨⟨j.val / 128, by omega⟩, ⟨j.val % 128, by omega⟩, Fin.ext (by show j.val = 128 * (j.val / 128) + j.val % 128; omega)⟩
  rw [keys_apply, sec1_apply, sec1_apply, blkSum m c t r _ b n hb hn, blkSum m c t r _ b n hb hn, cosAt m c t r l n hn, sinAt m c t r l n hn]
  unfold Kr
  have hm : (128 * h.val + l.val) % 64 = l.val % 64 := by omega
  have e1 : (⟨(128 * h.val + l.val) % 32, by omega⟩ : Fin 32) = ⟨l.val % 32, by omega⟩ := Fin.ext (by show (128 * h.val + l.val) % 32 = l.val % 32; omega)
  dsimp only
  rw [hm, e1]
  by_cases hl : l.val % 64 < 32
  · rw [if_pos hl, if_pos hl]
    have e2 : (⟨512 + (128 * h.val + (mate l).val), by omega⟩ : Fin 5632) = ⟨512 + (128 * h.val + l.val + 32), by omega⟩ := Fin.ext (by
      have hv : (mate l).val = (l.val + 32) % 128 := by unfold mate; rw [if_pos hl]
      show 512 + (128 * h.val + (mate l).val) = 512 + (128 * h.val + l.val + 32); omega)
    rw [e2, mul_neg, sub_eq_add_neg]
  · rw [if_neg hl, if_neg hl]
    have e2 : (⟨512 + (128 * h.val + (mate l).val), by omega⟩ : Fin 5632) = ⟨512 + (128 * h.val + l.val - 32), by omega⟩ := Fin.ext (by
      have hv : (mate l).val = (l.val + 96) % 128 := by unfold mate; rw [if_neg hl]
      show 512 + (128 * h.val + (mate l).val) = 512 + (128 * h.val + l.val - 32); omega)
    rw [e2]

/-- The batch and the position of a row. -/
def bOf (g : Fin 16384) : Fin 2 := ⟨g.val / 8192, by omega⟩
def nOf (g : Fin 16384) : Fin 8192 := ⟨g.val % 8192, by omega⟩

/-- The rotated keys with the positions along the lanes. -/
theorem val5 : (dats m 0 c).arrAt 5 cfg0.N = fun i : (S2x512x8192).Idx => (Kr Cs Sn (X m c) (W m c) (i 0) (i 2) (i 1) : EReal) :=
  final5 m c _ fun t u j r => by
    rw [after0_5]
    exact (outK_apply _ _ _ _ u j r).trans (keysAt m c t r j ⟨t.val / 16, by have := lt32 t; omega⟩ ⟨512 * (t.val % 16) + r.val, by omega⟩ rfl rfl)

/-- The rotated keys, a row for each position. -/
theorem val8 : (dats m 0 c).arrAt 8 cfg0.N = fun i : (S16384x512).Idx => (Kr Cs Sn (X m c) (W m c) (bOf (i 0)) (nOf (i 0)) (i 1) : EReal) :=
  final8 m c _ fun t r j => by
    rw [after0_8]
    exact (outKb_apply _ _ _ _ r j).trans (keysAt m c t r j (bOf ⟨512 * t.val + r.val, by have := lt32 t; omega⟩) (nOf ⟨512 * t.val + r.val, by have := lt32 t; omega⟩)
      (by show (512 * t.val + r.val) / 8192 = t.val / 16; omega) (by show (512 * t.val + r.val) % 8192 = 512 * (t.val % 16) + r.val; omega))

theorem val10 : (dats m 0 c).arrAt 10 cfg0.N = fun i : (S16384x512).Idx =>
    (Pr (X m c) (W m c) (bOf (i 0)) (nOf (i 0)) ⟨1536 + (i 1).val, by have : (i 1).val < 512 := (i 1).isLt; omega⟩ : EReal) :=
  final10 m c _ fun t r j => by
    rw [after0_10]
    exact (sec3_apply _ _ r j).trans (blkSum m c t r _ (bOf ⟨512 * t.val + r.val, by have := lt32 t; omega⟩) (nOf ⟨512 * t.val + r.val, by have := lt32 t; omega⟩)
      (by show (512 * t.val + r.val) / 8192 = t.val / 16; omega) (by show (512 * t.val + r.val) % 8192 = 512 * (t.val % 16) + r.val; omega))

theorem val13 : (dats m 0 c).arrAt 13 cfg0.N = fun i : (S16384x512).Idx =>
    (Pr (X m c) (W m c) (bOf (i 0)) (nOf (i 0)) ⟨2560 + (i 1).val, by have : (i 1).val < 512 := (i 1).isLt; omega⟩ : EReal) :=
  final13 m c _ fun t r j => by
    rw [after0_13]
    exact (sec5_apply _ _ r j).trans (blkSum m c t r _ (bOf ⟨512 * t.val + r.val, by have := lt32 t; omega⟩) (nOf ⟨512 * t.val + r.val, by have := lt32 t; omega⟩)
      (by show (512 * t.val + r.val) / 8192 = t.val / 16; omega) (by show (512 * t.val + r.val) % 8192 = 512 * (t.val % 16) + r.val; omega))

/-- The values with the positions along the lanes, a tile at a time. -/
theorem val9 : (dats m 0 c).arrAt 9 cfg0.N = fun i : (S32x512x512).Idx =>
    (Pr (X m c) (W m c) ⟨(i 0).val / 16, by have : (i 0).val < 32 := (i 0).isLt; omega⟩ ⟨512 * ((i 0).val % 16) + (i 2).val, by have : (i 2).val < 512 := (i 2).isLt; omega⟩
      ⟨1024 + (i 1).val, by have : (i 1).val < 512 := (i 1).isLt; omega⟩ : EReal) :=
  final9 m c _ fun t u j r => by
    rw [after0_9]
    exact (outVt_apply _ _ u j r).trans ((sec2_apply _ _ r j).trans (blkSum m c t r _ ⟨t.val / 16, by have := lt32 t; omega⟩ ⟨512 * (t.val % 16) + r.val, by omega⟩ rfl rfl))

/-- The values, a row for each head of each position. -/
theorem val6 : (dats m 0 c).arrAt 6 cfg0.N = fun i : (S65536x128).Idx =>
    (Pr (X m c) (W m c) ⟨(i 0).val / 4 / 8192, by have : (i 0).val < 65536 := (i 0).isLt; omega⟩ ⟨(i 0).val / 4 % 8192, by omega⟩
      ⟨1024 + (128 * ((i 0).val % 4) + (i 1).val), by have : (i 1).val < 128 := (i 1).isLt; omega⟩ : EReal) :=
  final6 m c _ fun t r j => by
    rw [after0_6]
    refine (outV_apply _ _ _).trans ((sec2_apply _ _ _ _).trans ((blkSum m c t ⟨r.val / 4, by omega⟩ _
      ⟨(2048 * t.val + r.val) / 4 / 8192, by have := lt32 t; omega⟩ ⟨(2048 * t.val + r.val) / 4 % 8192, by omega⟩
      (by show (2048 * t.val + r.val) / 4 / 8192 = t.val / 16; omega) (by show (2048 * t.val + r.val) / 4 % 8192 = 512 * (t.val % 16) + r.val / 4; omega)).trans ?_))
    refine congrArg (Pr (X m c) (W m c) _ _) (Fin.ext ?_)
    show 1024 + (128 * (r.val % 4) + j.val) = 1024 + (128 * ((2048 * t.val + r.val) % 4) + j.val)
    omega

end Cert.Kernel2Ideal.Mx
end
-- ==== Proof.C.RefElem.lean ====
module

public import proofs.«01_k».proof.Proof.C.Spec
public import proofs.«01_k».proof.Proof.C.Host
public import proofs.«01_k».proof.Proof.Gen.Reference2Ideal.Run

@[expose] public section

set_option maxRecDepth 8192
set_option maxHeartbeats 1000000

/-! The reference's results over the extended reals, read at an index. -/

noncomputable section

namespace Cert.Reference2Ideal.Rx

open Cert.Reference2Ideal Cert.Reference2Ideal.Gen Cert.Reference2Ideal.Value Cert.MixSpec
open Idealize.ShloMosaic Idealize.ShloMosaic.TcCoe

/-- The whole projection. -/
def proj (x : FVec Ideal S2x8192x1024 .f32) (w : FVec Ideal S1x1024x5632 .f32) : FVec Ideal S2x8192x5632 .f32 :=
  Host.dotGeneral dot_S2x8192x1024_S1024x5632_S2x8192x5632_2_0_01_1_n_n none x (shapeCast _ w shapeCasts_S1x1024x5632_S1024x5632)

theorem proj_apply (x : FVec Ideal S2x8192x1024 .f32) (w : FVec Ideal S1x1024x5632 .f32) (b : Fin 2) (n : Fin 8192) (j : Fin 5632) :
    proj x w (ix3 b n j) = Pr x w b n j := by
  unfold proj Pr
  pointwise

/-- A table as the rotation reads it. -/
def tab (a : FVec Ideal S8192x32 .f32) : FVec Ideal S2x8192x4x2x32 .f32 :=
  broadcastInDim S2x8192x4x2x32 ![0, 1, 2, 3, 4] bcast_S1x8192x1x1x32_S2x8192x4x2x32_0_1_2_3_4 (broadcastInDim S1x8192x1x1x32 ![1, 2, 3, 4] bcast_S8192x1x1x32_S1x8192x1x1x32_1_2_3_4
    (broadcastInDim S8192x1x1x32 ![0, 3] bcast_S8192x32_S8192x1x1x32_0_3 a))

theorem tab_apply (a : FVec Ideal S8192x32 .f32) (b : Fin 2) (n : Fin 8192) (h : Fin 4) (u : Fin 2) (l : Fin 32) :
    tab a (ix5 b n h u l) = a (ix2 n l) := by
  unfold tab
  pointwise

/-- The keys before the rotation, by map. -/
def maps (p : FVec Ideal S2x8192x5632 .f32) : FVec Ideal S2x8192x4x2x64 .f32 :=
  shapeCast _ (extractStridedSlice S2x8192x512 ![0, 0, 512] p slices_S2x8192x5632_S2x8192x512_0_0_512) shapeCasts_S2x8192x512_S2x8192x4x2x64

theorem maps_apply (p : FVec Ideal S2x8192x5632 .f32) (b : Fin 2) (n : Fin 8192) (h : Fin 4) (u : Fin 2) (l : Fin 64) :
    maps p (ix5 b n h u l) = p (ix3 b n ⟨512 + (128 * h.val + 64 * u.val + l.val), by omega⟩) := by
  unfold maps
  pointwise
  exact congrArg (fun j => p (ix3 b n j)) (Fin.ext (by show 512 + (h.val * 128 + u.val * 64 + l.val) = 512 + (128 * h.val + 64 * u.val + l.val); omega))

/-- The rotation. -/
def rot (k : FVec Ideal S2x8192x4x2x64 .f32) (cs sn : FVec Ideal S2x8192x4x2x32 .f32) : FVec Ideal S2x8192x4x2x64 .f32 :=
  let k1 : FVec Ideal S2x8192x4x2x32 .f32 := extractStridedSlice S2x8192x4x2x32 ![0, 0, 0, 0, 0] k slices_S2x8192x4x2x64_S2x8192x4x2x32_0_0_0_0_0
  let k2 : FVec Ideal S2x8192x4x2x32 .f32 := extractStridedSlice S2x8192x4x2x32 ![0, 0, 0, 0, 32] k slices_S2x8192x4x2x64_S2x8192x4x2x32_0_0_0_0_32
  concatenate S2x8192x4x2x64 4 [⟨S2x8192x4x2x32, subf (mulf k1 cs) (mulf k2 sn)⟩, ⟨S2x8192x4x2x32, addf (mulf k2 cs) (mulf k1 sn)⟩] concatenates_S2x8192x4x2x32_S2x8192x4x2x32_S2x8192x4x2x64_d4

theorem rot_apply (k : FVec Ideal S2x8192x4x2x64 .f32) (cs sn : FVec Ideal S2x8192x4x2x32 .f32) (b : Fin 2) (n : Fin 8192) (h : Fin 4) (u : Fin 2) (l : Fin 64) :
    rot k cs sn (ix5 b n h u l) = if l.val < 32 then
        k (ix5 b n h u l) * cs (ix5 b n h u ⟨l.val % 32, by omega⟩) - k (ix5 b n h u ⟨(l.val + 32) % 64, by omega⟩) * sn (ix5 b n h u ⟨l.val % 32, by omega⟩)
      else k (ix5 b n h u l) * cs (ix5 b n h u ⟨l.val % 32, by omega⟩) + k (ix5 b n h u ⟨l.val - 32, by omega⟩) * sn (ix5 b n h u ⟨l.val % 32, by omega⟩) := by
  unfold rot
  pointwise
  by_cases hl : l.val < 32
  · rw [dif_pos hl, if_pos hl]
    have e1 : (⟨l.val % 32, by omega⟩ : Fin 32) = ⟨l.val, hl⟩ := Fin.ext (by show l.val % 32 = l.val; omega)
    have e2 : (⟨(l.val + 32) % 64, by omega⟩ : Fin 64) = ⟨32 + l.val, by omega⟩ := Fin.ext (by show (l.val + 32) % 64 = 32 + l.val; omega)
    rw [e1, e2]
  · rw [dif_neg hl, if_neg hl]
    have e1 : (⟨l.val % 32, by omega⟩ : Fin 32) = ⟨l.val - 32, by omega⟩ := Fin.ext (by show l.val % 32 = l.val - 32; omega)
    have e2 : (⟨32 + (l.val - 32), by omega⟩ : Fin 64) = l := Fin.ext (by show 32 + (l.val - 32) = l.val; omega)
    rw [e1, e2]

/-- The rotated keys of the reference. -/
def keysR (x : FVec Ideal S2x8192x1024 .f32) (w : FVec Ideal S1x1024x5632 .f32) : FVec Ideal S2x8192x4x2x64 .f32 :=
  rot (maps (proj x w)) (tab (Host.cos Cert.Kernel2Ideal.Mx.angT)) (tab (Host.sin Cert.Kernel2Ideal.Mx.angT))

theorem keysR_apply (x : FVec Ideal S2x8192x1024 .f32) (w : FVec Ideal S1x1024x5632 .f32) (b : Fin 2) (n : Fin 8192) (j : Fin 512)
    (h : Fin 4) (u : Fin 2) (l : Fin 64) (hj : 128 * h.val + 64 * u.val + l.val = j.val) :
    keysR x w (ix5 b n h u l) = Kr (Host.cos Cert.Kernel2Ideal.Mx.angT) (Host.sin Cert.Kernel2Ideal.Mx.angT) x w b n j := by
  unfold keysR Kr
  rw [rot_apply]
  simp only [maps_apply, tab_apply, proj_apply]
  have hm : j.val % 64 = l.val := by omega
  have e1 : (⟨l.val % 32, by omega⟩ : Fin 32) = ⟨j.val % 32, by omega⟩ := Fin.ext (by show l.val % 32 = j.val % 32; omega)
  have e2 : (⟨512 + (128 * h.val + 64 * u.val + l.val), by omega⟩ : Fin 5632) = ⟨512 + j.val, by omega⟩ := Fin.ext (by show 512 + _ = 512 + j.val; omega)
  rw [hm, e1, e2]
  by_cases hl : l.val < 32
  · rw [if_pos hl, if_pos hl]
    have e3 : (⟨512 + (128 * h.val + 64 * u.val + (l.val + 32) % 64), by omega⟩ : Fin 5632) = ⟨512 + (j.val + 32), by omega⟩ := Fin.ext (by show 512 + (128 * h.val + 64 * u.val + (l.val + 32) % 64) = 512 + (j.val + 32); omega)
    rw [e3]
  · rw [if_neg hl, if_neg hl]
    have e3 : (⟨512 + (128 * h.val + 64 * u.val + (l.val - 32)), by omega⟩ : Fin 5632) = ⟨512 + (j.val - 32), by omega⟩ := Fin.ext (by show 512 + (128 * h.val + 64 * u.val + (l.val - 32)) = 512 + (j.val - 32); omega)
    rw [e3]

/-- The keys as rows of positions, each map's lanes side by side. -/
theorem flatKeys (k : FVec Ideal S2x8192x4x2x64 .f32) (g : Fin 16384) (j : Fin 512) :
    shapeCast S16384x512 k shapeCasts_S2x8192x4x2x64_S16384x512 (ix2 g j) =
      k (ix5 ⟨g.val / 8192, by omega⟩ ⟨g.val % 8192, by omega⟩ ⟨j.val / 128, by omega⟩ ⟨j.val / 64 % 2, by omega⟩ ⟨j.val % 64, by omega⟩) := by
  refine shapeCast_apply _ _ _ _ ?_
  rw [Shape.rowMajor_val_five, Shape.rowMajor_val_two]
  show (((g.val / 8192 * 8192 + g.val % 8192) * 4 + j.val / 128) * 2 + j.val / 64 % 2) * 64 + j.val % 64 = g.val * 512 + j.val
  omega

/-- The keys with the positions along the lanes. -/
theorem turnKeys (k : FVec Ideal S2x8192x4x2x64 .f32) (b : Fin 2) (j : Fin 512) (n : Fin 8192) :
    shapeCast S2x512x8192 (transpose S2x4x2x64x8192 [0, 2, 3, 4, 1] k transposes_S2x8192x4x2x64_S2x4x2x64x8192_0_2_3_4_1) shapeCasts_S2x4x2x64x8192_S2x512x8192 (ix3 b j n) =
      k (ix5 b n ⟨j.val / 128, by omega⟩ ⟨j.val / 64 % 2, by omega⟩ ⟨j.val % 64, by omega⟩) := by
  refine (shapeCast_apply _ _ _ (ix5 b ⟨j.val / 128, by omega⟩ ⟨j.val / 64 % 2, by omega⟩ ⟨j.val % 64, by omega⟩ n) ?_).trans ?_
  · rw [Shape.rowMajor_val_five, Shape.rowMajor_val_three]
    show (((b.val * 4 + j.val / 128) * 2 + j.val / 64 % 2) * 64 + j.val % 64) * 8192 + n.val = (b.val * 512 + j.val) * 8192 + n.val
    omega
  · pointwise

/-- The third and the fifth part of the projection as rows of positions. -/
theorem rows1536 (p : FVec Ideal S2x8192x5632 .f32) (g : Fin 16384) (j : Fin 512) :
    shapeCast S16384x512 (extractStridedSlice S2x8192x512 ![0, 0, 1536] p slices_S2x8192x5632_S2x8192x512_0_0_1536) shapeCasts_S2x8192x512_S16384x512 (ix2 g j) =
      p (ix3 ⟨g.val / 8192, by omega⟩ ⟨g.val % 8192, by omega⟩ ⟨1536 + j.val, by omega⟩) := by
  refine (shapeCast_apply _ _ _ (ix3 ⟨g.val / 8192, by omega⟩ ⟨g.val % 8192, by omega⟩ j) ?_).trans ?_
  · rw [Shape.rowMajor_val_three, Shape.rowMajor_val_two]
    show (g.val / 8192 * 8192 + g.val % 8192) * 512 + j.val = g.val * 512 + j.val
    omega
  · pointwise

theorem rows2560 (p : FVec Ideal S2x8192x5632 .f32) (g : Fin 16384) (j : Fin 512) :
    shapeCast S16384x512 (extractStridedSlice S2x8192x512 ![0, 0, 2560] p slices_S2x8192x5632_S2x8192x512_0_0_2560) shapeCasts_S2x8192x512_S16384x512 (ix2 g j) =
      p (ix3 ⟨g.val / 8192, by omega⟩ ⟨g.val % 8192, by omega⟩ ⟨2560 + j.val, by omega⟩) := by
  refine (shapeCast_apply _ _ _ (ix3 ⟨g.val / 8192, by omega⟩ ⟨g.val % 8192, by omega⟩ j) ?_).trans ?_
  · rw [Shape.rowMajor_val_three, Shape.rowMajor_val_two]
    show (g.val / 8192 * 8192 + g.val % 8192) * 512 + j.val = g.val * 512 + j.val
    omega
  · pointwise

/-- The values, a row for each head of each position. -/
theorem rowsV (p : FVec Ideal S2x8192x5632 .f32) (g : Fin 65536) (j : Fin 128) :
    shapeCast S65536x128 (extractStridedSlice S2x8192x512 ![0, 0, 1024] p slices_S2x8192x5632_S2x8192x512_0_0_1024) shapeCasts_S2x8192x512_S65536x128 (ix2 g j) =
      p (ix3 ⟨g.val / 4 / 8192, by omega⟩ ⟨g.val / 4 % 8192, by omega⟩ ⟨1024 + (128 * (g.val % 4) + j.val), by omega⟩) := by
  refine (shapeCast_apply _ _ _ (ix3 ⟨g.val / 4 / 8192, by omega⟩ ⟨g.val / 4 % 8192, by omega⟩ ⟨128 * (g.val % 4) + j.val, by omega⟩) ?_).trans ?_
  · rw [Shape.rowMajor_val_three, Shape.rowMajor_val_two]
    show (g.val / 4 / 8192 * 8192 + g.val / 4 % 8192) * 512 + (128 * (g.val % 4) + j.val) = g.val * 128 + j.val
    omega
  · pointwise

/-- The values with the positions along the lanes, in runs of 512 positions. -/
theorem turnV (p : FVec Ideal S2x8192x5632 .f32) (t : Fin 32) (j r : Fin 512) :
    transpose S32x512x512 [0, 2, 1] (shapeCast S32x512x512 (extractStridedSlice S2x8192x512 ![0, 0, 1024] p slices_S2x8192x5632_S2x8192x512_0_0_1024) shapeCasts_S2x8192x512_S32x512x512) transposes_S32x512x512_S32x512x512_0_2_1 (ix3 t j r) =
      p (ix3 ⟨t.val / 16, by omega⟩ ⟨512 * (t.val % 16) + r.val, by omega⟩ ⟨1024 + j.val, by omega⟩) := by
  refine Eq.trans (b := shapeCast S32x512x512 (extractStridedSlice S2x8192x512 ![0, 0, 1024] p slices_S2x8192x5632_S2x8192x512_0_0_1024) shapeCasts_S2x8192x512_S32x512x512 (ix3 t r j)) ?_ ?_
  · generalize shapeCast S32x512x512 (extractStridedSlice S2x8192x512 ![0, 0, 1024] p slices_S2x8192x5632_S2x8192x512_0_0_1024) shapeCasts_S2x8192x512_S32x512x512 = q
    pointwise
  · refine (shapeCast_apply _ _ _ (ix3 ⟨t.val / 16, by omega⟩ ⟨512 * (t.val % 16) + r.val, by omega⟩ j) ?_).trans ?_
    · rw [Shape.rowMajor_val_three, Shape.rowMajor_val_three]
      show (t.val / 16 * 8192 + (512 * (t.val % 16) + r.val)) * 512 + j.val = (t.val * 512 + r.val) * 512 + j.val
      omega
    · pointwise

variable (m : (ℓ : Loc nD τ sig) → Buf (Elt Ideal) ℓ) (c : Dev nD)

theorem res47 : res_main_v47 m c = truncf (F := Ideal) .bf16 (shapeCast S16384x512 (keysR (m ((c.tc : Thread nD τ).loc main_arg0)) (m ((c.tc : Thread nD τ).loc main_arg1))) shapeCasts_S2x8192x4x2x64_S16384x512) bitsLt_bf16_f32 := rfl

theorem res44 : res_main_v44 m c = shapeCast S2x512x8192 (transpose S2x4x2x64x8192 [0, 2, 3, 4, 1] (keysR (m ((c.tc : Thread nD τ).loc main_arg0)) (m ((c.tc : Thread nD τ).loc main_arg1))) transposes_S2x8192x4x2x64_S2x4x2x64x8192_0_2_3_4_1) shapeCasts_S2x4x2x64x8192_S2x512x8192 := rfl

end Cert.Reference2Ideal.Rx
end
-- ==== Proof.C.Alg.lean ====
module

public import proofs.«01_k».proof.Proof.C.Vals
public import proofs.«01_k».proof.Proof.C.RefElem

@[expose] public section

set_option maxRecDepth 8192
set_option maxHeartbeats 1000000

/-! The reference's results as the same functions of the arguments, so that kernel and reference agree. -/

noncomputable section

namespace Cert.Reference2Ideal.Rx

open Cert.Reference2Ideal Cert.Reference2Ideal.Gen Cert.Reference2Ideal.Value Cert.MixSpec
open Idealize.ShloMosaic Idealize.ShloMosaic.TcCoe
open Cert.Kernel2Ideal.Mx (Cs Sn bOf nOf)

section
variable (x : FVec Ideal S2x8192x1024 .f32) (w : FVec Ideal S1x1024x5632 .f32)

theorem fun44 : shapeCast S2x512x8192 (transpose S2x4x2x64x8192 [0, 2, 3, 4, 1] (keysR x w) transposes_S2x8192x4x2x64_S2x4x2x64x8192_0_2_3_4_1) shapeCasts_S2x4x2x64x8192_S2x512x8192
    = fun i : (S2x512x8192).Idx => (Kr Cs Sn x w (i 0) (i 2) (i 1) : EReal) := by
  funext i
  obtain ⟨b, j, n, rfl⟩ : ∃ (b : Fin 2) (j : Fin 512) (n : Fin 8192), i = ix3 b j n := ⟨i 0, i 1, i 2, eq_ix3 i⟩
  exact (turnKeys (keysR x w) b j n).trans (keysR_apply x w b n j _ _ _
    (by show 128 * (j.val / 128) + 64 * (j.val / 64 % 2) + j.val % 64 = j.val; omega))

theorem fun47 : truncf (F := Ideal) .bf16 (shapeCast S16384x512 (keysR x w) shapeCasts_S2x8192x4x2x64_S16384x512) bitsLt_bf16_f32
    = fun i : (S16384x512).Idx => (Kr Cs Sn x w (bOf (i 0)) (nOf (i 0)) (i 1) : EReal) := by
  funext i
  obtain ⟨g, j, rfl⟩ : ∃ (g : Fin 16384) (j : Fin 512), i = ix2 g j := ⟨i 0, i 1, eq_ix2 i⟩
  exact (flatKeys (keysR x w) g j).trans (keysR_apply x w _ _ j _ _ _
    (by show 128 * (j.val / 128) + 64 * (j.val / 64 % 2) + j.val % 64 = j.val; omega))

theorem fun51 : shapeCast S16384x512 (extractStridedSlice S2x8192x512 ![0, 0, 1536] (proj x w) slices_S2x8192x5632_S2x8192x512_0_0_1536) shapeCasts_S2x8192x512_S16384x512
    = fun i : (S16384x512).Idx => (Pr x w (bOf (i 0)) (nOf (i 0)) ⟨1536 + (i 1).val, by have : (i 1).val < 512 := (i 1).isLt; omega⟩ : EReal) := by
  funext i
  obtain ⟨g, j, rfl⟩ : ∃ (g : Fin 16384) (j : Fin 512), i = ix2 g j := ⟨i 0, i 1, eq_ix2 i⟩
  exact (rows1536 (proj x w) g j).trans (proj_apply x w _ _ _)

theorem fun52 : shapeCast S16384x512 (extractStridedSlice S2x8192x512 ![0, 0, 2560] (proj x w) slices_S2x8192x5632_S2x8192x512_0_0_2560) shapeCasts_S2x8192x512_S16384x512
    = fun i : (S16384x512).Idx => (Pr x w (bOf (i 0)) (nOf (i 0)) ⟨2560 + (i 1).val, by have : (i 1).val < 512 := (i 1).isLt; omega⟩ : EReal) := by
  funext i
  obtain ⟨g, j, rfl⟩ : ∃ (g : Fin 16384) (j : Fin 512), i = ix2 g j := ⟨i 0, i 1, eq_ix2 i⟩
  exact (rows2560 (proj x w) g j).trans (proj_apply x w _ _ _)

theorem fun45 : shapeCast S65536x128 (extractStridedSlice S2x8192x512 ![0, 0, 1024] (proj x w) slices_S2x8192x5632_S2x8192x512_0_0_1024) shapeCasts_S2x8192x512_S65536x128
    = fun i : (S65536x128).Idx => (Pr x w ⟨(i 0).val / 4 / 8192, by have : (i 0).val < 65536 := (i 0).isLt; omega⟩ ⟨(i 0).val / 4 % 8192, by omega⟩
      ⟨1024 + (128 * ((i 0).val % 4) + (i 1).val), by have : (i 1).val < 128 := (i 1).isLt; omega⟩ : EReal) := by
  funext i
  obtain ⟨g, j, rfl⟩ : ∃ (g : Fin 65536) (j : Fin 128), i = ix2 g j := ⟨i 0, i 1, eq_ix2 i⟩
  exact (rowsV (proj x w) g j).trans (proj_apply x w _ _ _)

theorem fun50 : truncf (F := Ideal) .bf16 (transpose S32x512x512 [0, 2, 1] (shapeCast S32x512x512 (extractStridedSlice S2x8192x512 ![0, 0, 1024] (proj x w) slices_S2x8192x5632_S2x8192x512_0_0_1024) shapeCasts_S2x8192x512_S32x512x512) transposes_S32x512x512_S32x512x512_0_2_1) bitsLt_bf16_f32
    = fun i : (S32x512x512).Idx => (Pr x w ⟨(i 0).val / 16, by have : (i 0).val < 32 := (i 0).isLt; omega⟩ ⟨512 * ((i 0).val % 16) + (i 2).val, by have : (i 2).val < 512 := (i 2).isLt; omega⟩
      ⟨1024 + (i 1).val, by have : (i 1).val < 512 := (i 1).isLt; omega⟩ : EReal) := by
  funext i
  obtain ⟨t, j, r, rfl⟩ : ∃ (t : Fin 32) (j r : Fin 512), i = ix3 t j r := ⟨i 0, i 1, i 2, eq_ix3 i⟩
  exact (turnV (proj x w) t j r).trans (proj_apply x w _ _ _)
end

/-- The reference's run, each result as a function of the arguments. -/
theorem vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = (fun i : (S2x512x8192).Idx => (Kr Cs Sn (m ((c.tc : Thread nD τ).loc main_arg0)) (m ((c.tc : Thread nD τ).loc main_arg1)) (i 0) (i 2) (i 1) : EReal))
      ∧ r.2.mem ((c.tc : Thread nD τ).loc main_v45) = (fun i : (S65536x128).Idx => (Pr (m ((c.tc : Thread nD τ).loc main_arg0)) (m ((c.tc : Thread nD τ).loc main_arg1)) ⟨(i 0).val / 4 / 8192, by have : (i 0).val < 65536 := (i 0).isLt; omega⟩ ⟨(i 0).val / 4 % 8192, by omega⟩
          ⟨1024 + (128 * ((i 0).val % 4) + (i 1).val), by have : (i 1).val < 128 := (i 1).isLt; omega⟩ : EReal))
      ∧ r.2.mem ((c.tc : Thread nD τ).loc main_v47) = (fun i : (S16384x512).Idx => (Kr Cs Sn (m ((c.tc : Thread nD τ).loc main_arg0)) (m ((c.tc : Thread nD τ).loc main_arg1)) (bOf (i 0)) (nOf (i 0)) (i 1) : EReal))
      ∧ r.2.mem ((c.tc : Thread nD τ).loc main_v50) = (fun i : (S32x512x512).Idx => (Pr (m ((c.tc : Thread nD τ).loc main_arg0)) (m ((c.tc : Thread nD τ).loc main_arg1)) ⟨(i 0).val / 16, by have : (i 0).val < 32 := (i 0).isLt; omega⟩ ⟨512 * ((i 0).val % 16) + (i 2).val, by have : (i 2).val < 512 := (i 2).isLt; omega⟩
          ⟨1024 + (i 1).val, by have : (i 1).val < 512 := (i 1).isLt; omega⟩ : EReal))
      ∧ r.2.mem ((c.tc : Thread nD τ).loc main_v51) = (fun i : (S16384x512).Idx => (Pr (m ((c.tc : Thread nD τ).loc main_arg0)) (m ((c.tc : Thread nD τ).loc main_arg1)) (bOf (i 0)) (nOf (i 0)) ⟨1536 + (i 1).val, by have : (i 1).val < 512 := (i 1).isLt; omega⟩ : EReal))
      ∧ r.2.mem ((c.tc : Thread nD τ).loc main_v52) = (fun i : (S16384x512).Idx => (Pr (m ((c.tc : Thread nD τ).loc main_arg0)) (m ((c.tc : Thread nD τ).loc main_arg1)) (bOf (i 0)) (nOf (i 0)) ⟨2560 + (i 1).val, by have : (i 1).val < 512 := (i 1).isLt; omega⟩ : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((res44 m c).trans (fun44 _ _)), (h c).2.1.trans (fun45 _ _), (h c).2.2.1.trans ((res47 m c).trans (fun47 _ _)),
    (h c).2.2.2.1.trans (fun50 _ _), (h c).2.2.2.2.1.trans (fun51 _ _), (h c).2.2.2.2.2.1.trans (fun52 _ _), (h c).2.2.2.2.2.2⟩)
    (Cert.Reference2Ideal.Value.run (F := Ideal) m ρ)

end Cert.Reference2Ideal.Rx
end
-- ==== Proof.B.KTile.lean ====
module

public import proofs.«01_k».proof.Proof.Gen.Kernel.Loops
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value

@[expose] public section

set_option maxRecDepth 8192
set_option maxHeartbeats 2000000

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

/-- The blocks of the call: the inputs at their contents, everything written at any. -/
def Held (c : Dev nD) (arg2 : Memref sig .tc .vmem S16x128x512 .bf16) (arg3 : Memref sig .tc .vmem S8192x128 .bf16) (arg4 : Memref sig .tc .vmem S16x128x512 .bf16) (arg5 : Memref sig .tc .vmem S4x64 .f32) (arg6 : Memref sig .tc .vmem S128x1 .f32) (arg7 : Memref sig .tc .vmem S8192x128 .bf16) (arg8 : Memref sig .tc .vmem S2x1x512 .f32) (arg9 : Memref sig .tc .vmem S2x144x512 .f32) (arg10 : Memref sig .tc .vmem S2x512x512 .f32) (arg11 : Memref sig .tc .vmem S2x512x512 .f32) (arg12 : Memref sig .tc .vmem S2x128x512 .bf16) (arg13 : Memref sig .tc .vmem S2x144x512 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f7 : BufTy.Contents (Elt F) arg7.view.ty, (arg7.view.loc (c : Thread nD τ) ↦[arg7.view.set]{fullShare} f7)) ∗ (∃ f8 : BufTy.Contents (Elt F) arg8.view.ty, (arg8.view.loc (c : Thread nD τ) ↦[arg8.view.set]{fullShare} f8)) ∗ (∃ f9 : BufTy.Contents (Elt F) arg9.view.ty, (arg9.view.loc (c : Thread nD τ) ↦[arg9.view.set]{fullShare} f9)) ∗ (∃ f10 : BufTy.Contents (Elt F) arg10.view.ty, (arg10.view.loc (c : Thread nD τ) ↦[arg10.view.set]{fullShare} f10)) ∗ (∃ f11 : BufTy.Contents (Elt F) arg11.view.ty, (arg11.view.loc (c : Thread nD τ) ↦[arg11.view.set]{fullShare} f11)) ∗ (∃ f12 : BufTy.Contents (Elt F) arg12.view.ty, (arg12.view.loc (c : Thread nD τ) ↦[arg12.view.set]{fullShare} f12)) ∗ (∃ f13 : BufTy.Contents (Elt F) arg13.view.ty, (arg13.view.loc (c : Thread nD τ) ↦[arg13.view.set]{fullShare} f13)))

variable (c : Dev nD) (i : grid0.Coords) (arg2 : Memref sig .tc .vmem S16x128x512 .bf16) (harg2 : arg2.IsWhole) (arg3 : Memref sig .tc .vmem S8192x128 .bf16) (harg3 : arg3.IsWhole) (arg4 : Memref sig .tc .vmem S16x128x512 .bf16) (harg4 : arg4.IsWhole) (arg5 : Memref sig .tc .vmem S4x64 .f32) (harg5 : arg5.IsWhole) (arg6 : Memref sig .tc .vmem S128x1 .f32) (harg6 : arg6.IsWhole) (arg7 : Memref sig .tc .vmem S8192x128 .bf16) (harg7 : arg7.IsWhole) (arg8 : Memref sig .tc .vmem S2x1x512 .f32) (harg8 : arg8.IsWhole) (arg9 : Memref sig .tc .vmem S2x144x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x128x512 .bf16) (harg12 : arg12.IsWhole) (arg13 : Memref sig .tc .vmem S2x144x512 .f32) (harg13 : arg13.IsWhole)

/-- One query tile: whatever the call's blocks hold before it, it runs and leaves the inputs as they were. -/
theorem tile (v0 : FVec F S16x512 .bf16) (v17 : FVec F S1x1 .f32) (v23 : FVec F S512x128 .bf16) (v33 : FVec F S128x512 .bf16) (v34 : FVec F S512x512 .f32) (k : Fin k0_t1_loop.trips) (E : Set ℕ) X2 X3 X4 X5 X6 :
  Held c arg2 arg3 arg4 arg5 arg6 arg7 arg8 arg9 arg10 arg11 arg12 arg13 X2 X3 X4 X5 X6
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 v0 v17 v23 v33 v34 k PUnit.unit)
        (fun _ => Held c arg2 arg3 arg4 arg5 arg6 arg7 arg8 arg9 arg10 arg11 arg12 arg13 X2 X3 X4 X5 X6) := by
  unfold k0_t1_body Held
  iintro ⟨HR_arg2, HR_arg3, HR_arg4, HR_arg5, HR_arg6, ⟨%f7, HW_arg7⟩, ⟨%f8, HW_arg8⟩, ⟨%f9, HW_arg9⟩, ⟨%f10, HW_arg10⟩, ⟨%f11, HW_arg11⟩, ⟨%f12, HW_arg12⟩, ⟨%f13, HW_arg13⟩⟩
  sl_exec
  sl_step
  isplitl [HR_arg2]; · iexact HR_arg2
  isplitl [HR_arg3]; · iexact HR_arg3
  isplitl [HR_arg4]; · iexact HR_arg4
  isplitl [HR_arg5]; · iexact HR_arg5
  isplitl [HR_arg6]; · iexact HR_arg6
  isplitl [HW_arg7]; · iexists _; iexact HW_arg7
  isplitl [HW_arg8]; · iexists _; iexact HW_arg8
  isplitl [HW_arg9]; · iexists _; iexact HW_arg9
  isplitl [HW_arg10]; · iexists _; iexact HW_arg10
  isplitl [HW_arg11]; · iexists _; iexact HW_arg11
  isplitl [HW_arg12]; · iexists _; iexact HW_arg12
  iexists _; iexact HW_arg13

end Cert.Kernel.Fr
end
-- ==== Proof.A.Model.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value

@[expose] public section

set_option maxRecDepth 8192
set_option maxHeartbeats 2000000

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances: the frame kit's (Gen/<Name>/Frame.lean). -/
local notation "𝕄G" => MT nD τ sig Unit (Elt F) ℕ (UR sig nD τ) ℕ

/-! ## The two maps' slices of a buffer: what a load of one reads after stores of both -/

/-- Map 0's slice of a buffer of shape `S2x1x512`. -/
abbrev rM0 : Rect S2x1x512 := Rect.unit (s := S2x1x512) ![0, 0, 0] S1x1x512.size inb_S2x1x512_S1x1x512_0_0_0

/-- Map 1's slice of a buffer of shape `S2x1x512`. -/
abbrev rM1 : Rect S2x1x512 := Rect.unit (s := S2x1x512) ![1, 0, 0] S1x1x512.size inb_S2x1x512_S1x1x512_1_0_0

theorem rM_disj : Disjoint (rM1).set (rM0).set :=
  Rect.unit_disjoint (a := (0 : Fin 3)) (Or.inr (by decide))

/-- A load of map 1's slice reads past a store of map 0's. -/
theorem covM01 (v : View sig .tc .vmem S2x1x512 .f32) (w : (rM0).shape.Idx → Elt F .f32) (L : List (View.Piece (Elt F) S2x1x512 .f32)) :
    v.readCov (⟨rM0, w⟩ :: L) (rM1).toLoadRect = v.readCov L (rM1).toLoadRect :=
  View.readCov_cons_of_disjoint v _ L _ (rM_disj.symm)

/-- A load of map 0's slice reads past a store of map 1's. -/
theorem covM10 (v : View sig .tc .vmem S2x1x512 .f32) (w : (rM1).shape.Idx → Elt F .f32) (L : List (View.Piece (Elt F) S2x1x512 .f32)) :
    v.readCov (⟨rM1, w⟩ :: L) (rM0).toLoadRect = v.readCov L (rM0).toLoadRect :=
  View.readCov_cons_of_disjoint v _ L _ (rM_disj)

/-- A load of map 0's slice reads the last store of it. -/
theorem covM00 (v : View sig .tc .vmem S2x1x512 .f32) (w : (rM0).shape.Idx → Elt F .f32) (L : List (View.Piece (Elt F) S2x1x512 .f32)) :
    v.readCov (⟨rM0, w⟩ :: L) (rM0).toLoadRect = w := View.readCov_cons_toLoadRect v _ w L

/-- A load of map 1's slice reads the last store of it. -/
theorem covM11 (v : View sig .tc .vmem S2x1x512 .f32) (w : (rM1).shape.Idx → Elt F .f32) (L : List (View.Piece (Elt F) S2x1x512 .f32)) :
    v.readCov (⟨rM1, w⟩ :: L) (rM1).toLoadRect = w := View.readCov_cons_toLoadRect v _ w L

/-- Map 0's slice of a buffer of shape `S2x144x512`. -/
abbrev rA0 : Rect S2x144x512 := Rect.unit (s := S2x144x512) ![0, 0, 0] S1x144x512.size inb_S2x144x512_S1x144x512_0_0_0

/-- Map 1's slice of a buffer of shape `S2x144x512`. -/
abbrev rA1 : Rect S2x144x512 := Rect.unit (s := S2x144x512) ![1, 0, 0] S1x144x512.size inb_S2x144x512_S1x144x512_1_0_0

theorem rA_disj : Disjoint (rA1).set (rA0).set :=
  Rect.unit_disjoint (a := (0 : Fin 3)) (Or.inr (by decide))

/-- A load of map 1's slice reads past a store of map 0's. -/
theorem covA01 (v : View sig .tc .vmem S2x144x512 .f32) (w : (rA0).shape.Idx → Elt F .f32) (L : List (View.Piece (Elt F) S2x144x512 .f32)) :
    v.readCov (⟨rA0, w⟩ :: L) (rA1).toLoadRect = v.readCov L (rA1).toLoadRect :=
  View.readCov_cons_of_disjoint v _ L _ (rA_disj.symm)

/-- A load of map 0's slice reads past a store of map 1's. -/
theorem covA10 (v : View sig .tc .vmem S2x144x512 .f32) (w : (rA1).shape.Idx → Elt F .f32) (L : List (View.Piece (Elt F) S2x144x512 .f32)) :
    v.readCov (⟨rA1, w⟩ :: L) (rA0).toLoadRect = v.readCov L (rA0).toLoadRect :=
  View.readCov_cons_of_disjoint v _ L _ (rA_disj)

/-- A load of map 0's slice reads the last store of it. -/
theorem covA00 (v : View sig .tc .vmem S2x144x512 .f32) (w : (rA0).shape.Idx → Elt F .f32) (L : List (View.Piece (Elt F) S2x144x512 .f32)) :
    v.readCov (⟨rA0, w⟩ :: L) (rA0).toLoadRect = w := View.readCov_cons_toLoadRect v _ w L

/-- A load of map 1's slice reads the last store of it. -/
theorem covA11 (v : View sig .tc .vmem S2x144x512 .f32) (w : (rA1).shape.Idx → Elt F .f32) (L : List (View.Piece (Elt F) S2x144x512 .f32)) :
    v.readCov (⟨rA1, w⟩ :: L) (rA1).toLoadRect = w := View.readCov_cons_toLoadRect v _ w L

/-- Map 0's slice of a buffer of shape `S2x512x512`. -/
abbrev rS0 : Rect S2x512x512 := Rect.unit (s := S2x512x512) ![0, 0, 0] S1x512x512.size inb_S2x512x512_S1x512x512_0_0_0

/-- Map 1's slice of a buffer of shape `S2x512x512`. -/
abbrev rS1 : Rect S2x512x512 := Rect.unit (s := S2x512x512) ![1, 0, 0] S1x512x512.size inb_S2x512x512_S1x512x512_1_0_0

theorem rS_disj : Disjoint (rS1).set (rS0).set :=
  Rect.unit_disjoint (a := (0 : Fin 3)) (Or.inr (by decide))

/-- A load of map 1's slice reads past a store of map 0's. -/
theorem covS01 (v : View sig .tc .vmem S2x512x512 .f32) (w : (rS0).shape.Idx → Elt F .f32) (L : List (View.Piece (Elt F) S2x512x512 .f32)) :
    v.readCov (⟨rS0, w⟩ :: L) (rS1).toLoadRect = v.readCov L (rS1).toLoadRect :=
  View.readCov_cons_of_disjoint v _ L _ (rS_disj.symm)

/-- A load of map 0's slice reads past a store of map 1's. -/
theorem covS10 (v : View sig .tc .vmem S2x512x512 .f32) (w : (rS1).shape.Idx → Elt F .f32) (L : List (View.Piece (Elt F) S2x512x512 .f32)) :
    v.readCov (⟨rS1, w⟩ :: L) (rS0).toLoadRect = v.readCov L (rS0).toLoadRect :=
  View.readCov_cons_of_disjoint v _ L _ (rS_disj)

/-- A load of map 0's slice reads the last store of it. -/
theorem covS00 (v : View sig .tc .vmem S2x512x512 .f32) (w : (rS0).shape.Idx → Elt F .f32) (L : List (View.Piece (Elt F) S2x512x512 .f32)) :
    v.readCov (⟨rS0, w⟩ :: L) (rS0).toLoadRect = w := View.readCov_cons_toLoadRect v _ w L

/-- A load of map 1's slice reads the last store of it. -/
theorem covS11 (v : View sig .tc .vmem S2x512x512 .f32) (w : (rS1).shape.Idx → Elt F .f32) (L : List (View.Piece (Elt F) S2x512x512 .f32)) :
    v.readCov (⟨rS1, w⟩ :: L) (rS1).toLoadRect = w := View.readCov_cons_toLoadRect v _ w L

/-- Map 0's slice of a buffer of shape `S2x128x512`. -/
abbrev rQ0 : Rect S2x128x512 := Rect.unit (s := S2x128x512) ![0, 0, 0] S1x128x512.size inb_S2x128x512_S1x128x512_0_0_0

/-- Map 1's slice of a buffer of shape `S2x128x512`. -/
abbrev rQ1 : Rect S2x128x512 := Rect.unit (s := S2x128x512) ![1, 0, 0] S1x128x512.size inb_S2x128x512_S1x128x512_1_0_0

theorem rQ_disj : Disjoint (rQ1).set (rQ0).set :=
  Rect.unit_disjoint (a := (0 : Fin 3)) (Or.inr (by decide))

/-- A load of map 1's slice reads past a store of map 0's. -/
theorem covQ01 (v : View sig .tc .vmem S2x128x512 .bf16) (w : (rQ0).shape.Idx → Elt F .bf16) (L : List (View.Piece (Elt F) S2x128x512 .bf16)) :
    v.readCov (⟨rQ0, w⟩ :: L) (rQ1).toLoadRect = v.readCov L (rQ1).toLoadRect :=
  View.readCov_cons_of_disjoint v _ L _ (rQ_disj.symm)

/-- A load of map 0's slice reads past a store of map 1's. -/
theorem covQ10 (v : View sig .tc .vmem S2x128x512 .bf16) (w : (rQ1).shape.Idx → Elt F .bf16) (L : List (View.Piece (Elt F) S2x128x512 .bf16)) :
    v.readCov (⟨rQ1, w⟩ :: L) (rQ0).toLoadRect = v.readCov L (rQ0).toLoadRect :=
  View.readCov_cons_of_disjoint v _ L _ (rQ_disj)

/-- A load of map 0's slice reads the last store of it. -/
theorem covQ00 (v : View sig .tc .vmem S2x128x512 .bf16) (w : (rQ0).shape.Idx → Elt F .bf16) (L : List (View.Piece (Elt F) S2x128x512 .bf16)) :
    v.readCov (⟨rQ0, w⟩ :: L) (rQ0).toLoadRect = w := View.readCov_cons_toLoadRect v _ w L

/-- A load of map 1's slice reads the last store of it. -/
theorem covQ11 (v : View sig .tc .vmem S2x128x512 .bf16) (w : (rQ1).shape.Idx → Elt F .bf16) (L : List (View.Piece (Elt F) S2x128x512 .bf16)) :
    v.readCov (⟨rQ1, w⟩ :: L) (rQ1).toLoadRect = w := View.readCov_cons_toLoadRect v _ w L

/-! The same, with the slices' sizes as literals. -/

theorem covM00' (v : View sig .tc .vmem S2x1x512 .f32) (ha hb) (w : (Rect.unit (s := S2x1x512) ![0, 0, 0] ![1, 1, 512] ha).shape.Idx → Elt F .f32) (L : List (View.Piece (Elt F) S2x1x512 .f32)) :
    v.readCov (⟨Rect.unit (s := S2x1x512) ![0, 0, 0] ![1, 1, 512] ha, w⟩ :: L) (Rect.unit (s := S2x1x512) ![0, 0, 0] ![1, 1, 512] hb).toLoadRect = w := covM00 v w L

theorem covM01' (v : View sig .tc .vmem S2x1x512 .f32) (ha hb) (w : (Rect.unit (s := S2x1x512) ![0, 0, 0] ![1, 1, 512] ha).shape.Idx → Elt F .f32) (L : List (View.Piece (Elt F) S2x1x512 .f32)) :
    v.readCov (⟨Rect.unit (s := S2x1x512) ![0, 0, 0] ![1, 1, 512] ha, w⟩ :: L) (Rect.unit (s := S2x1x512) ![1, 0, 0] ![1, 1, 512] hb).toLoadRect = v.readCov L (Rect.unit (s := S2x1x512) ![1, 0, 0] ![1, 1, 512] hb).toLoadRect := covM01 v w L

theorem covM10' (v : View sig .tc .vmem S2x1x512 .f32) (ha hb) (w : (Rect.unit (s := S2x1x512) ![1, 0, 0] ![1, 1, 512] ha).shape.Idx → Elt F .f32) (L : List (View.Piece (Elt F) S2x1x512 .f32)) :
    v.readCov (⟨Rect.unit (s := S2x1x512) ![1, 0, 0] ![1, 1, 512] ha, w⟩ :: L) (Rect.unit (s := S2x1x512) ![0, 0, 0] ![1, 1, 512] hb).toLoadRect = v.readCov L (Rect.unit (s := S2x1x512) ![0, 0, 0] ![1, 1, 512] hb).toLoadRect := covM10 v w L

theorem covM11' (v : View sig .tc .vmem S2x1x512 .f32) (ha hb) (w : (Rect.unit (s := S2x1x512) ![1, 0, 0] ![1, 1, 512] ha).shape.Idx → Elt F .f32) (L : List (View.Piece (Elt F) S2x1x512 .f32)) :
    v.readCov (⟨Rect.unit (s := S2x1x512) ![1, 0, 0] ![1, 1, 512] ha, w⟩ :: L) (Rect.unit (s := S2x1x512) ![1, 0, 0] ![1, 1, 512] hb).toLoadRect = w := covM11 v w L

theorem covA00' (v : View sig .tc .vmem S2x144x512 .f32) (ha hb) (w : (Rect.unit (s := S2x144x512) ![0, 0, 0] ![1, 144, 512] ha).shape.Idx → Elt F .f32) (L : List (View.Piece (Elt F) S2x144x512 .f32)) :
    v.readCov (⟨Rect.unit (s := S2x144x512) ![0, 0, 0] ![1, 144, 512] ha, w⟩ :: L) (Rect.unit (s := S2x144x512) ![0, 0, 0] ![1, 144, 512] hb).toLoadRect = w := covA00 v w L

theorem covA01' (v : View sig .tc .vmem S2x144x512 .f32) (ha hb) (w : (Rect.unit (s := S2x144x512) ![0, 0, 0] ![1, 144, 512] ha).shape.Idx → Elt F .f32) (L : List (View.Piece (Elt F) S2x144x512 .f32)) :
    v.readCov (⟨Rect.unit (s := S2x144x512) ![0, 0, 0] ![1, 144, 512] ha, w⟩ :: L) (Rect.unit (s := S2x144x512) ![1, 0, 0] ![1, 144, 512] hb).toLoadRect = v.readCov L (Rect.unit (s := S2x144x512) ![1, 0, 0] ![1, 144, 512] hb).toLoadRect := covA01 v w L

theorem covA10' (v : View sig .tc .vmem S2x144x512 .f32) (ha hb) (w : (Rect.unit (s := S2x144x512) ![1, 0, 0] ![1, 144, 512] ha).shape.Idx → Elt F .f32) (L : List (View.Piece (Elt F) S2x144x512 .f32)) :
    v.readCov (⟨Rect.unit (s := S2x144x512) ![1, 0, 0] ![1, 144, 512] ha, w⟩ :: L) (Rect.unit (s := S2x144x512) ![0, 0, 0] ![1, 144, 512] hb).toLoadRect = v.readCov L (Rect.unit (s := S2x144x512) ![0, 0, 0] ![1, 144, 512] hb).toLoadRect := covA10 v w L

theorem covA11' (v : View sig .tc .vmem S2x144x512 .f32) (ha hb) (w : (Rect.unit (s := S2x144x512) ![1, 0, 0] ![1, 144, 512] ha).shape.Idx → Elt F .f32) (L : List (View.Piece (Elt F) S2x144x512 .f32)) :
    v.readCov (⟨Rect.unit (s := S2x144x512) ![1, 0, 0] ![1, 144, 512] ha, w⟩ :: L) (Rect.unit (s := S2x144x512) ![1, 0, 0] ![1, 144, 512] hb).toLoadRect = w := covA11 v w L

theorem covS00' (v : View sig .tc .vmem S2x512x512 .f32) (ha hb) (w : (Rect.unit (s := S2x512x512) ![0, 0, 0] ![1, 512, 512] ha).shape.Idx → Elt F .f32) (L : List (View.Piece (Elt F) S2x512x512 .f32)) :
    v.readCov (⟨Rect.unit (s := S2x512x512) ![0, 0, 0] ![1, 512, 512] ha, w⟩ :: L) (Rect.unit (s := S2x512x512) ![0, 0, 0] ![1, 512, 512] hb).toLoadRect = w := covS00 v w L

theorem covS01' (v : View sig .tc .vmem S2x512x512 .f32) (ha hb) (w : (Rect.unit (s := S2x512x512) ![0, 0, 0] ![1, 512, 512] ha).shape.Idx → Elt F .f32) (L : List (View.Piece (Elt F) S2x512x512 .f32)) :
    v.readCov (⟨Rect.unit (s := S2x512x512) ![0, 0, 0] ![1, 512, 512] ha, w⟩ :: L) (Rect.unit (s := S2x512x512) ![1, 0, 0] ![1, 512, 512] hb).toLoadRect = v.readCov L (Rect.unit (s := S2x512x512) ![1, 0, 0] ![1, 512, 512] hb).toLoadRect := covS01 v w L

theorem covS10' (v : View sig .tc .vmem S2x512x512 .f32) (ha hb) (w : (Rect.unit (s := S2x512x512) ![1, 0, 0] ![1, 512, 512] ha).shape.Idx → Elt F .f32) (L : List (View.Piece (Elt F) S2x512x512 .f32)) :
    v.readCov (⟨Rect.unit (s := S2x512x512) ![1, 0, 0] ![1, 512, 512] ha, w⟩ :: L) (Rect.unit (s := S2x512x512) ![0, 0, 0] ![1, 512, 512] hb).toLoadRect = v.readCov L (Rect.unit (s := S2x512x512) ![0, 0, 0] ![1, 512, 512] hb).toLoadRect := covS10 v w L

theorem covS11' (v : View sig .tc .vmem S2x512x512 .f32) (ha hb) (w : (Rect.unit (s := S2x512x512) ![1, 0, 0] ![1, 512, 512] ha).shape.Idx → Elt F .f32) (L : List (View.Piece (Elt F) S2x512x512 .f32)) :
    v.readCov (⟨Rect.unit (s := S2x512x512) ![1, 0, 0] ![1, 512, 512] ha, w⟩ :: L) (Rect.unit (s := S2x512x512) ![1, 0, 0] ![1, 512, 512] hb).toLoadRect = w := covS11 v w L

theorem covQ00' (v : View sig .tc .vmem S2x128x512 .bf16) (ha hb) (w : (Rect.unit (s := S2x128x512) ![0, 0, 0] ![1, 128, 512] ha).shape.Idx → Elt F .bf16) (L : List (View.Piece (Elt F) S2x128x512 .bf16)) :
    v.readCov (⟨Rect.unit (s := S2x128x512) ![0, 0, 0] ![1, 128, 512] ha, w⟩ :: L) (Rect.unit (s := S2x128x512) ![0, 0, 0] ![1, 128, 512] hb).toLoadRect = w := covQ00 v w L

theorem covQ01' (v : View sig .tc .vmem S2x128x512 .bf16) (ha hb) (w : (Rect.unit (s := S2x128x512) ![0, 0, 0] ![1, 128, 512] ha).shape.Idx → Elt F .bf16) (L : List (View.Piece (Elt F) S2x128x512 .bf16)) :
    v.readCov (⟨Rect.unit (s := S2x128x512) ![0, 0, 0] ![1, 128, 512] ha, w⟩ :: L) (Rect.unit (s := S2x128x512) ![1, 0, 0] ![1, 128, 512] hb).toLoadRect = v.readCov L (Rect.unit (s := S2x128x512) ![1, 0, 0] ![1, 128, 512] hb).toLoadRect := covQ01 v w L

theorem covQ10' (v : View sig .tc .vmem S2x128x512 .bf16) (ha hb) (w : (Rect.unit (s := S2x128x512) ![1, 0, 0] ![1, 128, 512] ha).shape.Idx → Elt F .bf16) (L : List (View.Piece (Elt F) S2x128x512 .bf16)) :
    v.readCov (⟨Rect.unit (s := S2x128x512) ![1, 0, 0] ![1, 128, 512] ha, w⟩ :: L) (Rect.unit (s := S2x128x512) ![0, 0, 0] ![1, 128, 512] hb).toLoadRect = v.readCov L (Rect.unit (s := S2x128x512) ![0, 0, 0] ![1, 128, 512] hb).toLoadRect := covQ10 v w L

theorem covQ11' (v : View sig .tc .vmem S2x128x512 .bf16) (ha hb) (w : (Rect.unit (s := S2x128x512) ![1, 0, 0] ![1, 128, 512] ha).shape.Idx → Elt F .bf16) (L : List (View.Piece (Elt F) S2x128x512 .bf16)) :
    v.readCov (⟨Rect.unit (s := S2x128x512) ![1, 0, 0] ![1, 128, 512] ha, w⟩ :: L) (Rect.unit (s := S2x128x512) ![1, 0, 0] ![1, 128, 512] hb).toLoadRect = w := covQ11 v w L

/-! ## One block of keys consumed, as functions of what the step reads -/

/-- The scores of one block of keys against one map's queries. -/
def sc (kj : Vec F S512x128 .bf16) (q : Vec F S1x128x512 .bf16) : Vec F S1x512x512 .f32 :=
  shapeCast S1x512x512 (matmul dot_S512x128_S128x512_S512x512_1_0_0_1_n_n none (shapeCast S512x128 kj shapeCasts_S512x128_S512x128 : FVec F S512x128 .bf16)
    (shapeCast S128x512 q shapeCasts_S1x128x512_S128x512 : FVec F S128x512 .bf16) (constant S512x512 .f32 0x00000000#32) : FVec F S512x512 .f32) shapeCasts_S512x512_S1x512x512

/-- The scores without their leading axis. -/
def flat (s : Vec F S1x512x512 .f32) : FVec F S512x512 .f32 := shapeCast S512x512 s shapeCasts_S1x512x512_S512x512

/-- The values' block with the rows of ones below it. -/
def vv (v0 : FVec F S16x512 .bf16) (vt : Vec F S1x128x512 .bf16) : FVec F S144x512 .bf16 :=
  concatenate S144x512 0 [⟨S128x512, shapeCast S128x512 vt shapeCasts_S1x128x512_S128x512⟩, ⟨S16x512, v0⟩] concatenates_S128x512_S16x512_S144x512_d0

/-- The new running maximum. -/
def mNew (s : FVec F S512x512 .f32) (m : Vec F S1x1x512 .f32) : FVec F S1x512 .f32 :=
  maximumf (shapeCast S1x512 m shapeCasts_S1x1x512_S1x512 : FVec F S1x512 .f32)
    (shapeCast S1x512 (multiReduction .maximumf [0] S512 s 0xFF800000#32 reduces_S512x512_S512 (.inl rfl) rfl : FVec F S512 .f32) shapeCasts_S512_S1x512)

/-- The new running maximum as it is stored. -/
def mOut (s : FVec F S512x512 .f32) (m : Vec F S1x1x512 .f32) : Vec F S1x1x512 .f32 :=
  shapeCast S1x1x512 (mNew s m) shapeCasts_S1x512_S1x1x512

/-- The new accumulator. -/
def aOut (v : FVec F S144x512 .bf16) (s : FVec F S512x512 .f32) (m : Vec F S1x1x512 .f32) (a : Vec F S1x144x512 .f32) : Vec F S1x144x512 .f32 :=
  shapeCast S1x144x512
    (addf
      (mulf (broadcastTo S144x512 (exp2 (subf (shapeCast S1x512 m shapeCasts_S1x1x512_S1x512 : FVec F S1x512 .f32) (mNew s m)) : FVec F S1x512 .f32) broadcasts_S1x512_S144x512)
        (shapeCast S144x512 a shapeCasts_S1x144x512_S144x512 : FVec F S144x512 .f32))
      (matmul dot_S144x512_S512x512_S144x512_1_0_0_1_n_n none v
        (truncf .bf16 (exp2 (subf s (broadcastTo S512x512 (mNew s m) broadcasts_S1x512_S512x512)) : FVec F S512x512 .f32) bitsLt_bf16_f32)
        (constant S144x512 .f32 0x00000000#32)) : FVec F S144x512 .f32) shapeCasts_S144x512_S1x144x512

variable (F) in
/-- The running maxima and the accumulators of the two maps. -/
structure State where
  m0 : Vec F S1x1x512 .f32
  m1 : Vec F S1x1x512 .f32
  a0 : Vec F S1x144x512 .f32
  a1 : Vec F S1x144x512 .f32

/-- One block of keys consumed by both maps. -/
def State.step (v : FVec F S144x512 .bf16) (s0 s1 : FVec F S512x512 .f32) (σ : State F) : State F where
  m0 := mOut s0 σ.m0
  m1 := mOut s1 σ.m1
  a0 := aOut v s0 σ.m0 σ.a0
  a1 := aOut v s1 σ.m1 σ.a1

/-- The state after the first `j` blocks of keys, unmasked, from the state `σ` at the start. -/
def st (v0 : FVec F S16x512 .bf16) (K : ℕ → Vec F S512x128 .bf16) (V : ℕ → Vec F S1x128x512 .bf16) (q0 q1 : Vec F S1x128x512 .bf16) (σ : State F) : ℕ → State F
  | 0 => σ
  | j + 1 => (st v0 K V q0 q1 σ j).step (vv v0 (V j)) (flat (sc (K j) q0)) (flat (sc (K j) q1))

end Cert.KernelIdeal.Att
end
-- ==== Proof.A.Offs.lean ====
module

public import proofs.«01_k».proof.Proof.A.Model
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value

@[expose] public section

set_option maxRecDepth 8192
set_option maxHeartbeats 2000000

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances: the frame kit's (Gen/<Name>/Frame.lean). -/
local notation "𝕄G" => MT nD τ sig Unit (Elt F) ℕ (UR sig nD τ) ℕ

/-! ## The places of the key and value blocks a trip reads -/

theorem trips1 : k0_t1_loop.trips = 16 := by decide +kernel
theorem trips2 : ∀ t : Fin k0_t1_loop.trips, (k0_t2_loop t).trips = t.val / 8 := by decide +kernel
theorem trips4 : ∀ t : Fin k0_t1_loop.trips, (k0_t4_loop t).trips = t.val % 8 / 4 := by decide +kernel
theorem trips6 : ∀ t : Fin k0_t1_loop.trips, (k0_t6_loop t).trips = t.val % 4 / 2 := by decide +kernel
theorem trips3 : ∀ t : Fin k0_t1_loop.trips, (k0_t3_loop t).trips = 0 := by decide +kernel
theorem trips5 : ∀ t : Fin k0_t1_loop.trips, (k0_t5_loop t).trips = 0 := by decide +kernel
theorem trips7 : ∀ t : Fin k0_t1_loop.trips, (k0_t7_loop t).trips = 0 := by decide +kernel
theorem cond1_iff : ∀ t : Fin k0_t1_loop.trips, k0_cond1 t = 1#1 ↔ t.val % 2 = 0 := by decide +kernel
theorem cond2_iff : ∀ t : Fin k0_t1_loop.trips, k0_cond2 t = 1#1 ↔ t.val % 2 = 1 := by decide +kernel
theorem off2_01 : ∀ (t : Fin k0_t1_loop.trips) (k : Fin (k0_t2_loop t).trips), k0_off2 t k 0#32 1#32 = ![512 * (8 * k.val + 1), 0] := by decide +kernel
theorem off2_02 : ∀ (t : Fin k0_t1_loop.trips) (k : Fin (k0_t2_loop t).trips), k0_off2 t k 0#32 2#32 = ![512 * (8 * k.val + 2), 0] := by decide +kernel
theorem off3_0 : ∀ (t : Fin k0_t1_loop.trips) (k : Fin (k0_t2_loop t).trips), k0_off3 t k 0#32 = ![8 * k.val + 0, 0, 0] := by decide +kernel
theorem off4_0 : ∀ (t : Fin k0_t1_loop.trips) (k : Fin (k0_t2_loop t).trips), k0_off4 t k 0#32 = ![8 * k.val + 1, 0, 0] := by decide +kernel
theorem off2_11 : ∀ (t : Fin k0_t1_loop.trips) (k : Fin (k0_t2_loop t).trips), k0_off2 t k 1#32 1#32 = ![512 * (8 * k.val + 3), 0] := by decide +kernel
theorem off2_12 : ∀ (t : Fin k0_t1_loop.trips) (k : Fin (k0_t2_loop t).trips), k0_off2 t k 1#32 2#32 = ![512 * (8 * k.val + 4), 0] := by decide +kernel
theorem off3_1 : ∀ (t : Fin k0_t1_loop.trips) (k : Fin (k0_t2_loop t).trips), k0_off3 t k 1#32 = ![8 * k.val + 2, 0, 0] := by decide +kernel
theorem off4_1 : ∀ (t : Fin k0_t1_loop.trips) (k : Fin (k0_t2_loop t).trips), k0_off4 t k 1#32 = ![8 * k.val + 3, 0, 0] := by decide +kernel
theorem off2_21 : ∀ (t : Fin k0_t1_loop.trips) (k : Fin (k0_t2_loop t).trips), k0_off2 t k 2#32 1#32 = ![512 * (8 * k.val + 5), 0] := by decide +kernel
theorem off2_22 : ∀ (t : Fin k0_t1_loop.trips) (k : Fin (k0_t2_loop t).trips), k0_off2 t k 2#32 2#32 = ![512 * (8 * k.val + 6), 0] := by decide +kernel
theorem off3_2 : ∀ (t : Fin k0_t1_loop.trips) (k : Fin (k0_t2_loop t).trips), k0_off3 t k 2#32 = ![8 * k.val + 4, 0, 0] := by decide +kernel
theorem off4_2 : ∀ (t : Fin k0_t1_loop.trips) (k : Fin (k0_t2_loop t).trips), k0_off4 t k 2#32 = ![8 * k.val + 5, 0, 0] := by decide +kernel
theorem off2_31 : ∀ (t : Fin k0_t1_loop.trips) (k : Fin (k0_t2_loop t).trips), k0_off2 t k 3#32 1#32 = ![512 * (8 * k.val + 7), 0] := by decide +kernel
theorem off2_32 : ∀ (t : Fin k0_t1_loop.trips) (k : Fin (k0_t2_loop t).trips), k0_off2 t k 3#32 2#32 = ![512 * (8 * k.val + 8), 0] := by decide +kernel
theorem off3_3 : ∀ (t : Fin k0_t1_loop.trips) (k : Fin (k0_t2_loop t).trips), k0_off3 t k 3#32 = ![8 * k.val + 6, 0, 0] := by decide +kernel
theorem off4_3 : ∀ (t : Fin k0_t1_loop.trips) (k : Fin (k0_t2_loop t).trips), k0_off4 t k 3#32 = ![8 * k.val + 7, 0, 0] := by decide +kernel
theorem off8_01 : ∀ (t : Fin k0_t1_loop.trips) (k : Fin (k0_t4_loop t).trips), k0_off8 t k 0#32 1#32 = ![512 * (8 * (t.val / 8) + 4 * k.val + 1), 0] := by decide +kernel
theorem off8_02 : ∀ (t : Fin k0_t1_loop.trips) (k : Fin (k0_t4_loop t).trips), k0_off8 t k 0#32 2#32 = ![512 * (8 * (t.val / 8) + 4 * k.val + 2), 0] := by decide +kernel
theorem off9_0 : ∀ (t : Fin k0_t1_loop.trips) (k : Fin (k0_t4_loop t).trips), k0_off9 t k 0#32 = ![8 * (t.val / 8) + 4 * k.val + 0, 0, 0] := by decide +kernel
theorem off10_0 : ∀ (t : Fin k0_t1_loop.trips) (k : Fin (k0_t4_loop t).trips), k0_off10 t k 0#32 = ![8 * (t.val / 8) + 4 * k.val + 1, 0, 0] := by decide +kernel
theorem off8_11 : ∀ (t : Fin k0_t1_loop.trips) (k : Fin (k0_t4_loop t).trips), k0_off8 t k 1#32 1#32 = ![512 * (8 * (t.val / 8) + 4 * k.val + 3), 0] := by decide +kernel
theorem off8_12 : ∀ (t : Fin k0_t1_loop.trips) (k : Fin (k0_t4_loop t).trips), k0_off8 t k 1#32 2#32 = ![512 * (8 * (t.val / 8) + 4 * k.val + 4), 0] := by decide +kernel
theorem off9_1 : ∀ (t : Fin k0_t1_loop.trips) (k : Fin (k0_t4_loop t).trips), k0_off9 t k 1#32 = ![8 * (t.val / 8) + 4 * k.val + 2, 0, 0] := by decide +kernel
theorem off10_1 : ∀ (t : Fin k0_t1_loop.trips) (k : Fin (k0_t4_loop t).trips), k0_off10 t k 1#32 = ![8 * (t.val / 8) + 4 * k.val + 3, 0, 0] := by decide +kernel
theorem off14_1 : ∀ (t : Fin k0_t1_loop.trips) (k : Fin (k0_t6_loop t).trips), k0_off14 t k 1#32 = ![512 * (4 * (t.val / 4) + 2 * k.val + 1), 0] := by decide +kernel
theorem off14_2 : ∀ (t : Fin k0_t1_loop.trips) (k : Fin (k0_t6_loop t).trips), k0_off14 t k 2#32 = ![512 * (4 * (t.val / 4) + 2 * k.val + 2), 0] := by decide +kernel
theorem off15 : ∀ (t : Fin k0_t1_loop.trips) (k : Fin (k0_t6_loop t).trips), k0_off15 t k = ![4 * (t.val / 4) + 2 * k.val, 0, 0] := by decide +kernel
theorem off16 : ∀ (t : Fin k0_t1_loop.trips) (k : Fin (k0_t6_loop t).trips), k0_off16 t k = ![4 * (t.val / 4) + 2 * k.val + 1, 0, 0] := by decide +kernel
theorem off1 : ∀ t : Fin k0_t1_loop.trips, k0_off1 t = ![t.val, 0, 0] := by decide +kernel
theorem off20 : ∀ t : Fin k0_t1_loop.trips, k0_off20 t = ![min (t.val + 1) 15, 0, 0] := by decide +kernel
theorem off21 : ∀ t : Fin k0_t1_loop.trips, k0_off21 t = ![512 * (t.val - 1), 0] := by decide +kernel
theorem off22 : ∀ t : Fin k0_t1_loop.trips, k0_off22 t = ![t.val, 0, 0] := by decide +kernel
theorem off23 : ∀ t : Fin k0_t1_loop.trips, k0_off23 t = ![512 * t.val, 0] := by decide +kernel
theorem off24 : ∀ t : Fin k0_t1_loop.trips, k0_off24 t = ![512 * (t.val - 1), 0] := by decide +kernel
theorem off26 : ∀ t : Fin k0_t1_loop.trips, k0_off26 t = ![min (t.val + 1) 15, 0, 0] := by decide +kernel
theorem off27 : ∀ t : Fin k0_t1_loop.trips, k0_off27 t = ![t.val, 0, 0] := by decide +kernel
theorem off25 : ∀ t : Fin k0_t1_loop.trips, t.val % 2 = 1 → k0_off25 t = ![t.val - 1, 0, 0] := by decide +kernel

end Cert.KernelIdeal.Att
end
-- ==== Proof.B.ITile.lean ====
module

public import proofs.«01_k».proof.Proof.Gen.KernelIdeal.Skeleton
public import proofs.«01_k».proof.Proof.A.Offs
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value

@[expose] public section

set_option maxRecDepth 8192
set_option maxHeartbeats 2000000

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances: the frame kit's (Gen/<Name>/Frame.lean). -/
local notation "𝕄G" => MT nD τ sig Unit (Elt F) ℕ (UR sig nD τ) ℕ

/-- The blocks of the call: the inputs at their contents, everything written at any. -/
def Held (c : Dev nD) (arg2 : Memref sig .tc .vmem S16x128x512 .bf16) (arg3 : Memref sig .tc .vmem S8192x128 .bf16) (arg4 : Memref sig .tc .vmem S16x128x512 .bf16) (arg5 : Memref sig .tc .vmem S4x64 .f32) (arg6 : Memref sig .tc .vmem S128x1 .f32) (arg7 : Memref sig .tc .vmem S8192x128 .bf16) (arg8 : Memref sig .tc .vmem S2x1x512 .f32) (arg9 : Memref sig .tc .vmem S2x144x512 .f32) (arg10 : Memref sig .tc .vmem S2x512x512 .f32) (arg11 : Memref sig .tc .vmem S2x512x512 .f32) (arg12 : Memref sig .tc .vmem S2x128x512 .bf16) (arg13 : Memref sig .tc .vmem S2x144x512 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f7 : BufTy.Contents (Elt F) arg7.view.ty, (arg7.view.loc (c : Thread nD τ) ↦[arg7.view.set]{fullShare} f7)) ∗ (∃ f8 : BufTy.Contents (Elt F) arg8.view.ty, (arg8.view.loc (c : Thread nD τ) ↦[arg8.view.set]{fullShare} f8)) ∗ (∃ f9 : BufTy.Contents (Elt F) arg9.view.ty, (arg9.view.loc (c : Thread nD τ) ↦[arg9.view.set]{fullShare} f9)) ∗ (∃ f10 : BufTy.Contents (Elt F) arg10.view.ty, (arg10.view.loc (c : Thread nD τ) ↦[arg10.view.set]{fullShare} f10)) ∗ (∃ f11 : BufTy.Contents (Elt F) arg11.view.ty, (arg11.view.loc (c : Thread nD τ) ↦[arg11.view.set]{fullShare} f11)) ∗ (∃ f12 : BufTy.Contents (Elt F) arg12.view.ty, (arg12.view.loc (c : Thread nD τ) ↦[arg12.view.set]{fullShare} f12)) ∗ (∃ f13 : BufTy.Contents (Elt F) arg13.view.ty, (arg13.view.loc (c : Thread nD τ) ↦[arg13.view.set]{fullShare} f13)))

variable (c : Dev nD) (i : grid0.Coords) (arg2 : Memref sig .tc .vmem S16x128x512 .bf16) (harg2 : arg2.IsWhole) (arg3 : Memref sig .tc .vmem S8192x128 .bf16) (harg3 : arg3.IsWhole) (arg4 : Memref sig .tc .vmem S16x128x512 .bf16) (harg4 : arg4.IsWhole) (arg5 : Memref sig .tc .vmem S4x64 .f32) (harg5 : arg5.IsWhole) (arg6 : Memref sig .tc .vmem S128x1 .f32) (harg6 : arg6.IsWhole) (arg7 : Memref sig .tc .vmem S8192x128 .bf16) (harg7 : arg7.IsWhole) (arg8 : Memref sig .tc .vmem S2x1x512 .f32) (harg8 : arg8.IsWhole) (arg9 : Memref sig .tc .vmem S2x144x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x128x512 .bf16) (harg12 : arg12.IsWhole) (arg13 : Memref sig .tc .vmem S2x144x512 .f32) (harg13 : arg13.IsWhole)

theorem trip2 (v0 : FVec F S16x512 .bf16) (k0_t1 : Fin k0_t1_loop.trips) (arg14 : BitVec 32) (c8_i32 : BitVec 32) (v104 : BitVec 32) (v106 : BitVec 32) (v107 : BitVec 1) (k : Fin (k0_t2_loop k0_t1).trips) (E : Set ℕ) X2 X3 X4 X5 X6 :
  Held c arg2 arg3 arg4 arg5 arg6 arg7 arg8 arg9 arg10 arg11 arg12 arg13 X2 X3 X4 X5 X6
      ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 arg11 harg11 arg12 harg12 arg13 harg13 v0 k0_t1 arg14 c8_i32 v104 v106 v107 k PUnit.unit)
        (fun _ => Held c arg2 arg3 arg4 arg5 arg6 arg7 arg8 arg9 arg10 arg11 arg12 arg13 X2 X3 X4 X5 X6) := by
  unfold k0_t2_body Held
  iintro ⟨HR_arg2, HR_arg3, HR_arg4, HR_arg5, HR_arg6, ⟨%f7, HW_arg7⟩, ⟨%f8, HW_arg8⟩, ⟨%f9, HW_arg9⟩, ⟨%f10, HW_arg10⟩, ⟨%f11, HW_arg11⟩, ⟨%f12, HW_arg12⟩, ⟨%f13, HW_arg13⟩⟩
  sl_exec
  sl_step
  isplitl [HR_arg2]; · iexact HR_arg2
  isplitl [HR_arg3]; · iexact HR_arg3
  isplitl [HR_arg4]; · iexact HR_arg4
  isplitl [HR_arg5]; · iexact HR_arg5
  isplitl [HR_arg6]; · iexact HR_arg6
  isplitl [HW_arg7]; · iexists _; iexact HW_arg7
  isplitl [HW_arg8]; · iexists _; iexact HW_arg8
  isplitl [HW_arg9]; · iexists _; iexact HW_arg9
  isplitl [HW_arg10]; · iexists _; iexact HW_arg10
  isplitl [HW_arg11]; · iexists _; iexact HW_arg11
  isplitl [HW_arg12]; · iexists _; iexact HW_arg12
  iexists _; iexact HW_arg13

theorem trip4 (v0 : FVec F S16x512 .bf16) (k0_t1 : Fin k0_t1_loop.trips) (arg14 : BitVec 32) (v143 : BitVec 32) (v145 : BitVec 32) (k : Fin (k0_t4_loop k0_t1).trips) (E : Set ℕ) X2 X3 X4 X5 X6 :
  Held c arg2 arg3 arg4 arg5 arg6 arg7 arg8 arg9 arg10 arg11 arg12 arg13 X2 X3 X4 X5 X6
      ⊢ wp frame (wpE (defs₀ (F := F)) Variants.none (c : Thread nD τ) none) E (k0_t4_body (F := F) i arg2 harg2 arg3 harg3 arg4 harg4 arg5 harg5 arg6 harg6 arg7 harg7 arg8 harg8 arg9 harg9 arg10 harg10 arg11 harg11 arg12 harg12 arg13 harg13 v0 k0_t1 arg14 v143 v145 k PUnit.unit)
        (fun _ => Held c arg2 arg3 arg4 arg5 arg6 arg7 arg8 arg9 arg10 arg11 arg12 arg13 X2 X3 X4 X5 X6) := by
  unfold k0_t4_body Held
  iintro ⟨HR_arg2, HR_arg3, HR_arg4, HR_arg5, HR_arg6, ⟨%f7, HW_arg7⟩, ⟨%f8, HW_arg8⟩, ⟨%f9, HW_arg9⟩, ⟨%f10, HW_arg10⟩, ⟨%f11, HW_arg11⟩, ⟨%f12, HW_arg12⟩, ⟨%f13, HW_arg13⟩⟩
  sl_exec
  sl_step
  isplitl [HR_arg2]; · iexact HR_arg2
  isplitl [HR_arg3]; · iexact HR_arg3
  isplitl [HR_arg4]; · iexact HR_arg4
  isplitl [HR_arg5]; · iexact HR_arg5
  isplitl [HR_arg6]; · iexact HR_arg6
  isplitl [HW_arg7]; · iexists _; iexact HW_arg7
  isplitl [HW_arg8]; · iexists _; iexact HW_arg8
  isplitl [HW_arg9]; · iexists _; iexact HW_arg9
  isplitl [HW_arg10]; · iexists _; iexact HW_arg10
  isplitl [HW_arg11]; · iexists _; iexact HW_arg11
  isplitl [HW_arg12]; · iexists _; iexact HW_arg12
  iexists _; iexact HW_arg13

theorem trip6 (v0 : FVec F S16x512 .bf16) (v17 : FVec F S1x1 .f32) (k0_t1 : Fin k0_t1_loop.trips) (arg14 : BitVec 32) (v103 : BitVec 32) (v193 : BitVec 32) (c0_i32_113 : BitVec 32) (v224 : BitVec 32) (k : Fin (k0_t6_loop k0_t1).trips) (E : Set ℕ) X2 X3 X4 X5 X6 :
  Held c arg2 arg3 arg4 arg5 arg6 arg7 arg8 arg9 arg10 arg11 arg12 arg13 X2 X3 X4 X5 X6
      ⊢ wp frame (wpE (defs₀ (F := F)) Variants.none (c : Thread nD τ) none) E (k0_t6_body (F := F) i arg2 harg2 arg3 harg3 arg4 harg4 arg5 harg5 arg6 harg6 arg7 harg7 arg8 harg8 arg9 harg9 arg10 harg10 arg11 harg11 arg12 harg12 arg13 harg13 v0 v17 k0_t1 arg14 v103 v193 c0_i32_113 v224 k PUnit.unit)
        (fun _ => Held c arg2 arg3 arg4 arg5 arg6 arg7 arg8 arg9 arg10 arg11 arg12 arg13 X2 X3 X4 X5 X6) := by
  unfold k0_t6_body Held
  iintro ⟨HR_arg2, HR_arg3, HR_arg4, HR_arg5, HR_arg6, ⟨%f7, HW_arg7⟩, ⟨%f8, HW_arg8⟩, ⟨%f9, HW_arg9⟩, ⟨%f10, HW_arg10⟩, ⟨%f11, HW_arg11⟩, ⟨%f12, HW_arg12⟩, ⟨%f13, HW_arg13⟩⟩
  sl_exec
  sl_step
  isplitl [HR_arg2]; · iexact HR_arg2
  isplitl [HR_arg3]; · iexact HR_arg3
  isplitl [HR_arg4]; · iexact HR_arg4
  isplitl [HR_arg5]; · iexact HR_arg5
  isplitl [HR_arg6]; · iexact HR_arg6
  isplitl [HW_arg7]; · iexists _; iexact HW_arg7
  isplitl [HW_arg8]; · iexists _; iexact HW_arg8
  isplitl [HW_arg9]; · iexists _; iexact HW_arg9
  isplitl [HW_arg10]; · iexists _; iexact HW_arg10
  isplitl [HW_arg11]; · iexists _; iexact HW_arg11
  isplitl [HW_arg12]; · iexists _; iexact HW_arg12
  iexists _; iexact HW_arg13

/-- One query tile: whatever the call's blocks hold before it, it runs and leaves the inputs as they were. -/
theorem tile (v0 : FVec F S16x512 .bf16) (v17 : FVec F S1x1 .f32) (v23 : FVec F S512x128 .bf16) (v33 : FVec F S128x512 .bf16) (v34 : FVec F S512x512 .f32) (k : Fin k0_t1_loop.trips) (E : Set ℕ) X2 X3 X4 X5 X6 :
  Held c arg2 arg3 arg4 arg5 arg6 arg7 arg8 arg9 arg10 arg11 arg12 arg13 X2 X3 X4 X5 X6
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 v0 v17 v23 v33 v34 k PUnit.unit)
        (fun _ => Held c arg2 arg3 arg4 arg5 arg6 arg7 arg8 arg9 arg10 arg11 arg12 arg13 X2 X3 X4 X5 X6) := by
  unfold k0_t1_body Held
  iintro ⟨HR_arg2, HR_arg3, HR_arg4, HR_arg5, HR_arg6, ⟨%f7, HW_arg7⟩, ⟨%f8, HW_arg8⟩, ⟨%f9, HW_arg9⟩, ⟨%f10, HW_arg10⟩, ⟨%f11, HW_arg11⟩, ⟨%f12, HW_arg12⟩, ⟨%f13, HW_arg13⟩⟩
  sl_exec
  sl_for (fun _ _ => Held c arg2 arg3 arg4 arg5 arg6 arg7 arg8 arg9 arg10 arg11 arg12 arg13 X2 X3 X4 X5 X6) $$ [HR_arg2 HR_arg3 HR_arg4 HR_arg5 HR_arg6 HW_arg7 HW_arg8 HW_arg9 HW_arg10 HW_arg11 HW_arg12 HW_arg13]
  · intro k' acc
    exact trip2 c i arg2 harg2 arg3 harg3 arg4 harg4 arg5 harg5 arg6 harg6 arg7 harg7 arg8 harg8 arg9 harg9 arg10 harg10 arg11 harg11 arg12 harg12 arg13 harg13 v0 k 0#32 0#32 0#32 0#32 0#1 k' E X2 X3 X4 X5 X6
  · unfold Held
    isplitl [HR_arg2]; · iexact HR_arg2
    isplitl [HR_arg3]; · iexact HR_arg3
    isplitl [HR_arg4]; · iexact HR_arg4
    isplitl [HR_arg5]; · iexact HR_arg5
    isplitl [HR_arg6]; · iexact HR_arg6
    isplitl [HW_arg7]; · iexists _; iexact HW_arg7
    isplitl [HW_arg8]; · iexists _; iexact HW_arg8
    isplitl [HW_arg9]; · iexists _; iexact HW_arg9
    isplitl [HW_arg10]; · iexists _; iexact HW_arg10
    isplitl [HW_arg11]; · iexists _; iexact HW_arg11
    isplitl [HW_arg12]; · iexists _; iexact HW_arg12
    iexists _; iexact HW_arg13
  iintro %acc2 HI
  unfold Held
  icases HI with ⟨HR_arg2, HR_arg3, HR_arg4, HR_arg5, HR_arg6, ⟨%f7, HW_arg7⟩, ⟨%f8, HW_arg8⟩, ⟨%f9, HW_arg9⟩, ⟨%f10, HW_arg10⟩, ⟨%f11, HW_arg11⟩, ⟨%f12, HW_arg12⟩, ⟨%f13, HW_arg13⟩⟩
  sl_exec
  sl_for0 (Att.trips3 k)
  sl_exec
  sl_for (fun _ _ => Held c arg2 arg3 arg4 arg5 arg6 arg7 arg8 arg9 arg10 arg11 arg12 arg13 X2 X3 X4 X5 X6) $$ [HR_arg2 HR_arg3 HR_arg4 HR_arg5 HR_arg6 HW_arg7 HW_arg8 HW_arg9 HW_arg10 HW_arg11 HW_arg12 HW_arg13]
  · intro k' acc
    exact trip4 c i arg2 harg2 arg3 harg3 arg4 harg4 arg5 harg5 arg6 harg6 arg7 harg7 arg8 harg8 arg9 harg9 arg10 harg10 arg11 harg11 arg12 harg12 arg13 harg13 v0 k 0#32 0#32 0#32 k' E X2 X3 X4 X5 X6
  · unfold Held
    isplitl [HR_arg2]; · iexact HR_arg2
    isplitl [HR_arg3]; · iexact HR_arg3
    isplitl [HR_arg4]; · iexact HR_arg4
    isplitl [HR_arg5]; · iexact HR_arg5
    isplitl [HR_arg6]; · iexact HR_arg6
    isplitl [HW_arg7]; · iexists _; iexact HW_arg7
    isplitl [HW_arg8]; · iexists _; iexact HW_arg8
    isplitl [HW_arg9]; · iexists _; iexact HW_arg9
    isplitl [HW_arg10]; · iexists _; iexact HW_arg10
    isplitl [HW_arg11]; · iexists _; iexact HW_arg11
    isplitl [HW_arg12]; · iexists _; iexact HW_arg12
    iexists _; iexact HW_arg13
  iintro %acc4 HI
  unfold Held
  icases HI with ⟨HR_arg2, HR_arg3, HR_arg4, HR_arg5, HR_arg6, ⟨%f7, HW_arg7⟩, ⟨%f8, HW_arg8⟩, ⟨%f9, HW_arg9⟩, ⟨%f10, HW_arg10⟩, ⟨%f11, HW_arg11⟩, ⟨%f12, HW_arg12⟩, ⟨%f13, HW_arg13⟩⟩
  sl_exec
  sl_for0 (Att.trips5 k)
  sl_exec
  sl_for (fun _ _ => Held c arg2 arg3 arg4 arg5 arg6 arg7 arg8 arg9 arg10 arg11 arg12 arg13 X2 X3 X4 X5 X6) $$ [HR_arg2 HR_arg3 HR_arg4 HR_arg5 HR_arg6 HW_arg7 HW_arg8 HW_arg9 HW_arg10 HW_arg11 HW_arg12 HW_arg13]
  · intro k' acc
    exact trip6 c i arg2 harg2 arg3 harg3 arg4 harg4 arg5 harg5 arg6 harg6 arg7 harg7 arg8 harg8 arg9 harg9 arg10 harg10 arg11 harg11 arg12 harg12 arg13 harg13 v0 v17 k 0#32 0#32 0#32 0#32 0#32 k' E X2 X3 X4 X5 X6
  · unfold Held
    isplitl [HR_arg2]; · iexact HR_arg2
    isplitl [HR_arg3]; · iexact HR_arg3
    isplitl [HR_arg4]; · iexact HR_arg4
    isplitl [HR_arg5]; · iexact HR_arg5
    isplitl [HR_arg6]; · iexact HR_arg6
    isplitl [HW_arg7]; · iexists _; iexact HW_arg7
    isplitl [HW_arg8]; · iexists _; iexact HW_arg8
    isplitl [HW_arg9]; · iexists _; iexact HW_arg9
    isplitl [HW_arg10]; · iexists _; iexact HW_arg10
    isplitl [HW_arg11]; · iexists _; iexact HW_arg11
    isplitl [HW_arg12]; · iexists _; iexact HW_arg12
    iexists _; iexact HW_arg13
  iintro %acc6 HI
  unfold Held
  icases HI with ⟨HR_arg2, HR_arg3, HR_arg4, HR_arg5, HR_arg6, ⟨%f7, HW_arg7⟩, ⟨%f8, HW_arg8⟩, ⟨%f9, HW_arg9⟩, ⟨%f10, HW_arg10⟩, ⟨%f11, HW_arg11⟩, ⟨%f12, HW_arg12⟩, ⟨%f13, HW_arg13⟩⟩
  sl_exec
  sl_for0 (Att.trips7 k)
  sl_exec
  sl_step
  isplitl [HR_arg2]; · iexact HR_arg2
  isplitl [HR_arg3]; · iexact HR_arg3
  isplitl [HR_arg4]; · iexact HR_arg4
  isplitl [HR_arg5]; · iexact HR_arg5
  isplitl [HR_arg6]; · iexact HR_arg6
  isplitl [HW_arg7]; · iexists _; iexact HW_arg7
  isplitl [HW_arg8]; · iexists _; iexact HW_arg8
  isplitl [HW_arg9]; · iexists _; iexact HW_arg9
  isplitl [HW_arg10]; · iexists _; iexact HW_arg10
  isplitl [HW_arg11]; · iexists _; iexact HW_arg11
  isplitl [HW_arg12]; · iexists _; iexact HW_arg12
  iexists _; iexact HW_arg13

end Cert.KernelIdeal.Fr
end
-- ==== Proof.B.ICall.lean ====
module

public import proofs.«01_k».proof.Proof.B.ITile
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value

@[expose] public section

set_option maxRecDepth 8192
set_option maxHeartbeats 2000000

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances: the frame kit's (Gen/<Name>/Frame.lean). -/
local notation "𝕄G" => MT nD τ sig Unit (Elt F) ℕ (UR sig nD τ) ℕ

variable (c : Dev nD) (i : grid0.Coords) (arg2 : Memref sig .tc .vmem S16x128x512 .bf16) (harg2 : arg2.IsWhole) (arg3 : Memref sig .tc .vmem S8192x128 .bf16) (harg3 : arg3.IsWhole) (arg4 : Memref sig .tc .vmem S16x128x512 .bf16) (harg4 : arg4.IsWhole) (arg5 : Memref sig .tc .vmem S4x64 .f32) (harg5 : arg5.IsWhole) (arg6 : Memref sig .tc .vmem S128x1 .f32) (harg6 : arg6.IsWhole) (arg7 : Memref sig .tc .vmem S8192x128 .bf16) (harg7 : arg7.IsWhole) (arg8 : Memref sig .tc .vmem S2x1x512 .f32) (harg8 : arg8.IsWhole) (arg9 : Memref sig .tc .vmem S2x144x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x128x512 .bf16) (harg12 : arg12.IsWhole) (arg13 : Memref sig .tc .vmem S2x144x512 .f32) (harg13 : arg13.IsWhole)

/-- The whole call of one head: it runs, the inputs stay, the rest is at some contents. -/
theorem call (E : Set ℕ) (x2 : Vec F S16x128x512 .bf16) (x3 : Vec F S8192x128 .bf16) (x4 : Vec F S16x128x512 .bf16) (x5 : Vec F S4x64 .f32) (x6 : Vec F S128x1 .f32) (Q : PUnit → sProp 𝕄G) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ Q ⟨⟩))
      ⊢ wp frame (wpE (defs₀ (F := F)) Variants.none (c : Thread nD τ) none) E (cc0_prompt_diff_attention (F := F) i arg2 harg2 arg3 harg3 arg4 harg4 arg5 harg5 arg6 harg6 arg7 harg7 arg8 harg8 arg9 harg9 arg10 harg10 arg11 harg11 arg12 harg12 arg13 harg13) Q := by
  simp only [cc0_prompt_diff_attention_eq_skeleton]; unfold cc0_prompt_diff_attention_skel
  unfold owns
  iintro ⟨⟨%X2, %h2, HR_arg2⟩, ⟨%X3, %h3, HR_arg3⟩, ⟨%X4, %h4, HR_arg4⟩, ⟨%X5, %h5, HR_arg5⟩, ⟨%X6, %h6, HR_arg6⟩, ⟨%d7, %f7, -, HW_arg7⟩, ⟨%d8, %f8, -, HW_arg8⟩, ⟨%d9, %f9, -, HW_arg9⟩, ⟨%d10, %f10, -, HW_arg10⟩, ⟨%d11, %f11, -, HW_arg11⟩, ⟨%d12, %f12, -, HW_arg12⟩, ⟨%d13, %f13, -, HW_arg13⟩, Hk⟩
  subst h2 h3 h4 h5 h6
  sl_exec
  sl_for (fun _ _ => Held c arg2 arg3 arg4 arg5 arg6 arg7 arg8 arg9 arg10 arg11 arg12 arg13 X2 X3 X4 X5 X6) $$ [HR_arg2 HR_arg3 HR_arg4 HR_arg5 HR_arg6 HW_arg7 HW_arg8 HW_arg9 HW_arg10 HW_arg11 HW_arg12 HW_arg13]
  · intro k acc
    exact tile c i arg2 harg2 arg3 harg3 arg4 harg4 arg5 harg5 arg6 harg6 arg7 harg7 arg8 harg8 arg9 harg9 arg10 harg10 arg11 harg11 arg12 harg12 arg13 harg13 _ _ _ _ _ k E X2 X3 X4 X5 X6
  · unfold Held
    isplitl [HR_arg2]; · iexact HR_arg2
    isplitl [HR_arg3]; · iexact HR_arg3
    isplitl [HR_arg4]; · iexact HR_arg4
    isplitl [HR_arg5]; · iexact HR_arg5
    isplitl [HR_arg6]; · iexact HR_arg6
    isplitl [HW_arg7]; · iexists _; iexact HW_arg7
    isplitl [HW_arg8]; · iexists _; iexact HW_arg8
    isplitl [HW_arg9]; · iexists _; iexact HW_arg9
    isplitl [HW_arg10]; · iexists _; iexact HW_arg10
    isplitl [HW_arg11]; · iexists _; iexact HW_arg11
    isplitl [HW_arg12]; · iexists _; iexact HW_arg12
    iexists _; iexact HW_arg13
  iintro %acc HI
  unfold Held
  icases HI with ⟨HR_arg2, HR_arg3, HR_arg4, HR_arg5, HR_arg6, ⟨%f7, HW_arg7⟩, ⟨%f8, HW_arg8⟩, ⟨%f9, HW_arg9⟩, ⟨%f10, HW_arg10⟩, ⟨%f11, HW_arg11⟩, ⟨%f12, HW_arg12⟩, ⟨%f13, HW_arg13⟩⟩
  sl_exec
  sl_step
  iapply Hk
  isplitl [HR_arg2]
  · iexists X2; isplitr; · ipureintro; rfl
    iexact HR_arg2
  isplitl [HR_arg3]
  · iexists X3; isplitr; · ipureintro; rfl
    iexact HR_arg3
  isplitl [HR_arg4]
  · iexists X4; isplitr; · ipureintro; rfl
    iexact HR_arg4
  isplitl [HR_arg5]
  · iexists X5; isplitr; · ipureintro; rfl
    iexact HR_arg5
  isplitl [HR_arg6]
  · iexists X6; isplitr; · ipureintro; rfl
    iexact HR_arg6
  isplitl [HW_arg7]
  · iexists _, _; isplitr; swap; · iexact HW_arg7
    ipureintro; rfl
  isplitl [HW_arg8]
  · iexists _, _; isplitr; swap; · iexact HW_arg8
    ipureintro; rfl
  isplitl [HW_arg9]
  · iexists _, _; isplitr; swap; · iexact HW_arg9
    ipureintro; rfl
  isplitl [HW_arg10]
  · iexists _, _; isplitr; swap; · iexact HW_arg10
    ipureintro; rfl
  isplitl [HW_arg11]
  · iexists _, _; isplitr; swap; · iexact HW_arg11
    ipureintro; rfl
  isplitl [HW_arg12]
  · iexists _, _; isplitr; swap; · iexact HW_arg12
    ipureintro; rfl
  iexists _, _; isplitr; swap; · iexact HW_arg13
  ipureintro; rfl

end Cert.KernelIdeal.Fr
end
-- ==== Proof.B.IFrame.lean ====
module

public import proofs.«01_k».proof.Proof.B.ICall
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value

@[expose] public section

set_option maxRecDepth 8192
set_option maxHeartbeats 2000000

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances: the frame kit's (Gen/<Name>/Frame.lean). -/
local notation "𝕄G" => MT nD τ sig Unit (Elt F) ℕ (UR sig nD τ) ℕ

variable (m : (ℓ : Loc nD τ sig) → Buf (Elt F) ℓ) (ρ : Dev nD → PrngReg)

/-- The output window is not described. -/
def unread : Fin cfg0.W → Bool := fun w => match w with | ⟨5, _⟩ => true | _ => false

/-- The proof data: each input's buffer stays at its block. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d

theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d

theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d

theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d

theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d

/-- What the body is called with, and what it returns. -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare d))
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ (∃ d, owns (c : Thread nD τ) (st0_5 t) fullShare d))

/-- The scratch and the generator register, opened. -/
theorem PhiA_eq (c : Dev nD) :
    (Pipeline.ΦA spec0 c : sProp 𝕄G)
      = iprop(iprop((∃ d : Vec F S2x1x512 .f32, owns (c : Thread nD τ) (Memref.whole cc0_scratch0) fullShare d) ∗ (∃ d : Vec F S2x144x512 .f32, owns (c : Thread nD τ) (Memref.whole cc0_scratch1) fullShare d) ∗ (∃ d : Vec F S2x512x512 .f32, owns (c : Thread nD τ) (Memref.whole cc0_scratch2) fullShare d) ∗ (∃ d : Vec F S2x512x512 .f32, owns (c : Thread nD τ) (Memref.whole cc0_scratch3) fullShare d) ∗ (∃ d : Vec F S2x128x512 .bf16, owns (c : Thread nD τ) (Memref.whole cc0_scratch4) fullShare d) ∗ (∃ d : Vec F S2x144x512 .f32, owns (c : Thread nD τ) (Memref.whole cc0_scratch5) fullShare d)) ∗ (∃ r, prngReg c r)) := by
  unfold Pipeline.ΦA; rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4]
  iintro ⟨⟨⟨S0, S1, S2, S3, S4, S5⟩, Hg⟩, Ho, ⟨%d0, H0⟩, ⟨%d1, H1⟩, ⟨%d2, H2⟩, ⟨%d3, H3⟩, ⟨%d4, H4⟩, H5⟩
  iapply (call c _ _ _ _ _ _ _ _ _ _ _ _ _ _ _ _ _ _ _ _ _ _ _ _ _ Set.univ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ unread := fun t => by
  rw [bigSep_W0, bigSep_W0, defs₀_row]
  exact triple_restated (sound_body m c t) rfl .rfl fun _ => .rfl

set_option backward.isDefEq.respectTransparency.types false in
/-- The run: every fair execution ends, the arrays no window stages are as they were and every counter is at zero. -/
theorem run_main : θ_run defs (onTc (τ := τ) (main (F := F))) (s₀ m ρ)
      (fun r => Pipeline.RDat.FramePost (cfgs 0) (fun c => (dats m 0 c).toRForget unread) (V m) r ∧ r.2.sem = fun _ => 0) :=
  Pipeline.θ_run_frame_forget (Q' := _) cfgs (dats m) (0 : Fin 1) launch0 defs₀ Variants.none unread m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged and every counter at zero. -/
theorem runs : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c)⟩, h.2⟩) (run_main m ρ)

end Cert.KernelIdeal.Fr
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal.Frame
public import proofs.«01_k».proof.Proof.Gen.Reference2Ideal.Run
public import proofs.«01_k».proof.Proof.C.KRun
public import proofs.«01_k».proof.Proof.Gen.Kernel3
public import proofs.«01_k».proof.Proof.Gen.Kernel3.Frame
public import proofs.«01_k».proof.Proof.D.Run
public import proofs.«01_k».proof.Proof.D.KRun
public import proofs.«01_k».proof.Proof.D.Vals
public import proofs.«01_k».proof.Proof.D.Alg
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal.Frame
public import proofs.«01_k».proof.Proof.Gen.Reference5Ideal.Run
public import proofs.«01_k».proof.Proof.F.Vals
public import proofs.«01_k».proof.Proof.F.Alg
public import proofs.«01_k».proof.Proof.E.Vals
public import proofs.«01_k».proof.Proof.E.RefElem
public import proofs.«01_k».proof.Proof.C.Alg
public import proofs.«01_k».proof.Proof.B.KFrame
public import proofs.«01_k».proof.Proof.B.IFrame
public import Idealize.ShloMosaic.Adequacy
public import Idealize.ShloMosaic.Init
public import Idealize.ShloMosaic.Lib.Quiescent

@[expose] public section

set_option maxHeartbeats 1000000

noncomputable section

namespace Cert.Proof

open Idealize.ShloMosaic Idealize.ShloMosaic.TcCoe Idealize.SL.Sem

theorem frameKernel : Cert.quiescent_Kernel (hKernel := Cert.Kernel.Gen.facts) := fun m ρ _ => Cert.Kernel.Fr.runs m ρ

theorem frameKernelIdeal : Cert.quiescent_KernelIdeal (hKernelIdeal := Cert.KernelIdeal.Gen.facts) := fun m ρ _ => Cert.KernelIdeal.Fr.runs m ρ

theorem frameReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

theorem frameKernel2 : Cert.quiescent_Kernel2 (hKernel2 := Cert.Kernel2.Gen.facts) := fun m ρ _ => Cert.Kernel2.Mx.runs m ρ

theorem frameKernel2Ideal : Cert.quiescent_Kernel2Ideal (hKernel2Ideal := Cert.Kernel2Ideal.Gen.facts) := fun m ρ _ => Cert.Kernel2Ideal.Mx.runs m ρ

theorem frameReference2Ideal : Cert.quiescent_Reference2Ideal (hReference2Ideal := Cert.Reference2Ideal.Gen.facts) := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

theorem preserves2 : Cert.preserves_Kernel2_Kernel2Ideal := trivial

/-- The projection call's results are the reference's, over the extended reals. -/
theorem algebraic2 : Cert.algebraic_Kernel2Ideal_Reference2Ideal (hKernel2Ideal := Cert.Kernel2Ideal.Gen.facts) (hReference2Ideal := Cert.Reference2Ideal.Gen.facts) := by
  intro m g m' g' _ hagree
  refine ⟨fun c => (Cert.Kernel2Ideal.Mx.dats m 0 c).arrAt 5 Cert.Kernel2Ideal.cfg0.N, fun c => (Cert.Kernel2Ideal.Mx.dats m 0 c).arrAt 6 Cert.Kernel2Ideal.cfg0.N,
    fun c => (Cert.Kernel2Ideal.Mx.dats m 0 c).arrAt 8 Cert.Kernel2Ideal.cfg0.N, fun c => (Cert.Kernel2Ideal.Mx.dats m 0 c).arrAt 9 Cert.Kernel2Ideal.cfg0.N,
    fun c => (Cert.Kernel2Ideal.Mx.dats m 0 c).arrAt 10 Cert.Kernel2Ideal.cfg0.N, fun c => (Cert.Kernel2Ideal.Mx.dats m 0 c).arrAt 13 Cert.Kernel2Ideal.cfg0.N,
    Cert.Kernel2Ideal.Mx.vals m g, (θ_run Cert.Reference2Ideal.defs _ _).mono (fun r h c => ?_) (Cert.Reference2Ideal.Rx.vals m' g')⟩
  have hc := h c
  have e0 := (hagree c).1
  have e1 := (hagree c).2.1
  obtain ⟨h0, h1, h2, h3, h4, h5, ha⟩ := hc
  rw [e0, e1] at h0 h1 h2 h3 h4 h5
  exact ⟨h0.trans (Cert.Kernel2Ideal.Mx.val5 m c).symm, h1.trans (Cert.Kernel2Ideal.Mx.val6 m c).symm, h2.trans (Cert.Kernel2Ideal.Mx.val8 m c).symm,
    h3.trans (Cert.Kernel2Ideal.Mx.val9 m c).symm, h4.trans (Cert.Kernel2Ideal.Mx.val10 m c).symm, h5.trans (Cert.Kernel2Ideal.Mx.val13 m c).symm, ha⟩

theorem frameKernel3 : Cert.quiescent_Kernel3 (hKernel3 := Cert.Kernel3.Gen.facts) := fun m ρ _ =>
  (θ_run Cert.Kernel3.defs _ _).mono (fun r h => ⟨Cert.Kernel3.Fin.args m r h.1, h.2⟩) (Cert.Kernel3.Fin.run_main m ρ)

theorem frameKernel3Ideal : Cert.quiescent_Kernel3Ideal (hKernel3Ideal := Cert.Kernel3Ideal.Gen.facts) := fun m ρ _ =>
  (θ_run Cert.Kernel3Ideal.defs _ _).mono (fun r h => ⟨Cert.Kernel3Ideal.Fin.args m r h.1, h.2⟩) (Cert.Kernel3Ideal.Fin.run_main m ρ)

theorem frameReference3Ideal : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem preserves3 : Cert.preserves_Kernel3_Kernel3Ideal :=
  ⟨IdealRules.named_const.statement Cert.Kernel3Ideal.κ "alpha" .f32 0x3F9837F0#32 _ rfl,
    IdealRules.named_const.statement Cert.Kernel3Ideal.κ "rsqrt2" .f32 0x3F3504F3#32 _ rfl⟩

/-- The finishing call's results are the reference's, over the extended reals. -/
theorem algebraic3 : Cert.algebraic_Kernel3Ideal_Reference3Ideal (hKernel3Ideal := Cert.Kernel3Ideal.Gen.facts) (hReference3Ideal := Cert.Reference3Ideal.Gen.facts) := by
  intro m g m' g' _ hagree
  have eW : ∀ c, Cert.Reference3Ideal.Rx.RW m' c = Cert.Kernel3Ideal.Fin.W m c := by
    intro c
    obtain ⟨e0, e1, e2, e3, e4, e5, e6, e7, e8, e9, e10, e11, e12, e13, e14, e15⟩ := hagree c
    unfold Cert.Reference3Ideal.Rx.RW
    rw [e3, e4, e5, e6, e7, e8, e9, e10, e11, e12, e13, e14, e15]
    rfl
  refine ⟨fun c => (Cert.Kernel3Ideal.Fin.dats m 0 c).arrAt 18 Cert.Kernel3Ideal.cfg0.N, fun c => (Cert.Kernel3Ideal.Fin.dats m 0 c).arrAt 19 Cert.Kernel3Ideal.cfg0.N,
    (θ_run Cert.Kernel3Ideal.defs _ _).mono (fun r h c => ⟨(h.1 c).1 18, (h.1 c).1 19, Cert.Kernel3Ideal.Fin.args m r h.1 c⟩) (Cert.Kernel3Ideal.Fin.run_main m g), (θ_run Cert.Reference3Ideal.defs _ _).mono (fun r h c => ?_) (Cert.Reference3Ideal.Rx.vals m' g')⟩
  obtain ⟨h0, h1, ha⟩ := h c
  obtain ⟨e0, e1, e2, -⟩ := hagree c
  unfold Cert.Reference3Ideal.Rx.R0 at h0
  unfold Cert.Reference3Ideal.Rx.R1 at h1
  rw [eW c, e0, e1, e2] at h0 h1
  exact ⟨h0.trans (Cert.Kernel3Ideal.Fin.final18 m c).symm, h1.trans (Cert.Kernel3Ideal.Fin.final19 m c).symm, ha⟩

theorem frameKernel4 : Cert.quiescent_Kernel4 (hKernel4 := Cert.Kernel4.Gen.facts) := fun m ρ _ => Cert.Kernel4.Gen.frame m ρ

theorem frameKernel4Ideal : Cert.quiescent_Kernel4Ideal (hKernel4Ideal := Cert.Kernel4Ideal.Gen.facts) := fun m ρ _ => Cert.Kernel4Ideal.Gen.frame m ρ

theorem frameReference4Ideal : Cert.quiescent_Reference4Ideal (hReference4Ideal := Cert.Reference4Ideal.Gen.facts) := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

theorem preserves4 : Cert.preserves_Kernel4_Kernel4Ideal := trivial

/-- The sample group's projection call's results are the reference's, over the extended reals. -/
theorem algebraic4 : Cert.algebraic_Kernel4Ideal_Reference4Ideal (hKernel4Ideal := Cert.Kernel4Ideal.Gen.facts) (hReference4Ideal := Cert.Reference4Ideal.Gen.facts) := by
  intro m g m' g' _ hagree
  refine ⟨fun c => (Cert.Kernel4Ideal.Gen.dats m 0 c).arrAt 5 Cert.Kernel4Ideal.cfg0.N, fun c => (Cert.Kernel4Ideal.Gen.dats m 0 c).arrAt 6 Cert.Kernel4Ideal.cfg0.N,
    fun c => (Cert.Kernel4Ideal.Gen.dats m 0 c).arrAt 8 Cert.Kernel4Ideal.cfg0.N, fun c => (Cert.Kernel4Ideal.Gen.dats m 0 c).arrAt 11 Cert.Kernel4Ideal.cfg0.N,
    Cert.Kernel4Ideal.Ms.vals m g, (θ_run Cert.Reference4Ideal.defs _ _).mono (fun r h c => ?_) (Cert.Reference4Ideal.Rs.vals m' g')⟩
  have hc := h c
  have e0 := (hagree c).1
  have e1 := (hagree c).2.1
  obtain ⟨h0, h1, h2, h3, ha⟩ := hc
  rw [e0, e1] at h0 h1 h2 h3
  exact ⟨h0.trans (Cert.Kernel4Ideal.Ms.val5 m c).symm, h1.trans (Cert.Kernel4Ideal.Ms.val6 m c).symm, h2.trans (Cert.Kernel4Ideal.Ms.val8 m c).symm,
    h3.trans (Cert.Kernel4Ideal.Ms.val11 m c).symm, ha⟩

theorem frameKernel5 : Cert.quiescent_Kernel5 (hKernel5 := Cert.Kernel5.Gen.facts) := fun m ρ _ => Cert.Kernel5.Gen.frame m ρ

theorem frameKernel5Ideal : Cert.quiescent_Kernel5Ideal (hKernel5Ideal := Cert.Kernel5Ideal.Gen.facts) := fun m ρ _ => Cert.Kernel5Ideal.Gen.frame m ρ

theorem frameReference5Ideal : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem preserves5 : Cert.preserves_Kernel5_Kernel5Ideal :=
  ⟨IdealRules.named_const.statement Cert.Kernel5Ideal.κ "alpha" .f32 0x3F9837F0#32 _ rfl,
    IdealRules.named_const.statement Cert.Kernel5Ideal.κ "rsqrt2" .f32 0x3F3504F3#32 _ rfl⟩

/-- The sample group's finishing call's results are the reference's, over the extended reals. -/
theorem algebraic5 : Cert.algebraic_Kernel5Ideal_Reference5Ideal (hKernel5Ideal := Cert.Kernel5Ideal.Gen.facts) (hReference5Ideal := Cert.Reference5Ideal.Gen.facts) := by
  intro m g m' g' _ hagree
  have eW : ∀ c, Cert.Reference5Ideal.Rx.RW m' c = Cert.Kernel5Ideal.Fin.W m c := by
    intro c
    obtain ⟨e0, e1, e2, e3, e4, e5, e6, e7, e8, e9, e10, e11, e12, e13, e14, e15, e16⟩ := hagree c
    unfold Cert.Reference5Ideal.Rx.RW
    rw [e4, e5, e6, e7, e8, e9, e10, e11, e12, e13, e14, e15, e16]
    rfl
  refine ⟨Cert.Kernel5Ideal.Fin.G18 m, Cert.Kernel5Ideal.Fin.G41 m,
    Cert.Kernel5Ideal.Fin.vals m g, (θ_run Cert.Reference5Ideal.defs _ _).mono (fun r h c => ?_) (Cert.Reference5Ideal.Rx.vals m' g')⟩
  obtain ⟨h0, h1, ha⟩ := h c
  obtain ⟨e0, e1, e2, e3, -⟩ := hagree c
  unfold Cert.Reference5Ideal.Rx.R0 at h0
  unfold Cert.Reference5Ideal.Rx.R1 at h1
  rw [eW c, e0, e1, e2] at h0 h1
  rw [e3] at h0
  exact ⟨h0, h1, ha⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    frameKernel, frameKernelIdeal, frameReferenceIdeal, frameKernel2, frameKernel2Ideal, frameReference2Ideal, frameKernel3, frameKernel3Ideal, frameReference3Ideal, frameKernel4, frameKernel4Ideal, frameReference4Ideal, frameKernel5, frameKernel5Ideal, frameReference5Ideal,
    preserves, preserves2, algebraic2, preserves3, algebraic3, preserves4, algebraic4, preserves5, algebraic5⟩

end Cert.Proof

end
